-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_DwXbc (m : (ℓ : Loc Cert.DwXbc.nD Cert.DwXbc.τ Cert.DwXbc.sig) → Buf (Elt Bits) ℓ) : Prop :=
  True

def Pre_DwXbcIdeal (m : (ℓ : Loc Cert.DwXbcIdeal.nD Cert.DwXbcIdeal.τ Cert.DwXbcIdeal.sig) → Buf (Elt Ideal) ℓ) : Prop :=
  True

def Pre_DwXbcRefIdeal (m : (ℓ : Loc Cert.DwXbcRefIdeal.nD Cert.DwXbcRefIdeal.τ Cert.DwXbcRefIdeal.sig) → Buf (Elt Ideal) ℓ) : Prop :=
  True

def Pre_DwGm (m : (ℓ : Loc Cert.DwGm.nD Cert.DwGm.τ Cert.DwGm.sig) → Buf (Elt Bits) ℓ) : Prop :=
  True

def Pre_DwGmIdeal (m : (ℓ : Loc Cert.DwGmIdeal.nD Cert.DwGmIdeal.τ Cert.DwGmIdeal.sig) → Buf (Elt Ideal) ℓ) : Prop :=
  True

def Pre_DwGmRefIdeal (m : (ℓ : Loc Cert.DwGmRefIdeal.nD Cert.DwGmRefIdeal.τ Cert.DwGmRefIdeal.sig) → Buf (Elt Ideal) ℓ) : Prop :=
  True

def Pre_DwNat (m : (ℓ : Loc Cert.DwNat.nD Cert.DwNat.τ Cert.DwNat.sig) → Buf (Elt Bits) ℓ) : Prop :=
  True

def Pre_DwNatIdeal (m : (ℓ : Loc Cert.DwNatIdeal.nD Cert.DwNatIdeal.τ Cert.DwNatIdeal.sig) → Buf (Elt Ideal) ℓ) : Prop :=
  True

def Pre_DwNatRefIdeal (m : (ℓ : Loc Cert.DwNatRefIdeal.nD Cert.DwNatRefIdeal.τ Cert.DwNatRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DxY (m : (ℓ : Loc Cert.DxY.nD Cert.DxY.τ Cert.DxY.sig) → Buf (Elt Bits) ℓ) : Prop :=
  True

def Pre_DxYIdeal (m : (ℓ : Loc Cert.DxYIdeal.nD Cert.DxYIdeal.τ Cert.DxYIdeal.sig) → Buf (Elt Ideal) ℓ) : Prop :=
  True

def Pre_DxYRefIdeal (m : (ℓ : Loc Cert.DxYRefIdeal.nD Cert.DxYRefIdeal.τ Cert.DxYRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjNat (m : (ℓ : Loc Cert.ProjNat.nD Cert.ProjNat.τ Cert.ProjNat.sig) → Buf (Elt Bits) ℓ) : Prop :=
  True

def Pre_ProjNatIdeal (m : (ℓ : Loc Cert.ProjNatIdeal.nD Cert.ProjNatIdeal.τ Cert.ProjNatIdeal.sig) → Buf (Elt Ideal) ℓ) : Prop :=
  True

def Pre_ProjNatRefIdeal (m : (ℓ : Loc Cert.ProjNatRefIdeal.nD Cert.ProjNatRefIdeal.τ Cert.ProjNatRefIdeal.sig) → Buf (Elt Ideal) ℓ) : Prop :=
  True

def Pre_ProjXg (m : (ℓ : Loc Cert.ProjXg.nD Cert.ProjXg.τ Cert.ProjXg.sig) → Buf (Elt Bits) ℓ) : Prop :=
  True

def Pre_ProjXgIdeal (m : (ℓ : Loc Cert.ProjXgIdeal.nD Cert.ProjXgIdeal.τ Cert.ProjXgIdeal.sig) → Buf (Elt Ideal) ℓ) : Prop :=
  True

def Pre_ProjXgRefIdeal (m : (ℓ : Loc Cert.ProjXgRefIdeal.nD Cert.ProjXgRefIdeal.τ Cert.ProjXgRefIdeal.sig) → Buf (Elt Ideal) ℓ) : Prop :=
  True

def Pre_DwQkvB (m : (ℓ : Loc Cert.DwQkvB.nD Cert.DwQkvB.τ Cert.DwQkvB.sig) → Buf (Elt Bits) ℓ) : Prop :=
  True

def Pre_DwQkvBIdeal (m : (ℓ : Loc Cert.DwQkvBIdeal.nD Cert.DwQkvBIdeal.τ Cert.DwQkvBIdeal.sig) → Buf (Elt Ideal) ℓ) : Prop :=
  True

def Pre_DwQkvBRefIdeal (m : (ℓ : Loc Cert.DwQkvBRefIdeal.nD Cert.DwQkvBRefIdeal.τ Cert.DwQkvBRefIdeal.sig) → Buf (Elt Ideal) ℓ) : Prop :=
  True

def Pre_DwQkvC (m : (ℓ : Loc Cert.DwQkvC.nD Cert.DwQkvC.τ Cert.DwQkvC.sig) → Buf (Elt Bits) ℓ) : Prop :=
  True

def Pre_DwQkvCIdeal (m : (ℓ : Loc Cert.DwQkvCIdeal.nD Cert.DwQkvCIdeal.τ Cert.DwQkvCIdeal.sig) → Buf (Elt Ideal) ℓ) : Prop :=
  True

def Pre_DwQkvCRefIdeal (m : (ℓ : Loc Cert.DwQkvCRefIdeal.nD Cert.DwQkvCRefIdeal.τ Cert.DwQkvCRefIdeal.sig) → Buf (Elt Ideal) ℓ) : Prop :=
  True

def Pre_ProjQkvB (m : (ℓ : Loc Cert.ProjQkvB.nD Cert.ProjQkvB.τ Cert.ProjQkvB.sig) → Buf (Elt Bits) ℓ) : Prop :=
  True

def Pre_ProjQkvBIdeal (m : (ℓ : Loc Cert.ProjQkvBIdeal.nD Cert.ProjQkvBIdeal.τ Cert.ProjQkvBIdeal.sig) → Buf (Elt Ideal) ℓ) : Prop :=
  True

def Pre_ProjQkvBRefIdeal (m : (ℓ : Loc Cert.ProjQkvBRefIdeal.nD Cert.ProjQkvBRefIdeal.τ Cert.ProjQkvBRefIdeal.sig) → Buf (Elt Ideal) ℓ) : Prop :=
  True

def Pre_ProjQkvC (m : (ℓ : Loc Cert.ProjQkvC.nD Cert.ProjQkvC.τ Cert.ProjQkvC.sig) → Buf (Elt Bits) ℓ) : Prop :=
  True

def Pre_ProjQkvCIdeal (m : (ℓ : Loc Cert.ProjQkvCIdeal.nD Cert.ProjQkvCIdeal.τ Cert.ProjQkvCIdeal.sig) → Buf (Elt Ideal) ℓ) : Prop :=
  True

def Pre_ProjQkvCRefIdeal (m : (ℓ : Loc Cert.ProjQkvCRefIdeal.nD Cert.ProjQkvCRefIdeal.τ Cert.ProjQkvCRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1))
      ∧ r.2.sem = fun _ => 0)

def quiescent_DwXbc [hDwXbc : Cert.DwXbc.Facts] : Prop :=
  ∀ (m : (ℓ : Loc Cert.DwXbc.nD Cert.DwXbc.τ Cert.DwXbc.sig) → Buf (Elt Bits) ℓ) (g : Dev Cert.DwXbc.nD → PrngReg), Pre_DwXbc m →
    θ_run (Cert.DwXbc.defs (F := Bits)) (onTc (τ := Cert.DwXbc.τ) (Cert.DwXbc.main (F := Bits))) ⟨m, fun _ => 0, g⟩ (fun r => (∀ c : Dev Cert.DwXbc.nD,
      r.2.mem ((c.tc : Thread Cert.DwXbc.nD Cert.DwXbc.τ).loc Cert.DwXbc.main_arg0) = m ((c.tc : Thread Cert.DwXbc.nD Cert.DwXbc.τ).loc Cert.DwXbc.main_arg0)
      ∧ r.2.mem ((c.tc : Thread Cert.DwXbc.nD Cert.DwXbc.τ).loc Cert.DwXbc.main_arg1) = m ((c.tc : Thread Cert.DwXbc.nD Cert.DwXbc.τ).loc Cert.DwXbc.main_arg1))
      ∧ r.2.sem = fun _ => 0)

def quiescent_DwXbcIdeal [hDwXbcIdeal : Cert.DwXbcIdeal.Facts] : Prop :=
  ∀ (m : (ℓ : Loc Cert.DwXbcIdeal.nD Cert.DwXbcIdeal.τ Cert.DwXbcIdeal.sig) → Buf (Elt Ideal) ℓ) (g : Dev Cert.DwXbcIdeal.nD → PrngReg), Pre_DwXbcIdeal m →
    θ_run (Cert.DwXbcIdeal.defs (F := Ideal)) (onTc (τ := Cert.DwXbcIdeal.τ) (Cert.DwXbcIdeal.main (F := Ideal))) ⟨m, fun _ => 0, g⟩ (fun r => (∀ c : Dev Cert.DwXbcIdeal.nD,
      r.2.mem ((c.tc : Thread Cert.DwXbcIdeal.nD Cert.DwXbcIdeal.τ).loc Cert.DwXbcIdeal.main_arg0) = m ((c.tc : Thread Cert.DwXbcIdeal.nD Cert.DwXbcIdeal.τ).loc Cert.DwXbcIdeal.main_arg0)
      ∧ r.2.mem ((c.tc : Thread Cert.DwXbcIdeal.nD Cert.DwXbcIdeal.τ).loc Cert.DwXbcIdeal.main_arg1) = m ((c.tc : Thread Cert.DwXbcIdeal.nD Cert.DwXbcIdeal.τ).loc Cert.DwXbcIdeal.main_arg1))
      ∧ r.2.sem = fun _ => 0)

def quiescent_DwXbcRefIdeal [hDwXbcRefIdeal : Cert.DwXbcRefIdeal.Facts] : Prop :=
  ∀ (m : (ℓ : Loc Cert.DwXbcRefIdeal.nD Cert.DwXbcRefIdeal.τ Cert.DwXbcRefIdeal.sig) → Buf (Elt Ideal) ℓ) (g : Dev Cert.DwXbcRefIdeal.nD → PrngReg), Pre_DwXbcRefIdeal m →
    θ_run (Cert.DwXbcRefIdeal.defs (F := Ideal)) (onTc (τ := Cert.DwXbcRefIdeal.τ) (Cert.DwXbcRefIdeal.main (F := Ideal))) ⟨m, fun _ => 0, g⟩ (fun r => (∀ c : Dev Cert.DwXbcRefIdeal.nD,
      r.2.mem ((c.tc : Thread Cert.DwXbcRefIdeal.nD Cert.DwXbcRefIdeal.τ).loc Cert.DwXbcRefIdeal.main_arg0) = m ((c.tc : Thread Cert.DwXbcRefIdeal.nD Cert.DwXbcRefIdeal.τ).loc Cert.DwXbcRefIdeal.main_arg0)
      ∧ r.2.mem ((c.tc : Thread Cert.DwXbcRefIdeal.nD Cert.DwXbcRefIdeal.τ).loc Cert.DwXbcRefIdeal.main_arg1) = m ((c.tc : Thread Cert.DwXbcRefIdeal.nD Cert.DwXbcRefIdeal.τ).loc Cert.DwXbcRefIdeal.main_arg1))
      ∧ r.2.sem = fun _ => 0)

def quiescent_DwGm [hDwGm : Cert.DwGm.Facts] : Prop :=
  ∀ (m : (ℓ : Loc Cert.DwGm.nD Cert.DwGm.τ Cert.DwGm.sig) → Buf (Elt Bits) ℓ) (g : Dev Cert.DwGm.nD → PrngReg), Pre_DwGm m →
    θ_run (Cert.DwGm.defs (F := Bits)) (onTc (τ := Cert.DwGm.τ) (Cert.DwGm.main (F := Bits))) ⟨m, fun _ => 0, g⟩ (fun r => (∀ c : Dev Cert.DwGm.nD,
      r.2.mem ((c.tc : Thread Cert.DwGm.nD Cert.DwGm.τ).loc Cert.DwGm.main_arg0) = m ((c.tc : Thread Cert.DwGm.nD Cert.DwGm.τ).loc Cert.DwGm.main_arg0)
      ∧ r.2.mem ((c.tc : Thread Cert.DwGm.nD Cert.DwGm.τ).loc Cert.DwGm.main_arg1) = m ((c.tc : Thread Cert.DwGm.nD Cert.DwGm.τ).loc Cert.DwGm.main_arg1))
      ∧ r.2.sem = fun _ => 0)

def quiescent_DwGmIdeal [hDwGmIdeal : Cert.DwGmIdeal.Facts] : Prop :=
  ∀ (m : (ℓ : Loc Cert.DwGmIdeal.nD Cert.DwGmIdeal.τ Cert.DwGmIdeal.sig) → Buf (Elt Ideal) ℓ) (g : Dev Cert.DwGmIdeal.nD → PrngReg), Pre_DwGmIdeal m →
    θ_run (Cert.DwGmIdeal.defs (F := Ideal)) (onTc (τ := Cert.DwGmIdeal.τ) (Cert.DwGmIdeal.main (F := Ideal))) ⟨m, fun _ => 0, g⟩ (fun r => (∀ c : Dev Cert.DwGmIdeal.nD,
      r.2.mem ((c.tc : Thread Cert.DwGmIdeal.nD Cert.DwGmIdeal.τ).loc Cert.DwGmIdeal.main_arg0) = m ((c.tc : Thread Cert.DwGmIdeal.nD Cert.DwGmIdeal.τ).loc Cert.DwGmIdeal.main_arg0)
      ∧ r.2.mem ((c.tc : Thread Cert.DwGmIdeal.nD Cert.DwGmIdeal.τ).loc Cert.DwGmIdeal.main_arg1) = m ((c.tc : Thread Cert.DwGmIdeal.nD Cert.DwGmIdeal.τ).loc Cert.DwGmIdeal.main_arg1))
      ∧ r.2.sem = fun _ => 0)

def quiescent_DwGmRefIdeal [hDwGmRefIdeal : Cert.DwGmRefIdeal.Facts] : Prop :=
  ∀ (m : (ℓ : Loc Cert.DwGmRefIdeal.nD Cert.DwGmRefIdeal.τ Cert.DwGmRefIdeal.sig) → Buf (Elt Ideal) ℓ) (g : Dev Cert.DwGmRefIdeal.nD → PrngReg), Pre_DwGmRefIdeal m →
    θ_run (Cert.DwGmRefIdeal.defs (F := Ideal)) (onTc (τ := Cert.DwGmRefIdeal.τ) (Cert.DwGmRefIdeal.main (F := Ideal))) ⟨m, fun _ => 0, g⟩ (fun r => (∀ c : Dev Cert.DwGmRefIdeal.nD,
      r.2.mem ((c.tc : Thread Cert.DwGmRefIdeal.nD Cert.DwGmRefIdeal.τ).loc Cert.DwGmRefIdeal.main_arg0) = m ((c.tc : Thread Cert.DwGmRefIdeal.nD Cert.DwGmRefIdeal.τ).loc Cert.DwGmRefIdeal.main_arg0)
      ∧ r.2.mem ((c.tc : Thread Cert.DwGmRefIdeal.nD Cert.DwGmRefIdeal.τ).loc Cert.DwGmRefIdeal.main_arg1) = m ((c.tc : Thread Cert.DwGmRefIdeal.nD Cert.DwGmRefIdeal.τ).loc Cert.DwGmRefIdeal.main_arg1))
      ∧ r.2.sem = fun _ => 0)

def quiescent_DwNat [hDwNat : Cert.DwNat.Facts] : Prop :=
  ∀ (m : (ℓ : Loc Cert.DwNat.nD Cert.DwNat.τ Cert.DwNat.sig) → Buf (Elt Bits) ℓ) (g : Dev Cert.DwNat.nD → PrngReg), Pre_DwNat m →
    θ_run (Cert.DwNat.defs (F := Bits)) (onTc (τ := Cert.DwNat.τ) (Cert.DwNat.main (F := Bits))) ⟨m, fun _ => 0, g⟩ (fun r => (∀ c : Dev Cert.DwNat.nD,
      r.2.mem ((c.tc : Thread Cert.DwNat.nD Cert.DwNat.τ).loc Cert.DwNat.main_arg0) = m ((c.tc : Thread Cert.DwNat.nD Cert.DwNat.τ).loc Cert.DwNat.main_arg0)
      ∧ r.2.mem ((c.tc : Thread Cert.DwNat.nD Cert.DwNat.τ).loc Cert.DwNat.main_arg1) = m ((c.tc : Thread Cert.DwNat.nD Cert.DwNat.τ).loc Cert.DwNat.main_arg1)
      ∧ r.2.mem ((c.tc : Thread Cert.DwNat.nD Cert.DwNat.τ).loc Cert.DwNat.main_arg2) = m ((c.tc : Thread Cert.DwNat.nD Cert.DwNat.τ).loc Cert.DwNat.main_arg2)
      ∧ r.2.mem ((c.tc : Thread Cert.DwNat.nD Cert.DwNat.τ).loc Cert.DwNat.main_arg3) = m ((c.tc : Thread Cert.DwNat.nD Cert.DwNat.τ).loc Cert.DwNat.main_arg3)
      ∧ r.2.mem ((c.tc : Thread Cert.DwNat.nD Cert.DwNat.τ).loc Cert.DwNat.main_arg4) = m ((c.tc : Thread Cert.DwNat.nD Cert.DwNat.τ).loc Cert.DwNat.main_arg4))
      ∧ r.2.sem = fun _ => 0)

def quiescent_DwNatIdeal [hDwNatIdeal : Cert.DwNatIdeal.Facts] : Prop :=
  ∀ (m : (ℓ : Loc Cert.DwNatIdeal.nD Cert.DwNatIdeal.τ Cert.DwNatIdeal.sig) → Buf (Elt Ideal) ℓ) (g : Dev Cert.DwNatIdeal.nD → PrngReg), Pre_DwNatIdeal m →
    θ_run (Cert.DwNatIdeal.defs (F := Ideal)) (onTc (τ := Cert.DwNatIdeal.τ) (Cert.DwNatIdeal.main (F := Ideal))) ⟨m, fun _ => 0, g⟩ (fun r => (∀ c : Dev Cert.DwNatIdeal.nD,
      r.2.mem ((c.tc : Thread Cert.DwNatIdeal.nD Cert.DwNatIdeal.τ).loc Cert.DwNatIdeal.main_arg0) = m ((c.tc : Thread Cert.DwNatIdeal.nD Cert.DwNatIdeal.τ).loc Cert.DwNatIdeal.main_arg0)
      ∧ r.2.mem ((c.tc : Thread Cert.DwNatIdeal.nD Cert.DwNatIdeal.τ).loc Cert.DwNatIdeal.main_arg1) = m ((c.tc : Thread Cert.DwNatIdeal.nD Cert.DwNatIdeal.τ).loc Cert.DwNatIdeal.main_arg1)
      ∧ r.2.mem ((c.tc : Thread Cert.DwNatIdeal.nD Cert.DwNatIdeal.τ).loc Cert.DwNatIdeal.main_arg2) = m ((c.tc : Thread Cert.DwNatIdeal.nD Cert.DwNatIdeal.τ).loc Cert.DwNatIdeal.main_arg2)
      ∧ r.2.mem ((c.tc : Thread Cert.DwNatIdeal.nD Cert.DwNatIdeal.τ).loc Cert.DwNatIdeal.main_arg3) = m ((c.tc : Thread Cert.DwNatIdeal.nD Cert.DwNatIdeal.τ).loc Cert.DwNatIdeal.main_arg3)
      ∧ r.2.mem ((c.tc : Thread Cert.DwNatIdeal.nD Cert.DwNatIdeal.τ).loc Cert.DwNatIdeal.main_arg4) = m ((c.tc : Thread Cert.DwNatIdeal.nD Cert.DwNatIdeal.τ).loc Cert.DwNatIdeal.main_arg4))
      ∧ r.2.sem = fun _ => 0)

def quiescent_DwNatRefIdeal [hDwNatRefIdeal : Cert.DwNatRefIdeal.Facts] : Prop :=
  ∀ (m : (ℓ : Loc Cert.DwNatRefIdeal.nD Cert.DwNatRefIdeal.τ Cert.DwNatRefIdeal.sig) → Buf (Elt Ideal) ℓ) (g : Dev Cert.DwNatRefIdeal.nD → PrngReg), Pre_DwNatRefIdeal m →
    θ_run (Cert.DwNatRefIdeal.defs (F := Ideal)) (onTc (τ := Cert.DwNatRefIdeal.τ) (Cert.DwNatRefIdeal.main (F := Ideal))) ⟨m, fun _ => 0, g⟩ (fun r => (∀ c : Dev Cert.DwNatRefIdeal.nD,
      r.2.mem ((c.tc : Thread Cert.DwNatRefIdeal.nD Cert.DwNatRefIdeal.τ).loc Cert.DwNatRefIdeal.main_arg0) = m ((c.tc : Thread Cert.DwNatRefIdeal.nD Cert.DwNatRefIdeal.τ).loc Cert.DwNatRefIdeal.main_arg0)
      ∧ r.2.mem ((c.tc : Thread Cert.DwNatRefIdeal.nD Cert.DwNatRefIdeal.τ).loc Cert.DwNatRefIdeal.main_arg1) = m ((c.tc : Thread Cert.DwNatRefIdeal.nD Cert.DwNatRefIdeal.τ).loc Cert.DwNatRefIdeal.main_arg1)
      ∧ r.2.mem ((c.tc : Thread Cert.DwNatRefIdeal.nD Cert.DwNatRefIdeal.τ).loc Cert.DwNatRefIdeal.main_arg2) = m ((c.tc : Thread Cert.DwNatRefIdeal.nD Cert.DwNatRefIdeal.τ).loc Cert.DwNatRefIdeal.main_arg2)
      ∧ r.2.mem ((c.tc : Thread Cert.DwNatRefIdeal.nD Cert.DwNatRefIdeal.τ).loc Cert.DwNatRefIdeal.main_arg3) = m ((c.tc : Thread Cert.DwNatRefIdeal.nD Cert.DwNatRefIdeal.τ).loc Cert.DwNatRefIdeal.main_arg3)
      ∧ r.2.mem ((c.tc : Thread Cert.DwNatRefIdeal.nD Cert.DwNatRefIdeal.τ).loc Cert.DwNatRefIdeal.main_arg4) = m ((c.tc : Thread Cert.DwNatRefIdeal.nD Cert.DwNatRefIdeal.τ).loc Cert.DwNatRefIdeal.main_arg4))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3)
      ∧ r.2.mem ((c.tc : Thread Cert.DwOut.nD Cert.DwOut.τ).loc Cert.DwOut.main_arg4) = m ((c.tc : Thread Cert.DwOut.nD Cert.DwOut.τ).loc Cert.DwOut.main_arg4)
      ∧ r.2.mem ((c.tc : Thread Cert.DwOut.nD Cert.DwOut.τ).loc Cert.DwOut.main_arg5) = m ((c.tc : Thread Cert.DwOut.nD Cert.DwOut.τ).loc Cert.DwOut.main_arg5)
      ∧ r.2.mem ((c.tc : Thread Cert.DwOut.nD Cert.DwOut.τ).loc Cert.DwOut.main_arg6) = m ((c.tc : Thread Cert.DwOut.nD Cert.DwOut.τ).loc Cert.DwOut.main_arg6)
      ∧ r.2.mem ((c.tc : Thread Cert.DwOut.nD Cert.DwOut.τ).loc Cert.DwOut.main_arg7) = m ((c.tc : Thread Cert.DwOut.nD Cert.DwOut.τ).loc Cert.DwOut.main_arg7))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
      ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4)
      ∧ r.2.mem ((c.tc : Thread Cert.DwOutIdeal.nD Cert.DwOutIdeal.τ).loc Cert.DwOutIdeal.main_arg5) = m ((c.tc : Thread Cert.DwOutIdeal.nD Cert.DwOutIdeal.τ).loc Cert.DwOutIdeal.main_arg5)
      ∧ r.2.mem ((c.tc : Thread Cert.DwOutIdeal.nD Cert.DwOutIdeal.τ).loc Cert.DwOutIdeal.main_arg6) = m ((c.tc : Thread Cert.DwOutIdeal.nD Cert.DwOutIdeal.τ).loc Cert.DwOutIdeal.main_arg6)
      ∧ r.2.mem ((c.tc : Thread Cert.DwOutIdeal.nD Cert.DwOutIdeal.τ).loc Cert.DwOutIdeal.main_arg7) = m ((c.tc : Thread Cert.DwOutIdeal.nD Cert.DwOutIdeal.τ).loc Cert.DwOutIdeal.main_arg7))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3)
      ∧ r.2.mem ((c.tc : Thread Cert.DwOutRefIdeal.nD Cert.DwOutRefIdeal.τ).loc Cert.DwOutRefIdeal.main_arg4) = m ((c.tc : Thread Cert.DwOutRefIdeal.nD Cert.DwOutRefIdeal.τ).loc Cert.DwOutRefIdeal.main_arg4)
      ∧ r.2.mem ((c.tc : Thread Cert.DwOutRefIdeal.nD Cert.DwOutRefIdeal.τ).loc Cert.DwOutRefIdeal.main_arg5) = m ((c.tc : Thread Cert.DwOutRefIdeal.nD Cert.DwOutRefIdeal.τ).loc Cert.DwOutRefIdeal.main_arg5)
      ∧ r.2.mem ((c.tc : Thread Cert.DwOutRefIdeal.nD Cert.DwOutRefIdeal.τ).loc Cert.DwOutRefIdeal.main_arg6) = m ((c.tc : Thread Cert.DwOutRefIdeal.nD Cert.DwOutRefIdeal.τ).loc Cert.DwOutRefIdeal.main_arg6)
      ∧ r.2.mem ((c.tc : Thread Cert.DwOutRefIdeal.nD Cert.DwOutRefIdeal.τ).loc Cert.DwOutRefIdeal.main_arg7) = m ((c.tc : Thread Cert.DwOutRefIdeal.nD Cert.DwOutRefIdeal.τ).loc Cert.DwOutRefIdeal.main_arg7))
      ∧ r.2.sem = fun _ => 0)

def quiescent_DxY [hDxY : Cert.DxY.Facts] : Prop :=
  ∀ (m : (ℓ : Loc Cert.DxY.nD Cert.DxY.τ Cert.DxY.sig) → Buf (Elt Bits) ℓ) (g : Dev Cert.DxY.nD → PrngReg), Pre_DxY m →
    θ_run (Cert.DxY.defs (F := Bits)) (onTc (τ := Cert.DxY.τ) (Cert.DxY.main (F := Bits))) ⟨m, fun _ => 0, g⟩ (fun r => (∀ c : Dev Cert.DxY.nD,
      r.2.mem ((c.tc : Thread Cert.DxY.nD Cert.DxY.τ).loc Cert.DxY.main_arg0) = m ((c.tc : Thread Cert.DxY.nD Cert.DxY.τ).loc Cert.DxY.main_arg0)
      ∧ r.2.mem ((c.tc : Thread Cert.DxY.nD Cert.DxY.τ).loc Cert.DxY.main_arg1) = m ((c.tc : Thread Cert.DxY.nD Cert.DxY.τ).loc Cert.DxY.main_arg1))
      ∧ r.2.sem = fun _ => 0)

def quiescent_DxYIdeal [hDxYIdeal : Cert.DxYIdeal.Facts] : Prop :=
  ∀ (m : (ℓ : Loc Cert.DxYIdeal.nD Cert.DxYIdeal.τ Cert.DxYIdeal.sig) → Buf (Elt Ideal) ℓ) (g : Dev Cert.DxYIdeal.nD → PrngReg), Pre_DxYIdeal m →
    θ_run (Cert.DxYIdeal.defs (F := Ideal)) (onTc (τ := Cert.DxYIdeal.τ) (Cert.DxYIdeal.main (F := Ideal))) ⟨m, fun _ => 0, g⟩ (fun r => (∀ c : Dev Cert.DxYIdeal.nD,
      r.2.mem ((c.tc : Thread Cert.DxYIdeal.nD Cert.DxYIdeal.τ).loc Cert.DxYIdeal.main_arg0) = m ((c.tc : Thread Cert.DxYIdeal.nD Cert.DxYIdeal.τ).loc Cert.DxYIdeal.main_arg0)
      ∧ r.2.mem ((c.tc : Thread Cert.DxYIdeal.nD Cert.DxYIdeal.τ).loc Cert.DxYIdeal.main_arg1) = m ((c.tc : Thread Cert.DxYIdeal.nD Cert.DxYIdeal.τ).loc Cert.DxYIdeal.main_arg1))
      ∧ r.2.sem = fun _ => 0)

def quiescent_DxYRefIdeal [hDxYRefIdeal : Cert.DxYRefIdeal.Facts] : Prop :=
  ∀ (m : (ℓ : Loc Cert.DxYRefIdeal.nD Cert.DxYRefIdeal.τ Cert.DxYRefIdeal.sig) → Buf (Elt Ideal) ℓ) (g : Dev Cert.DxYRefIdeal.nD → PrngReg), Pre_DxYRefIdeal m →
    θ_run (Cert.DxYRefIdeal.defs (F := Ideal)) (onTc (τ := Cert.DxYRefIdeal.τ) (Cert.DxYRefIdeal.main (F := Ideal))) ⟨m, fun _ => 0, g⟩ (fun r => (∀ c : Dev Cert.DxYRefIdeal.nD,
      r.2.mem ((c.tc : Thread Cert.DxYRefIdeal.nD Cert.DxYRefIdeal.τ).loc Cert.DxYRefIdeal.main_arg0) = m ((c.tc : Thread Cert.DxYRefIdeal.nD Cert.DxYRefIdeal.τ).loc Cert.DxYRefIdeal.main_arg0)
      ∧ r.2.mem ((c.tc : Thread Cert.DxYRefIdeal.nD Cert.DxYRefIdeal.τ).loc Cert.DxYRefIdeal.main_arg1) = m ((c.tc : Thread Cert.DxYRefIdeal.nD Cert.DxYRefIdeal.τ).loc Cert.DxYRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjNat [hProjNat : Cert.ProjNat.Facts] : Prop :=
  ∀ (m : (ℓ : Loc Cert.ProjNat.nD Cert.ProjNat.τ Cert.ProjNat.sig) → Buf (Elt Bits) ℓ) (g : Dev Cert.ProjNat.nD → PrngReg), Pre_ProjNat m →
    θ_run (Cert.ProjNat.defs (F := Bits)) (onTc (τ := Cert.ProjNat.τ) (Cert.ProjNat.main (F := Bits))) ⟨m, fun _ => 0, g⟩ (fun r => (∀ c : Dev Cert.ProjNat.nD,
      r.2.mem ((c.tc : Thread Cert.ProjNat.nD Cert.ProjNat.τ).loc Cert.ProjNat.main_arg0) = m ((c.tc : Thread Cert.ProjNat.nD Cert.ProjNat.τ).loc Cert.ProjNat.main_arg0)
      ∧ r.2.mem ((c.tc : Thread Cert.ProjNat.nD Cert.ProjNat.τ).loc Cert.ProjNat.main_arg1) = m ((c.tc : Thread Cert.ProjNat.nD Cert.ProjNat.τ).loc Cert.ProjNat.main_arg1)
      ∧ r.2.mem ((c.tc : Thread Cert.ProjNat.nD Cert.ProjNat.τ).loc Cert.ProjNat.main_arg2) = m ((c.tc : Thread Cert.ProjNat.nD Cert.ProjNat.τ).loc Cert.ProjNat.main_arg2)
      ∧ r.2.mem ((c.tc : Thread Cert.ProjNat.nD Cert.ProjNat.τ).loc Cert.ProjNat.main_arg3) = m ((c.tc : Thread Cert.ProjNat.nD Cert.ProjNat.τ).loc Cert.ProjNat.main_arg3)
      ∧ r.2.mem ((c.tc : Thread Cert.ProjNat.nD Cert.ProjNat.τ).loc Cert.ProjNat.main_arg4) = m ((c.tc : Thread Cert.ProjNat.nD Cert.ProjNat.τ).loc Cert.ProjNat.main_arg4))
      ∧ r.2.sem = fun _ => 0)

def quiescent_ProjNatIdeal [hProjNatIdeal : Cert.ProjNatIdeal.Facts] : Prop :=
  ∀ (m : (ℓ : Loc Cert.ProjNatIdeal.nD Cert.ProjNatIdeal.τ Cert.ProjNatIdeal.sig) → Buf (Elt Ideal) ℓ) (g : Dev Cert.ProjNatIdeal.nD → PrngReg), Pre_ProjNatIdeal m →
    θ_run (Cert.ProjNatIdeal.defs (F := Ideal)) (onTc (τ := Cert.ProjNatIdeal.τ) (Cert.ProjNatIdeal.main (F := Ideal))) ⟨m, fun _ => 0, g⟩ (fun r => (∀ c : Dev Cert.ProjNatIdeal.nD,
      r.2.mem ((c.tc : Thread Cert.ProjNatIdeal.nD Cert.ProjNatIdeal.τ).loc Cert.ProjNatIdeal.main_arg0) = m ((c.tc : Thread Cert.ProjNatIdeal.nD Cert.ProjNatIdeal.τ).loc Cert.ProjNatIdeal.main_arg0)
      ∧ r.2.mem ((c.tc : Thread Cert.ProjNatIdeal.nD Cert.ProjNatIdeal.τ).loc Cert.ProjNatIdeal.main_arg1) = m ((c.tc : Thread Cert.ProjNatIdeal.nD Cert.ProjNatIdeal.τ).loc Cert.ProjNatIdeal.main_arg1)
      ∧ r.2.mem ((c.tc : Thread Cert.ProjNatIdeal.nD Cert.ProjNatIdeal.τ).loc Cert.ProjNatIdeal.main_arg2) = m ((c.tc : Thread Cert.ProjNatIdeal.nD Cert.ProjNatIdeal.τ).loc Cert.ProjNatIdeal.main_arg2)
      ∧ r.2.mem ((c.tc : Thread Cert.ProjNatIdeal.nD Cert.ProjNatIdeal.τ).loc Cert.ProjNatIdeal.main_arg3) = m ((c.tc : Thread Cert.ProjNatIdeal.nD Cert.ProjNatIdeal.τ).loc Cert.ProjNatIdeal.main_arg3)
      ∧ r.2.mem ((c.tc : Thread Cert.ProjNatIdeal.nD Cert.ProjNatIdeal.τ).loc Cert.ProjNatIdeal.main_arg4) = m ((c.tc : Thread Cert.ProjNatIdeal.nD Cert.ProjNatIdeal.τ).loc Cert.ProjNatIdeal.main_arg4))
      ∧ r.2.sem = fun _ => 0)

def quiescent_ProjNatRefIdeal [hProjNatRefIdeal : Cert.ProjNatRefIdeal.Facts] : Prop :=
  ∀ (m : (ℓ : Loc Cert.ProjNatRefIdeal.nD Cert.ProjNatRefIdeal.τ Cert.ProjNatRefIdeal.sig) → Buf (Elt Ideal) ℓ) (g : Dev Cert.ProjNatRefIdeal.nD → PrngReg), Pre_ProjNatRefIdeal m →
    θ_run (Cert.ProjNatRefIdeal.defs (F := Ideal)) (onTc (τ := Cert.ProjNatRefIdeal.τ) (Cert.ProjNatRefIdeal.main (F := Ideal))) ⟨m, fun _ => 0, g⟩ (fun r => (∀ c : Dev Cert.ProjNatRefIdeal.nD,
      r.2.mem ((c.tc : Thread Cert.ProjNatRefIdeal.nD Cert.ProjNatRefIdeal.τ).loc Cert.ProjNatRefIdeal.main_arg0) = m ((c.tc : Thread Cert.ProjNatRefIdeal.nD Cert.ProjNatRefIdeal.τ).loc Cert.ProjNatRefIdeal.main_arg0)
      ∧ r.2.mem ((c.tc : Thread Cert.ProjNatRefIdeal.nD Cert.ProjNatRefIdeal.τ).loc Cert.ProjNatRefIdeal.main_arg1) = m ((c.tc : Thread Cert.ProjNatRefIdeal.nD Cert.ProjNatRefIdeal.τ).loc Cert.ProjNatRefIdeal.main_arg1)
      ∧ r.2.mem ((c.tc : Thread Cert.ProjNatRefIdeal.nD Cert.ProjNatRefIdeal.τ).loc Cert.ProjNatRefIdeal.main_arg2) = m ((c.tc : Thread Cert.ProjNatRefIdeal.nD Cert.ProjNatRefIdeal.τ).loc Cert.ProjNatRefIdeal.main_arg2)
      ∧ r.2.mem ((c.tc : Thread Cert.ProjNatRefIdeal.nD Cert.ProjNatRefIdeal.τ).loc Cert.ProjNatRefIdeal.main_arg3) = m ((c.tc : Thread Cert.ProjNatRefIdeal.nD Cert.ProjNatRefIdeal.τ).loc Cert.ProjNatRefIdeal.main_arg3)
      ∧ r.2.mem ((c.tc : Thread Cert.ProjNatRefIdeal.nD Cert.ProjNatRefIdeal.τ).loc Cert.ProjNatRefIdeal.main_arg4) = m ((c.tc : Thread Cert.ProjNatRefIdeal.nD Cert.ProjNatRefIdeal.τ).loc Cert.ProjNatRefIdeal.main_arg4))
      ∧ r.2.sem = fun _ => 0)

def quiescent_ProjXg [hProjXg : Cert.ProjXg.Facts] : Prop :=
  ∀ (m : (ℓ : Loc Cert.ProjXg.nD Cert.ProjXg.τ Cert.ProjXg.sig) → Buf (Elt Bits) ℓ) (g : Dev Cert.ProjXg.nD → PrngReg), Pre_ProjXg m →
    θ_run (Cert.ProjXg.defs (F := Bits)) (onTc (τ := Cert.ProjXg.τ) (Cert.ProjXg.main (F := Bits))) ⟨m, fun _ => 0, g⟩ (fun r => (∀ c : Dev Cert.ProjXg.nD,
      r.2.mem ((c.tc : Thread Cert.ProjXg.nD Cert.ProjXg.τ).loc Cert.ProjXg.main_arg0) = m ((c.tc : Thread Cert.ProjXg.nD Cert.ProjXg.τ).loc Cert.ProjXg.main_arg0)
      ∧ r.2.mem ((c.tc : Thread Cert.ProjXg.nD Cert.ProjXg.τ).loc Cert.ProjXg.main_arg1) = m ((c.tc : Thread Cert.ProjXg.nD Cert.ProjXg.τ).loc Cert.ProjXg.main_arg1)
      ∧ r.2.mem ((c.tc : Thread Cert.ProjXg.nD Cert.ProjXg.τ).loc Cert.ProjXg.main_arg2) = m ((c.tc : Thread Cert.ProjXg.nD Cert.ProjXg.τ).loc Cert.ProjXg.main_arg2))
      ∧ r.2.sem = fun _ => 0)

def quiescent_ProjXgIdeal [hProjXgIdeal : Cert.ProjXgIdeal.Facts] : Prop :=
  ∀ (m : (ℓ : Loc Cert.ProjXgIdeal.nD Cert.ProjXgIdeal.τ Cert.ProjXgIdeal.sig) → Buf (Elt Ideal) ℓ) (g : Dev Cert.ProjXgIdeal.nD → PrngReg), Pre_ProjXgIdeal m →
    θ_run (Cert.ProjXgIdeal.defs (F := Ideal)) (onTc (τ := Cert.ProjXgIdeal.τ) (Cert.ProjXgIdeal.main (F := Ideal))) ⟨m, fun _ => 0, g⟩ (fun r => (∀ c : Dev Cert.ProjXgIdeal.nD,
      r.2.mem ((c.tc : Thread Cert.ProjXgIdeal.nD Cert.ProjXgIdeal.τ).loc Cert.ProjXgIdeal.main_arg0) = m ((c.tc : Thread Cert.ProjXgIdeal.nD Cert.ProjXgIdeal.τ).loc Cert.ProjXgIdeal.main_arg0)
      ∧ r.2.mem ((c.tc : Thread Cert.ProjXgIdeal.nD Cert.ProjXgIdeal.τ).loc Cert.ProjXgIdeal.main_arg1) = m ((c.tc : Thread Cert.ProjXgIdeal.nD Cert.ProjXgIdeal.τ).loc Cert.ProjXgIdeal.main_arg1)
      ∧ r.2.mem ((c.tc : Thread Cert.ProjXgIdeal.nD Cert.ProjXgIdeal.τ).loc Cert.ProjXgIdeal.main_arg2) = m ((c.tc : Thread Cert.ProjXgIdeal.nD Cert.ProjXgIdeal.τ).loc Cert.ProjXgIdeal.main_arg2))
      ∧ r.2.sem = fun _ => 0)

def quiescent_ProjXgRefIdeal [hProjXgRefIdeal : Cert.ProjXgRefIdeal.Facts] : Prop :=
  ∀ (m : (ℓ : Loc Cert.ProjXgRefIdeal.nD Cert.ProjXgRefIdeal.τ Cert.ProjXgRefIdeal.sig) → Buf (Elt Ideal) ℓ) (g : Dev Cert.ProjXgRefIdeal.nD → PrngReg), Pre_ProjXgRefIdeal m →
    θ_run (Cert.ProjXgRefIdeal.defs (F := Ideal)) (onTc (τ := Cert.ProjXgRefIdeal.τ) (Cert.ProjXgRefIdeal.main (F := Ideal))) ⟨m, fun _ => 0, g⟩ (fun r => (∀ c : Dev Cert.ProjXgRefIdeal.nD,
      r.2.mem ((c.tc : Thread Cert.ProjXgRefIdeal.nD Cert.ProjXgRefIdeal.τ).loc Cert.ProjXgRefIdeal.main_arg0) = m ((c.tc : Thread Cert.ProjXgRefIdeal.nD Cert.ProjXgRefIdeal.τ).loc Cert.ProjXgRefIdeal.main_arg0)
      ∧ r.2.mem ((c.tc : Thread Cert.ProjXgRefIdeal.nD Cert.ProjXgRefIdeal.τ).loc Cert.ProjXgRefIdeal.main_arg1) = m ((c.tc : Thread Cert.ProjXgRefIdeal.nD Cert.ProjXgRefIdeal.τ).loc Cert.ProjXgRefIdeal.main_arg1)
      ∧ r.2.mem ((c.tc : Thread Cert.ProjXgRefIdeal.nD Cert.ProjXgRefIdeal.τ).loc Cert.ProjXgRefIdeal.main_arg2) = m ((c.tc : Thread Cert.ProjXgRefIdeal.nD Cert.ProjXgRefIdeal.τ).loc Cert.ProjXgRefIdeal.main_arg2))
      ∧ r.2.sem = fun _ => 0)

def quiescent_DwQkvB [hDwQkvB : Cert.DwQkvB.Facts] : Prop :=
  ∀ (m : (ℓ : Loc Cert.DwQkvB.nD Cert.DwQkvB.τ Cert.DwQkvB.sig) → Buf (Elt Bits) ℓ) (g : Dev Cert.DwQkvB.nD → PrngReg), Pre_DwQkvB m →
    θ_run (Cert.DwQkvB.defs (F := Bits)) (onTc (τ := Cert.DwQkvB.τ) (Cert.DwQkvB.main (F := Bits))) ⟨m, fun _ => 0, g⟩ (fun r => (∀ c : Dev Cert.DwQkvB.nD,
      r.2.mem ((c.tc : Thread Cert.DwQkvB.nD Cert.DwQkvB.τ).loc Cert.DwQkvB.main_arg0) = m ((c.tc : Thread Cert.DwQkvB.nD Cert.DwQkvB.τ).loc Cert.DwQkvB.main_arg0)
      ∧ r.2.mem ((c.tc : Thread Cert.DwQkvB.nD Cert.DwQkvB.τ).loc Cert.DwQkvB.main_arg1) = m ((c.tc : Thread Cert.DwQkvB.nD Cert.DwQkvB.τ).loc Cert.DwQkvB.main_arg1))
      ∧ r.2.sem = fun _ => 0)

def quiescent_DwQkvBIdeal [hDwQkvBIdeal : Cert.DwQkvBIdeal.Facts] : Prop :=
  ∀ (m : (ℓ : Loc Cert.DwQkvBIdeal.nD Cert.DwQkvBIdeal.τ Cert.DwQkvBIdeal.sig) → Buf (Elt Ideal) ℓ) (g : Dev Cert.DwQkvBIdeal.nD → PrngReg), Pre_DwQkvBIdeal m →
    θ_run (Cert.DwQkvBIdeal.defs (F := Ideal)) (onTc (τ := Cert.DwQkvBIdeal.τ) (Cert.DwQkvBIdeal.main (F := Ideal))) ⟨m, fun _ => 0, g⟩ (fun r => (∀ c : Dev Cert.DwQkvBIdeal.nD,
      r.2.mem ((c.tc : Thread Cert.DwQkvBIdeal.nD Cert.DwQkvBIdeal.τ).loc Cert.DwQkvBIdeal.main_arg0) = m ((c.tc : Thread Cert.DwQkvBIdeal.nD Cert.DwQkvBIdeal.τ).loc Cert.DwQkvBIdeal.main_arg0)
      ∧ r.2.mem ((c.tc : Thread Cert.DwQkvBIdeal.nD Cert.DwQkvBIdeal.τ).loc Cert.DwQkvBIdeal.main_arg1) = m ((c.tc : Thread Cert.DwQkvBIdeal.nD Cert.DwQkvBIdeal.τ).loc Cert.DwQkvBIdeal.main_arg1))
      ∧ r.2.sem = fun _ => 0)

def quiescent_DwQkvBRefIdeal [hDwQkvBRefIdeal : Cert.DwQkvBRefIdeal.Facts] : Prop :=
  ∀ (m : (ℓ : Loc Cert.DwQkvBRefIdeal.nD Cert.DwQkvBRefIdeal.τ Cert.DwQkvBRefIdeal.sig) → Buf (Elt Ideal) ℓ) (g : Dev Cert.DwQkvBRefIdeal.nD → PrngReg), Pre_DwQkvBRefIdeal m →
    θ_run (Cert.DwQkvBRefIdeal.defs (F := Ideal)) (onTc (τ := Cert.DwQkvBRefIdeal.τ) (Cert.DwQkvBRefIdeal.main (F := Ideal))) ⟨m, fun _ => 0, g⟩ (fun r => (∀ c : Dev Cert.DwQkvBRefIdeal.nD,
      r.2.mem ((c.tc : Thread Cert.DwQkvBRefIdeal.nD Cert.DwQkvBRefIdeal.τ).loc Cert.DwQkvBRefIdeal.main_arg0) = m ((c.tc : Thread Cert.DwQkvBRefIdeal.nD Cert.DwQkvBRefIdeal.τ).loc Cert.DwQkvBRefIdeal.main_arg0)
      ∧ r.2.mem ((c.tc : Thread Cert.DwQkvBRefIdeal.nD Cert.DwQkvBRefIdeal.τ).loc Cert.DwQkvBRefIdeal.main_arg1) = m ((c.tc : Thread Cert.DwQkvBRefIdeal.nD Cert.DwQkvBRefIdeal.τ).loc Cert.DwQkvBRefIdeal.main_arg1))
      ∧ r.2.sem = fun _ => 0)

def quiescent_DwQkvC [hDwQkvC : Cert.DwQkvC.Facts] : Prop :=
  ∀ (m : (ℓ : Loc Cert.DwQkvC.nD Cert.DwQkvC.τ Cert.DwQkvC.sig) → Buf (Elt Bits) ℓ) (g : Dev Cert.DwQkvC.nD → PrngReg), Pre_DwQkvC m →
    θ_run (Cert.DwQkvC.defs (F := Bits)) (onTc (τ := Cert.DwQkvC.τ) (Cert.DwQkvC.main (F := Bits))) ⟨m, fun _ => 0, g⟩ (fun r => (∀ c : Dev Cert.DwQkvC.nD,
      r.2.mem ((c.tc : Thread Cert.DwQkvC.nD Cert.DwQkvC.τ).loc Cert.DwQkvC.main_arg0) = m ((c.tc : Thread Cert.DwQkvC.nD Cert.DwQkvC.τ).loc Cert.DwQkvC.main_arg0)
      ∧ r.2.mem ((c.tc : Thread Cert.DwQkvC.nD Cert.DwQkvC.τ).loc Cert.DwQkvC.main_arg1) = m ((c.tc : Thread Cert.DwQkvC.nD Cert.DwQkvC.τ).loc Cert.DwQkvC.main_arg1))
      ∧ r.2.sem = fun _ => 0)

def quiescent_DwQkvCIdeal [hDwQkvCIdeal : Cert.DwQkvCIdeal.Facts] : Prop :=
  ∀ (m : (ℓ : Loc Cert.DwQkvCIdeal.nD Cert.DwQkvCIdeal.τ Cert.DwQkvCIdeal.sig) → Buf (Elt Ideal) ℓ) (g : Dev Cert.DwQkvCIdeal.nD → PrngReg), Pre_DwQkvCIdeal m →
    θ_run (Cert.DwQkvCIdeal.defs (F := Ideal)) (onTc (τ := Cert.DwQkvCIdeal.τ) (Cert.DwQkvCIdeal.main (F := Ideal))) ⟨m, fun _ => 0, g⟩ (fun r => (∀ c : Dev Cert.DwQkvCIdeal.nD,
      r.2.mem ((c.tc : Thread Cert.DwQkvCIdeal.nD Cert.DwQkvCIdeal.τ).loc Cert.DwQkvCIdeal.main_arg0) = m ((c.tc : Thread Cert.DwQkvCIdeal.nD Cert.DwQkvCIdeal.τ).loc Cert.DwQkvCIdeal.main_arg0)
      ∧ r.2.mem ((c.tc : Thread Cert.DwQkvCIdeal.nD Cert.DwQkvCIdeal.τ).loc Cert.DwQkvCIdeal.main_arg1) = m ((c.tc : Thread Cert.DwQkvCIdeal.nD Cert.DwQkvCIdeal.τ).loc Cert.DwQkvCIdeal.main_arg1))
      ∧ r.2.sem = fun _ => 0)

def quiescent_DwQkvCRefIdeal [hDwQkvCRefIdeal : Cert.DwQkvCRefIdeal.Facts] : Prop :=
  ∀ (m : (ℓ : Loc Cert.DwQkvCRefIdeal.nD Cert.DwQkvCRefIdeal.τ Cert.DwQkvCRefIdeal.sig) → Buf (Elt Ideal) ℓ) (g : Dev Cert.DwQkvCRefIdeal.nD → PrngReg), Pre_DwQkvCRefIdeal m →
    θ_run (Cert.DwQkvCRefIdeal.defs (F := Ideal)) (onTc (τ := Cert.DwQkvCRefIdeal.τ) (Cert.DwQkvCRefIdeal.main (F := Ideal))) ⟨m, fun _ => 0, g⟩ (fun r => (∀ c : Dev Cert.DwQkvCRefIdeal.nD,
      r.2.mem ((c.tc : Thread Cert.DwQkvCRefIdeal.nD Cert.DwQkvCRefIdeal.τ).loc Cert.DwQkvCRefIdeal.main_arg0) = m ((c.tc : Thread Cert.DwQkvCRefIdeal.nD Cert.DwQkvCRefIdeal.τ).loc Cert.DwQkvCRefIdeal.main_arg0)
      ∧ r.2.mem ((c.tc : Thread Cert.DwQkvCRefIdeal.nD Cert.DwQkvCRefIdeal.τ).loc Cert.DwQkvCRefIdeal.main_arg1) = m ((c.tc : Thread Cert.DwQkvCRefIdeal.nD Cert.DwQkvCRefIdeal.τ).loc Cert.DwQkvCRefIdeal.main_arg1))
      ∧ r.2.sem = fun _ => 0)

def quiescent_ProjQkvB [hProjQkvB : Cert.ProjQkvB.Facts] : Prop :=
  ∀ (m : (ℓ : Loc Cert.ProjQkvB.nD Cert.ProjQkvB.τ Cert.ProjQkvB.sig) → Buf (Elt Bits) ℓ) (g : Dev Cert.ProjQkvB.nD → PrngReg), Pre_ProjQkvB m →
    θ_run (Cert.ProjQkvB.defs (F := Bits)) (onTc (τ := Cert.ProjQkvB.τ) (Cert.ProjQkvB.main (F := Bits))) ⟨m, fun _ => 0, g⟩ (fun r => (∀ c : Dev Cert.ProjQkvB.nD,
      r.2.mem ((c.tc : Thread Cert.ProjQkvB.nD Cert.ProjQkvB.τ).loc Cert.ProjQkvB.main_arg0) = m ((c.tc : Thread Cert.ProjQkvB.nD Cert.ProjQkvB.τ).loc Cert.ProjQkvB.main_arg0)
      ∧ r.2.mem ((c.tc : Thread Cert.ProjQkvB.nD Cert.ProjQkvB.τ).loc Cert.ProjQkvB.main_arg1) = m ((c.tc : Thread Cert.ProjQkvB.nD Cert.ProjQkvB.τ).loc Cert.ProjQkvB.main_arg1))
      ∧ r.2.sem = fun _ => 0)

def quiescent_ProjQkvBIdeal [hProjQkvBIdeal : Cert.ProjQkvBIdeal.Facts] : Prop :=
  ∀ (m : (ℓ : Loc Cert.ProjQkvBIdeal.nD Cert.ProjQkvBIdeal.τ Cert.ProjQkvBIdeal.sig) → Buf (Elt Ideal) ℓ) (g : Dev Cert.ProjQkvBIdeal.nD → PrngReg), Pre_ProjQkvBIdeal m →
    θ_run (Cert.ProjQkvBIdeal.defs (F := Ideal)) (onTc (τ := Cert.ProjQkvBIdeal.τ) (Cert.ProjQkvBIdeal.main (F := Ideal))) ⟨m, fun _ => 0, g⟩ (fun r => (∀ c : Dev Cert.ProjQkvBIdeal.nD,
      r.2.mem ((c.tc : Thread Cert.ProjQkvBIdeal.nD Cert.ProjQkvBIdeal.τ).loc Cert.ProjQkvBIdeal.main_arg0) = m ((c.tc : Thread Cert.ProjQkvBIdeal.nD Cert.ProjQkvBIdeal.τ).loc Cert.ProjQkvBIdeal.main_arg0)
      ∧ r.2.mem ((c.tc : Thread Cert.ProjQkvBIdeal.nD Cert.ProjQkvBIdeal.τ).loc Cert.ProjQkvBIdeal.main_arg1) = m ((c.tc : Thread Cert.ProjQkvBIdeal.nD Cert.ProjQkvBIdeal.τ).loc Cert.ProjQkvBIdeal.main_arg1))
      ∧ r.2.sem = fun _ => 0)

def quiescent_ProjQkvBRefIdeal [hProjQkvBRefIdeal : Cert.ProjQkvBRefIdeal.Facts] : Prop :=
  ∀ (m : (ℓ : Loc Cert.ProjQkvBRefIdeal.nD Cert.ProjQkvBRefIdeal.τ Cert.ProjQkvBRefIdeal.sig) → Buf (Elt Ideal) ℓ) (g : Dev Cert.ProjQkvBRefIdeal.nD → PrngReg), Pre_ProjQkvBRefIdeal m →
    θ_run (Cert.ProjQkvBRefIdeal.defs (F := Ideal)) (onTc (τ := Cert.ProjQkvBRefIdeal.τ) (Cert.ProjQkvBRefIdeal.main (F := Ideal))) ⟨m, fun _ => 0, g⟩ (fun r => (∀ c : Dev Cert.ProjQkvBRefIdeal.nD,
      r.2.mem ((c.tc : Thread Cert.ProjQkvBRefIdeal.nD Cert.ProjQkvBRefIdeal.τ).loc Cert.ProjQkvBRefIdeal.main_arg0) = m ((c.tc : Thread Cert.ProjQkvBRefIdeal.nD Cert.ProjQkvBRefIdeal.τ).loc Cert.ProjQkvBRefIdeal.main_arg0)
      ∧ r.2.mem ((c.tc : Thread Cert.ProjQkvBRefIdeal.nD Cert.ProjQkvBRefIdeal.τ).loc Cert.ProjQkvBRefIdeal.main_arg1) = m ((c.tc : Thread Cert.ProjQkvBRefIdeal.nD Cert.ProjQkvBRefIdeal.τ).loc Cert.ProjQkvBRefIdeal.main_arg1))
      ∧ r.2.sem = fun _ => 0)

def quiescent_ProjQkvC [hProjQkvC : Cert.ProjQkvC.Facts] : Prop :=
  ∀ (m : (ℓ : Loc Cert.ProjQkvC.nD Cert.ProjQkvC.τ Cert.ProjQkvC.sig) → Buf (Elt Bits) ℓ) (g : Dev Cert.ProjQkvC.nD → PrngReg), Pre_ProjQkvC m →
    θ_run (Cert.ProjQkvC.defs (F := Bits)) (onTc (τ := Cert.ProjQkvC.τ) (Cert.ProjQkvC.main (F := Bits))) ⟨m, fun _ => 0, g⟩ (fun r => (∀ c : Dev Cert.ProjQkvC.nD,
      r.2.mem ((c.tc : Thread Cert.ProjQkvC.nD Cert.ProjQkvC.τ).loc Cert.ProjQkvC.main_arg0) = m ((c.tc : Thread Cert.ProjQkvC.nD Cert.ProjQkvC.τ).loc Cert.ProjQkvC.main_arg0)
      ∧ r.2.mem ((c.tc : Thread Cert.ProjQkvC.nD Cert.ProjQkvC.τ).loc Cert.ProjQkvC.main_arg1) = m ((c.tc : Thread Cert.ProjQkvC.nD Cert.ProjQkvC.τ).loc Cert.ProjQkvC.main_arg1))
      ∧ r.2.sem = fun _ => 0)

def quiescent_ProjQkvCIdeal [hProjQkvCIdeal : Cert.ProjQkvCIdeal.Facts] : Prop :=
  ∀ (m : (ℓ : Loc Cert.ProjQkvCIdeal.nD Cert.ProjQkvCIdeal.τ Cert.ProjQkvCIdeal.sig) → Buf (Elt Ideal) ℓ) (g : Dev Cert.ProjQkvCIdeal.nD → PrngReg), Pre_ProjQkvCIdeal m →
    θ_run (Cert.ProjQkvCIdeal.defs (F := Ideal)) (onTc (τ := Cert.ProjQkvCIdeal.τ) (Cert.ProjQkvCIdeal.main (F := Ideal))) ⟨m, fun _ => 0, g⟩ (fun r => (∀ c : Dev Cert.ProjQkvCIdeal.nD,
      r.2.mem ((c.tc : Thread Cert.ProjQkvCIdeal.nD Cert.ProjQkvCIdeal.τ).loc Cert.ProjQkvCIdeal.main_arg0) = m ((c.tc : Thread Cert.ProjQkvCIdeal.nD Cert.ProjQkvCIdeal.τ).loc Cert.ProjQkvCIdeal.main_arg0)
      ∧ r.2.mem ((c.tc : Thread Cert.ProjQkvCIdeal.nD Cert.ProjQkvCIdeal.τ).loc Cert.ProjQkvCIdeal.main_arg1) = m ((c.tc : Thread Cert.ProjQkvCIdeal.nD Cert.ProjQkvCIdeal.τ).loc Cert.ProjQkvCIdeal.main_arg1))
      ∧ r.2.sem = fun _ => 0)

def quiescent_ProjQkvCRefIdeal [hProjQkvCRefIdeal : Cert.ProjQkvCRefIdeal.Facts] : Prop :=
  ∀ (m : (ℓ : Loc Cert.ProjQkvCRefIdeal.nD Cert.ProjQkvCRefIdeal.τ Cert.ProjQkvCRefIdeal.sig) → Buf (Elt Ideal) ℓ) (g : Dev Cert.ProjQkvCRefIdeal.nD → PrngReg), Pre_ProjQkvCRefIdeal m →
    θ_run (Cert.ProjQkvCRefIdeal.defs (F := Ideal)) (onTc (τ := Cert.ProjQkvCRefIdeal.τ) (Cert.ProjQkvCRefIdeal.main (F := Ideal))) ⟨m, fun _ => 0, g⟩ (fun r => (∀ c : Dev Cert.ProjQkvCRefIdeal.nD,
      r.2.mem ((c.tc : Thread Cert.ProjQkvCRefIdeal.nD Cert.ProjQkvCRefIdeal.τ).loc Cert.ProjQkvCRefIdeal.main_arg0) = m ((c.tc : Thread Cert.ProjQkvCRefIdeal.nD Cert.ProjQkvCRefIdeal.τ).loc Cert.ProjQkvCRefIdeal.main_arg0)
      ∧ r.2.mem ((c.tc : Thread Cert.ProjQkvCRefIdeal.nD Cert.ProjQkvCRefIdeal.τ).loc Cert.ProjQkvCRefIdeal.main_arg1) = m ((c.tc : Thread Cert.ProjQkvCRefIdeal.nD Cert.ProjQkvCRefIdeal.τ).loc Cert.ProjQkvCRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v103_0)) (v1 : (c : Dev Cert.AttnIdeal.nD) → Buf (Elt Ideal) ((c.tc : Thread Cert.AttnIdeal.nD Cert.AttnIdeal.τ).loc Cert.AttnIdeal.main_v103_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v103_0) = v0 c
          ∧ r.2.mem ((c.tc : Thread Cert.AttnIdeal.nD Cert.AttnIdeal.τ).loc Cert.AttnIdeal.main_v103_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v177) = v0 c
          ∧ r.2.mem ((c.tc : Thread Cert.AttnRefIdeal.nD Cert.AttnRefIdeal.τ).loc Cert.AttnRefIdeal.main_v158) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)) (v2 : (c : Dev Cert.GateIdeal.nD) → Buf (Elt Ideal) ((c.tc : Thread Cert.GateIdeal.nD Cert.GateIdeal.τ).loc Cert.GateIdeal.main_v3_2)) (v3 : (c : Dev Cert.GateIdeal.nD) → Buf (Elt Ideal) ((c.tc : Thread Cert.GateIdeal.nD Cert.GateIdeal.τ).loc Cert.GateIdeal.main_v3_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_v3_2) = v2 c
          ∧ r.2.mem ((c.tc : Thread Cert.GateIdeal.nD Cert.GateIdeal.τ).loc Cert.GateIdeal.main_v3_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v53) = v0 c
          ∧ r.2.mem ((c.tc : Thread Cert.GateRefIdeal.nD Cert.GateRefIdeal.τ).loc Cert.GateRefIdeal.main_v54) = v1 c
          ∧ r.2.mem ((c.tc : Thread Cert.GateRefIdeal.nD Cert.GateRefIdeal.τ).loc Cert.GateRefIdeal.main_v55) = v2 c
          ∧ r.2.mem ((c.tc : Thread Cert.GateRefIdeal.nD Cert.GateRefIdeal.τ).loc Cert.GateRefIdeal.main_v56) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v2)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v2) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v5) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1))

def preserves_DwXbc_DwXbcIdeal : Prop :=
  True

def algebraic_DwXbcIdeal_DwXbcRefIdeal [hDwXbcIdeal : Cert.DwXbcIdeal.Facts] [hDwXbcRefIdeal : Cert.DwXbcRefIdeal.Facts] : Prop :=
  ∀ (m : (ℓ : Loc Cert.DwXbcIdeal.nD Cert.DwXbcIdeal.τ Cert.DwXbcIdeal.sig) → Buf (Elt Ideal) ℓ) (g : Dev Cert.DwXbcIdeal.nD → PrngReg)
    (m' : (ℓ : Loc Cert.DwXbcRefIdeal.nD Cert.DwXbcRefIdeal.τ Cert.DwXbcRefIdeal.sig) → Buf (Elt Ideal) ℓ) (g' : Dev Cert.DwXbcRefIdeal.nD → PrngReg), Pre_DwXbcIdeal m →
    (∀ c : Dev Cert.DwXbcIdeal.nD,
      m' ((c.tc : Thread Cert.DwXbcRefIdeal.nD Cert.DwXbcRefIdeal.τ).loc Cert.DwXbcRefIdeal.main_arg0) = m ((c.tc : Thread Cert.DwXbcIdeal.nD Cert.DwXbcIdeal.τ).loc Cert.DwXbcIdeal.main_arg0)
      ∧ m' ((c.tc : Thread Cert.DwXbcRefIdeal.nD Cert.DwXbcRefIdeal.τ).loc Cert.DwXbcRefIdeal.main_arg1) = m ((c.tc : Thread Cert.DwXbcIdeal.nD Cert.DwXbcIdeal.τ).loc Cert.DwXbcIdeal.main_arg1)) →
    ∃ (v0 : (c : Dev Cert.DwXbcIdeal.nD) → Buf (Elt Ideal) ((c.tc : Thread Cert.DwXbcIdeal.nD Cert.DwXbcIdeal.τ).loc Cert.DwXbcIdeal.main_v2)),
      θ_run (Cert.DwXbcIdeal.defs (F := Ideal)) (onTc (τ := Cert.DwXbcIdeal.τ) (Cert.DwXbcIdeal.main (F := Ideal))) ⟨m, fun _ => 0, g⟩ (fun r => ∀ c : Dev Cert.DwXbcIdeal.nD,
          r.2.mem ((c.tc : Thread Cert.DwXbcIdeal.nD Cert.DwXbcIdeal.τ).loc Cert.DwXbcIdeal.main_v2) = v0 c
          ∧ r.2.mem ((c.tc : Thread Cert.DwXbcIdeal.nD Cert.DwXbcIdeal.τ).loc Cert.DwXbcIdeal.main_arg0) = m ((c.tc : Thread Cert.DwXbcIdeal.nD Cert.DwXbcIdeal.τ).loc Cert.DwXbcIdeal.main_arg0)
          ∧ r.2.mem ((c.tc : Thread Cert.DwXbcIdeal.nD Cert.DwXbcIdeal.τ).loc Cert.DwXbcIdeal.main_arg1) = m ((c.tc : Thread Cert.DwXbcIdeal.nD Cert.DwXbcIdeal.τ).loc Cert.DwXbcIdeal.main_arg1))
      ∧ θ_run (Cert.DwXbcRefIdeal.defs (F := Ideal)) (onTc (τ := Cert.DwXbcRefIdeal.τ) (Cert.DwXbcRefIdeal.main (F := Ideal))) ⟨m', fun _ => 0, g'⟩ (fun r => ∀ c : Dev Cert.DwXbcRefIdeal.nD,
          r.2.mem ((c.tc : Thread Cert.DwXbcRefIdeal.nD Cert.DwXbcRefIdeal.τ).loc Cert.DwXbcRefIdeal.main_v5) = v0 c
          ∧ r.2.mem ((c.tc : Thread Cert.DwXbcRefIdeal.nD Cert.DwXbcRefIdeal.τ).loc Cert.DwXbcRefIdeal.main_arg0) = m' ((c.tc : Thread Cert.DwXbcRefIdeal.nD Cert.DwXbcRefIdeal.τ).loc Cert.DwXbcRefIdeal.main_arg0)
          ∧ r.2.mem ((c.tc : Thread Cert.DwXbcRefIdeal.nD Cert.DwXbcRefIdeal.τ).loc Cert.DwXbcRefIdeal.main_arg1) = m' ((c.tc : Thread Cert.DwXbcRefIdeal.nD Cert.DwXbcRefIdeal.τ).loc Cert.DwXbcRefIdeal.main_arg1))

def preserves_DwGm_DwGmIdeal : Prop :=
  True

def algebraic_DwGmIdeal_DwGmRefIdeal [hDwGmIdeal : Cert.DwGmIdeal.Facts] [hDwGmRefIdeal : Cert.DwGmRefIdeal.Facts] : Prop :=
  ∀ (m : (ℓ : Loc Cert.DwGmIdeal.nD Cert.DwGmIdeal.τ Cert.DwGmIdeal.sig) → Buf (Elt Ideal) ℓ) (g : Dev Cert.DwGmIdeal.nD → PrngReg)
    (m' : (ℓ : Loc Cert.DwGmRefIdeal.nD Cert.DwGmRefIdeal.τ Cert.DwGmRefIdeal.sig) → Buf (Elt Ideal) ℓ) (g' : Dev Cert.DwGmRefIdeal.nD → PrngReg), Pre_DwGmIdeal m →
    (∀ c : Dev Cert.DwGmIdeal.nD,
      m' ((c.tc : Thread Cert.DwGmRefIdeal.nD Cert.DwGmRefIdeal.τ).loc Cert.DwGmRefIdeal.main_arg0) = m ((c.tc : Thread Cert.DwGmIdeal.nD Cert.DwGmIdeal.τ).loc Cert.DwGmIdeal.main_arg0)
      ∧ m' ((c.tc : Thread Cert.DwGmRefIdeal.nD Cert.DwGmRefIdeal.τ).loc Cert.DwGmRefIdeal.main_arg1) = m ((c.tc : Thread Cert.DwGmIdeal.nD Cert.DwGmIdeal.τ).loc Cert.DwGmIdeal.main_arg1)) →
    ∃ (v0 : (c : Dev Cert.DwGmIdeal.nD) → Buf (Elt Ideal) ((c.tc : Thread Cert.DwGmIdeal.nD Cert.DwGmIdeal.τ).loc Cert.DwGmIdeal.main_v2)),
      θ_run (Cert.DwGmIdeal.defs (F := Ideal)) (onTc (τ := Cert.DwGmIdeal.τ) (Cert.DwGmIdeal.main (F := Ideal))) ⟨m, fun _ => 0, g⟩ (fun r => ∀ c : Dev Cert.DwGmIdeal.nD,
          r.2.mem ((c.tc : Thread Cert.DwGmIdeal.nD Cert.DwGmIdeal.τ).loc Cert.DwGmIdeal.main_v2) = v0 c
          ∧ r.2.mem ((c.tc : Thread Cert.DwGmIdeal.nD Cert.DwGmIdeal.τ).loc Cert.DwGmIdeal.main_arg0) = m ((c.tc : Thread Cert.DwGmIdeal.nD Cert.DwGmIdeal.τ).loc Cert.DwGmIdeal.main_arg0)
          ∧ r.2.mem ((c.tc : Thread Cert.DwGmIdeal.nD Cert.DwGmIdeal.τ).loc Cert.DwGmIdeal.main_arg1) = m ((c.tc : Thread Cert.DwGmIdeal.nD Cert.DwGmIdeal.τ).loc Cert.DwGmIdeal.main_arg1))
      ∧ θ_run (Cert.DwGmRefIdeal.defs (F := Ideal)) (onTc (τ := Cert.DwGmRefIdeal.τ) (Cert.DwGmRefIdeal.main (F := Ideal))) ⟨m', fun _ => 0, g'⟩ (fun r => ∀ c : Dev Cert.DwGmRefIdeal.nD,
          r.2.mem ((c.tc : Thread Cert.DwGmRefIdeal.nD Cert.DwGmRefIdeal.τ).loc Cert.DwGmRefIdeal.main_v5) = v0 c
          ∧ r.2.mem ((c.tc : Thread Cert.DwGmRefIdeal.nD Cert.DwGmRefIdeal.τ).loc Cert.DwGmRefIdeal.main_arg0) = m' ((c.tc : Thread Cert.DwGmRefIdeal.nD Cert.DwGmRefIdeal.τ).loc Cert.DwGmRefIdeal.main_arg0)
          ∧ r.2.mem ((c.tc : Thread Cert.DwGmRefIdeal.nD Cert.DwGmRefIdeal.τ).loc Cert.DwGmRefIdeal.main_arg1) = m' ((c.tc : Thread Cert.DwGmRefIdeal.nD Cert.DwGmRefIdeal.τ).loc Cert.DwGmRefIdeal.main_arg1))

def preserves_DwNat_DwNatIdeal : Prop :=
  True

def algebraic_DwNatIdeal_DwNatRefIdeal [hDwNatIdeal : Cert.DwNatIdeal.Facts] [hDwNatRefIdeal : Cert.DwNatRefIdeal.Facts] : Prop :=
  ∀ (m : (ℓ : Loc Cert.DwNatIdeal.nD Cert.DwNatIdeal.τ Cert.DwNatIdeal.sig) → Buf (Elt Ideal) ℓ) (g : Dev Cert.DwNatIdeal.nD → PrngReg)
    (m' : (ℓ : Loc Cert.DwNatRefIdeal.nD Cert.DwNatRefIdeal.τ Cert.DwNatRefIdeal.sig) → Buf (Elt Ideal) ℓ) (g' : Dev Cert.DwNatRefIdeal.nD → PrngReg), Pre_DwNatIdeal m →
    (∀ c : Dev Cert.DwNatIdeal.nD,
      m' ((c.tc : Thread Cert.DwNatRefIdeal.nD Cert.DwNatRefIdeal.τ).loc Cert.DwNatRefIdeal.main_arg0) = m ((c.tc : Thread Cert.DwNatIdeal.nD Cert.DwNatIdeal.τ).loc Cert.DwNatIdeal.main_arg0)
      ∧ m' ((c.tc : Thread Cert.DwNatRefIdeal.nD Cert.DwNatRefIdeal.τ).loc Cert.DwNatRefIdeal.main_arg1) = m ((c.tc : Thread Cert.DwNatIdeal.nD Cert.DwNatIdeal.τ).loc Cert.DwNatIdeal.main_arg1)
      ∧ m' ((c.tc : Thread Cert.DwNatRefIdeal.nD Cert.DwNatRefIdeal.τ).loc Cert.DwNatRefIdeal.main_arg2) = m ((c.tc : Thread Cert.DwNatIdeal.nD Cert.DwNatIdeal.τ).loc Cert.DwNatIdeal.main_arg2)
      ∧ m' ((c.tc : Thread Cert.DwNatRefIdeal.nD Cert.DwNatRefIdeal.τ).loc Cert.DwNatRefIdeal.main_arg3) = m ((c.tc : Thread Cert.DwNatIdeal.nD Cert.DwNatIdeal.τ).loc Cert.DwNatIdeal.main_arg3)
      ∧ m' ((c.tc : Thread Cert.DwNatRefIdeal.nD Cert.DwNatRefIdeal.τ).loc Cert.DwNatRefIdeal.main_arg4) = m ((c.tc : Thread Cert.DwNatIdeal.nD Cert.DwNatIdeal.τ).loc Cert.DwNatIdeal.main_arg4)) →
    ∃ (v0 : (c : Dev Cert.DwNatIdeal.nD) → Buf (Elt Ideal) ((c.tc : Thread Cert.DwNatIdeal.nD Cert.DwNatIdeal.τ).loc Cert.DwNatIdeal.main_v3_0)) (v1 : (c : Dev Cert.DwNatIdeal.nD) → Buf (Elt Ideal) ((c.tc : Thread Cert.DwNatIdeal.nD Cert.DwNatIdeal.τ).loc Cert.DwNatIdeal.main_v3_1)) (v2 : (c : Dev Cert.DwNatIdeal.nD) → Buf (Elt Ideal) ((c.tc : Thread Cert.DwNatIdeal.nD Cert.DwNatIdeal.τ).loc Cert.DwNatIdeal.main_v3_2)) (v3 : (c : Dev Cert.DwNatIdeal.nD) → Buf (Elt Ideal) ((c.tc : Thread Cert.DwNatIdeal.nD Cert.DwNatIdeal.τ).loc Cert.DwNatIdeal.main_v3_3)),
      θ_run (Cert.DwNatIdeal.defs (F := Ideal)) (onTc (τ := Cert.DwNatIdeal.τ) (Cert.DwNatIdeal.main (F := Ideal))) ⟨m, fun _ => 0, g⟩ (fun r => ∀ c : Dev Cert.DwNatIdeal.nD,
          r.2.mem ((c.tc : Thread Cert.DwNatIdeal.nD Cert.DwNatIdeal.τ).loc Cert.DwNatIdeal.main_v3_0) = v0 c
          ∧ r.2.mem ((c.tc : Thread Cert.DwNatIdeal.nD Cert.DwNatIdeal.τ).loc Cert.DwNatIdeal.main_v3_1) = v1 c
          ∧ r.2.mem ((c.tc : Thread Cert.DwNatIdeal.nD Cert.DwNatIdeal.τ).loc Cert.DwNatIdeal.main_v3_2) = v2 c
          ∧ r.2.mem ((c.tc : Thread Cert.DwNatIdeal.nD Cert.DwNatIdeal.τ).loc Cert.DwNatIdeal.main_v3_3) = v3 c
          ∧ r.2.mem ((c.tc : Thread Cert.DwNatIdeal.nD Cert.DwNatIdeal.τ).loc Cert.DwNatIdeal.main_arg0) = m ((c.tc : Thread Cert.DwNatIdeal.nD Cert.DwNatIdeal.τ).loc Cert.DwNatIdeal.main_arg0)
          ∧ r.2.mem ((c.tc : Thread Cert.DwNatIdeal.nD Cert.DwNatIdeal.τ).loc Cert.DwNatIdeal.main_arg1) = m ((c.tc : Thread Cert.DwNatIdeal.nD Cert.DwNatIdeal.τ).loc Cert.DwNatIdeal.main_arg1)
          ∧ r.2.mem ((c.tc : Thread Cert.DwNatIdeal.nD Cert.DwNatIdeal.τ).loc Cert.DwNatIdeal.main_arg2) = m ((c.tc : Thread Cert.DwNatIdeal.nD Cert.DwNatIdeal.τ).loc Cert.DwNatIdeal.main_arg2)
          ∧ r.2.mem ((c.tc : Thread Cert.DwNatIdeal.nD Cert.DwNatIdeal.τ).loc Cert.DwNatIdeal.main_arg3) = m ((c.tc : Thread Cert.DwNatIdeal.nD Cert.DwNatIdeal.τ).loc Cert.DwNatIdeal.main_arg3)
          ∧ r.2.mem ((c.tc : Thread Cert.DwNatIdeal.nD Cert.DwNatIdeal.τ).loc Cert.DwNatIdeal.main_arg4) = m ((c.tc : Thread Cert.DwNatIdeal.nD Cert.DwNatIdeal.τ).loc Cert.DwNatIdeal.main_arg4))
      ∧ θ_run (Cert.DwNatRefIdeal.defs (F := Ideal)) (onTc (τ := Cert.DwNatRefIdeal.τ) (Cert.DwNatRefIdeal.main (F := Ideal))) ⟨m', fun _ => 0, g'⟩ (fun r => ∀ c : Dev Cert.DwNatRefIdeal.nD,
          r.2.mem ((c.tc : Thread Cert.DwNatRefIdeal.nD Cert.DwNatRefIdeal.τ).loc Cert.DwNatRefIdeal.main_v17) = v0 c
          ∧ r.2.mem ((c.tc : Thread Cert.DwNatRefIdeal.nD Cert.DwNatRefIdeal.τ).loc Cert.DwNatRefIdeal.main_v19) = v1 c
          ∧ r.2.mem ((c.tc : Thread Cert.DwNatRefIdeal.nD Cert.DwNatRefIdeal.τ).loc Cert.DwNatRefIdeal.main_v21) = v2 c
          ∧ r.2.mem ((c.tc : Thread Cert.DwNatRefIdeal.nD Cert.DwNatRefIdeal.τ).loc Cert.DwNatRefIdeal.main_v23) = v3 c
          ∧ r.2.mem ((c.tc : Thread Cert.DwNatRefIdeal.nD Cert.DwNatRefIdeal.τ).loc Cert.DwNatRefIdeal.main_arg0) = m' ((c.tc : Thread Cert.DwNatRefIdeal.nD Cert.DwNatRefIdeal.τ).loc Cert.DwNatRefIdeal.main_arg0)
          ∧ r.2.mem ((c.tc : Thread Cert.DwNatRefIdeal.nD Cert.DwNatRefIdeal.τ).loc Cert.DwNatRefIdeal.main_arg1) = m' ((c.tc : Thread Cert.DwNatRefIdeal.nD Cert.DwNatRefIdeal.τ).loc Cert.DwNatRefIdeal.main_arg1)
          ∧ r.2.mem ((c.tc : Thread Cert.DwNatRefIdeal.nD Cert.DwNatRefIdeal.τ).loc Cert.DwNatRefIdeal.main_arg2) = m' ((c.tc : Thread Cert.DwNatRefIdeal.nD Cert.DwNatRefIdeal.τ).loc Cert.DwNatRefIdeal.main_arg2)
          ∧ r.2.mem ((c.tc : Thread Cert.DwNatRefIdeal.nD Cert.DwNatRefIdeal.τ).loc Cert.DwNatRefIdeal.main_arg3) = m' ((c.tc : Thread Cert.DwNatRefIdeal.nD Cert.DwNatRefIdeal.τ).loc Cert.DwNatRefIdeal.main_arg3)
          ∧ r.2.mem ((c.tc : Thread Cert.DwNatRefIdeal.nD Cert.DwNatRefIdeal.τ).loc Cert.DwNatRefIdeal.main_arg4) = m' ((c.tc : Thread Cert.DwNatRefIdeal.nD Cert.DwNatRefIdeal.τ).loc Cert.DwNatRefIdeal.main_arg4))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)
      ∧ m' ((c.tc : Thread Cert.DwOutRefIdeal.nD Cert.DwOutRefIdeal.τ).loc Cert.DwOutRefIdeal.main_arg4) = m ((c.tc : Thread Cert.DwOutIdeal.nD Cert.DwOutIdeal.τ).loc Cert.DwOutIdeal.main_arg4)
      ∧ m' ((c.tc : Thread Cert.DwOutRefIdeal.nD Cert.DwOutRefIdeal.τ).loc Cert.DwOutRefIdeal.main_arg5) = m ((c.tc : Thread Cert.DwOutIdeal.nD Cert.DwOutIdeal.τ).loc Cert.DwOutIdeal.main_arg5)
      ∧ m' ((c.tc : Thread Cert.DwOutRefIdeal.nD Cert.DwOutRefIdeal.τ).loc Cert.DwOutRefIdeal.main_arg6) = m ((c.tc : Thread Cert.DwOutIdeal.nD Cert.DwOutIdeal.τ).loc Cert.DwOutIdeal.main_arg6)
      ∧ m' ((c.tc : Thread Cert.DwOutRefIdeal.nD Cert.DwOutRefIdeal.τ).loc Cert.DwOutRefIdeal.main_arg7) = m ((c.tc : Thread Cert.DwOutIdeal.nD Cert.DwOutIdeal.τ).loc Cert.DwOutIdeal.main_arg7)) →
    ∃ (v0 : (c : Dev Cert.DwOutIdeal.nD) → Buf (Elt Ideal) ((c.tc : Thread Cert.DwOutIdeal.nD Cert.DwOutIdeal.τ).loc Cert.DwOutIdeal.main_v8_0)) (v1 : (c : Dev Cert.DwOutIdeal.nD) → Buf (Elt Ideal) ((c.tc : Thread Cert.DwOutIdeal.nD Cert.DwOutIdeal.τ).loc Cert.DwOutIdeal.main_v8_1)) (v2 : (c : Dev Cert.DwOutIdeal.nD) → Buf (Elt Ideal) ((c.tc : Thread Cert.DwOutIdeal.nD Cert.DwOutIdeal.τ).loc Cert.DwOutIdeal.main_v8_2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v8_0) = v0 c
          ∧ r.2.mem ((c.tc : Thread Cert.DwOutIdeal.nD Cert.DwOutIdeal.τ).loc Cert.DwOutIdeal.main_v8_1) = v1 c
          ∧ r.2.mem ((c.tc : Thread Cert.DwOutIdeal.nD Cert.DwOutIdeal.τ).loc Cert.DwOutIdeal.main_v8_2) = v2 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
          ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4)
          ∧ r.2.mem ((c.tc : Thread Cert.DwOutIdeal.nD Cert.DwOutIdeal.τ).loc Cert.DwOutIdeal.main_arg5) = m ((c.tc : Thread Cert.DwOutIdeal.nD Cert.DwOutIdeal.τ).loc Cert.DwOutIdeal.main_arg5)
          ∧ r.2.mem ((c.tc : Thread Cert.DwOutIdeal.nD Cert.DwOutIdeal.τ).loc Cert.DwOutIdeal.main_arg6) = m ((c.tc : Thread Cert.DwOutIdeal.nD Cert.DwOutIdeal.τ).loc Cert.DwOutIdeal.main_arg6)
          ∧ r.2.mem ((c.tc : Thread Cert.DwOutIdeal.nD Cert.DwOutIdeal.τ).loc Cert.DwOutIdeal.main_arg7) = m ((c.tc : Thread Cert.DwOutIdeal.nD Cert.DwOutIdeal.τ).loc Cert.DwOutIdeal.main_arg7))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v20) = v0 c
          ∧ r.2.mem ((c.tc : Thread Cert.DwOutRefIdeal.nD Cert.DwOutRefIdeal.τ).loc Cert.DwOutRefIdeal.main_v21) = v1 c
          ∧ r.2.mem ((c.tc : Thread Cert.DwOutRefIdeal.nD Cert.DwOutRefIdeal.τ).loc Cert.DwOutRefIdeal.main_v22) = v2 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3)
          ∧ r.2.mem ((c.tc : Thread Cert.DwOutRefIdeal.nD Cert.DwOutRefIdeal.τ).loc Cert.DwOutRefIdeal.main_arg4) = m' ((c.tc : Thread Cert.DwOutRefIdeal.nD Cert.DwOutRefIdeal.τ).loc Cert.DwOutRefIdeal.main_arg4)
          ∧ r.2.mem ((c.tc : Thread Cert.DwOutRefIdeal.nD Cert.DwOutRefIdeal.τ).loc Cert.DwOutRefIdeal.main_arg5) = m' ((c.tc : Thread Cert.DwOutRefIdeal.nD Cert.DwOutRefIdeal.τ).loc Cert.DwOutRefIdeal.main_arg5)
          ∧ r.2.mem ((c.tc : Thread Cert.DwOutRefIdeal.nD Cert.DwOutRefIdeal.τ).loc Cert.DwOutRefIdeal.main_arg6) = m' ((c.tc : Thread Cert.DwOutRefIdeal.nD Cert.DwOutRefIdeal.τ).loc Cert.DwOutRefIdeal.main_arg6)
          ∧ r.2.mem ((c.tc : Thread Cert.DwOutRefIdeal.nD Cert.DwOutRefIdeal.τ).loc Cert.DwOutRefIdeal.main_arg7) = m' ((c.tc : Thread Cert.DwOutRefIdeal.nD Cert.DwOutRefIdeal.τ).loc Cert.DwOutRefIdeal.main_arg7))

def preserves_DxY_DxYIdeal : Prop :=
  True

def algebraic_DxYIdeal_DxYRefIdeal [hDxYIdeal : Cert.DxYIdeal.Facts] [hDxYRefIdeal : Cert.DxYRefIdeal.Facts] : Prop :=
  ∀ (m : (ℓ : Loc Cert.DxYIdeal.nD Cert.DxYIdeal.τ Cert.DxYIdeal.sig) → Buf (Elt Ideal) ℓ) (g : Dev Cert.DxYIdeal.nD → PrngReg)
    (m' : (ℓ : Loc Cert.DxYRefIdeal.nD Cert.DxYRefIdeal.τ Cert.DxYRefIdeal.sig) → Buf (Elt Ideal) ℓ) (g' : Dev Cert.DxYRefIdeal.nD → PrngReg), Pre_DxYIdeal m →
    (∀ c : Dev Cert.DxYIdeal.nD,
      m' ((c.tc : Thread Cert.DxYRefIdeal.nD Cert.DxYRefIdeal.τ).loc Cert.DxYRefIdeal.main_arg0) = m ((c.tc : Thread Cert.DxYIdeal.nD Cert.DxYIdeal.τ).loc Cert.DxYIdeal.main_arg0)
      ∧ m' ((c.tc : Thread Cert.DxYRefIdeal.nD Cert.DxYRefIdeal.τ).loc Cert.DxYRefIdeal.main_arg1) = m ((c.tc : Thread Cert.DxYIdeal.nD Cert.DxYIdeal.τ).loc Cert.DxYIdeal.main_arg1)) →
    ∃ (v0 : (c : Dev Cert.DxYIdeal.nD) → Buf (Elt Ideal) ((c.tc : Thread Cert.DxYIdeal.nD Cert.DxYIdeal.τ).loc Cert.DxYIdeal.main_v2)),
      θ_run (Cert.DxYIdeal.defs (F := Ideal)) (onTc (τ := Cert.DxYIdeal.τ) (Cert.DxYIdeal.main (F := Ideal))) ⟨m, fun _ => 0, g⟩ (fun r => ∀ c : Dev Cert.DxYIdeal.nD,
          r.2.mem ((c.tc : Thread Cert.DxYIdeal.nD Cert.DxYIdeal.τ).loc Cert.DxYIdeal.main_v2) = v0 c
          ∧ r.2.mem ((c.tc : Thread Cert.DxYIdeal.nD Cert.DxYIdeal.τ).loc Cert.DxYIdeal.main_arg0) = m ((c.tc : Thread Cert.DxYIdeal.nD Cert.DxYIdeal.τ).loc Cert.DxYIdeal.main_arg0)
          ∧ r.2.mem ((c.tc : Thread Cert.DxYIdeal.nD Cert.DxYIdeal.τ).loc Cert.DxYIdeal.main_arg1) = m ((c.tc : Thread Cert.DxYIdeal.nD Cert.DxYIdeal.τ).loc Cert.DxYIdeal.main_arg1))
      ∧ θ_run (Cert.DxYRefIdeal.defs (F := Ideal)) (onTc (τ := Cert.DxYRefIdeal.τ) (Cert.DxYRefIdeal.main (F := Ideal))) ⟨m', fun _ => 0, g'⟩ (fun r => ∀ c : Dev Cert.DxYRefIdeal.nD,
          r.2.mem ((c.tc : Thread Cert.DxYRefIdeal.nD Cert.DxYRefIdeal.τ).loc Cert.DxYRefIdeal.main_v2) = v0 c
          ∧ r.2.mem ((c.tc : Thread Cert.DxYRefIdeal.nD Cert.DxYRefIdeal.τ).loc Cert.DxYRefIdeal.main_arg0) = m' ((c.tc : Thread Cert.DxYRefIdeal.nD Cert.DxYRefIdeal.τ).loc Cert.DxYRefIdeal.main_arg0)
          ∧ r.2.mem ((c.tc : Thread Cert.DxYRefIdeal.nD Cert.DxYRefIdeal.τ).loc Cert.DxYRefIdeal.main_arg1) = m' ((c.tc : Thread Cert.DxYRefIdeal.nD Cert.DxYRefIdeal.τ).loc Cert.DxYRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v3)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v3) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v1) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjNat_ProjNatIdeal : Prop :=
  True

def algebraic_ProjNatIdeal_ProjNatRefIdeal [hProjNatIdeal : Cert.ProjNatIdeal.Facts] [hProjNatRefIdeal : Cert.ProjNatRefIdeal.Facts] : Prop :=
  ∀ (m : (ℓ : Loc Cert.ProjNatIdeal.nD Cert.ProjNatIdeal.τ Cert.ProjNatIdeal.sig) → Buf (Elt Ideal) ℓ) (g : Dev Cert.ProjNatIdeal.nD → PrngReg)
    (m' : (ℓ : Loc Cert.ProjNatRefIdeal.nD Cert.ProjNatRefIdeal.τ Cert.ProjNatRefIdeal.sig) → Buf (Elt Ideal) ℓ) (g' : Dev Cert.ProjNatRefIdeal.nD → PrngReg), Pre_ProjNatIdeal m →
    (∀ c : Dev Cert.ProjNatIdeal.nD,
      m' ((c.tc : Thread Cert.ProjNatRefIdeal.nD Cert.ProjNatRefIdeal.τ).loc Cert.ProjNatRefIdeal.main_arg0) = m ((c.tc : Thread Cert.ProjNatIdeal.nD Cert.ProjNatIdeal.τ).loc Cert.ProjNatIdeal.main_arg0)
      ∧ m' ((c.tc : Thread Cert.ProjNatRefIdeal.nD Cert.ProjNatRefIdeal.τ).loc Cert.ProjNatRefIdeal.main_arg1) = m ((c.tc : Thread Cert.ProjNatIdeal.nD Cert.ProjNatIdeal.τ).loc Cert.ProjNatIdeal.main_arg1)
      ∧ m' ((c.tc : Thread Cert.ProjNatRefIdeal.nD Cert.ProjNatRefIdeal.τ).loc Cert.ProjNatRefIdeal.main_arg2) = m ((c.tc : Thread Cert.ProjNatIdeal.nD Cert.ProjNatIdeal.τ).loc Cert.ProjNatIdeal.main_arg2)
      ∧ m' ((c.tc : Thread Cert.ProjNatRefIdeal.nD Cert.ProjNatRefIdeal.τ).loc Cert.ProjNatRefIdeal.main_arg3) = m ((c.tc : Thread Cert.ProjNatIdeal.nD Cert.ProjNatIdeal.τ).loc Cert.ProjNatIdeal.main_arg3)
      ∧ m' ((c.tc : Thread Cert.ProjNatRefIdeal.nD Cert.ProjNatRefIdeal.τ).loc Cert.ProjNatRefIdeal.main_arg4) = m ((c.tc : Thread Cert.ProjNatIdeal.nD Cert.ProjNatIdeal.τ).loc Cert.ProjNatIdeal.main_arg4)) →
    ∃ (v0 : (c : Dev Cert.ProjNatIdeal.nD) → Buf (Elt Ideal) ((c.tc : Thread Cert.ProjNatIdeal.nD Cert.ProjNatIdeal.τ).loc Cert.ProjNatIdeal.main_v9_0)) (v1 : (c : Dev Cert.ProjNatIdeal.nD) → Buf (Elt Ideal) ((c.tc : Thread Cert.ProjNatIdeal.nD Cert.ProjNatIdeal.τ).loc Cert.ProjNatIdeal.main_v9_1)) (v2 : (c : Dev Cert.ProjNatIdeal.nD) → Buf (Elt Ideal) ((c.tc : Thread Cert.ProjNatIdeal.nD Cert.ProjNatIdeal.τ).loc Cert.ProjNatIdeal.main_v9_2)) (v3 : (c : Dev Cert.ProjNatIdeal.nD) → Buf (Elt Ideal) ((c.tc : Thread Cert.ProjNatIdeal.nD Cert.ProjNatIdeal.τ).loc Cert.ProjNatIdeal.main_v9_3)),
      θ_run (Cert.ProjNatIdeal.defs (F := Ideal)) (onTc (τ := Cert.ProjNatIdeal.τ) (Cert.ProjNatIdeal.main (F := Ideal))) ⟨m, fun _ => 0, g⟩ (fun r => ∀ c : Dev Cert.ProjNatIdeal.nD,
          r.2.mem ((c.tc : Thread Cert.ProjNatIdeal.nD Cert.ProjNatIdeal.τ).loc Cert.ProjNatIdeal.main_v9_0) = v0 c
          ∧ r.2.mem ((c.tc : Thread Cert.ProjNatIdeal.nD Cert.ProjNatIdeal.τ).loc Cert.ProjNatIdeal.main_v9_1) = v1 c
          ∧ r.2.mem ((c.tc : Thread Cert.ProjNatIdeal.nD Cert.ProjNatIdeal.τ).loc Cert.ProjNatIdeal.main_v9_2) = v2 c
          ∧ r.2.mem ((c.tc : Thread Cert.ProjNatIdeal.nD Cert.ProjNatIdeal.τ).loc Cert.ProjNatIdeal.main_v9_3) = v3 c
          ∧ r.2.mem ((c.tc : Thread Cert.ProjNatIdeal.nD Cert.ProjNatIdeal.τ).loc Cert.ProjNatIdeal.main_arg0) = m ((c.tc : Thread Cert.ProjNatIdeal.nD Cert.ProjNatIdeal.τ).loc Cert.ProjNatIdeal.main_arg0)
          ∧ r.2.mem ((c.tc : Thread Cert.ProjNatIdeal.nD Cert.ProjNatIdeal.τ).loc Cert.ProjNatIdeal.main_arg1) = m ((c.tc : Thread Cert.ProjNatIdeal.nD Cert.ProjNatIdeal.τ).loc Cert.ProjNatIdeal.main_arg1)
          ∧ r.2.mem ((c.tc : Thread Cert.ProjNatIdeal.nD Cert.ProjNatIdeal.τ).loc Cert.ProjNatIdeal.main_arg2) = m ((c.tc : Thread Cert.ProjNatIdeal.nD Cert.ProjNatIdeal.τ).loc Cert.ProjNatIdeal.main_arg2)
          ∧ r.2.mem ((c.tc : Thread Cert.ProjNatIdeal.nD Cert.ProjNatIdeal.τ).loc Cert.ProjNatIdeal.main_arg3) = m ((c.tc : Thread Cert.ProjNatIdeal.nD Cert.ProjNatIdeal.τ).loc Cert.ProjNatIdeal.main_arg3)
          ∧ r.2.mem ((c.tc : Thread Cert.ProjNatIdeal.nD Cert.ProjNatIdeal.τ).loc Cert.ProjNatIdeal.main_arg4) = m ((c.tc : Thread Cert.ProjNatIdeal.nD Cert.ProjNatIdeal.τ).loc Cert.ProjNatIdeal.main_arg4))
      ∧ θ_run (Cert.ProjNatRefIdeal.defs (F := Ideal)) (onTc (τ := Cert.ProjNatRefIdeal.τ) (Cert.ProjNatRefIdeal.main (F := Ideal))) ⟨m', fun _ => 0, g'⟩ (fun r => ∀ c : Dev Cert.ProjNatRefIdeal.nD,
          r.2.mem ((c.tc : Thread Cert.ProjNatRefIdeal.nD Cert.ProjNatRefIdeal.τ).loc Cert.ProjNatRefIdeal.main_v0) = v0 c
          ∧ r.2.mem ((c.tc : Thread Cert.ProjNatRefIdeal.nD Cert.ProjNatRefIdeal.τ).loc Cert.ProjNatRefIdeal.main_v1) = v1 c
          ∧ r.2.mem ((c.tc : Thread Cert.ProjNatRefIdeal.nD Cert.ProjNatRefIdeal.τ).loc Cert.ProjNatRefIdeal.main_v2) = v2 c
          ∧ r.2.mem ((c.tc : Thread Cert.ProjNatRefIdeal.nD Cert.ProjNatRefIdeal.τ).loc Cert.ProjNatRefIdeal.main_v3) = v3 c
          ∧ r.2.mem ((c.tc : Thread Cert.ProjNatRefIdeal.nD Cert.ProjNatRefIdeal.τ).loc Cert.ProjNatRefIdeal.main_arg0) = m' ((c.tc : Thread Cert.ProjNatRefIdeal.nD Cert.ProjNatRefIdeal.τ).loc Cert.ProjNatRefIdeal.main_arg0)
          ∧ r.2.mem ((c.tc : Thread Cert.ProjNatRefIdeal.nD Cert.ProjNatRefIdeal.τ).loc Cert.ProjNatRefIdeal.main_arg1) = m' ((c.tc : Thread Cert.ProjNatRefIdeal.nD Cert.ProjNatRefIdeal.τ).loc Cert.ProjNatRefIdeal.main_arg1)
          ∧ r.2.mem ((c.tc : Thread Cert.ProjNatRefIdeal.nD Cert.ProjNatRefIdeal.τ).loc Cert.ProjNatRefIdeal.main_arg2) = m' ((c.tc : Thread Cert.ProjNatRefIdeal.nD Cert.ProjNatRefIdeal.τ).loc Cert.ProjNatRefIdeal.main_arg2)
          ∧ r.2.mem ((c.tc : Thread Cert.ProjNatRefIdeal.nD Cert.ProjNatRefIdeal.τ).loc Cert.ProjNatRefIdeal.main_arg3) = m' ((c.tc : Thread Cert.ProjNatRefIdeal.nD Cert.ProjNatRefIdeal.τ).loc Cert.ProjNatRefIdeal.main_arg3)
          ∧ r.2.mem ((c.tc : Thread Cert.ProjNatRefIdeal.nD Cert.ProjNatRefIdeal.τ).loc Cert.ProjNatRefIdeal.main_arg4) = m' ((c.tc : Thread Cert.ProjNatRefIdeal.nD Cert.ProjNatRefIdeal.τ).loc Cert.ProjNatRefIdeal.main_arg4))

def preserves_ProjXg_ProjXgIdeal : Prop :=
  True

def algebraic_ProjXgIdeal_ProjXgRefIdeal [hProjXgIdeal : Cert.ProjXgIdeal.Facts] [hProjXgRefIdeal : Cert.ProjXgRefIdeal.Facts] : Prop :=
  ∀ (m : (ℓ : Loc Cert.ProjXgIdeal.nD Cert.ProjXgIdeal.τ Cert.ProjXgIdeal.sig) → Buf (Elt Ideal) ℓ) (g : Dev Cert.ProjXgIdeal.nD → PrngReg)
    (m' : (ℓ : Loc Cert.ProjXgRefIdeal.nD Cert.ProjXgRefIdeal.τ Cert.ProjXgRefIdeal.sig) → Buf (Elt Ideal) ℓ) (g' : Dev Cert.ProjXgRefIdeal.nD → PrngReg), Pre_ProjXgIdeal m →
    (∀ c : Dev Cert.ProjXgIdeal.nD,
      m' ((c.tc : Thread Cert.ProjXgRefIdeal.nD Cert.ProjXgRefIdeal.τ).loc Cert.ProjXgRefIdeal.main_arg0) = m ((c.tc : Thread Cert.ProjXgIdeal.nD Cert.ProjXgIdeal.τ).loc Cert.ProjXgIdeal.main_arg0)
      ∧ m' ((c.tc : Thread Cert.ProjXgRefIdeal.nD Cert.ProjXgRefIdeal.τ).loc Cert.ProjXgRefIdeal.main_arg1) = m ((c.tc : Thread Cert.ProjXgIdeal.nD Cert.ProjXgIdeal.τ).loc Cert.ProjXgIdeal.main_arg1)
      ∧ m' ((c.tc : Thread Cert.ProjXgRefIdeal.nD Cert.ProjXgRefIdeal.τ).loc Cert.ProjXgRefIdeal.main_arg2) = m ((c.tc : Thread Cert.ProjXgIdeal.nD Cert.ProjXgIdeal.τ).loc Cert.ProjXgIdeal.main_arg2)) →
    ∃ (v0 : (c : Dev Cert.ProjXgIdeal.nD) → Buf (Elt Ideal) ((c.tc : Thread Cert.ProjXgIdeal.nD Cert.ProjXgIdeal.τ).loc Cert.ProjXgIdeal.main_v5_0)) (v1 : (c : Dev Cert.ProjXgIdeal.nD) → Buf (Elt Ideal) ((c.tc : Thread Cert.ProjXgIdeal.nD Cert.ProjXgIdeal.τ).loc Cert.ProjXgIdeal.main_v5_1)),
      θ_run (Cert.ProjXgIdeal.defs (F := Ideal)) (onTc (τ := Cert.ProjXgIdeal.τ) (Cert.ProjXgIdeal.main (F := Ideal))) ⟨m, fun _ => 0, g⟩ (fun r => ∀ c : Dev Cert.ProjXgIdeal.nD,
          r.2.mem ((c.tc : Thread Cert.ProjXgIdeal.nD Cert.ProjXgIdeal.τ).loc Cert.ProjXgIdeal.main_v5_0) = v0 c
          ∧ r.2.mem ((c.tc : Thread Cert.ProjXgIdeal.nD Cert.ProjXgIdeal.τ).loc Cert.ProjXgIdeal.main_v5_1) = v1 c
          ∧ r.2.mem ((c.tc : Thread Cert.ProjXgIdeal.nD Cert.ProjXgIdeal.τ).loc Cert.ProjXgIdeal.main_arg0) = m ((c.tc : Thread Cert.ProjXgIdeal.nD Cert.ProjXgIdeal.τ).loc Cert.ProjXgIdeal.main_arg0)
          ∧ r.2.mem ((c.tc : Thread Cert.ProjXgIdeal.nD Cert.ProjXgIdeal.τ).loc Cert.ProjXgIdeal.main_arg1) = m ((c.tc : Thread Cert.ProjXgIdeal.nD Cert.ProjXgIdeal.τ).loc Cert.ProjXgIdeal.main_arg1)
          ∧ r.2.mem ((c.tc : Thread Cert.ProjXgIdeal.nD Cert.ProjXgIdeal.τ).loc Cert.ProjXgIdeal.main_arg2) = m ((c.tc : Thread Cert.ProjXgIdeal.nD Cert.ProjXgIdeal.τ).loc Cert.ProjXgIdeal.main_arg2))
      ∧ θ_run (Cert.ProjXgRefIdeal.defs (F := Ideal)) (onTc (τ := Cert.ProjXgRefIdeal.τ) (Cert.ProjXgRefIdeal.main (F := Ideal))) ⟨m', fun _ => 0, g'⟩ (fun r => ∀ c : Dev Cert.ProjXgRefIdeal.nD,
          r.2.mem ((c.tc : Thread Cert.ProjXgRefIdeal.nD Cert.ProjXgRefIdeal.τ).loc Cert.ProjXgRefIdeal.main_v0) = v0 c
          ∧ r.2.mem ((c.tc : Thread Cert.ProjXgRefIdeal.nD Cert.ProjXgRefIdeal.τ).loc Cert.ProjXgRefIdeal.main_v1) = v1 c
          ∧ r.2.mem ((c.tc : Thread Cert.ProjXgRefIdeal.nD Cert.ProjXgRefIdeal.τ).loc Cert.ProjXgRefIdeal.main_arg0) = m' ((c.tc : Thread Cert.ProjXgRefIdeal.nD Cert.ProjXgRefIdeal.τ).loc Cert.ProjXgRefIdeal.main_arg0)
          ∧ r.2.mem ((c.tc : Thread Cert.ProjXgRefIdeal.nD Cert.ProjXgRefIdeal.τ).loc Cert.ProjXgRefIdeal.main_arg1) = m' ((c.tc : Thread Cert.ProjXgRefIdeal.nD Cert.ProjXgRefIdeal.τ).loc Cert.ProjXgRefIdeal.main_arg1)
          ∧ r.2.mem ((c.tc : Thread Cert.ProjXgRefIdeal.nD Cert.ProjXgRefIdeal.τ).loc Cert.ProjXgRefIdeal.main_arg2) = m' ((c.tc : Thread Cert.ProjXgRefIdeal.nD Cert.ProjXgRefIdeal.τ).loc Cert.ProjXgRefIdeal.main_arg2))

def preserves_DwQkvB_DwQkvBIdeal : Prop :=
  True

def algebraic_DwQkvBIdeal_DwQkvBRefIdeal [hDwQkvBIdeal : Cert.DwQkvBIdeal.Facts] [hDwQkvBRefIdeal : Cert.DwQkvBRefIdeal.Facts] : Prop :=
  ∀ (m : (ℓ : Loc Cert.DwQkvBIdeal.nD Cert.DwQkvBIdeal.τ Cert.DwQkvBIdeal.sig) → Buf (Elt Ideal) ℓ) (g : Dev Cert.DwQkvBIdeal.nD → PrngReg)
    (m' : (ℓ : Loc Cert.DwQkvBRefIdeal.nD Cert.DwQkvBRefIdeal.τ Cert.DwQkvBRefIdeal.sig) → Buf (Elt Ideal) ℓ) (g' : Dev Cert.DwQkvBRefIdeal.nD → PrngReg), Pre_DwQkvBIdeal m →
    (∀ c : Dev Cert.DwQkvBIdeal.nD,
      m' ((c.tc : Thread Cert.DwQkvBRefIdeal.nD Cert.DwQkvBRefIdeal.τ).loc Cert.DwQkvBRefIdeal.main_arg0) = m ((c.tc : Thread Cert.DwQkvBIdeal.nD Cert.DwQkvBIdeal.τ).loc Cert.DwQkvBIdeal.main_arg0)
      ∧ m' ((c.tc : Thread Cert.DwQkvBRefIdeal.nD Cert.DwQkvBRefIdeal.τ).loc Cert.DwQkvBRefIdeal.main_arg1) = m ((c.tc : Thread Cert.DwQkvBIdeal.nD Cert.DwQkvBIdeal.τ).loc Cert.DwQkvBIdeal.main_arg1)) →
    ∃ (v0 : (c : Dev Cert.DwQkvBIdeal.nD) → Buf (Elt Ideal) ((c.tc : Thread Cert.DwQkvBIdeal.nD Cert.DwQkvBIdeal.τ).loc Cert.DwQkvBIdeal.main_v8)),
      θ_run (Cert.DwQkvBIdeal.defs (F := Ideal)) (onTc (τ := Cert.DwQkvBIdeal.τ) (Cert.DwQkvBIdeal.main (F := Ideal))) ⟨m, fun _ => 0, g⟩ (fun r => ∀ c : Dev Cert.DwQkvBIdeal.nD,
          r.2.mem ((c.tc : Thread Cert.DwQkvBIdeal.nD Cert.DwQkvBIdeal.τ).loc Cert.DwQkvBIdeal.main_v8) = v0 c
          ∧ r.2.mem ((c.tc : Thread Cert.DwQkvBIdeal.nD Cert.DwQkvBIdeal.τ).loc Cert.DwQkvBIdeal.main_arg0) = m ((c.tc : Thread Cert.DwQkvBIdeal.nD Cert.DwQkvBIdeal.τ).loc Cert.DwQkvBIdeal.main_arg0)
          ∧ r.2.mem ((c.tc : Thread Cert.DwQkvBIdeal.nD Cert.DwQkvBIdeal.τ).loc Cert.DwQkvBIdeal.main_arg1) = m ((c.tc : Thread Cert.DwQkvBIdeal.nD Cert.DwQkvBIdeal.τ).loc Cert.DwQkvBIdeal.main_arg1))
      ∧ θ_run (Cert.DwQkvBRefIdeal.defs (F := Ideal)) (onTc (τ := Cert.DwQkvBRefIdeal.τ) (Cert.DwQkvBRefIdeal.main (F := Ideal))) ⟨m', fun _ => 0, g'⟩ (fun r => ∀ c : Dev Cert.DwQkvBRefIdeal.nD,
          r.2.mem ((c.tc : Thread Cert.DwQkvBRefIdeal.nD Cert.DwQkvBRefIdeal.τ).loc Cert.DwQkvBRefIdeal.main_v5) = v0 c
          ∧ r.2.mem ((c.tc : Thread Cert.DwQkvBRefIdeal.nD Cert.DwQkvBRefIdeal.τ).loc Cert.DwQkvBRefIdeal.main_arg0) = m' ((c.tc : Thread Cert.DwQkvBRefIdeal.nD Cert.DwQkvBRefIdeal.τ).loc Cert.DwQkvBRefIdeal.main_arg0)
          ∧ r.2.mem ((c.tc : Thread Cert.DwQkvBRefIdeal.nD Cert.DwQkvBRefIdeal.τ).loc Cert.DwQkvBRefIdeal.main_arg1) = m' ((c.tc : Thread Cert.DwQkvBRefIdeal.nD Cert.DwQkvBRefIdeal.τ).loc Cert.DwQkvBRefIdeal.main_arg1))

def preserves_DwQkvC_DwQkvCIdeal : Prop :=
  True

def algebraic_DwQkvCIdeal_DwQkvCRefIdeal [hDwQkvCIdeal : Cert.DwQkvCIdeal.Facts] [hDwQkvCRefIdeal : Cert.DwQkvCRefIdeal.Facts] : Prop :=
  ∀ (m : (ℓ : Loc Cert.DwQkvCIdeal.nD Cert.DwQkvCIdeal.τ Cert.DwQkvCIdeal.sig) → Buf (Elt Ideal) ℓ) (g : Dev Cert.DwQkvCIdeal.nD → PrngReg)
    (m' : (ℓ : Loc Cert.DwQkvCRefIdeal.nD Cert.DwQkvCRefIdeal.τ Cert.DwQkvCRefIdeal.sig) → Buf (Elt Ideal) ℓ) (g' : Dev Cert.DwQkvCRefIdeal.nD → PrngReg), Pre_DwQkvCIdeal m →
    (∀ c : Dev Cert.DwQkvCIdeal.nD,
      m' ((c.tc : Thread Cert.DwQkvCRefIdeal.nD Cert.DwQkvCRefIdeal.τ).loc Cert.DwQkvCRefIdeal.main_arg0) = m ((c.tc : Thread Cert.DwQkvCIdeal.nD Cert.DwQkvCIdeal.τ).loc Cert.DwQkvCIdeal.main_arg0)
      ∧ m' ((c.tc : Thread Cert.DwQkvCRefIdeal.nD Cert.DwQkvCRefIdeal.τ).loc Cert.DwQkvCRefIdeal.main_arg1) = m ((c.tc : Thread Cert.DwQkvCIdeal.nD Cert.DwQkvCIdeal.τ).loc Cert.DwQkvCIdeal.main_arg1)) →
    ∃ (v0 : (c : Dev Cert.DwQkvCIdeal.nD) → Buf (Elt Ideal) ((c.tc : Thread Cert.DwQkvCIdeal.nD Cert.DwQkvCIdeal.τ).loc Cert.DwQkvCIdeal.main_v8)),
      θ_run (Cert.DwQkvCIdeal.defs (F := Ideal)) (onTc (τ := Cert.DwQkvCIdeal.τ) (Cert.DwQkvCIdeal.main (F := Ideal))) ⟨m, fun _ => 0, g⟩ (fun r => ∀ c : Dev Cert.DwQkvCIdeal.nD,
          r.2.mem ((c.tc : Thread Cert.DwQkvCIdeal.nD Cert.DwQkvCIdeal.τ).loc Cert.DwQkvCIdeal.main_v8) = v0 c
          ∧ r.2.mem ((c.tc : Thread Cert.DwQkvCIdeal.nD Cert.DwQkvCIdeal.τ).loc Cert.DwQkvCIdeal.main_arg0) = m ((c.tc : Thread Cert.DwQkvCIdeal.nD Cert.DwQkvCIdeal.τ).loc Cert.DwQkvCIdeal.main_arg0)
          ∧ r.2.mem ((c.tc : Thread Cert.DwQkvCIdeal.nD Cert.DwQkvCIdeal.τ).loc Cert.DwQkvCIdeal.main_arg1) = m ((c.tc : Thread Cert.DwQkvCIdeal.nD Cert.DwQkvCIdeal.τ).loc Cert.DwQkvCIdeal.main_arg1))
      ∧ θ_run (Cert.DwQkvCRefIdeal.defs (F := Ideal)) (onTc (τ := Cert.DwQkvCRefIdeal.τ) (Cert.DwQkvCRefIdeal.main (F := Ideal))) ⟨m', fun _ => 0, g'⟩ (fun r => ∀ c : Dev Cert.DwQkvCRefIdeal.nD,
          r.2.mem ((c.tc : Thread Cert.DwQkvCRefIdeal.nD Cert.DwQkvCRefIdeal.τ).loc Cert.DwQkvCRefIdeal.main_v5) = v0 c
          ∧ r.2.mem ((c.tc : Thread Cert.DwQkvCRefIdeal.nD Cert.DwQkvCRefIdeal.τ).loc Cert.DwQkvCRefIdeal.main_arg0) = m' ((c.tc : Thread Cert.DwQkvCRefIdeal.nD Cert.DwQkvCRefIdeal.τ).loc Cert.DwQkvCRefIdeal.main_arg0)
          ∧ r.2.mem ((c.tc : Thread Cert.DwQkvCRefIdeal.nD Cert.DwQkvCRefIdeal.τ).loc Cert.DwQkvCRefIdeal.main_arg1) = m' ((c.tc : Thread Cert.DwQkvCRefIdeal.nD Cert.DwQkvCRefIdeal.τ).loc Cert.DwQkvCRefIdeal.main_arg1))

def preserves_ProjQkvB_ProjQkvBIdeal : Prop :=
  True

def algebraic_ProjQkvBIdeal_ProjQkvBRefIdeal [hProjQkvBIdeal : Cert.ProjQkvBIdeal.Facts] [hProjQkvBRefIdeal : Cert.ProjQkvBRefIdeal.Facts] : Prop :=
  ∀ (m : (ℓ : Loc Cert.ProjQkvBIdeal.nD Cert.ProjQkvBIdeal.τ Cert.ProjQkvBIdeal.sig) → Buf (Elt Ideal) ℓ) (g : Dev Cert.ProjQkvBIdeal.nD → PrngReg)
    (m' : (ℓ : Loc Cert.ProjQkvBRefIdeal.nD Cert.ProjQkvBRefIdeal.τ Cert.ProjQkvBRefIdeal.sig) → Buf (Elt Ideal) ℓ) (g' : Dev Cert.ProjQkvBRefIdeal.nD → PrngReg), Pre_ProjQkvBIdeal m →
    (∀ c : Dev Cert.ProjQkvBIdeal.nD,
      m' ((c.tc : Thread Cert.ProjQkvBRefIdeal.nD Cert.ProjQkvBRefIdeal.τ).loc Cert.ProjQkvBRefIdeal.main_arg0) = m ((c.tc : Thread Cert.ProjQkvBIdeal.nD Cert.ProjQkvBIdeal.τ).loc Cert.ProjQkvBIdeal.main_arg0)
      ∧ m' ((c.tc : Thread Cert.ProjQkvBRefIdeal.nD Cert.ProjQkvBRefIdeal.τ).loc Cert.ProjQkvBRefIdeal.main_arg1) = m ((c.tc : Thread Cert.ProjQkvBIdeal.nD Cert.ProjQkvBIdeal.τ).loc Cert.ProjQkvBIdeal.main_arg1)) →
    ∃ (v0 : (c : Dev Cert.ProjQkvBIdeal.nD) → Buf (Elt Ideal) ((c.tc : Thread Cert.ProjQkvBIdeal.nD Cert.ProjQkvBIdeal.τ).loc Cert.ProjQkvBIdeal.main_v6)),
      θ_run (Cert.ProjQkvBIdeal.defs (F := Ideal)) (onTc (τ := Cert.ProjQkvBIdeal.τ) (Cert.ProjQkvBIdeal.main (F := Ideal))) ⟨m, fun _ => 0, g⟩ (fun r => ∀ c : Dev Cert.ProjQkvBIdeal.nD,
          r.2.mem ((c.tc : Thread Cert.ProjQkvBIdeal.nD Cert.ProjQkvBIdeal.τ).loc Cert.ProjQkvBIdeal.main_v6) = v0 c
          ∧ r.2.mem ((c.tc : Thread Cert.ProjQkvBIdeal.nD Cert.ProjQkvBIdeal.τ).loc Cert.ProjQkvBIdeal.main_arg0) = m ((c.tc : Thread Cert.ProjQkvBIdeal.nD Cert.ProjQkvBIdeal.τ).loc Cert.ProjQkvBIdeal.main_arg0)
          ∧ r.2.mem ((c.tc : Thread Cert.ProjQkvBIdeal.nD Cert.ProjQkvBIdeal.τ).loc Cert.ProjQkvBIdeal.main_arg1) = m ((c.tc : Thread Cert.ProjQkvBIdeal.nD Cert.ProjQkvBIdeal.τ).loc Cert.ProjQkvBIdeal.main_arg1))
      ∧ θ_run (Cert.ProjQkvBRefIdeal.defs (F := Ideal)) (onTc (τ := Cert.ProjQkvBRefIdeal.τ) (Cert.ProjQkvBRefIdeal.main (F := Ideal))) ⟨m', fun _ => 0, g'⟩ (fun r => ∀ c : Dev Cert.ProjQkvBRefIdeal.nD,
          r.2.mem ((c.tc : Thread Cert.ProjQkvBRefIdeal.nD Cert.ProjQkvBRefIdeal.τ).loc Cert.ProjQkvBRefIdeal.main_v4) = v0 c
          ∧ r.2.mem ((c.tc : Thread Cert.ProjQkvBRefIdeal.nD Cert.ProjQkvBRefIdeal.τ).loc Cert.ProjQkvBRefIdeal.main_arg0) = m' ((c.tc : Thread Cert.ProjQkvBRefIdeal.nD Cert.ProjQkvBRefIdeal.τ).loc Cert.ProjQkvBRefIdeal.main_arg0)
          ∧ r.2.mem ((c.tc : Thread Cert.ProjQkvBRefIdeal.nD Cert.ProjQkvBRefIdeal.τ).loc Cert.ProjQkvBRefIdeal.main_arg1) = m' ((c.tc : Thread Cert.ProjQkvBRefIdeal.nD Cert.ProjQkvBRefIdeal.τ).loc Cert.ProjQkvBRefIdeal.main_arg1))

def preserves_ProjQkvC_ProjQkvCIdeal : Prop :=
  True

def algebraic_ProjQkvCIdeal_ProjQkvCRefIdeal [hProjQkvCIdeal : Cert.ProjQkvCIdeal.Facts] [hProjQkvCRefIdeal : Cert.ProjQkvCRefIdeal.Facts] : Prop :=
  ∀ (m : (ℓ : Loc Cert.ProjQkvCIdeal.nD Cert.ProjQkvCIdeal.τ Cert.ProjQkvCIdeal.sig) → Buf (Elt Ideal) ℓ) (g : Dev Cert.ProjQkvCIdeal.nD → PrngReg)
    (m' : (ℓ : Loc Cert.ProjQkvCRefIdeal.nD Cert.ProjQkvCRefIdeal.τ Cert.ProjQkvCRefIdeal.sig) → Buf (Elt Ideal) ℓ) (g' : Dev Cert.ProjQkvCRefIdeal.nD → PrngReg), Pre_ProjQkvCIdeal m →
    (∀ c : Dev Cert.ProjQkvCIdeal.nD,
      m' ((c.tc : Thread Cert.ProjQkvCRefIdeal.nD Cert.ProjQkvCRefIdeal.τ).loc Cert.ProjQkvCRefIdeal.main_arg0) = m ((c.tc : Thread Cert.ProjQkvCIdeal.nD Cert.ProjQkvCIdeal.τ).loc Cert.ProjQkvCIdeal.main_arg0)
      ∧ m' ((c.tc : Thread Cert.ProjQkvCRefIdeal.nD Cert.ProjQkvCRefIdeal.τ).loc Cert.ProjQkvCRefIdeal.main_arg1) = m ((c.tc : Thread Cert.ProjQkvCIdeal.nD Cert.ProjQkvCIdeal.τ).loc Cert.ProjQkvCIdeal.main_arg1)) →
    ∃ (v0 : (c : Dev Cert.ProjQkvCIdeal.nD) → Buf (Elt Ideal) ((c.tc : Thread Cert.ProjQkvCIdeal.nD Cert.ProjQkvCIdeal.τ).loc Cert.ProjQkvCIdeal.main_v6)),
      θ_run (Cert.ProjQkvCIdeal.defs (F := Ideal)) (onTc (τ := Cert.ProjQkvCIdeal.τ) (Cert.ProjQkvCIdeal.main (F := Ideal))) ⟨m, fun _ => 0, g⟩ (fun r => ∀ c : Dev Cert.ProjQkvCIdeal.nD,
          r.2.mem ((c.tc : Thread Cert.ProjQkvCIdeal.nD Cert.ProjQkvCIdeal.τ).loc Cert.ProjQkvCIdeal.main_v6) = v0 c
          ∧ r.2.mem ((c.tc : Thread Cert.ProjQkvCIdeal.nD Cert.ProjQkvCIdeal.τ).loc Cert.ProjQkvCIdeal.main_arg0) = m ((c.tc : Thread Cert.ProjQkvCIdeal.nD Cert.ProjQkvCIdeal.τ).loc Cert.ProjQkvCIdeal.main_arg0)
          ∧ r.2.mem ((c.tc : Thread Cert.ProjQkvCIdeal.nD Cert.ProjQkvCIdeal.τ).loc Cert.ProjQkvCIdeal.main_arg1) = m ((c.tc : Thread Cert.ProjQkvCIdeal.nD Cert.ProjQkvCIdeal.τ).loc Cert.ProjQkvCIdeal.main_arg1))
      ∧ θ_run (Cert.ProjQkvCRefIdeal.defs (F := Ideal)) (onTc (τ := Cert.ProjQkvCRefIdeal.τ) (Cert.ProjQkvCRefIdeal.main (F := Ideal))) ⟨m', fun _ => 0, g'⟩ (fun r => ∀ c : Dev Cert.ProjQkvCRefIdeal.nD,
          r.2.mem ((c.tc : Thread Cert.ProjQkvCRefIdeal.nD Cert.ProjQkvCRefIdeal.τ).loc Cert.ProjQkvCRefIdeal.main_v4) = v0 c
          ∧ r.2.mem ((c.tc : Thread Cert.ProjQkvCRefIdeal.nD Cert.ProjQkvCRefIdeal.τ).loc Cert.ProjQkvCRefIdeal.main_arg0) = m' ((c.tc : Thread Cert.ProjQkvCRefIdeal.nD Cert.ProjQkvCRefIdeal.τ).loc Cert.ProjQkvCRefIdeal.main_arg0)
          ∧ r.2.mem ((c.tc : Thread Cert.ProjQkvCRefIdeal.nD Cert.ProjQkvCRefIdeal.τ).loc Cert.ProjQkvCRefIdeal.main_arg1) = m' ((c.tc : Thread Cert.ProjQkvCRefIdeal.nD Cert.ProjQkvCRefIdeal.τ).loc Cert.ProjQkvCRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v1) = v0 c
          ∧ r.2.mem ((c.tc : Thread Cert.MergeRefIdeal.nD Cert.MergeRefIdeal.τ).loc Cert.MergeRefIdeal.main_v3) = v1 c
          ∧ r.2.mem ((c.tc : Thread Cert.MergeRefIdeal.nD Cert.MergeRefIdeal.τ).loc Cert.MergeRefIdeal.main_v31) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def Claim : Prop :=
  ∃ (hAttn : Cert.Attn.Facts) (hAttnIdeal : Cert.AttnIdeal.Facts) (hAttnRefIdeal : Cert.AttnRefIdeal.Facts) (hGate : Cert.Gate.Facts) (hGateIdeal : Cert.GateIdeal.Facts) (hGateRefIdeal : Cert.GateRefIdeal.Facts) (hDwQkv : Cert.DwQkv.Facts) (hDwQkvIdeal : Cert.DwQkvIdeal.Facts) (hDwQkvRefIdeal : Cert.DwQkvRefIdeal.Facts) (hDwXbc : Cert.DwXbc.Facts) (hDwXbcIdeal : Cert.DwXbcIdeal.Facts) (hDwXbcRefIdeal : Cert.DwXbcRefIdeal.Facts) (hDwGm : Cert.DwGm.Facts) (hDwGmIdeal : Cert.DwGmIdeal.Facts) (hDwGmRefIdeal : Cert.DwGmRefIdeal.Facts) (hDwNat : Cert.DwNat.Facts) (hDwNatIdeal : Cert.DwNatIdeal.Facts) (hDwNatRefIdeal : Cert.DwNatRefIdeal.Facts) (hDwOut : Cert.DwOut.Facts) (hDwOutIdeal : Cert.DwOutIdeal.Facts) (hDwOutRefIdeal : Cert.DwOutRefIdeal.Facts) (hDxY : Cert.DxY.Facts) (hDxYIdeal : Cert.DxYIdeal.Facts) (hDxYRefIdeal : Cert.DxYRefIdeal.Facts) (hProjQkv : Cert.ProjQkv.Facts) (hProjQkvIdeal : Cert.ProjQkvIdeal.Facts) (hProjQkvRefIdeal : Cert.ProjQkvRefIdeal.Facts) (hProjNat : Cert.ProjNat.Facts) (hProjNatIdeal : Cert.ProjNatIdeal.Facts) (hProjNatRefIdeal : Cert.ProjNatRefIdeal.Facts) (hProjXg : Cert.ProjXg.Facts) (hProjXgIdeal : Cert.ProjXgIdeal.Facts) (hProjXgRefIdeal : Cert.ProjXgRefIdeal.Facts) (hDwQkvB : Cert.DwQkvB.Facts) (hDwQkvBIdeal : Cert.DwQkvBIdeal.Facts) (hDwQkvBRefIdeal : Cert.DwQkvBRefIdeal.Facts) (hDwQkvC : Cert.DwQkvC.Facts) (hDwQkvCIdeal : Cert.DwQkvCIdeal.Facts) (hDwQkvCRefIdeal : Cert.DwQkvCRefIdeal.Facts) (hProjQkvB : Cert.ProjQkvB.Facts) (hProjQkvBIdeal : Cert.ProjQkvBIdeal.Facts) (hProjQkvBRefIdeal : Cert.ProjQkvBRefIdeal.Facts) (hProjQkvC : Cert.ProjQkvC.Facts) (hProjQkvCIdeal : Cert.ProjQkvCIdeal.Facts) (hProjQkvCRefIdeal : Cert.ProjQkvCRefIdeal.Facts) (hMerge : Cert.Merge.Facts) (hMergeIdeal : Cert.MergeIdeal.Facts) (hMergeRefIdeal : Cert.MergeRefIdeal.Facts) (hPre_attn_finite : Cert.Pre_attn_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Gate (hGate := hGate)
    ∧ quiescent_GateIdeal (hGateIdeal := hGateIdeal)
    ∧ quiescent_GateRefIdeal (hGateRefIdeal := hGateRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_DwXbc (hDwXbc := hDwXbc)
    ∧ quiescent_DwXbcIdeal (hDwXbcIdeal := hDwXbcIdeal)
    ∧ quiescent_DwXbcRefIdeal (hDwXbcRefIdeal := hDwXbcRefIdeal)
    ∧ quiescent_DwGm (hDwGm := hDwGm)
    ∧ quiescent_DwGmIdeal (hDwGmIdeal := hDwGmIdeal)
    ∧ quiescent_DwGmRefIdeal (hDwGmRefIdeal := hDwGmRefIdeal)
    ∧ quiescent_DwNat (hDwNat := hDwNat)
    ∧ quiescent_DwNatIdeal (hDwNatIdeal := hDwNatIdeal)
    ∧ quiescent_DwNatRefIdeal (hDwNatRefIdeal := hDwNatRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DxY (hDxY := hDxY)
    ∧ quiescent_DxYIdeal (hDxYIdeal := hDxYIdeal)
    ∧ quiescent_DxYRefIdeal (hDxYRefIdeal := hDxYRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjNat (hProjNat := hProjNat)
    ∧ quiescent_ProjNatIdeal (hProjNatIdeal := hProjNatIdeal)
    ∧ quiescent_ProjNatRefIdeal (hProjNatRefIdeal := hProjNatRefIdeal)
    ∧ quiescent_ProjXg (hProjXg := hProjXg)
    ∧ quiescent_ProjXgIdeal (hProjXgIdeal := hProjXgIdeal)
    ∧ quiescent_ProjXgRefIdeal (hProjXgRefIdeal := hProjXgRefIdeal)
    ∧ quiescent_DwQkvB (hDwQkvB := hDwQkvB)
    ∧ quiescent_DwQkvBIdeal (hDwQkvBIdeal := hDwQkvBIdeal)
    ∧ quiescent_DwQkvBRefIdeal (hDwQkvBRefIdeal := hDwQkvBRefIdeal)
    ∧ quiescent_DwQkvC (hDwQkvC := hDwQkvC)
    ∧ quiescent_DwQkvCIdeal (hDwQkvCIdeal := hDwQkvCIdeal)
    ∧ quiescent_DwQkvCRefIdeal (hDwQkvCRefIdeal := hDwQkvCRefIdeal)
    ∧ quiescent_ProjQkvB (hProjQkvB := hProjQkvB)
    ∧ quiescent_ProjQkvBIdeal (hProjQkvBIdeal := hProjQkvBIdeal)
    ∧ quiescent_ProjQkvBRefIdeal (hProjQkvBRefIdeal := hProjQkvBRefIdeal)
    ∧ quiescent_ProjQkvC (hProjQkvC := hProjQkvC)
    ∧ quiescent_ProjQkvCIdeal (hProjQkvCIdeal := hProjQkvCIdeal)
    ∧ quiescent_ProjQkvCRefIdeal (hProjQkvCRefIdeal := hProjQkvCRefIdeal)
    ∧ quiescent_Merge (hMerge := hMerge)
    ∧ quiescent_MergeIdeal (hMergeIdeal := hMergeIdeal)
    ∧ quiescent_MergeRefIdeal (hMergeRefIdeal := hMergeRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Gate_GateIdeal
    ∧ algebraic_GateIdeal_GateRefIdeal (hGateIdeal := hGateIdeal) (hGateRefIdeal := hGateRefIdeal)
    ∧ preserves_DwQkv_DwQkvIdeal
    ∧ algebraic_DwQkvIdeal_DwQkvRefIdeal (hDwQkvIdeal := hDwQkvIdeal) (hDwQkvRefIdeal := hDwQkvRefIdeal)
    ∧ preserves_DwXbc_DwXbcIdeal
    ∧ algebraic_DwXbcIdeal_DwXbcRefIdeal (hDwXbcIdeal := hDwXbcIdeal) (hDwXbcRefIdeal := hDwXbcRefIdeal)
    ∧ preserves_DwGm_DwGmIdeal
    ∧ algebraic_DwGmIdeal_DwGmRefIdeal (hDwGmIdeal := hDwGmIdeal) (hDwGmRefIdeal := hDwGmRefIdeal)
    ∧ preserves_DwNat_DwNatIdeal
    ∧ algebraic_DwNatIdeal_DwNatRefIdeal (hDwNatIdeal := hDwNatIdeal) (hDwNatRefIdeal := hDwNatRefIdeal)
    ∧ preserves_DwOut_DwOutIdeal
    ∧ algebraic_DwOutIdeal_DwOutRefIdeal (hDwOutIdeal := hDwOutIdeal) (hDwOutRefIdeal := hDwOutRefIdeal)
    ∧ preserves_DxY_DxYIdeal
    ∧ algebraic_DxYIdeal_DxYRefIdeal (hDxYIdeal := hDxYIdeal) (hDxYRefIdeal := hDxYRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjNat_ProjNatIdeal
    ∧ algebraic_ProjNatIdeal_ProjNatRefIdeal (hProjNatIdeal := hProjNatIdeal) (hProjNatRefIdeal := hProjNatRefIdeal)
    ∧ preserves_ProjXg_ProjXgIdeal
    ∧ algebraic_ProjXgIdeal_ProjXgRefIdeal (hProjXgIdeal := hProjXgIdeal) (hProjXgRefIdeal := hProjXgRefIdeal)
    ∧ preserves_DwQkvB_DwQkvBIdeal
    ∧ algebraic_DwQkvBIdeal_DwQkvBRefIdeal (hDwQkvBIdeal := hDwQkvBIdeal) (hDwQkvBRefIdeal := hDwQkvBRefIdeal)
    ∧ preserves_DwQkvC_DwQkvCIdeal
    ∧ algebraic_DwQkvCIdeal_DwQkvCRefIdeal (hDwQkvCIdeal := hDwQkvCIdeal) (hDwQkvCRefIdeal := hDwQkvCRefIdeal)
    ∧ preserves_ProjQkvB_ProjQkvBIdeal
    ∧ algebraic_ProjQkvBIdeal_ProjQkvBRefIdeal (hProjQkvBIdeal := hProjQkvBIdeal) (hProjQkvBRefIdeal := hProjQkvBRefIdeal)
    ∧ preserves_ProjQkvC_ProjQkvCIdeal
    ∧ algebraic_ProjQkvCIdeal_ProjQkvCRefIdeal (hProjQkvCIdeal := hProjQkvCIdeal) (hProjQkvCRefIdeal := hProjQkvCRefIdeal)
    ∧ preserves_Merge_MergeIdeal
    ∧ algebraic_MergeIdeal_MergeRefIdeal (hMergeIdeal := hMergeIdeal) (hMergeRefIdeal := hMergeRefIdeal)
-- ==== Pre_attn_finite.lean ====
abbrev S2x2048x12x64 : Shape := ⟨4, ![2, 2048, 12, 64]⟩
abbrev S12x128x256 : Shape := ⟨3, ![12, 128, 256]⟩
abbrev S2x2048x12 : Shape := ⟨3, ![2, 2048, 12]⟩
abbrev S_ : Shape := ⟨0, ![]⟩

class Facts : Prop where
  bcast_S_S2x2048x12x64 : S_.BroadcastsInDim S2x2048x12x64 (![] : Fin 0 → Fin S2x2048x12x64.rank)
  reducesTo_S2x2048x12x64_S_d0_1_2_3 : S2x2048x12x64.ReducesTo [0, 1, 2, 3] S_
  h_S_ : 0 < S_.numel
  bcast_S_S12x128x256 : S_.BroadcastsInDim S12x128x256 (![] : Fin 0 → Fin S12x128x256.rank)
  reducesTo_S12x128x256_S_d0_1_2 : S12x128x256.ReducesTo [0, 1, 2] S_
  bcast_S_S2x2048x12 : S_.BroadcastsInDim S2x2048x12 (![] : Fin 0 → Fin S2x2048x12.rank)
  reducesTo_S2x2048x12_S_d0_1_2 : S2x2048x12.ReducesTo [0, 1, 2] S_

variable [Facts]

def fn_part2 {F : FTy → Type} [FloatOps F] (main_arg7 : FVec F S2x2048x12 .f32) (main_arg8 : FVec F S2x2048x12x64 .f32) (main_v33 : IVec S_ 1) : IVec S_ 1 :=
  let main_v34 : FVec F S2x2048x12 .f32 := Host.absf main_arg7
  let main_cst_12 : FVec F S_ .f32 := constant S_ .f32 0x7F800000#32
  let main_v35 : FVec F S2x2048x12 .f32 := broadcastInDim S2x2048x12 ![] bcast_S_S2x2048x12 main_cst_12
  let main_v36 : IVec S2x2048x12 1 := cmpf .olt main_v34 main_v35
  let main_c_13 : IVec S_ 1 := constantI S_ 1 1#1
  let main_v37 : IVec S_ 1 := (fun x v => Host.reduce IntOp.andi x v reducesTo_S2x2048x12_S_d0_1_2 h_S_) main_v36 main_c_13
  let main_v38 : IVec S_ 1 := andi main_v33 main_v37
  let main_v39 : FVec F S2x2048x12x64 .f32 := Host.absf main_arg8
  let main_cst_14 : FVec F S_ .f32 := constant S_ .f32 0x7F800000#32
  let main_v40 : FVec F S2x2048x12x64 .f32 := broadcastInDim S2x2048x12x64 ![] bcast_S_S2x2048x12x64 main_cst_14
  let main_v41 : IVec S2x2048x12x64 1 := cmpf .olt main_v39 main_v40
  let main_c_15 : IVec S_ 1 := constantI S_ 1 1#1
  let main_v42 : IVec S_ 1 := (fun x v => Host.reduce IntOp.andi x v reducesTo_S2x2048x12x64_S_d0_1_2_3 h_S_) main_v41 main_c_15
  let main_v43 : IVec S_ 1 := andi main_v38 main_v42
  main_v43

def fn_part1 {F : FTy → Type} [FloatOps F] (main_arg4 : FVec F S2x2048x12x64 .f32) (main_arg5 : FVec F S2x2048x12 .f32) (main_arg6 : FVec F S2x2048x12x64 .f32) (main_arg7 : FVec F S2x2048x12 .f32) (main_arg8 : FVec F S2x2048x12x64 .f32) (main_v13 : IVec S_ 1) (main_v16 : IVec S12x128x256 1) : IVec S_ 1 :=
  let main_c_5 : IVec S_ 1 := constantI S_ 1 1#1
  let main_v17 : IVec S_ 1 := (fun x v => Host.reduce IntOp.andi x v reducesTo_S12x128x256_S_d0_1_2 h_S_) main_v16 main_c_5
  let main_v18 : IVec S_ 1 := andi main_v13 main_v17
  let main_v19 : FVec F S2x2048x12x64 .f32 := Host.absf main_arg4
  let main_cst_6 : FVec F S_ .f32 := constant S_ .f32 0x7F800000#32
  let main_v20 : FVec F S2x2048x12x64 .f32 := broadcastInDim S2x2048x12x64 ![] bcast_S_S2x2048x12x64 main_cst_6
  let main_v21 : IVec S2x2048x12x64 1 := cmpf .olt main_v19 main_v20
  let main_c_7 : IVec S_ 1 := constantI S_ 1 1#1
  let main_v22 : IVec S_ 1 := (fun x v => Host.reduce IntOp.andi x v reducesTo_S2x2048x12x64_S_d0_1_2_3 h_S_) main_v21 main_c_7
  let main_v23 : IVec S_ 1 := andi main_v18 main_v22
  let main_v24 : FVec F S2x2048x12 .f32 := Host.absf main_arg5
  let main_cst_8 : FVec F S_ .f32 := constant S_ .f32 0x7F800000#32
  let main_v25 : FVec F S2x2048x12 .f32 := broadcastInDim S2x2048x12 ![] bcast_S_S2x2048x12 main_cst_8
  let main_v26 : IVec S2x2048x12 1 := cmpf .olt main_v24 main_v25
  let main_c_9 : IVec S_ 1 := constantI S_ 1 1#1
  let main_v27 : IVec S_ 1 := (fun x v => Host.reduce IntOp.andi x v reducesTo_S2x2048x12_S_d0_1_2 h_S_) main_v26 main_c_9
  let main_v28 : IVec S_ 1 := andi main_v23 main_v27
  let main_v29 : FVec F S2x2048x12x64 .f32 := Host.absf main_arg6
  let main_cst_10 : FVec F S_ .f32 := constant S_ .f32 0x7F800000#32
  let main_v30 : FVec F S2x2048x12x64 .f32 := broadcastInDim S2x2048x12x64 ![] bcast_S_S2x2048x12x64 main_cst_10
  let main_v31 : IVec S2x2048x12x64 1 := cmpf .olt main_v29 main_v30
  let main_c_11 : IVec S_ 1 := constantI S_ 1 1#1
  let main_v32 : IVec S_ 1 := (fun x v => Host.reduce IntOp.andi x v reducesTo_S2x2048x12x64_S_d0_1_2_3 h_S_) main_v31 main_c_11
  let main_v33 : IVec S_ 1 := andi main_v28 main_v32
  fn_part2 (F := F) main_arg7 main_arg8 main_v33

def fn {F : FTy → Type} [FloatOps F] (main_arg0 : FVec F S2x2048x12x64 .f32) (main_arg1 : FVec F S2x2048x12x64 .f32) (main_arg2 : FVec F S2x2048x12x64 .f32) (main_arg3 : FVec F S12x128x256 .f32) (main_arg4 : FVec F S2x2048x12x64 .f32) (main_arg5 : FVec F S2x2048x12 .f32) (main_arg6 : FVec F S2x2048x12x64 .f32) (main_arg7 : FVec F S2x2048x12 .f32) (main_arg8 : FVec F S2x2048x12x64 .f32) : IVec S_ 1 :=
  let main_v0 : FVec F S2x2048x12x64 .f32 := Host.absf main_arg0
  let main_cst : FVec F S_ .f32 := constant S_ .f32 0x7F800000#32
  let main_v1 : FVec F S2x2048x12x64 .f32 := broadcastInDim S2x2048x12x64 ![] bcast_S_S2x2048x12x64 main_cst
  let main_v2 : IVec S2x2048x12x64 1 := cmpf .olt main_v0 main_v1
  let main_c : IVec S_ 1 := constantI S_ 1 1#1
  let main_v3 : IVec S_ 1 := (fun x v => Host.reduce IntOp.andi x v reducesTo_S2x2048x12x64_S_d0_1_2_3 h_S_) main_v2 main_c
  let main_v4 : FVec F S2x2048x12x64 .f32 := Host.absf main_arg1
  let main_cst_0 : FVec F S_ .f32 := constant S_ .f32 0x7F800000#32
  let main_v5 : FVec F S2x2048x12x64 .f32 := broadcastInDim S2x2048x12x64 ![] bcast_S_S2x2048x12x64 main_cst_0
  let main_v6 : IVec S2x2048x12x64 1 := cmpf .olt main_v4 main_v5
  let main_c_1 : IVec S_ 1 := constantI S_ 1 1#1
  let main_v7 : IVec S_ 1 := (fun x v => Host.reduce IntOp.andi x v reducesTo_S2x2048x12x64_S_d0_1_2_3 h_S_) main_v6 main_c_1
  let main_v8 : IVec S_ 1 := andi main_v3 main_v7
  let main_v9 : FVec F S2x2048x12x64 .f32 := Host.absf main_arg2
  let main_cst_2 : FVec F S_ .f32 := constant S_ .f32 0x7F800000#32
  let main_v10 : FVec F S2x2048x12x64 .f32 := broadcastInDim S2x2048x12x64 ![] bcast_S_S2x2048x12x64 main_cst_2
  let main_v11 : IVec S2x2048x12x64 1 := cmpf .olt main_v9 main_v10
  let main_c_3 : IVec S_ 1 := constantI S_ 1 1#1
  let main_v12 : IVec S_ 1 := (fun x v => Host.reduce IntOp.andi x v reducesTo_S2x2048x12x64_S_d0_1_2_3 h_S_) main_v11 main_c_3
  let main_v13 : IVec S_ 1 := andi main_v8 main_v12
  let main_v14 : FVec F S12x128x256 .f32 := Host.absf main_arg3
  let main_cst_4 : FVec F S_ .f32 := constant S_ .f32 0x7F800000#32
  let main_v15 : FVec F S12x128x256 .f32 := broadcastInDim S12x128x256 ![] bcast_S_S12x128x256 main_cst_4
  let main_v16 : IVec S12x128x256 1 := cmpf .olt main_v14 main_v15
  fn_part1 (F := F) main_arg4 main_arg5 main_arg6 main_arg7 main_arg8 main_v13 main_v16
-- ==== Attn.lean ====
abbrev S2x2048x12x64 : Shape := ⟨4, ![2, 2048, 12, 64]⟩
abbrev S12x128x256 : Shape := ⟨3, ![12, 128, 256]⟩
abbrev S2x2048x12 : Shape := ⟨3, ![2, 2048, 12]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S2x128x16x12x64 : Shape := ⟨5, ![2, 128, 16, 12, 64]⟩
abbrev S2x16x12x128x64 : Shape := ⟨5, ![2, 16, 12, 128, 64]⟩
abbrev S2x16x12x128x128 : Shape := ⟨5, ![2, 16, 12, 128, 128]⟩
abbrev S12x128x128 : Shape := ⟨3, ![12, 128, 128]⟩
abbrev S1x1x12x128x128 : Shape := ⟨5, ![1, 1, 12, 128, 128]⟩
abbrev S2x16x12x128 : Shape := ⟨4, ![2, 16, 12, 128]⟩
abbrev S2x16x12x128x1 : Shape := ⟨5, ![2, 16, 12, 128, 1]⟩
abbrev S2x128x16x12 : Shape := ⟨4, ![2, 128, 16, 12]⟩
abbrev S2x16x128x12 : Shape := ⟨4, ![2, 16, 128, 12]⟩
abbrev S2x16x4x128 : Shape := ⟨4, ![2, 16, 4, 128]⟩
abbrev S2x16x100x128 : Shape := ⟨4, ![2, 16, 100, 128]⟩
abbrev S2x16x128x128 : Shape := ⟨4, ![2, 16, 128, 128]⟩
abbrev S2x2048x6x128 : Shape := ⟨4, ![2, 2048, 6, 128]⟩
abbrev S2x2048x6x1x128 : Shape := ⟨5, ![2, 2048, 6, 1, 128]⟩
abbrev S2x2048x6x3x128 : Shape := ⟨5, ![2, 2048, 6, 3, 128]⟩
abbrev S2x2048x2304 : Shape := ⟨3, ![2, 2048, 2304]⟩
abbrev S2x2048x768 : Shape := ⟨3, ![2, 2048, 768]⟩
abbrev S2x128x16x768 : Shape := ⟨4, ![2, 128, 16, 768]⟩
abbrev S2x16x128x768 : Shape := ⟨4, ![2, 16, 128, 768]⟩
abbrev S2x128x16x2304 : Shape := ⟨4, ![2, 128, 16, 2304]⟩
abbrev S2x16x128x2304 : Shape := ⟨4, ![2, 16, 128, 2304]⟩
abbrev S1x1x128x2304 : Shape := ⟨4, ![1, 1, 128, 2304]⟩
abbrev S1x1x128x768 : Shape := ⟨4, ![1, 1, 128, 768]⟩
abbrev S1x1x128x128 : Shape := ⟨4, ![1, 1, 128, 128]⟩
abbrev S128x128 : Shape := ⟨2, ![128, 128]⟩
abbrev S1x1x128x1 : Shape := ⟨4, ![1, 1, 128, 1]⟩
abbrev S1x128x128 : Shape := ⟨3, ![1, 128, 128]⟩

abbrev nBuf : Space → Nat
  | .hbm => 127
  | .vmem => 10
  | .smem => 0
  | _ => 0

abbrev bufTy : (tb : Table) → Fin (tcTables nBuf tb) → BufTy
  | .hbm, ⟨0, _⟩ => ⟨S2x2048x12x64, .f32⟩
  | .hbm, ⟨1, _⟩ => ⟨S2x2048x12x64, .f32⟩
  | .hbm, ⟨2, _⟩ => ⟨S2x2048x12x64, .f32⟩
  | .hbm, ⟨3, _⟩ => ⟨S12x128x256, .f32⟩
  | .hbm, ⟨4, _⟩ => ⟨S2x2048x12x64, .f32⟩
  | .hbm, ⟨5, _⟩ => ⟨S2x2048x12, .f32⟩
  | .hbm, ⟨6, _⟩ => ⟨S2x2048x12x64, .f32⟩
  | .hbm, ⟨7, _⟩ => ⟨S2x2048x12, .f32⟩
  | .hbm, ⟨8, _⟩ => ⟨S2x2048x12x64, .f32⟩
  | .hbm, ⟨9, _⟩ => ⟨S128, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S256, .i32⟩
  | .hbm, ⟨15, _⟩ => ⟨S1x256, .i32⟩
  | .hbm, ⟨16, _⟩ => ⟨S128x256, .i32⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S128x256, .i1⟩
  | .hbm, ⟨26, _⟩ => ⟨S_, .f32⟩
  | .hbm, ⟨27, _⟩ => ⟨S_, .f32⟩
  | .hbm, ⟨28, _⟩ => ⟨S12x128x256, .i1⟩
  | .hbm, ⟨29, _⟩ => ⟨S12x128x256, .f32⟩
  | .hbm, ⟨30, _⟩ => ⟨S12x128x256, .f32⟩
  | .hbm, ⟨31, _⟩ => ⟨S2x128x16x12x64, .f32⟩
  | .hbm, ⟨32, _⟩ => ⟨S2x16x12x128x64, .f32⟩
  | .hbm, ⟨33, _⟩ => ⟨S2x128x16x12x64, .f32⟩
  | .hbm, ⟨34, _⟩ => ⟨S2x16x12x128x64, .f32⟩
  | .hbm, ⟨35, _⟩ => ⟨S2x16x12x128x128, .f32⟩
  | .hbm, ⟨36, _⟩ => ⟨S_, .f32⟩
  | .hbm, ⟨37, _⟩ => ⟨S2x16x12x128x128, .f32⟩
  | .hbm, ⟨38, _⟩ => ⟨S2x16x12x128x128, .f32⟩
  | .hbm, ⟨39, _⟩ => ⟨S12x128x128, .f32⟩
  | .hbm, ⟨40, _⟩ => ⟨S1x1x12x128x128, .f32⟩
  | .hbm, ⟨41, _⟩ => ⟨S2x16x12x128x128, .f32⟩
  | .hbm, ⟨42, _⟩ => ⟨S2x16x12x128x128, .f32⟩
  | .hbm, ⟨43, _⟩ => ⟨S_, .f32⟩
  | .hbm, ⟨44, _⟩ => ⟨S2x16x12x128, .f32⟩
  | .hbm, ⟨45, _⟩ => ⟨S2x16x12x128x1, .f32⟩
  | .hbm, ⟨46, _⟩ => ⟨S2x16x12x128x128, .f32⟩
  | .hbm, ⟨47, _⟩ => ⟨S2x16x12x128x128, .f32⟩
  | .hbm, ⟨48, _⟩ => ⟨S2x16x12x128x128, .f32⟩
  | .hbm, ⟨49, _⟩ => ⟨S_, .f32⟩
  | .hbm, ⟨50, _⟩ => ⟨S2x16x12x128, .f32⟩
  | .hbm, ⟨51, _⟩ => ⟨S2x16x12x128x1, .f32⟩
  | .hbm, ⟨52, _⟩ => ⟨S2x128x16x12x64, .f32⟩
  | .hbm, ⟨53, _⟩ => ⟨S2x16x12x128x64, .f32⟩
  | .hbm, ⟨54, _⟩ => ⟨S2x16x12x128x64, .f32⟩
  | .hbm, ⟨55, _⟩ => ⟨S2x16x12x128x64, .f32⟩
  | .hbm, ⟨56, _⟩ => ⟨S2x16x12x128x64, .f32⟩
  | .hbm, ⟨57, _⟩ => ⟨S2x16x12x128x1, .f32⟩
  | .hbm, ⟨58, _⟩ => ⟨S2x16x12x128x1, .f32⟩
  | .hbm, ⟨59, _⟩ => ⟨S2x16x12x128, .f32⟩
  | .hbm, ⟨60, _⟩ => ⟨S2x128x16x12, .f32⟩
  | .hbm, ⟨61, _⟩ => ⟨S2x16x128x12, .f32⟩
  | .hbm, ⟨62, _⟩ => ⟨S2x16x12x128, .f32⟩
  | .hbm, ⟨63, _⟩ => ⟨S2x128x16x12, .f32⟩
  | .hbm, ⟨64, _⟩ => ⟨S2x16x128x12, .f32⟩
  | .hbm, ⟨65, _⟩ => ⟨S2x16x12x128, .f32⟩
  | .hbm, ⟨66, _⟩ => ⟨S2x16x12x128, .f32⟩
  | .hbm, ⟨67, _⟩ => ⟨S2x16x12x128, .f32⟩
  | .hbm, ⟨68, _⟩ => ⟨S2x16x12x128, .f32⟩
  | .hbm, ⟨69, _⟩ => ⟨S2x16x12x128, .f32⟩
  | .hbm, ⟨70, _⟩ => ⟨S2x16x12x128, .f32⟩
  | .hbm, ⟨71, _⟩ => ⟨S2x16x12x128, .f32⟩
  | .hbm, ⟨72, _⟩ => ⟨S2x16x12x128, .f32⟩
  | .hbm, ⟨73, _⟩ => ⟨S2x16x12x128, .f32⟩
  | .hbm, ⟨74, _⟩ => ⟨S2x16x12x128, .f32⟩
  | .hbm, ⟨75, _⟩ => ⟨S2x16x12x128, .f32⟩
  | .hbm, ⟨76, _⟩ => ⟨S2x16x12x128, .f32⟩
  | .hbm, ⟨77, _⟩ => ⟨S2x16x12x128, .f32⟩
  | .hbm, ⟨78, _⟩ => ⟨S2x16x12x128, .f32⟩
  | .hbm, ⟨79, _⟩ => ⟨S2x16x12x128, .f32⟩
  | .hbm, ⟨80, _⟩ => ⟨S2x16x12x128x1, .f32⟩
  | .hbm, ⟨81, _⟩ => ⟨S2x128x16x12x64, .f32⟩
  | .hbm, ⟨82, _⟩ => ⟨S2x16x12x128x64, .f32⟩
  | .hbm, ⟨83, _⟩ => ⟨S2x16x12x128x64, .f32⟩
  | .hbm, ⟨84, _⟩ => ⟨S2x16x12x128x64, .f32⟩
  | .hbm, ⟨85, _⟩ => ⟨S2x16x12x128, .f32⟩
  | .hbm, ⟨86, _⟩ => ⟨S2x16x12x128, .f32⟩
  | .hbm, ⟨87, _⟩ => ⟨S2x16x12x128x1, .f32⟩
  | .hbm, ⟨88, _⟩ => ⟨S2x128x16x12x64, .f32⟩
  | .hbm, ⟨89, _⟩ => ⟨S2x16x12x128x64, .f32⟩
  | .hbm, ⟨90, _⟩ => ⟨S2x16x12x128x64, .f32⟩
  | .hbm, ⟨91, _⟩ => ⟨S2x16x12x128x64, .f32⟩
  | .hbm, ⟨92, _⟩ => ⟨S2x16x12x128x64, .f32⟩
  | .hbm, ⟨93, _⟩ => ⟨S2x16x12x128, .f32⟩
  | .hbm, ⟨94, _⟩ => ⟨S2x16x12x128, .f32⟩
  | .hbm, ⟨95, _⟩ => ⟨S2x16x12x128x1, .f32⟩
  | .hbm, ⟨96, _⟩ => ⟨S2x16x12x128x64, .f32⟩
  | .hbm, ⟨97, _⟩ => ⟨S2x16x12x128x64, .f32⟩
  | .hbm, ⟨98, _⟩ => ⟨S2x16x12x128x64, .f32⟩
  | .hbm, ⟨99, _⟩ => ⟨S2x128x16x12x64, .f32⟩
  | .hbm, ⟨100, _⟩ => ⟨S2x16x12x128x64, .f32⟩
  | .hbm, ⟨101, _⟩ => ⟨S2x16x12x128x64, .f32⟩
  | .hbm, ⟨102, _⟩ => ⟨S_, .f32⟩
  | .hbm, ⟨103, _⟩ => ⟨S2x16x12x128, .f32⟩
  | .hbm, ⟨104, _⟩ => ⟨S_, .f32⟩
  | .hbm, ⟨105, _⟩ => ⟨S2x16x4x128, .f32⟩
  | .hbm, ⟨106, _⟩ => ⟨S_, .f32⟩
  | .hbm, ⟨107, _⟩ => ⟨S2x16x100x128, .f32⟩
  | .hbm, ⟨108, _⟩ => ⟨S2x16x128x128, .f32⟩
  | .hbm, ⟨109, _⟩ => ⟨S2x2048x6x128, .f32⟩
  | .hbm, ⟨110, _⟩ => ⟨S2x2048x6x128, .f32⟩
  | .hbm, ⟨111, _⟩ => ⟨S2x2048x6x128, .f32⟩
  | .hbm, ⟨112, _⟩ => ⟨S2x2048x6x1x128, .f32⟩
  | .hbm, ⟨113, _⟩ => ⟨S2x2048x6x1x128, .f32⟩
  | .hbm, ⟨114, _⟩ => ⟨S2x2048x6x1x128, .f32⟩
  | .hbm, ⟨115, _⟩ => ⟨S2x2048x6x3x128, .f32⟩
  | .hbm, ⟨116, _⟩ => ⟨S2x2048x2304, .f32⟩
  | .hbm, ⟨117, _⟩ => ⟨S2x2048x768, .f32⟩
  | .hbm, ⟨118, _⟩ => ⟨S2x128x16x768, .f32⟩
  | .hbm, ⟨119, _⟩ => ⟨S2x16x128x768, .f32⟩
  | .hbm, ⟨120, _⟩ => ⟨S2x16x128x768, .bf16⟩
  | .hbm, ⟨121, _⟩ => ⟨S2x16x128x128, .f32⟩
  | .hbm, ⟨122, _⟩ => ⟨S2x128x16x2304, .f32⟩
  | .hbm, ⟨123, _⟩ => ⟨S2x16x128x2304, .f32⟩
  | .hbm, ⟨124, _⟩ => ⟨S2x16x128x2304, .bf16⟩
  | .hbm, ⟨125, _⟩ => ⟨S2x16x128x2304, .bf16⟩
  | .hbm, ⟨126, _⟩ => ⟨S12x128x256, .f32⟩
  | .local _ .vmem, ⟨0, _⟩ => ⟨S1x1x128x2304, .bf16⟩
  | .local _ .vmem, ⟨1, _⟩ => ⟨S1x1x128x2304, .bf16⟩
  | .local _ .vmem, ⟨2, _⟩ => ⟨S12x128x256, .f32⟩
  | .local _ .vmem, ⟨3, _⟩ => ⟨S1x1x128x768, .bf16⟩
  | .local _ .vmem, ⟨4, _⟩ => ⟨S1x1x128x768, .bf16⟩
  | .local _ .vmem, ⟨5, _⟩ => ⟨S1x1x128x128, .f32⟩
  | .local _ .vmem, ⟨6, _⟩ => ⟨S1x1x128x128, .f32⟩
  | .local _ .vmem, ⟨7, _⟩ => ⟨S1x1x128x2304, .bf16⟩
  | .local _ .vmem, ⟨8, _⟩ => ⟨S1x1x128x2304, .bf16⟩
  | .local _ .vmem, ⟨9, _⟩ => ⟨S12x128x256, .f32⟩
  | _, _ => ⟨S2x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_5 : Ref sig .tc := ⟨.hbm, 102, rfl⟩
abbrev main_v83 : Ref sig .tc := ⟨.hbm, 103, rfl⟩
abbrev main_cst_6 : Ref sig .tc := ⟨.hbm, 104, rfl⟩
abbrev main_v84 : Ref sig .tc := ⟨.hbm, 105, rfl⟩
abbrev main_cst_7 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103_0 : Ref sig .tc := ⟨.hbm, 125, rfl⟩
abbrev main_v103_1 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S12x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1x1x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1x128x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S12x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]
-- ==== AttnRefIdeal.lean ====
abbrev S2x2048x12x64 : Shape := ⟨4, ![2, 2048, 12, 64]⟩
abbrev S12x128x256 : Shape := ⟨3, ![12, 128, 256]⟩
abbrev S2x2048x12 : Shape := ⟨3, ![2, 2048, 12]⟩
abbrev S2x128x16x12x64 : Shape := ⟨5, ![2, 128, 16, 12, 64]⟩
abbrev S2x16x12x128x128 : Shape := ⟨5, ![2, 16, 12, 128, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S12x128x128 : Shape := ⟨3, ![12, 128, 128]⟩
abbrev S1x1x12x128x128 : Shape := ⟨5, ![1, 1, 12, 128, 128]⟩
abbrev S2x16x12x128 : Shape := ⟨4, ![2, 16, 12, 128]⟩
abbrev S2x16x12x128x1 : Shape := ⟨5, ![2, 16, 12, 128, 1]⟩
abbrev S2x16x12x128x64 : Shape := ⟨5, ![2, 16, 12, 128, 64]⟩
abbrev S2x128x16x12 : Shape := ⟨4, ![2, 128, 16, 12]⟩
abbrev S1x2x2048x12 : Shape := ⟨4, ![1, 2, 2048, 12]⟩
abbrev S3x2x2048x12 : Shape := ⟨4, ![3, 2, 2048, 12]⟩
abbrev S3x2x2048x12x1 : Shape := ⟨5, ![3, 2, 2048, 12, 1]⟩
abbrev S1x2x2048x12x64 : Shape := ⟨5, ![1, 2, 2048, 12, 64]⟩
abbrev S3x2x2048x12x64 : Shape := ⟨5, ![3, 2, 2048, 12, 64]⟩
abbrev S2x16x12x64x128 : Shape := ⟨5, ![2, 16, 12, 64, 128]⟩
abbrev S2x2048x6x128 : Shape := ⟨4, ![2, 2048, 6, 128]⟩
abbrev S2x2048x6x1x128 : Shape := ⟨5, ![2, 2048, 6, 1, 128]⟩
abbrev S2x2048x6x3x128 : Shape := ⟨5, ![2, 2048, 6, 3, 128]⟩
abbrev S2x128x16x2304 : Shape := ⟨4, ![2, 128, 16, 2304]⟩
abbrev S2x16x128x2304 : Shape := ⟨4, ![2, 16, 128, 2304]⟩

abbrev nBuf : Space → Nat
  | .hbm => 229
  | .vmem => 0
  | .smem => 0
  | _ => 0

abbrev hbmTy0_0 (i : Nat) : BufTy := match i % 128 with
  | 0 => ⟨S2x2048x12x64, .f32⟩
  | 1 => ⟨S2x2048x12x64, .f32⟩
  | 2 => ⟨S2x2048x12x64, .f32⟩
  | 3 => ⟨S12x128x256, .f32⟩
  | 4 => ⟨S2x2048x12x64, .f32⟩
  | 5 => ⟨S2x2048x12, .f32⟩
  | 6 => ⟨S2x2048x12x64, .f32⟩
  | 7 => ⟨S2x2048x12, .f32⟩
  | 8 => ⟨S2x2048x12x64, .f32⟩
  | 9 => ⟨S2x128x16x12x64, .f32⟩
  | 10 => ⟨S2x128x16x12x64, .f32⟩
  | 11 => ⟨S2x128x16x12x64, .f32⟩
  | 12 => ⟨S2x16x12x128x128, .f32⟩
  | 13 => ⟨S_, .f32⟩
  | 14 => ⟨S2x16x12x128x128, .f32⟩
  | 15 => ⟨S2x16x12x128x128, .f32⟩
  | 16 => ⟨S128, .i32⟩
  | 17 => ⟨S128x1, .i32⟩
  | 18 => ⟨S128, .i32⟩
  | 19 => ⟨S1x128, .i32⟩
  | 20 => ⟨S128x128, .i32⟩
  | 21 => ⟨S128x128, .i32⟩
  | 22 => ⟨S128x128, .i32⟩
  | 23 => ⟨S_, .i32⟩
  | 24 => ⟨S128x128, .i32⟩
  | 25 => ⟨S128x128, .i1⟩
  | 26 => ⟨S_, .i32⟩
  | 27 => ⟨S128x128, .i32⟩
  | 28 => ⟨S128x128, .i1⟩
  | 29 => ⟨S128x128, .i1⟩
  | 30 => ⟨S12x128x128, .f32⟩
  | 31 => ⟨S1x1x12x128x128, .f32⟩
  | 32 => ⟨S2x16x12x128x128, .f32⟩
  | 33 => ⟨S2x16x12x128x128, .f32⟩
  | 34 => ⟨S_, .f32⟩
  | 35 => ⟨S_, .f32⟩
  | 36 => ⟨S2x16x12x128x128, .i1⟩
  | 37 => ⟨S2x16x12x128x128, .f32⟩
  | 38 => ⟨S2x16x12x128x128, .f32⟩
  | 39 => ⟨S_, .f32⟩
  | 40 => ⟨S2x16x12x128x128, .f32⟩
  | 41 => ⟨S_, .f32⟩
  | 42 => ⟨S2x16x12x128, .f32⟩
  | 43 => ⟨S2x16x12x128x1, .f32⟩
  | 44 => ⟨S2x16x12x128x128, .f32⟩
  | 45 => ⟨S2x16x12x128x128, .i1⟩
  | 46 => ⟨S2x16x12x128x128, .f32⟩
  | 47 => ⟨S_, .f32⟩
  | 48 => ⟨S2x16x12x128, .f32⟩
  | 49 => ⟨S2x16x12x128x1, .f32⟩
  | 50 => ⟨S2x16x12x128x128, .f32⟩
  | 51 => ⟨S2x16x12x128x128, .f32⟩
  | 52 => ⟨S2x16x12x128x128, .f32⟩
  | 53 => ⟨S_, .f32⟩
  | 54 => ⟨S2x16x12x128, .f32⟩
  | 55 => ⟨S2x16x12x128x64, .f32⟩
  | 56 => ⟨S2x16x12x128x1, .f32⟩
  | 57 => ⟨S2x16x12x128x64, .f32⟩
  | 58 => ⟨S2x16x12x128x64, .f32⟩
  | 59 => ⟨S2x16x12x128x1, .f32⟩
  | 60 => ⟨S_, .f32⟩
  | 61 => ⟨S2x16x12x128x1, .f32⟩
  | 62 => ⟨S2x16x12x128x1, .f32⟩
  | 63 => ⟨S2x16x12x128, .f32⟩
  | 64 => ⟨S2x16x12x128, .f32⟩
  | 65 => ⟨S2x16x12x128, .f32⟩
  | 66 => ⟨S2x128x16x12x64, .f32⟩
  | 67 => ⟨S2x2048x12x64, .f32⟩
  | 68 => ⟨S2x128x16x12, .f32⟩
  | 69 => ⟨S2x2048x12, .f32⟩
  | 70 => ⟨S1x2x2048x12, .f32⟩
  | 71 => ⟨S1x2x2048x12, .f32⟩
  | 72 => ⟨S1x2x2048x12, .f32⟩
  | 73 => ⟨S3x2x2048x12, .f32⟩
  | 74 => ⟨S_, .f32⟩
  | 75 => ⟨S2x2048x12, .f32⟩
  | 76 => ⟨S_, .f32⟩
  | 77 => ⟨S2x2048x12, .f32⟩
  | 78 => ⟨S_, .f32⟩
  | 79 => ⟨S2x2048x12, .f32⟩
  | 80 => ⟨S1x2x2048x12, .f32⟩
  | 81 => ⟨S3x2x2048x12, .f32⟩
  | 82 => ⟨S3x2x2048x12, .i1⟩
  | 83 => ⟨S3x2x2048x12, .f32⟩
  | 84 => ⟨S_, .f32⟩
  | 85 => ⟨S2x2048x12, .f32⟩
  | 86 => ⟨S_, .f32⟩
  | 87 => ⟨S2x2048x12, .f32⟩
  | 88 => ⟨S2x2048x12, .f32⟩
  | 89 => ⟨S_, .f32⟩
  | 90 => ⟨S2x2048x12, .f32⟩
  | 91 => ⟨S2x2048x12, .i1⟩
  | 92 => ⟨S_, .f32⟩
  | 93 => ⟨S2x2048x12, .f32⟩
  | 94 => ⟨S2x2048x12, .i1⟩
  | 95 => ⟨S_, .f32⟩
  | 96 => ⟨S2x2048x12, .f32⟩
  | 97 => ⟨S_, .f32⟩
  | 98 => ⟨S2x2048x12, .f32⟩
  | 99 => ⟨S_, .f32⟩
  | 100 => ⟨S2x2048x12, .f32⟩
  | 101 => ⟨S2x2048x12, .f32⟩
  | 102 => ⟨S2x2048x12, .f32⟩
  | 103 => ⟨S1x2x2048x12, .f32⟩
  | 104 => ⟨S3x2x2048x12, .f32⟩
  | 105 => ⟨S3x2x2048x12, .f32⟩
  | 106 => ⟨S3x2x2048x12, .f32⟩
  | 107 => ⟨S_, .f32⟩
  | 108 => ⟨S2x2048x12, .f32⟩
  | 109 => ⟨S1x2x2048x12, .f32⟩
  | 110 => ⟨S3x2x2048x12, .f32⟩
  | 111 => ⟨S3x2x2048x12, .f32⟩
  | 112 => ⟨S1x2x2048x12, .f32⟩
  | 113 => ⟨S_, .f32⟩
  | 114 => ⟨S1x2x2048x12, .f32⟩
  | 115 => ⟨S1x2x2048x12, .f32⟩
  | 116 => ⟨S3x2x2048x12x1, .f32⟩
  | 117 => ⟨S1x2x2048x12x64, .f32⟩
  | 118 => ⟨S1x2x2048x12x64, .f32⟩
  | 119 => ⟨S1x2x2048x12x64, .f32⟩
  | 120 => ⟨S3x2x2048x12x64, .f32⟩
  | 121 => ⟨S_, .f32⟩
  | 122 => ⟨S2x2048x12x64, .f32⟩
  | 123 => ⟨S_, .f32⟩
  | 124 => ⟨S2x2048x12x64, .f32⟩
  | 125 => ⟨S3x2x2048x12x64, .f32⟩
  | 126 => ⟨S3x2x2048x12x64, .f32⟩
  | 127 => ⟨S_, .f32⟩
  | _ => ⟨S2x2048x12x64, .f32⟩

abbrev hbmTy0_1 (i : Nat) : BufTy := match i % 128 with
  | 0 => ⟨S2x2048x12x64, .f32⟩
  | 1 => ⟨S3x2x2048x12x64, .f32⟩
  | 2 => ⟨S3x2x2048x12x64, .f32⟩
  | 3 => ⟨S3x2x2048x12x64, .f32⟩
  | 4 => ⟨S3x2x2048x12x64, .f32⟩
  | 5 => ⟨S_, .f32⟩
  | 6 => ⟨S3x2x2048x12, .f32⟩
  | 7 => ⟨S3x2x2048x12x1, .f32⟩
  | 8 => ⟨S1x2x2048x12x64, .f32⟩
  | 9 => ⟨S2x2048x12x64, .f32⟩
  | 10 => ⟨S1x2x2048x12x64, .f32⟩
  | 11 => ⟨S2x2048x12x64, .f32⟩
  | 12 => ⟨S1x2x2048x12x64, .f32⟩
  | 13 => ⟨S2x2048x12x64, .f32⟩
  | 14 => ⟨S_, .f32⟩
  | 15 => ⟨S3x2x2048x12, .f32⟩
  | 16 => ⟨S3x2x2048x12, .f32⟩
  | 17 => ⟨S3x2x2048x12, .f32⟩
  | 18 => ⟨S3x2x2048x12, .f32⟩
  | 19 => ⟨S_, .f32⟩
  | 20 => ⟨S2x2048x12, .f32⟩
  | 21 => ⟨S1x2x2048x12, .f32⟩
  | 22 => ⟨S1x2x2048x12, .f32⟩
  | 23 => ⟨S3x2x2048x12, .f32⟩
  | 24 => ⟨S3x2x2048x12, .f32⟩
  | 25 => ⟨S_, .f32⟩
  | 26 => ⟨S2x2048x12, .f32⟩
  | 27 => ⟨S3x2x2048x12, .f32⟩
  | 28 => ⟨S3x2x2048x12, .f32⟩
  | 29 => ⟨S3x2x2048x12, .f32⟩
  | 30 => ⟨S1x2x2048x12, .f32⟩
  | 31 => ⟨S2x2048x12, .f32⟩
  | 32 => ⟨S1x2x2048x12, .f32⟩
  | 33 => ⟨S2x2048x12, .f32⟩
  | 34 => ⟨S1x2x2048x12, .f32⟩
  | 35 => ⟨S2x2048x12, .f32⟩
  | 36 => ⟨S2x128x16x12, .f32⟩
  | 37 => ⟨S2x16x12x128, .f32⟩
  | 38 => ⟨S2x128x16x12x64, .f32⟩
  | 39 => ⟨S2x16x12x128x64, .f32⟩
  | 40 => ⟨S2x16x12x128, .f32⟩
  | 41 => ⟨S2x16x12x128x1, .f32⟩
  | 42 => ⟨S2x16x12x128x64, .f32⟩
  | 43 => ⟨S2x16x12x128x64, .f32⟩
  | 44 => ⟨S2x16x12x128x64, .f32⟩
  | 45 => ⟨S_, .f32⟩
  | 46 => ⟨S2x16x12x128, .f32⟩
  | 47 => ⟨S2x16x12x128x1, .f32⟩
  | 48 => ⟨S2x16x12x128x1, .f32⟩
  | 49 => ⟨S2x16x12x128x64, .f32⟩
  | 50 => ⟨S2x16x12x128x64, .f32⟩
  | 51 => ⟨S_, .f32⟩
  | 52 => ⟨S2x16x12x128, .f32⟩
  | 53 => ⟨S2x16x12x128, .f32⟩
  | 54 => ⟨S2x16x12x64x128, .f32⟩
  | 55 => ⟨S2x128x16x12x64, .f32⟩
  | 56 => ⟨S2x16x12x128x128, .f32⟩
  | 57 => ⟨S2x16x12x128x128, .f32⟩
  | 58 => ⟨S2x16x12x128x128, .f32⟩
  | 59 => ⟨S2x16x12x128x128, .f32⟩
  | 60 => ⟨S2x16x12x128x128, .f32⟩
  | 61 => ⟨S_, .f32⟩
  | 62 => ⟨S2x16x12x128, .f32⟩
  | 63 => ⟨S2x16x12x128x1, .f32⟩
  | 64 => ⟨S2x16x12x128x1, .f32⟩
  | 65 => ⟨S_, .f32⟩
  | 66 => ⟨S2x16x12x128, .f32⟩
  | 67 => ⟨S2x16x12x128, .f32⟩
  | 68 => ⟨S2x16x12x128x128, .f32⟩
  | 69 => ⟨S2x16x12x128x128, .f32⟩
  | 70 => ⟨S2x16x12x128x128, .f32⟩
  | 71 => ⟨S_, .f32⟩
  | 72 => ⟨S2x16x12x128x128, .f32⟩
  | 73 => ⟨S2x16x12x128x128, .f32⟩
  | 74 => ⟨S_, .f32⟩
  | 75 => ⟨S12x128x128, .f32⟩
  | 76 => ⟨S1x1x12x128x128, .f32⟩
  | 77 => ⟨S_, .f32⟩
  | 78 => ⟨S12x128x128, .f32⟩
  | 79 => ⟨S_, .f32⟩
  | 80 => ⟨S12x128x256, .f32⟩
  | 81 => ⟨S_, .f32⟩
  | 82 => ⟨S2x16x12x128x128, .f32⟩
  | 83 => ⟨S2x16x12x128x128, .f32⟩
  | 84 => ⟨S2x16x12x128x64, .f32⟩
  | 85 => ⟨S2x128x16x12x64, .f32⟩
  | 86 => ⟨S2x16x12x128x64, .f32⟩
  | 87 => ⟨S2x128x16x12x64, .f32⟩
  | 88 => ⟨S2x2048x12x64, .f32⟩
  | 89 => ⟨S2x2048x12x64, .f32⟩
  | 90 => ⟨S2x2048x12x64, .f32⟩
  | 91 => ⟨S2x2048x6x128, .f32⟩
  | 92 => ⟨S2x2048x6x128, .f32⟩
  | 93 => ⟨S2x2048x6x128, .f32⟩
  | 94 => ⟨S2x2048x6x1x128, .f32⟩
  | 95 => ⟨S2x2048x6x1x128, .f32⟩
  | 96 => ⟨S2x2048x6x1x128, .f32⟩
  | 97 => ⟨S2x2048x6x3x128, .f32⟩
  | 98 => ⟨S2x128x16x2304, .f32⟩
  | 99 => ⟨S2x16x128x2304, .f32⟩
  | 100 => ⟨S2x16x128x2304, .bf16⟩
  | _ => ⟨S2x2048x12x64, .f32⟩

abbrev hbmTy (i : Nat) : BufTy := match i / 128 with
  | 0 => hbmTy0_0 i
  | 1 => hbmTy0_1 i
  | _ => ⟨S2x2048x12x64, .f32⟩

abbrev bufTy : (tb : Table) → Fin (tcTables nBuf tb) → BufTy
  | .hbm, ⟨i, _⟩ => hbmTy i
  | _, _ => ⟨S2x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_call0_v0 : Ref sig .tc := ⟨.hbm, 35, rfl⟩
abbrev main_v22_1 : Ref sig .tc := ⟨.hbm, 36, rfl⟩
abbrev main_call0_v2 : Ref sig .tc := ⟨.hbm, 37, rfl⟩
abbrev main_v22_0 : Ref sig .tc := ⟨.hbm, 38, rfl⟩
abbrev main_call0_cst : Ref sig .tc := ⟨.hbm, 39, rfl⟩
abbrev main_v22_2 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_17 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_cst_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_21 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_22 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_23 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_24 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_25 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_26 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_27 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_28 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_call1_cst : Ref sig .tc := ⟨.hbm, 199, rfl⟩
abbrev main_call1_v0 : Ref sig .tc := ⟨.hbm, 200, rfl⟩
abbrev main_v154 : Ref sig .tc := ⟨.hbm, 201, rfl⟩
abbrev main_cst_29 : Ref sig .tc := ⟨.hbm, 202, rfl⟩
abbrev main_v155 : Ref sig .tc := ⟨.hbm, 203, rfl⟩
abbrev main_v156 : Ref sig .tc := ⟨.hbm, 204, rfl⟩
abbrev main_cst_30 : Ref sig .tc := ⟨.hbm, 205, rfl⟩
abbrev main_v157 : Ref sig .tc := ⟨.hbm, 206, rfl⟩
abbrev main_cst_31 : Ref sig .tc := ⟨.hbm, 207, rfl⟩
abbrev main_v158 : Ref sig .tc := ⟨.hbm, 208, rfl⟩
abbrev main_cst_32 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩

abbrev nD : Nat := 1
abbrev τ : Topo := Topo.v7x

variable {F : FTy → Type} [FloatOps F]
-- ==== Gate.lean ====
abbrev S2x2048x1024 : Shape := ⟨3, ![2, 2048, 1024]⟩
abbrev S2x2048x2048 : Shape := ⟨3, ![2, 2048, 2048]⟩
abbrev S3x1024 : Shape := ⟨2, ![3, 1024]⟩
abbrev S1024x1024 : Shape := ⟨2, ![1024, 1024]⟩
abbrev S_ : Shape := ⟨0, ![]⟩
abbrev S8x1024 : Shape := ⟨2, ![8, 1024]⟩
abbrev S1x256x1024 : Shape := ⟨3, ![1, 256, 1024]⟩
abbrev S1x256x2048 : Shape := ⟨3, ![1, 256, 2048]⟩
abbrev S256x1024 : Shape := ⟨2, ![256, 1024]⟩
abbrev S1x1024 : Shape := ⟨2, ![1, 1024]⟩
abbrev S1024 : Shape := ⟨1, ![1024]⟩

abbrev nBuf : Space → Nat
  | .hbm => 15
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x2048, .f32⟩
  | .hbm, ⟨3, _⟩ => ⟨S3x1024, .f32⟩
  | .hbm, ⟨4, _⟩ => ⟨S1024x1024, .f32⟩
  | .hbm, ⟨5, _⟩ => ⟨S2x2048x1024, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S2x2048x1024, .bf16⟩
  | .hbm, ⟨10, _⟩ => ⟨S1024x1024, .bf16⟩
  | .hbm, ⟨11, _⟩ => ⟨S2x2048x1024, .bf16⟩
  | .hbm, ⟨12, _⟩ => ⟨S2x2048x1024, .bf16⟩
  | .hbm, ⟨13, _⟩ => ⟨S2x2048x2048, .bf16⟩
  | .hbm, ⟨14, _⟩ => ⟨S8x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S8x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x2048, .bf16⟩
  | .local _ .vmem, ⟨17, _⟩ => ⟨S1x256x2048, .bf16⟩
  | .local _ .vmem, ⟨18, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== GateRefIdeal.lean ====
abbrev S2x2048x1024 : Shape := ⟨3, ![2, 2048, 1024]⟩
abbrev S2x2048x2048 : Shape := ⟨3, ![2, 2048, 2048]⟩
abbrev S3x1024 : Shape := ⟨2, ![3, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S8x1024 : Shape := ⟨2, ![8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x2048, .f32⟩
  | .hbm, ⟨3, _⟩ => ⟨S3x1024, .f32⟩
  | .hbm, ⟨4, _⟩ => ⟨S1024x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S1x1024, .f32⟩
  | .hbm, ⟨9, _⟩ => ⟨S1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S3x1024, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S3x1024, .f32⟩
  | .hbm, ⟨69, _⟩ => ⟨S3x1024, .f32⟩
  | .hbm, ⟨70, _⟩ => ⟨S2x2048x2048, .f32⟩
  | .hbm, ⟨71, _⟩ => ⟨S2x2048x1024, .bf16⟩
  | .hbm, ⟨72, _⟩ => ⟨S2x2048x1024, .bf16⟩
  | .hbm, ⟨73, _⟩ => ⟨S2x2048x2048, .bf16⟩
  | .hbm, ⟨74, _⟩ => ⟨S_, .i32⟩
  | .hbm, ⟨75, _⟩ => ⟨S_, .f32⟩
  | .hbm, ⟨76, _⟩ => ⟨S8x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c : Ref sig .tc := ⟨.hbm, 74, rfl⟩
abbrev main_call0_v0 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== DwQkv.lean ====
abbrev S2x2048x1024 : Shape := ⟨3, ![2, 2048, 1024]⟩
abbrev S2x2048x2304 : Shape := ⟨3, ![2, 2048, 2304]⟩
abbrev S2304x1024 : Shape := ⟨2, ![2304, 1024]⟩
abbrev S1x512x1024 : Shape := ⟨3, ![1, 512, 1024]⟩
abbrev S1x512x2304 : Shape := ⟨3, ![1, 512, 2304]⟩
abbrev S512x1024 : Shape := ⟨2, ![512, 1024]⟩
abbrev S512x2304 : Shape := ⟨2, ![512, 2304]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2304, .f32⟩
  | .hbm, ⟨2, _⟩ => ⟨S2x2048x1024, .bf16⟩
  | .hbm, ⟨3, _⟩ => ⟨S2x2048x2304, .bf16⟩
  | .hbm, ⟨4, _⟩ => ⟨S2304x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x2304, .bf16⟩
  | .local _ .vmem, ⟨3, _⟩ => ⟨S1x512x2304, .bf16⟩
  | .local _ .vmem, ⟨4, _⟩ => ⟨S2304x1024, .bf16⟩
  | .local _ .vmem, ⟨5, _⟩ => ⟨S2304x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c1_i32 : BitVec 32 := 1#32
  let v15 : BitVec 1 := Scalar.cmpi .eq arg0 c1_i32
  let arg1 : BitVec 32 := BitVec.ofNat 32 (i 1).val
  let c3_i32 : BitVec 32 := 3#32
  let v16 : BitVec 1 := Scalar.cmpi .eq arg1 c3_i32
  let v17 : BitVec 1 := Scalar.andi v15 v16
  let v18 : BitVec 32 := Scalar.extui v17
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DwQkvRefIdeal.lean ====
abbrev S2x2048x1024 : Shape := ⟨3, ![2, 2048, 1024]⟩
abbrev S2x2048x2304 : Shape := ⟨3, ![2, 2048, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2304, .f32⟩
  | .hbm, ⟨2, _⟩ => ⟨S_, .f32⟩
  | .hbm, ⟨3, _⟩ => ⟨S1024x2304, .f32⟩
  | .hbm, ⟨4, _⟩ => ⟨S2x2048x2304, .f32⟩
  | .hbm, ⟨5, _⟩ => ⟨S2304x1024, .f32⟩
  | .hbm, ⟨6, _⟩ => ⟨S1024x2304, .f32⟩
  | .hbm, ⟨7, _⟩ => ⟨S2304x1024, .f32⟩
  | .hbm, ⟨8, _⟩ => ⟨S2304x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwXbc.lean ====
abbrev S2x2048x1024 : Shape := ⟨3, ![2, 2048, 1024]⟩
abbrev S2x2048x3072 : Shape := ⟨3, ![2, 2048, 3072]⟩
abbrev S3072x1024 : Shape := ⟨2, ![3072, 1024]⟩
abbrev S1x512x1024 : Shape := ⟨3, ![1, 512, 1024]⟩
abbrev S1x512x3072 : Shape := ⟨3, ![1, 512, 3072]⟩
abbrev S512x1024 : Shape := ⟨2, ![512, 1024]⟩
abbrev S512x3072 : Shape := ⟨2, ![512, 3072]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3072, .f32⟩
  | .hbm, ⟨2, _⟩ => ⟨S2x2048x1024, .bf16⟩
  | .hbm, ⟨3, _⟩ => ⟨S2x2048x3072, .bf16⟩
  | .hbm, ⟨4, _⟩ => ⟨S3072x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x3072, .bf16⟩
  | .local _ .vmem, ⟨3, _⟩ => ⟨S1x512x3072, .bf16⟩
  | .local _ .vmem, ⟨4, _⟩ => ⟨S3072x1024, .bf16⟩
  | .local _ .vmem, ⟨5, _⟩ => ⟨S3072x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c1_i32 : BitVec 32 := 1#32
  let v15 : BitVec 1 := Scalar.cmpi .eq arg0 c1_i32
  let arg1 : BitVec 32 := BitVec.ofNat 32 (i 1).val
  let c3_i32 : BitVec 32 := 3#32
  let v16 : BitVec 1 := Scalar.cmpi .eq arg1 c3_i32
  let v17 : BitVec 1 := Scalar.andi v15 v16
  let v18 : BitVec 32 := Scalar.extui v17
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DwXbcRefIdeal.lean ====
abbrev S2x2048x1024 : Shape := ⟨3, ![2, 2048, 1024]⟩
abbrev S2x2048x3072 : Shape := ⟨3, ![2, 2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x3072, .f32⟩
  | .hbm, ⟨2, _⟩ => ⟨S_, .f32⟩
  | .hbm, ⟨3, _⟩ => ⟨S1024x3072, .f32⟩
  | .hbm, ⟨4, _⟩ => ⟨S2x2048x3072, .f32⟩
  | .hbm, ⟨5, _⟩ => ⟨S3072x1024, .f32⟩
  | .hbm, ⟨6, _⟩ => ⟨S1024x3072, .f32⟩
  | .hbm, ⟨7, _⟩ => ⟨S3072x1024, .f32⟩
  | .hbm, ⟨8, _⟩ => ⟨S3072x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGm.lean ====
abbrev S2x2048x1024 : Shape := ⟨3, ![2, 2048, 1024]⟩
abbrev S2x2048x2048 : Shape := ⟨3, ![2, 2048, 2048]⟩
abbrev S2048x1024 : Shape := ⟨2, ![2048, 1024]⟩
abbrev S1x512x1024 : Shape := ⟨3, ![1, 512, 1024]⟩
abbrev S1x512x2048 : Shape := ⟨3, ![1, 512, 2048]⟩
abbrev S512x1024 : Shape := ⟨2, ![512, 1024]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .f32⟩
  | .hbm, ⟨2, _⟩ => ⟨S2x2048x1024, .bf16⟩
  | .hbm, ⟨3, _⟩ => ⟨S2x2048x2048, .bf16⟩
  | .hbm, ⟨4, _⟩ => ⟨S2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x1024, .bf16⟩
  | .local _ .vmem, ⟨5, _⟩ => ⟨S2048x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c1_i32 : BitVec 32 := 1#32
  let v15 : BitVec 1 := Scalar.cmpi .eq arg0 c1_i32
  let arg1 : BitVec 32 := BitVec.ofNat 32 (i 1).val
  let c3_i32 : BitVec 32 := 3#32
  let v16 : BitVec 1 := Scalar.cmpi .eq arg1 c3_i32
  let v17 : BitVec 1 := Scalar.andi v15 v16
  let v18 : BitVec 32 := Scalar.extui v17
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DwGmRefIdeal.lean ====
abbrev S2x2048x1024 : Shape := ⟨3, ![2, 2048, 1024]⟩
abbrev S2x2048x2048 : Shape := ⟨3, ![2, 2048, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2048, .f32⟩
  | .hbm, ⟨2, _⟩ => ⟨S_, .f32⟩
  | .hbm, ⟨3, _⟩ => ⟨S1024x2048, .f32⟩
  | .hbm, ⟨4, _⟩ => ⟨S2x2048x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwNat.lean ====
abbrev S2x2048x1024 : Shape := ⟨3, ![2, 2048, 1024]⟩
abbrev S2x2048x768 : Shape := ⟨3, ![2, 2048, 768]⟩
abbrev S2x2048x2048 : Shape := ⟨3, ![2, 2048, 2048]⟩
abbrev S2x2048x128 : Shape := ⟨3, ![2, 2048, 128]⟩
abbrev S768x1024 : Shape := ⟨2, ![768, 1024]⟩
abbrev S2048x1024 : Shape := ⟨2, ![2048, 1024]⟩
abbrev S128x1024 : Shape := ⟨2, ![128, 1024]⟩
abbrev S1024x1024 : Shape := ⟨2, ![1024, 1024]⟩
abbrev S1x512x1024 : Shape := ⟨3, ![1, 512, 1024]⟩
abbrev S1x512x768 : Shape := ⟨3, ![1, 512, 768]⟩
abbrev S1x512x2048 : Shape := ⟨3, ![1, 512, 2048]⟩
abbrev S1x512x128 : Shape := ⟨3, ![1, 512, 128]⟩
abbrev S512x1024 : Shape := ⟨2, ![512, 1024]⟩
abbrev S512x768 : Shape := ⟨2, ![512, 768]⟩
abbrev S512x2048 : Shape := ⟨2, ![512, 2048]⟩
abbrev S512x128 : Shape := ⟨2, ![512, 128]⟩

abbrev nBuf : Space → Nat
  | .hbm => 12
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x768, .f32⟩
  | .hbm, ⟨2, _⟩ => ⟨S2x2048x2048, .f32⟩
  | .hbm, ⟨3, _⟩ => ⟨S2x2048x128, .f32⟩
  | .hbm, ⟨4, _⟩ => ⟨S2x2048x1024, .f32⟩
  | .hbm, ⟨5, _⟩ => ⟨S2x2048x1024, .bf16⟩
  | .hbm, ⟨6, _⟩ => ⟨S2x2048x768, .bf16⟩
  | .hbm, ⟨7, _⟩ => ⟨S2x2048x1024, .bf16⟩
  | .hbm, ⟨8, _⟩ => ⟨S768x1024, .bf16⟩
  | .hbm, ⟨9, _⟩ => ⟨S2048x1024, .bf16⟩
  | .hbm, ⟨10, _⟩ => ⟨S128x1024, .bf16⟩
  | .hbm, ⟨11, _⟩ => ⟨S1024x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x768, .bf16⟩
  | .local _ .vmem, ⟨3, _⟩ => ⟨S1x512x768, .bf16⟩
  | .local _ .vmem, ⟨4, _⟩ => ⟨S1x512x2048, .f32⟩
  | .local _ .vmem, ⟨5, _⟩ => ⟨S1x512x2048, .f32⟩
  | .local _ .vmem, ⟨6, _⟩ => ⟨S1x512x128, .f32⟩
  | .local _ .vmem, ⟨7, _⟩ => ⟨S1x512x128, .f32⟩
  | .local _ .vmem, ⟨8, _⟩ => ⟨S1x512x1024, .bf16⟩
  | .local _ .vmem, ⟨9, _⟩ => ⟨S1x512x1024, .bf16⟩
  | .local _ .vmem, ⟨10, _⟩ => ⟨S768x1024, .bf16⟩
  | .local _ .vmem, ⟨11, _⟩ => ⟨S2048x1024, .bf16⟩
  | .local _ .vmem, ⟨12, _⟩ => ⟨S128x1024, .bf16⟩
  | .local _ .vmem, ⟨13, _⟩ => ⟨S1024x1024, .bf16⟩
  | .local _ .vmem, ⟨14, _⟩ => ⟨S768x1024, .f32⟩
  | .local _ .vmem, ⟨15, _⟩ => ⟨S2048x1024, .f32⟩
  | .local _ .vmem, ⟨16, _⟩ => ⟨S128x1024, .f32⟩
  | .local _ .vmem, ⟨17, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c1_i32 : BitVec 32 := 1#32
  let v41 : BitVec 1 := Scalar.cmpi .eq arg0 c1_i32
  let arg1 : BitVec 32 := BitVec.ofNat 32 (i 1).val
  let c3_i32 : BitVec 32 := 3#32
  let v42 : BitVec 1 := Scalar.cmpi .eq arg1 c3_i32
  let v43 : BitVec 1 := Scalar.andi v41 v42
  let v44 : BitVec 32 := Scalar.extui v43
  let c0_i32_35 : BitVec 32 := 0#32
  let v45 : BitVec 1 := Scalar.cmpi .ne v44 c0_i32_35
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== DwNatRefIdeal.lean ====
abbrev S2x2048x1024 : Shape := ⟨3, ![2, 2048, 1024]⟩
abbrev S2x2048x768 : Shape := ⟨3, ![2, 2048, 768]⟩
abbrev S2x2048x2048 : Shape := ⟨3, ![2, 2048, 2048]⟩
abbrev S2x2048x128 : Shape := ⟨3, ![2, 2048, 128]⟩
abbrev S_ : Shape := ⟨0, ![]⟩
abbrev S1024x768 : Shape := ⟨2, ![1024, 768]⟩
abbrev S1024x2048 : Shape := ⟨2, ![1024, 2048]⟩
abbrev S1024x128 : Shape := ⟨2, ![1024, 128]⟩
abbrev S1024x1024 : Shape := ⟨2, ![1024, 1024]⟩
abbrev S128x1024 : Shape := ⟨2, ![128, 1024]⟩
abbrev S2048x1024 : Shape := ⟨2, ![2048, 1024]⟩
abbrev S768x1024 : Shape := ⟨2, ![768, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x768, .f32⟩
  | .hbm, ⟨2, _⟩ => ⟨S2x2048x2048, .f32⟩
  | .hbm, ⟨3, _⟩ => ⟨S2x2048x128, .f32⟩
  | .hbm, ⟨4, _⟩ => ⟨S2x2048x1024, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x2048, .f32⟩
  | .hbm, ⟨9, _⟩ => ⟨S_, .f32⟩
  | .hbm, ⟨10, _⟩ => ⟨S1024x128, .f32⟩
  | .hbm, ⟨11, _⟩ => ⟨S_, .f32⟩
  | .hbm, ⟨12, _⟩ => ⟨S1024x1024, .f32⟩
  | .hbm, ⟨13, _⟩ => ⟨S2x2048x768, .f32⟩
  | .hbm, ⟨14, _⟩ => ⟨S2x2048x2048, .f32⟩
  | .hbm, ⟨15, _⟩ => ⟨S2x2048x128, .f32⟩
  | .hbm, ⟨16, _⟩ => ⟨S2x2048x1024, .f32⟩
  | .hbm, ⟨17, _⟩ => ⟨S1024x1024, .f32⟩
  | .hbm, ⟨18, _⟩ => ⟨S1024x1024, .f32⟩
  | .hbm, ⟨19, _⟩ => ⟨S128x1024, .f32⟩
  | .hbm, ⟨20, _⟩ => ⟨S1024x128, .f32⟩
  | .hbm, ⟨21, _⟩ => ⟨S2048x1024, .f32⟩
  | .hbm, ⟨22, _⟩ => ⟨S1024x2048, .f32⟩
  | .hbm, ⟨23, _⟩ => ⟨S768x1024, .f32⟩
  | .hbm, ⟨24, _⟩ => ⟨S1024x768, .f32⟩
  | .hbm, ⟨25, _⟩ => ⟨S768x1024, .f32⟩
  | .hbm, ⟨26, _⟩ => ⟨S768x1024, .bf16⟩
  | .hbm, ⟨27, _⟩ => ⟨S2048x1024, .f32⟩
  | .hbm, ⟨28, _⟩ => ⟨S2048x1024, .bf16⟩
  | .hbm, ⟨29, _⟩ => ⟨S128x1024, .f32⟩
  | .hbm, ⟨30, _⟩ => ⟨S128x1024, .bf16⟩
  | .hbm, ⟨31, _⟩ => ⟨S1024x1024, .f32⟩
  | .hbm, ⟨32, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== DwOut.lean ====
abbrev S2x2048x768 : Shape := ⟨3, ![2, 2048, 768]⟩
abbrev S2x2048x2048 : Shape := ⟨3, ![2, 2048, 2048]⟩
abbrev S2x2048x1024 : Shape := ⟨3, ![2, 2048, 1024]⟩
abbrev S2x2048x256 : Shape := ⟨3, ![2, 2048, 256]⟩
abbrev S2816x1024 : Shape := ⟨2, ![2816, 1024]⟩
abbrev S1024x1024 : Shape := ⟨2, ![1024, 1024]⟩
abbrev S256x1024 : Shape := ⟨2, ![256, 1024]⟩
abbrev S1x512x768 : Shape := ⟨3, ![1, 512, 768]⟩
abbrev S1x512x1024 : Shape := ⟨3, ![1, 512, 1024]⟩
abbrev S1x512x2048 : Shape := ⟨3, ![1, 512, 2048]⟩
abbrev S1x512x256 : Shape := ⟨3, ![1, 512, 256]⟩
abbrev S768x1024 : Shape := ⟨2, ![768, 1024]⟩
abbrev S2048x1024 : Shape := ⟨2, ![2048, 1024]⟩
abbrev S512x768 : Shape := ⟨2, ![512, 768]⟩
abbrev S512x1024 : Shape := ⟨2, ![512, 1024]⟩
abbrev S512x2048 : Shape := ⟨2, ![512, 2048]⟩
abbrev S512x256 : Shape := ⟨2, ![512, 256]⟩

abbrev nBuf : Space → Nat
  | .hbm => 19
  | .vmem => 23
  | .smem => 0
  | _ => 0

abbrev bufTy : (tb : Table) → Fin (tcTables nBuf tb) → BufTy
  | .hbm, ⟨0, _⟩ => ⟨S2x2048x768, .f32⟩
  | .hbm, ⟨1, _⟩ => ⟨S2x2048x2048, .f32⟩
  | .hbm, ⟨2, _⟩ => ⟨S2x2048x1024, .f32⟩
  | .hbm, ⟨3, _⟩ => ⟨S2x2048x256, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x768, .bf16⟩
  | .hbm, ⟨9, _⟩ => ⟨S2x2048x1024, .bf16⟩
  | .hbm, ⟨10, _⟩ => ⟨S2x2048x2048, .bf16⟩
  | .hbm, ⟨11, _⟩ => ⟨S2x2048x1024, .bf16⟩
  | .hbm, ⟨12, _⟩ => ⟨S2x2048x1024, .bf16⟩
  | .hbm, ⟨13, _⟩ => ⟨S2x2048x1024, .bf16⟩
  | .hbm, ⟨14, _⟩ => ⟨S2x2048x256, .bf16⟩
  | .hbm, ⟨15, _⟩ => ⟨S2x2048x1024, .bf16⟩
  | .hbm, ⟨16, _⟩ => ⟨S2816x1024, .bf16⟩
  | .hbm, ⟨17, _⟩ => ⟨S1024x1024, .bf16⟩
  | .hbm, ⟨18, _⟩ => ⟨S256x1024, .bf16⟩
  | .local _ .vmem, ⟨0, _⟩ => ⟨S1x512x768, .bf16⟩
  | .local _ .vmem, ⟨1, _⟩ => ⟨S1x512x768, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x1024, .bf16⟩
  | .local _ .vmem, ⟨15, _⟩ => ⟨S1x512x1024, .bf16⟩
  | .local _ .vmem, ⟨16, _⟩ => ⟨S2816x1024, .bf16⟩
  | .local _ .vmem, ⟨17, _⟩ => ⟨S1024x1024, .bf16⟩
  | .local _ .vmem, ⟨18, _⟩ => ⟨S256x1024, .bf16⟩
  | .local _ .vmem, ⟨19, _⟩ => ⟨S768x1024, .f32⟩
  | .local _ .vmem, ⟨20, _⟩ => ⟨S2048x1024, .f32⟩
  | .local _ .vmem, ⟨21, _⟩ => ⟨S1024x1024, .f32⟩
  | .local _ .vmem, ⟨22, _⟩ => ⟨S256x1024, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c1_i32 : BitVec 32 := 1#32
  let v45 : BitVec 1 := Scalar.cmpi .eq arg0 c1_i32
  let arg1 : BitVec 32 := BitVec.ofNat 32 (i 1).val
  let c3_i32 : BitVec 32 := 3#32
  let v46 : BitVec 1 := Scalar.cmpi .eq arg1 c3_i32
  let v47 : BitVec 1 := Scalar.andi v45 v46
  let v48 : BitVec 32 := Scalar.extui v47
  let c0_i32_44 : BitVec 32 := 0#32
  let v49 : BitVec 1 := Scalar.cmpi .ne v48 c0_i32_44
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DwOutRefIdeal.lean ====
abbrev S2x2048x768 : Shape := ⟨3, ![2, 2048, 768]⟩
abbrev S2x2048x2048 : Shape := ⟨3, ![2, 2048, 2048]⟩
abbrev S2x2048x1024 : Shape := ⟨3, ![2, 2048, 1024]⟩
abbrev S2x2048x256 : Shape := ⟨3, ![2, 2048, 256]⟩
abbrev S_ : Shape := ⟨0, ![]⟩
abbrev S2816x1024 : Shape := ⟨2, ![2816, 1024]⟩
abbrev S1024x1024 : Shape := ⟨2, ![1024, 1024]⟩
abbrev S256x1024 : Shape := ⟨2, ![256, 1024]⟩
abbrev S768x1024 : Shape := ⟨2, ![768, 1024]⟩
abbrev S2048x1024 : Shape := ⟨2, ![2048, 1024]⟩
abbrev S1024x256 : Shape := ⟨2, ![1024, 256]⟩
abbrev S1024x2048 : Shape := ⟨2, ![1024, 2048]⟩
abbrev S1024x768 : Shape := ⟨2, ![1024, 768]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x2048, .f32⟩
  | .hbm, ⟨2, _⟩ => ⟨S2x2048x1024, .f32⟩
  | .hbm, ⟨3, _⟩ => ⟨S2x2048x256, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2816x1024, .f32⟩
  | .hbm, ⟨10, _⟩ => ⟨S_, .f32⟩
  | .hbm, ⟨11, _⟩ => ⟨S1024x1024, .f32⟩
  | .hbm, ⟨12, _⟩ => ⟨S_, .f32⟩
  | .hbm, ⟨13, _⟩ => ⟨S256x1024, .f32⟩
  | .hbm, ⟨14, _⟩ => ⟨S768x1024, .f32⟩
  | .hbm, ⟨15, _⟩ => ⟨S2x2048x1024, .f32⟩
  | .hbm, ⟨16, _⟩ => ⟨S2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S1024x256, .f32⟩
  | .hbm, ⟨21, _⟩ => ⟨S256x1024, .f32⟩
  | .hbm, ⟨22, _⟩ => ⟨S1024x1024, .f32⟩
  | .hbm, ⟨23, _⟩ => ⟨S1024x1024, .f32⟩
  | .hbm, ⟨24, _⟩ => ⟨S1024x2048, .f32⟩
  | .hbm, ⟨25, _⟩ => ⟨S2048x1024, .f32⟩
  | .hbm, ⟨26, _⟩ => ⟨S_, .f32⟩
  | .hbm, ⟨27, _⟩ => ⟨S2816x1024, .f32⟩
  | .hbm, ⟨28, _⟩ => ⟨S1024x768, .f32⟩
  | .hbm, ⟨29, _⟩ => ⟨S768x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .bf16⟩
  | .hbm, ⟨34, _⟩ => ⟨S1024x1024, .bf16⟩
  | .hbm, ⟨35, _⟩ => ⟨S256x1024, .bf16⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== DxY.lean ====
abbrev S2048x1024 : Shape := ⟨2, ![2048, 1024]⟩
abbrev S2x2048x1024 : Shape := ⟨3, ![2, 2048, 1024]⟩
abbrev S2x2048x2048 : Shape := ⟨3, ![2, 2048, 2048]⟩
abbrev S1x512x1024 : Shape := ⟨3, ![1, 512, 1024]⟩
abbrev S1x512x2048 : Shape := ⟨3, ![1, 512, 2048]⟩
abbrev S512x1024 : Shape := ⟨2, ![512, 1024]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2x2048x1024, .f32⟩
  | .hbm, ⟨2, _⟩ => ⟨S2x2048x1024, .bf16⟩
  | .hbm, ⟨3, _⟩ => ⟨S2048x1024, .bf16⟩
  | .hbm, ⟨4, _⟩ => ⟨S2x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S2048x1024, .bf16⟩
  | .local _ .vmem, ⟨3, _⟩ => ⟨S1x512x2048, .f32⟩
  | .local _ .vmem, ⟨4, _⟩ => ⟨S1x512x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DxYRefIdeal.lean ====
abbrev S2048x1024 : Shape := ⟨2, ![2048, 1024]⟩
abbrev S2x2048x1024 : Shape := ⟨3, ![2, 2048, 1024]⟩
abbrev S_ : Shape := ⟨0, ![]⟩
abbrev S2x2048x2048 : Shape := ⟨3, ![2, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x2048x1024, .f32⟩
  | .hbm, ⟨2, _⟩ => ⟨S_, .f32⟩
  | .hbm, ⟨3, _⟩ => ⟨S2x2048x2048, .f32⟩
  | .hbm, ⟨4, _⟩ => ⟨S2x2048x1024, .f32⟩
  | .hbm, ⟨5, _⟩ => ⟨S2x2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjQkv.lean ====
abbrev S2x2048x1024 : Shape := ⟨3, ![2, 2048, 1024]⟩
abbrev S1024x2304 : Shape := ⟨2, ![1024, 2304]⟩
abbrev S2304x1024 : Shape := ⟨2, ![2304, 1024]⟩
abbrev S2x2048x2304 : Shape := ⟨3, ![2, 2048, 2304]⟩
abbrev S1x1024x1024 : Shape := ⟨3, ![1, 1024, 1024]⟩
abbrev S1x1024x2304 : Shape := ⟨3, ![1, 1024, 2304]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x2304, .f32⟩
  | .hbm, ⟨2, _⟩ => ⟨S2x2048x1024, .bf16⟩
  | .hbm, ⟨3, _⟩ => ⟨S2304x1024, .f32⟩
  | .hbm, ⟨4, _⟩ => ⟨S2304x1024, .bf16⟩
  | .hbm, ⟨5, _⟩ => ⟨S2x2048x2304, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S2304x1024, .bf16⟩
  | .local _ .vmem, ⟨3, _⟩ => ⟨S1x1024x2304, .bf16⟩
  | .local _ .vmem, ⟨4, _⟩ => ⟨S1x1024x2304, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQkvRefIdeal.lean ====
abbrev S2x2048x1024 : Shape := ⟨3, ![2, 2048, 1024]⟩
abbrev S1024x2304 : Shape := ⟨2, ![1024, 2304]⟩
abbrev S2x2048x2304 : Shape := ⟨3, ![2, 2048, 2304]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2304, .f32⟩
  | .hbm, ⟨2, _⟩ => ⟨S2x2048x2304, .f32⟩
  | .hbm, ⟨3, _⟩ => ⟨S2x2048x2304, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjNat.lean ====
abbrev S2x2048x1024 : Shape := ⟨3, ![2, 2048, 1024]⟩
abbrev S1024x768 : Shape := ⟨2, ![1024, 768]⟩
abbrev S1024x2048 : Shape := ⟨2, ![1024, 2048]⟩
abbrev S1024x128 : Shape := ⟨2, ![1024, 128]⟩
abbrev S1024x1024 : Shape := ⟨2, ![1024, 1024]⟩
abbrev S768x1024 : Shape := ⟨2, ![768, 1024]⟩
abbrev S2048x1024 : Shape := ⟨2, ![2048, 1024]⟩
abbrev S128x1024 : Shape := ⟨2, ![128, 1024]⟩
abbrev S2x2048x768 : Shape := ⟨3, ![2, 2048, 768]⟩
abbrev S2x2048x2048 : Shape := ⟨3, ![2, 2048, 2048]⟩
abbrev S2x2048x128 : Shape := ⟨3, ![2, 2048, 128]⟩
abbrev S1x512x1024 : Shape := ⟨3, ![1, 512, 1024]⟩
abbrev S1x512x768 : Shape := ⟨3, ![1, 512, 768]⟩
abbrev S1x512x2048 : Shape := ⟨3, ![1, 512, 2048]⟩
abbrev S1x512x128 : Shape := ⟨3, ![1, 512, 128]⟩
abbrev S512x1024 : Shape := ⟨2, ![512, 1024]⟩
abbrev S512x768 : Shape := ⟨2, ![512, 768]⟩
abbrev S512x2048 : Shape := ⟨2, ![512, 2048]⟩
abbrev S512x128 : Shape := ⟨2, ![512, 128]⟩

abbrev nBuf : Space → Nat
  | .hbm => 18
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024x768, .f32⟩
  | .hbm, ⟨2, _⟩ => ⟨S1024x2048, .f32⟩
  | .hbm, ⟨3, _⟩ => ⟨S1024x128, .f32⟩
  | .hbm, ⟨4, _⟩ => ⟨S1024x1024, .f32⟩
  | .hbm, ⟨5, _⟩ => ⟨S2x2048x1024, .bf16⟩
  | .hbm, ⟨6, _⟩ => ⟨S768x1024, .f32⟩
  | .hbm, ⟨7, _⟩ => ⟨S768x1024, .bf16⟩
  | .hbm, ⟨8, _⟩ => ⟨S2048x1024, .f32⟩
  | .hbm, ⟨9, _⟩ => ⟨S2048x1024, .bf16⟩
  | .hbm, ⟨10, _⟩ => ⟨S128x1024, .f32⟩
  | .hbm, ⟨11, _⟩ => ⟨S128x1024, .bf16⟩
  | .hbm, ⟨12, _⟩ => ⟨S1024x1024, .f32⟩
  | .hbm, ⟨13, _⟩ => ⟨S1024x1024, .bf16⟩
  | .hbm, ⟨14, _⟩ => ⟨S2x2048x768, .f32⟩
  | .hbm, ⟨15, _⟩ => ⟨S2x2048x2048, .f32⟩
  | .hbm, ⟨16, _⟩ => ⟨S2x2048x128, .f32⟩
  | .hbm, ⟨17, _⟩ => ⟨S2x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S768x1024, .bf16⟩
  | .local _ .vmem, ⟨3, _⟩ => ⟨S2048x1024, .bf16⟩
  | .local _ .vmem, ⟨4, _⟩ => ⟨S128x1024, .bf16⟩
  | .local _ .vmem, ⟨5, _⟩ => ⟨S1024x1024, .bf16⟩
  | .local _ .vmem, ⟨6, _⟩ => ⟨S1x512x768, .f32⟩
  | .local _ .vmem, ⟨7, _⟩ => ⟨S1x512x768, .f32⟩
  | .local _ .vmem, ⟨8, _⟩ => ⟨S1x512x2048, .f32⟩
  | .local _ .vmem, ⟨9, _⟩ => ⟨S1x512x2048, .f32⟩
  | .local _ .vmem, ⟨10, _⟩ => ⟨S1x512x128, .f32⟩
  | .local _ .vmem, ⟨11, _⟩ => ⟨S1x512x128, .f32⟩
  | .local _ .vmem, ⟨12, _⟩ => ⟨S1x512x1024, .f32⟩
  | .local _ .vmem, ⟨13, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjNatRefIdeal.lean ====
abbrev S2x2048x1024 : Shape := ⟨3, ![2, 2048, 1024]⟩
abbrev S1024x768 : Shape := ⟨2, ![1024, 768]⟩
abbrev S1024x2048 : Shape := ⟨2, ![1024, 2048]⟩
abbrev S1024x128 : Shape := ⟨2, ![1024, 128]⟩
abbrev S1024x1024 : Shape := ⟨2, ![1024, 1024]⟩
abbrev S2x2048x768 : Shape := ⟨3, ![2, 2048, 768]⟩
abbrev S2x2048x2048 : Shape := ⟨3, ![2, 2048, 2048]⟩
abbrev S2x2048x128 : Shape := ⟨3, ![2, 2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x768, .f32⟩
  | .hbm, ⟨2, _⟩ => ⟨S1024x2048, .f32⟩
  | .hbm, ⟨3, _⟩ => ⟨S1024x128, .f32⟩
  | .hbm, ⟨4, _⟩ => ⟨S1024x1024, .f32⟩
  | .hbm, ⟨5, _⟩ => ⟨S2x2048x768, .f32⟩
  | .hbm, ⟨6, _⟩ => ⟨S2x2048x2048, .f32⟩
  | .hbm, ⟨7, _⟩ => ⟨S2x2048x128, .f32⟩
  | .hbm, ⟨8, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== ProjXg.lean ====
abbrev S2x2048x1024 : Shape := ⟨3, ![2, 2048, 1024]⟩
abbrev S1024x3072 : Shape := ⟨2, ![1024, 3072]⟩
abbrev S1024x2048 : Shape := ⟨2, ![1024, 2048]⟩
abbrev S3072x1024 : Shape := ⟨2, ![3072, 1024]⟩
abbrev S2048x1024 : Shape := ⟨2, ![2048, 1024]⟩
abbrev S2x2048x3072 : Shape := ⟨3, ![2, 2048, 3072]⟩
abbrev S2x2048x2048 : Shape := ⟨3, ![2, 2048, 2048]⟩
abbrev S1x512x1024 : Shape := ⟨3, ![1, 512, 1024]⟩
abbrev S1x512x3072 : Shape := ⟨3, ![1, 512, 3072]⟩
abbrev S1x512x2048 : Shape := ⟨3, ![1, 512, 2048]⟩
abbrev S512x1024 : Shape := ⟨2, ![512, 1024]⟩
abbrev S512x3072 : Shape := ⟨2, ![512, 3072]⟩
abbrev S512x2048 : Shape := ⟨2, ![512, 2048]⟩

abbrev nBuf : Space → Nat
  | .hbm => 10
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x2048, .f32⟩
  | .hbm, ⟨3, _⟩ => ⟨S2x2048x1024, .bf16⟩
  | .hbm, ⟨4, _⟩ => ⟨S3072x1024, .f32⟩
  | .hbm, ⟨5, _⟩ => ⟨S3072x1024, .bf16⟩
  | .hbm, ⟨6, _⟩ => ⟨S2048x1024, .f32⟩
  | .hbm, ⟨7, _⟩ => ⟨S2048x1024, .bf16⟩
  | .hbm, ⟨8, _⟩ => ⟨S2x2048x3072, .f32⟩
  | .hbm, ⟨9, _⟩ => ⟨S2x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S3072x1024, .bf16⟩
  | .local _ .vmem, ⟨3, _⟩ => ⟨S2048x1024, .bf16⟩
  | .local _ .vmem, ⟨4, _⟩ => ⟨S1x512x3072, .f32⟩
  | .local _ .vmem, ⟨5, _⟩ => ⟨S1x512x3072, .f32⟩
  | .local _ .vmem, ⟨6, _⟩ => ⟨S1x512x2048, .f32⟩
  | .local _ .vmem, ⟨7, _⟩ => ⟨S1x512x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjXgRefIdeal.lean ====
abbrev S2x2048x1024 : Shape := ⟨3, ![2, 2048, 1024]⟩
abbrev S1024x3072 : Shape := ⟨2, ![1024, 3072]⟩
abbrev S1024x2048 : Shape := ⟨2, ![1024, 2048]⟩
abbrev S2x2048x3072 : Shape := ⟨3, ![2, 2048, 3072]⟩
abbrev S2x2048x2048 : Shape := ⟨3, ![2, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x2048, .f32⟩
  | .hbm, ⟨3, _⟩ => ⟨S2x2048x3072, .f32⟩
  | .hbm, ⟨4, _⟩ => ⟨S2x2048x2048, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwQkvB.lean ====
abbrev S2x2048x1024 : Shape := ⟨3, ![2, 2048, 1024]⟩
abbrev S2x2048x2304 : Shape := ⟨3, ![2, 2048, 2304]⟩
abbrev S2x512x4x1024 : Shape := ⟨4, ![2, 512, 4, 1024]⟩
abbrev S2x4x512x1024 : Shape := ⟨4, ![2, 4, 512, 1024]⟩
abbrev S2x512x4x2304 : Shape := ⟨4, ![2, 512, 4, 2304]⟩
abbrev S2x4x512x2304 : Shape := ⟨4, ![2, 4, 512, 2304]⟩
abbrev S2304x1024 : Shape := ⟨2, ![2304, 1024]⟩
abbrev S1x512x1024 : Shape := ⟨3, ![1, 512, 1024]⟩
abbrev S1x512x2304 : Shape := ⟨3, ![1, 512, 2304]⟩
abbrev S512x1024 : Shape := ⟨2, ![512, 1024]⟩
abbrev S512x2304 : Shape := ⟨2, ![512, 2304]⟩

abbrev nBuf : Space → Nat
  | .hbm => 11
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2304, .f32⟩
  | .hbm, ⟨2, _⟩ => ⟨S2x512x4x1024, .f32⟩
  | .hbm, ⟨3, _⟩ => ⟨S2x4x512x1024, .f32⟩
  | .hbm, ⟨4, _⟩ => ⟨S2x2048x1024, .f32⟩
  | .hbm, ⟨5, _⟩ => ⟨S2x2048x1024, .bf16⟩
  | .hbm, ⟨6, _⟩ => ⟨S2x512x4x2304, .f32⟩
  | .hbm, ⟨7, _⟩ => ⟨S2x4x512x2304, .f32⟩
  | .hbm, ⟨8, _⟩ => ⟨S2x2048x2304, .f32⟩
  | .hbm, ⟨9, _⟩ => ⟨S2x2048x2304, .bf16⟩
  | .hbm, ⟨10, _⟩ => ⟨S2304x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x2304, .bf16⟩
  | .local _ .vmem, ⟨3, _⟩ => ⟨S1x512x2304, .bf16⟩
  | .local _ .vmem, ⟨4, _⟩ => ⟨S2304x1024, .bf16⟩
  | .local _ .vmem, ⟨5, _⟩ => ⟨S2304x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c1_i32 : BitVec 32 := 1#32
  let v15 : BitVec 1 := Scalar.cmpi .eq arg0 c1_i32
  let arg1 : BitVec 32 := BitVec.ofNat 32 (i 1).val
  let c3_i32 : BitVec 32 := 3#32
  let v16 : BitVec 1 := Scalar.cmpi .eq arg1 c3_i32
  let v17 : BitVec 1 := Scalar.andi v15 v16
  let v18 : BitVec 32 := Scalar.extui v17
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DwQkvBRefIdeal.lean ====
abbrev S2x2048x1024 : Shape := ⟨3, ![2, 2048, 1024]⟩
abbrev S2x2048x2304 : Shape := ⟨3, ![2, 2048, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2304, .f32⟩
  | .hbm, ⟨2, _⟩ => ⟨S_, .f32⟩
  | .hbm, ⟨3, _⟩ => ⟨S1024x2304, .f32⟩
  | .hbm, ⟨4, _⟩ => ⟨S2x2048x2304, .f32⟩
  | .hbm, ⟨5, _⟩ => ⟨S2304x1024, .f32⟩
  | .hbm, ⟨6, _⟩ => ⟨S1024x2304, .f32⟩
  | .hbm, ⟨7, _⟩ => ⟨S2304x1024, .f32⟩
  | .hbm, ⟨8, _⟩ => ⟨S2304x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwQkvC.lean ====
abbrev S2x2048x1024 : Shape := ⟨3, ![2, 2048, 1024]⟩
abbrev S2x2048x2304 : Shape := ⟨3, ![2, 2048, 2304]⟩
abbrev S2x128x16x1024 : Shape := ⟨4, ![2, 128, 16, 1024]⟩
abbrev S2x16x128x1024 : Shape := ⟨4, ![2, 16, 128, 1024]⟩
abbrev S2x128x16x2304 : Shape := ⟨4, ![2, 128, 16, 2304]⟩
abbrev S2x16x128x2304 : Shape := ⟨4, ![2, 16, 128, 2304]⟩
abbrev S2304x1024 : Shape := ⟨2, ![2304, 1024]⟩
abbrev S1x512x1024 : Shape := ⟨3, ![1, 512, 1024]⟩
abbrev S1x512x2304 : Shape := ⟨3, ![1, 512, 2304]⟩
abbrev S512x1024 : Shape := ⟨2, ![512, 1024]⟩
abbrev S512x2304 : Shape := ⟨2, ![512, 2304]⟩

abbrev nBuf : Space → Nat
  | .hbm => 11
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2304, .f32⟩
  | .hbm, ⟨2, _⟩ => ⟨S2x128x16x1024, .f32⟩
  | .hbm, ⟨3, _⟩ => ⟨S2x16x128x1024, .f32⟩
  | .hbm, ⟨4, _⟩ => ⟨S2x2048x1024, .f32⟩
  | .hbm, ⟨5, _⟩ => ⟨S2x2048x1024, .bf16⟩
  | .hbm, ⟨6, _⟩ => ⟨S2x128x16x2304, .f32⟩
  | .hbm, ⟨7, _⟩ => ⟨S2x16x128x2304, .f32⟩
  | .hbm, ⟨8, _⟩ => ⟨S2x2048x2304, .f32⟩
  | .hbm, ⟨9, _⟩ => ⟨S2x2048x2304, .bf16⟩
  | .hbm, ⟨10, _⟩ => ⟨S2304x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x2304, .bf16⟩
  | .local _ .vmem, ⟨3, _⟩ => ⟨S1x512x2304, .bf16⟩
  | .local _ .vmem, ⟨4, _⟩ => ⟨S2304x1024, .bf16⟩
  | .local _ .vmem, ⟨5, _⟩ => ⟨S2304x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c1_i32 : BitVec 32 := 1#32
  let v15 : BitVec 1 := Scalar.cmpi .eq arg0 c1_i32
  let arg1 : BitVec 32 := BitVec.ofNat 32 (i 1).val
  let c3_i32 : BitVec 32 := 3#32
  let v16 : BitVec 1 := Scalar.cmpi .eq arg1 c3_i32
  let v17 : BitVec 1 := Scalar.andi v15 v16
  let v18 : BitVec 32 := Scalar.extui v17
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DwQkvCRefIdeal.lean ====
abbrev S2x2048x1024 : Shape := ⟨3, ![2, 2048, 1024]⟩
abbrev S2x2048x2304 : Shape := ⟨3, ![2, 2048, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2304, .f32⟩
  | .hbm, ⟨2, _⟩ => ⟨S_, .f32⟩
  | .hbm, ⟨3, _⟩ => ⟨S1024x2304, .f32⟩
  | .hbm, ⟨4, _⟩ => ⟨S2x2048x2304, .f32⟩
  | .hbm, ⟨5, _⟩ => ⟨S2304x1024, .f32⟩
  | .hbm, ⟨6, _⟩ => ⟨S1024x2304, .f32⟩
  | .hbm, ⟨7, _⟩ => ⟨S2304x1024, .f32⟩
  | .hbm, ⟨8, _⟩ => ⟨S2304x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjQkvB.lean ====
abbrev S2x2048x1024 : Shape := ⟨3, ![2, 2048, 1024]⟩
abbrev S1024x2304 : Shape := ⟨2, ![1024, 2304]⟩
abbrev S2x512x4x1024 : Shape := ⟨4, ![2, 512, 4, 1024]⟩
abbrev S2x4x512x1024 : Shape := ⟨4, ![2, 4, 512, 1024]⟩
abbrev S2304x1024 : Shape := ⟨2, ![2304, 1024]⟩
abbrev S2x2048x2304 : Shape := ⟨3, ![2, 2048, 2304]⟩
abbrev S1x1024x1024 : Shape := ⟨3, ![1, 1024, 1024]⟩
abbrev S1x1024x2304 : Shape := ⟨3, ![1, 1024, 2304]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x2304, .f32⟩
  | .hbm, ⟨2, _⟩ => ⟨S2x512x4x1024, .f32⟩
  | .hbm, ⟨3, _⟩ => ⟨S2x4x512x1024, .f32⟩
  | .hbm, ⟨4, _⟩ => ⟨S2x2048x1024, .f32⟩
  | .hbm, ⟨5, _⟩ => ⟨S2x2048x1024, .bf16⟩
  | .hbm, ⟨6, _⟩ => ⟨S2304x1024, .f32⟩
  | .hbm, ⟨7, _⟩ => ⟨S2304x1024, .bf16⟩
  | .hbm, ⟨8, _⟩ => ⟨S2x2048x2304, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S2304x1024, .bf16⟩
  | .local _ .vmem, ⟨3, _⟩ => ⟨S1x1024x2304, .bf16⟩
  | .local _ .vmem, ⟨4, _⟩ => ⟨S1x1024x2304, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQkvBRefIdeal.lean ====
abbrev S2x2048x1024 : Shape := ⟨3, ![2, 2048, 1024]⟩
abbrev S1024x2304 : Shape := ⟨2, ![1024, 2304]⟩
abbrev S2x2048x2304 : Shape := ⟨3, ![2, 2048, 2304]⟩
abbrev S2x512x4x2304 : Shape := ⟨4, ![2, 512, 4, 2304]⟩
abbrev S2x4x512x2304 : Shape := ⟨4, ![2, 4, 512, 2304]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2304, .f32⟩
  | .hbm, ⟨2, _⟩ => ⟨S2x2048x2304, .f32⟩
  | .hbm, ⟨3, _⟩ => ⟨S2x512x4x2304, .f32⟩
  | .hbm, ⟨4, _⟩ => ⟨S2x4x512x2304, .f32⟩
  | .hbm, ⟨5, _⟩ => ⟨S2x2048x2304, .f32⟩
  | .hbm, ⟨6, _⟩ => ⟨S2x2048x2304, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjQkvC.lean ====
abbrev S2x2048x1024 : Shape := ⟨3, ![2, 2048, 1024]⟩
abbrev S1024x2304 : Shape := ⟨2, ![1024, 2304]⟩
abbrev S2x128x16x1024 : Shape := ⟨4, ![2, 128, 16, 1024]⟩
abbrev S2x16x128x1024 : Shape := ⟨4, ![2, 16, 128, 1024]⟩
abbrev S2304x1024 : Shape := ⟨2, ![2304, 1024]⟩
abbrev S2x2048x2304 : Shape := ⟨3, ![2, 2048, 2304]⟩
abbrev S1x1024x1024 : Shape := ⟨3, ![1, 1024, 1024]⟩
abbrev S1x1024x2304 : Shape := ⟨3, ![1, 1024, 2304]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x2304, .f32⟩
  | .hbm, ⟨2, _⟩ => ⟨S2x128x16x1024, .f32⟩
  | .hbm, ⟨3, _⟩ => ⟨S2x16x128x1024, .f32⟩
  | .hbm, ⟨4, _⟩ => ⟨S2x2048x1024, .f32⟩
  | .hbm, ⟨5, _⟩ => ⟨S2x2048x1024, .bf16⟩
  | .hbm, ⟨6, _⟩ => ⟨S2304x1024, .f32⟩
  | .hbm, ⟨7, _⟩ => ⟨S2304x1024, .bf16⟩
  | .hbm, ⟨8, _⟩ => ⟨S2x2048x2304, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S2304x1024, .bf16⟩
  | .local _ .vmem, ⟨3, _⟩ => ⟨S1x1024x2304, .bf16⟩
  | .local _ .vmem, ⟨4, _⟩ => ⟨S1x1024x2304, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQkvCRefIdeal.lean ====
abbrev S2x2048x1024 : Shape := ⟨3, ![2, 2048, 1024]⟩
abbrev S1024x2304 : Shape := ⟨2, ![1024, 2304]⟩
abbrev S2x2048x2304 : Shape := ⟨3, ![2, 2048, 2304]⟩
abbrev S2x128x16x2304 : Shape := ⟨4, ![2, 128, 16, 2304]⟩
abbrev S2x16x128x2304 : Shape := ⟨4, ![2, 16, 128, 2304]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2304, .f32⟩
  | .hbm, ⟨2, _⟩ => ⟨S2x2048x2304, .f32⟩
  | .hbm, ⟨3, _⟩ => ⟨S2x128x16x2304, .f32⟩
  | .hbm, ⟨4, _⟩ => ⟨S2x16x128x2304, .f32⟩
  | .hbm, ⟨5, _⟩ => ⟨S2x2048x2304, .f32⟩
  | .hbm, ⟨6, _⟩ => ⟨S2x2048x2304, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S2x2048x768 : Shape := ⟨3, ![2, 2048, 768]⟩
abbrev S2x2048x2048 : Shape := ⟨3, ![2, 2048, 2048]⟩
abbrev S2816x1024 : Shape := ⟨2, ![2816, 1024]⟩
abbrev S3x1024 : Shape := ⟨2, ![3, 1024]⟩
abbrev S_ : Shape := ⟨0, ![]⟩
abbrev S8x1024 : Shape := ⟨2, ![8, 1024]⟩
abbrev S768x1024 : Shape := ⟨2, ![768, 1024]⟩
abbrev S2048x1024 : Shape := ⟨2, ![2048, 1024]⟩
abbrev S2x2048x1024 : Shape := ⟨3, ![2, 2048, 1024]⟩
abbrev S1x256x768 : Shape := ⟨3, ![1, 256, 768]⟩
abbrev S1x256x2048 : Shape := ⟨3, ![1, 256, 2048]⟩
abbrev S1x256x1024 : Shape := ⟨3, ![1, 256, 1024]⟩
abbrev S256x768 : Shape := ⟨2, ![256, 768]⟩
abbrev S256x1024 : Shape := ⟨2, ![256, 1024]⟩
abbrev S256x2048 : Shape := ⟨2, ![256, 2048]⟩
abbrev S1x1024 : Shape := ⟨2, ![1, 1024]⟩

abbrev nBuf : Space → Nat
  | .hbm => 16
  | .vmem => 17
  | .smem => 0
  | _ => 0

abbrev bufTy : (tb : Table) → Fin (tcTables nBuf tb) → BufTy
  | .hbm, ⟨0, _⟩ => ⟨S2x2048x768, .f32⟩
  | .hbm, ⟨1, _⟩ => ⟨S2x2048x2048, .f32⟩
  | .hbm, ⟨2, _⟩ => ⟨S2816x1024, .f32⟩
  | .hbm, ⟨3, _⟩ => ⟨S2x2048x2048, .f32⟩
  | .hbm, ⟨4, _⟩ => ⟨S3x1024, .f32⟩
  | .hbm, ⟨5, _⟩ => ⟨S2816x1024, .bf16⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S2x2048x768, .bf16⟩
  | .hbm, ⟨10, _⟩ => ⟨S2x2048x2048, .bf16⟩
  | .hbm, ⟨11, _⟩ => ⟨S768x1024, .bf16⟩
  | .hbm, ⟨12, _⟩ => ⟨S2048x1024, .bf16⟩
  | .hbm, ⟨13, _⟩ => ⟨S2x2048x1024, .f32⟩
  | .hbm, ⟨14, _⟩ => ⟨S2x2048x1024, .f32⟩
  | .hbm, ⟨15, _⟩ => ⟨S2x2048x1024, .bf16⟩
  | .local _ .vmem, ⟨0, _⟩ => ⟨S1x256x768, .bf16⟩
  | .local _ .vmem, ⟨1, _⟩ => ⟨S1x256x768, .bf16⟩
  | .local _ .vmem, ⟨2, _⟩ => ⟨S1x256x2048, .bf16⟩
  | .local _ .vmem, ⟨3, _⟩ => ⟨S1x256x2048, .bf16⟩
  | .local _ .vmem, ⟨4, _⟩ => ⟨S768x1024, .bf16⟩
  | .local _ .vmem, ⟨5, _⟩ => ⟨S2048x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S8x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .bf16⟩
  | .local _ .vmem, ⟨16, _⟩ => ⟨S1x256x1024, .bf16⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S2x2048x768 : Shape := ⟨3, ![2, 2048, 768]⟩
abbrev S2x2048x2048 : Shape := ⟨3, ![2, 2048, 2048]⟩
abbrev S2816x1024 : Shape := ⟨2, ![2816, 1024]⟩
abbrev S3x1024 : Shape := ⟨2, ![3, 1024]⟩
abbrev S768x1024 : Shape := ⟨2, ![768, 1024]⟩
abbrev S2x2048x1024 : Shape := ⟨3, ![2, 2048, 1024]⟩
abbrev S2048x1024 : Shape := ⟨2, ![2048, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x2048, .f32⟩
  | .hbm, ⟨2, _⟩ => ⟨S2816x1024, .f32⟩
  | .hbm, ⟨3, _⟩ => ⟨S2x2048x2048, .f32⟩
  | .hbm, ⟨4, _⟩ => ⟨S3x1024, .f32⟩
  | .hbm, ⟨5, _⟩ => ⟨S768x1024, .f32⟩
  | .hbm, ⟨6, _⟩ => ⟨S2x2048x1024, .f32⟩
  | .hbm, ⟨7, _⟩ => ⟨S2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S1x1024, .f32⟩
  | .hbm, ⟨12, _⟩ => ⟨S1024, .f32⟩
  | .hbm, ⟨13, _⟩ => ⟨S1x1x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .bf16⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.Gate.Body.lean ====
module

public import proofs.«01_k».proof.Proof.Gen.GateIdeal.Value
public import Idealize.ShloMosaic.Lib.Pointwise
public import Idealize.ShloMosaic.Lib.ValueIdx
public import Idealize.ShloMosaic.Lib.WritesUnit
public import Idealize.ShloMosaic.PureOps.Ideal.Laws

@[expose] public section

set_option maxRecDepth 16384

noncomputable section

/-! What one grid point of the gate's backward kernel computes from its blocks: `x0` the block of the merged
    cotangent's source, `x1` the output weight, `x2`, `x3` the two branches, `x4`, `x5` their gates, `x6` the padded bias. -/

namespace Cert.GateIdeal.Body

open Cert.GateIdeal Cert.GateIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The gate's derivative, `σ (1 - σ)`. -/
def slope (s : EReal) : EReal := s * (1 - s)

/-- The cotangent of the merged branches: the block of the source times the transposed weight. -/
def dmB (x0 : Vec Ideal S1x256x1024 .bf16) (x1 : Vec Ideal S1024x1024 .bf16) (r : Fin 256) (e : Fin 1024) : EReal :=
  ∑ k : Fin 1024, (x0 (ix3 0 r k) : EReal) * (x1 (ix2 e k) : EReal)

/-- A gate of the block: the logistic function of the pre-activation plus row `j` of the bias. -/
def sgB (j : Fin 8) (xg : Vec Ideal S1x256x1024 .f32) (x6 : Vec Ideal S8x1024 .f32) (r : Fin 256) (e : Fin 1024) : EReal :=
  Ideal.logistic ((xg (ix3 0 r e) : EReal) + (x6 (ix2 j e) : EReal))

/-- The gradient of a gate's pre-activation. -/
def dgB (j : Fin 8) (x0 : Vec Ideal S1x256x1024 .bf16) (x1 : Vec Ideal S1024x1024 .bf16) (xy xg : Vec Ideal S1x256x1024 .f32)
    (x6 : Vec Ideal S8x1024 .f32) (r : Fin 256) (e : Fin 1024) : EReal :=
  dmB x0 x1 r e * (xy (ix3 0 r e) : EReal) * slope (sgB j xg x6 r e)

theorem out_A_7 (c : Dev nD) (i : grid0.Coords) a2 h2 a3 h3 a4 h4 a5 h5 a6 h6 a7 h7 a8 h8 a9 h9 a10 h10 a11 h11 a12 h12 (hc : cond0_0 i)
    (x0 x1 x2 x3 x4 x5 x6) (r : Fin 256) (e : Fin 1024) :
    out0_A_7 (F := Ideal) c i a2 h2 a3 h3 a4 h4 a5 h5 a6 h6 a7 h7 a8 h8 a9 h9 a10 h10 a11 h11 a12 h12 hc x0 x1 x2 x3 x4 x5 x6 (ix3 0 r e)
      = dmB x0 x1 r e * sgB 0 x4 x6 r e := by
  unfold out0_A_7
  rw [View.read_writes_eq_canon _ _ _ (fun _ => cover0_A_7 ..)]
  unfold kernelRun0_A
  dsimp only
  sl_unfold_words
  rw [View.canon_unit_zero hz3]
  simp only [View.readAt_eq_ld, h2.read_unread, h3.read_unread, h4.read_unread, h6.read_unread, h8.read_unread, View.ld_unit_zero (S := S1x256x1024) hz3, View.ld_unit_zero (S := S1024x1024) hz2]
  unfold_payloads
  pointwise
  rfl

theorem out_A_8 (c : Dev nD) (i : grid0.Coords) a2 h2 a3 h3 a4 h4 a5 h5 a6 h6 a7 h7 a8 h8 a9 h9 a10 h10 a11 h11 a12 h12 (hc : cond0_0 i)
    (x0 x1 x2 x3 x4 x5 x6) (r : Fin 256) (e : Fin 1024) :
    out0_A_8 (F := Ideal) c i a2 h2 a3 h3 a4 h4 a5 h5 a6 h6 a7 h7 a8 h8 a9 h9 a10 h10 a11 h11 a12 h12 hc x0 x1 x2 x3 x4 x5 x6 (ix3 0 r e)
      = dmB x0 x1 r e * sgB 1 x5 x6 r e := by
  unfold out0_A_8
  rw [View.read_writes_eq_canon _ _ _ (fun _ => cover0_A_8 ..)]
  unfold kernelRun0_A
  dsimp only
  sl_unfold_words
  rw [View.canon_unit_zero hz3]
  simp only [View.readAt_eq_ld, h2.read_unread, h3.read_unread, h5.read_unread, h7.read_unread, h8.read_unread, View.ld_unit_zero (S := S1x256x1024) hz3, View.ld_unit_zero (S := S1024x1024) hz2]
  unfold_payloads
  pointwise
  rfl

theorem out_B_7 (c : Dev nD) (i : grid0.Coords) a2 h2 a3 h3 a4 h4 a5 h5 a6 h6 a7 h7 a8 h8 a9 h9 a10 h10 a11 h11 a12 h12 (hc : ¬cond0_0 i)
    (x0 x1 x2 x3 x4 x5 x6 xo) (r : Fin 256) (e : Fin 1024) :
    out0_B_7 (F := Ideal) c i a2 h2 a3 h3 a4 h4 a5 h5 a6 h6 a7 h7 a8 h8 a9 h9 a10 h10 a11 h11 a12 h12 hc x0 x1 x2 x3 x4 x5 x6 xo (ix3 0 r e)
      = dmB x0 x1 r e * sgB 0 x4 x6 r e := by
  unfold out0_B_7
  rw [View.read_writes_eq_canon _ _ _ (fun _ => cover0_B_7 ..)]
  unfold kernelRun0_B
  dsimp only
  sl_unfold_words
  rw [View.canon_unit_zero hz3]
  simp only [View.readAt_eq_ld, h2.read_unread, h3.read_unread, h4.read_unread, h6.read_unread, h8.read_unread, View.ld_unit_zero (S := S1x256x1024) hz3, View.ld_unit_zero (S := S1024x1024) hz2]
  unfold_payloads
  pointwise
  rfl

theorem out_B_8 (c : Dev nD) (i : grid0.Coords) a2 h2 a3 h3 a4 h4 a5 h5 a6 h6 a7 h7 a8 h8 a9 h9 a10 h10 a11 h11 a12 h12 (hc : ¬cond0_0 i)
    (x0 x1 x2 x3 x4 x5 x6 xo) (r : Fin 256) (e : Fin 1024) :
    out0_B_8 (F := Ideal) c i a2 h2 a3 h3 a4 h4 a5 h5 a6 h6 a7 h7 a8 h8 a9 h9 a10 h10 a11 h11 a12 h12 hc x0 x1 x2 x3 x4 x5 x6 xo (ix3 0 r e)
      = dmB x0 x1 r e * sgB 1 x5 x6 r e := by
  unfold out0_B_8
  rw [View.read_writes_eq_canon _ _ _ (fun _ => cover0_B_8 ..)]
  unfold kernelRun0_B
  dsimp only
  sl_unfold_words
  rw [View.canon_unit_zero hz3]
  simp only [View.readAt_eq_ld, h2.read_unread, h3.read_unread, h5.read_unread, h7.read_unread, h8.read_unread, View.ld_unit_zero (S := S1x256x1024) hz3, View.ld_unit_zero (S := S1024x1024) hz2]
  unfold_payloads
  pointwise
  rfl

/-- The two gates' gradients side by side: lanes below 1024 hold the first, the others the second. -/
def bothB (x0 : Vec Ideal S1x256x1024 .bf16) (x1 : Vec Ideal S1024x1024 .bf16) (x2 x3 x4 x5 : Vec Ideal S1x256x1024 .f32)
    (x6 : Vec Ideal S8x1024 .f32) (r : Fin 256) (l : Fin 2048) : EReal :=
  if h : l.val < 1024 then dgB 0 x0 x1 x2 x4 x6 r ⟨l.val, h⟩ else dgB 1 x0 x1 x3 x5 x6 r ⟨l.val - 1024, by omega⟩

theorem out_A_9 (c : Dev nD) (i : grid0.Coords) a2 h2 a3 h3 a4 h4 a5 h5 a6 h6 a7 h7 a8 h8 a9 h9 a10 h10 a11 h11 a12 h12 (hc : cond0_0 i)
    (x0 x1 x2 x3 x4 x5 x6) (r : Fin 256) (l : Fin 2048) :
    out0_A_9 (F := Ideal) c i a2 h2 a3 h3 a4 h4 a5 h5 a6 h6 a7 h7 a8 h8 a9 h9 a10 h10 a11 h11 a12 h12 hc x0 x1 x2 x3 x4 x5 x6 (ix3 0 r l)
      = bothB x0 x1 x2 x3 x4 x5 x6 r l := by
  unfold out0_A_9 kernelRun0_A bothB
  dsimp only
  sl_unfold_words
  simp only [View.readAt_eq_ld, h2.read_unread, h3.read_unread, h4.read_unread, h5.read_unread, h6.read_unread, h7.read_unread, h8.read_unread, View.ld_unit_zero (S := S1x256x1024) hz3, View.ld_unit_zero (S := S1024x1024) hz2]
  by_cases h : l.val < 1024
  · rw [dif_pos h, View.read_writes_cons_unit_of_not_mem _ _ _ _ _ _ rfl 2 (Or.inl h),
      View.read_writes_cons_unit_of_mem _ _ _ _ _ _ (ix3 0 r ⟨l.val, h⟩) rfl
        (by intro a; fin_cases a <;> simp [ix3])]
    unfold_payloads
    pointwise
    rfl
  · rw [dif_neg h, View.read_writes_cons_unit_of_mem _ _ _ _ _ _ (ix3 0 r ⟨l.val - 1024, by omega⟩) rfl
        (by intro a; fin_cases a <;> simp [ix3] <;> omega)]
    unfold_payloads
    pointwise
    rfl

theorem out_B_9 (c : Dev nD) (i : grid0.Coords) a2 h2 a3 h3 a4 h4 a5 h5 a6 h6 a7 h7 a8 h8 a9 h9 a10 h10 a11 h11 a12 h12 (hc : ¬cond0_0 i)
    (x0 x1 x2 x3 x4 x5 x6 xo) (r : Fin 256) (l : Fin 2048) :
    out0_B_9 (F := Ideal) c i a2 h2 a3 h3 a4 h4 a5 h5 a6 h6 a7 h7 a8 h8 a9 h9 a10 h10 a11 h11 a12 h12 hc x0 x1 x2 x3 x4 x5 x6 xo (ix3 0 r l)
      = bothB x0 x1 x2 x3 x4 x5 x6 r l := by
  unfold out0_B_9 kernelRun0_B bothB
  dsimp only
  sl_unfold_words
  simp only [View.readAt_eq_ld, h2.read_unread, h3.read_unread, h4.read_unread, h5.read_unread, h6.read_unread, h7.read_unread, h8.read_unread, View.ld_unit_zero (S := S1x256x1024) hz3, View.ld_unit_zero (S := S1024x1024) hz2]
  by_cases h : l.val < 1024
  · rw [dif_pos h, View.read_writes_cons_unit_of_not_mem _ _ _ _ _ _ rfl 2 (Or.inl h),
      View.read_writes_cons_unit_of_mem _ _ _ _ _ _ (ix3 0 r ⟨l.val, h⟩) rfl
        (by intro a; fin_cases a <;> simp [ix3])]
    unfold_payloads
    pointwise
    rfl
  · rw [dif_neg h, View.read_writes_cons_unit_of_mem _ _ _ _ _ _ (ix3 0 r ⟨l.val - 1024, by omega⟩) rfl
        (by intro a; fin_cases a <;> simp [ix3] <;> omega)]
    unfold_payloads
    pointwise
    rfl

/-- A load after stores that cover it, at one place: the stores read there. -/
theorem readCov_at {sp : Space} {S : Shape} {e : EltTy} (v : View sig .tc sp S e) (L : List (View.Piece (Elt Ideal) S e)) (B : LoadRect S)
    (y : S.Idx) (x : B.shape.Idx) (h : B.idx x = y) :
    v.readCov L B x = v.read (Elt Ideal) (v.writes (Elt Ideal) v.junk L) y := by
  subst h; rfl

/-- What one point adds to the bias gradients: the sums over the block's rows, the first gate's in row 0, the second's in row 1. -/
def accB (x0 : Vec Ideal S1x256x1024 .bf16) (x1 : Vec Ideal S1024x1024 .bf16) (x2 x3 x4 x5 : Vec Ideal S1x256x1024 .f32)
    (x6 : Vec Ideal S8x1024 .f32) (j : Fin 8) (e : Fin 1024) : EReal :=
  if j.val = 0 then ∑ r : Fin 256, dgB 0 x0 x1 x2 x4 x6 r e
  else if j.val = 1 then ∑ r : Fin 256, dgB 1 x0 x1 x3 x5 x6 r e else 0

theorem out_A_10 (c : Dev nD) (i : grid0.Coords) a2 h2 a3 h3 a4 h4 a5 h5 a6 h6 a7 h7 a8 h8 a9 h9 a10 h10 a11 h11 a12 h12 (hc : cond0_0 i)
    (x0 x1 x2 x3 x4 x5 x6) (j : Fin 8) (e : Fin 1024) :
    out0_A_10 (F := Ideal) c i a2 h2 a3 h3 a4 h4 a5 h5 a6 h6 a7 h7 a8 h8 a9 h9 a10 h10 a11 h11 a12 h12 hc x0 x1 x2 x3 x4 x5 x6 (ix2 j e)
      = accB x0 x1 x2 x3 x4 x5 x6 j e := by
  unfold out0_A_10 kernelRun0_A accB
  dsimp only
  sl_unfold_words
  simp only [View.readAt_eq_ld, h2.read_unread, h3.read_unread, h4.read_unread, h5.read_unread, h6.read_unread, h7.read_unread, h8.read_unread, View.ld_unit_zero (S := S1x256x1024) hz3, View.ld_unit_zero (S := S1024x1024) hz2]
  by_cases h0 : j.val = 0
  · rw [if_pos h0, View.read_writes_cons_unit_of_not_mem _ _ _ _ _ _ rfl 0 (Or.inl (by simp [ix2]; omega)),
      View.read_writes_cons_unit_of_mem _ _ _ _ _ _ (ix2 0 e) rfl (by intro a; fin_cases a <;> simp [ix2] <;> omega)]
    unfold_payloads
    pointwise
    rw [readCov_at _ _ _ (ix2 0 e) _ (by funext a; fin_cases a <;> refine Fin.ext ?_ <;> simp [ix2, LoadRect.idx]),
      View.read_writes_cons_unit_of_mem _ _ _ _ _ _ (ix2 0 e) rfl (by intro a; fin_cases a <;> simp [ix2])]
    exact zero_add _
  by_cases h1 : j.val = 1
  · rw [if_neg h0, if_pos h1, View.read_writes_cons_unit_of_mem _ _ _ _ _ _ (ix2 0 e) rfl (by intro a; fin_cases a <;> simp [ix2] <;> omega)]
    unfold_payloads
    pointwise
    rw [readCov_at _ _ _ (ix2 1 e) _ (by funext a; fin_cases a <;> refine Fin.ext ?_ <;> simp [ix2, LoadRect.idx]),
      View.read_writes_cons_unit_of_not_mem _ _ _ _ _ _ rfl 0 (Or.inr (by simp [ix2])),
      View.read_writes_cons_unit_of_mem _ _ _ _ _ _ (ix2 1 e) rfl (by intro a; fin_cases a <;> simp [ix2])]
    exact zero_add _
  · rw [if_neg h0, if_neg h1, View.read_writes_cons_unit_of_not_mem _ _ _ _ _ _ rfl 0 (Or.inr (by simp [ix2]; omega)),
     View.read_writes_cons_unit_of_not_mem _ _ _ _ _ _ rfl 0 (Or.inr (by simp [ix2]; omega)),
      View.read_writes_cons_unit_of_mem _ _ _ _ _ _ (ix2 j e) rfl (by intro a; fin_cases a <;> simp [ix2])]
    unfold_payloads
    pointwise

theorem out_B_10 (c : Dev nD) (i : grid0.Coords) a2 h2 a3 h3 a4 h4 a5 h5 a6 h6 a7 h7 a8 h8 a9 h9 a10 h10 a11 h11 a12 h12 (hc : ¬cond0_0 i)
    (x0 x1 x2 x3 x4 x5 x6 xo) (j : Fin 8) (e : Fin 1024) :
    out0_B_10 (F := Ideal) c i a2 h2 a3 h3 a4 h4 a5 h5 a6 h6 a7 h7 a8 h8 a9 h9 a10 h10 a11 h11 a12 h12 hc x0 x1 x2 x3 x4 x5 x6 xo (ix2 j e)
      = (xo (ix2 j e) : EReal) + accB x0 x1 x2 x3 x4 x5 x6 j e := by
  unfold out0_B_10 kernelRun0_B accB
  dsimp only
  sl_unfold_words
  simp only [View.readAt_eq_ld, h2.read_unread, h3.read_unread, h4.read_unread, h5.read_unread, h6.read_unread, h7.read_unread, h8.read_unread, View.ld_unit_zero (S := S1x256x1024) hz3, View.ld_unit_zero (S := S1024x1024) hz2]
  by_cases h0 : j.val = 0
  · obtain rfl : j = 0 := Fin.ext h0
    rw [if_pos h0, View.read_writes_cons_unit_of_not_mem _ _ _ _ _ _ rfl 0 (Or.inl (by simp [ix2])),
      View.read_writes_cons_unit_of_mem _ _ _ _ _ _ (ix2 0 e) rfl (by intro a; fin_cases a <;> simp [ix2])]
    unfold_payloads
    pointwise
    rw [h12.read_unread]
    rfl
  by_cases h1 : j.val = 1
  · obtain rfl : j = 1 := Fin.ext h1
    rw [if_neg h0, if_pos h1, View.read_writes_cons_unit_of_mem _ _ _ _ _ _ (ix2 0 e) rfl (by intro a; fin_cases a <;> simp [ix2])]
    unfold_payloads
    pointwise
    rw [h12.read_unread]
    rfl
  · rw [if_neg h0, if_neg h1, View.read_writes_cons_unit_of_not_mem _ _ _ _ _ _ rfl 0 (Or.inr (by simp [ix2]; omega)),
     View.read_writes_cons_unit_of_not_mem _ _ _ _ _ _ rfl 0 (Or.inr (by simp [ix2]; omega)), add_zero]
    exact congrFun (h12.read_unread xo) _

end Cert.GateIdeal.Body

end
-- ==== Proof.Gate.Math.lean ====
module

public import Idealize.ShloMosaic.Lib.Pointwise
public import Idealize.ShloMosaic.Lib.ValueIdx
public import Idealize.ShloMosaic.PureOps.Ideal.Laws

@[expose] public section

noncomputable section

/-! The gradient of the gated merge as formulas over the extended reals. `ct` is the cotangent of the output product,
    `w` its weight, `ya`, `yb` the two branches, `g` the gates' pre-activations (the second gate in the upper half
    of the lanes) and `b` the bias, one row for each gate. -/

namespace Cert.GateMath

open Idealize.ShloMosaic

/-- Contents of a matrix. -/
abbrev M2 (a b : ℕ) := (⟨2, ![a, b]⟩ : Shape).Idx → EReal
/-- Contents of an array of rank three. -/
abbrev M3 (a b c : ℕ) := (⟨3, ![a, b, c]⟩ : Shape).Idx → EReal

/-- The lane of the first gate's pre-activation. -/
def laneA (e : Fin 1024) : Fin 2048 := ⟨e.val, by omega⟩
/-- The lane of the second gate's pre-activation. -/
def laneB (e : Fin 1024) : Fin 2048 := ⟨1024 + e.val, by omega⟩

/-- The cotangent of the merged branches. -/
def dm (ct : M3 2 2048 1024) (w : M2 1024 1024) (n : Fin 2) (s : Fin 2048) (e : Fin 1024) : EReal :=
  ∑ k : Fin 1024, ct (ix3 n s k) * w (ix2 e k)

/-- The first gate. -/
def gateA (g : M3 2 2048 2048) (b : M2 3 1024) (n : Fin 2) (s : Fin 2048) (e : Fin 1024) : EReal :=
  Ideal.logistic (g (ix3 n s (laneA e)) + b (ix2 0 e))

/-- The second gate. -/
def gateB (g : M3 2 2048 2048) (b : M2 3 1024) (n : Fin 2) (s : Fin 2048) (e : Fin 1024) : EReal :=
  Ideal.logistic (g (ix3 n s (laneB e)) + b (ix2 1 e))

/-- The gradient of the first gate's pre-activation. -/
def dgA (ct : M3 2 2048 1024) (w : M2 1024 1024) (ya : M3 2 2048 1024) (g : M3 2 2048 2048) (b : M2 3 1024)
    (n : Fin 2) (s : Fin 2048) (e : Fin 1024) : EReal :=
  dm ct w n s e * ya (ix3 n s e) * (gateA g b n s e * (1 - gateA g b n s e))

/-- The gradient of the second gate's pre-activation. -/
def dgB (ct : M3 2 2048 1024) (w : M2 1024 1024) (yb : M3 2 2048 1024) (g : M3 2 2048 2048) (b : M2 3 1024)
    (n : Fin 2) (s : Fin 2048) (e : Fin 1024) : EReal :=
  dm ct w n s e * yb (ix3 n s e) * (gateB g b n s e * (1 - gateB g b n s e))

/-- The gradient of the first branch. -/
def outYa (ct : M3 2 2048 1024) (w : M2 1024 1024) (g : M3 2 2048 2048) (b : M2 3 1024) : M3 2 2048 1024 :=
  fun i => dm ct w (i 0) (i 1) (i 2) * gateA g b (i 0) (i 1) (i 2)

/-- The gradient of the second branch. -/
def outYb (ct : M3 2 2048 1024) (w : M2 1024 1024) (g : M3 2 2048 2048) (b : M2 3 1024) : M3 2 2048 1024 :=
  fun i => dm ct w (i 0) (i 1) (i 2) * gateB g b (i 0) (i 1) (i 2)

/-- The gradient of the gates' pre-activations, the first gate's in the lower half of the lanes. -/
def outG (ct : M3 2 2048 1024) (w : M2 1024 1024) (ya yb : M3 2 2048 1024) (g : M3 2 2048 2048) (b : M2 3 1024) : M3 2 2048 2048 :=
  fun i => if h : (i 2).val < 1024 then dgA ct w ya g b (i 0) (i 1) ⟨(i 2).val, h⟩
    else dgB ct w yb g b (i 0) (i 1) ⟨(i 2).val - 1024, by have : (i 2).val < 2048 := (i 2).isLt; omega⟩

/-- The gradient of the two bias rows: the pre-activations' gradients summed over sequences and positions. -/
def outB (ct : M3 2 2048 1024) (w : M2 1024 1024) (ya yb : M3 2 2048 1024) (g : M3 2 2048 2048) (b : M2 3 1024) : M2 8 1024 :=
  fun i => if (i 0).val = 0 then ∑ n : Fin 2, ∑ s : Fin 2048, dgA ct w ya g b n s (i 1)
    else if (i 0).val = 1 then ∑ n : Fin 2, ∑ s : Fin 2048, dgB ct w yb g b n s (i 1) else 0

end Cert.GateMath

end
-- ==== Proof.Gate.Blocks.lean ====
module

public import proofs.«01_k».proof.Proof.Gate.Body
public import proofs.«01_k».proof.Proof.Gate.Math
public import Idealize.ShloMosaic.Lib.StableHlo.ReadAt

@[expose] public section

set_option maxRecDepth 16384

noncomputable section

/-! The gate kernel's blocks as parts of its arguments, and its final arrays. -/

namespace Cert.GateIdeal.Blocks

open Cert.GateIdeal Cert.GateIdeal.Gen Cert.GateIdeal.Body Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 8, by have := lt_of_lt_of_eq t.isLt (show cfg0.N = 16 from N_0); omega⟩
/-- The position of row `r` of point `t`'s block. -/
def rowOf (t : Fin cfg0.N) (r : Fin 256) : Fin 2048 := ⟨t.val % 8 * 256 + r.val, by omega⟩

theorem index_seq : ∀ t : Fin grid0.N,
    (win0_0.index t 0 = t.val / 8 ∧ win0_0.index t 1 = t.val % 8 ∧ win0_0.index t 2 = 0)
    ∧ (win0_2.index t 0 = t.val / 8 ∧ win0_2.index t 1 = t.val % 8 ∧ win0_2.index t 2 = 0)
    ∧ (win0_3.index t 0 = t.val / 8 ∧ win0_3.index t 1 = t.val % 8 ∧ win0_3.index t 2 = 0)
    ∧ (win0_4.index t 0 = t.val / 8 ∧ win0_4.index t 1 = t.val % 8 ∧ win0_4.index t 2 = 0)
    ∧ (win0_5.index t 0 = t.val / 8 ∧ win0_5.index t 1 = t.val % 8 ∧ win0_5.index t 2 = 1)
    ∧ (win0_7.index t 0 = t.val / 8 ∧ win0_7.index t 1 = t.val % 8 ∧ win0_7.index t 2 = 0)
    ∧ (win0_8.index t 0 = t.val / 8 ∧ win0_8.index t 1 = t.val % 8 ∧ win0_8.index t 2 = 0)
    ∧ (win0_9.index t 0 = t.val / 8 ∧ win0_9.index t 1 = t.val % 8 ∧ win0_9.index t 2 = 0)
    ∧ (win0_1.index t 0 = 0 ∧ win0_1.index t 1 = 0) ∧ (win0_6.index t 0 = 0 ∧ win0_6.index t 1 = 0) ∧ (win0_10.index t 0 = 0 ∧ win0_10.index t 1 = 0) := by
  decide +kernel

theorem iblk_0 (c : Dev nD) (t : Fin cfg0.N) (r : Fin 256) (k : Fin 1024) :
    iblk m c 0 t (ix3 0 r k) = V m c main_v1 (ix3 (seqOf t) (rowOf t r) k) := by
  show V m c main_v1 (((cfg0.win 0).blk t).view.emb (ix3 0 r k)) = _
  refine congrArg _ (funext fun a => Fin.ext ?_)
  obtain ⟨⟨h0, h1, h2⟩, -⟩ := index_seq t
  fin_cases a
  · show win0_0.index t 0 * 1 + 1 * 0 = t.val / 8
    omega
  · show win0_0.index t 1 * 256 + 1 * r.val = t.val % 8 * 256 + r.val
    omega
  · show win0_0.index t 2 * 1024 + 1 * k.val = k.val
    omega

theorem iblk_2 (c : Dev nD) (t : Fin cfg0.N) (r : Fin 256) (k : Fin 1024) :
    iblk m c 2 t (ix3 0 r k) = V m c main_arg0 (ix3 (seqOf t) (rowOf t r) k) := by
  show V m c main_arg0 (((cfg0.win 2).blk t).view.emb (ix3 0 r k)) = _
  refine congrArg _ (funext fun a => Fin.ext ?_)
  obtain ⟨-, ⟨h0, h1, h2⟩, -⟩ := index_seq t
  fin_cases a
  · show win0_2.index t 0 * 1 + 1 * 0 = t.val / 8
    omega
  · show win0_2.index t 1 * 256 + 1 * r.val = t.val % 8 * 256 + r.val
    omega
  · show win0_2.index t 2 * 1024 + 1 * k.val = k.val
    omega

theorem iblk_3 (c : Dev nD) (t : Fin cfg0.N) (r : Fin 256) (k : Fin 1024) :
    iblk m c 3 t (ix3 0 r k) = V m c main_arg1 (ix3 (seqOf t) (rowOf t r) k) := by
  show V m c main_arg1 (((cfg0.win 3).blk t).view.emb (ix3 0 r k)) = _
  refine congrArg _ (funext fun a => Fin.ext ?_)
  obtain ⟨-, -, ⟨h0, h1, h2⟩, -⟩ := index_seq t
  fin_cases a
  · show win0_3.index t 0 * 1 + 1 * 0 = t.val / 8
    omega
  · show win0_3.index t 1 * 256 + 1 * r.val = t.val % 8 * 256 + r.val
    omega
  · show win0_3.index t 2 * 1024 + 1 * k.val = k.val
    omega

theorem iblk_4 (c : Dev nD) (t : Fin cfg0.N) (r : Fin 256) (k : Fin 1024) :
    iblk m c 4 t (ix3 0 r k) = V m c main_arg2 (ix3 (seqOf t) (rowOf t r) (Cert.GateMath.laneA k)) := by
  show V m c main_arg2 (((cfg0.win 4).blk t).view.emb (ix3 0 r k)) = _
  refine congrArg _ (funext fun a => Fin.ext ?_)
  obtain ⟨-, -, -, ⟨h0, h1, h2⟩, -⟩ := index_seq t
  fin_cases a
  · show win0_4.index t 0 * 1 + 1 * 0 = t.val / 8
    omega
  · show win0_4.index t 1 * 256 + 1 * r.val = t.val % 8 * 256 + r.val
    omega
  · show win0_4.index t 2 * 1024 + 1 * k.val = k.val
    omega

theorem iblk_5 (c : Dev nD) (t : Fin cfg0.N) (r : Fin 256) (k : Fin 1024) :
    iblk m c 5 t (ix3 0 r k) = V m c main_arg2 (ix3 (seqOf t) (rowOf t r) (Cert.GateMath.laneB k)) := by
  show V m c main_arg2 (((cfg0.win 5).blk t).view.emb (ix3 0 r k)) = _
  refine congrArg _ (funext fun a => Fin.ext ?_)
  obtain ⟨-, -, -, -, ⟨h0, h1, h2⟩, -⟩ := index_seq t
  fin_cases a
  · show win0_5.index t 0 * 1 + 1 * 0 = t.val / 8
    omega
  · show win0_5.index t 1 * 256 + 1 * r.val = t.val % 8 * 256 + r.val
    omega
  · show win0_5.index t 2 * 1024 + 1 * k.val = 1024 + k.val
    omega

theorem iblk_1 (c : Dev nD) (t : Fin cfg0.N) (j : Fin 1024) (k : Fin 1024) :
    iblk m c 1 t (ix2 j k) = V m c main_v2 (ix2 j k) := by
  show V m c main_v2 (((cfg0.win 1).blk t).view.emb (ix2 j k)) = _
  refine congrArg _ (funext fun a => Fin.ext ?_)
  obtain ⟨-, -, -, -, -, -, -, -, ⟨h0, h1⟩, -⟩ := index_seq t
  fin_cases a
  · show win0_1.index t 0 * 1024 + 1 * j.val = j.val
    omega
  · show win0_1.index t 1 * 1024 + 1 * k.val = k.val
    omega

theorem iblk_6 (c : Dev nD) (t : Fin cfg0.N) (j : Fin 8) (k : Fin 1024) :
    iblk m c 6 t (ix2 j k) = V m c main_v0 (ix2 j k) := by
  show V m c main_v0 (((cfg0.win 6).blk t).view.emb (ix2 j k)) = _
  refine congrArg _ (funext fun a => Fin.ext ?_)
  obtain ⟨-, -, -, -, -, -, -, -, -, ⟨h0, h1⟩, -⟩ := index_seq t
  fin_cases a
  · show win0_6.index t 0 * 8 + 1 * j.val = j.val
    omega
  · show win0_6.index t 1 * 1024 + 1 * k.val = k.val
    omega

theorem V_v1 (c : Dev nD) (i : S2x2048x1024.Idx) : V m c main_v1 i = m ((c : Thread nD τ).loc main_arg5) i := by
  unfold V
  after_reads_at

theorem V_v2 (c : Dev nD) (i : S1024x1024.Idx) : V m c main_v2 i = m ((c : Thread nD τ).loc main_arg4) i := by
  unfold V
  after_reads_at

theorem V_v0 (c : Dev nD) (j : Fin 3) (e : Fin 1024) : V m c main_v0 (ix2 ⟨j.val, by omega⟩ e) = m ((c : Thread nD τ).loc main_arg3) (ix2 j e) := by
  unfold V
  after_reads_at

/-- The cotangent, the weight, the branches, the pre-activations and the bias, as the launch finds them. -/
abbrev aCt (c : Dev nD) : Cert.GateMath.M3 2 2048 1024 := m ((c : Thread nD τ).loc main_arg5)
abbrev aW (c : Dev nD) : Cert.GateMath.M2 1024 1024 := m ((c : Thread nD τ).loc main_arg4)
abbrev aYa (c : Dev nD) : Cert.GateMath.M3 2 2048 1024 := m ((c : Thread nD τ).loc main_arg0)
abbrev aYb (c : Dev nD) : Cert.GateMath.M3 2 2048 1024 := m ((c : Thread nD τ).loc main_arg1)
abbrev aG (c : Dev nD) : Cert.GateMath.M3 2 2048 2048 := m ((c : Thread nD τ).loc main_arg2)
abbrev aB (c : Dev nD) : Cert.GateMath.M2 3 1024 := m ((c : Thread nD τ).loc main_arg3)

theorem dmB_eq (c : Dev nD) (t : Fin cfg0.N) (r : Fin 256) (e : Fin 1024) :
    dmB (iblk m c 0 t) (iblk m c 1 t) r e = Cert.GateMath.dm (aCt m c) (aW m c) (seqOf t) (rowOf t r) e := by
  unfold dmB Cert.GateMath.dm
  refine Finset.sum_congr rfl fun k _ => ?_
  rw [iblk_0, iblk_1, V_v1, V_v2]

theorem sgA_eq (c : Dev nD) (t : Fin cfg0.N) (r : Fin 256) (e : Fin 1024) :
    sgB 0 (iblk m c 4 t) (iblk m c 6 t) r e = Cert.GateMath.gateA (aG m c) (aB m c) (seqOf t) (rowOf t r) e := by
  unfold sgB Cert.GateMath.gateA
  rw [iblk_4, iblk_6, V_main_arg2, show (0 : Fin 8) = ⟨(0 : Fin 3).val, by omega⟩ from rfl, V_v0]

theorem sgB_eq (c : Dev nD) (t : Fin cfg0.N) (r : Fin 256) (e : Fin 1024) :
    sgB 1 (iblk m c 5 t) (iblk m c 6 t) r e = Cert.GateMath.gateB (aG m c) (aB m c) (seqOf t) (rowOf t r) e := by
  unfold sgB Cert.GateMath.gateB
  rw [iblk_5, iblk_6, V_main_arg2, show (1 : Fin 8) = ⟨(1 : Fin 3).val, by omega⟩ from rfl, V_v0]

theorem dgA_eq (c : Dev nD) (t : Fin cfg0.N) (r : Fin 256) (e : Fin 1024) :
    dgB 0 (iblk m c 0 t) (iblk m c 1 t) (iblk m c 2 t) (iblk m c 4 t) (iblk m c 6 t) r e
      = Cert.GateMath.dgA (aCt m c) (aW m c) (aYa m c) (aG m c) (aB m c) (seqOf t) (rowOf t r) e := by
  unfold dgB Cert.GateMath.dgA Body.slope
  rw [dmB_eq, sgA_eq, iblk_2, V_main_arg0]

theorem dgB_eq (c : Dev nD) (t : Fin cfg0.N) (r : Fin 256) (e : Fin 1024) :
    dgB 1 (iblk m c 0 t) (iblk m c 1 t) (iblk m c 3 t) (iblk m c 5 t) (iblk m c 6 t) r e
      = Cert.GateMath.dgB (aCt m c) (aW m c) (aYb m c) (aG m c) (aB m c) (seqOf t) (rowOf t r) e := by
  unfold dgB Cert.GateMath.dgB Body.slope
  rw [dmB_eq, sgB_eq, iblk_3, V_main_arg1]

theorem outs_7 (c : Dev nD) (t : Fin cfg0.N) (r : Fin 256) (e : Fin 1024) :
    (outsAt0 m c t.val t.isLt).1 (ix3 0 r e) = Cert.GateMath.outYa (aCt m c) (aW m c) (aG m c) (aB m c) (ix3 (seqOf t) (rowOf t r) e) := by
  by_cases h : t.val % 16 = 0
  · rw [outsAt0_A m c t h]; dsimp only; rw [out_A_7, dmB_eq, sgA_eq]; rfl
  · rw [outsAt0_B m c t h]; dsimp only; rw [out_B_7, dmB_eq, sgA_eq]; rfl

theorem outs_8 (c : Dev nD) (t : Fin cfg0.N) (r : Fin 256) (e : Fin 1024) :
    (outsAt0 m c t.val t.isLt).2.1 (ix3 0 r e) = Cert.GateMath.outYb (aCt m c) (aW m c) (aG m c) (aB m c) (ix3 (seqOf t) (rowOf t r) e) := by
  by_cases h : t.val % 16 = 0
  · rw [outsAt0_A m c t h]; dsimp only; rw [out_A_8, dmB_eq, sgB_eq]; rfl
  · rw [outsAt0_B m c t h]; dsimp only; rw [out_B_8, dmB_eq, sgB_eq]; rfl

theorem outs_9 (c : Dev nD) (t : Fin cfg0.N) (r : Fin 256) (l : Fin 2048) :
    (outsAt0 m c t.val t.isLt).2.2.1 (ix3 0 r l)
      = Cert.GateMath.outG (aCt m c) (aW m c) (aYa m c) (aYb m c) (aG m c) (aB m c) (ix3 (seqOf t) (rowOf t r) l) := by
  by_cases h : t.val % 16 = 0
  · rw [outsAt0_A m c t h]; dsimp only; rw [out_A_9]; unfold bothB; simp only [dgA_eq, dgB_eq]; rfl
  · rw [outsAt0_B m c t h]; dsimp only; rw [out_B_9]; unfold bothB; simp only [dgA_eq, dgB_eq]; rfl

/-- What point `n` adds to row `j` of the bias gradients. -/
def addAt (c : Dev nD) (j : Fin 8) (e : Fin 1024) (t : Fin cfg0.N) : EReal :=
  if j.val = 0 then ∑ r : Fin 256, Cert.GateMath.dgA (aCt m c) (aW m c) (aYa m c) (aG m c) (aB m c) (seqOf t) (rowOf t r) e
  else if j.val = 1 then ∑ r : Fin 256, Cert.GateMath.dgB (aCt m c) (aW m c) (aYb m c) (aG m c) (aB m c) (seqOf t) (rowOf t r) e else 0

theorem accB_eq (c : Dev nD) (t : Fin cfg0.N) (j : Fin 8) (e : Fin 1024) :
    accB (iblk m c 0 t) (iblk m c 1 t) (iblk m c 2 t) (iblk m c 3 t) (iblk m c 4 t) (iblk m c 5 t) (iblk m c 6 t) j e = addAt m c j e t := by
  unfold accB addAt
  simp only [dgA_eq, dgB_eq]

/-- After point `n` the accumulated rows hold what the points up to `n` add. -/
theorem outs_10 (c : Dev nD) (j : Fin 8) (e : Fin 1024) : ∀ (n : ℕ) (h : n < cfg0.N),
    (outsAt0 m c n h).2.2.2 (ix2 j e) = ∑ k : Fin (n + 1), addAt m c j e ⟨k.val, by omega⟩
  | 0, h => by
    rw [show outsAt0 m c 0 h = _ from outsAt0_A m c ⟨0, h⟩ rfl]; dsimp only
    rw [out_A_10, accB_eq, Fin.sum_univ_one]; rfl
  | n + 1, h => by
    have hN : cfg0.N = 16 := N_0
    rw [show outsAt0 m c (n + 1) h = _ from outsAt0_B m c ⟨n + 1, h⟩ (by dsimp only; omega)]; dsimp only
    rw [out_B_10, accB_eq, Fin.sum_univ_castSucc]
    exact congrArg (· + _) (outs_10 c j e n _)

end Cert.GateIdeal.Blocks

end
-- ==== Proof.Gate.Arrays.lean ====
module

public import proofs.«01_k».proof.Proof.Gate.Blocks
public import Idealize.ShloMosaic.Lib.Pipeline.Value

@[expose] public section

set_option maxRecDepth 16384

noncomputable section

/-! The gate kernel's four result arrays. -/

namespace Cert.GateIdeal.Arrays

open Cert.GateIdeal Cert.GateIdeal.Gen Cert.GateIdeal.Blocks Idealize.ShloMosaic Idealize.ShloMosaic.TcCoe Idealize.SL.Sem
open Idealize.ShloMosaic.Pipeline (Dat)

variable (m : (ℓ : Loc nD τ sig) → Buf (Elt Ideal) ℓ)

/-- The point whose block holds position `s` of sequence `n`. -/
def pointOf (n : Fin 2) (s : Fin 2048) : Fin cfg0.N := ⟨n.val * 8 + s.val / 256, by rw [show cfg0.N = 16 from N_0]; omega⟩

theorem final_7 (c : Dev nD) : (dats m 0 c).arrAt 7 cfg0.N = Cert.GateMath.outYa (aCt m c) (aW m c) (aG m c) (aB m c) := by
  refine (dats m 0 c).arrAt_eq_of_cover 7 (Cert.GateMath.outYa (aCt m c) (aW m c) (aG m c) (aB m c)) (fun t hf => ?_) (fun i => ?_)
  · obtain ⟨-, -, -, -, -, ⟨h0, h1, h2⟩, -⟩ := index_seq t
    rw [Value.flushed7]
    funext j
    change S1x256x1024.Idx at j
    obtain ⟨z, r, e, rfl⟩ : ∃ z r e, j = ix3 z r e := ⟨j 0, j 1, j 2, eq_ix3 j⟩
    obtain rfl : z = 0 := Subsingleton.elim _ _
    refine (outs_7 m c t r e).trans (congrArg (Cert.GateMath.outYa (aCt m c) (aW m c) (aG m c) (aB m c)) (funext fun a => Fin.ext ?_))
    fin_cases a
    · show t.val / 8 = win0_7.index t 0 * 1 + 1 * 0
      omega
    · show t.val % 8 * 256 + r.val = win0_7.index t 1 * 256 + 1 * r.val
      omega
    · show e.val = win0_7.index t 2 * 1024 + 1 * e.val
      omega
  · have i0 : (i 0).val < 2 := (i 0).isLt
    have i1 : (i 1).val < 2048 := (i 1).isLt
    have i2 : (i 2).val < 1024 := (i 2).isLt
    obtain ⟨-, -, -, -, -, ⟨h0, h1, h2⟩, -⟩ := index_seq (pointOf (i 0) (i 1))
    have hp : (pointOf (i 0) (i 1)).val = (i 0).val * 8 + (i 1).val / 256 := rfl
    refine ⟨pointOf (i 0) (i 1), flush0_7 _, ?_⟩
    show i ∈ ((View.whole main_v3_0).slice (win0_7.rect (pointOf (i 0) (i 1)))).set
    rw [View.set_slice_whole, Rect.mem_set_unit]
    intro a
    fin_cases a
    · show win0_7.index (pointOf (i 0) (i 1)) 0 * 1 ≤ (i 0).val ∧ (i 0).val < win0_7.index (pointOf (i 0) (i 1)) 0 * 1 + 1
      omega
    · show win0_7.index (pointOf (i 0) (i 1)) 1 * 256 ≤ (i 1).val ∧ (i 1).val < win0_7.index (pointOf (i 0) (i 1)) 1 * 256 + 256
      omega
    · show win0_7.index (pointOf (i 0) (i 1)) 2 * 1024 ≤ (i 2).val ∧ (i 2).val < win0_7.index (pointOf (i 0) (i 1)) 2 * 1024 + 1024
      omega

theorem final_8 (c : Dev nD) : (dats m 0 c).arrAt 8 cfg0.N = Cert.GateMath.outYb (aCt m c) (aW m c) (aG m c) (aB m c) := by
  refine (dats m 0 c).arrAt_eq_of_cover 8 (Cert.GateMath.outYb (aCt m c) (aW m c) (aG m c) (aB m c)) (fun t hf => ?_) (fun i => ?_)
  · obtain ⟨-, -, -, -, -, -, ⟨h0, h1, h2⟩, -⟩ := index_seq t
    rw [Value.flushed8]
    funext j
    change S1x256x1024.Idx at j
    obtain ⟨z, r, e, rfl⟩ : ∃ z r e, j = ix3 z r e := ⟨j 0, j 1, j 2, eq_ix3 j⟩
    obtain rfl : z = 0 := Subsingleton.elim _ _
    refine (outs_8 m c t r e).trans (congrArg (Cert.GateMath.outYb (aCt m c) (aW m c) (aG m c) (aB m c)) (funext fun a => Fin.ext ?_))
    fin_cases a
    · show t.val / 8 = win0_8.index t 0 * 1 + 1 * 0
      omega
    · show t.val % 8 * 256 + r.val = win0_8.index t 1 * 256 + 1 * r.val
      omega
    · show e.val = win0_8.index t 2 * 1024 + 1 * e.val
      omega
  · have i0 : (i 0).val < 2 := (i 0).isLt
    have i1 : (i 1).val < 2048 := (i 1).isLt
    have i2 : (i 2).val < 1024 := (i 2).isLt
    obtain ⟨-, -, -, -, -, -, ⟨h0, h1, h2⟩, -⟩ := index_seq (pointOf (i 0) (i 1))
    have hp : (pointOf (i 0) (i 1)).val = (i 0).val * 8 + (i 1).val / 256 := rfl
    refine ⟨pointOf (i 0) (i 1), flush0_8 _, ?_⟩
    show i ∈ ((View.whole main_v3_1).slice (win0_8.rect (pointOf (i 0) (i 1)))).set
    rw [View.set_slice_whole, Rect.mem_set_unit]
    intro a
    fin_cases a
    · show win0_8.index (pointOf (i 0) (i 1)) 0 * 1 ≤ (i 0).val ∧ (i 0).val < win0_8.index (pointOf (i 0) (i 1)) 0 * 1 + 1
      omega
    · show win0_8.index (pointOf (i 0) (i 1)) 1 * 256 ≤ (i 1).val ∧ (i 1).val < win0_8.index (pointOf (i 0) (i 1)) 1 * 256 + 256
      omega
    · show win0_8.index (pointOf (i 0) (i 1)) 2 * 1024 ≤ (i 2).val ∧ (i 2).val < win0_8.index (pointOf (i 0) (i 1)) 2 * 1024 + 1024
      omega

theorem final_9 (c : Dev nD) : (dats m 0 c).arrAt 9 cfg0.N = Cert.GateMath.outG (aCt m c) (aW m c) (aYa m c) (aYb m c) (aG m c) (aB m c) := by
  refine (dats m 0 c).arrAt_eq_of_cover 9 (Cert.GateMath.outG (aCt m c) (aW m c) (aYa m c) (aYb m c) (aG m c) (aB m c)) (fun t hf => ?_) (fun i => ?_)
  · obtain ⟨-, -, -, -, -, -, -, ⟨h0, h1, h2⟩, -⟩ := index_seq t
    rw [Value.flushed9]
    funext j
    change S1x256x2048.Idx at j
    obtain ⟨z, r, e, rfl⟩ : ∃ z r e, j = ix3 z r e := ⟨j 0, j 1, j 2, eq_ix3 j⟩
    obtain rfl : z = 0 := Subsingleton.elim _ _
    refine (outs_9 m c t r e).trans (congrArg (Cert.GateMath.outG (aCt m c) (aW m c) (aYa m c) (aYb m c) (aG m c) (aB m c)) (funext fun a => Fin.ext ?_))
    fin_cases a
    · show t.val / 8 = win0_9.index t 0 * 1 + 1 * 0
      omega
    · show t.val % 8 * 256 + r.val = win0_9.index t 1 * 256 + 1 * r.val
      omega
    · show e.val = win0_9.index t 2 * 2048 + 1 * e.val
      omega
  · have i0 : (i 0).val < 2 := (i 0).isLt
    have i1 : (i 1).val < 2048 := (i 1).isLt
    have i2 : (i 2).val < 2048 := (i 2).isLt
    obtain ⟨-, -, -, -, -, -, -, ⟨h0, h1, h2⟩, -⟩ := index_seq (pointOf (i 0) (i 1))
    have hp : (pointOf (i 0) (i 1)).val = (i 0).val * 8 + (i 1).val / 256 := rfl
    refine ⟨pointOf (i 0) (i 1), flush0_9 _, ?_⟩
    show i ∈ ((View.whole main_v3_2).slice (win0_9.rect (pointOf (i 0) (i 1)))).set
    rw [View.set_slice_whole, Rect.mem_set_unit]
    intro a
    fin_cases a
    · show win0_9.index (pointOf (i 0) (i 1)) 0 * 1 ≤ (i 0).val ∧ (i 0).val < win0_9.index (pointOf (i 0) (i 1)) 0 * 1 + 1
      omega
    · show win0_9.index (pointOf (i 0) (i 1)) 1 * 256 ≤ (i 1).val ∧ (i 1).val < win0_9.index (pointOf (i 0) (i 1)) 1 * 256 + 256
      omega
    · show win0_9.index (pointOf (i 0) (i 1)) 2 * 2048 ≤ (i 2).val ∧ (i 2).val < win0_9.index (pointOf (i 0) (i 1)) 2 * 2048 + 2048
      omega

/-- Sixteen blocks of 256 rows are the two sequences of 2048 positions. -/
theorem sum_blocks (f : Fin 2 → Fin 2048 → EReal) :
    ∑ t : Fin 16, ∑ r : Fin 256, f ⟨t.val / 8, by omega⟩ ⟨t.val % 8 * 256 + r.val, by omega⟩ = ∑ n : Fin 2, ∑ s : Fin 2048, f n s := by
  have e1 : ∀ n : Fin 2, ∑ s : Fin 2048, f n s = ∑ i : Fin 8, ∑ r : Fin 256, f n ⟨i.val * 256 + r.val, by omega⟩ := fun n => by
    rw [← (finProdFinEquiv (m := 8) (n := 256)).sum_comp (fun s => f n s), Fintype.sum_prod_type]
    refine Finset.sum_congr rfl fun i _ => Finset.sum_congr rfl fun r _ => congrArg (f n) (Fin.ext ?_)
    show r.val + 256 * i.val = i.val * 256 + r.val
    omega
  rw [← (finProdFinEquiv (m := 2) (n := 8)).sum_comp, Fintype.sum_prod_type]
  refine Finset.sum_congr rfl fun n _ => ?_
  rw [e1]
  refine Finset.sum_congr rfl fun i _ => Finset.sum_congr rfl fun r _ => ?_
  have h : (finProdFinEquiv (n, i)).val = i.val + 8 * n.val := rfl
  have hn : n.val < 2 := n.isLt
  have hi : i.val < 8 := i.isLt
  exact congr (congrArg f (Fin.ext (by show (finProdFinEquiv (n, i)).val / 8 = n.val; omega))) (Fin.ext (by show (finProdFinEquiv (n, i)).val % 8 * 256 + r.val = i.val * 256 + r.val; omega))

theorem last_10 (c : Dev nD) (j : Fin 8) (e : Fin 1024) (h : 15 < cfg0.N) :
    (outsAt0 m c 15 h).2.2.2 (ix2 j e) = Cert.GateMath.outB (aCt m c) (aW m c) (aYa m c) (aYb m c) (aG m c) (aB m c) (ix2 j e) := by
  rw [outs_10]
  show _ = if j.val = 0 then ∑ n, ∑ s, Cert.GateMath.dgA (aCt m c) (aW m c) (aYa m c) (aG m c) (aB m c) n s e
    else if j.val = 1 then ∑ n, ∑ s, Cert.GateMath.dgB (aCt m c) (aW m c) (aYb m c) (aG m c) (aB m c) n s e else 0
  unfold addAt
  split_ifs
  · exact sum_blocks fun n s => Cert.GateMath.dgA (aCt m c) (aW m c) (aYa m c) (aG m c) (aB m c) n s e
  · exact sum_blocks fun n s => Cert.GateMath.dgB (aCt m c) (aW m c) (aYb m c) (aG m c) (aB m c) n s e
  · exact Finset.sum_const_zero

theorem final_10 (c : Dev nD) : (dats m 0 c).arrAt 10 cfg0.N
    = Cert.GateMath.outB (aCt m c) (aW m c) (aYa m c) (aYb m c) (aG m c) (aB m c) := by
  have hN : cfg0.N = 16 := N_0
  refine (dats m 0 c).arrAt_eq_of_cover 10 (Cert.GateMath.outB (aCt m c) (aW m c) (aYa m c) (aYb m c) (aG m c) (aB m c)) (fun t hf => ?_) (fun i => ?_)
  · have ht : t.val = 15 := by have := (flush0_10 t).mp hf; have := t.isLt; omega
    obtain ⟨-, -, -, -, -, -, -, -, -, -, h0, h1⟩ := index_seq t
    rw [Value.flushed10]
    obtain ⟨n, hn⟩ := t
    obtain rfl : n = 15 := ht
    funext j
    change S8x1024.Idx at j
    obtain ⟨r, e, rfl⟩ : ∃ r e, j = ix2 r e := ⟨j 0, j 1, eq_ix2 j⟩
    refine (last_10 m c r e _).trans (congrArg (Cert.GateMath.outB (aCt m c) (aW m c) (aYa m c) (aYb m c) (aG m c) (aB m c)) (funext fun a => Fin.ext ?_))
    fin_cases a
    · show r.val = win0_10.index _ 0 * 8 + 1 * r.val
      omega
    · show e.val = win0_10.index _ 1 * 1024 + 1 * e.val
      omega
  · have i0 : (i 0).val < 8 := (i 0).isLt
    have i1 : (i 1).val < 1024 := (i 1).isLt
    have h15 : 15 < cfg0.N := by omega
    obtain ⟨-, -, -, -, -, -, -, -, -, -, h0, h1⟩ := index_seq ⟨15, h15⟩
    refine ⟨⟨15, h15⟩, (flush0_10 _).mpr rfl, ?_⟩
    show i ∈ ((View.whole main_v3_3).slice (win0_10.rect ⟨15, h15⟩)).set
    rw [View.set_slice_whole, Rect.mem_set_unit]
    intro a
    fin_cases a
    · show win0_10.index ⟨15, h15⟩ 0 * 8 ≤ (i 0).val ∧ (i 0).val < win0_10.index ⟨15, h15⟩ 0 * 8 + 8
      omega
    · show win0_10.index ⟨15, h15⟩ 1 * 1024 ≤ (i 1).val ∧ (i 1).val < win0_10.index ⟨15, h15⟩ 1 * 1024 + 1024
      omega

end Cert.GateIdeal.Arrays

end
-- ==== Proof.Common.lean ====
module

public import Idealize.ShloMosaic.Lib.Pointwise
public import Idealize.ShloMosaic.Lib.ValueIdx
public import Idealize.ShloMosaic.PureOps.Ideal.Laws

@[expose] public section

noncomputable section

/-! Lemmas that several of the certificates share. -/

namespace Cert.Common

open Idealize.ShloMosaic

/-- The host's sum over the first two of three axes, at an index of the third. -/
theorem hostReduceAdd_r3_a01 {n0 n1 n2 : ℕ} (h : (⟨3, ![n0, n1, n2]⟩ : Shape).ReducesTo [0, 1] ⟨1, ![n2]⟩)
    (v : (⟨3, ![n0, n1, n2]⟩ : Shape).Idx → EReal) (init : EReal) (e : Fin n2) :
    Ideal.hostReduceAdd h v init (ix1 e) = init + ∑ a : Fin n0, ∑ b : Fin n1, v (ix3 a b e) := by
  unfold Ideal.hostReduceAdd
  rw [Finset.sum_filter]
  have key : ∀ (a : Fin n0) (b : Fin n1) (c : Fin n2), h.drop (ix3 a b c) = ix1 e ↔ c = e := by
    intro a b c
    constructor
    · intro hd
      have h0 : (h.drop (ix3 a b c) 0).val = e.val := congrArg (fun f => (f 0).val) hd
      exact Fin.ext h0
    · rintro rfl
      funext d
      fin_cases d
      exact Fin.ext rfl
  rw [sum_idx3]
  simp only [key, Finset.sum_ite_eq', Finset.mem_univ, if_true]

end Cert.Common

end
-- ==== Proof.Gate.Ref.lean ====
module

public import proofs.«01_k».proof.Proof.Gen.GateRefIdeal.Run
public import proofs.«01_k».proof.Proof.Gate.Math
public import proofs.«01_k».proof.Proof.Common

@[expose] public section

set_option maxRecDepth 16384

noncomputable section

/-! The results of the gate's reference. -/

namespace Cert.GateRefIdeal.Results

open Cert.GateRefIdeal Cert.GateRefIdeal.Gen Idealize.ShloMosaic Idealize.ShloMosaic.TcCoe Idealize.SL.Sem

variable (m : (ℓ : Loc nD τ sig) → Buf (Elt Ideal) ℓ) (ρ : Dev nD → PrngReg)

/-- The cotangent, the weight, the branches, the pre-activations and the bias, as the launch finds them. -/
abbrev aCt (c : Dev nD) : Cert.GateMath.M3 2 2048 1024 := m ((c : Thread nD τ).loc main_arg5)
abbrev aW (c : Dev nD) : Cert.GateMath.M2 1024 1024 := m ((c : Thread nD τ).loc main_arg4)
abbrev aYa (c : Dev nD) : Cert.GateMath.M3 2 2048 1024 := m ((c : Thread nD τ).loc main_arg0)
abbrev aYb (c : Dev nD) : Cert.GateMath.M3 2 2048 1024 := m ((c : Thread nD τ).loc main_arg1)
abbrev aG (c : Dev nD) : Cert.GateMath.M3 2 2048 2048 := m ((c : Thread nD τ).loc main_arg2)
abbrev aB (c : Dev nD) : Cert.GateMath.M2 3 1024 := m ((c : Thread nD τ).loc main_arg3)

theorem out_b (c : Dev nD) (j : Fin 8) (e : Fin 1024) : Value.res_main_v56 m c (ix2 j e)
    = Cert.GateMath.outB (aCt m c) (aW m c) (aYa m c) (aYb m c) (aG m c) (aB m c) (ix2 j e) := by
  unfold Value.res_main_v56
  pointwise
  simp only [Cert.Common.hostReduceAdd_r3_a01, Finset.univ_unique, Finset.sum_singleton, Fin.default_eq_zero]
  pointwise
  simp only [Cert.Common.hostReduceAdd_r3_a01]
  pointwise
  show _ = if j.val = 0 then ∑ n, ∑ s, Cert.GateMath.dgA (aCt m c) (aW m c) (aYa m c) (aG m c) (aB m c) n s e
    else if j.val = 1 then ∑ n, ∑ s, Cert.GateMath.dgB (aCt m c) (aW m c) (aYb m c) (aG m c) (aB m c) n s e else 0
  by_cases h0 : j.val = 0
  · rw [if_pos h0, dif_pos (by omega), dif_neg (by omega), dif_pos (by omega), zero_add]
    rfl
  by_cases h1 : j.val = 1
  · rw [if_neg h0, if_pos h1, dif_pos (by omega), dif_pos (by omega), dif_neg (by omega), add_zero]
    rfl
  rw [if_neg h0, if_neg h1]
  by_cases h3 : j.val < 3
  · rw [dif_pos h3, dif_neg (by omega), dif_neg (by omega), add_zero]
  · rw [dif_neg h3]
    show ((((0#32 : BitVec 32).toInt : ℤ) : ℝ) : EReal) = 0
    simp

theorem results : θ_run defs (onTc (τ := τ) (main (F := Ideal))) ⟨m, fun _ => 0, ρ⟩ fun r => ∀ c : Dev nD,
      r.2.mem ((c.tc : Thread nD τ).loc main_v53) = Cert.GateMath.outYa (aCt m c) (aW m c) (aG m c) (aB m c)
      ∧ r.2.mem ((c.tc : Thread nD τ).loc main_v54) = Cert.GateMath.outYb (aCt m c) (aW m c) (aG m c) (aB m c)
      ∧ r.2.mem ((c.tc : Thread nD τ).loc main_v55) = Cert.GateMath.outG (aCt m c) (aW m c) (aYa m c) (aYb m c) (aG m c) (aB m c)
      ∧ r.2.mem ((c.tc : Thread nD τ).loc main_v56) = Cert.GateMath.outB (aCt m c) (aW m c) (aYa m c) (aYb m c) (aG m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run (F := Ideal) m ρ)
  obtain ⟨h0, h1, h2, h3, h⟩ := h c
  refine ⟨h0.trans ?_, h1.trans ?_, h2.trans ?_, h3.trans ?_, h⟩
  · clear h0 h1 h2 h3 h
    funext i
    change S2x2048x1024.Idx at i
    idx_vars i
    pointwise
    exact mul_comm _ _
  · clear h0 h1 h2 h3 h
    funext i
    change S2x2048x1024.Idx at i
    idx_vars i
    pointwise
    exact mul_comm _ _
  · clear h0 h1 h2 h3 h
    funext i
    change S2x2048x2048.Idx at i
    idx_vars i
    pointwise
    rfl
  · clear h0 h1 h2 h3 h
    funext i
    change S8x1024.Idx at i
    idx_vars i
    exact out_b m c _ _

end Cert.GateRefIdeal.Results

end
-- ==== Proof.Gate.Claim.lean ====
module

public import proofs.«01_k».proof.Defs
public import proofs.«01_k».proof.Proof.Gate.Arrays
public import proofs.«01_k».proof.Proof.Gate.Ref
public import Idealize.ShloMosaic.Lib.Quiescent

@[expose] public section

set_option maxRecDepth 16384

noncomputable section

/-! The gate's claims. -/

namespace Cert.GateClaim

open Idealize.ShloMosaic Idealize.ShloMosaic.TcCoe Idealize.SL.Sem

theorem frame_ref : Cert.quiescent_GateRefIdeal := fun m ρ _ =>
  (θ_run Cert.GateRefIdeal.defs _ _).mono (fun r h => ⟨fun c => (h c).2.2.2.2, sem_eq_zero_of_no_sems (by decide) r.2⟩)
    (Cert.GateRefIdeal.Results.results m ρ)

theorem algebraic : Cert.algebraic_GateIdeal_GateRefIdeal := by
  intro m ρ m' ρ' _ hargs
  refine ⟨fun c => Cert.GateMath.outYa (Cert.GateIdeal.Blocks.aCt m c) (Cert.GateIdeal.Blocks.aW m c) (Cert.GateIdeal.Blocks.aG m c) (Cert.GateIdeal.Blocks.aB m c),
    fun c => Cert.GateMath.outYb (Cert.GateIdeal.Blocks.aCt m c) (Cert.GateIdeal.Blocks.aW m c) (Cert.GateIdeal.Blocks.aG m c) (Cert.GateIdeal.Blocks.aB m c),
    fun c => Cert.GateMath.outG (Cert.GateIdeal.Blocks.aCt m c) (Cert.GateIdeal.Blocks.aW m c) (Cert.GateIdeal.Blocks.aYa m c) (Cert.GateIdeal.Blocks.aYb m c) (Cert.GateIdeal.Blocks.aG m c) (Cert.GateIdeal.Blocks.aB m c),
    fun c => Cert.GateMath.outB (Cert.GateIdeal.Blocks.aCt m c) (Cert.GateIdeal.Blocks.aW m c) (Cert.GateIdeal.Blocks.aYa m c) (Cert.GateIdeal.Blocks.aYb m c) (Cert.GateIdeal.Blocks.aG m c) (Cert.GateIdeal.Blocks.aB m c), ?_, ?_⟩
  · refine (θ_run _ _ _).mono (fun r h c => ?_) (Cert.GateIdeal.Value.run_blocks m ρ)
    obtain ⟨h7, h8, h9, h10, h⟩ := h c
    exact ⟨h7.trans (Cert.GateIdeal.Arrays.final_7 m c), h8.trans (Cert.GateIdeal.Arrays.final_8 m c), h9.trans (Cert.GateIdeal.Arrays.final_9 m c),
      h10.trans (Cert.GateIdeal.Arrays.final_10 m c), h⟩
  · refine (θ_run _ _ _).mono (fun r h c => ?_) (Cert.GateRefIdeal.Results.results m' ρ')
    obtain ⟨e0, e1, e2, e3, e4, e5⟩ := hargs c
    obtain ⟨h0, h1, h2, h3, h⟩ := h c
    refine ⟨h0.trans ?_, h1.trans ?_, h2.trans ?_, h3.trans ?_, h⟩
    all_goals
      unfold Cert.GateRefIdeal.Results.aCt Cert.GateRefIdeal.Results.aW Cert.GateRefIdeal.Results.aG Cert.GateRefIdeal.Results.aB
      try unfold Cert.GateRefIdeal.Results.aYa Cert.GateRefIdeal.Results.aYb
      simp only [e0, e1, e2, e3, e4, e5]

end Cert.GateClaim

end
-- ==== Proof.Attn.Body.lean ====
module

public import proofs.«01_k».proof.Proof.Gen.AttnIdeal.Value
public import Idealize.ShloMosaic.Lib.Pointwise
public import Idealize.ShloMosaic.Lib.ValueIdx
public import Idealize.ShloMosaic.Lib.WritesUnit
public import Idealize.ShloMosaic.PureOps.Ideal.Laws

@[expose] public section

set_option maxRecDepth 16384

noncomputable section

/-! What one grid point of the attention's backward kernel computes from its blocks: `x0` the queries, keys and values, `x1` the
    table of the bias, `x2` the cotangent, `x3` the statistics.  A pair of heads shares 128 lanes; head `2 p + e` has the half `e`. -/

namespace Cert.AttnIdeal.Body

open Cert.AttnIdeal Cert.AttnIdeal.Gen Idealize.ShloMosaic Idealize.ShloMosaic.TcCoe Idealize.SL.Sem

/-- Whether lane `l` is in the half `e` of its pair, as the kernel tests it. -/
def own (e : Nat) (l : Fin 128) : BitVec 1 :=
  if e = 0 then IntOp.cmpi .slt (BitVec.ofNat 32 l) 64#32 else IntOp.xori (IntOp.cmpi .slt (BitVec.ofNat 32 l) 64#32) 1#1

/-- A lane of part `part` (query, key, value) of pair `p`. -/
def lan (p part : Nat) (hp : p < 6) (hq : part < 3) (l : Fin 128) : Fin 2304 := ⟨p * 384 + part * 128 + l.val, by omega⟩

/-- The probability of head `2 p + e`: the exponential of score minus statistic. -/
def pB (p e : Nat) (hp : p < 6) (he : e < 2) (x0 : Vec Ideal S1x1x128x2304 .bf16) (x1 : Vec Ideal S12x128x256 .f32)
    (x3 : Vec Ideal S1x1x128x128 .f32) (q k : Fin 128) : EReal :=
  Ideal.exp (∑ l : Fin 128, Scalar.select (own e l)
      ((x0 (ix4 0 0 q (lan p 0 hp (by omega) l)) : EReal) * Ideal.ofBits .bf16 15872#16 * (x0 (ix4 0 0 k (lan p 1 hp (by omega) l)) : EReal)) 0
    + (x1 (ix3 ⟨2 * p + e, by omega⟩ q ⟨128 + k.val, by omega⟩) : EReal) - (x3 (ix4 0 0 q ⟨16 + (2 * p + e), by omega⟩) : EReal))

/-- The gradient of the score. -/
def dsB (p e : Nat) (hp : p < 6) (he : e < 2) (x0 : Vec Ideal S1x1x128x2304 .bf16) (x1 : Vec Ideal S12x128x256 .f32)
    (x2 : Vec Ideal S1x1x128x768 .bf16) (x3 : Vec Ideal S1x1x128x128 .f32) (q k : Fin 128) : EReal :=
  pB p e hp he x0 x1 x3 q k * (∑ l : Fin 128, Scalar.select (own e l)
      ((x2 (ix4 0 0 q ⟨p * 128 + l.val, by omega⟩) : EReal) * (x0 (ix4 0 0 k (lan p 2 hp (by omega) l)) : EReal)) 0
    - (x3 (ix4 0 0 q ⟨2 * p + e, by omega⟩) : EReal))

/-- The gradient of a query's lane: from the head whose half the lane is in. -/
def dqB (p : Nat) (hp : p < 6) (x0 : Vec Ideal S1x1x128x2304 .bf16) (x1 : Vec Ideal S12x128x256 .f32)
    (x2 : Vec Ideal S1x1x128x768 .bf16) (x3 : Vec Ideal S1x1x128x128 .f32) (q : Fin 128) (l : Fin 128) : EReal :=
  Scalar.select (own 0 l)
    (∑ k : Fin 128, dsB p 0 hp (by omega) x0 x1 x2 x3 q k * (x0 (ix4 0 0 k (lan p 1 hp (by omega) l)) : EReal))
    (∑ k : Fin 128, dsB p 1 hp (by omega) x0 x1 x2 x3 q k * (x0 (ix4 0 0 k (lan p 1 hp (by omega) l)) : EReal))
    * Ideal.ofBits .f32 1040187392#32

/-- The gradient of a key's lane. -/
def dkB (p : Nat) (hp : p < 6) (x0 : Vec Ideal S1x1x128x2304 .bf16) (x1 : Vec Ideal S12x128x256 .f32)
    (x2 : Vec Ideal S1x1x128x768 .bf16) (x3 : Vec Ideal S1x1x128x128 .f32) (k : Fin 128) (l : Fin 128) : EReal :=
  Scalar.select (own 0 l)
    (∑ q : Fin 128, dsB p 0 hp (by omega) x0 x1 x2 x3 q k * ((x0 (ix4 0 0 q (lan p 0 hp (by omega) l)) : EReal) * Ideal.ofBits .bf16 15872#16))
    (∑ q : Fin 128, dsB p 1 hp (by omega) x0 x1 x2 x3 q k * ((x0 (ix4 0 0 q (lan p 0 hp (by omega) l)) : EReal) * Ideal.ofBits .bf16 15872#16))

/-- The gradient of a value's lane. -/
def dvB (p : Nat) (hp : p < 6) (x0 : Vec Ideal S1x1x128x2304 .bf16) (x1 : Vec Ideal S12x128x256 .f32)
    (x2 : Vec Ideal S1x1x128x768 .bf16) (x3 : Vec Ideal S1x1x128x128 .f32) (k : Fin 128) (l : Fin 128) : EReal :=
  Scalar.select (own 0 l)
    (∑ q : Fin 128, pB p 0 hp (by omega) x0 x1 x3 q k * (x2 (ix4 0 0 q ⟨p * 128 + l.val, by omega⟩) : EReal))
    (∑ q : Fin 128, pB p 1 hp (by omega) x0 x1 x3 q k * (x2 (ix4 0 0 q ⟨p * 128 + l.val, by omega⟩) : EReal))

/-- A load after stores that cover it, at one place: the stores read there. -/
theorem readCov_at {sp : Space} {S : Shape} {e : EltTy} (v : View sig .tc sp S e) (L : List (View.Piece (Elt Ideal) S e)) (B : LoadRect S)
    (y : S.Idx) (x : B.shape.Idx) (h : B.idx x = y) :
    v.readCov L B x = v.read (Elt Ideal) (v.writes (Elt Ideal) v.junk L) y := by
  subst h; rfl

/-- The gradient of a lane of part `part`. -/
def gradB (p : Nat) (hp : p < 6) (part : Fin 3) (x0 : Vec Ideal S1x1x128x2304 .bf16) (x1 : Vec Ideal S12x128x256 .f32)
    (x2 : Vec Ideal S1x1x128x768 .bf16) (x3 : Vec Ideal S1x1x128x128 .f32) (q : Fin 128) (l : Fin 128) : EReal :=
  match part with
  | 0 => dqB p hp x0 x1 x2 x3 q l
  | 1 => dkB p hp x0 x1 x2 x3 q l
  | 2 => dvB p hp x0 x1 x2 x3 q l

end Cert.AttnIdeal.Body
-- ==== Proof.Attn.Body4A.lean ====
module

public import proofs.«01_k».proof.Proof.Attn.Body

@[expose] public section

set_option maxRecDepth 16384

noncomputable section

/-! The first output at the first of a device's points, one store at a time: lane by lane it holds the gradients of queries, keys and values. -/

namespace Cert.AttnIdeal.Body

open Cert.AttnIdeal Cert.AttnIdeal.Gen Idealize.ShloMosaic Idealize.ShloMosaic.TcCoe Idealize.SL.Sem

theorem out_A_4_0_0 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 0 0 (by omega) (by omega) l))
      = dqB 0 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 0 * 384 + 0 * 128 + l.val < 2176 by omega)),
    View.read_writes_cons_unit_of_not_mem _ _ _ _ _ _ rfl 3 (Or.inl (show 0 * 384 + 0 * 128 + l.val < 2048 by omega)),
    View.read_writes_cons_unit_of_not_mem _ _ _ _ _ _ rfl 3 (Or.inl (show 0 * 384 + 0 * 128 + l.val < 1792 by omega)),
    View.read_writes_cons_unit_of_not_mem _ _ _ _ _ _ rfl 3 (Or.inl (show 0 * 384 + 0 * 128 + l.val < 1664 by omega)),
    View.read_writes_cons_unit_of_not_mem _ _ _ _ _ _ rfl 3 (Or.inl (show 0 * 384 + 0 * 128 + l.val < 1408 by omega)),
    View.read_writes_cons_unit_of_not_mem _ _ _ _ _ _ rfl 3 (Or.inl (show 0 * 384 + 0 * 128 + l.val < 1280 by omega)),
    View.read_writes_cons_unit_of_not_mem _ _ _ _ _ _ rfl 3 (Or.inl (show 0 * 384 + 0 * 128 + l.val < 1024 by omega)),
    View.read_writes_cons_unit_of_not_mem _ _ _ _ _ _ rfl 3 (Or.inl (show 0 * 384 + 0 * 128 + l.val < 896 by omega)),
    View.read_writes_cons_unit_of_not_mem _ _ _ _ _ _ rfl 3 (Or.inl (show 0 * 384 + 0 * 128 + l.val < 640 by omega)),
    View.read_writes_cons_unit_of_not_mem _ _ _ _ _ _ rfl 3 (Or.inl (show 0 * 384 + 0 * 128 + l.val < 512 by omega)),
    View.read_writes_cons_unit_of_not_mem _ _ _ _ _ _ rfl 3 (Or.inl (show 0 * 384 + 0 * 128 + l.val < 256 by omega)),
    View.read_writes_cons_unit_of_not_mem _ _ _ _ _ _ rfl 3 (Or.inl (show 0 * 384 + 0 * 128 + l.val < 128 by omega)),
    View.read_writes_cons_unit_of_not_mem _ _ _ _ _ _ rfl 3 (Or.inl (show 0 * 384 + 0 * 128 + l.val < 1920 by omega)),
    View.read_writes_cons_unit_of_not_mem _ _ _ _ _ _ rfl 3 (Or.inl (show 0 * 384 + 0 * 128 + l.val < 1536 by omega)),
    View.read_writes_cons_unit_of_not_mem _ _ _ _ _ _ rfl 3 (Or.inl (show 0 * 384 + 0 * 128 + l.val < 1152 by omega)),
    View.read_writes_cons_unit_of_not_mem _ _ _ _ _ _ rfl 3 (Or.inl (show 0 * 384 + 0 * 128 + l.val < 768 by omega)),
    View.read_writes_cons_unit_of_not_mem _ _ _ _ _ _ rfl 3 (Or.inl (show 0 * 384 + 0 * 128 + l.val < 384 by omega)),
    View.read_writes_cons_unit_of_mem _ _ _ _ _ _ (ix4 0 0 q l) rfl (by intro a; fin_cases a <;> simp [ix4, lan])]
  unfold_payloads
  pointwise
  rfl

theorem out_A_4_0_1 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 0 1 (by omega) (by omega) l))
      = dkB 0 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 0 * 384 + 1 * 128 + l.val < 2176 by omega)),
    View.read_writes_cons_unit_of_not_mem _ _ _ _ _ _ rfl 3 (Or.inl (show 0 * 384 + 1 * 128 + l.val < 2048 by omega)),
    View.read_writes_cons_unit_of_not_mem _ _ _ _ _ _ rfl 3 (Or.inl (show 0 * 384 + 1 * 128 + l.val < 1792 by omega)),
    View.read_writes_cons_unit_of_not_mem _ _ _ _ _ _ rfl 3 (Or.inl (show 0 * 384 + 1 * 128 + l.val < 1664 by omega)),
    View.read_writes_cons_unit_of_not_mem _ _ _ _ _ _ rfl 3 (Or.inl (show 0 * 384 + 1 * 128 + l.val < 1408 by omega)),
    View.read_writes_cons_unit_of_not_mem _ _ _ _ _ _ rfl 3 (Or.inl (show 0 * 384 + 1 * 128 + l.val < 1280 by omega)),
    View.read_writes_cons_unit_of_not_mem _ _ _ _ _ _ rfl 3 (Or.inl (show 0 * 384 + 1 * 128 + l.val < 1024 by omega)),
    View.read_writes_cons_unit_of_not_mem _ _ _ _ _ _ rfl 3 (Or.inl (show 0 * 384 + 1 * 128 + l.val < 896 by omega)),
    View.read_writes_cons_unit_of_not_mem _ _ _ _ _ _ rfl 3 (Or.inl (show 0 * 384 + 1 * 128 + l.val < 640 by omega)),
    View.read_writes_cons_unit_of_not_mem _ _ _ _ _ _ rfl 3 (Or.inl (show 0 * 384 + 1 * 128 + l.val < 512 by omega)),
    View.read_writes_cons_unit_of_not_mem _ _ _ _ _ _ rfl 3 (Or.inl (show 0 * 384 + 1 * 128 + l.val < 256 by omega)),
    View.read_writes_cons_unit_of_mem _ _ _ _ _ _ (ix4 0 0 q l) rfl (by intro a; fin_cases a <;> simp [ix4, lan])]
  unfold_payloads
  pointwise
  simp only [dkB, dsB, pB, lan, Nat.zero_mul, Nat.zero_add]
  rfl

theorem out_A_4_0_2 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 0 2 (by omega) (by omega) l))
      = dvB 0 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 0 * 384 + 2 * 128 + l.val < 2176 by omega)),
    View.read_writes_cons_unit_of_not_mem _ _ _ _ _ _ rfl 3 (Or.inl (show 0 * 384 + 2 * 128 + l.val < 2048 by omega)),
    View.read_writes_cons_unit_of_not_mem _ _ _ _ _ _ rfl 3 (Or.inl (show 0 * 384 + 2 * 128 + l.val < 1792 by omega)),
    View.read_writes_cons_unit_of_not_mem _ _ _ _ _ _ rfl 3 (Or.inl (show 0 * 384 + 2 * 128 + l.val < 1664 by omega)),
    View.read_writes_cons_unit_of_not_mem _ _ _ _ _ _ rfl 3 (Or.inl (show 0 * 384 + 2 * 128 + l.val < 1408 by omega)),
    View.read_writes_cons_unit_of_not_mem _ _ _ _ _ _ rfl 3 (Or.inl (show 0 * 384 + 2 * 128 + l.val < 1280 by omega)),
    View.read_writes_cons_unit_of_not_mem _ _ _ _ _ _ rfl 3 (Or.inl (show 0 * 384 + 2 * 128 + l.val < 1024 by omega)),
    View.read_writes_cons_unit_of_not_mem _ _ _ _ _ _ rfl 3 (Or.inl (show 0 * 384 + 2 * 128 + l.val < 896 by omega)),
    View.read_writes_cons_unit_of_not_mem _ _ _ _ _ _ rfl 3 (Or.inl (show 0 * 384 + 2 * 128 + l.val < 640 by omega)),
    View.read_writes_cons_unit_of_not_mem _ _ _ _ _ _ rfl 3 (Or.inl (show 0 * 384 + 2 * 128 + l.val < 512 by omega)),
    View.read_writes_cons_unit_of_mem _ _ _ _ _ _ (ix4 0 0 q l) rfl (by intro a; fin_cases a <;> simp [ix4, lan])]
  unfold_payloads
  pointwise
  simp only [dvB, pB, lan, Nat.zero_mul, Nat.zero_add]
  rfl

theorem out_A_4_1_0 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 1 0 (by omega) (by omega) l))
      = dqB 1 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 1 * 384 + 0 * 128 + l.val < 2176 by omega)),
    View.read_writes_cons_unit_of_not_mem _ _ _ _ _ _ rfl 3 (Or.inl (show 1 * 384 + 0 * 128 + l.val < 2048 by omega)),
    View.read_writes_cons_unit_of_not_mem _ _ _ _ _ _ rfl 3 (Or.inl (show 1 * 384 + 0 * 128 + l.val < 1792 by omega)),
    View.read_writes_cons_unit_of_not_mem _ _ _ _ _ _ rfl 3 (Or.inl (show 1 * 384 + 0 * 128 + l.val < 1664 by omega)),
    View.read_writes_cons_unit_of_not_mem _ _ _ _ _ _ rfl 3 (Or.inl (show 1 * 384 + 0 * 128 + l.val < 1408 by omega)),
    View.read_writes_cons_unit_of_not_mem _ _ _ _ _ _ rfl 3 (Or.inl (show 1 * 384 + 0 * 128 + l.val < 1280 by omega)),
    View.read_writes_cons_unit_of_not_mem _ _ _ _ _ _ rfl 3 (Or.inl (show 1 * 384 + 0 * 128 + l.val < 1024 by omega)),
    View.read_writes_cons_unit_of_not_mem _ _ _ _ _ _ rfl 3 (Or.inl (show 1 * 384 + 0 * 128 + l.val < 896 by omega)),
    View.read_writes_cons_unit_of_not_mem _ _ _ _ _ _ rfl 3 (Or.inl (show 1 * 384 + 0 * 128 + l.val < 640 by omega)),
    View.read_writes_cons_unit_of_not_mem _ _ _ _ _ _ rfl 3 (Or.inl (show 1 * 384 + 0 * 128 + l.val < 512 by omega)),
    View.read_writes_cons_unit_of_not_mem _ _ _ _ _ _ rfl 3 (Or.inr (show 256 + 128 ≤ 1 * 384 + 0 * 128 + l.val by omega)),
    View.read_writes_cons_unit_of_not_mem _ _ _ _ _ _ rfl 3 (Or.inr (show 128 + 128 ≤ 1 * 384 + 0 * 128 + l.val by omega)),
    View.read_writes_cons_unit_of_not_mem _ _ _ _ _ _ rfl 3 (Or.inl (show 1 * 384 + 0 * 128 + l.val < 1920 by omega)),
    View.read_writes_cons_unit_of_not_mem _ _ _ _ _ _ rfl 3 (Or.inl (show 1 * 384 + 0 * 128 + l.val < 1536 by omega)),
    View.read_writes_cons_unit_of_not_mem _ _ _ _ _ _ rfl 3 (Or.inl (show 1 * 384 + 0 * 128 + l.val < 1152 by omega)),
    View.read_writes_cons_unit_of_not_mem _ _ _ _ _ _ rfl 3 (Or.inl (show 1 * 384 + 0 * 128 + l.val < 768 by omega)),
    View.read_writes_cons_unit_of_mem _ _ _ _ _ _ (ix4 0 0 q l) rfl (by intro a; fin_cases a <;> simp [ix4, lan])]
  unfold_payloads
  pointwise
  rfl

theorem out_A_4_1_1 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 1 1 (by omega) (by omega) l))
      = dkB 1 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 1 * 384 + 1 * 128 + l.val < 2176 by omega)),
    View.read_writes_cons_unit_of_not_mem _ _ _ _ _ _ rfl 3 (Or.inl (show 1 * 384 + 1 * 128 + l.val < 2048 by omega)),
    View.read_writes_cons_unit_of_not_mem _ _ _ _ _ _ rfl 3 (Or.inl (show 1 * 384 + 1 * 128 + l.val < 1792 by omega)),
    View.read_writes_cons_unit_of_not_mem _ _ _ _ _ _ rfl 3 (Or.inl (show 1 * 384 + 1 * 128 + l.val < 1664 by omega)),
    View.read_writes_cons_unit_of_not_mem _ _ _ _ _ _ rfl 3 (Or.inl (show 1 * 384 + 1 * 128 + l.val < 1408 by omega)),
    View.read_writes_cons_unit_of_not_mem _ _ _ _ _ _ rfl 3 (Or.inl (show 1 * 384 + 1 * 128 + l.val < 1280 by omega)),
    View.read_writes_cons_unit_of_not_mem _ _ _ _ _ _ rfl 3 (Or.inl (show 1 * 384 + 1 * 128 + l.val < 1024 by omega)),
    View.read_writes_cons_unit_of_not_mem _ _ _ _ _ _ rfl 3 (Or.inl (show 1 * 384 + 1 * 128 + l.val < 896 by omega)),
    View.read_writes_cons_unit_of_not_mem _ _ _ _ _ _ rfl 3 (Or.inl (show 1 * 384 + 1 * 128 + l.val < 640 by omega)),
    View.read_writes_cons_unit_of_mem _ _ _ _ _ _ (ix4 0 0 q l) rfl (by intro a; fin_cases a <;> simp [ix4, lan])]
  unfold_payloads
  pointwise
  rfl

theorem out_A_4_1_2 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 1 2 (by omega) (by omega) l))
      = dvB 1 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 1 * 384 + 2 * 128 + l.val < 2176 by omega)),
    View.read_writes_cons_unit_of_not_mem _ _ _ _ _ _ rfl 3 (Or.inl (show 1 * 384 + 2 * 128 + l.val < 2048 by omega)),
    View.read_writes_cons_unit_of_not_mem _ _ _ _ _ _ rfl 3 (Or.inl (show 1 * 384 + 2 * 128 + l.val < 1792 by omega)),
    View.read_writes_cons_unit_of_not_mem _ _ _ _ _ _ rfl 3 (Or.inl (show 1 * 384 + 2 * 128 + l.val < 1664 by omega)),
    View.read_writes_cons_unit_of_not_mem _ _ _ _ _ _ rfl 3 (Or.inl (show 1 * 384 + 2 * 128 + l.val < 1408 by omega)),
    View.read_writes_cons_unit_of_not_mem _ _ _ _ _ _ rfl 3 (Or.inl (show 1 * 384 + 2 * 128 + l.val < 1280 by omega)),
    View.read_writes_cons_unit_of_not_mem _ _ _ _ _ _ rfl 3 (Or.inl (show 1 * 384 + 2 * 128 + l.val < 1024 by omega)),
    View.read_writes_cons_unit_of_not_mem _ _ _ _ _ _ rfl 3 (Or.inl (show 1 * 384 + 2 * 128 + l.val < 896 by omega)),
    View.read_writes_cons_unit_of_mem _ _ _ _ _ _ (ix4 0 0 q l) rfl (by intro a; fin_cases a <;> simp [ix4, lan])]
  unfold_payloads
  pointwise
  rfl

theorem out_A_4_2_0 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 2 0 (by omega) (by omega) l))
      = dqB 2 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 2 * 384 + 0 * 128 + l.val < 2176 by omega)),
    View.read_writes_cons_unit_of_not_mem _ _ _ _ _ _ rfl 3 (Or.inl (show 2 * 384 + 0 * 128 + l.val < 2048 by omega)),
    View.read_writes_cons_unit_of_not_mem _ _ _ _ _ _ rfl 3 (Or.inl (show 2 * 384 + 0 * 128 + l.val < 1792 by omega)),
    View.read_writes_cons_unit_of_not_mem _ _ _ _ _ _ rfl 3 (Or.inl (show 2 * 384 + 0 * 128 + l.val < 1664 by omega)),
    View.read_writes_cons_unit_of_not_mem _ _ _ _ _ _ rfl 3 (Or.inl (show 2 * 384 + 0 * 128 + l.val < 1408 by omega)),
    View.read_writes_cons_unit_of_not_mem _ _ _ _ _ _ rfl 3 (Or.inl (show 2 * 384 + 0 * 128 + l.val < 1280 by omega)),
    View.read_writes_cons_unit_of_not_mem _ _ _ _ _ _ rfl 3 (Or.inl (show 2 * 384 + 0 * 128 + l.val < 1024 by omega)),
    View.read_writes_cons_unit_of_not_mem _ _ _ _ _ _ rfl 3 (Or.inl (show 2 * 384 + 0 * 128 + l.val < 896 by omega)),
    View.read_writes_cons_unit_of_not_mem _ _ _ _ _ _ rfl 3 (Or.inr (show 640 + 128 ≤ 2 * 384 + 0 * 128 + l.val by omega)),
    View.read_writes_cons_unit_of_not_mem _ _ _ _ _ _ rfl 3 (Or.inr (show 512 + 128 ≤ 2 * 384 + 0 * 128 + l.val by omega)),
    View.read_writes_cons_unit_of_not_mem _ _ _ _ _ _ rfl 3 (Or.inr (show 256 + 128 ≤ 2 * 384 + 0 * 128 + l.val by omega)),
    View.read_writes_cons_unit_of_not_mem _ _ _ _ _ _ rfl 3 (Or.inr (show 128 + 128 ≤ 2 * 384 + 0 * 128 + l.val by omega)),
    View.read_writes_cons_unit_of_not_mem _ _ _ _ _ _ rfl 3 (Or.inl (show 2 * 384 + 0 * 128 + l.val < 1920 by omega)),
    View.read_writes_cons_unit_of_not_mem _ _ _ _ _ _ rfl 3 (Or.inl (show 2 * 384 + 0 * 128 + l.val < 1536 by omega)),
    View.read_writes_cons_unit_of_not_mem _ _ _ _ _ _ rfl 3 (Or.inl (show 2 * 384 + 0 * 128 + l.val < 1152 by omega)),
    View.read_writes_cons_unit_of_mem _ _ _ _ _ _ (ix4 0 0 q l) rfl (by intro a; fin_cases a <;> simp [ix4, lan])]
  unfold_payloads
  pointwise
  rfl

theorem out_A_4_2_1 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 2 1 (by omega) (by omega) l))
      = dkB 2 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 2 * 384 + 1 * 128 + l.val < 2176 by omega)),
    View.read_writes_cons_unit_of_not_mem _ _ _ _ _ _ rfl 3 (Or.inl (show 2 * 384 + 1 * 128 + l.val < 2048 by omega)),
    View.read_writes_cons_unit_of_not_mem _ _ _ _ _ _ rfl 3 (Or.inl (show 2 * 384 + 1 * 128 + l.val < 1792 by omega)),
    View.read_writes_cons_unit_of_not_mem _ _ _ _ _ _ rfl 3 (Or.inl (show 2 * 384 + 1 * 128 + l.val < 1664 by omega)),
    View.read_writes_cons_unit_of_not_mem _ _ _ _ _ _ rfl 3 (Or.inl (show 2 * 384 + 1 * 128 + l.val < 1408 by omega)),
    View.read_writes_cons_unit_of_not_mem _ _ _ _ _ _ rfl 3 (Or.inl (show 2 * 384 + 1 * 128 + l.val < 1280 by omega)),
    View.read_writes_cons_unit_of_not_mem _ _ _ _ _ _ rfl 3 (Or.inl (show 2 * 384 + 1 * 128 + l.val < 1024 by omega)),
    View.read_writes_cons_unit_of_mem _ _ _ _ _ _ (ix4 0 0 q l) rfl (by intro a; fin_cases a <;> simp [ix4, lan])]
  unfold_payloads
  pointwise
  rfl

theorem out_A_4_2_2 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 2 2 (by omega) (by omega) l))
      = dvB 2 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 2 * 384 + 2 * 128 + l.val < 2176 by omega)),
    View.read_writes_cons_unit_of_not_mem _ _ _ _ _ _ rfl 3 (Or.inl (show 2 * 384 + 2 * 128 + l.val < 2048 by omega)),
    View.read_writes_cons_unit_of_not_mem _ _ _ _ _ _ rfl 3 (Or.inl (show 2 * 384 + 2 * 128 + l.val < 1792 by omega)),
    View.read_writes_cons_unit_of_not_mem _ _ _ _ _ _ rfl 3 (Or.inl (show 2 * 384 + 2 * 128 + l.val < 1664 by omega)),
    View.read_writes_cons_unit_of_not_mem _ _ _ _ _ _ rfl 3 (Or.inl (show 2 * 384 + 2 * 128 + l.val < 1408 by omega)),
    View.read_writes_cons_unit_of_not_mem _ _ _ _ _ _ rfl 3 (Or.inl (show 2 * 384 + 2 * 128 + l.val < 1280 by omega)),
    View.read_writes_cons_unit_of_mem _ _ _ _ _ _ (ix4 0 0 q l) rfl (by intro a; fin_cases a <;> simp [ix4, lan])]
  unfold_payloads
  pointwise
  rfl

theorem out_A_4_3_0 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 3 0 (by omega) (by omega) l))
      = dqB 3 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 3 * 384 + 0 * 128 + l.val < 2176 by omega)),
    View.read_writes_cons_unit_of_not_mem _ _ _ _ _ _ rfl 3 (Or.inl (show 3 * 384 + 0 * 128 + l.val < 2048 by omega)),
    View.read_writes_cons_unit_of_not_mem _ _ _ _ _ _ rfl 3 (Or.inl (show 3 * 384 + 0 * 128 + l.val < 1792 by omega)),
    View.read_writes_cons_unit_of_not_mem _ _ _ _ _ _ rfl 3 (Or.inl (show 3 * 384 + 0 * 128 + l.val < 1664 by omega)),
    View.read_writes_cons_unit_of_not_mem _ _ _ _ _ _ rfl 3 (Or.inl (show 3 * 384 + 0 * 128 + l.val < 1408 by omega)),
    View.read_writes_cons_unit_of_not_mem _ _ _ _ _ _ rfl 3 (Or.inl (show 3 * 384 + 0 * 128 + l.val < 1280 by omega)),
    View.read_writes_cons_unit_of_not_mem _ _ _ _ _ _ rfl 3 (Or.inr (show 1024 + 128 ≤ 3 * 384 + 0 * 128 + l.val by omega)),
    View.read_writes_cons_unit_of_not_mem _ _ _ _ _ _ rfl 3 (Or.inr (show 896 + 128 ≤ 3 * 384 + 0 * 128 + l.val by omega)),
    View.read_writes_cons_unit_of_not_mem _ _ _ _ _ _ rfl 3 (Or.inr (show 640 + 128 ≤ 3 * 384 + 0 * 128 + l.val by omega)),
    View.read_writes_cons_unit_of_not_mem _ _ _ _ _ _ rfl 3 (Or.inr (show 512 + 128 ≤ 3 * 384 + 0 * 128 + l.val by omega)),
    View.read_writes_cons_unit_of_not_mem _ _ _ _ _ _ rfl 3 (Or.inr (show 256 + 128 ≤ 3 * 384 + 0 * 128 + l.val by omega)),
    View.read_writes_cons_unit_of_not_mem _ _ _ _ _ _ rfl 3 (Or.inr (show 128 + 128 ≤ 3 * 384 + 0 * 128 + l.val by omega)),
    View.read_writes_cons_unit_of_not_mem _ _ _ _ _ _ rfl 3 (Or.inl (show 3 * 384 + 0 * 128 + l.val < 1920 by omega)),
    View.read_writes_cons_unit_of_not_mem _ _ _ _ _ _ rfl 3 (Or.inl (show 3 * 384 + 0 * 128 + l.val < 1536 by omega)),
    View.read_writes_cons_unit_of_mem _ _ _ _ _ _ (ix4 0 0 q l) rfl (by intro a; fin_cases a <;> simp [ix4, lan])]
  unfold_payloads
  pointwise
  rfl

theorem out_A_4_3_1 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 3 1 (by omega) (by omega) l))
      = dkB 3 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 3 * 384 + 1 * 128 + l.val < 2176 by omega)),
    View.read_writes_cons_unit_of_not_mem _ _ _ _ _ _ rfl 3 (Or.inl (show 3 * 384 + 1 * 128 + l.val < 2048 by omega)),
    View.read_writes_cons_unit_of_not_mem _ _ _ _ _ _ rfl 3 (Or.inl (show 3 * 384 + 1 * 128 + l.val < 1792 by omega)),
    View.read_writes_cons_unit_of_not_mem _ _ _ _ _ _ rfl 3 (Or.inl (show 3 * 384 + 1 * 128 + l.val < 1664 by omega)),
    View.read_writes_cons_unit_of_not_mem _ _ _ _ _ _ rfl 3 (Or.inl (show 3 * 384 + 1 * 128 + l.val < 1408 by omega)),
    View.read_writes_cons_unit_of_mem _ _ _ _ _ _ (ix4 0 0 q l) rfl (by intro a; fin_cases a <;> simp [ix4, lan])]
  unfold_payloads
  pointwise
  rfl

theorem out_A_4_3_2 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 3 2 (by omega) (by omega) l))
      = dvB 3 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 3 * 384 + 2 * 128 + l.val < 2176 by omega)),
    View.read_writes_cons_unit_of_not_mem _ _ _ _ _ _ rfl 3 (Or.inl (show 3 * 384 + 2 * 128 + l.val < 2048 by omega)),
    View.read_writes_cons_unit_of_not_mem _ _ _ _ _ _ rfl 3 (Or.inl (show 3 * 384 + 2 * 128 + l.val < 1792 by omega)),
    View.read_writes_cons_unit_of_not_mem _ _ _ _ _ _ rfl 3 (Or.inl (show 3 * 384 + 2 * 128 + l.val < 1664 by omega)),
    View.read_writes_cons_unit_of_mem _ _ _ _ _ _ (ix4 0 0 q l) rfl (by intro a; fin_cases a <;> simp [ix4, lan])]
  unfold_payloads
  pointwise
  rfl

theorem out_A_4_4_0 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 4 0 (by omega) (by omega) l))
      = dqB 4 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 4 * 384 + 0 * 128 + l.val < 2176 by omega)),
    View.read_writes_cons_unit_of_not_mem _ _ _ _ _ _ rfl 3 (Or.inl (show 4 * 384 + 0 * 128 + l.val < 2048 by omega)),
    View.read_writes_cons_unit_of_not_mem _ _ _ _ _ _ rfl 3 (Or.inl (show 4 * 384 + 0 * 128 + l.val < 1792 by omega)),
    View.read_writes_cons_unit_of_not_mem _ _ _ _ _ _ rfl 3 (Or.inl (show 4 * 384 + 0 * 128 + l.val < 1664 by omega)),
    View.read_writes_cons_unit_of_not_mem _ _ _ _ _ _ rfl 3 (Or.inr (show 1408 + 128 ≤ 4 * 384 + 0 * 128 + l.val by omega)),
    View.read_writes_cons_unit_of_not_mem _ _ _ _ _ _ rfl 3 (Or.inr (show 1280 + 128 ≤ 4 * 384 + 0 * 128 + l.val by omega)),
    View.read_writes_cons_unit_of_not_mem _ _ _ _ _ _ rfl 3 (Or.inr (show 1024 + 128 ≤ 4 * 384 + 0 * 128 + l.val by omega)),
    View.read_writes_cons_unit_of_not_mem _ _ _ _ _ _ rfl 3 (Or.inr (show 896 + 128 ≤ 4 * 384 + 0 * 128 + l.val by omega)),
    View.read_writes_cons_unit_of_not_mem _ _ _ _ _ _ rfl 3 (Or.inr (show 640 + 128 ≤ 4 * 384 + 0 * 128 + l.val by omega)),
    View.read_writes_cons_unit_of_not_mem _ _ _ _ _ _ rfl 3 (Or.inr (show 512 + 128 ≤ 4 * 384 + 0 * 128 + l.val by omega)),
    View.read_writes_cons_unit_of_not_mem _ _ _ _ _ _ rfl 3 (Or.inr (show 256 + 128 ≤ 4 * 384 + 0 * 128 + l.val by omega)),
    View.read_writes_cons_unit_of_not_mem _ _ _ _ _ _ rfl 3 (Or.inr (show 128 + 128 ≤ 4 * 384 + 0 * 128 + l.val by omega)),
    View.read_writes_cons_unit_of_not_mem _ _ _ _ _ _ rfl 3 (Or.inl (show 4 * 384 + 0 * 128 + l.val < 1920 by omega)),
    View.read_writes_cons_unit_of_mem _ _ _ _ _ _ (ix4 0 0 q l) rfl (by intro a; fin_cases a <;> simp [ix4, lan])]
  unfold_payloads
  pointwise
  rfl

theorem out_A_4_4_1 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 4 1 (by omega) (by omega) l))
      = dkB 4 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 4 * 384 + 1 * 128 + l.val < 2176 by omega)),
    View.read_writes_cons_unit_of_not_mem _ _ _ _ _ _ rfl 3 (Or.inl (show 4 * 384 + 1 * 128 + l.val < 2048 by omega)),
    View.read_writes_cons_unit_of_not_mem _ _ _ _ _ _ rfl 3 (Or.inl (show 4 * 384 + 1 * 128 + l.val < 1792 by omega)),
    View.read_writes_cons_unit_of_mem _ _ _ _ _ _ (ix4 0 0 q l) rfl (by intro a; fin_cases a <;> simp [ix4, lan])]
  unfold_payloads
  pointwise
  rfl

theorem out_A_4_4_2 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 4 2 (by omega) (by omega) l))
      = dvB 4 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 4 * 384 + 2 * 128 + l.val < 2176 by omega)),
    View.read_writes_cons_unit_of_not_mem _ _ _ _ _ _ rfl 3 (Or.inl (show 4 * 384 + 2 * 128 + l.val < 2048 by omega)),
    View.read_writes_cons_unit_of_mem _ _ _ _ _ _ (ix4 0 0 q l) rfl (by intro a; fin_cases a <;> simp [ix4, lan])]
  unfold_payloads
  pointwise
  rfl

theorem out_A_4_5_0 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 5 0 (by omega) (by omega) l))
      = dqB 5 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 5 * 384 + 0 * 128 + l.val < 2176 by omega)),
    View.read_writes_cons_unit_of_not_mem _ _ _ _ _ _ rfl 3 (Or.inl (show 5 * 384 + 0 * 128 + l.val < 2048 by omega)),
    View.read_writes_cons_unit_of_not_mem _ _ _ _ _ _ rfl 3 (Or.inr (show 1792 + 128 ≤ 5 * 384 + 0 * 128 + l.val by omega)),
    View.read_writes_cons_unit_of_not_mem _ _ _ _ _ _ rfl 3 (Or.inr (show 1664 + 128 ≤ 5 * 384 + 0 * 128 + l.val by omega)),
    View.read_writes_cons_unit_of_not_mem _ _ _ _ _ _ rfl 3 (Or.inr (show 1408 + 128 ≤ 5 * 384 + 0 * 128 + l.val by omega)),
    View.read_writes_cons_unit_of_not_mem _ _ _ _ _ _ rfl 3 (Or.inr (show 1280 + 128 ≤ 5 * 384 + 0 * 128 + l.val by omega)),
    View.read_writes_cons_unit_of_not_mem _ _ _ _ _ _ rfl 3 (Or.inr (show 1024 + 128 ≤ 5 * 384 + 0 * 128 + l.val by omega)),
    View.read_writes_cons_unit_of_not_mem _ _ _ _ _ _ rfl 3 (Or.inr (show 896 + 128 ≤ 5 * 384 + 0 * 128 + l.val by omega)),
    View.read_writes_cons_unit_of_not_mem _ _ _ _ _ _ rfl 3 (Or.inr (show 640 + 128 ≤ 5 * 384 + 0 * 128 + l.val by omega)),
    View.read_writes_cons_unit_of_not_mem _ _ _ _ _ _ rfl 3 (Or.inr (show 512 + 128 ≤ 5 * 384 + 0 * 128 + l.val by omega)),
    View.read_writes_cons_unit_of_not_mem _ _ _ _ _ _ rfl 3 (Or.inr (show 256 + 128 ≤ 5 * 384 + 0 * 128 + l.val by omega)),
    View.read_writes_cons_unit_of_not_mem _ _ _ _ _ _ rfl 3 (Or.inr (show 128 + 128 ≤ 5 * 384 + 0 * 128 + l.val by omega)),
    View.read_writes_cons_unit_of_mem _ _ _ _ _ _ (ix4 0 0 q l) rfl (by intro a; fin_cases a <;> simp [ix4, lan])]
  unfold_payloads
  pointwise
  rfl

theorem out_A_4_5_1 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 5 1 (by omega) (by omega) l))
      = dkB 5 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_not_mem _ _ _ _ _ _ rfl 3 (Or.inl (show 5 * 384 + 1 * 128 + l.val < 2176 by omega)),
    View.read_writes_cons_unit_of_mem _ _ _ _ _ _ (ix4 0 0 q l) rfl (by intro a; fin_cases a <;> simp [ix4, lan])]
  unfold_payloads
  pointwise
  rfl

theorem out_A_4_5_2 (c : Dev nD) (i : grid0.Coords) a3 h3 a4 h4 a5 h5 a6 h6 a7 h7 a8 h8 (hc : cond0_0 i)
    (x0 x1 x2 x3) (q : Fin 128) (l : Fin 128) :
    out0_A_4 (F := Ideal) c i a3 h3 a4 h4 a5 h5 a6 h6 a7 h7 a8 h8 hc x0 x1 x2 x3 (ix4 0 0 q (lan 5 2 (by omega) (by omega) l))
      = dvB 5 (by omega) x0 x1 x2 x3 q l := by
  unfold out0_A_4 kernelRun0_A
  dsimp only
  sl_unfold_words
  simp only [View.readAt_eq_ld, h3.read_unread, h4.read_unread, h5.read_unread, h6.read_unread]
  rw [View.read_writes_cons_unit_of_mem _ _ _ _ _ _ (ix4 0 0 q l) rfl (by intro a; fin_cases a <;> simp [ix4, lan])]
  unfold_payloads
  pointwise
  rfl

/-- Every lane of the first output at a point of case A. -/
theorem out_A_4 (c : Dev nD) (i : grid0.Coords) a3 h3 a4 h4 a5 h5 a6 h6 a7 h7 a8 h8 (hc : cond0_0 i)
    (x0 x1 x2 x3) (p : Fin 6) (part : Fin 3) (q : Fin 128) (l : Fin 128) :
    out0_A_4 (F := Ideal) c i a3 h3 a4 h4 a5 h5 a6 h6 a7 h7 a8 h8 hc x0 x1 x2 x3 (ix4 0 0 q (lan p.val part.val p.isLt part.isLt l))
      = gradB p.val p.isLt part x0 x1 x2 x3 q l :=
  match p, part with
    | 0, 0 => out_A_4_0_0 c i a3 h3 a4 h4 a5 h5 a6 h6 a7 h7 a8 h8 hc x0 x1 x2 x3 q l
    | 0, 1 => out_A_4_0_1 c i a3 h3 a4 h4 a5 h5 a6 h6 a7 h7 a8 h8 hc x0 x1 x2 x3 q l
    | 0, 2 => out_A_4_0_2 c i a3 h3 a4 h4 a5 h5 a6 h6 a7 h7 a8 h8 hc x0 x1 x2 x3 q l
    | 1, 0 => out_A_4_1_0 c i a3 h3 a4 h4 a5 h5 a6 h6 a7 h7 a8 h8 hc x0 x1 x2 x3 q l
    | 1, 1 => out_A_4_1_1 c i a3 h3 a4 h4 a5 h5 a6 h6 a7 h7 a8 h8 hc x0 x1 x2 x3 q l
    | 1, 2 => out_A_4_1_2 c i a3 h3 a4 h4 a5 h5 a6 h6 a7 h7 a8 h8 hc x0 x1 x2 x3 q l
    | 2, 0 => out_A_4_2_0 c i a3 h3 a4 h4 a5 h5 a6 h6 a7 h7 a8 h8 hc x0 x1 x2 x3 q l
    | 2, 1 => out_A_4_2_1 c i a3 h3 a4 h4 a5 h5 a6 h6 a7 h7 a8 h8 hc x0 x1 x2 x3 q l
    | 2, 2 => out_A_4_2_2 c i a3 h3 a4 h4 a5 h5 a6 h6 a7 h7 a8 h8 hc x0 x1 x2 x3 q l
    | 3, 0 => out_A_4_3_0 c i a3 h3 a4 h4 a5 h5 a6 h6 a7 h7 a8 h8 hc x0 x1 x2 x3 q l
    | 3, 1 => out_A_4_3_1 c i a3 h3 a4 h4 a5 h5 a6 h6 a7 h7 a8 h8 hc x0 x1 x2 x3 q l
    | 3, 2 => out_A_4_3_2 c i a3 h3 a4 h4 a5 h5 a6 h6 a7 h7 a8 h8 hc x0 x1 x2 x3 q l
    | 4, 0 => out_A_4_4_0 c i a3 h3 a4 h4 a5 h5 a6 h6 a7 h7 a8 h8 hc x0 x1 x2 x3 q l
    | 4, 1 => out_A_4_4_1 c i a3 h3 a4 h4 a5 h5 a6 h6 a7 h7 a8 h8 hc x0 x1 x2 x3 q l
    | 4, 2 => out_A_4_4_2 c i a3 h3 a4 h4 a5 h5 a6 h6 a7 h7 a8 h8 hc x0 x1 x2 x3 q l
    | 5, 0 => out_A_4_5_0 c i a3 h3 a4 h4 a5 h5 a6 h6 a7 h7 a8 h8 hc x0 x1 x2 x3 q l
    | 5, 1 => out_A_4_5_1 c i a3 h3 a4 h4 a5 h5 a6 h6 a7 h7 a8 h8 hc x0 x1 x2 x3 q l
    | 5, 2 => out_A_4_5_2 c i a3 h3 a4 h4 a5 h5 a6 h6 a7 h7 a8 h8 hc x0 x1 x2 x3 q l

end Cert.AttnIdeal.Body
-- ==== Proof.Attn.Body4B.lean ====
module

public import proofs.«01_k».proof.Proof.Attn.Body

@[expose] public section

set_option maxRecDepth 16384

noncomputable section

/-! The first output at a later point, one store at a time: lane by lane it holds the gradients of queries, keys and values. -/

namespace Cert.AttnIdeal.Body

open Cert.AttnIdeal Cert.AttnIdeal.Gen Idealize.ShloMosaic Idealize.ShloMosaic.TcCoe Idealize.SL.Sem

theorem out_B_4_0_0 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 0 0 (by omega) (by omega) l))
      = dqB 0 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 0 * 384 + 0 * 128 + l.val < 2176 by omega)),
    View.read_writes_cons_unit_of_not_mem _ _ _ _ _ _ rfl 3 (Or.inl (show 0 * 384 + 0 * 128 + l.val < 2048 by omega)),
    View.read_writes_cons_unit_of_not_mem _ _ _ _ _ _ rfl 3 (Or.inl (show 0 * 384 + 0 * 128 + l.val < 1792 by omega)),
    View.read_writes_cons_unit_of_not_mem _ _ _ _ _ _ rfl 3 (Or.inl (show 0 * 384 + 0 * 128 + l.val < 1664 by omega)),
    View.read_writes_cons_unit_of_not_mem _ _ _ _ _ _ rfl 3 (Or.inl (show 0 * 384 + 0 * 128 + l.val < 1408 by omega)),
    View.read_writes_cons_unit_of_not_mem _ _ _ _ _ _ rfl 3 (Or.inl (show 0 * 384 + 0 * 128 + l.val < 1280 by omega)),
    View.read_writes_cons_unit_of_not_mem _ _ _ _ _ _ rfl 3 (Or.inl (show 0 * 384 + 0 * 128 + l.val < 1024 by omega)),
    View.read_writes_cons_unit_of_not_mem _ _ _ _ _ _ rfl 3 (Or.inl (show 0 * 384 + 0 * 128 + l.val < 896 by omega)),
    View.read_writes_cons_unit_of_not_mem _ _ _ _ _ _ rfl 3 (Or.inl (show 0 * 384 + 0 * 128 + l.val < 640 by omega)),
    View.read_writes_cons_unit_of_not_mem _ _ _ _ _ _ rfl 3 (Or.inl (show 0 * 384 + 0 * 128 + l.val < 512 by omega)),
    View.read_writes_cons_unit_of_not_mem _ _ _ _ _ _ rfl 3 (Or.inl (show 0 * 384 + 0 * 128 + l.val < 256 by omega)),
    View.read_writes_cons_unit_of_not_mem _ _ _ _ _ _ rfl 3 (Or.inl (show 0 * 384 + 0 * 128 + l.val < 128 by omega)),
    View.read_writes_cons_unit_of_not_mem _ _ _ _ _ _ rfl 3 (Or.inl (show 0 * 384 + 0 * 128 + l.val < 1920 by omega)),
    View.read_writes_cons_unit_of_not_mem _ _ _ _ _ _ rfl 3 (Or.inl (show 0 * 384 + 0 * 128 + l.val < 1536 by omega)),
    View.read_writes_cons_unit_of_not_mem _ _ _ _ _ _ rfl 3 (Or.inl (show 0 * 384 + 0 * 128 + l.val < 1152 by omega)),
    View.read_writes_cons_unit_of_not_mem _ _ _ _ _ _ rfl 3 (Or.inl (show 0 * 384 + 0 * 128 + l.val < 768 by omega)),
    View.read_writes_cons_unit_of_not_mem _ _ _ _ _ _ rfl 3 (Or.inl (show 0 * 384 + 0 * 128 + l.val < 384 by omega)),
    View.read_writes_cons_unit_of_mem _ _ _ _ _ _ (ix4 0 0 q l) rfl (by intro a; fin_cases a <;> simp [ix4, lan])]
  unfold_payloads
  pointwise
  rfl

theorem out_B_4_0_1 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 0 1 (by omega) (by omega) l))
      = dkB 0 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 0 * 384 + 1 * 128 + l.val < 2176 by omega)),
    View.read_writes_cons_unit_of_not_mem _ _ _ _ _ _ rfl 3 (Or.inl (show 0 * 384 + 1 * 128 + l.val < 2048 by omega)),
    View.read_writes_cons_unit_of_not_mem _ _ _ _ _ _ rfl 3 (Or.inl (show 0 * 384 + 1 * 128 + l.val < 1792 by omega)),
    View.read_writes_cons_unit_of_not_mem _ _ _ _ _ _ rfl 3 (Or.inl (show 0 * 384 + 1 * 128 + l.val < 1664 by omega)),
    View.read_writes_cons_unit_of_not_mem _ _ _ _ _ _ rfl 3 (Or.inl (show 0 * 384 + 1 * 128 + l.val < 1408 by omega)),
    View.read_writes_cons_unit_of_not_mem _ _ _ _ _ _ rfl 3 (Or.inl (show 0 * 384 + 1 * 128 + l.val < 1280 by omega)),
    View.read_writes_cons_unit_of_not_mem _ _ _ _ _ _ rfl 3 (Or.inl (show 0 * 384 + 1 * 128 + l.val < 1024 by omega)),
    View.read_writes_cons_unit_of_not_mem _ _ _ _ _ _ rfl 3 (Or.inl (show 0 * 384 + 1 * 128 + l.val < 896 by omega)),
    View.read_writes_cons_unit_of_not_mem _ _ _ _ _ _ rfl 3 (Or.inl (show 0 * 384 + 1 * 128 + l.val < 640 by omega)),
    View.read_writes_cons_unit_of_not_mem _ _ _ _ _ _ rfl 3 (Or.inl (show 0 * 384 + 1 * 128 + l.val < 512 by omega)),
    View.read_writes_cons_unit_of_not_mem _ _ _ _ _ _ rfl 3 (Or.inl (show 0 * 384 + 1 * 128 + l.val < 256 by omega)),
    View.read_writes_cons_unit_of_mem _ _ _ _ _ _ (ix4 0 0 q l) rfl (by intro a; fin_cases a <;> simp [ix4, lan])]
  unfold_payloads
  pointwise
  simp only [dkB, dsB, pB, lan, Nat.zero_mul, Nat.zero_add]
  rfl

theorem out_B_4_0_2 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 0 2 (by omega) (by omega) l))
      = dvB 0 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 0 * 384 + 2 * 128 + l.val < 2176 by omega)),
    View.read_writes_cons_unit_of_not_mem _ _ _ _ _ _ rfl 3 (Or.inl (show 0 * 384 + 2 * 128 + l.val < 2048 by omega)),
    View.read_writes_cons_unit_of_not_mem _ _ _ _ _ _ rfl 3 (Or.inl (show 0 * 384 + 2 * 128 + l.val < 1792 by omega)),
    View.read_writes_cons_unit_of_not_mem _ _ _ _ _ _ rfl 3 (Or.inl (show 0 * 384 + 2 * 128 + l.val < 1664 by omega)),
    View.read_writes_cons_unit_of_not_mem _ _ _ _ _ _ rfl 3 (Or.inl (show 0 * 384 + 2 * 128 + l.val < 1408 by omega)),
    View.read_writes_cons_unit_of_not_mem _ _ _ _ _ _ rfl 3 (Or.inl (show 0 * 384 + 2 * 128 + l.val < 1280 by omega)),
    View.read_writes_cons_unit_of_not_mem _ _ _ _ _ _ rfl 3 (Or.inl (show 0 * 384 + 2 * 128 + l.val < 1024 by omega)),
    View.read_writes_cons_unit_of_not_mem _ _ _ _ _ _ rfl 3 (Or.inl (show 0 * 384 + 2 * 128 + l.val < 896 by omega)),
    View.read_writes_cons_unit_of_not_mem _ _ _ _ _ _ rfl 3 (Or.inl (show 0 * 384 + 2 * 128 + l.val < 640 by omega)),
    View.read_writes_cons_unit_of_not_mem _ _ _ _ _ _ rfl 3 (Or.inl (show 0 * 384 + 2 * 128 + l.val < 512 by omega)),
    View.read_writes_cons_unit_of_mem _ _ _ _ _ _ (ix4 0 0 q l) rfl (by intro a; fin_cases a <;> simp [ix4, lan])]
  unfold_payloads
  pointwise
  simp only [dvB, pB, lan, Nat.zero_mul, Nat.zero_add]
  rfl

theorem out_B_4_1_0 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 1 0 (by omega) (by omega) l))
      = dqB 1 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 1 * 384 + 0 * 128 + l.val < 2176 by omega)),
    View.read_writes_cons_unit_of_not_mem _ _ _ _ _ _ rfl 3 (Or.inl (show 1 * 384 + 0 * 128 + l.val < 2048 by omega)),
    View.read_writes_cons_unit_of_not_mem _ _ _ _ _ _ rfl 3 (Or.inl (show 1 * 384 + 0 * 128 + l.val < 1792 by omega)),
    View.read_writes_cons_unit_of_not_mem _ _ _ _ _ _ rfl 3 (Or.inl (show 1 * 384 + 0 * 128 + l.val < 1664 by omega)),
    View.read_writes_cons_unit_of_not_mem _ _ _ _ _ _ rfl 3 (Or.inl (show 1 * 384 + 0 * 128 + l.val < 1408 by omega)),
    View.read_writes_cons_unit_of_not_mem _ _ _ _ _ _ rfl 3 (Or.inl (show 1 * 384 + 0 * 128 + l.val < 1280 by omega)),
    View.read_writes_cons_unit_of_not_mem _ _ _ _ _ _ rfl 3 (Or.inl (show 1 * 384 + 0 * 128 + l.val < 1024 by omega)),
    View.read_writes_cons_unit_of_not_mem _ _ _ _ _ _ rfl 3 (Or.inl (show 1 * 384 + 0 * 128 + l.val < 896 by omega)),
    View.read_writes_cons_unit_of_not_mem _ _ _ _ _ _ rfl 3 (Or.inl (show 1 * 384 + 0 * 128 + l.val < 640 by omega)),
    View.read_writes_cons_unit_of_not_mem _ _ _ _ _ _ rfl 3 (Or.inl (show 1 * 384 + 0 * 128 + l.val < 512 by omega)),
    View.read_writes_cons_unit_of_not_mem _ _ _ _ _ _ rfl 3 (Or.inr (show 256 + 128 ≤ 1 * 384 + 0 * 128 + l.val by omega)),
    View.read_writes_cons_unit_of_not_mem _ _ _ _ _ _ rfl 3 (Or.inr (show 128 + 128 ≤ 1 * 384 + 0 * 128 + l.val by omega)),
    View.read_writes_cons_unit_of_not_mem _ _ _ _ _ _ rfl 3 (Or.inl (show 1 * 384 + 0 * 128 + l.val < 1920 by omega)),
    View.read_writes_cons_unit_of_not_mem _ _ _ _ _ _ rfl 3 (Or.inl (show 1 * 384 + 0 * 128 + l.val < 1536 by omega)),
    View.read_writes_cons_unit_of_not_mem _ _ _ _ _ _ rfl 3 (Or.inl (show 1 * 384 + 0 * 128 + l.val < 1152 by omega)),
    View.read_writes_cons_unit_of_not_mem _ _ _ _ _ _ rfl 3 (Or.inl (show 1 * 384 + 0 * 128 + l.val < 768 by omega)),
    View.read_writes_cons_unit_of_mem _ _ _ _ _ _ (ix4 0 0 q l) rfl (by intro a; fin_cases a <;> simp [ix4, lan])]
  unfold_payloads
  pointwise
  rfl

theorem out_B_4_1_1 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 1 1 (by omega) (by omega) l))
      = dkB 1 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 1 * 384 + 1 * 128 + l.val < 2176 by omega)),
    View.read_writes_cons_unit_of_not_mem _ _ _ _ _ _ rfl 3 (Or.inl (show 1 * 384 + 1 * 128 + l.val < 2048 by omega)),
    View.read_writes_cons_unit_of_not_mem _ _ _ _ _ _ rfl 3 (Or.inl (show 1 * 384 + 1 * 128 + l.val < 1792 by omega)),
    View.read_writes_cons_unit_of_not_mem _ _ _ _ _ _ rfl 3 (Or.inl (show 1 * 384 + 1 * 128 + l.val < 1664 by omega)),
    View.read_writes_cons_unit_of_not_mem _ _ _ _ _ _ rfl 3 (Or.inl (show 1 * 384 + 1 * 128 + l.val < 1408 by omega)),
    View.read_writes_cons_unit_of_not_mem _ _ _ _ _ _ rfl 3 (Or.inl (show 1 * 384 + 1 * 128 + l.val < 1280 by omega)),
    View.read_writes_cons_unit_of_not_mem _ _ _ _ _ _ rfl 3 (Or.inl (show 1 * 384 + 1 * 128 + l.val < 1024 by omega)),
    View.read_writes_cons_unit_of_not_mem _ _ _ _ _ _ rfl 3 (Or.inl (show 1 * 384 + 1 * 128 + l.val < 896 by omega)),
    View.read_writes_cons_unit_of_not_mem _ _ _ _ _ _ rfl 3 (Or.inl (show 1 * 384 + 1 * 128 + l.val < 640 by omega)),
    View.read_writes_cons_unit_of_mem _ _ _ _ _ _ (ix4 0 0 q l) rfl (by intro a; fin_cases a <;> simp [ix4, lan])]
  unfold_payloads
  pointwise
  rfl

theorem out_B_4_1_2 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 1 2 (by omega) (by omega) l))
      = dvB 1 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 1 * 384 + 2 * 128 + l.val < 2176 by omega)),
    View.read_writes_cons_unit_of_not_mem _ _ _ _ _ _ rfl 3 (Or.inl (show 1 * 384 + 2 * 128 + l.val < 2048 by omega)),
    View.read_writes_cons_unit_of_not_mem _ _ _ _ _ _ rfl 3 (Or.inl (show 1 * 384 + 2 * 128 + l.val < 1792 by omega)),
    View.read_writes_cons_unit_of_not_mem _ _ _ _ _ _ rfl 3 (Or.inl (show 1 * 384 + 2 * 128 + l.val < 1664 by omega)),
    View.read_writes_cons_unit_of_not_mem _ _ _ _ _ _ rfl 3 (Or.inl (show 1 * 384 + 2 * 128 + l.val < 1408 by omega)),
    View.read_writes_cons_unit_of_not_mem _ _ _ _ _ _ rfl 3 (Or.inl (show 1 * 384 + 2 * 128 + l.val < 1280 by omega)),
    View.read_writes_cons_unit_of_not_mem _ _ _ _ _ _ rfl 3 (Or.inl (show 1 * 384 + 2 * 128 + l.val < 1024 by omega)),
    View.read_writes_cons_unit_of_not_mem _ _ _ _ _ _ rfl 3 (Or.inl (show 1 * 384 + 2 * 128 + l.val < 896 by omega)),
    View.read_writes_cons_unit_of_mem _ _ _ _ _ _ (ix4 0 0 q l) rfl (by intro a; fin_cases a <;> simp [ix4, lan])]
  unfold_payloads
  pointwise
  rfl

theorem out_B_4_2_0 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 2 0 (by omega) (by omega) l))
      = dqB 2 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 2 * 384 + 0 * 128 + l.val < 2176 by omega)),
    View.read_writes_cons_unit_of_not_mem _ _ _ _ _ _ rfl 3 (Or.inl (show 2 * 384 + 0 * 128 + l.val < 2048 by omega)),
    View.read_writes_cons_unit_of_not_mem _ _ _ _ _ _ rfl 3 (Or.inl (show 2 * 384 + 0 * 128 + l.val < 1792 by omega)),
    View.read_writes_cons_unit_of_not_mem _ _ _ _ _ _ rfl 3 (Or.inl (show 2 * 384 + 0 * 128 + l.val < 1664 by omega)),
    View.read_writes_cons_unit_of_not_mem _ _ _ _ _ _ rfl 3 (Or.inl (show 2 * 384 + 0 * 128 + l.val < 1408 by omega)),
    View.read_writes_cons_unit_of_not_mem _ _ _ _ _ _ rfl 3 (Or.inl (show 2 * 384 + 0 * 128 + l.val < 1280 by omega)),
    View.read_writes_cons_unit_of_not_mem _ _ _ _ _ _ rfl 3 (Or.inl (show 2 * 384 + 0 * 128 + l.val < 1024 by omega)),
    View.read_writes_cons_unit_of_not_mem _ _ _ _ _ _ rfl 3 (Or.inl (show 2 * 384 + 0 * 128 + l.val < 896 by omega)),
    View.read_writes_cons_unit_of_not_mem _ _ _ _ _ _ rfl 3 (Or.inr (show 640 + 128 ≤ 2 * 384 + 0 * 128 + l.val by omega)),
    View.read_writes_cons_unit_of_not_mem _ _ _ _ _ _ rfl 3 (Or.inr (show 512 + 128 ≤ 2 * 384 + 0 * 128 + l.val by omega)),
    View.read_writes_cons_unit_of_not_mem _ _ _ _ _ _ rfl 3 (Or.inr (show 256 + 128 ≤ 2 * 384 + 0 * 128 + l.val by omega)),
    View.read_writes_cons_unit_of_not_mem _ _ _ _ _ _ rfl 3 (Or.inr (show 128 + 128 ≤ 2 * 384 + 0 * 128 + l.val by omega)),
    View.read_writes_cons_unit_of_not_mem _ _ _ _ _ _ rfl 3 (Or.inl (show 2 * 384 + 0 * 128 + l.val < 1920 by omega)),
    View.read_writes_cons_unit_of_not_mem _ _ _ _ _ _ rfl 3 (Or.inl (show 2 * 384 + 0 * 128 + l.val < 1536 by omega)),
    View.read_writes_cons_unit_of_not_mem _ _ _ _ _ _ rfl 3 (Or.inl (show 2 * 384 + 0 * 128 + l.val < 1152 by omega)),
    View.read_writes_cons_unit_of_mem _ _ _ _ _ _ (ix4 0 0 q l) rfl (by intro a; fin_cases a <;> simp [ix4, lan])]
  unfold_payloads
  pointwise
  rfl

theorem out_B_4_2_1 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 2 1 (by omega) (by omega) l))
      = dkB 2 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 2 * 384 + 1 * 128 + l.val < 2176 by omega)),
    View.read_writes_cons_unit_of_not_mem _ _ _ _ _ _ rfl 3 (Or.inl (show 2 * 384 + 1 * 128 + l.val < 2048 by omega)),
    View.read_writes_cons_unit_of_not_mem _ _ _ _ _ _ rfl 3 (Or.inl (show 2 * 384 + 1 * 128 + l.val < 1792 by omega)),
    View.read_writes_cons_unit_of_not_mem _ _ _ _ _ _ rfl 3 (Or.inl (show 2 * 384 + 1 * 128 + l.val < 1664 by omega)),
    View.read_writes_cons_unit_of_not_mem _ _ _ _ _ _ rfl 3 (Or.inl (show 2 * 384 + 1 * 128 + l.val < 1408 by omega)),
    View.read_writes_cons_unit_of_not_mem _ _ _ _ _ _ rfl 3 (Or.inl (show 2 * 384 + 1 * 128 + l.val < 1280 by omega)),
    View.read_writes_cons_unit_of_not_mem _ _ _ _ _ _ rfl 3 (Or.inl (show 2 * 384 + 1 * 128 + l.val < 1024 by omega)),
    View.read_writes_cons_unit_of_mem _ _ _ _ _ _ (ix4 0 0 q l) rfl (by intro a; fin_cases a <;> simp [ix4, lan])]
  unfold_payloads
  pointwise
  rfl

theorem out_B_4_2_2 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 2 2 (by omega) (by omega) l))
      = dvB 2 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 2 * 384 + 2 * 128 + l.val < 2176 by omega)),
    View.read_writes_cons_unit_of_not_mem _ _ _ _ _ _ rfl 3 (Or.inl (show 2 * 384 + 2 * 128 + l.val < 2048 by omega)),
    View.read_writes_cons_unit_of_not_mem _ _ _ _ _ _ rfl 3 (Or.inl (show 2 * 384 + 2 * 128 + l.val < 1792 by omega)),
    View.read_writes_cons_unit_of_not_mem _ _ _ _ _ _ rfl 3 (Or.inl (show 2 * 384 + 2 * 128 + l.val < 1664 by omega)),
    View.read_writes_cons_unit_of_not_mem _ _ _ _ _ _ rfl 3 (Or.inl (show 2 * 384 + 2 * 128 + l.val < 1408 by omega)),
    View.read_writes_cons_unit_of_not_mem _ _ _ _ _ _ rfl 3 (Or.inl (show 2 * 384 + 2 * 128 + l.val < 1280 by omega)),
    View.read_writes_cons_unit_of_mem _ _ _ _ _ _ (ix4 0 0 q l) rfl (by intro a; fin_cases a <;> simp [ix4, lan])]
  unfold_payloads
  pointwise
  rfl

theorem out_B_4_3_0 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 3 0 (by omega) (by omega) l))
      = dqB 3 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 3 * 384 + 0 * 128 + l.val < 2176 by omega)),
    View.read_writes_cons_unit_of_not_mem _ _ _ _ _ _ rfl 3 (Or.inl (show 3 * 384 + 0 * 128 + l.val < 2048 by omega)),
    View.read_writes_cons_unit_of_not_mem _ _ _ _ _ _ rfl 3 (Or.inl (show 3 * 384 + 0 * 128 + l.val < 1792 by omega)),
    View.read_writes_cons_unit_of_not_mem _ _ _ _ _ _ rfl 3 (Or.inl (show 3 * 384 + 0 * 128 + l.val < 1664 by omega)),
    View.read_writes_cons_unit_of_not_mem _ _ _ _ _ _ rfl 3 (Or.inl (show 3 * 384 + 0 * 128 + l.val < 1408 by omega)),
    View.read_writes_cons_unit_of_not_mem _ _ _ _ _ _ rfl 3 (Or.inl (show 3 * 384 + 0 * 128 + l.val < 1280 by omega)),
    View.read_writes_cons_unit_of_not_mem _ _ _ _ _ _ rfl 3 (Or.inr (show 1024 + 128 ≤ 3 * 384 + 0 * 128 + l.val by omega)),
    View.read_writes_cons_unit_of_not_mem _ _ _ _ _ _ rfl 3 (Or.inr (show 896 + 128 ≤ 3 * 384 + 0 * 128 + l.val by omega)),
    View.read_writes_cons_unit_of_not_mem _ _ _ _ _ _ rfl 3 (Or.inr (show 640 + 128 ≤ 3 * 384 + 0 * 128 + l.val by omega)),
    View.read_writes_cons_unit_of_not_mem _ _ _ _ _ _ rfl 3 (Or.inr (show 512 + 128 ≤ 3 * 384 + 0 * 128 + l.val by omega)),
    View.read_writes_cons_unit_of_not_mem _ _ _ _ _ _ rfl 3 (Or.inr (show 256 + 128 ≤ 3 * 384 + 0 * 128 + l.val by omega)),
    View.read_writes_cons_unit_of_not_mem _ _ _ _ _ _ rfl 3 (Or.inr (show 128 + 128 ≤ 3 * 384 + 0 * 128 + l.val by omega)),
    View.read_writes_cons_unit_of_not_mem _ _ _ _ _ _ rfl 3 (Or.inl (show 3 * 384 + 0 * 128 + l.val < 1920 by omega)),
    View.read_writes_cons_unit_of_not_mem _ _ _ _ _ _ rfl 3 (Or.inl (show 3 * 384 + 0 * 128 + l.val < 1536 by omega)),
    View.read_writes_cons_unit_of_mem _ _ _ _ _ _ (ix4 0 0 q l) rfl (by intro a; fin_cases a <;> simp [ix4, lan])]
  unfold_payloads
  pointwise
  rfl

theorem out_B_4_3_1 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 3 1 (by omega) (by omega) l))
      = dkB 3 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 3 * 384 + 1 * 128 + l.val < 2176 by omega)),
    View.read_writes_cons_unit_of_not_mem _ _ _ _ _ _ rfl 3 (Or.inl (show 3 * 384 + 1 * 128 + l.val < 2048 by omega)),
    View.read_writes_cons_unit_of_not_mem _ _ _ _ _ _ rfl 3 (Or.inl (show 3 * 384 + 1 * 128 + l.val < 1792 by omega)),
    View.read_writes_cons_unit_of_not_mem _ _ _ _ _ _ rfl 3 (Or.inl (show 3 * 384 + 1 * 128 + l.val < 1664 by omega)),
    View.read_writes_cons_unit_of_not_mem _ _ _ _ _ _ rfl 3 (Or.inl (show 3 * 384 + 1 * 128 + l.val < 1408 by omega)),
    View.read_writes_cons_unit_of_mem _ _ _ _ _ _ (ix4 0 0 q l) rfl (by intro a; fin_cases a <;> simp [ix4, lan])]
  unfold_payloads
  pointwise
  rfl

theorem out_B_4_3_2 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 3 2 (by omega) (by omega) l))
      = dvB 3 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 3 * 384 + 2 * 128 + l.val < 2176 by omega)),
    View.read_writes_cons_unit_of_not_mem _ _ _ _ _ _ rfl 3 (Or.inl (show 3 * 384 + 2 * 128 + l.val < 2048 by omega)),
    View.read_writes_cons_unit_of_not_mem _ _ _ _ _ _ rfl 3 (Or.inl (show 3 * 384 + 2 * 128 + l.val < 1792 by omega)),
    View.read_writes_cons_unit_of_not_mem _ _ _ _ _ _ rfl 3 (Or.inl (show 3 * 384 + 2 * 128 + l.val < 1664 by omega)),
    View.read_writes_cons_unit_of_mem _ _ _ _ _ _ (ix4 0 0 q l) rfl (by intro a; fin_cases a <;> simp [ix4, lan])]
  unfold_payloads
  pointwise
  rfl

theorem out_B_4_4_0 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 4 0 (by omega) (by omega) l))
      = dqB 4 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 4 * 384 + 0 * 128 + l.val < 2176 by omega)),
    View.read_writes_cons_unit_of_not_mem _ _ _ _ _ _ rfl 3 (Or.inl (show 4 * 384 + 0 * 128 + l.val < 2048 by omega)),
    View.read_writes_cons_unit_of_not_mem _ _ _ _ _ _ rfl 3 (Or.inl (show 4 * 384 + 0 * 128 + l.val < 1792 by omega)),
    View.read_writes_cons_unit_of_not_mem _ _ _ _ _ _ rfl 3 (Or.inl (show 4 * 384 + 0 * 128 + l.val < 1664 by omega)),
    View.read_writes_cons_unit_of_not_mem _ _ _ _ _ _ rfl 3 (Or.inr (show 1408 + 128 ≤ 4 * 384 + 0 * 128 + l.val by omega)),
    View.read_writes_cons_unit_of_not_mem _ _ _ _ _ _ rfl 3 (Or.inr (show 1280 + 128 ≤ 4 * 384 + 0 * 128 + l.val by omega)),
    View.read_writes_cons_unit_of_not_mem _ _ _ _ _ _ rfl 3 (Or.inr (show 1024 + 128 ≤ 4 * 384 + 0 * 128 + l.val by omega)),
    View.read_writes_cons_unit_of_not_mem _ _ _ _ _ _ rfl 3 (Or.inr (show 896 + 128 ≤ 4 * 384 + 0 * 128 + l.val by omega)),
    View.read_writes_cons_unit_of_not_mem _ _ _ _ _ _ rfl 3 (Or.inr (show 640 + 128 ≤ 4 * 384 + 0 * 128 + l.val by omega)),
    View.read_writes_cons_unit_of_not_mem _ _ _ _ _ _ rfl 3 (Or.inr (show 512 + 128 ≤ 4 * 384 + 0 * 128 + l.val by omega)),
    View.read_writes_cons_unit_of_not_mem _ _ _ _ _ _ rfl 3 (Or.inr (show 256 + 128 ≤ 4 * 384 + 0 * 128 + l.val by omega)),
    View.read_writes_cons_unit_of_not_mem _ _ _ _ _ _ rfl 3 (Or.inr (show 128 + 128 ≤ 4 * 384 + 0 * 128 + l.val by omega)),
    View.read_writes_cons_unit_of_not_mem _ _ _ _ _ _ rfl 3 (Or.inl (show 4 * 384 + 0 * 128 + l.val < 1920 by omega)),
    View.read_writes_cons_unit_of_mem _ _ _ _ _ _ (ix4 0 0 q l) rfl (by intro a; fin_cases a <;> simp [ix4, lan])]
  unfold_payloads
  pointwise
  rfl

theorem out_B_4_4_1 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 4 1 (by omega) (by omega) l))
      = dkB 4 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 4 * 384 + 1 * 128 + l.val < 2176 by omega)),
    View.read_writes_cons_unit_of_not_mem _ _ _ _ _ _ rfl 3 (Or.inl (show 4 * 384 + 1 * 128 + l.val < 2048 by omega)),
    View.read_writes_cons_unit_of_not_mem _ _ _ _ _ _ rfl 3 (Or.inl (show 4 * 384 + 1 * 128 + l.val < 1792 by omega)),
    View.read_writes_cons_unit_of_mem _ _ _ _ _ _ (ix4 0 0 q l) rfl (by intro a; fin_cases a <;> simp [ix4, lan])]
  unfold_payloads
  pointwise
  rfl

theorem out_B_4_4_2 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 4 2 (by omega) (by omega) l))
      = dvB 4 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 4 * 384 + 2 * 128 + l.val < 2176 by omega)),
    View.read_writes_cons_unit_of_not_mem _ _ _ _ _ _ rfl 3 (Or.inl (show 4 * 384 + 2 * 128 + l.val < 2048 by omega)),
    View.read_writes_cons_unit_of_mem _ _ _ _ _ _ (ix4 0 0 q l) rfl (by intro a; fin_cases a <;> simp [ix4, lan])]
  unfold_payloads
  pointwise
  rfl

theorem out_B_4_5_0 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 5 0 (by omega) (by omega) l))
      = dqB 5 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 5 * 384 + 0 * 128 + l.val < 2176 by omega)),
    View.read_writes_cons_unit_of_not_mem _ _ _ _ _ _ rfl 3 (Or.inl (show 5 * 384 + 0 * 128 + l.val < 2048 by omega)),
    View.read_writes_cons_unit_of_not_mem _ _ _ _ _ _ rfl 3 (Or.inr (show 1792 + 128 ≤ 5 * 384 + 0 * 128 + l.val by omega)),
    View.read_writes_cons_unit_of_not_mem _ _ _ _ _ _ rfl 3 (Or.inr (show 1664 + 128 ≤ 5 * 384 + 0 * 128 + l.val by omega)),
    View.read_writes_cons_unit_of_not_mem _ _ _ _ _ _ rfl 3 (Or.inr (show 1408 + 128 ≤ 5 * 384 + 0 * 128 + l.val by omega)),
    View.read_writes_cons_unit_of_not_mem _ _ _ _ _ _ rfl 3 (Or.inr (show 1280 + 128 ≤ 5 * 384 + 0 * 128 + l.val by omega)),
    View.read_writes_cons_unit_of_not_mem _ _ _ _ _ _ rfl 3 (Or.inr (show 1024 + 128 ≤ 5 * 384 + 0 * 128 + l.val by omega)),
    View.read_writes_cons_unit_of_not_mem _ _ _ _ _ _ rfl 3 (Or.inr (show 896 + 128 ≤ 5 * 384 + 0 * 128 + l.val by omega)),
    View.read_writes_cons_unit_of_not_mem _ _ _ _ _ _ rfl 3 (Or.inr (show 640 + 128 ≤ 5 * 384 + 0 * 128 + l.val by omega)),
    View.read_writes_cons_unit_of_not_mem _ _ _ _ _ _ rfl 3 (Or.inr (show 512 + 128 ≤ 5 * 384 + 0 * 128 + l.val by omega)),
    View.read_writes_cons_unit_of_not_mem _ _ _ _ _ _ rfl 3 (Or.inr (show 256 + 128 ≤ 5 * 384 + 0 * 128 + l.val by omega)),
    View.read_writes_cons_unit_of_not_mem _ _ _ _ _ _ rfl 3 (Or.inr (show 128 + 128 ≤ 5 * 384 + 0 * 128 + l.val by omega)),
    View.read_writes_cons_unit_of_mem _ _ _ _ _ _ (ix4 0 0 q l) rfl (by intro a; fin_cases a <;> simp [ix4, lan])]
  unfold_payloads
  pointwise
  rfl

theorem out_B_4_5_1 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 5 1 (by omega) (by omega) l))
      = dkB 5 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_not_mem _ _ _ _ _ _ rfl 3 (Or.inl (show 5 * 384 + 1 * 128 + l.val < 2176 by omega)),
    View.read_writes_cons_unit_of_mem _ _ _ _ _ _ (ix4 0 0 q l) rfl (by intro a; fin_cases a <;> simp [ix4, lan])]
  unfold_payloads
  pointwise
  rfl

theorem out_B_4_5_2 (c : Dev nD) (i : grid0.Coords) a3 h3 a4 h4 a5 h5 a6 h6 a7 h7 a8 h8 (hc : ¬cond0_0 i)
    (x0 x1 x2 x3 xo) (q : Fin 128) (l : Fin 128) :
    out0_B_4 (F := Ideal) c i a3 h3 a4 h4 a5 h5 a6 h6 a7 h7 a8 h8 hc x0 x1 x2 x3 xo (ix4 0 0 q (lan 5 2 (by omega) (by omega) l))
      = dvB 5 (by omega) x0 x1 x2 x3 q l := by
  unfold out0_B_4 kernelRun0_B
  dsimp only
  sl_unfold_words
  simp only [View.readAt_eq_ld, h3.read_unread, h4.read_unread, h5.read_unread, h6.read_unread]
  rw [View.read_writes_cons_unit_of_mem _ _ _ _ _ _ (ix4 0 0 q l) rfl (by intro a; fin_cases a <;> simp [ix4, lan])]
  unfold_payloads
  pointwise
  rfl

/-- Every lane of the first output at a point of case B. -/
theorem out_B_4 (c : Dev nD) (i : grid0.Coords) a3 h3 a4 h4 a5 h5 a6 h6 a7 h7 a8 h8 (hc : ¬cond0_0 i)
    (x0 x1 x2 x3 xo) (p : Fin 6) (part : Fin 3) (q : Fin 128) (l : Fin 128) :
    out0_B_4 (F := Ideal) c i a3 h3 a4 h4 a5 h5 a6 h6 a7 h7 a8 h8 hc x0 x1 x2 x3 xo (ix4 0 0 q (lan p.val part.val p.isLt part.isLt l))
      = gradB p.val p.isLt part x0 x1 x2 x3 q l :=
  match p, part with
    | 0, 0 => out_B_4_0_0 c i a3 h3 a4 h4 a5 h5 a6 h6 a7 h7 a8 h8 hc x0 x1 x2 x3 xo q l
    | 0, 1 => out_B_4_0_1 c i a3 h3 a4 h4 a5 h5 a6 h6 a7 h7 a8 h8 hc x0 x1 x2 x3 xo q l
    | 0, 2 => out_B_4_0_2 c i a3 h3 a4 h4 a5 h5 a6 h6 a7 h7 a8 h8 hc x0 x1 x2 x3 xo q l
    | 1, 0 => out_B_4_1_0 c i a3 h3 a4 h4 a5 h5 a6 h6 a7 h7 a8 h8 hc x0 x1 x2 x3 xo q l
    | 1, 1 => out_B_4_1_1 c i a3 h3 a4 h4 a5 h5 a6 h6 a7 h7 a8 h8 hc x0 x1 x2 x3 xo q l
    | 1, 2 => out_B_4_1_2 c i a3 h3 a4 h4 a5 h5 a6 h6 a7 h7 a8 h8 hc x0 x1 x2 x3 xo q l
    | 2, 0 => out_B_4_2_0 c i a3 h3 a4 h4 a5 h5 a6 h6 a7 h7 a8 h8 hc x0 x1 x2 x3 xo q l
    | 2, 1 => out_B_4_2_1 c i a3 h3 a4 h4 a5 h5 a6 h6 a7 h7 a8 h8 hc x0 x1 x2 x3 xo q l
    | 2, 2 => out_B_4_2_2 c i a3 h3 a4 h4 a5 h5 a6 h6 a7 h7 a8 h8 hc x0 x1 x2 x3 xo q l
    | 3, 0 => out_B_4_3_0 c i a3 h3 a4 h4 a5 h5 a6 h6 a7 h7 a8 h8 hc x0 x1 x2 x3 xo q l
    | 3, 1 => out_B_4_3_1 c i a3 h3 a4 h4 a5 h5 a6 h6 a7 h7 a8 h8 hc x0 x1 x2 x3 xo q l
    | 3, 2 => out_B_4_3_2 c i a3 h3 a4 h4 a5 h5 a6 h6 a7 h7 a8 h8 hc x0 x1 x2 x3 xo q l
    | 4, 0 => out_B_4_4_0 c i a3 h3 a4 h4 a5 h5 a6 h6 a7 h7 a8 h8 hc x0 x1 x2 x3 xo q l
    | 4, 1 => out_B_4_4_1 c i a3 h3 a4 h4 a5 h5 a6 h6 a7 h7 a8 h8 hc x0 x1 x2 x3 xo q l
    | 4, 2 => out_B_4_4_2 c i a3 h3 a4 h4 a5 h5 a6 h6 a7 h7 a8 h8 hc x0 x1 x2 x3 xo q l
    | 5, 0 => out_B_4_5_0 c i a3 h3 a4 h4 a5 h5 a6 h6 a7 h7 a8 h8 hc x0 x1 x2 x3 xo q l
    | 5, 1 => out_B_4_5_1 c i a3 h3 a4 h4 a5 h5 a6 h6 a7 h7 a8 h8 hc x0 x1 x2 x3 xo q l
    | 5, 2 => out_B_4_5_2 c i a3 h3 a4 h4 a5 h5 a6 h6 a7 h7 a8 h8 hc x0 x1 x2 x3 xo q l

end Cert.AttnIdeal.Body
-- ==== Proof.Attn.Body5A.lean ====
module

public import proofs.«01_k».proof.Proof.Attn.Body

@[expose] public section

set_option maxRecDepth 16384

noncomputable section

/-! The second output at the first of a device's points, one head at a time: it gains the gradient of the head's scores. -/

namespace Cert.AttnIdeal.Body

open Cert.AttnIdeal Cert.AttnIdeal.Gen Idealize.ShloMosaic Idealize.ShloMosaic.TcCoe Idealize.SL.Sem

theorem out_A_5_0 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 0 q ⟨128 + k.val, by omega⟩)
      = dsB 0 0 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 0 < 11 by omega)),
    View.read_writes_cons_unit_of_not_mem _ _ _ _ _ _ rfl 0 (Or.inl (show 0 < 10 by omega)),
    View.read_writes_cons_unit_of_not_mem _ _ _ _ _ _ rfl 0 (Or.inl (show 0 < 9 by omega)),
    View.read_writes_cons_unit_of_not_mem _ _ _ _ _ _ rfl 0 (Or.inl (show 0 < 8 by omega)),
    View.read_writes_cons_unit_of_not_mem _ _ _ _ _ _ rfl 0 (Or.inl (show 0 < 7 by omega)),
    View.read_writes_cons_unit_of_not_mem _ _ _ _ _ _ rfl 0 (Or.inl (show 0 < 6 by omega)),
    View.read_writes_cons_unit_of_not_mem _ _ _ _ _ _ rfl 0 (Or.inl (show 0 < 5 by omega)),
    View.read_writes_cons_unit_of_not_mem _ _ _ _ _ _ rfl 0 (Or.inl (show 0 < 4 by omega)),
    View.read_writes_cons_unit_of_not_mem _ _ _ _ _ _ rfl 0 (Or.inl (show 0 < 3 by omega)),
    View.read_writes_cons_unit_of_not_mem _ _ _ _ _ _ rfl 0 (Or.inl (show 0 < 2 by omega)),
    View.read_writes_cons_unit_of_not_mem _ _ _ _ _ _ rfl 0 (Or.inl (show 0 < 1 by omega)),
    View.read_writes_cons_unit_of_mem _ _ _ _ _ _ (ix3 0 q k) rfl (by intro a; fin_cases a <;> simp [ix3])]
  unfold_payloads
  pointwise
  rw [readCov_at _ _ _ (ix3 0 q ⟨128 + k.val, by omega⟩) _ (by funext a; fin_cases a <;> refine Fin.ext ?_ <;> simp [ix3, LoadRect.idx]),
    View.read_writes_cons_unit_of_mem _ _ _ _ _ _ (ix3 0 q ⟨128 + k.val, by omega⟩) rfl (by intro a; fin_cases a <;> simp [ix3])]
  unfold_payloads
  pointwise
  rfl

theorem out_A_5_1 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 1 q ⟨128 + k.val, by omega⟩)
      = dsB 0 1 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 1 < 11 by omega)),
    View.read_writes_cons_unit_of_not_mem _ _ _ _ _ _ rfl 0 (Or.inl (show 1 < 10 by omega)),
    View.read_writes_cons_unit_of_not_mem _ _ _ _ _ _ rfl 0 (Or.inl (show 1 < 9 by omega)),
    View.read_writes_cons_unit_of_not_mem _ _ _ _ _ _ rfl 0 (Or.inl (show 1 < 8 by omega)),
    View.read_writes_cons_unit_of_not_mem _ _ _ _ _ _ rfl 0 (Or.inl (show 1 < 7 by omega)),
    View.read_writes_cons_unit_of_not_mem _ _ _ _ _ _ rfl 0 (Or.inl (show 1 < 6 by omega)),
    View.read_writes_cons_unit_of_not_mem _ _ _ _ _ _ rfl 0 (Or.inl (show 1 < 5 by omega)),
    View.read_writes_cons_unit_of_not_mem _ _ _ _ _ _ rfl 0 (Or.inl (show 1 < 4 by omega)),
    View.read_writes_cons_unit_of_not_mem _ _ _ _ _ _ rfl 0 (Or.inl (show 1 < 3 by omega)),
    View.read_writes_cons_unit_of_not_mem _ _ _ _ _ _ rfl 0 (Or.inl (show 1 < 2 by omega)),
    View.read_writes_cons_unit_of_mem _ _ _ _ _ _ (ix3 0 q k) rfl (by intro a; fin_cases a <;> simp [ix3])]
  unfold_payloads
  pointwise
  rw [readCov_at _ _ _ (ix3 1 q ⟨128 + k.val, by omega⟩) _ (by funext a; fin_cases a <;> refine Fin.ext ?_ <;> simp [ix3, LoadRect.idx]),
    View.read_writes_cons_unit_of_not_mem _ _ _ _ _ _ rfl 0 (Or.inr (show 0 + 1 ≤ 1 by omega)),
    View.read_writes_cons_unit_of_mem _ _ _ _ _ _ (ix3 1 q ⟨128 + k.val, by omega⟩) rfl (by intro a; fin_cases a <;> simp [ix3])]
  unfold_payloads
  pointwise
  rfl

theorem out_A_5_2 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 2 q ⟨128 + k.val, by omega⟩)
      = dsB 1 0 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 2 < 11 by omega)),
    View.read_writes_cons_unit_of_not_mem _ _ _ _ _ _ rfl 0 (Or.inl (show 2 < 10 by omega)),
    View.read_writes_cons_unit_of_not_mem _ _ _ _ _ _ rfl 0 (Or.inl (show 2 < 9 by omega)),
    View.read_writes_cons_unit_of_not_mem _ _ _ _ _ _ rfl 0 (Or.inl (show 2 < 8 by omega)),
    View.read_writes_cons_unit_of_not_mem _ _ _ _ _ _ rfl 0 (Or.inl (show 2 < 7 by omega)),
    View.read_writes_cons_unit_of_not_mem _ _ _ _ _ _ rfl 0 (Or.inl (show 2 < 6 by omega)),
    View.read_writes_cons_unit_of_not_mem _ _ _ _ _ _ rfl 0 (Or.inl (show 2 < 5 by omega)),
    View.read_writes_cons_unit_of_not_mem _ _ _ _ _ _ rfl 0 (Or.inl (show 2 < 4 by omega)),
    View.read_writes_cons_unit_of_not_mem _ _ _ _ _ _ rfl 0 (Or.inl (show 2 < 3 by omega)),
    View.read_writes_cons_unit_of_mem _ _ _ _ _ _ (ix3 0 q k) rfl (by intro a; fin_cases a <;> simp [ix3])]
  unfold_payloads
  pointwise
  rw [readCov_at _ _ _ (ix3 2 q ⟨128 + k.val, by omega⟩) _ (by funext a; fin_cases a <;> refine Fin.ext ?_ <;> simp [ix3, LoadRect.idx]),
    View.read_writes_cons_unit_of_not_mem _ _ _ _ _ _ rfl 0 (Or.inr (show 1 + 1 ≤ 2 by omega)),
    View.read_writes_cons_unit_of_not_mem _ _ _ _ _ _ rfl 0 (Or.inr (show 0 + 1 ≤ 2 by omega)),
    View.read_writes_cons_unit_of_mem _ _ _ _ _ _ (ix3 2 q ⟨128 + k.val, by omega⟩) rfl (by intro a; fin_cases a <;> simp [ix3])]
  unfold_payloads
  pointwise
  rfl

theorem out_A_5_3 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 3 q ⟨128 + k.val, by omega⟩)
      = dsB 1 1 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 3 < 11 by omega)),
    View.read_writes_cons_unit_of_not_mem _ _ _ _ _ _ rfl 0 (Or.inl (show 3 < 10 by omega)),
    View.read_writes_cons_unit_of_not_mem _ _ _ _ _ _ rfl 0 (Or.inl (show 3 < 9 by omega)),
    View.read_writes_cons_unit_of_not_mem _ _ _ _ _ _ rfl 0 (Or.inl (show 3 < 8 by omega)),
    View.read_writes_cons_unit_of_not_mem _ _ _ _ _ _ rfl 0 (Or.inl (show 3 < 7 by omega)),
    View.read_writes_cons_unit_of_not_mem _ _ _ _ _ _ rfl 0 (Or.inl (show 3 < 6 by omega)),
    View.read_writes_cons_unit_of_not_mem _ _ _ _ _ _ rfl 0 (Or.inl (show 3 < 5 by omega)),
    View.read_writes_cons_unit_of_not_mem _ _ _ _ _ _ rfl 0 (Or.inl (show 3 < 4 by omega)),
    View.read_writes_cons_unit_of_mem _ _ _ _ _ _ (ix3 0 q k) rfl (by intro a; fin_cases a <;> simp [ix3])]
  unfold_payloads
  pointwise
  rw [readCov_at _ _ _ (ix3 3 q ⟨128 + k.val, by omega⟩) _ (by funext a; fin_cases a <;> refine Fin.ext ?_ <;> simp [ix3, LoadRect.idx]),
    View.read_writes_cons_unit_of_not_mem _ _ _ _ _ _ rfl 0 (Or.inr (show 2 + 1 ≤ 3 by omega)),
    View.read_writes_cons_unit_of_not_mem _ _ _ _ _ _ rfl 0 (Or.inr (show 1 + 1 ≤ 3 by omega)),
    View.read_writes_cons_unit_of_not_mem _ _ _ _ _ _ rfl 0 (Or.inr (show 0 + 1 ≤ 3 by omega)),
    View.read_writes_cons_unit_of_mem _ _ _ _ _ _ (ix3 3 q ⟨128 + k.val, by omega⟩) rfl (by intro a; fin_cases a <;> simp [ix3])]
  unfold_payloads
  pointwise
  rfl

theorem out_A_5_4 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 4 q ⟨128 + k.val, by omega⟩)
      = dsB 2 0 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 4 < 11 by omega)),
    View.read_writes_cons_unit_of_not_mem _ _ _ _ _ _ rfl 0 (Or.inl (show 4 < 10 by omega)),
    View.read_writes_cons_unit_of_not_mem _ _ _ _ _ _ rfl 0 (Or.inl (show 4 < 9 by omega)),
    View.read_writes_cons_unit_of_not_mem _ _ _ _ _ _ rfl 0 (Or.inl (show 4 < 8 by omega)),
    View.read_writes_cons_unit_of_not_mem _ _ _ _ _ _ rfl 0 (Or.inl (show 4 < 7 by omega)),
    View.read_writes_cons_unit_of_not_mem _ _ _ _ _ _ rfl 0 (Or.inl (show 4 < 6 by omega)),
    View.read_writes_cons_unit_of_not_mem _ _ _ _ _ _ rfl 0 (Or.inl (show 4 < 5 by omega)),
    View.read_writes_cons_unit_of_mem _ _ _ _ _ _ (ix3 0 q k) rfl (by intro a; fin_cases a <;> simp [ix3])]
  unfold_payloads
  pointwise
  rw [readCov_at _ _ _ (ix3 4 q ⟨128 + k.val, by omega⟩) _ (by funext a; fin_cases a <;> refine Fin.ext ?_ <;> simp [ix3, LoadRect.idx]),
    View.read_writes_cons_unit_of_not_mem _ _ _ _ _ _ rfl 0 (Or.inr (show 3 + 1 ≤ 4 by omega)),
    View.read_writes_cons_unit_of_not_mem _ _ _ _ _ _ rfl 0 (Or.inr (show 2 + 1 ≤ 4 by omega)),
    View.read_writes_cons_unit_of_not_mem _ _ _ _ _ _ rfl 0 (Or.inr (show 1 + 1 ≤ 4 by omega)),
    View.read_writes_cons_unit_of_not_mem _ _ _ _ _ _ rfl 0 (Or.inr (show 0 + 1 ≤ 4 by omega)),
    View.read_writes_cons_unit_of_mem _ _ _ _ _ _ (ix3 4 q ⟨128 + k.val, by omega⟩) rfl (by intro a; fin_cases a <;> simp [ix3])]
  unfold_payloads
  pointwise
  rfl

theorem out_A_5_5 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 5 q ⟨128 + k.val, by omega⟩)
      = dsB 2 1 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 5 < 11 by omega)),
    View.read_writes_cons_unit_of_not_mem _ _ _ _ _ _ rfl 0 (Or.inl (show 5 < 10 by omega)),
    View.read_writes_cons_unit_of_not_mem _ _ _ _ _ _ rfl 0 (Or.inl (show 5 < 9 by omega)),
    View.read_writes_cons_unit_of_not_mem _ _ _ _ _ _ rfl 0 (Or.inl (show 5 < 8 by omega)),
    View.read_writes_cons_unit_of_not_mem _ _ _ _ _ _ rfl 0 (Or.inl (show 5 < 7 by omega)),
    View.read_writes_cons_unit_of_not_mem _ _ _ _ _ _ rfl 0 (Or.inl (show 5 < 6 by omega)),
    View.read_writes_cons_unit_of_mem _ _ _ _ _ _ (ix3 0 q k) rfl (by intro a; fin_cases a <;> simp [ix3])]
  unfold_payloads
  pointwise
  rw [readCov_at _ _ _ (ix3 5 q ⟨128 + k.val, by omega⟩) _ (by funext a; fin_cases a <;> refine Fin.ext ?_ <;> simp [ix3, LoadRect.idx]),
    View.read_writes_cons_unit_of_not_mem _ _ _ _ _ _ rfl 0 (Or.inr (show 4 + 1 ≤ 5 by omega)),
    View.read_writes_cons_unit_of_not_mem _ _ _ _ _ _ rfl 0 (Or.inr (show 3 + 1 ≤ 5 by omega)),
    View.read_writes_cons_unit_of_not_mem _ _ _ _ _ _ rfl 0 (Or.inr (show 2 + 1 ≤ 5 by omega)),
    View.read_writes_cons_unit_of_not_mem _ _ _ _ _ _ rfl 0 (Or.inr (show 1 + 1 ≤ 5 by omega)),
    View.read_writes_cons_unit_of_not_mem _ _ _ _ _ _ rfl 0 (Or.inr (show 0 + 1 ≤ 5 by omega)),
    View.read_writes_cons_unit_of_mem _ _ _ _ _ _ (ix3 5 q ⟨128 + k.val, by omega⟩) rfl (by intro a; fin_cases a <;> simp [ix3])]
  unfold_payloads
  pointwise
  rfl

theorem out_A_5_6 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 6 q ⟨128 + k.val, by omega⟩)
      = dsB 3 0 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 6 < 11 by omega)),
    View.read_writes_cons_unit_of_not_mem _ _ _ _ _ _ rfl 0 (Or.inl (show 6 < 10 by omega)),
    View.read_writes_cons_unit_of_not_mem _ _ _ _ _ _ rfl 0 (Or.inl (show 6 < 9 by omega)),
    View.read_writes_cons_unit_of_not_mem _ _ _ _ _ _ rfl 0 (Or.inl (show 6 < 8 by omega)),
    View.read_writes_cons_unit_of_not_mem _ _ _ _ _ _ rfl 0 (Or.inl (show 6 < 7 by omega)),
    View.read_writes_cons_unit_of_mem _ _ _ _ _ _ (ix3 0 q k) rfl (by intro a; fin_cases a <;> simp [ix3])]
  unfold_payloads
  pointwise
  rw [readCov_at _ _ _ (ix3 6 q ⟨128 + k.val, by omega⟩) _ (by funext a; fin_cases a <;> refine Fin.ext ?_ <;> simp [ix3, LoadRect.idx]),
    View.read_writes_cons_unit_of_not_mem _ _ _ _ _ _ rfl 0 (Or.inr (show 5 + 1 ≤ 6 by omega)),
    View.read_writes_cons_unit_of_not_mem _ _ _ _ _ _ rfl 0 (Or.inr (show 4 + 1 ≤ 6 by omega)),
    View.read_writes_cons_unit_of_not_mem _ _ _ _ _ _ rfl 0 (Or.inr (show 3 + 1 ≤ 6 by omega)),
    View.read_writes_cons_unit_of_not_mem _ _ _ _ _ _ rfl 0 (Or.inr (show 2 + 1 ≤ 6 by omega)),
    View.read_writes_cons_unit_of_not_mem _ _ _ _ _ _ rfl 0 (Or.inr (show 1 + 1 ≤ 6 by omega)),
    View.read_writes_cons_unit_of_not_mem _ _ _ _ _ _ rfl 0 (Or.inr (show 0 + 1 ≤ 6 by omega)),
    View.read_writes_cons_unit_of_mem _ _ _ _ _ _ (ix3 6 q ⟨128 + k.val, by omega⟩) rfl (by intro a; fin_cases a <;> simp [ix3])]
  unfold_payloads
  pointwise
  rfl

theorem out_A_5_7 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 7 q ⟨128 + k.val, by omega⟩)
      = dsB 3 1 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 7 < 11 by omega)),
    View.read_writes_cons_unit_of_not_mem _ _ _ _ _ _ rfl 0 (Or.inl (show 7 < 10 by omega)),
    View.read_writes_cons_unit_of_not_mem _ _ _ _ _ _ rfl 0 (Or.inl (show 7 < 9 by omega)),
    View.read_writes_cons_unit_of_not_mem _ _ _ _ _ _ rfl 0 (Or.inl (show 7 < 8 by omega)),
    View.read_writes_cons_unit_of_mem _ _ _ _ _ _ (ix3 0 q k) rfl (by intro a; fin_cases a <;> simp [ix3])]
  unfold_payloads
  pointwise
  rw [readCov_at _ _ _ (ix3 7 q ⟨128 + k.val, by omega⟩) _ (by funext a; fin_cases a <;> refine Fin.ext ?_ <;> simp [ix3, LoadRect.idx]),
    View.read_writes_cons_unit_of_not_mem _ _ _ _ _ _ rfl 0 (Or.inr (show 6 + 1 ≤ 7 by omega)),
    View.read_writes_cons_unit_of_not_mem _ _ _ _ _ _ rfl 0 (Or.inr (show 5 + 1 ≤ 7 by omega)),
    View.read_writes_cons_unit_of_not_mem _ _ _ _ _ _ rfl 0 (Or.inr (show 4 + 1 ≤ 7 by omega)),
    View.read_writes_cons_unit_of_not_mem _ _ _ _ _ _ rfl 0 (Or.inr (show 3 + 1 ≤ 7 by omega)),
    View.read_writes_cons_unit_of_not_mem _ _ _ _ _ _ rfl 0 (Or.inr (show 2 + 1 ≤ 7 by omega)),
    View.read_writes_cons_unit_of_not_mem _ _ _ _ _ _ rfl 0 (Or.inr (show 1 + 1 ≤ 7 by omega)),
    View.read_writes_cons_unit_of_not_mem _ _ _ _ _ _ rfl 0 (Or.inr (show 0 + 1 ≤ 7 by omega)),
    View.read_writes_cons_unit_of_mem _ _ _ _ _ _ (ix3 7 q ⟨128 + k.val, by omega⟩) rfl (by intro a; fin_cases a <;> simp [ix3])]
  unfold_payloads
  pointwise
  rfl

theorem out_A_5_8 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 8 q ⟨128 + k.val, by omega⟩)
      = dsB 4 0 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 8 < 11 by omega)),
    View.read_writes_cons_unit_of_not_mem _ _ _ _ _ _ rfl 0 (Or.inl (show 8 < 10 by omega)),
    View.read_writes_cons_unit_of_not_mem _ _ _ _ _ _ rfl 0 (Or.inl (show 8 < 9 by omega)),
    View.read_writes_cons_unit_of_mem _ _ _ _ _ _ (ix3 0 q k) rfl (by intro a; fin_cases a <;> simp [ix3])]
  unfold_payloads
  pointwise
  rw [readCov_at _ _ _ (ix3 8 q ⟨128 + k.val, by omega⟩) _ (by funext a; fin_cases a <;> refine Fin.ext ?_ <;> simp [ix3, LoadRect.idx]),
    View.read_writes_cons_unit_of_not_mem _ _ _ _ _ _ rfl 0 (Or.inr (show 7 + 1 ≤ 8 by omega)),
    View.read_writes_cons_unit_of_not_mem _ _ _ _ _ _ rfl 0 (Or.inr (show 6 + 1 ≤ 8 by omega)),
    View.read_writes_cons_unit_of_not_mem _ _ _ _ _ _ rfl 0 (Or.inr (show 5 + 1 ≤ 8 by omega)),
    View.read_writes_cons_unit_of_not_mem _ _ _ _ _ _ rfl 0 (Or.inr (show 4 + 1 ≤ 8 by omega)),
    View.read_writes_cons_unit_of_not_mem _ _ _ _ _ _ rfl 0 (Or.inr (show 3 + 1 ≤ 8 by omega)),
    View.read_writes_cons_unit_of_not_mem _ _ _ _ _ _ rfl 0 (Or.inr (show 2 + 1 ≤ 8 by omega)),
    View.read_writes_cons_unit_of_not_mem _ _ _ _ _ _ rfl 0 (Or.inr (show 1 + 1 ≤ 8 by omega)),
    View.read_writes_cons_unit_of_not_mem _ _ _ _ _ _ rfl 0 (Or.inr (show 0 + 1 ≤ 8 by omega)),
    View.read_writes_cons_unit_of_mem _ _ _ _ _ _ (ix3 8 q ⟨128 + k.val, by omega⟩) rfl (by intro a; fin_cases a <;> simp [ix3])]
  unfold_payloads
  pointwise
  rfl

theorem out_A_5_9 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 9 q ⟨128 + k.val, by omega⟩)
      = dsB 4 1 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 9 < 11 by omega)),
    View.read_writes_cons_unit_of_not_mem _ _ _ _ _ _ rfl 0 (Or.inl (show 9 < 10 by omega)),
    View.read_writes_cons_unit_of_mem _ _ _ _ _ _ (ix3 0 q k) rfl (by intro a; fin_cases a <;> simp [ix3])]
  unfold_payloads
  pointwise
  rw [readCov_at _ _ _ (ix3 9 q ⟨128 + k.val, by omega⟩) _ (by funext a; fin_cases a <;> refine Fin.ext ?_ <;> simp [ix3, LoadRect.idx]),
    View.read_writes_cons_unit_of_not_mem _ _ _ _ _ _ rfl 0 (Or.inr (show 8 + 1 ≤ 9 by omega)),
    View.read_writes_cons_unit_of_not_mem _ _ _ _ _ _ rfl 0 (Or.inr (show 7 + 1 ≤ 9 by omega)),
    View.read_writes_cons_unit_of_not_mem _ _ _ _ _ _ rfl 0 (Or.inr (show 6 + 1 ≤ 9 by omega)),
    View.read_writes_cons_unit_of_not_mem _ _ _ _ _ _ rfl 0 (Or.inr (show 5 + 1 ≤ 9 by omega)),
    View.read_writes_cons_unit_of_not_mem _ _ _ _ _ _ rfl 0 (Or.inr (show 4 + 1 ≤ 9 by omega)),
    View.read_writes_cons_unit_of_not_mem _ _ _ _ _ _ rfl 0 (Or.inr (show 3 + 1 ≤ 9 by omega)),
    View.read_writes_cons_unit_of_not_mem _ _ _ _ _ _ rfl 0 (Or.inr (show 2 + 1 ≤ 9 by omega)),
    View.read_writes_cons_unit_of_not_mem _ _ _ _ _ _ rfl 0 (Or.inr (show 1 + 1 ≤ 9 by omega)),
    View.read_writes_cons_unit_of_not_mem _ _ _ _ _ _ rfl 0 (Or.inr (show 0 + 1 ≤ 9 by omega)),
    View.read_writes_cons_unit_of_mem _ _ _ _ _ _ (ix3 9 q ⟨128 + k.val, by omega⟩) rfl (by intro a; fin_cases a <;> simp [ix3])]
  unfold_payloads
  pointwise
  rfl

theorem out_A_5_10 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 10 q ⟨128 + k.val, by omega⟩)
      = dsB 5 0 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_not_mem _ _ _ _ _ _ rfl 0 (Or.inl (show 10 < 11 by omega)),
    View.read_writes_cons_unit_of_mem _ _ _ _ _ _ (ix3 0 q k) rfl (by intro a; fin_cases a <;> simp [ix3])]
  unfold_payloads
  pointwise
  rw [readCov_at _ _ _ (ix3 10 q ⟨128 + k.val, by omega⟩) _ (by funext a; fin_cases a <;> refine Fin.ext ?_ <;> simp [ix3, LoadRect.idx]),
    View.read_writes_cons_unit_of_not_mem _ _ _ _ _ _ rfl 0 (Or.inr (show 9 + 1 ≤ 10 by omega)),
    View.read_writes_cons_unit_of_not_mem _ _ _ _ _ _ rfl 0 (Or.inr (show 8 + 1 ≤ 10 by omega)),
    View.read_writes_cons_unit_of_not_mem _ _ _ _ _ _ rfl 0 (Or.inr (show 7 + 1 ≤ 10 by omega)),
    View.read_writes_cons_unit_of_not_mem _ _ _ _ _ _ rfl 0 (Or.inr (show 6 + 1 ≤ 10 by omega)),
    View.read_writes_cons_unit_of_not_mem _ _ _ _ _ _ rfl 0 (Or.inr (show 5 + 1 ≤ 10 by omega)),
    View.read_writes_cons_unit_of_not_mem _ _ _ _ _ _ rfl 0 (Or.inr (show 4 + 1 ≤ 10 by omega)),
    View.read_writes_cons_unit_of_not_mem _ _ _ _ _ _ rfl 0 (Or.inr (show 3 + 1 ≤ 10 by omega)),
    View.read_writes_cons_unit_of_not_mem _ _ _ _ _ _ rfl 0 (Or.inr (show 2 + 1 ≤ 10 by omega)),
    View.read_writes_cons_unit_of_not_mem _ _ _ _ _ _ rfl 0 (Or.inr (show 1 + 1 ≤ 10 by omega)),
    View.read_writes_cons_unit_of_not_mem _ _ _ _ _ _ rfl 0 (Or.inr (show 0 + 1 ≤ 10 by omega)),
    View.read_writes_cons_unit_of_mem _ _ _ _ _ _ (ix3 10 q ⟨128 + k.val, by omega⟩) rfl (by intro a; fin_cases a <;> simp [ix3])]
  unfold_payloads
  pointwise
  rfl

theorem out_A_5_11 (c : Dev nD) (i : grid0.Coords) a3 h3 a4 h4 a5 h5 a6 h6 a7 h7 a8 h8 (hc : cond0_0 i)
    (x0 x1 x2 x3) (q k : Fin 128) :
    out0_A_5 (F := Ideal) c i a3 h3 a4 h4 a5 h5 a6 h6 a7 h7 a8 h8 hc x0 x1 x2 x3 (ix3 11 q ⟨128 + k.val, by omega⟩)
      = dsB 5 1 (by omega) (by omega) x0 x1 x2 x3 q k := by
  unfold out0_A_5 kernelRun0_A
  dsimp only
  sl_unfold_words
  simp only [View.readAt_eq_ld, h3.read_unread, h4.read_unread, h5.read_unread, h6.read_unread]
  rw [View.read_writes_cons_unit_of_mem _ _ _ _ _ _ (ix3 0 q k) rfl (by intro a; fin_cases a <;> simp [ix3])]
  unfold_payloads
  pointwise
  rw [readCov_at _ _ _ (ix3 11 q ⟨128 + k.val, by omega⟩) _ (by funext a; fin_cases a <;> refine Fin.ext ?_ <;> simp [ix3, LoadRect.idx]),
    View.read_writes_cons_unit_of_not_mem _ _ _ _ _ _ rfl 0 (Or.inr (show 10 + 1 ≤ 11 by omega)),
    View.read_writes_cons_unit_of_not_mem _ _ _ _ _ _ rfl 0 (Or.inr (show 9 + 1 ≤ 11 by omega)),
    View.read_writes_cons_unit_of_not_mem _ _ _ _ _ _ rfl 0 (Or.inr (show 8 + 1 ≤ 11 by omega)),
    View.read_writes_cons_unit_of_not_mem _ _ _ _ _ _ rfl 0 (Or.inr (show 7 + 1 ≤ 11 by omega)),
    View.read_writes_cons_unit_of_not_mem _ _ _ _ _ _ rfl 0 (Or.inr (show 6 + 1 ≤ 11 by omega)),
    View.read_writes_cons_unit_of_not_mem _ _ _ _ _ _ rfl 0 (Or.inr (show 5 + 1 ≤ 11 by omega)),
    View.read_writes_cons_unit_of_not_mem _ _ _ _ _ _ rfl 0 (Or.inr (show 4 + 1 ≤ 11 by omega)),
    View.read_writes_cons_unit_of_not_mem _ _ _ _ _ _ rfl 0 (Or.inr (show 3 + 1 ≤ 11 by omega)),
    View.read_writes_cons_unit_of_not_mem _ _ _ _ _ _ rfl 0 (Or.inr (show 2 + 1 ≤ 11 by omega)),
    View.read_writes_cons_unit_of_not_mem _ _ _ _ _ _ rfl 0 (Or.inr (show 1 + 1 ≤ 11 by omega)),
    View.read_writes_cons_unit_of_not_mem _ _ _ _ _ _ rfl 0 (Or.inr (show 0 + 1 ≤ 11 by omega)),
    View.read_writes_cons_unit_of_mem _ _ _ _ _ _ (ix3 11 q ⟨128 + k.val, by omega⟩) rfl (by intro a; fin_cases a <;> simp [ix3])]
  unfold_payloads
  pointwise
  rfl

/-- The first 128 columns of the table's gradient get no store at a first point but the zeros. -/
theorem out_A_5_first (c : Dev nD) (i : grid0.Coords) a3 h3 a4 h4 a5 h5 a6 h6 a7 h7 a8 h8 (hc : cond0_0 i)
    (x0 x1 x2 x3) (h : Fin 12) (q k : Fin 128) :
    out0_A_5 (F := Ideal) c i a3 h3 a4 h4 a5 h5 a6 h6 a7 h7 a8 h8 hc x0 x1 x2 x3 (ix3 h q ⟨k.val, by omega⟩) = 0 := by
  unfold out0_A_5 kernelRun0_A
  dsimp only
  sl_unfold_words
  rw [View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_mem _ _ _ _ _ _ (ix3 h q ⟨k.val, by omega⟩) rfl (by intro a; fin_cases a <;> simp [ix3])]
  unfold_payloads
  pointwise

/-- The last 128 columns of the second output at a point of case A. -/
theorem out_A_5 (c : Dev nD) (i : grid0.Coords) a3 h3 a4 h4 a5 h5 a6 h6 a7 h7 a8 h8 (hc : cond0_0 i)
    (x0 x1 x2 x3) (p : Fin 6) (e : Fin 2) (q k : Fin 128) :
    out0_A_5 (F := Ideal) c i a3 h3 a4 h4 a5 h5 a6 h6 a7 h7 a8 h8 hc x0 x1 x2 x3 (ix3 ⟨2 * p.val + e.val, by omega⟩ q ⟨128 + k.val, by omega⟩)
      = dsB p.val e.val p.isLt e.isLt x0 x1 x2 x3 q k :=
  match p, e with
    | 0, 0 => out_A_5_0 c i a3 h3 a4 h4 a5 h5 a6 h6 a7 h7 a8 h8 hc x0 x1 x2 x3 q k
    | 0, 1 => out_A_5_1 c i a3 h3 a4 h4 a5 h5 a6 h6 a7 h7 a8 h8 hc x0 x1 x2 x3 q k
    | 1, 0 => out_A_5_2 c i a3 h3 a4 h4 a5 h5 a6 h6 a7 h7 a8 h8 hc x0 x1 x2 x3 q k
    | 1, 1 => out_A_5_3 c i a3 h3 a4 h4 a5 h5 a6 h6 a7 h7 a8 h8 hc x0 x1 x2 x3 q k
    | 2, 0 => out_A_5_4 c i a3 h3 a4 h4 a5 h5 a6 h6 a7 h7 a8 h8 hc x0 x1 x2 x3 q k
    | 2, 1 => out_A_5_5 c i a3 h3 a4 h4 a5 h5 a6 h6 a7 h7 a8 h8 hc x0 x1 x2 x3 q k
    | 3, 0 => out_A_5_6 c i a3 h3 a4 h4 a5 h5 a6 h6 a7 h7 a8 h8 hc x0 x1 x2 x3 q k
    | 3, 1 => out_A_5_7 c i a3 h3 a4 h4 a5 h5 a6 h6 a7 h7 a8 h8 hc x0 x1 x2 x3 q k
    | 4, 0 => out_A_5_8 c i a3 h3 a4 h4 a5 h5 a6 h6 a7 h7 a8 h8 hc x0 x1 x2 x3 q k
    | 4, 1 => out_A_5_9 c i a3 h3 a4 h4 a5 h5 a6 h6 a7 h7 a8 h8 hc x0 x1 x2 x3 q k
    | 5, 0 => out_A_5_10 c i a3 h3 a4 h4 a5 h5 a6 h6 a7 h7 a8 h8 hc x0 x1 x2 x3 q k
    | 5, 1 => out_A_5_11 c i a3 h3 a4 h4 a5 h5 a6 h6 a7 h7 a8 h8 hc x0 x1 x2 x3 q k

end Cert.AttnIdeal.Body
-- ==== Proof.Attn.Body5B.lean ====
module

public import proofs.«01_k».proof.Proof.Attn.Body

@[expose] public section

set_option maxRecDepth 16384

noncomputable section

/-! The second output at a later point, one head at a time: it gains the gradient of the head's scores. -/

namespace Cert.AttnIdeal.Body

open Cert.AttnIdeal Cert.AttnIdeal.Gen Idealize.ShloMosaic Idealize.ShloMosaic.TcCoe Idealize.SL.Sem

theorem out_B_5_0 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 0 q ⟨128 + k.val, by omega⟩)
      = (xo (ix3 0 q ⟨128 + k.val, by omega⟩) : EReal) + dsB 0 0 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 0 < 11 by omega)),
    View.read_writes_cons_unit_of_not_mem _ _ _ _ _ _ rfl 0 (Or.inl (show 0 < 10 by omega)),
    View.read_writes_cons_unit_of_not_mem _ _ _ _ _ _ rfl 0 (Or.inl (show 0 < 9 by omega)),
    View.read_writes_cons_unit_of_not_mem _ _ _ _ _ _ rfl 0 (Or.inl (show 0 < 8 by omega)),
    View.read_writes_cons_unit_of_not_mem _ _ _ _ _ _ rfl 0 (Or.inl (show 0 < 7 by omega)),
    View.read_writes_cons_unit_of_not_mem _ _ _ _ _ _ rfl 0 (Or.inl (show 0 < 6 by omega)),
    View.read_writes_cons_unit_of_not_mem _ _ _ _ _ _ rfl 0 (Or.inl (show 0 < 5 by omega)),
    View.read_writes_cons_unit_of_not_mem _ _ _ _ _ _ rfl 0 (Or.inl (show 0 < 4 by omega)),
    View.read_writes_cons_unit_of_not_mem _ _ _ _ _ _ rfl 0 (Or.inl (show 0 < 3 by omega)),
    View.read_writes_cons_unit_of_not_mem _ _ _ _ _ _ rfl 0 (Or.inl (show 0 < 2 by omega)),
    View.read_writes_cons_unit_of_not_mem _ _ _ _ _ _ rfl 0 (Or.inl (show 0 < 1 by omega)),
    View.read_writes_cons_unit_of_mem _ _ _ _ _ _ (ix3 0 q k) rfl (by intro a; fin_cases a <;> simp [ix3])]
  unfold_payloads
  pointwise
  rw [h8.read_unread]
  rfl

theorem out_B_5_1 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 1 q ⟨128 + k.val, by omega⟩)
      = (xo (ix3 1 q ⟨128 + k.val, by omega⟩) : EReal) + dsB 0 1 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 1 < 11 by omega)),
    View.read_writes_cons_unit_of_not_mem _ _ _ _ _ _ rfl 0 (Or.inl (show 1 < 10 by omega)),
    View.read_writes_cons_unit_of_not_mem _ _ _ _ _ _ rfl 0 (Or.inl (show 1 < 9 by omega)),
    View.read_writes_cons_unit_of_not_mem _ _ _ _ _ _ rfl 0 (Or.inl (show 1 < 8 by omega)),
    View.read_writes_cons_unit_of_not_mem _ _ _ _ _ _ rfl 0 (Or.inl (show 1 < 7 by omega)),
    View.read_writes_cons_unit_of_not_mem _ _ _ _ _ _ rfl 0 (Or.inl (show 1 < 6 by omega)),
    View.read_writes_cons_unit_of_not_mem _ _ _ _ _ _ rfl 0 (Or.inl (show 1 < 5 by omega)),
    View.read_writes_cons_unit_of_not_mem _ _ _ _ _ _ rfl 0 (Or.inl (show 1 < 4 by omega)),
    View.read_writes_cons_unit_of_not_mem _ _ _ _ _ _ rfl 0 (Or.inl (show 1 < 3 by omega)),
    View.read_writes_cons_unit_of_not_mem _ _ _ _ _ _ rfl 0 (Or.inl (show 1 < 2 by omega)),
    View.read_writes_cons_unit_of_mem _ _ _ _ _ _ (ix3 0 q k) rfl (by intro a; fin_cases a <;> simp [ix3])]
  unfold_payloads
  pointwise
  rw [h8.read_unread]
  rfl

theorem out_B_5_2 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 2 q ⟨128 + k.val, by omega⟩)
      = (xo (ix3 2 q ⟨128 + k.val, by omega⟩) : EReal) + dsB 1 0 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 2 < 11 by omega)),
    View.read_writes_cons_unit_of_not_mem _ _ _ _ _ _ rfl 0 (Or.inl (show 2 < 10 by omega)),
    View.read_writes_cons_unit_of_not_mem _ _ _ _ _ _ rfl 0 (Or.inl (show 2 < 9 by omega)),
    View.read_writes_cons_unit_of_not_mem _ _ _ _ _ _ rfl 0 (Or.inl (show 2 < 8 by omega)),
    View.read_writes_cons_unit_of_not_mem _ _ _ _ _ _ rfl 0 (Or.inl (show 2 < 7 by omega)),
    View.read_writes_cons_unit_of_not_mem _ _ _ _ _ _ rfl 0 (Or.inl (show 2 < 6 by omega)),
    View.read_writes_cons_unit_of_not_mem _ _ _ _ _ _ rfl 0 (Or.inl (show 2 < 5 by omega)),
    View.read_writes_cons_unit_of_not_mem _ _ _ _ _ _ rfl 0 (Or.inl (show 2 < 4 by omega)),
    View.read_writes_cons_unit_of_not_mem _ _ _ _ _ _ rfl 0 (Or.inl (show 2 < 3 by omega)),
    View.read_writes_cons_unit_of_mem _ _ _ _ _ _ (ix3 0 q k) rfl (by intro a; fin_cases a <;> simp [ix3])]
  unfold_payloads
  pointwise
  rw [h8.read_unread]
  rfl

theorem out_B_5_3 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 3 q ⟨128 + k.val, by omega⟩)
      = (xo (ix3 3 q ⟨128 + k.val, by omega⟩) : EReal) + dsB 1 1 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 3 < 11 by omega)),
    View.read_writes_cons_unit_of_not_mem _ _ _ _ _ _ rfl 0 (Or.inl (show 3 < 10 by omega)),
    View.read_writes_cons_unit_of_not_mem _ _ _ _ _ _ rfl 0 (Or.inl (show 3 < 9 by omega)),
    View.read_writes_cons_unit_of_not_mem _ _ _ _ _ _ rfl 0 (Or.inl (show 3 < 8 by omega)),
    View.read_writes_cons_unit_of_not_mem _ _ _ _ _ _ rfl 0 (Or.inl (show 3 < 7 by omega)),
    View.read_writes_cons_unit_of_not_mem _ _ _ _ _ _ rfl 0 (Or.inl (show 3 < 6 by omega)),
    View.read_writes_cons_unit_of_not_mem _ _ _ _ _ _ rfl 0 (Or.inl (show 3 < 5 by omega)),
    View.read_writes_cons_unit_of_not_mem _ _ _ _ _ _ rfl 0 (Or.inl (show 3 < 4 by omega)),
    View.read_writes_cons_unit_of_mem _ _ _ _ _ _ (ix3 0 q k) rfl (by intro a; fin_cases a <;> simp [ix3])]
  unfold_payloads
  pointwise
  rw [h8.read_unread]
  rfl

theorem out_B_5_4 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 4 q ⟨128 + k.val, by omega⟩)
      = (xo (ix3 4 q ⟨128 + k.val, by omega⟩) : EReal) + dsB 2 0 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 4 < 11 by omega)),
    View.read_writes_cons_unit_of_not_mem _ _ _ _ _ _ rfl 0 (Or.inl (show 4 < 10 by omega)),
    View.read_writes_cons_unit_of_not_mem _ _ _ _ _ _ rfl 0 (Or.inl (show 4 < 9 by omega)),
    View.read_writes_cons_unit_of_not_mem _ _ _ _ _ _ rfl 0 (Or.inl (show 4 < 8 by omega)),
    View.read_writes_cons_unit_of_not_mem _ _ _ _ _ _ rfl 0 (Or.inl (show 4 < 7 by omega)),
    View.read_writes_cons_unit_of_not_mem _ _ _ _ _ _ rfl 0 (Or.inl (show 4 < 6 by omega)),
    View.read_writes_cons_unit_of_not_mem _ _ _ _ _ _ rfl 0 (Or.inl (show 4 < 5 by omega)),
    View.read_writes_cons_unit_of_mem _ _ _ _ _ _ (ix3 0 q k) rfl (by intro a; fin_cases a <;> simp [ix3])]
  unfold_payloads
  pointwise
  rw [h8.read_unread]
  rfl

theorem out_B_5_5 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 5 q ⟨128 + k.val, by omega⟩)
      = (xo (ix3 5 q ⟨128 + k.val, by omega⟩) : EReal) + dsB 2 1 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 5 < 11 by omega)),
    View.read_writes_cons_unit_of_not_mem _ _ _ _ _ _ rfl 0 (Or.inl (show 5 < 10 by omega)),
    View.read_writes_cons_unit_of_not_mem _ _ _ _ _ _ rfl 0 (Or.inl (show 5 < 9 by omega)),
    View.read_writes_cons_unit_of_not_mem _ _ _ _ _ _ rfl 0 (Or.inl (show 5 < 8 by omega)),
    View.read_writes_cons_unit_of_not_mem _ _ _ _ _ _ rfl 0 (Or.inl (show 5 < 7 by omega)),
    View.read_writes_cons_unit_of_not_mem _ _ _ _ _ _ rfl 0 (Or.inl (show 5 < 6 by omega)),
    View.read_writes_cons_unit_of_mem _ _ _ _ _ _ (ix3 0 q k) rfl (by intro a; fin_cases a <;> simp [ix3])]
  unfold_payloads
  pointwise
  rw [h8.read_unread]
  rfl

theorem out_B_5_6 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 6 q ⟨128 + k.val, by omega⟩)
      = (xo (ix3 6 q ⟨128 + k.val, by omega⟩) : EReal) + dsB 3 0 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 6 < 11 by omega)),
    View.read_writes_cons_unit_of_not_mem _ _ _ _ _ _ rfl 0 (Or.inl (show 6 < 10 by omega)),
    View.read_writes_cons_unit_of_not_mem _ _ _ _ _ _ rfl 0 (Or.inl (show 6 < 9 by omega)),
    View.read_writes_cons_unit_of_not_mem _ _ _ _ _ _ rfl 0 (Or.inl (show 6 < 8 by omega)),
    View.read_writes_cons_unit_of_not_mem _ _ _ _ _ _ rfl 0 (Or.inl (show 6 < 7 by omega)),
    View.read_writes_cons_unit_of_mem _ _ _ _ _ _ (ix3 0 q k) rfl (by intro a; fin_cases a <;> simp [ix3])]
  unfold_payloads
  pointwise
  rw [h8.read_unread]
  rfl

theorem out_B_5_7 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 7 q ⟨128 + k.val, by omega⟩)
      = (xo (ix3 7 q ⟨128 + k.val, by omega⟩) : EReal) + dsB 3 1 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 7 < 11 by omega)),
    View.read_writes_cons_unit_of_not_mem _ _ _ _ _ _ rfl 0 (Or.inl (show 7 < 10 by omega)),
    View.read_writes_cons_unit_of_not_mem _ _ _ _ _ _ rfl 0 (Or.inl (show 7 < 9 by omega)),
    View.read_writes_cons_unit_of_not_mem _ _ _ _ _ _ rfl 0 (Or.inl (show 7 < 8 by omega)),
    View.read_writes_cons_unit_of_mem _ _ _ _ _ _ (ix3 0 q k) rfl (by intro a; fin_cases a <;> simp [ix3])]
  unfold_payloads
  pointwise
  rw [h8.read_unread]
  rfl

theorem out_B_5_8 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 8 q ⟨128 + k.val, by omega⟩)
      = (xo (ix3 8 q ⟨128 + k.val, by omega⟩) : EReal) + dsB 4 0 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 8 < 11 by omega)),
    View.read_writes_cons_unit_of_not_mem _ _ _ _ _ _ rfl 0 (Or.inl (show 8 < 10 by omega)),
    View.read_writes_cons_unit_of_not_mem _ _ _ _ _ _ rfl 0 (Or.inl (show 8 < 9 by omega)),
    View.read_writes_cons_unit_of_mem _ _ _ _ _ _ (ix3 0 q k) rfl (by intro a; fin_cases a <;> simp [ix3])]
  unfold_payloads
  pointwise
  rw [h8.read_unread]
  rfl

theorem out_B_5_9 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 9 q ⟨128 + k.val, by omega⟩)
      = (xo (ix3 9 q ⟨128 + k.val, by omega⟩) : EReal) + dsB 4 1 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 9 < 11 by omega)),
    View.read_writes_cons_unit_of_not_mem _ _ _ _ _ _ rfl 0 (Or.inl (show 9 < 10 by omega)),
    View.read_writes_cons_unit_of_mem _ _ _ _ _ _ (ix3 0 q k) rfl (by intro a; fin_cases a <;> simp [ix3])]
  unfold_payloads
  pointwise
  rw [h8.read_unread]
  rfl

theorem out_B_5_10 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 10 q ⟨128 + k.val, by omega⟩)
      = (xo (ix3 10 q ⟨128 + k.val, by omega⟩) : EReal) + dsB 5 0 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_not_mem _ _ _ _ _ _ rfl 0 (Or.inl (show 10 < 11 by omega)),
    View.read_writes_cons_unit_of_mem _ _ _ _ _ _ (ix3 0 q k) rfl (by intro a; fin_cases a <;> simp [ix3])]
  unfold_payloads
  pointwise
  rw [h8.read_unread]
  rfl

theorem out_B_5_11 (c : Dev nD) (i : grid0.Coords) a3 h3 a4 h4 a5 h5 a6 h6 a7 h7 a8 h8 (hc : ¬cond0_0 i)
    (x0 x1 x2 x3 xo) (q k : Fin 128) :
    out0_B_5 (F := Ideal) c i a3 h3 a4 h4 a5 h5 a6 h6 a7 h7 a8 h8 hc x0 x1 x2 x3 xo (ix3 11 q ⟨128 + k.val, by omega⟩)
      = (xo (ix3 11 q ⟨128 + k.val, by omega⟩) : EReal) + dsB 5 1 (by omega) (by omega) x0 x1 x2 x3 q k := by
  unfold out0_B_5 kernelRun0_B
  dsimp only
  sl_unfold_words
  simp only [View.readAt_eq_ld, h3.read_unread, h4.read_unread, h5.read_unread, h6.read_unread]
  rw [View.read_writes_cons_unit_of_mem _ _ _ _ _ _ (ix3 0 q k) rfl (by intro a; fin_cases a <;> simp [ix3])]
  unfold_payloads
  pointwise
  rw [h8.read_unread]
  rfl

/-- The first 128 columns of the table's gradient get no store at a later point. -/
theorem out_B_5_first (c : Dev nD) (i : grid0.Coords) a3 h3 a4 h4 a5 h5 a6 h6 a7 h7 a8 h8 (hc : ¬cond0_0 i)
    (x0 x1 x2 x3 xo) (h : Fin 12) (q k : Fin 128) :
    out0_B_5 (F := Ideal) c i a3 h3 a4 h4 a5 h5 a6 h6 a7 h7 a8 h8 hc x0 x1 x2 x3 xo (ix3 h q ⟨k.val, by omega⟩) = xo (ix3 h q ⟨k.val, by omega⟩) := by
  unfold out0_B_5 kernelRun0_B
  dsimp only
  sl_unfold_words
  rw [View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.read_writes_cons_unit_of_not_mem _ _ _ _ _ _ rfl 2 (Or.inl (show k.val < 128 from k.isLt)),
    View.writes_nil, h8.read_unread]

/-- The last 128 columns of the second output at a point of case B. -/
theorem out_B_5 (c : Dev nD) (i : grid0.Coords) a3 h3 a4 h4 a5 h5 a6 h6 a7 h7 a8 h8 (hc : ¬cond0_0 i)
    (x0 x1 x2 x3 xo) (p : Fin 6) (e : Fin 2) (q k : Fin 128) :
    out0_B_5 (F := Ideal) c i a3 h3 a4 h4 a5 h5 a6 h6 a7 h7 a8 h8 hc x0 x1 x2 x3 xo (ix3 ⟨2 * p.val + e.val, by omega⟩ q ⟨128 + k.val, by omega⟩)
      = (xo (ix3 ⟨2 * p.val + e.val, by omega⟩ q ⟨128 + k.val, by omega⟩) : EReal) + dsB p.val e.val p.isLt e.isLt x0 x1 x2 x3 q k :=
  match p, e with
    | 0, 0 => out_B_5_0 c i a3 h3 a4 h4 a5 h5 a6 h6 a7 h7 a8 h8 hc x0 x1 x2 x3 xo q k
    | 0, 1 => out_B_5_1 c i a3 h3 a4 h4 a5 h5 a6 h6 a7 h7 a8 h8 hc x0 x1 x2 x3 xo q k
    | 1, 0 => out_B_5_2 c i a3 h3 a4 h4 a5 h5 a6 h6 a7 h7 a8 h8 hc x0 x1 x2 x3 xo q k
    | 1, 1 => out_B_5_3 c i a3 h3 a4 h4 a5 h5 a6 h6 a7 h7 a8 h8 hc x0 x1 x2 x3 xo q k
    | 2, 0 => out_B_5_4 c i a3 h3 a4 h4 a5 h5 a6 h6 a7 h7 a8 h8 hc x0 x1 x2 x3 xo q k
    | 2, 1 => out_B_5_5 c i a3 h3 a4 h4 a5 h5 a6 h6 a7 h7 a8 h8 hc x0 x1 x2 x3 xo q k
    | 3, 0 => out_B_5_6 c i a3 h3 a4 h4 a5 h5 a6 h6 a7 h7 a8 h8 hc x0 x1 x2 x3 xo q k
    | 3, 1 => out_B_5_7 c i a3 h3 a4 h4 a5 h5 a6 h6 a7 h7 a8 h8 hc x0 x1 x2 x3 xo q k
    | 4, 0 => out_B_5_8 c i a3 h3 a4 h4 a5 h5 a6 h6 a7 h7 a8 h8 hc x0 x1 x2 x3 xo q k
    | 4, 1 => out_B_5_9 c i a3 h3 a4 h4 a5 h5 a6 h6 a7 h7 a8 h8 hc x0 x1 x2 x3 xo q k
    | 5, 0 => out_B_5_10 c i a3 h3 a4 h4 a5 h5 a6 h6 a7 h7 a8 h8 hc x0 x1 x2 x3 xo q k
    | 5, 1 => out_B_5_11 c i a3 h3 a4 h4 a5 h5 a6 h6 a7 h7 a8 h8 hc x0 x1 x2 x3 xo q k

end Cert.AttnIdeal.Body
-- ==== Proof.Attn.Row.lean ====
module

public import Mathlib.Analysis.SpecialFunctions.Log.Basic
public import Mathlib.Data.EReal.Inv
public import Idealize.ShloMosaic.PureOps.Ideal

@[expose] public section

noncomputable section

/-! One query's row of the attention's gradient over the real numbers.

A row has weights `x` (the exponentials of its scores, zero where a key is masked), values `v`, the
cotangent `c`, the two other groups' outputs `o0`, `o1` and the exponentials `a0`, `a1` of their
log-denominators. -/

namespace Cert.AttnRow

open Idealize.ShloMosaic

variable {K D : Type} [Fintype K] [Fintype D]

/-- The row's own denominator. -/
def den (x : K → ℝ) : ℝ := ∑ j, x j

/-- The denominator of all three groups together. -/
def tot (x : K → ℝ) (a0 a1 : ℝ) : ℝ := a0 + a1 + den x

/-- The group's own output. -/
def out (x : K → ℝ) (v : K → D → ℝ) (d : D) : ℝ := (∑ j, x j * v j d) / den x

/-- The cotangent times the combined output. -/
def ebar (x : K → ℝ) (v : K → D → ℝ) (c o0 o1 : D → ℝ) (a0 a1 : ℝ) : ℝ :=
  ∑ d, c d * (a0 / tot x a0 a1 * o0 d + a1 / tot x a0 a1 * o1 d + den x / tot x a0 a1 * out x v d)

/-- The weight of a key among the keys of all three groups. -/
def prob (x : K → ℝ) (a0 a1 : ℝ) (j : K) : ℝ := x j / tot x a0 a1

/-- The gradient of a score. -/
def dscore (x : K → ℝ) (v : K → D → ℝ) (c o0 o1 : D → ℝ) (a0 a1 : ℝ) (j : K) : ℝ :=
  prob x a0 a1 j * (∑ d, c d * v j d - ebar x v c o0 o1 a0 a1)

/-- The cotangent of the group's log-denominator, as differentiating the softmax over the groups gives it. -/
def dlse (x : K → ℝ) (v : K → D → ℝ) (c o0 o1 : D → ℝ) (a0 a1 ε η : ℝ) : ℝ :=
  ((∑ d, c d * ((∑ j, x j * ε * v j d) / (den x * ε))) / (tot x a0 a1 * η)
    + -((∑ d, c d * o0 d) * (1 / (tot x a0 a1 * η * (tot x a0 a1 * η))) * (a0 * η)
      + (∑ d, c d * o1 d) * (1 / (tot x a0 a1 * η * (tot x a0 a1 * η))) * (a1 * η)
      + (∑ d, c d * ((∑ j, x j * ε * v j d) / (den x * ε))) * (1 / (tot x a0 a1 * η * (tot x a0 a1 * η)))
        * (den x * η))) * (den x * η)

/-- The cotangent of the group's output. -/
def dout (x : K → ℝ) (c : D → ℝ) (a0 a1 η : ℝ) (d : D) : ℝ :=
  den x * η / (tot x a0 a1 * η) * c d

/-- The cotangent of the exponentials that every key shares. -/
def dden (x : K → ℝ) (v : K → D → ℝ) (c o0 o1 : D → ℝ) (a0 a1 ε η : ℝ) : ℝ :=
  dlse x v c o0 o1 a0 a1 ε η / (den x * ε)
    + -∑ d, dout x c a0 a1 η d * (1 / (den x * ε * (den x * ε))) * ∑ j, x j * ε * v j d

/-- The gradient of a score, as differentiating the forward lines gives it. -/
def grad (x : K → ℝ) (v : K → D → ℝ) (c o0 o1 : D → ℝ) (a0 a1 ε η : ℝ) (j : K) : ℝ :=
  (∑ d, dout x c a0 a1 η d / (den x * ε) * v j d + dden x v c o0 o1 a0 a1 ε η) * (x j * ε)

section
variable {x : K → ℝ} {v : K → D → ℝ} {c o0 o1 : D → ℝ} {a0 a1 ε η : ℝ}

theorem out_scaled (hε : ε ≠ 0) (d : D) :
    (∑ j, x j * ε * v j d) / (den x * ε) = out x v d := by
  have : ∑ j, x j * ε * v j d = (∑ j, x j * v j d) * ε := by
    rw [Finset.sum_mul]; exact Finset.sum_congr rfl fun _ _ => by ring
  rw [this, out, mul_div_mul_right _ _ hε]

theorem ebar_eq : ebar x v c o0 o1 a0 a1
    = a0 / tot x a0 a1 * (∑ d, c d * o0 d) + a1 / tot x a0 a1 * (∑ d, c d * o1 d)
      + den x / tot x a0 a1 * (∑ d, c d * out x v d) := by
  unfold ebar
  simp only [Finset.mul_sum, ← Finset.sum_add_distrib]
  exact Finset.sum_congr rfl fun _ _ => by ring

theorem dlse_eq (hε : ε ≠ 0) (hη : η ≠ 0) (hT : tot x a0 a1 ≠ 0) :
    dlse x v c o0 o1 a0 a1 ε η
      = den x / tot x a0 a1 * (∑ d, c d * out x v d - ebar x v c o0 o1 a0 a1) := by
  rw [ebar_eq, dlse]
  simp only [out_scaled hε]
  generalize (∑ d, c d * out x v d) = u2
  generalize (∑ d, c d * o0 d) = u0
  generalize (∑ d, c d * o1 d) = u1
  generalize tot x a0 a1 = T at *
  field_simp
  ring

theorem dden_eq (hε : ε ≠ 0) (hη : η ≠ 0) (hT : tot x a0 a1 ≠ 0) (hZ : den x ≠ 0) :
    dden x v c o0 o1 a0 a1 ε η = -ebar x v c o0 o1 a0 a1 / (tot x a0 a1 * ε) := by
  have h : ∑ d, dout x c a0 a1 η d * (1 / (den x * ε * (den x * ε))) * ∑ j, x j * ε * v j d
      = (∑ d, c d * out x v d) / (tot x a0 a1 * ε) := by
    rw [Finset.sum_div]
    refine Finset.sum_congr rfl fun d _ => ?_
    rw [← out_scaled hε (x := x) (v := v) d, dout]
    field_simp
  rw [dden, h, dlse_eq hε hη hT]
  field_simp
  ring

theorem grad_eq (hε : ε ≠ 0) (hη : η ≠ 0) (hT : tot x a0 a1 ≠ 0) (hZ : den x ≠ 0) (j : K) :
    grad x v c o0 o1 a0 a1 ε η j = dscore x v c o0 o1 a0 a1 j := by
  have h : ∑ d, dout x c a0 a1 η d / (den x * ε) * v j d = (∑ d, c d * v j d) / (tot x a0 a1 * ε) := by
    rw [Finset.sum_div]
    refine Finset.sum_congr rfl fun d _ => ?_
    rw [dout]
    field_simp
  rw [grad, h, dden_eq hε hη hT hZ, dscore, prob]
  field_simp
  ring

theorem sum_dscore (hT : tot x a0 a1 ≠ 0) (hZ : den x ≠ 0) :
    ∑ j, dscore x v c o0 o1 a0 a1 j
      = den x / tot x a0 a1 * (∑ d, c d * out x v d - ebar x v c o0 o1 a0 a1) := by
  have h1 : ∑ j, x j * ∑ d, c d * v j d = den x * ∑ d, c d * out x v d := by
    simp only [Finset.mul_sum]
    rw [Finset.sum_comm]
    refine Finset.sum_congr rfl fun d _ => ?_
    rw [out, show den x * (c d * ((∑ j, x j * v j d) / den x)) = c d * ∑ j, x j * v j d by field_simp,
      Finset.mul_sum]
    exact Finset.sum_congr rfl fun _ _ => by ring
  have h2 : ∀ j, dscore x v c o0 o1 a0 a1 j
      = (x j * ∑ d, c d * v j d) / tot x a0 a1 - x j * (ebar x v c o0 o1 a0 a1 / tot x a0 a1) := fun j => by
    rw [dscore, prob]; field_simp
  simp only [h2, Finset.sum_sub_distrib, ← Finset.sum_div, ← Finset.sum_mul, h1]
  rw [show ∑ j, x j = den x from rfl]
  field_simp

/-- The cotangent that reaches the row's maximum is zero. -/
theorem dlse_sub_sum (hε : ε ≠ 0) (hη : η ≠ 0) (hT : tot x a0 a1 ≠ 0) (hZ : den x ≠ 0) :
    dlse x v c o0 o1 a0 a1 ε η + ∑ j, -grad x v c o0 o1 a0 a1 ε η j = 0 := by
  simp only [grad_eq hε hη hT hZ, Finset.sum_neg_distrib]
  rw [dlse_eq hε hη hT, sum_dscore hT hZ]
  ring

theorem dout_mul (hε : ε ≠ 0) (hη : η ≠ 0) (hT : tot x a0 a1 ≠ 0) (hZ : den x ≠ 0) (d : D) (j : K) :
    dout x c a0 a1 η d / (den x * ε) * (x j * ε) = prob x a0 a1 j * c d := by
  rw [dout, prob]
  field_simp

end

/-! ### Extended reals -/

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe_coe (a : ℝ) {b : ℝ} (h : b ≠ 0) : Ideal.div (a : EReal) (b : EReal) = ((a / b : ℝ) : EReal) := by
  rw [Ideal.div_coe h, ← EReal.coe_mul]
  congr 1
  ring

theorem log_coe_pos {a : ℝ} (h : 0 < a) : Ideal.log (a : EReal) = ((Real.log a : ℝ) : EReal) := by
  rw [Ideal.log_coe, if_neg (not_le.mpr h)]

/-- A maximum of finitely many numbers, none `⊤` and not all `⊥`, is one of them and a real number. -/
theorem fold_max_coe {ι : Type} (s : Finset ι) (f : ι → EReal) (htop : ∀ i ∈ s, f i ≠ ⊤)
    (hbot : ∃ i ∈ s, f i ≠ ⊥) : ∃ r : ℝ, s.fold max ⊥ f = r ∧ ∃ i ∈ s, f i = r := by
  obtain ⟨i0, hi0, h0⟩ := hbot
  have hs : s.fold max ⊥ f = s.sup f := rfl
  obtain ⟨i, hi, he⟩ := Finset.exists_mem_eq_sup s ⟨i0, hi0⟩ f
  have hle : f i0 ≤ f i := he ▸ Finset.le_sup hi0
  have hne : f i ≠ ⊥ := fun h => h0 (le_bot_iff.mp (h ▸ hle))
  refine ⟨(f i).toReal, ?_, i, hi, (EReal.coe_toReal (htop i hi) hne).symm⟩
  rw [hs, he, EReal.coe_toReal (htop i hi) hne]

end Cert.AttnRow

end
-- ==== Proof.Attn.Math.lean ====
module

public import proofs.«01_k».proof.Proof.Attn.Row
public import Idealize.ShloMosaic.Lib.Pointwise
public import Idealize.ShloMosaic.Lib.ValueIdx
public import Idealize.ShloMosaic.PureOps.Ideal.Laws

@[expose] public section

noncomputable section

/-! The gradient of the attention's third group as formulas over the real numbers: what the launch finds, and what
    the call leaves. A token is a place `i` of one of the 16 residues `r`; a query attends to the keys of its own
    residue that are not after it. -/

namespace Cert.AttnMath

open Idealize.ShloMosaic

/-- The nine arguments, as real numbers. -/
structure In where
  q : Fin 2 → Fin 2048 → Fin 12 → Fin 64 → ℝ
  k : Fin 2 → Fin 2048 → Fin 12 → Fin 64 → ℝ
  v : Fin 2 → Fin 2048 → Fin 12 → Fin 64 → ℝ
  bias : Fin 12 → Fin 128 → Fin 256 → ℝ
  o0 : Fin 2 → Fin 2048 → Fin 12 → Fin 64 → ℝ
  l0 : Fin 2 → Fin 2048 → Fin 12 → ℝ
  o1 : Fin 2 → Fin 2048 → Fin 12 → Fin 64 → ℝ
  l1 : Fin 2 → Fin 2048 → Fin 12 → ℝ
  ct : Fin 2 → Fin 2048 → Fin 12 → Fin 64 → ℝ

/-- Contents of an array of heads, from their real values. -/
def arr4 (f : Fin 2 → Fin 2048 → Fin 12 → Fin 64 → ℝ) : (⟨4, ![2, 2048, 12, 64]⟩ : Shape).Idx → EReal :=
  fun t => ((f (t 0) (t 1) (t 2) (t 3) : ℝ) : EReal)
/-- Contents of an array with one number for each head. -/
def arr3 (f : Fin 2 → Fin 2048 → Fin 12 → ℝ) : (⟨3, ![2, 2048, 12]⟩ : Shape).Idx → EReal :=
  fun t => ((f (t 0) (t 1) (t 2) : ℝ) : EReal)
/-- Contents of the bias table. -/
def arrB (f : Fin 12 → Fin 128 → Fin 256 → ℝ) : (⟨3, ![12, 128, 256]⟩ : Shape).Idx → EReal :=
  fun t => ((f (t 0) (t 1) (t 2) : ℝ) : EReal)

/-- The token at place `i` of residue `r`. -/
def tok (i : Fin 128) (r : Fin 16) : Fin 2048 := ⟨16 * i.val + r.val, by omega⟩
/-- The column of a key in the second half of the bias table. -/
def hi (j : Fin 128) : Fin 256 := ⟨128 + j.val, by omega⟩
/-- The lane of one of the three gradients. -/
def lane (part : Fin 3) (h : Fin 12) (d : Fin 64) : Fin 2304 :=
  ⟨(h.val / 2) * 384 + part.val * 128 + (h.val % 2) * 64 + d.val, by omega⟩

theorem lane_surj (t : Fin 2304) : ∃ part h d, t = lane part h d :=
  ⟨⟨t.val / 128 % 3, by omega⟩, ⟨2 * (t.val / 384) + t.val % 128 / 64, by omega⟩, ⟨t.val % 64, by omega⟩,
    Fin.ext (by show _ = (2 * (t.val / 384) + t.val % 128 / 64) / 2 * 384 + t.val / 128 % 3 * 128
                  + (2 * (t.val / 384) + t.val % 128 / 64) % 2 * 64 + t.val % 64; omega)⟩

namespace In
variable (I : In) (b : Fin 2) (r : Fin 16) (h : Fin 12) (i j : Fin 128) (d : Fin 64)

/-- The score of a query and a key. -/
def sc : ℝ := (∑ e, I.q b (tok i r) h e * I.k b (tok j r) h e) * (1 / 8) + I.bias h i (hi j)
/-- The weight of a key: zero when it comes after the query. -/
def x : ℝ := if j ≤ i then Real.exp (I.sc b r h i j) else 0
/-- A key's value, the query's cotangent, the other groups' outputs and the exponentials of their log-denominators. -/
def vv : ℝ := I.v b (tok j r) h d
def cc : ℝ := I.ct b (tok i r) h d
def p0 : ℝ := I.o0 b (tok i r) h d
def p1 : ℝ := I.o1 b (tok i r) h d
def a0 : ℝ := Real.exp (I.l0 b (tok i r) h)
def a1 : ℝ := Real.exp (I.l1 b (tok i r) h)
/-- The row's denominator, the three groups' denominator and the cotangent times the combined output. -/
def den : ℝ := AttnRow.den (I.x b r h i)
def tot : ℝ := AttnRow.tot (I.x b r h i) (I.a0 b r h i) (I.a1 b r h i)
def ebar : ℝ :=
  AttnRow.ebar (I.x b r h i) (I.vv b r h) (I.cc b r h i) (I.p0 b r h i) (I.p1 b r h i) (I.a0 b r h i) (I.a1 b r h i)
/-- The gradient of a score. -/
def ds : ℝ :=
  AttnRow.dscore (I.x b r h i) (I.vv b r h) (I.cc b r h i) (I.p0 b r h i) (I.p1 b r h i) (I.a0 b r h i) (I.a1 b r h i) j
/-- The weight of a key among the keys of all three groups. -/
def pr : ℝ := AttnRow.prob (I.x b r h i) (I.a0 b r h i) (I.a1 b r h i) j

/-- The gradients of a query, a key, a value and an entry of the bias table. -/
def dq : ℝ := ∑ j, I.ds b r h i j * (1 / 8) * I.k b (tok j r) h d
def dk : ℝ := ∑ i, I.ds b r h i j * (1 / 8) * I.q b (tok i r) h d
def dv : ℝ := ∑ i, I.pr b r h i j * I.ct b (tok i r) h d
def db : ℝ := ∑ b, ∑ r, I.ds b r h i j

/-- The three gradients by their number. -/
def dqkv (part : Fin 3) : ℝ :=
  if part = 0 then I.dq b r h i d else if part = 1 then I.dk b r h i d else I.dv b r h i d

theorem x_nonneg : 0 ≤ I.x b r h i j := by
  unfold x
  split
  · exact (Real.exp_pos _).le
  · exact le_rfl

theorem den_pos : 0 < I.den b r h i :=
  Finset.sum_pos' (fun j _ => I.x_nonneg b r h i j) ⟨i, Finset.mem_univ i, by
    unfold x; rw [if_pos le_rfl]; exact Real.exp_pos _⟩

theorem tot_pos : 0 < I.tot b r h i := by
  have h0 : 0 < I.a0 b r h i := Real.exp_pos _
  have h1 : 0 < I.a1 b r h i := Real.exp_pos _
  have h2 := I.den_pos b r h i
  show 0 < I.a0 b r h i + I.a1 b r h i + I.den b r h i
  linarith

end In

/-- The array of the three gradients. -/
def outQKV (I : In) : (⟨4, ![2, 16, 128, 2304]⟩ : Shape).Idx → EReal := fun t =>
  let l : ℕ := (t 3).val
  have hl : l < 2304 := (t 3).isLt
  ((I.dqkv (t 0) (t 1) ⟨2 * (l / 384) + l % 128 / 64, by omega⟩ (t 2) ⟨l % 64, by omega⟩ ⟨l / 128 % 3, by omega⟩ : ℝ)
    : EReal)

theorem outQKV_at (I : In) (b : Fin 2) (r : Fin 16) (i : Fin 128) (part : Fin 3) (h : Fin 12) (d : Fin 64) :
    outQKV I (ix4 b r i (lane part h d)) = ((I.dqkv b r h i d part : ℝ) : EReal) := by
  have e1 : (lane part h d).val = (h.val / 2) * 384 + part.val * 128 + (h.val % 2) * 64 + d.val := rfl
  show (((I.dqkv b r ⟨2 * ((lane part h d).val / 384) + (lane part h d).val % 128 / 64, _⟩ i
    ⟨(lane part h d).val % 64, _⟩ ⟨(lane part h d).val / 128 % 3, _⟩ : ℝ)) : EReal) = _
  congr 2
  · exact Fin.ext (by show 2 * ((lane part h d).val / 384) + (lane part h d).val % 128 / 64 = h.val; omega)
  · exact Fin.ext (by show (lane part h d).val % 64 = d.val; omega)
  · exact Fin.ext (by show (lane part h d).val / 128 % 3 = part.val; omega)

/-- The array of the bias table's gradients: the half of the preceding block stays zero. -/
def outB (I : In) : (⟨3, ![12, 128, 256]⟩ : Shape).Idx → EReal := fun t =>
  if h : 128 ≤ (t 2).val then
    ((I.db (t 0) (t 1) ⟨(t 2).val - 128, by have : (t 2).val < 256 := (t 2).isLt; omega⟩ : ℝ) : EReal)
  else 0

end Cert.AttnMath

end
-- ==== Proof.Attn.Ref.lean ====
module

public import proofs.«01_k».proof.Proof.Gen.AttnRefIdeal.Read
public import proofs.«01_k».proof.Proof.Attn.Math
public import proofs.«01_k».proof.Proof.Common

@[expose] public section

set_option maxRecDepth 16384

noncomputable section

/-! The reference's lines, one by one, on real arguments: each is a real number at every index, the masked scores
    apart, and the last ones are the gradients. -/

namespace Cert.AttnRefIdeal.Stages

open Cert.AttnRefIdeal Cert.AttnRefIdeal.Gen Cert.AttnRefIdeal.Read Idealize.ShloMosaic Cert.AttnRow

theorem via {α β : Type} {f : α → β} {x y : α} {v : β} (hf : f y = v) (h : x = y) : f x = v := h ▸ hf

theorem ext3 {n0 n1 n2 : ℕ} {x : (⟨3, ![n0, n1, n2]⟩ : Shape).Idx} {a : Fin n0} {b : Fin n1} {c : Fin n2}
    (h0 : (x 0).val = a.val) (h1 : (x 1).val = b.val) (h2 : (x 2).val = c.val) : x = ix3 a b c := by
  funext k
  fin_cases k
  exacts [Fin.ext h0, Fin.ext h1, Fin.ext h2]

theorem ext4 {n0 n1 n2 n3 : ℕ} {x : (⟨4, ![n0, n1, n2, n3]⟩ : Shape).Idx} {a : Fin n0} {b : Fin n1} {c : Fin n2}
    {d : Fin n3} (h0 : (x 0).val = a.val) (h1 : (x 1).val = b.val) (h2 : (x 2).val = c.val)
    (h3 : (x 3).val = d.val) : x = ix4 a b c d := by
  funext k
  fin_cases k
  exacts [Fin.ext h0, Fin.ext h1, Fin.ext h2, Fin.ext h3]

theorem ext5 {n0 n1 n2 n3 n4 : ℕ} {x : (⟨5, ![n0, n1, n2, n3, n4]⟩ : Shape).Idx} {a : Fin n0} {b : Fin n1}
    {c : Fin n2} {d : Fin n3} {e : Fin n4} (h0 : (x 0).val = a.val) (h1 : (x 1).val = b.val)
    (h2 : (x 2).val = c.val) (h3 : (x 3).val = d.val) (h4 : (x 4).val = e.val) : x = ix5 a b c d e := by
  funext k
  fin_cases k
  exacts [Fin.ext h0, Fin.ext h1, Fin.ext h2, Fin.ext h3, Fin.ext h4]

section
variable {x y : Elt Ideal .f32} {a b : ℝ}

theorem mul_at (hx : x = ((a : ℝ) : EReal)) (hy : y = ((b : ℝ) : EReal)) :
    FloatOps.mulf (F := Ideal) (φ := .f32) x y = ((a * b : ℝ) : EReal) := by
  rw [hx, hy]; exact (EReal.coe_mul a b).symm
theorem add_at (hx : x = ((a : ℝ) : EReal)) (hy : y = ((b : ℝ) : EReal)) :
    FloatOps.addf (F := Ideal) (φ := .f32) x y = ((a + b : ℝ) : EReal) := by
  rw [hx, hy]; exact (EReal.coe_add a b).symm
theorem sub_at (hx : x = ((a : ℝ) : EReal)) (hy : y = ((b : ℝ) : EReal)) :
    FloatOps.subf (F := Ideal) (φ := .f32) x y = ((a - b : ℝ) : EReal) := by
  rw [hx, hy]; exact (EReal.coe_sub a b).symm
theorem div_at (hb : b ≠ 0) (hx : x = ((a : ℝ) : EReal)) (hy : y = ((b : ℝ) : EReal)) :
    FloatOps.hostDivf (F := Ideal) (φ := .f32) x y = ((a / b : ℝ) : EReal) := by
  rw [hx, hy]; exact div_coe_coe a hb
theorem neg_at (hx : x = ((a : ℝ) : EReal)) : FloatOps.hostNegf (F := Ideal) (φ := .f32) x = ((-a : ℝ) : EReal) := by
  rw [hx]; exact (EReal.coe_neg a).symm
theorem exp_at (hx : x = ((a : ℝ) : EReal)) :
    FloatOps.hostUnary (F := Ideal) (φ := .f32) .exp x = ((Real.exp a : ℝ) : EReal) := by
  rw [hx]; exact Ideal.exp_coe a
theorem log_at (ha : 0 < a) (hx : x = ((a : ℝ) : EReal)) :
    FloatOps.hostUnary (F := Ideal) (φ := .f32) .log x = ((Real.log a : ℝ) : EReal) := by
  rw [hx]; exact log_coe_pos ha
end

theorem sum_at {n : ℕ} {f : Fin n → EReal} {g : Fin n → ℝ} {z : EReal} (hz : z = 0)
    (h : ∀ k, f k = ((g k : ℝ) : EReal)) : z + ∑ k, f k = ((∑ k, g k : ℝ) : EReal) := by
  rw [hz, zero_add, Finset.sum_congr rfl fun k _ => h k, coe_sum]

theorem dot_at {n : ℕ} {f f' : Fin n → EReal} {g g' : Fin n → ℝ} (h : ∀ k, f k = ((g k : ℝ) : EReal))
    (h' : ∀ k, f' k = ((g' k : ℝ) : EReal)) : ∑ k, f k * f' k = ((∑ k, g k * g' k : ℝ) : EReal) := by
  rw [← coe_sum]
  exact Finset.sum_congr rfl fun k _ => by rw [h, h', EReal.coe_mul]

theorem eighth : Ideal.ofBits .f32 0x3E000000#32 = ((1 / 8 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem zero : Ideal.ofBits .f32 0x00000000#32 = 0 := by simp [Ideal.ofBits, Ideal.ieee]
theorem bot : Ideal.ofBits .f32 0xFF800000#32 = ⊥ := by simp [Ideal.ofBits, Ideal.ieee]

/-- The host's sum over the first two of five axes. -/
theorem sum5_a01 {n0 n1 n2 n3 n4 : ℕ} (h : (⟨5, ![n0, n1, n2, n3, n4]⟩ : Shape).ReducesTo [0, 1] ⟨3, ![n2, n3, n4]⟩)
    (v : (⟨5, ![n0, n1, n2, n3, n4]⟩ : Shape).Idx → EReal) (init : EReal) (x : Fin n2) (y : Fin n3) (z : Fin n4) :
    Ideal.hostReduceAdd h v init (ix3 x y z) = init + ∑ a : Fin n0, ∑ b : Fin n1, v (ix5 a b x y z) := by
  unfold Ideal.hostReduceAdd
  rw [Finset.sum_filter]
  have key : ∀ (a : Fin n0) (b : Fin n1) (c : Fin n2) (d : Fin n3) (e : Fin n4),
      h.drop (ix5 a b c d e) = ix3 x y z ↔ c = x ∧ d = y ∧ e = z := by
    intro a b c d e
    constructor
    · intro hd
      exact ⟨Fin.ext (congrArg (fun f => (f 0).val) hd), Fin.ext (congrArg (fun f => (f 1).val) hd),
        Fin.ext (congrArg (fun f => (f 2).val) hd)⟩
    · rintro ⟨rfl, rfl, rfl⟩
      exact ext3 rfl rfl rfl
  rw [sum_idx5]
  simp only [key, ite_and, Finset.sum_ite_irrel, Finset.sum_const_zero, Finset.sum_ite_eq', Finset.mem_univ, if_true]

end Cert.AttnRefIdeal.Stages

namespace Cert.AttnMath.In

open Cert.AttnRefIdeal Cert.AttnRefIdeal.Gen Cert.AttnRefIdeal.Read Cert.AttnRefIdeal.Stages Idealize.ShloMosaic
  Cert.AttnRow

variable (I : Cert.AttnMath.In)

/-- The arguments' contents. -/
abbrev aq := arr4 I.q
abbrev ak := arr4 I.k
abbrev av := arr4 I.v
abbrev ab := arrB I.bias
abbrev ao0 := arr4 I.o0
abbrev al0 := arr3 I.l0
abbrev ao1 := arr4 I.o1
abbrev al1 := arr3 I.l1
abbrev ac := arr4 I.ct

theorem v0_at (b : Fin 2) (i : Fin 128) (r : Fin 16) (h : Fin 12) (d : Fin 64) : (val_main_v0 (F := Ideal) I.aq) (ix5 b i r h d) = (((I.q b (tok i r) h d) : ℝ) : EReal) := by
  rw [val_main_v0_apply]
  exact via (y := ix4 b (tok i r) h d) rfl (ext4
    (by show ((((b.val * 128 + i.val) * 16 + r.val) * 12 + h.val) * 64 + d.val) / 1572864 = b.val; omega)
    (by show ((((b.val * 128 + i.val) * 16 + r.val) * 12 + h.val) * 64 + d.val) / 768 % 2048 = 16 * i.val + r.val; omega)
    (by show ((((b.val * 128 + i.val) * 16 + r.val) * 12 + h.val) * 64 + d.val) / 64 % 12 = h.val; omega)
    (by show ((((b.val * 128 + i.val) * 16 + r.val) * 12 + h.val) * 64 + d.val) % 64 = d.val; omega))

theorem v1_at (b : Fin 2) (i : Fin 128) (r : Fin 16) (h : Fin 12) (d : Fin 64) : (val_main_v1 (F := Ideal) I.ak) (ix5 b i r h d) = (((I.k b (tok i r) h d) : ℝ) : EReal) := by
  rw [val_main_v1_apply]
  exact via (y := ix4 b (tok i r) h d) rfl (ext4
    (by show ((((b.val * 128 + i.val) * 16 + r.val) * 12 + h.val) * 64 + d.val) / 1572864 = b.val; omega)
    (by show ((((b.val * 128 + i.val) * 16 + r.val) * 12 + h.val) * 64 + d.val) / 768 % 2048 = 16 * i.val + r.val; omega)
    (by show ((((b.val * 128 + i.val) * 16 + r.val) * 12 + h.val) * 64 + d.val) / 64 % 12 = h.val; omega)
    (by show ((((b.val * 128 + i.val) * 16 + r.val) * 12 + h.val) * 64 + d.val) % 64 = d.val; omega))

theorem v2_at (b : Fin 2) (i : Fin 128) (r : Fin 16) (h : Fin 12) (d : Fin 64) : (val_main_v2 (F := Ideal) I.av) (ix5 b i r h d) = (((I.v b (tok i r) h d) : ℝ) : EReal) := by
  rw [val_main_v2_apply]
  exact via (y := ix4 b (tok i r) h d) rfl (ext4
    (by show ((((b.val * 128 + i.val) * 16 + r.val) * 12 + h.val) * 64 + d.val) / 1572864 = b.val; omega)
    (by show ((((b.val * 128 + i.val) * 16 + r.val) * 12 + h.val) * 64 + d.val) / 768 % 2048 = 16 * i.val + r.val; omega)
    (by show ((((b.val * 128 + i.val) * 16 + r.val) * 12 + h.val) * 64 + d.val) / 64 % 12 = h.val; omega)
    (by show ((((b.val * 128 + i.val) * 16 + r.val) * 12 + h.val) * 64 + d.val) % 64 = d.val; omega))

theorem v3_at (b : Fin 2) (r : Fin 16) (h : Fin 12) (i : Fin 128) (j : Fin 128) : (val_main_v3 (F := Ideal) I.aq I.ak) (ix5 b r h i j) = (((∑ e, I.q b (tok i r) h e * I.k b (tok j r) h e) : ℝ) : EReal) := by
  rw [val_main_v3_apply]
  exact dot_at (fun d => via (I.v0_at b i r h d) (ext5 rfl rfl rfl rfl rfl )) fun d => via (I.v1_at b j r h d) (ext5 rfl rfl rfl rfl rfl )

theorem v4_at (b : Fin 2) (r : Fin 16) (h : Fin 12) (i : Fin 128) (j : Fin 128) : (val_main_v4 (F := Ideal)) (ix5 b r h i j) = ((((1 / 8 : ℝ)) : ℝ) : EReal) := by
  rw [val_main_v4_apply]
  exact eighth

theorem v5_at (b : Fin 2) (r : Fin 16) (h : Fin 12) (i : Fin 128) (j : Fin 128) : (val_main_v5 (F := Ideal) I.aq I.ak) (ix5 b r h i j) = ((((∑ e, I.q b (tok i r) h e * I.k b (tok j r) h e) * (1 / 8)) : ℝ) : EReal) := by
  rw [val_main_v5_apply]
  exact mul_at (I.v3_at b r h i j) (v4_at b r h i j)

theorem v18_at (h : Fin 12) (i : Fin 128) (j : Fin 128) : (val_main_v18 (F := Ideal) I.ab) (ix3 h i j) = (((I.bias h i (hi j)) : ℝ) : EReal) := by
  rw [val_main_v18_apply]
  exact via (y := ix3 h i (hi j)) rfl (ext3 rfl rfl rfl)

theorem v19_at (h : Fin 12) (i j : Fin 128) : (val_main_v19 (F := Ideal) I.ab) (ix5 0 0 h i j) = ((I.bias h i (hi j) : ℝ) : EReal) := by
  rw [val_main_v19_apply]
  exact via (I.v18_at h i j) (ext3 rfl rfl rfl)

theorem v20_at (b : Fin 2) (r : Fin 16) (h : Fin 12) (i : Fin 128) (j : Fin 128) : (val_main_v20 (F := Ideal) I.ab) (ix5 b r h i j) = (((I.bias h i (hi j)) : ℝ) : EReal) := by
  rw [val_main_v20_apply]
  exact via (I.v19_at h i j) (ext5 rfl rfl rfl rfl rfl )

theorem v21_at (b : Fin 2) (r : Fin 16) (h : Fin 12) (i : Fin 128) (j : Fin 128) : (val_main_v21 (F := Ideal) I.aq I.ak I.ab) (ix5 b r h i j) = (((I.sc b r h i j) : ℝ) : EReal) := by
  rw [val_main_v21_apply]
  exact add_at (I.v5_at b r h i j) (I.v20_at b r h i j)

theorem valid_at (i j : Fin 128) : val_main_v17 (F := Ideal) (ix2 i j) = BitVec.ofBool (decide (j ≤ i)) := by
  rw [val_main_v17_apply, val_main_v14_apply, val_main_v16_apply, val_main_v12_apply, val_main_v10_apply,
    val_main_v11_apply, val_main_v7_apply, val_main_v9_apply, val_main_v6_apply, val_main_v8_apply,
    val_main_v13_apply, val_main_v15_apply]
  show IntOp.andi (IntOp.cmpi .sge (IntOp.subi (BitVec.ofNat 32 i.val) (BitVec.ofNat 32 j.val)) 0#32)
    (IntOp.cmpi .sle (IntOp.subi (BitVec.ofNat 32 i.val) (BitVec.ofNat 32 j.val)) 128#32) = _
  revert i j
  decide +kernel

theorem v22_1_at (b : Fin 2) (r : Fin 16) (h : Fin 12) (i j : Fin 128) :
    val_main_v22_1 (F := Ideal) (ix5 b r h i j) = BitVec.ofBool (decide (j ≤ i)) := by
  rw [val_main_v22_1_apply]
  exact via (valid_at i j) (by funext k; fin_cases k <;> rfl)

theorem v22_0_at (b : Fin 2) (r : Fin 16) (h : Fin 12) (i j : Fin 128) :
    (val_main_v22_0 (F := Ideal) I.aq I.ak I.ab) (ix5 b r h i j) = if j ≤ i then ((I.sc b r h i j : ℝ) : EReal) else ⊥ := by
  rw [val_main_v22_0_apply, v22_1_at, I.v21_at, val_main_call0_v2_apply]
  by_cases hj : j ≤ i
  · rw [if_pos hj, decide_eq_true hj]; rfl
  · rw [if_neg hj, decide_eq_false hj]; exact Cert.AttnRefIdeal.Stages.bot

theorem top_spec (b : Fin 2) (r : Fin 16) (h : Fin 12) (i : Fin 128) :
    ∃ t : ℝ, (val_main_v23 (F := Ideal) I.aq I.ak I.ab) (ix4 b r h i) = t ∧ ∃ j, (val_main_v22_0 (F := Ideal) I.aq I.ak I.ab) (ix5 b r h i j) = t := by
  have e : (val_main_v23 (F := Ideal) I.aq I.ak I.ab) (ix4 b r h i) = (Finset.univ.filter fun k => reducesTo_S2x16x12x128x128_S2x16x12x128_d4.drop k
      = ix4 b r h i).fold max ⊥ (val_main_v22_0 (F := Ideal) I.aq I.ak I.ab) := by
    rw [← Cert.AttnRefIdeal.Stages.bot]
    exact Host.reduce_eq_fold (FloatOps.maximumf (F := Ideal) (φ := .f32)) _ _ _ _ _
  obtain ⟨t, ht, k, hk, hkt⟩ := fold_max_coe (Finset.univ.filter fun k =>
      reducesTo_S2x16x12x128x128_S2x16x12x128_d4.drop k = ix4 b r h i) (val_main_v22_0 (F := Ideal) I.aq I.ak I.ab)
    (fun k _ => by
      have hk : ∃ (b : Fin 2) (r : Fin 16) (h : Fin 12) (i j : Fin 128), k = ix5 b r h i j :=
        ⟨k 0, k 1, k 2, k 3, k 4, ext5 rfl rfl rfl rfl rfl⟩
      obtain ⟨b, r, h, i, j, rfl⟩ := hk
      rw [I.v22_0_at]
      split
      · exact EReal.coe_ne_top _
      · exact bot_ne_top)
    ⟨ix5 b r h i i, Finset.mem_filter.mpr ⟨Finset.mem_univ _, ext4 rfl rfl rfl rfl⟩, by
      rw [I.v22_0_at, if_pos le_rfl]; exact EReal.coe_ne_bot _⟩
  refine ⟨t, e.trans ht, k 4, ?_⟩
  have hd := (Finset.mem_filter.mp hk).2
  rw [← hkt]
  refine congrArg _ (Eq.symm (ext5 ?_ ?_ ?_ ?_ rfl))
  · exact congrArg (fun f => (f 0).val) hd
  · exact congrArg (fun f => (f 1).val) hd
  · exact congrArg (fun f => (f 2).val) hd
  · exact congrArg (fun f => (f 3).val) hd

/-- The largest score of a row. -/
def top (b : Fin 2) (r : Fin 16) (h : Fin 12) (i : Fin 128) : ℝ := (I.top_spec b r h i).choose
/-- The factor by which it scales the row's weights. -/
def eps (b : Fin 2) (r : Fin 16) (h : Fin 12) (i : Fin 128) : ℝ := Real.exp (-I.top b r h i)

theorem v23_at (b : Fin 2) (r : Fin 16) (h : Fin 12) (i : Fin 128) :
    (val_main_v23 (F := Ideal) I.aq I.ak I.ab) (ix4 b r h i) = ((I.top b r h i : ℝ) : EReal) := (I.top_spec b r h i).choose_spec.1

theorem top_hit (b : Fin 2) (r : Fin 16) (h : Fin 12) (i : Fin 128) :
    ∃ j, (val_main_v22_0 (F := Ideal) I.aq I.ak I.ab) (ix5 b r h i j) = ((I.top b r h i : ℝ) : EReal) := (I.top_spec b r h i).choose_spec.2

theorem v24_at (b : Fin 2) (r : Fin 16) (h : Fin 12) (i : Fin 128) : (val_main_v24 (F := Ideal) I.aq I.ak I.ab) (ix5 b r h i 0) = (((I.top b r h i) : ℝ) : EReal) := by
  rw [val_main_v24_apply]
  exact via (I.v23_at b r h i) (ext4
    (by show ((((b.val * 16 + r.val) * 12 + h.val) * 128 + i.val) * 1 + 0) / 24576 = b.val; omega)
    (by show ((((b.val * 16 + r.val) * 12 + h.val) * 128 + i.val) * 1 + 0) / 1536 % 16 = r.val; omega)
    (by show ((((b.val * 16 + r.val) * 12 + h.val) * 128 + i.val) * 1 + 0) / 128 % 12 = h.val; omega)
    (by show ((((b.val * 16 + r.val) * 12 + h.val) * 128 + i.val) * 1 + 0) % 128 = i.val; omega))

theorem v25_at (b : Fin 2) (r : Fin 16) (h : Fin 12) (i : Fin 128) (j : Fin 128) : (val_main_v25 (F := Ideal) I.aq I.ak I.ab) (ix5 b r h i j) = (((I.top b r h i) : ℝ) : EReal) := by
  rw [val_main_v25_apply]
  exact via (I.v24_at b r h i) (ext5 rfl rfl rfl rfl rfl )

open Classical in
/-- Whether a key's score is the row's largest, and how many are. -/
def hit (b : Fin 2) (r : Fin 16) (h : Fin 12) (i j : Fin 128) : ℝ :=
  if (val_main_v22_0 (F := Ideal) I.aq I.ak I.ab) (ix5 b r h i j) = ((I.top b r h i : ℝ) : EReal) then 1 else 0
def cnt (b : Fin 2) (r : Fin 16) (h : Fin 12) (i : Fin 128) : ℝ := ∑ j, I.hit b r h i j

theorem v27_at (b : Fin 2) (r : Fin 16) (h : Fin 12) (i j : Fin 128) :
    (val_main_v27 (F := Ideal) I.aq I.ak I.ab) (ix5 b r h i j) = ((I.hit b r h i j : ℝ) : EReal) := by
  rw [val_main_v27_apply, val_main_v26_apply, I.v25_at]
  unfold hit
  generalize (val_main_v22_0 (F := Ideal) I.aq I.ak I.ab) (ix5 b r h i j) = s
  generalize ((I.top b r h i : ℝ) : EReal) = t
  show (((Ideal.cmp .oeq s t).toNat : ℝ) : EReal) = _
  by_cases hs : s = t
  · rw [if_pos hs]; simp [Ideal.cmp, hs]
  · rw [if_neg hs]; simp [Ideal.cmp, hs]

theorem v28_at (b : Fin 2) (r : Fin 16) (h : Fin 12) (i : Fin 128) :
    (val_main_v28 (F := Ideal) I.aq I.ak I.ab) (ix4 b r h i) = ((I.cnt b r h i : ℝ) : EReal) := by
  rw [val_main_v28_apply]
  exact sum_at zero fun j => via (I.v27_at b r h i j) (ext5 rfl rfl rfl rfl rfl)

theorem cnt_ne (b : Fin 2) (r : Fin 16) (h : Fin 12) (i : Fin 128) : I.cnt b r h i ≠ 0 := by
  obtain ⟨j, hj⟩ := I.top_hit b r h i
  refine ne_of_gt (Finset.sum_pos' (fun k _ => ?_) ⟨j, Finset.mem_univ j, ?_⟩)
  · unfold hit; split
    · exact zero_le_one
    · exact le_rfl
  · unfold hit; rw [if_pos hj]; exact zero_lt_one

theorem v29_at (b : Fin 2) (r : Fin 16) (h : Fin 12) (i : Fin 128) : (val_main_v29 (F := Ideal) I.aq I.ak I.ab) (ix5 b r h i 0) = (((I.top b r h i) : ℝ) : EReal) := by
  rw [val_main_v29_apply]
  exact via (I.v23_at b r h i) (ext4 rfl rfl rfl rfl )

theorem v30_at (b : Fin 2) (r : Fin 16) (h : Fin 12) (i : Fin 128) (j : Fin 128) : (val_main_v30 (F := Ideal) I.aq I.ak I.ab) (ix5 b r h i j) = (((I.top b r h i) : ℝ) : EReal) := by
  rw [val_main_v30_apply]
  exact via (I.v29_at b r h i) (ext5 rfl rfl rfl rfl rfl )

theorem v32_at (b : Fin 2) (r : Fin 16) (h : Fin 12) (i j : Fin 128) :
    (val_main_v32 (F := Ideal) I.aq I.ak I.ab) (ix5 b r h i j) = ((I.x b r h i j * I.eps b r h i : ℝ) : EReal) := by
  rw [val_main_v32_apply, val_main_v31_apply, I.v22_0_at, I.v30_at]
  unfold x eps
  by_cases hj : j ≤ i
  · rw [if_pos hj, if_pos hj, ← Real.exp_add, ← sub_eq_add_neg]
    exact exp_at (sub_at rfl rfl)
  · rw [if_neg hj, if_neg hj, zero_mul]
    show Ideal.exp (⊥ - ((I.top b r h i : ℝ) : EReal)) = _
    rw [EReal.bot_sub, Ideal.exp_bot]
    rfl

theorem eps_pos (b : Fin 2) (r : Fin 16) (h : Fin 12) (i : Fin 128) : 0 < I.eps b r h i := Real.exp_pos _
theorem den_eps_pos (b : Fin 2) (r : Fin 16) (h : Fin 12) (i : Fin 128) : 0 < I.den b r h i * I.eps b r h i :=
  mul_pos (I.den_pos b r h i) (I.eps_pos b r h i)
theorem den_eps_ne (b : Fin 2) (r : Fin 16) (h : Fin 12) (i : Fin 128) : I.den b r h i * I.eps b r h i ≠ 0 :=
  (I.den_eps_pos b r h i).ne'
theorem den_mul (b : Fin 2) (r : Fin 16) (h : Fin 12) (i : Fin 128) :
    I.den b r h i * I.eps b r h i = ∑ j, I.x b r h i j * I.eps b r h i := by
  unfold den AttnRow.den
  rw [Finset.sum_mul]

/-- The group's own output, from the scaled weights, and its log-denominator. -/
def p2 (b : Fin 2) (r : Fin 16) (h : Fin 12) (i : Fin 128) (d : Fin 64) : ℝ :=
  (∑ j, I.x b r h i j * I.eps b r h i * I.vv b r h j d) / (I.den b r h i * I.eps b r h i)
def l2 (b : Fin 2) (r : Fin 16) (h : Fin 12) (i : Fin 128) : ℝ :=
  I.top b r h i + Real.log (I.den b r h i * I.eps b r h i)

theorem exp_l2 (b : Fin 2) (r : Fin 16) (h : Fin 12) (i : Fin 128) : Real.exp (I.l2 b r h i) = I.den b r h i := by
  unfold l2
  rw [Real.exp_add, Real.exp_log (I.den_eps_pos b r h i)]
  unfold eps
  rw [mul_left_comm, ← Real.exp_add, add_neg_cancel, Real.exp_zero, mul_one]

theorem v33_at (b : Fin 2) (r : Fin 16) (h : Fin 12) (i : Fin 128) : (val_main_v33 (F := Ideal) I.aq I.ak I.ab) (ix4 b r h i) = (((I.den b r h i * I.eps b r h i) : ℝ) : EReal) := by
  rw [val_main_v33_apply]
  rw [den_mul]
  exact sum_at zero fun j => via (I.v32_at b r h i j) (ext5 rfl rfl rfl rfl rfl )

theorem v34_at (b : Fin 2) (r : Fin 16) (h : Fin 12) (i : Fin 128) (d : Fin 64) : (val_main_v34 (F := Ideal) I.aq I.ak I.av I.ab) (ix5 b r h i d) = (((∑ j, I.x b r h i j * I.eps b r h i * I.vv b r h j d) : ℝ) : EReal) := by
  rw [val_main_v34_apply]
  exact dot_at (fun j => via (I.v32_at b r h i j) (ext5 rfl rfl rfl rfl rfl )) fun j => via (I.v2_at b j r h d) (ext5 rfl rfl rfl rfl rfl )

theorem v35_at (b : Fin 2) (r : Fin 16) (h : Fin 12) (i : Fin 128) : (val_main_v35 (F := Ideal) I.aq I.ak I.ab) (ix5 b r h i 0) = (((I.den b r h i * I.eps b r h i) : ℝ) : EReal) := by
  rw [val_main_v35_apply]
  exact via (I.v33_at b r h i) (ext4 rfl rfl rfl rfl )

theorem v36_at (b : Fin 2) (r : Fin 16) (h : Fin 12) (i : Fin 128) (d : Fin 64) : (val_main_v36 (F := Ideal) I.aq I.ak I.ab) (ix5 b r h i d) = (((I.den b r h i * I.eps b r h i) : ℝ) : EReal) := by
  rw [val_main_v36_apply]
  exact via (I.v35_at b r h i) (ext5 rfl rfl rfl rfl rfl )

theorem v37_at (b : Fin 2) (r : Fin 16) (h : Fin 12) (i : Fin 128) (d : Fin 64) : (val_main_v37 (F := Ideal) I.aq I.ak I.av I.ab) (ix5 b r h i d) = (((I.p2 b r h i d) : ℝ) : EReal) := by
  rw [val_main_v37_apply]
  exact (div_at (I.den_eps_ne b r h i)) (I.v34_at b r h i d) (I.v36_at b r h i d)

theorem v38_at (b : Fin 2) (r : Fin 16) (h : Fin 12) (i : Fin 128) : (val_main_v38 (F := Ideal) I.aq I.ak I.ab) (ix5 b r h i 0) = (((I.den b r h i * I.eps b r h i * (I.den b r h i * I.eps b r h i)) : ℝ) : EReal) := by
  rw [val_main_v38_apply]
  exact mul_at (I.v35_at b r h i) (I.v35_at b r h i)

theorem v39_at (b : Fin 2) (r : Fin 16) (h : Fin 12) (i : Fin 128) : (val_main_v39 (F := Ideal)) (ix5 b r h i 0) = ((((1 : ℝ)) : ℝ) : EReal) := by
  rw [val_main_v39_apply]
  exact one

theorem v40_at (b : Fin 2) (r : Fin 16) (h : Fin 12) (i : Fin 128) : (val_main_v40 (F := Ideal) I.aq I.ak I.ab) (ix5 b r h i 0) = (((1 / (I.den b r h i * I.eps b r h i * (I.den b r h i * I.eps b r h i))) : ℝ) : EReal) := by
  rw [val_main_v40_apply]
  exact (div_at (mul_ne_zero (I.den_eps_ne b r h i) (I.den_eps_ne b r h i))) (v39_at b r h i) (I.v38_at b r h i)

theorem v41_at (b : Fin 2) (r : Fin 16) (h : Fin 12) (i : Fin 128) : (val_main_v41 (F := Ideal) I.aq I.ak I.ab) (ix4 b r h i) = (((I.top b r h i) : ℝ) : EReal) := by
  rw [val_main_v41_apply]
  exact via (I.v29_at b r h i) (ext5
    (by show (((b.val * 16 + r.val) * 12 + h.val) * 128 + i.val) / 24576 = b.val; omega)
    (by show (((b.val * 16 + r.val) * 12 + h.val) * 128 + i.val) / 1536 % 16 = r.val; omega)
    (by show (((b.val * 16 + r.val) * 12 + h.val) * 128 + i.val) / 128 % 12 = h.val; omega)
    (by show (((b.val * 16 + r.val) * 12 + h.val) * 128 + i.val) / 1 % 128 = i.val; omega)
    (Nat.lt_one_iff.mp (Fin.isLt _)))

theorem v42_at (b : Fin 2) (r : Fin 16) (h : Fin 12) (i : Fin 128) : (val_main_v42 (F := Ideal) I.aq I.ak I.ab) (ix4 b r h i) = (((Real.log (I.den b r h i * I.eps b r h i)) : ℝ) : EReal) := by
  rw [val_main_v42_apply]
  exact (log_at (I.den_eps_pos b r h i)) (I.v33_at b r h i)

theorem v43_at (b : Fin 2) (r : Fin 16) (h : Fin 12) (i : Fin 128) : (val_main_v43 (F := Ideal) I.aq I.ak I.ab) (ix4 b r h i) = (((I.l2 b r h i) : ℝ) : EReal) := by
  rw [val_main_v43_apply]
  exact add_at (I.v41_at b r h i) (I.v42_at b r h i)

theorem v44_at (b : Fin 2) (i : Fin 128) (r : Fin 16) (h : Fin 12) (d : Fin 64) : (val_main_v44 (F := Ideal) I.aq I.ak I.av I.ab) (ix5 b i r h d) = (((I.p2 b r h i d) : ℝ) : EReal) := by
  rw [val_main_v44_apply]
  exact via (I.v37_at b r h i d) (ext5 rfl rfl rfl rfl rfl )

theorem v45_at (b : Fin 2) (i : Fin 128) (r : Fin 16) (h : Fin 12) (d : Fin 64) : (val_main_v45 (F := Ideal) I.aq I.ak I.av I.ab) (ix4 b (tok i r) h d) = (((I.p2 b r h i d) : ℝ) : EReal) := by
  rw [val_main_v45_apply]
  exact via (I.v44_at b i r h d) (ext5
    (by show (((b.val * 2048 + (16 * i.val + r.val)) * 12 + h.val) * 64 + d.val) / 1572864 = b.val; omega)
    (by show (((b.val * 2048 + (16 * i.val + r.val)) * 12 + h.val) * 64 + d.val) / 12288 % 128 = i.val; omega)
    (by show (((b.val * 2048 + (16 * i.val + r.val)) * 12 + h.val) * 64 + d.val) / 768 % 16 = r.val; omega)
    (by show (((b.val * 2048 + (16 * i.val + r.val)) * 12 + h.val) * 64 + d.val) / 64 % 12 = h.val; omega)
    (by show (((b.val * 2048 + (16 * i.val + r.val)) * 12 + h.val) * 64 + d.val) % 64 = d.val; omega))

theorem v46_at (b : Fin 2) (i : Fin 128) (r : Fin 16) (h : Fin 12) : (val_main_v46 (F := Ideal) I.aq I.ak I.ab) (ix4 b i r h) = (((I.l2 b r h i) : ℝ) : EReal) := by
  rw [val_main_v46_apply]
  exact via (I.v43_at b r h i) (ext4 rfl rfl rfl rfl )

theorem v47_at (b : Fin 2) (i : Fin 128) (r : Fin 16) (h : Fin 12) : (val_main_v47 (F := Ideal) I.aq I.ak I.ab) (ix3 b (tok i r) h) = (((I.l2 b r h i) : ℝ) : EReal) := by
  rw [val_main_v47_apply]
  exact via (I.v46_at b i r h) (ext4
    (by show ((b.val * 2048 + (16 * i.val + r.val)) * 12 + h.val) / 24576 = b.val; omega)
    (by show ((b.val * 2048 + (16 * i.val + r.val)) * 12 + h.val) / 192 % 128 = i.val; omega)
    (by show ((b.val * 2048 + (16 * i.val + r.val)) * 12 + h.val) / 12 % 16 = r.val; omega)
    (by show ((b.val * 2048 + (16 * i.val + r.val)) * 12 + h.val) % 12 = h.val; omega))

theorem v48_at (b : Fin 2) (i : Fin 128) (r : Fin 16) (h : Fin 12) : (val_main_v48 (F := Ideal) I.al0) (ix4 0 b (tok i r) h) = (((I.l0 b (tok i r) h) : ℝ) : EReal) := by
  rw [val_main_v48_apply]
  exact via (y := ix3 b (tok i r) h) rfl (ext3 rfl rfl rfl)

theorem v49_at (b : Fin 2) (i : Fin 128) (r : Fin 16) (h : Fin 12) : (val_main_v49 (F := Ideal) I.al1) (ix4 0 b (tok i r) h) = (((I.l1 b (tok i r) h) : ℝ) : EReal) := by
  rw [val_main_v49_apply]
  exact via (y := ix3 b (tok i r) h) rfl (ext3 rfl rfl rfl)

theorem v50_at (b : Fin 2) (i : Fin 128) (r : Fin 16) (h : Fin 12) : (val_main_v50 (F := Ideal) I.aq I.ak I.ab) (ix4 0 b (tok i r) h) = (((I.l2 b r h i) : ℝ) : EReal) := by
  rw [val_main_v50_apply]
  exact via (I.v47_at b i r h) (ext3 rfl rfl rfl )

/-- The three log-denominators. -/
def ll (b : Fin 2) (r : Fin 16) (h : Fin 12) (i : Fin 128) : Fin 3 → ℝ :=
  ![I.l0 b (tok i r) h, I.l1 b (tok i r) h, I.l2 b r h i]

theorem v51_at (g : Fin 3) (b : Fin 2) (i : Fin 128) (r : Fin 16) (h : Fin 12) :
    (val_main_v51 (F := Ideal) I.aq I.ak I.ab I.al0 I.al1) (ix4 g b (tok i r) h) = ((I.ll b r h i g : ℝ) : EReal) := by
  have h0 := I.v48_at b i r h
  have h1 := I.v49_at b i r h
  have h2 := I.v50_at b i r h
  unfold val_main_v51
  generalize (val_main_v48 (F := Ideal) I.al0) = y0 at *
  generalize (val_main_v49 (F := Ideal) I.al1) = y1 at *
  generalize (val_main_v50 (F := Ideal) I.aq I.ak I.ab) = y2 at *
  unfold ll
  fin_cases g
  · refine Eq.trans ?_ h0
    pointwise
    try rfl
  · refine Eq.trans ?_ h1
    pointwise
    try rfl
  · refine Eq.trans ?_ h2
    pointwise
    try rfl

theorem top2_spec (b : Fin 2) (r : Fin 16) (h : Fin 12) (i : Fin 128) :
    ∃ t : ℝ, (val_main_v54 (F := Ideal) I.aq I.ak I.ab I.al0 I.al1) (ix3 b (tok i r) h) = t := by
  have e : (val_main_v54 (F := Ideal) I.aq I.ak I.ab I.al0 I.al1) (ix3 b (tok i r) h) = (Finset.univ.filter fun k => reducesTo_S3x2x2048x12_S2x2048x12_d0.drop k
      = ix3 b (tok i r) h).fold max ⊥ (val_main_v51 (F := Ideal) I.aq I.ak I.ab I.al0 I.al1) := by
    rw [← Cert.AttnRefIdeal.Stages.bot]
    exact Host.reduce_eq_fold (FloatOps.maximumf (F := Ideal) (φ := .f32)) _ _ _ _ _
  have hk : ∀ k, reducesTo_S3x2x2048x12_S2x2048x12_d0.drop k = ix3 b (tok i r) h → ∃ g : Fin 3, k = ix4 g b (tok i r) h := by
    intro k hd
    refine ⟨k 0, ext4 rfl ?_ ?_ ?_⟩
    · exact congrArg (fun f => (f 0).val) hd
    · exact congrArg (fun f => (f 1).val) hd
    · exact congrArg (fun f => (f 2).val) hd
  obtain ⟨t, ht, -⟩ := fold_max_coe (Finset.univ.filter fun k =>
      reducesTo_S3x2x2048x12_S2x2048x12_d0.drop k = ix3 b (tok i r) h) (val_main_v51 (F := Ideal) I.aq I.ak I.ab I.al0 I.al1)
    (fun k hd => by
      obtain ⟨g, rfl⟩ := hk k (Finset.mem_filter.mp hd).2
      rw [I.v51_at]
      exact EReal.coe_ne_top _)
    ⟨ix4 0 b (tok i r) h, Finset.mem_filter.mpr ⟨Finset.mem_univ _, ext3 rfl rfl rfl⟩, by
      rw [I.v51_at]; exact EReal.coe_ne_bot _⟩
  exact ⟨t, e.trans ht⟩

/-- The largest of the three log-denominators, and the factor by which it scales them. -/
def top2 (b : Fin 2) (r : Fin 16) (h : Fin 12) (i : Fin 128) : ℝ := (I.top2_spec b r h i).choose
def eta (b : Fin 2) (r : Fin 16) (h : Fin 12) (i : Fin 128) : ℝ := Real.exp (-I.top2 b r h i)

theorem v54_at (b : Fin 2) (i : Fin 128) (r : Fin 16) (h : Fin 12) :
    (val_main_v54 (F := Ideal) I.aq I.ak I.ab I.al0 I.al1) (ix3 b (tok i r) h) = ((I.top2 b r h i : ℝ) : EReal) := (I.top2_spec b r h i).choose_spec

/-- The exponentials of the three log-denominators. -/
def aa (b : Fin 2) (r : Fin 16) (h : Fin 12) (i : Fin 128) : Fin 3 → ℝ := ![I.a0 b r h i, I.a1 b r h i, I.den b r h i]

theorem aa_mul (b : Fin 2) (r : Fin 16) (h : Fin 12) (i : Fin 128) (g : Fin 3) :
    I.aa b r h i g * I.eta b r h i = Real.exp (I.ll b r h i g - I.top2 b r h i) := by
  rw [sub_eq_add_neg, Real.exp_add]
  refine congrArg (· * _) ?_
  unfold aa ll
  fin_cases g
  · rfl
  · rfl
  · exact (I.exp_l2 b r h i).symm

theorem tot_mul (b : Fin 2) (r : Fin 16) (h : Fin 12) (i : Fin 128) :
    I.tot b r h i * I.eta b r h i = ∑ g, I.aa b r h i g * I.eta b r h i := by
  rw [← Finset.sum_mul, Fin.sum_univ_three]
  rfl

theorem eta_ne (b : Fin 2) (r : Fin 16) (h : Fin 12) (i : Fin 128) : I.eta b r h i ≠ 0 := (Real.exp_pos _).ne'
theorem tot_eta_ne (b : Fin 2) (r : Fin 16) (h : Fin 12) (i : Fin 128) : I.tot b r h i * I.eta b r h i ≠ 0 :=
  mul_ne_zero (I.tot_pos b r h i).ne' (I.eta_ne b r h i)

theorem v60_at (b : Fin 2) (i : Fin 128) (r : Fin 16) (h : Fin 12) : (val_main_v60 (F := Ideal)) (ix3 b (tok i r) h) = ⊥ := by
  rw [val_main_v60_apply]
  exact Cert.AttnRefIdeal.Stages.bot

theorem v61_at (b : Fin 2) (i : Fin 128) (r : Fin 16) (h : Fin 12) : (val_main_v61 (F := Ideal) I.aq I.ak I.ab I.al0 I.al1) (ix3 b (tok i r) h) = (((I.top2 b r h i) : ℝ) : EReal) := by
  rw [val_main_v61_apply, v60_at, I.v54_at]
  exact max_eq_right bot_le

theorem v71_at (b : Fin 2) (i : Fin 128) (r : Fin 16) (h : Fin 12) : (val_main_v71 (F := Ideal) I.aq I.ak I.ab I.al0 I.al1) (ix4 0 b (tok i r) h) = (((I.top2 b r h i) : ℝ) : EReal) := by
  rw [val_main_v71_apply]
  exact via (I.v61_at b i r h) (ext3 rfl rfl rfl )

theorem v72_at (g : Fin 3) (b : Fin 2) (i : Fin 128) (r : Fin 16) (h : Fin 12) : (val_main_v72 (F := Ideal) I.aq I.ak I.ab I.al0 I.al1) (ix4 g b (tok i r) h) = (((I.top2 b r h i) : ℝ) : EReal) := by
  rw [val_main_v72_apply]
  exact via (I.v71_at b i r h) (ext4 rfl rfl rfl rfl )

theorem v73_at (g : Fin 3) (b : Fin 2) (i : Fin 128) (r : Fin 16) (h : Fin 12) : (val_main_v73 (F := Ideal) I.aq I.ak I.ab I.al0 I.al1) (ix4 g b (tok i r) h) = (((I.ll b r h i g - I.top2 b r h i) : ℝ) : EReal) := by
  rw [val_main_v73_apply]
  exact sub_at (I.v51_at g b i r h) (I.v72_at g b i r h)

theorem v74_at (g : Fin 3) (b : Fin 2) (i : Fin 128) (r : Fin 16) (h : Fin 12) : (val_main_v74 (F := Ideal) I.aq I.ak I.ab I.al0 I.al1) (ix4 g b (tok i r) h) = (((I.aa b r h i g * I.eta b r h i) : ℝ) : EReal) := by
  rw [val_main_v74_apply, I.aa_mul]
  exact exp_at (I.v73_at g b i r h)

theorem v75_at (b : Fin 2) (i : Fin 128) (r : Fin 16) (h : Fin 12) : (val_main_v75 (F := Ideal) I.aq I.ak I.ab I.al0 I.al1) (ix3 b (tok i r) h) = (((I.tot b r h i * I.eta b r h i) : ℝ) : EReal) := by
  rw [val_main_v75_apply]
  rw [tot_mul]
  exact sum_at zero fun g => via (I.v74_at g b i r h) (ext4 rfl rfl rfl rfl )

theorem v76_at (b : Fin 2) (i : Fin 128) (r : Fin 16) (h : Fin 12) : (val_main_v76 (F := Ideal) I.aq I.ak I.ab I.al0 I.al1) (ix4 0 b (tok i r) h) = (((I.tot b r h i * I.eta b r h i) : ℝ) : EReal) := by
  rw [val_main_v76_apply]
  exact via (I.v75_at b i r h) (ext3 rfl rfl rfl )

theorem v77_at (g : Fin 3) (b : Fin 2) (i : Fin 128) (r : Fin 16) (h : Fin 12) : (val_main_v77 (F := Ideal) I.aq I.ak I.ab I.al0 I.al1) (ix4 g b (tok i r) h) = (((I.tot b r h i * I.eta b r h i) : ℝ) : EReal) := by
  rw [val_main_v77_apply]
  exact via (I.v76_at b i r h) (ext4 rfl rfl rfl rfl )

theorem v78_at (g : Fin 3) (b : Fin 2) (i : Fin 128) (r : Fin 16) (h : Fin 12) : (val_main_v78 (F := Ideal) I.aq I.ak I.ab I.al0 I.al1) (ix4 g b (tok i r) h) = (((I.aa b r h i g * I.eta b r h i / (I.tot b r h i * I.eta b r h i)) : ℝ) : EReal) := by
  rw [val_main_v78_apply]
  exact (div_at (I.tot_eta_ne b r h i)) (I.v74_at g b i r h) (I.v77_at g b i r h)

theorem v79_at (b : Fin 2) (i : Fin 128) (r : Fin 16) (h : Fin 12) : (val_main_v79 (F := Ideal) I.aq I.ak I.ab I.al0 I.al1) (ix4 0 b (tok i r) h) = (((I.tot b r h i * I.eta b r h i * (I.tot b r h i * I.eta b r h i)) : ℝ) : EReal) := by
  rw [val_main_v79_apply]
  exact mul_at (I.v76_at b i r h) (I.v76_at b i r h)

theorem v80_at (b : Fin 2) (i : Fin 128) (r : Fin 16) (h : Fin 12) : (val_main_v80 (F := Ideal)) (ix4 0 b (tok i r) h) = ((((1 : ℝ)) : ℝ) : EReal) := by
  rw [val_main_v80_apply]
  exact one

theorem v81_at (b : Fin 2) (i : Fin 128) (r : Fin 16) (h : Fin 12) : (val_main_v81 (F := Ideal) I.aq I.ak I.ab I.al0 I.al1) (ix4 0 b (tok i r) h) = (((1 / (I.tot b r h i * I.eta b r h i * (I.tot b r h i * I.eta b r h i))) : ℝ) : EReal) := by
  rw [val_main_v81_apply]
  exact (div_at (mul_ne_zero (I.tot_eta_ne b r h i) (I.tot_eta_ne b r h i))) (v80_at b i r h) (I.v79_at b i r h)

theorem v82_at (g : Fin 3) (b : Fin 2) (i : Fin 128) (r : Fin 16) (h : Fin 12) : (val_main_v82 (F := Ideal) I.aq I.ak I.ab I.al0 I.al1) (ix5 g b (tok i r) h 0) = (((I.aa b r h i g * I.eta b r h i / (I.tot b r h i * I.eta b r h i)) : ℝ) : EReal) := by
  rw [val_main_v82_apply]
  exact via (I.v78_at g b i r h) (ext4 rfl rfl rfl rfl )

theorem v83_at (b : Fin 2) (i : Fin 128) (r : Fin 16) (h : Fin 12) (d : Fin 64) : (val_main_v83 (F := Ideal) I.ao0) (ix5 0 b (tok i r) h d) = (((I.p0 b r h i d) : ℝ) : EReal) := by
  rw [val_main_v83_apply]
  exact via (y := ix4 b (tok i r) h d) rfl (ext4 rfl rfl rfl rfl)

theorem v84_at (b : Fin 2) (i : Fin 128) (r : Fin 16) (h : Fin 12) (d : Fin 64) : (val_main_v84 (F := Ideal) I.ao1) (ix5 0 b (tok i r) h d) = (((I.p1 b r h i d) : ℝ) : EReal) := by
  rw [val_main_v84_apply]
  exact via (y := ix4 b (tok i r) h d) rfl (ext4 rfl rfl rfl rfl)

theorem v85_at (b : Fin 2) (i : Fin 128) (r : Fin 16) (h : Fin 12) (d : Fin 64) : (val_main_v85 (F := Ideal) I.aq I.ak I.av I.ab) (ix5 0 b (tok i r) h d) = (((I.p2 b r h i d) : ℝ) : EReal) := by
  rw [val_main_v85_apply]
  exact via (I.v45_at b i r h d) (ext4 rfl rfl rfl rfl )

/-- The three outputs. -/
def pp (b : Fin 2) (r : Fin 16) (h : Fin 12) (i : Fin 128) (g : Fin 3) (d : Fin 64) : ℝ :=
  (![I.p0 b r h i d, I.p1 b r h i d, I.p2 b r h i d] : Fin 3 → ℝ) g

theorem v86_at (g : Fin 3) (b : Fin 2) (i : Fin 128) (r : Fin 16) (h : Fin 12) (d : Fin 64) :
    (val_main_v86 (F := Ideal) I.aq I.ak I.av I.ab I.ao0 I.ao1) (ix5 g b (tok i r) h d) = ((I.pp b r h i g d : ℝ) : EReal) := by
  have h0 := I.v83_at b i r h d
  have h1 := I.v84_at b i r h d
  have h2 := I.v85_at b i r h d
  unfold val_main_v86
  generalize (val_main_v83 (F := Ideal) I.ao0) = y0 at *
  generalize (val_main_v84 (F := Ideal) I.ao1) = y1 at *
  generalize (val_main_v85 (F := Ideal) I.aq I.ak I.av I.ab) = y2 at *
  unfold pp
  fin_cases g
  · refine Eq.trans ?_ h0
    pointwise
    try rfl
  · refine Eq.trans ?_ h1
    pointwise
    try rfl
  · refine Eq.trans ?_ h2
    pointwise
    try rfl

/-- The cotangents of the group's output and of its log-denominator, and of the exponentials' common part. -/
def do2 (b : Fin 2) (r : Fin 16) (h : Fin 12) (i : Fin 128) (d : Fin 64) : ℝ :=
  AttnRow.dout (I.x b r h i) (I.cc b r h i) (I.a0 b r h i) (I.a1 b r h i) (I.eta b r h i) d
def dl2 (b : Fin 2) (r : Fin 16) (h : Fin 12) (i : Fin 128) : ℝ :=
  AttnRow.dlse (I.x b r h i) (I.vv b r h) (I.cc b r h i) (I.p0 b r h i) (I.p1 b r h i) (I.a0 b r h i) (I.a1 b r h i)
    (I.eps b r h i) (I.eta b r h i)
def dd (b : Fin 2) (r : Fin 16) (h : Fin 12) (i : Fin 128) : ℝ :=
  AttnRow.dden (I.x b r h i) (I.vv b r h) (I.cc b r h i) (I.p0 b r h i) (I.p1 b r h i) (I.a0 b r h i) (I.a1 b r h i)
    (I.eps b r h i) (I.eta b r h i)
def gr (b : Fin 2) (r : Fin 16) (h : Fin 12) (i j : Fin 128) : ℝ :=
  AttnRow.grad (I.x b r h i) (I.vv b r h) (I.cc b r h i) (I.p0 b r h i) (I.p1 b r h i) (I.a0 b r h i) (I.a1 b r h i)
    (I.eps b r h i) (I.eta b r h i) j

theorem dl2_eq (b : Fin 2) (r : Fin 16) (h : Fin 12) (i : Fin 128) : I.dl2 b r h i
    = ((∑ d, I.cc b r h i d * I.pp b r h i 2 d) / (I.tot b r h i * I.eta b r h i)
      + -∑ g, (∑ d, I.cc b r h i d * I.pp b r h i g d)
          * (1 / (I.tot b r h i * I.eta b r h i * (I.tot b r h i * I.eta b r h i)))
          * (I.aa b r h i g * I.eta b r h i)) * (I.aa b r h i 2 * I.eta b r h i) := by
  rw [Fin.sum_univ_three]
  rfl

theorem gr_eq (b : Fin 2) (r : Fin 16) (h : Fin 12) (i j : Fin 128) :
    I.gr b r h i j + 0 / I.cnt b r h i * I.hit b r h i j = I.ds b r h i j := by
  rw [zero_div, zero_mul, add_zero]
  exact grad_eq (I.eps_pos b r h i).ne' (I.eta_ne b r h i) (I.tot_pos b r h i).ne' (I.den_pos b r h i).ne' j

theorem rest_eq (b : Fin 2) (r : Fin 16) (h : Fin 12) (i : Fin 128) :
    I.dl2 b r h i + ∑ j, -I.gr b r h i j = 0 :=
  dlse_sub_sum (I.eps_pos b r h i).ne' (I.eta_ne b r h i) (I.tot_pos b r h i).ne' (I.den_pos b r h i).ne'

theorem dv_eq (b : Fin 2) (r : Fin 16) (h : Fin 12) (j : Fin 128) (d : Fin 64) : I.dv b r h j d
    = ∑ i, I.do2 b r h i d / (I.den b r h i * I.eps b r h i) * (I.x b r h i j * I.eps b r h i) :=
  Finset.sum_congr rfl fun i _ =>
    (dout_mul (I.eps_pos b r h i).ne' (I.eta_ne b r h i) (I.tot_pos b r h i).ne' (I.den_pos b r h i).ne' d j).symm

theorem v92_at (g : Fin 3) (b : Fin 2) (i : Fin 128) (r : Fin 16) (h : Fin 12) (d : Fin 64) : (val_main_v92 (F := Ideal) I.ac) (ix5 g b (tok i r) h d) = (((I.cc b r h i d) : ℝ) : EReal) := by
  rw [val_main_v92_apply]
  exact via (y := ix4 b (tok i r) h d) rfl (ext4 rfl rfl rfl rfl)

theorem v93_at (g : Fin 3) (b : Fin 2) (i : Fin 128) (r : Fin 16) (h : Fin 12) (d : Fin 64) : (val_main_v93 (F := Ideal) I.aq I.ak I.ab I.al0 I.al1) (ix5 g b (tok i r) h d) = (((I.aa b r h i g * I.eta b r h i / (I.tot b r h i * I.eta b r h i)) : ℝ) : EReal) := by
  rw [val_main_v93_apply]
  exact via (I.v82_at g b i r h) (ext5 rfl rfl rfl rfl rfl )

theorem v94_at (g : Fin 3) (b : Fin 2) (i : Fin 128) (r : Fin 16) (h : Fin 12) (d : Fin 64) : (val_main_v94 (F := Ideal) I.aq I.ak I.ab I.al0 I.al1 I.ac) (ix5 g b (tok i r) h d) = (((I.aa b r h i g * I.eta b r h i / (I.tot b r h i * I.eta b r h i) * I.cc b r h i d) : ℝ) : EReal) := by
  rw [val_main_v94_apply]
  exact mul_at (I.v93_at g b i r h d) (I.v92_at g b i r h d)

theorem v95_at (g : Fin 3) (b : Fin 2) (i : Fin 128) (r : Fin 16) (h : Fin 12) (d : Fin 64) : (val_main_v95 (F := Ideal) I.aq I.ak I.av I.ab I.ao0 I.ao1 I.ac) (ix5 g b (tok i r) h d) = (((I.cc b r h i d * I.pp b r h i g d) : ℝ) : EReal) := by
  rw [val_main_v95_apply]
  exact mul_at (I.v92_at g b i r h d) (I.v86_at g b i r h d)

theorem v96_at (g : Fin 3) (b : Fin 2) (i : Fin 128) (r : Fin 16) (h : Fin 12) : (val_main_v96 (F := Ideal) I.aq I.ak I.av I.ab I.ao0 I.ao1 I.ac) (ix4 g b (tok i r) h) = (((∑ d, I.cc b r h i d * I.pp b r h i g d) : ℝ) : EReal) := by
  rw [val_main_v96_apply]
  exact sum_at zero fun d => via (I.v95_at g b i r h d) (ext5 rfl rfl rfl rfl rfl )

theorem v97_at (g : Fin 3) (b : Fin 2) (i : Fin 128) (r : Fin 16) (h : Fin 12) : (val_main_v97 (F := Ideal) I.aq I.ak I.av I.ab I.ao0 I.ao1 I.ac) (ix5 g b (tok i r) h 0) = (((∑ d, I.cc b r h i d * I.pp b r h i g d) : ℝ) : EReal) := by
  rw [val_main_v97_apply]
  exact via (I.v96_at g b i r h) (ext4
    (by show ((((g.val * 2 + b.val) * 2048 + (16 * i.val + r.val)) * 12 + h.val) * 1 + 0) / 49152 = g.val; omega)
    (by show ((((g.val * 2 + b.val) * 2048 + (16 * i.val + r.val)) * 12 + h.val) * 1 + 0) / 24576 % 2 = b.val; omega)
    (by show ((((g.val * 2 + b.val) * 2048 + (16 * i.val + r.val)) * 12 + h.val) * 1 + 0) / 12 % 2048 = 16 * i.val + r.val; omega)
    (by show ((((g.val * 2 + b.val) * 2048 + (16 * i.val + r.val)) * 12 + h.val) * 1 + 0) % 12 = h.val; omega))

theorem v104_at (g : Fin 3) (b : Fin 2) (i : Fin 128) (r : Fin 16) (h : Fin 12) : (val_main_v104 (F := Ideal) I.aq I.ak I.av I.ab I.ao0 I.ao1 I.ac) (ix4 g b (tok i r) h) = (((∑ d, I.cc b r h i d * I.pp b r h i g d) : ℝ) : EReal) := by
  rw [val_main_v104_apply]
  rw [← Fin.sum_univ_one fun _ => ∑ d, I.cc b r h i d * I.pp b r h i g d]
  exact sum_at zero fun e => via (I.v97_at g b i r h) (ext5 rfl rfl rfl rfl (by have := e.isLt; show e.val = 0; omega) )

theorem v102_at (b : Fin 2) (i : Fin 128) (r : Fin 16) (h : Fin 12) (d : Fin 64) : (val_main_v102 (F := Ideal) I.aq I.ak I.ab I.al0 I.al1 I.ac) (ix5 0 b (tok i r) h d) = (((I.do2 b r h i d) : ℝ) : EReal) := by
  rw [val_main_v102_apply]
  exact via (I.v94_at 2 b i r h d) (ext5 rfl rfl rfl rfl rfl)

theorem v103_at (b : Fin 2) (i : Fin 128) (r : Fin 16) (h : Fin 12) (d : Fin 64) : (val_main_v103 (F := Ideal) I.aq I.ak I.ab I.al0 I.al1 I.ac) (ix4 b (tok i r) h d) = (((I.do2 b r h i d) : ℝ) : EReal) := by
  rw [val_main_v103_apply]
  exact via (I.v102_at b i r h d) (ext5
    (Nat.lt_one_iff.mp (Fin.isLt _))
    (by show (((b.val * 2048 + (16 * i.val + r.val)) * 12 + h.val) * 64 + d.val) / 1572864 % 2 = b.val; omega)
    (by show (((b.val * 2048 + (16 * i.val + r.val)) * 12 + h.val) * 64 + d.val) / 768 % 2048 = 16 * i.val + r.val; omega)
    (by show (((b.val * 2048 + (16 * i.val + r.val)) * 12 + h.val) * 64 + d.val) / 64 % 12 = h.val; omega)
    (by show (((b.val * 2048 + (16 * i.val + r.val)) * 12 + h.val) * 64 + d.val) % 64 = d.val; omega))

theorem v105_at (g : Fin 3) (b : Fin 2) (i : Fin 128) (r : Fin 16) (h : Fin 12) : (val_main_v105 (F := Ideal) I.aq I.ak I.ab I.al0 I.al1) (ix4 g b (tok i r) h) = (((1 / (I.tot b r h i * I.eta b r h i * (I.tot b r h i * I.eta b r h i))) : ℝ) : EReal) := by
  rw [val_main_v105_apply]
  exact via (I.v81_at b i r h) (ext4 rfl rfl rfl rfl )

theorem v106_at (g : Fin 3) (b : Fin 2) (i : Fin 128) (r : Fin 16) (h : Fin 12) : (val_main_v106 (F := Ideal) I.aq I.ak I.av I.ab I.ao0 I.al0 I.ao1 I.al1 I.ac) (ix4 g b (tok i r) h) = ((((∑ d, I.cc b r h i d * I.pp b r h i g d) * (1 / (I.tot b r h i * I.eta b r h i * (I.tot b r h i * I.eta b r h i)))) : ℝ) : EReal) := by
  rw [val_main_v106_apply]
  exact mul_at (I.v104_at g b i r h) (I.v105_at g b i r h)

theorem v107_at (g : Fin 3) (b : Fin 2) (i : Fin 128) (r : Fin 16) (h : Fin 12) : (val_main_v107 (F := Ideal) I.aq I.ak I.av I.ab I.ao0 I.al0 I.ao1 I.al1 I.ac) (ix4 g b (tok i r) h) = ((((∑ d, I.cc b r h i d * I.pp b r h i g d) * (1 / (I.tot b r h i * I.eta b r h i * (I.tot b r h i * I.eta b r h i))) * (I.aa b r h i g * I.eta b r h i)) : ℝ) : EReal) := by
  rw [val_main_v107_apply]
  exact mul_at (I.v106_at g b i r h) (I.v74_at g b i r h)

theorem v108_at (b : Fin 2) (i : Fin 128) (r : Fin 16) (h : Fin 12) : (val_main_v108 (F := Ideal) I.aq I.ak I.av I.ab I.ao0 I.al0 I.ao1 I.al1 I.ac) (ix3 b (tok i r) h) = (((∑ g, (∑ d, I.cc b r h i d * I.pp b r h i g d) * (1 / (I.tot b r h i * I.eta b r h i * (I.tot b r h i * I.eta b r h i))) * (I.aa b r h i g * I.eta b r h i)) : ℝ) : EReal) := by
  rw [val_main_v108_apply]
  exact sum_at zero fun g => via (I.v107_at g b i r h) (ext4 rfl rfl rfl rfl )

theorem v109_at (b : Fin 2) (i : Fin 128) (r : Fin 16) (h : Fin 12) : (val_main_v109 (F := Ideal) I.aq I.ak I.av I.ab I.ao0 I.al0 I.ao1 I.al1 I.ac) (ix4 0 b (tok i r) h) = (((∑ g, (∑ d, I.cc b r h i d * I.pp b r h i g d) * (1 / (I.tot b r h i * I.eta b r h i * (I.tot b r h i * I.eta b r h i))) * (I.aa b r h i g * I.eta b r h i)) : ℝ) : EReal) := by
  rw [val_main_v109_apply]
  exact via (I.v108_at b i r h) (ext3
    (by show (((0 * 2 + b.val) * 2048 + (16 * i.val + r.val)) * 12 + h.val) / 24576 = b.val; omega)
    (by show (((0 * 2 + b.val) * 2048 + (16 * i.val + r.val)) * 12 + h.val) / 12 % 2048 = 16 * i.val + r.val; omega)
    (by show (((0 * 2 + b.val) * 2048 + (16 * i.val + r.val)) * 12 + h.val) % 12 = h.val; omega))

theorem v110_at (b : Fin 2) (i : Fin 128) (r : Fin 16) (h : Fin 12) : (val_main_v110 (F := Ideal) I.aq I.ak I.av I.ab I.ao0 I.al0 I.ao1 I.al1 I.ac) (ix4 0 b (tok i r) h) = (((-∑ g, (∑ d, I.cc b r h i d * I.pp b r h i g d) * (1 / (I.tot b r h i * I.eta b r h i * (I.tot b r h i * I.eta b r h i))) * (I.aa b r h i g * I.eta b r h i)) : ℝ) : EReal) := by
  rw [val_main_v110_apply]
  exact neg_at (I.v109_at b i r h)

theorem v111_at (g : Fin 3) (b : Fin 2) (i : Fin 128) (r : Fin 16) (h : Fin 12) : (val_main_v111 (F := Ideal) I.aq I.ak I.ab I.al0 I.al1) (ix4 g b (tok i r) h) = (((I.tot b r h i * I.eta b r h i) : ℝ) : EReal) := by
  rw [val_main_v111_apply]
  exact via (I.v76_at b i r h) (ext4 rfl rfl rfl rfl )

theorem v112_at (g : Fin 3) (b : Fin 2) (i : Fin 128) (r : Fin 16) (h : Fin 12) : (val_main_v112 (F := Ideal) I.aq I.ak I.av I.ab I.ao0 I.al0 I.ao1 I.al1 I.ac) (ix4 g b (tok i r) h) = ((((∑ d, I.cc b r h i d * I.pp b r h i g d) / (I.tot b r h i * I.eta b r h i)) : ℝ) : EReal) := by
  rw [val_main_v112_apply]
  exact (div_at (I.tot_eta_ne b r h i)) (I.v104_at g b i r h) (I.v111_at g b i r h)

theorem v113_at (b : Fin 2) (i : Fin 128) (r : Fin 16) (h : Fin 12) : (val_main_v113 (F := Ideal) I.aq I.ak I.av I.ab I.ao0 I.al0 I.ao1 I.al1 I.ac) (ix3 b (tok i r) h) = (((-∑ g, (∑ d, I.cc b r h i d * I.pp b r h i g d) * (1 / (I.tot b r h i * I.eta b r h i * (I.tot b r h i * I.eta b r h i))) * (I.aa b r h i g * I.eta b r h i)) : ℝ) : EReal) := by
  rw [val_main_v113_apply]
  rw [← Fin.sum_univ_one fun _ => -∑ g, (∑ d, I.cc b r h i d * I.pp b r h i g d) * (1 / (I.tot b r h i * I.eta b r h i * (I.tot b r h i * I.eta b r h i))) * (I.aa b r h i g * I.eta b r h i)]
  exact sum_at zero fun e => via (I.v110_at b i r h) (ext4 (by have := e.isLt; show e.val = 0; omega) rfl rfl rfl )

theorem v114_at (g : Fin 3) (b : Fin 2) (i : Fin 128) (r : Fin 16) (h : Fin 12) : (val_main_v114 (F := Ideal) I.aq I.ak I.av I.ab I.ao0 I.al0 I.ao1 I.al1 I.ac) (ix4 g b (tok i r) h) = (((-∑ g, (∑ d, I.cc b r h i d * I.pp b r h i g d) * (1 / (I.tot b r h i * I.eta b r h i * (I.tot b r h i * I.eta b r h i))) * (I.aa b r h i g * I.eta b r h i)) : ℝ) : EReal) := by
  rw [val_main_v114_apply]
  exact via (I.v113_at b i r h) (ext3 rfl rfl rfl )

theorem v115_at (g : Fin 3) (b : Fin 2) (i : Fin 128) (r : Fin 16) (h : Fin 12) : (val_main_v115 (F := Ideal) I.aq I.ak I.av I.ab I.ao0 I.al0 I.ao1 I.al1 I.ac) (ix4 g b (tok i r) h) = ((((∑ d, I.cc b r h i d * I.pp b r h i g d) / (I.tot b r h i * I.eta b r h i) + -∑ g, (∑ d, I.cc b r h i d * I.pp b r h i g d) * (1 / (I.tot b r h i * I.eta b r h i * (I.tot b r h i * I.eta b r h i))) * (I.aa b r h i g * I.eta b r h i)) : ℝ) : EReal) := by
  rw [val_main_v115_apply]
  exact add_at (I.v112_at g b i r h) (I.v114_at g b i r h)

theorem v116_at (g : Fin 3) (b : Fin 2) (i : Fin 128) (r : Fin 16) (h : Fin 12) : (val_main_v116 (F := Ideal) I.aq I.ak I.av I.ab I.ao0 I.al0 I.ao1 I.al1 I.ac) (ix4 g b (tok i r) h) = (((((∑ d, I.cc b r h i d * I.pp b r h i g d) / (I.tot b r h i * I.eta b r h i) + -∑ g, (∑ d, I.cc b r h i d * I.pp b r h i g d) * (1 / (I.tot b r h i * I.eta b r h i * (I.tot b r h i * I.eta b r h i))) * (I.aa b r h i g * I.eta b r h i)) * (I.aa b r h i g * I.eta b r h i)) : ℝ) : EReal) := by
  rw [val_main_v116_apply]
  exact mul_at (I.v115_at g b i r h) (I.v74_at g b i r h)

theorem v121_at (b : Fin 2) (i : Fin 128) (r : Fin 16) (h : Fin 12) : (val_main_v121 (F := Ideal) I.aq I.ak I.av I.ab I.ao0 I.al0 I.ao1 I.al1 I.ac) (ix4 0 b (tok i r) h) = (((I.dl2 b r h i) : ℝ) : EReal) := by
  rw [val_main_v121_apply, I.dl2_eq]
  exact via (I.v116_at 2 b i r h) (ext4 rfl rfl rfl rfl)

theorem v122_at (b : Fin 2) (i : Fin 128) (r : Fin 16) (h : Fin 12) : (val_main_v122 (F := Ideal) I.aq I.ak I.av I.ab I.ao0 I.al0 I.ao1 I.al1 I.ac) (ix3 b (tok i r) h) = (((I.dl2 b r h i) : ℝ) : EReal) := by
  rw [val_main_v122_apply]
  exact via (I.v121_at b i r h) (ext4
    (Nat.lt_one_iff.mp (Fin.isLt _))
    (by show ((b.val * 2048 + (16 * i.val + r.val)) * 12 + h.val) / 24576 % 2 = b.val; omega)
    (by show ((b.val * 2048 + (16 * i.val + r.val)) * 12 + h.val) / 12 % 2048 = 16 * i.val + r.val; omega)
    (by show ((b.val * 2048 + (16 * i.val + r.val)) * 12 + h.val) % 12 = h.val; omega))

theorem v123_at (b : Fin 2) (i : Fin 128) (r : Fin 16) (h : Fin 12) : (val_main_v123 (F := Ideal) I.aq I.ak I.av I.ab I.ao0 I.al0 I.ao1 I.al1 I.ac) (ix4 b i r h) = (((I.dl2 b r h i) : ℝ) : EReal) := by
  rw [val_main_v123_apply]
  exact via (I.v122_at b i r h) (ext3
    (by show (((b.val * 128 + i.val) * 16 + r.val) * 12 + h.val) / 24576 = b.val; omega)
    (by show (((b.val * 128 + i.val) * 16 + r.val) * 12 + h.val) / 12 % 2048 = 16 * i.val + r.val; omega)
    (by show (((b.val * 128 + i.val) * 16 + r.val) * 12 + h.val) % 12 = h.val; omega))

theorem v124_at (b : Fin 2) (r : Fin 16) (h : Fin 12) (i : Fin 128) : (val_main_v124 (F := Ideal) I.aq I.ak I.av I.ab I.ao0 I.al0 I.ao1 I.al1 I.ac) (ix4 b r h i) = (((I.dl2 b r h i) : ℝ) : EReal) := by
  rw [val_main_v124_apply]
  exact via (I.v123_at b i r h) (ext4 rfl rfl rfl rfl )

theorem v125_at (b : Fin 2) (i : Fin 128) (r : Fin 16) (h : Fin 12) (d : Fin 64) : (val_main_v125 (F := Ideal) I.aq I.ak I.ab I.al0 I.al1 I.ac) (ix5 b i r h d) = (((I.do2 b r h i d) : ℝ) : EReal) := by
  rw [val_main_v125_apply]
  exact via (I.v103_at b i r h d) (ext4
    (by show ((((b.val * 128 + i.val) * 16 + r.val) * 12 + h.val) * 64 + d.val) / 1572864 = b.val; omega)
    (by show ((((b.val * 128 + i.val) * 16 + r.val) * 12 + h.val) * 64 + d.val) / 768 % 2048 = 16 * i.val + r.val; omega)
    (by show ((((b.val * 128 + i.val) * 16 + r.val) * 12 + h.val) * 64 + d.val) / 64 % 12 = h.val; omega)
    (by show ((((b.val * 128 + i.val) * 16 + r.val) * 12 + h.val) * 64 + d.val) % 64 = d.val; omega))

theorem v126_at (b : Fin 2) (r : Fin 16) (h : Fin 12) (i : Fin 128) (d : Fin 64) : (val_main_v126 (F := Ideal) I.aq I.ak I.ab I.al0 I.al1 I.ac) (ix5 b r h i d) = (((I.do2 b r h i d) : ℝ) : EReal) := by
  rw [val_main_v126_apply]
  exact via (I.v125_at b i r h d) (ext5 rfl rfl rfl rfl rfl )

theorem v127_at (b : Fin 2) (r : Fin 16) (h : Fin 12) (i : Fin 128) : (val_main_v127 (F := Ideal) I.aq I.ak I.av I.ab I.ao0 I.al0 I.ao1 I.al1 I.ac) (ix4 b r h i) = (((I.dl2 b r h i / (I.den b r h i * I.eps b r h i)) : ℝ) : EReal) := by
  rw [val_main_v127_apply]
  exact (div_at (I.den_eps_ne b r h i)) (I.v124_at b r h i) (I.v33_at b r h i)

theorem v128_at (b : Fin 2) (r : Fin 16) (h : Fin 12) (i : Fin 128) : (val_main_v128 (F := Ideal) I.aq I.ak I.av I.ab I.ao0 I.al0 I.ao1 I.al1 I.ac) (ix5 b r h i 0) = (((I.dl2 b r h i) : ℝ) : EReal) := by
  rw [val_main_v128_apply]
  exact via (I.v124_at b r h i) (ext4 rfl rfl rfl rfl )

theorem v129_at (b : Fin 2) (r : Fin 16) (h : Fin 12) (i : Fin 128) (d : Fin 64) : (val_main_v129 (F := Ideal) I.aq I.ak I.ab) (ix5 b r h i d) = (((1 / (I.den b r h i * I.eps b r h i * (I.den b r h i * I.eps b r h i))) : ℝ) : EReal) := by
  rw [val_main_v129_apply]
  exact via (I.v40_at b r h i) (ext5 rfl rfl rfl rfl rfl )

theorem v130_at (b : Fin 2) (r : Fin 16) (h : Fin 12) (i : Fin 128) (d : Fin 64) : (val_main_v130 (F := Ideal) I.aq I.ak I.ab I.al0 I.al1 I.ac) (ix5 b r h i d) = (((I.do2 b r h i d * (1 / (I.den b r h i * I.eps b r h i * (I.den b r h i * I.eps b r h i)))) : ℝ) : EReal) := by
  rw [val_main_v130_apply]
  exact mul_at (I.v126_at b r h i d) (I.v129_at b r h i d)

theorem v131_at (b : Fin 2) (r : Fin 16) (h : Fin 12) (i : Fin 128) (d : Fin 64) : (val_main_v131 (F := Ideal) I.aq I.ak I.av I.ab I.al0 I.al1 I.ac) (ix5 b r h i d) = (((I.do2 b r h i d * (1 / (I.den b r h i * I.eps b r h i * (I.den b r h i * I.eps b r h i))) * ∑ j, I.x b r h i j * I.eps b r h i * I.vv b r h j d) : ℝ) : EReal) := by
  rw [val_main_v131_apply]
  exact mul_at (I.v130_at b r h i d) (I.v34_at b r h i d)

theorem v132_at (b : Fin 2) (r : Fin 16) (h : Fin 12) (i : Fin 128) : (val_main_v132 (F := Ideal) I.aq I.ak I.av I.ab I.al0 I.al1 I.ac) (ix4 b r h i) = (((∑ d, I.do2 b r h i d * (1 / (I.den b r h i * I.eps b r h i * (I.den b r h i * I.eps b r h i))) * ∑ j, I.x b r h i j * I.eps b r h i * I.vv b r h j d) : ℝ) : EReal) := by
  rw [val_main_v132_apply]
  exact sum_at zero fun d => via (I.v131_at b r h i d) (ext5 rfl rfl rfl rfl rfl )

theorem v133_at (b : Fin 2) (r : Fin 16) (h : Fin 12) (i : Fin 128) : (val_main_v133 (F := Ideal) I.aq I.ak I.av I.ab I.al0 I.al1 I.ac) (ix5 b r h i 0) = (((∑ d, I.do2 b r h i d * (1 / (I.den b r h i * I.eps b r h i * (I.den b r h i * I.eps b r h i))) * ∑ j, I.x b r h i j * I.eps b r h i * I.vv b r h j d) : ℝ) : EReal) := by
  rw [val_main_v133_apply]
  exact via (I.v132_at b r h i) (ext4
    (by show ((((b.val * 16 + r.val) * 12 + h.val) * 128 + i.val) * 1 + 0) / 24576 = b.val; omega)
    (by show ((((b.val * 16 + r.val) * 12 + h.val) * 128 + i.val) * 1 + 0) / 1536 % 16 = r.val; omega)
    (by show ((((b.val * 16 + r.val) * 12 + h.val) * 128 + i.val) * 1 + 0) / 128 % 12 = h.val; omega)
    (by show ((((b.val * 16 + r.val) * 12 + h.val) * 128 + i.val) * 1 + 0) % 128 = i.val; omega))

theorem v134_at (b : Fin 2) (r : Fin 16) (h : Fin 12) (i : Fin 128) : (val_main_v134 (F := Ideal) I.aq I.ak I.av I.ab I.al0 I.al1 I.ac) (ix5 b r h i 0) = (((-∑ d, I.do2 b r h i d * (1 / (I.den b r h i * I.eps b r h i * (I.den b r h i * I.eps b r h i))) * ∑ j, I.x b r h i j * I.eps b r h i * I.vv b r h j d) : ℝ) : EReal) := by
  rw [val_main_v134_apply]
  exact neg_at (I.v133_at b r h i)

theorem v135_at (b : Fin 2) (r : Fin 16) (h : Fin 12) (i : Fin 128) (d : Fin 64) : (val_main_v135 (F := Ideal) I.aq I.ak I.ab) (ix5 b r h i d) = (((I.den b r h i * I.eps b r h i) : ℝ) : EReal) := by
  rw [val_main_v135_apply]
  exact via (I.v35_at b r h i) (ext5 rfl rfl rfl rfl rfl )

theorem v136_at (b : Fin 2) (r : Fin 16) (h : Fin 12) (i : Fin 128) (d : Fin 64) : (val_main_v136 (F := Ideal) I.aq I.ak I.ab I.al0 I.al1 I.ac) (ix5 b r h i d) = (((I.do2 b r h i d / (I.den b r h i * I.eps b r h i)) : ℝ) : EReal) := by
  rw [val_main_v136_apply]
  exact (div_at (I.den_eps_ne b r h i)) (I.v126_at b r h i d) (I.v135_at b r h i d)

theorem v137_at (b : Fin 2) (r : Fin 16) (h : Fin 12) (i : Fin 128) : (val_main_v137 (F := Ideal) I.aq I.ak I.av I.ab I.al0 I.al1 I.ac) (ix4 b r h i) = (((-∑ d, I.do2 b r h i d * (1 / (I.den b r h i * I.eps b r h i * (I.den b r h i * I.eps b r h i))) * ∑ j, I.x b r h i j * I.eps b r h i * I.vv b r h j d) : ℝ) : EReal) := by
  rw [val_main_v137_apply]
  rw [← Fin.sum_univ_one fun _ => -∑ d, I.do2 b r h i d * (1 / (I.den b r h i * I.eps b r h i * (I.den b r h i * I.eps b r h i))) * ∑ j, I.x b r h i j * I.eps b r h i * I.vv b r h j d]
  exact sum_at zero fun e => via (I.v134_at b r h i) (ext5 rfl rfl rfl rfl (by have := e.isLt; show e.val = 0; omega) )

theorem v138_at (b : Fin 2) (r : Fin 16) (h : Fin 12) (i : Fin 128) : (val_main_v138 (F := Ideal) I.aq I.ak I.av I.ab I.ao0 I.al0 I.ao1 I.al1 I.ac) (ix4 b r h i) = (((I.dd b r h i) : ℝ) : EReal) := by
  rw [val_main_v138_apply]
  exact add_at (I.v127_at b r h i) (I.v137_at b r h i)

theorem v139_at (b : Fin 2) (r : Fin 16) (h : Fin 12) (d : Fin 64) (j : Fin 128) : (val_main_v139 (F := Ideal) I.aq I.ak I.ab I.al0 I.al1 I.ac) (ix5 b r h d j) = (((∑ i, I.do2 b r h i d / (I.den b r h i * I.eps b r h i) * (I.x b r h i j * I.eps b r h i)) : ℝ) : EReal) := by
  rw [val_main_v139_apply]
  exact dot_at (fun i => via (I.v136_at b r h i d) (ext5 rfl rfl rfl rfl rfl)) fun i => via (I.v32_at b r h i j) (ext5 rfl rfl rfl rfl rfl)

theorem v140_at (b : Fin 2) (i : Fin 128) (r : Fin 16) (h : Fin 12) (d : Fin 64) : (val_main_v140 (F := Ideal) I.aq I.ak I.ab I.al0 I.al1 I.ac) (ix5 b i r h d) = ((I.dv b r h i d : ℝ) : EReal) := by
  rw [val_main_v140_apply, I.dv_eq]
  exact via (I.v139_at b r h d i) (ext5 rfl rfl rfl rfl rfl)

theorem v141_at (b : Fin 2) (r : Fin 16) (h : Fin 12) (i : Fin 128) (j : Fin 128) : (val_main_v141 (F := Ideal) I.aq I.ak I.av I.ab I.al0 I.al1 I.ac) (ix5 b r h i j) = (((∑ d, I.do2 b r h i d / (I.den b r h i * I.eps b r h i) * I.vv b r h j d) : ℝ) : EReal) := by
  rw [val_main_v141_apply]
  exact dot_at (fun d => via (I.v136_at b r h i d) (ext5 rfl rfl rfl rfl rfl )) fun d => via (I.v2_at b j r h d) (ext5 rfl rfl rfl rfl rfl )

theorem v142_at (b : Fin 2) (r : Fin 16) (h : Fin 12) (i : Fin 128) (j : Fin 128) : (val_main_v142 (F := Ideal) I.aq I.ak I.av I.ab I.ao0 I.al0 I.ao1 I.al1 I.ac) (ix5 b r h i j) = (((I.dd b r h i) : ℝ) : EReal) := by
  rw [val_main_v142_apply]
  exact via (I.v138_at b r h i) (ext4 rfl rfl rfl rfl )

theorem v143_at (b : Fin 2) (r : Fin 16) (h : Fin 12) (i : Fin 128) (j : Fin 128) : (val_main_v143 (F := Ideal) I.aq I.ak I.av I.ab I.ao0 I.al0 I.ao1 I.al1 I.ac) (ix5 b r h i j) = ((((∑ d, I.do2 b r h i d / (I.den b r h i * I.eps b r h i) * I.vv b r h j d) + I.dd b r h i) : ℝ) : EReal) := by
  rw [val_main_v143_apply]
  exact add_at (I.v141_at b r h i j) (I.v142_at b r h i j)

theorem v144_at (b : Fin 2) (r : Fin 16) (h : Fin 12) (i : Fin 128) (j : Fin 128) : (val_main_v144 (F := Ideal) I.aq I.ak I.av I.ab I.ao0 I.al0 I.ao1 I.al1 I.ac) (ix5 b r h i j) = (((I.gr b r h i j) : ℝ) : EReal) := by
  rw [val_main_v144_apply]
  exact mul_at (I.v143_at b r h i j) (I.v32_at b r h i j)

theorem v145_at (b : Fin 2) (r : Fin 16) (h : Fin 12) (i : Fin 128) (j : Fin 128) : (val_main_v145 (F := Ideal) I.aq I.ak I.av I.ab I.ao0 I.al0 I.ao1 I.al1 I.ac) (ix5 b r h i j) = (((-I.gr b r h i j) : ℝ) : EReal) := by
  rw [val_main_v145_apply]
  exact neg_at (I.v144_at b r h i j)

theorem v146_at (b : Fin 2) (r : Fin 16) (h : Fin 12) (i : Fin 128) : (val_main_v146 (F := Ideal) I.aq I.ak I.av I.ab I.ao0 I.al0 I.ao1 I.al1 I.ac) (ix4 b r h i) = (((∑ j, -I.gr b r h i j) : ℝ) : EReal) := by
  rw [val_main_v146_apply]
  exact sum_at zero fun j => via (I.v145_at b r h i j) (ext5 rfl rfl rfl rfl rfl )

theorem v147_at (b : Fin 2) (r : Fin 16) (h : Fin 12) (i : Fin 128) : (val_main_v147 (F := Ideal) I.aq I.ak I.av I.ab I.ao0 I.al0 I.ao1 I.al1 I.ac) (ix5 b r h i 0) = (((∑ j, -I.gr b r h i j) : ℝ) : EReal) := by
  rw [val_main_v147_apply]
  exact via (I.v146_at b r h i) (ext4
    (by show ((((b.val * 16 + r.val) * 12 + h.val) * 128 + i.val) * 1 + 0) / 24576 = b.val; omega)
    (by show ((((b.val * 16 + r.val) * 12 + h.val) * 128 + i.val) * 1 + 0) / 1536 % 16 = r.val; omega)
    (by show ((((b.val * 16 + r.val) * 12 + h.val) * 128 + i.val) * 1 + 0) / 128 % 12 = h.val; omega)
    (by show ((((b.val * 16 + r.val) * 12 + h.val) * 128 + i.val) * 1 + 0) % 128 = i.val; omega))

theorem v148_at (b : Fin 2) (r : Fin 16) (h : Fin 12) (i : Fin 128) : (val_main_v148 (F := Ideal) I.aq I.ak I.av I.ab I.ao0 I.al0 I.ao1 I.al1 I.ac) (ix5 b r h i 0) = (((0) : ℝ) : EReal) := by
  rw [val_main_v148_apply, ← I.rest_eq b r h i]
  exact add_at (I.v128_at b r h i) (I.v147_at b r h i)

theorem v149_at (b : Fin 2) (r : Fin 16) (h : Fin 12) (i : Fin 128) : (val_main_v149 (F := Ideal) I.aq I.ak I.av I.ab I.ao0 I.al0 I.ao1 I.al1 I.ac) (ix4 b r h i) = (((0) : ℝ) : EReal) := by
  rw [val_main_v149_apply]
  rw [← Fin.sum_univ_one fun _ : Fin 1 => (0 : ℝ)]
  exact sum_at zero fun e => via (I.v148_at b r h i) (ext5 rfl rfl rfl rfl (by have := e.isLt; show e.val = 0; omega) )

theorem v150_at (b : Fin 2) (r : Fin 16) (h : Fin 12) (i : Fin 128) : (val_main_v150 (F := Ideal) I.aq I.ak I.av I.ab I.ao0 I.al0 I.ao1 I.al1 I.ac) (ix4 b r h i) = (((0 / I.cnt b r h i) : ℝ) : EReal) := by
  rw [val_main_v150_apply]
  exact (div_at (I.cnt_ne b r h i)) (I.v149_at b r h i) (I.v28_at b r h i)

theorem v151_at (b : Fin 2) (r : Fin 16) (h : Fin 12) (i : Fin 128) (j : Fin 128) : (val_main_v151 (F := Ideal) I.aq I.ak I.av I.ab I.ao0 I.al0 I.ao1 I.al1 I.ac) (ix5 b r h i j) = (((0 / I.cnt b r h i) : ℝ) : EReal) := by
  rw [val_main_v151_apply]
  exact via (I.v150_at b r h i) (ext4 rfl rfl rfl rfl )

theorem v152_at (b : Fin 2) (r : Fin 16) (h : Fin 12) (i : Fin 128) (j : Fin 128) : (val_main_v152 (F := Ideal) I.aq I.ak I.av I.ab I.ao0 I.al0 I.ao1 I.al1 I.ac) (ix5 b r h i j) = (((0 / I.cnt b r h i * I.hit b r h i j) : ℝ) : EReal) := by
  rw [val_main_v152_apply]
  exact mul_at (I.v151_at b r h i j) (I.v27_at b r h i j)

theorem v153_at (b : Fin 2) (r : Fin 16) (h : Fin 12) (i : Fin 128) (j : Fin 128) : (val_main_v153 (F := Ideal) I.aq I.ak I.av I.ab I.ao0 I.al0 I.ao1 I.al1 I.ac) (ix5 b r h i j) = (((I.ds b r h i j) : ℝ) : EReal) := by
  rw [val_main_v153_apply, ← I.gr_eq]
  exact add_at (I.v144_at b r h i j) (I.v152_at b r h i j)

theorem ds_masked (b : Fin 2) (r : Fin 16) (h : Fin 12) (i j : Fin 128) (hj : ¬ j ≤ i) : I.ds b r h i j = 0 := by
  unfold ds AttnRow.dscore AttnRow.prob
  have : I.x b r h i j = 0 := by unfold x; rw [if_neg hj]
  rw [this, zero_div, zero_mul]

theorem v154_at (b : Fin 2) (r : Fin 16) (h : Fin 12) (i j : Fin 128) :
    (val_main_v154 (F := Ideal) I.aq I.ak I.av I.ab I.ao0 I.al0 I.ao1 I.al1 I.ac) (ix5 b r h i j) = ((I.ds b r h i j : ℝ) : EReal) := by
  rw [val_main_v154_apply, v22_1_at, I.v153_at, val_main_call1_v0_apply]
  by_cases hj : j ≤ i
  · rw [decide_eq_true hj]; rfl
  · rw [decide_eq_false hj, I.ds_masked b r h i j hj]
    exact Cert.AttnRefIdeal.Stages.zero

theorem v155_at (h : Fin 12) (i j : Fin 128) : (val_main_v155 (F := Ideal) I.aq I.ak I.av I.ab I.ao0 I.al0 I.ao1 I.al1 I.ac) (ix3 h i j) = ((I.db h i j : ℝ) : EReal) := by
  show Ideal.hostReduceAdd reducesTo_S2x16x12x128x128_S12x128x128_d0_1 (val_main_v154 (F := Ideal) I.aq I.ak I.av I.ab I.ao0 I.al0 I.ao1 I.al1 I.ac) (Ideal.ofBits .f32 0x00000000#32)
    (ix3 h i j) = _
  rw [Cert.AttnRefIdeal.Stages.sum5_a01, Cert.AttnRefIdeal.Stages.zero, zero_add]
  unfold db
  rw [← coe_sum]
  refine Finset.sum_congr rfl fun b _ => ?_
  rw [← coe_sum]
  exact Finset.sum_congr rfl fun r _ => I.v154_at b r h i j

theorem v156_at (h : Fin 12) (i j : Fin 128) : (val_main_v156 (F := Ideal) I.aq I.ak I.av I.ab I.ao0 I.al0 I.ao1 I.al1 I.ac) (ix5 0 0 h i j) = ((I.db h i j : ℝ) : EReal) := by
  rw [val_main_v156_apply]
  exact via (I.v155_at h i j) (ext3
    (by show ((((0 * 1 + 0) * 12 + h.val) * 128 + i.val) * 128 + j.val) / 16384 = h.val; omega)
    (by show ((((0 * 1 + 0) * 12 + h.val) * 128 + i.val) * 128 + j.val) / 128 % 128 = i.val; omega)
    (by show ((((0 * 1 + 0) * 12 + h.val) * 128 + i.val) * 128 + j.val) % 128 = j.val; omega))

theorem v157_at (h : Fin 12) (i j : Fin 128) : (val_main_v157 (F := Ideal) I.aq I.ak I.av I.ab I.ao0 I.al0 I.ao1 I.al1 I.ac) (ix3 h i j) = ((I.db h i j : ℝ) : EReal) := by
  show Ideal.hostReduceAdd reducesTo_S1x1x12x128x128_S12x128x128_d0_1 (val_main_v156 (F := Ideal) I.aq I.ak I.av I.ab I.ao0 I.al0 I.ao1 I.al1 I.ac) (Ideal.ofBits .f32 0x00000000#32)
    (ix3 h i j) = _
  rw [Cert.AttnRefIdeal.Stages.sum5_a01, Cert.AttnRefIdeal.Stages.zero, zero_add, Fin.sum_univ_one, Fin.sum_univ_one]
  exact I.v156_at h i j

theorem v158_eq : (val_main_v158 (F := Ideal) I.aq I.ak I.av I.ab I.ao0 I.al0 I.ao1 I.al1 I.ac) = outB I := by
  funext t
  change S12x128x256.Idx at t
  have hh := I.v157_at
  unfold val_main_v158
  generalize (val_main_v157 (F := Ideal) I.aq I.ak I.av I.ab I.ao0 I.al0 I.ao1 I.al1 I.ac) = y at *
  idx_vars t
  pointwise
  show _ = (if h : 128 ≤ t2.val then ((I.db t0 t1 ⟨t2.val - 128, by omega⟩ : ℝ) : EReal) else 0)
  by_cases h2 : 128 ≤ t2.val
  · rw [dif_pos ⟨h2, by omega⟩, dif_pos h2]
    exact hh t0 t1 _
  · rw [dif_neg (fun h => h2 h.1), dif_neg h2]
    exact Cert.AttnRefIdeal.Stages.zero

theorem v159_at (b : Fin 2) (r : Fin 16) (h : Fin 12) (i : Fin 128) (j : Fin 128) : (val_main_v159 (F := Ideal)) (ix5 b r h i j) = ((((1 / 8 : ℝ)) : ℝ) : EReal) := by
  rw [val_main_v159_apply]
  exact eighth

theorem v160_at (b : Fin 2) (r : Fin 16) (h : Fin 12) (i : Fin 128) (j : Fin 128) : (val_main_v160 (F := Ideal) I.aq I.ak I.av I.ab I.ao0 I.al0 I.ao1 I.al1 I.ac) (ix5 b r h i j) = (((I.ds b r h i j * (1 / 8)) : ℝ) : EReal) := by
  rw [val_main_v160_apply]
  exact mul_at (I.v154_at b r h i j) (v159_at b r h i j)

theorem v161_at (b : Fin 2) (r : Fin 16) (h : Fin 12) (j : Fin 128) (d : Fin 64) : (val_main_v161 (F := Ideal) I.aq I.ak I.av I.ab I.ao0 I.al0 I.ao1 I.al1 I.ac) (ix5 b r h j d) = (((I.dk b r h j d) : ℝ) : EReal) := by
  rw [val_main_v161_apply]
  exact dot_at (fun i => via (I.v160_at b r h i j) (ext5 rfl rfl rfl rfl rfl)) fun i => via (I.v0_at b i r h d) (ext5 rfl rfl rfl rfl rfl)

theorem v162_at (b : Fin 2) (i : Fin 128) (r : Fin 16) (h : Fin 12) (d : Fin 64) : (val_main_v162 (F := Ideal) I.aq I.ak I.av I.ab I.ao0 I.al0 I.ao1 I.al1 I.ac) (ix5 b i r h d) = (((I.dk b r h i d) : ℝ) : EReal) := by
  rw [val_main_v162_apply]
  exact via (I.v161_at b r h i d) (ext5 rfl rfl rfl rfl rfl )

theorem v163_at (b : Fin 2) (r : Fin 16) (h : Fin 12) (i : Fin 128) (d : Fin 64) : (val_main_v163 (F := Ideal) I.aq I.ak I.av I.ab I.ao0 I.al0 I.ao1 I.al1 I.ac) (ix5 b r h i d) = (((I.dq b r h i d) : ℝ) : EReal) := by
  rw [val_main_v163_apply]
  exact dot_at (fun j => via (I.v160_at b r h i j) (ext5 rfl rfl rfl rfl rfl)) fun j => via (I.v1_at b j r h d) (ext5 rfl rfl rfl rfl rfl)

theorem v164_at (b : Fin 2) (i : Fin 128) (r : Fin 16) (h : Fin 12) (d : Fin 64) : (val_main_v164 (F := Ideal) I.aq I.ak I.av I.ab I.ao0 I.al0 I.ao1 I.al1 I.ac) (ix5 b i r h d) = (((I.dq b r h i d) : ℝ) : EReal) := by
  rw [val_main_v164_apply]
  exact via (I.v163_at b r h i d) (ext5 rfl rfl rfl rfl rfl )

theorem v165_at (b : Fin 2) (i : Fin 128) (r : Fin 16) (h : Fin 12) (d : Fin 64) : (val_main_v165 (F := Ideal) I.aq I.ak I.ab I.al0 I.al1 I.ac) (ix4 b (tok i r) h d) = (((I.dv b r h i d) : ℝ) : EReal) := by
  rw [val_main_v165_apply]
  exact via (I.v140_at b i r h d) (ext5
    (by show (((b.val * 2048 + (16 * i.val + r.val)) * 12 + h.val) * 64 + d.val) / 1572864 = b.val; omega)
    (by show (((b.val * 2048 + (16 * i.val + r.val)) * 12 + h.val) * 64 + d.val) / 12288 % 128 = i.val; omega)
    (by show (((b.val * 2048 + (16 * i.val + r.val)) * 12 + h.val) * 64 + d.val) / 768 % 16 = r.val; omega)
    (by show (((b.val * 2048 + (16 * i.val + r.val)) * 12 + h.val) * 64 + d.val) / 64 % 12 = h.val; omega)
    (by show (((b.val * 2048 + (16 * i.val + r.val)) * 12 + h.val) * 64 + d.val) % 64 = d.val; omega))

theorem v166_at (b : Fin 2) (i : Fin 128) (r : Fin 16) (h : Fin 12) (d : Fin 64) : (val_main_v166 (F := Ideal) I.aq I.ak I.av I.ab I.ao0 I.al0 I.ao1 I.al1 I.ac) (ix4 b (tok i r) h d) = (((I.dk b r h i d) : ℝ) : EReal) := by
  rw [val_main_v166_apply]
  exact via (I.v162_at b i r h d) (ext5
    (by show (((b.val * 2048 + (16 * i.val + r.val)) * 12 + h.val) * 64 + d.val) / 1572864 = b.val; omega)
    (by show (((b.val * 2048 + (16 * i.val + r.val)) * 12 + h.val) * 64 + d.val) / 12288 % 128 = i.val; omega)
    (by show (((b.val * 2048 + (16 * i.val + r.val)) * 12 + h.val) * 64 + d.val) / 768 % 16 = r.val; omega)
    (by show (((b.val * 2048 + (16 * i.val + r.val)) * 12 + h.val) * 64 + d.val) / 64 % 12 = h.val; omega)
    (by show (((b.val * 2048 + (16 * i.val + r.val)) * 12 + h.val) * 64 + d.val) % 64 = d.val; omega))

theorem v167_at (b : Fin 2) (i : Fin 128) (r : Fin 16) (h : Fin 12) (d : Fin 64) : (val_main_v167 (F := Ideal) I.aq I.ak I.av I.ab I.ao0 I.al0 I.ao1 I.al1 I.ac) (ix4 b (tok i r) h d) = (((I.dq b r h i d) : ℝ) : EReal) := by
  rw [val_main_v167_apply]
  exact via (I.v164_at b i r h d) (ext5
    (by show (((b.val * 2048 + (16 * i.val + r.val)) * 12 + h.val) * 64 + d.val) / 1572864 = b.val; omega)
    (by show (((b.val * 2048 + (16 * i.val + r.val)) * 12 + h.val) * 64 + d.val) / 12288 % 128 = i.val; omega)
    (by show (((b.val * 2048 + (16 * i.val + r.val)) * 12 + h.val) * 64 + d.val) / 768 % 16 = r.val; omega)
    (by show (((b.val * 2048 + (16 * i.val + r.val)) * 12 + h.val) * 64 + d.val) / 64 % 12 = h.val; omega)
    (by show (((b.val * 2048 + (16 * i.val + r.val)) * 12 + h.val) * 64 + d.val) % 64 = d.val; omega))

/-- A head's pair, and a head's component among the lanes of its pair. -/
def pairOf (h : Fin 12) : Fin 6 := ⟨h.val / 2, by omega⟩
def inPair (h : Fin 12) (d : Fin 64) : Fin 128 := ⟨h.val % 2 * 64 + d.val, by omega⟩

theorem v168_at (b : Fin 2) (i : Fin 128) (r : Fin 16) (h : Fin 12) (d : Fin 64) : (val_main_v168 (F := Ideal) I.aq I.ak I.av I.ab I.ao0 I.al0 I.ao1 I.al1 I.ac) (ix4 b (tok i r) (pairOf h) (inPair h d)) = (((I.dq b r h i d) : ℝ) : EReal) := by
  rw [val_main_v168_apply]
  exact via (I.v167_at b i r h d) (ext4
    (by show (((b.val * 2048 + (16 * i.val + r.val)) * 6 + h.val / 2) * 128 + (h.val % 2 * 64 + d.val)) / 1572864 = b.val; omega)
    (by show (((b.val * 2048 + (16 * i.val + r.val)) * 6 + h.val / 2) * 128 + (h.val % 2 * 64 + d.val)) / 768 % 2048 = 16 * i.val + r.val; omega)
    (by show (((b.val * 2048 + (16 * i.val + r.val)) * 6 + h.val / 2) * 128 + (h.val % 2 * 64 + d.val)) / 64 % 12 = h.val; omega)
    (by show (((b.val * 2048 + (16 * i.val + r.val)) * 6 + h.val / 2) * 128 + (h.val % 2 * 64 + d.val)) % 64 = d.val; omega))

theorem v169_at (b : Fin 2) (i : Fin 128) (r : Fin 16) (h : Fin 12) (d : Fin 64) : (val_main_v169 (F := Ideal) I.aq I.ak I.av I.ab I.ao0 I.al0 I.ao1 I.al1 I.ac) (ix4 b (tok i r) (pairOf h) (inPair h d)) = (((I.dk b r h i d) : ℝ) : EReal) := by
  rw [val_main_v169_apply]
  exact via (I.v166_at b i r h d) (ext4
    (by show (((b.val * 2048 + (16 * i.val + r.val)) * 6 + h.val / 2) * 128 + (h.val % 2 * 64 + d.val)) / 1572864 = b.val; omega)
    (by show (((b.val * 2048 + (16 * i.val + r.val)) * 6 + h.val / 2) * 128 + (h.val % 2 * 64 + d.val)) / 768 % 2048 = 16 * i.val + r.val; omega)
    (by show (((b.val * 2048 + (16 * i.val + r.val)) * 6 + h.val / 2) * 128 + (h.val % 2 * 64 + d.val)) / 64 % 12 = h.val; omega)
    (by show (((b.val * 2048 + (16 * i.val + r.val)) * 6 + h.val / 2) * 128 + (h.val % 2 * 64 + d.val)) % 64 = d.val; omega))

theorem v170_at (b : Fin 2) (i : Fin 128) (r : Fin 16) (h : Fin 12) (d : Fin 64) : (val_main_v170 (F := Ideal) I.aq I.ak I.ab I.al0 I.al1 I.ac) (ix4 b (tok i r) (pairOf h) (inPair h d)) = (((I.dv b r h i d) : ℝ) : EReal) := by
  rw [val_main_v170_apply]
  exact via (I.v165_at b i r h d) (ext4
    (by show (((b.val * 2048 + (16 * i.val + r.val)) * 6 + h.val / 2) * 128 + (h.val % 2 * 64 + d.val)) / 1572864 = b.val; omega)
    (by show (((b.val * 2048 + (16 * i.val + r.val)) * 6 + h.val / 2) * 128 + (h.val % 2 * 64 + d.val)) / 768 % 2048 = 16 * i.val + r.val; omega)
    (by show (((b.val * 2048 + (16 * i.val + r.val)) * 6 + h.val / 2) * 128 + (h.val % 2 * 64 + d.val)) / 64 % 12 = h.val; omega)
    (by show (((b.val * 2048 + (16 * i.val + r.val)) * 6 + h.val / 2) * 128 + (h.val % 2 * 64 + d.val)) % 64 = d.val; omega))

theorem v171_at (b : Fin 2) (i : Fin 128) (r : Fin 16) (h : Fin 12) (d : Fin 64) : (val_main_v171 (F := Ideal) I.aq I.ak I.av I.ab I.ao0 I.al0 I.ao1 I.al1 I.ac) (ix5 b (tok i r) (pairOf h) 0 (inPair h d)) = (((I.dq b r h i d) : ℝ) : EReal) := by
  rw [val_main_v171_apply]
  exact via (I.v168_at b i r h d) (ext4 rfl rfl rfl rfl )

theorem v172_at (b : Fin 2) (i : Fin 128) (r : Fin 16) (h : Fin 12) (d : Fin 64) : (val_main_v172 (F := Ideal) I.aq I.ak I.av I.ab I.ao0 I.al0 I.ao1 I.al1 I.ac) (ix5 b (tok i r) (pairOf h) 0 (inPair h d)) = (((I.dk b r h i d) : ℝ) : EReal) := by
  rw [val_main_v172_apply]
  exact via (I.v169_at b i r h d) (ext4 rfl rfl rfl rfl )

theorem v173_at (b : Fin 2) (i : Fin 128) (r : Fin 16) (h : Fin 12) (d : Fin 64) : (val_main_v173 (F := Ideal) I.aq I.ak I.ab I.al0 I.al1 I.ac) (ix5 b (tok i r) (pairOf h) 0 (inPair h d)) = (((I.dv b r h i d) : ℝ) : EReal) := by
  rw [val_main_v173_apply]
  exact via (I.v170_at b i r h d) (ext4 rfl rfl rfl rfl )

theorem v174_at (b : Fin 2) (i : Fin 128) (r : Fin 16) (h : Fin 12) (part : Fin 3) (d : Fin 64) :
    (val_main_v174 (F := Ideal) I.aq I.ak I.av I.ab I.ao0 I.al0 I.ao1 I.al1 I.ac) (ix5 b (tok i r) (pairOf h) part (inPair h d)) = ((I.dqkv b r h i d part : ℝ) : EReal) := by
  have h0 := I.v171_at b i r h d
  have h1 := I.v172_at b i r h d
  have h2 := I.v173_at b i r h d
  unfold val_main_v174
  generalize (val_main_v171 (F := Ideal) I.aq I.ak I.av I.ab I.ao0 I.al0 I.ao1 I.al1 I.ac) = y0 at *
  generalize (val_main_v172 (F := Ideal) I.aq I.ak I.av I.ab I.ao0 I.al0 I.ao1 I.al1 I.ac) = y1 at *
  generalize (val_main_v173 (F := Ideal) I.aq I.ak I.ab I.al0 I.al1 I.ac) = y2 at *
  unfold dqkv
  fin_cases part
  · refine Eq.trans ?_ h0
    pointwise
    try rfl
  · refine Eq.trans ?_ h1
    pointwise
    try rfl
  · refine Eq.trans ?_ h2
    pointwise
    try rfl

theorem v177_eq : (val_main_v177 (F := Ideal) I.aq I.ak I.av I.ab I.ao0 I.al0 I.ao1 I.al1 I.ac) = outQKV I := by
  funext t
  have ht : ∃ (b : Fin 2) (r : Fin 16) (i : Fin 128) (l : Fin 2304), t = ix4 b r i l :=
    ⟨t 0, t 1, t 2, t 3, ext4 rfl rfl rfl rfl⟩
  obtain ⟨b, r, i, l, rfl⟩ := ht
  obtain ⟨part, h, d, rfl⟩ := lane_surj l
  rw [outQKV_at, val_main_v177_apply, val_main_v176_apply, val_main_v175_apply]
  show (val_main_v174 (F := Ideal) I.aq I.ak I.av I.ab I.ao0 I.al0 I.ao1 I.al1 I.ac) _ = _
  have e : (lane part h d).val = h.val / 2 * 384 + part.val * 128 + h.val % 2 * 64 + d.val := rfl
  exact via (I.v174_at b i r h part d) (ext5
    (by show (((b.val * 128 + i.val) * 16 + r.val) * 2304 + (lane part h d).val) / 4718592 = b.val; omega)
    (by show (((b.val * 128 + i.val) * 16 + r.val) * 2304 + (lane part h d).val) / 2304 % 2048 = 16 * i.val + r.val
        omega)
    (by show (((b.val * 128 + i.val) * 16 + r.val) * 2304 + (lane part h d).val) / 384 % 6 = h.val / 2; omega)
    (by show (((b.val * 128 + i.val) * 16 + r.val) * 2304 + (lane part h d).val) / 128 % 3 = part.val; omega)
    (by show (((b.val * 128 + i.val) * 16 + r.val) * 2304 + (lane part h d).val) % 128 = h.val % 2 * 64 + d.val
        omega))

end Cert.AttnMath.In

end
-- ==== Proof.Attn.HostVal.lean ====
module

public import proofs.«01_k».proof.Proof.Gen.AttnIdeal.Launch
public import proofs.«01_k».proof.Proof.Attn.Ref

@[expose] public section

set_option maxRecDepth 16384

noncomputable section

/-! The forward pass before the attention's backward kernel, value by value, on real arguments. -/

namespace Cert.AttnMath.In

variable (I : Cert.AttnMath.In) (b : Fin 2) (r : Fin 16) (h : Fin 12) (i : Fin 128) (d : Fin 64)

/-- The largest of the three groups' log-denominators. -/
def mx : ℝ := max (max (I.l0 b (tok i r) h) (I.l1 b (tok i r) h)) (I.l2 b r h i)

/-- The combined output of the three groups. -/
def mix : ℝ :=
  I.a0 b r h i / I.tot b r h i * I.p0 b r h i d + I.a1 b r h i / I.tot b r h i * I.p1 b r h i d
    + I.den b r h i / I.tot b r h i * I.p2 b r h i d

theorem log_tot (t : ℝ) : t + Real.log (Real.exp (I.l0 b (tok i r) h - t) + Real.exp (I.l1 b (tok i r) h - t)
    + Real.exp (I.l2 b r h i - t)) = Real.log (I.tot b r h i) := by
  rw [Real.exp_sub, Real.exp_sub, Real.exp_sub, I.exp_l2, ← add_div, ← add_div]
  show t + Real.log (I.tot b r h i / Real.exp t) = _
  rw [Real.log_div (I.tot_pos b r h i).ne' (Real.exp_pos t).ne', Real.log_exp]
  ring

theorem exp_sub_tot (a : ℝ) : Real.exp (a - Real.log (I.tot b r h i)) = Real.exp a / I.tot b r h i := by
  rw [Real.exp_sub, Real.exp_log (I.tot_pos b r h i)]

theorem p2_eq : I.p2 b r h i d = AttnRow.out (I.x b r h i) (I.vv b r h) d :=
  AttnRow.out_scaled (I.eps_pos b r h i).ne' d

theorem sum_mix : ∑ d, I.cc b r h i d * I.mix b r h i d = I.ebar b r h i := by
  unfold ebar AttnRow.ebar mix
  simp only [p2_eq]
  rfl

end Cert.AttnMath.In

namespace Cert.AttnIdeal.HostVal

open Cert.AttnIdeal Cert.AttnIdeal.Gen Idealize.ShloMosaic Cert.AttnMath Cert.AttnMath.In Cert.AttnRefIdeal.Stages
  Cert.AttnRefIdeal.Read Cert.AttnRow

theorem rd4 (f : Fin 2 → Fin 2048 → Fin 12 → Fin 64 → ℝ) (b : Fin 2) (i : Fin 128) (r : Fin 16) (h : Fin 12) (d : Fin 64)
    (p : i.val * 16 + r.val < 2048) : arr4 f (ix4 b ⟨i.val * 16 + r.val, p⟩ h d) = ((f b (tok i r) h d : ℝ) : EReal) := by
  rw [show (⟨i.val * 16 + r.val, p⟩ : Fin 2048) = tok i r from
    Fin.ext (by show i.val * 16 + r.val = 16 * i.val + r.val; omega)]
  rfl

theorem rd3 (f : Fin 2 → Fin 2048 → Fin 12 → ℝ) (b : Fin 2) (i : Fin 128) (r : Fin 16) (h : Fin 12)
    (p : i.val * 16 + r.val < 2048) : arr3 f (ix3 b ⟨i.val * 16 + r.val, p⟩ h) = ((f b (tok i r) h : ℝ) : EReal) := by
  rw [show (⟨i.val * 16 + r.val, p⟩ : Fin 2048) = tok i r from
    Fin.ext (by show i.val * 16 + r.val = 16 * i.val + r.val; omega)]
  rfl

theorem max3 (a b c : ℝ) : ((max (max a b) c : ℝ) : EReal) = max (max (a : EReal) (b : EReal)) (c : EReal) := by
  rw [EReal.coe_strictMono.monotone.map_max, EReal.coe_strictMono.monotone.map_max]

theorem at25 (I : Cert.AttnMath.In) {g0 : FVec Ideal S2x2048x12x64 .f32} (w0 : g0 = I.aq) {g1 : FVec Ideal S2x2048x12x64 .f32} (w1 : g1 = I.ak)
    {y14 : FVec Ideal S12x128x256 .f32} (h14 : ∀ (h : Fin 12) (i j : Fin 128), y14 (ix3 h i (hi j)) = (if j ≤ i then ((I.bias h i (hi j) : ℝ) : EReal) else ⊥))
    (b : Fin 2) (r : Fin 16) (h : Fin 12) (i j : Fin 128) :
    (addf (mulf (Host.dotGeneral dot_S2x16x12x128x64_S2x16x12x128x64_S2x16x12x128x128_4_4_3_3_012_012 none (transpose S2x16x12x128x64 [0, 2, 3, 1, 4] (shapeCast S2x128x16x12x64 g0 shapeCasts_S2x2048x12x64_S2x128x16x12x64) transposes_S2x128x16x12x64_S2x16x12x128x64_0_2_3_1_4 : FVec Ideal S2x16x12x128x64 .f32) (transpose S2x16x12x128x64 [0, 2, 3, 1, 4] (shapeCast S2x128x16x12x64 g1 shapeCasts_S2x2048x12x64_S2x128x16x12x64) transposes_S2x128x16x12x64_S2x16x12x128x64_0_2_3_1_4 : FVec Ideal S2x16x12x128x64 .f32)) (broadcastInDim S2x16x12x128x128 ![] bcast_S_S2x16x12x128x128 (((constant S_ .f32 0x3E000000#32) : FVec Ideal S_ .f32)))) (broadcastInDim S2x16x12x128x128 ![0, 1, 2, 3, 4] bcast_S1x1x12x128x128_S2x16x12x128x128_0_1_2_3_4 (broadcastInDim S1x1x12x128x128 ![2, 3, 4] bcast_S12x128x128_S1x1x12x128x128_2_3_4 (extractStridedSlice S12x128x128 ![0, 0, 128] y14 slices_S12x128x256_S12x128x128_0_0_128))) : FVec Ideal S2x16x12x128x128 .f32) (ix5 b r h i j) = (if j ≤ i then ((I.sc b r h i j : ℝ) : EReal) else ⊥) := by
  subst_vars
  pointwise
  simp only [rd4]
  refine (congrArg₂ (· + ·) (congrArg₂ (· * ·) (dot_at (fun _ => rfl) fun _ => rfl) eighth) (h14 h i j)).trans ?_
  unfold sc
  by_cases hj : j ≤ i
  · rw [if_pos hj, if_pos hj, EReal.coe_add, EReal.coe_mul]
  · rw [if_neg hj, if_neg hj]; exact EReal.add_bot _

theorem at26 (I : Cert.AttnMath.In)
    {y25 : FVec Ideal S2x16x12x128x128 .f32} (h25 : ∀ (b : Fin 2) (r : Fin 16) (h : Fin 12) (i j : Fin 128), y25 (ix5 b r h i j) = (if j ≤ i then ((I.sc b r h i j : ℝ) : EReal) else ⊥))
    (b : Fin 2) (r : Fin 16) (h : Fin 12) (i : Fin 128) :
    (Host.reduce FloatOps.maximumf y25 (((constant S_ .f32 0xFF800000#32) : FVec Ideal S_ .f32)) reducesTo_S2x16x12x128x128_S2x16x12x128_d4 h_S_ : FVec Ideal S2x16x12x128 .f32) (ix4 b r h i) = ((I.top b r h i : ℝ) : EReal) := by
  have e : y25 = val_main_v22_0 (F := Ideal) I.aq I.ak I.ab := by
    funext k
    have hk : ∃ (b : Fin 2) (r : Fin 16) (h : Fin 12) (i j : Fin 128), k = ix5 b r h i j :=
      ⟨k 0, k 1, k 2, k 3, k 4, ext5 rfl rfl rfl rfl rfl⟩
    obtain ⟨b, r, h, i, j, rfl⟩ := hk
    rw [h25, I.v22_0_at]
  subst e
  exact I.v23_at b r h i

theorem at30 (I : Cert.AttnMath.In)
    {y25 : FVec Ideal S2x16x12x128x128 .f32} (h25 : ∀ (b : Fin 2) (r : Fin 16) (h : Fin 12) (i j : Fin 128), y25 (ix5 b r h i j) = (if j ≤ i then ((I.sc b r h i j : ℝ) : EReal) else ⊥))
    {y26 : FVec Ideal S2x16x12x128 .f32} (h26 : ∀ (b : Fin 2) (r : Fin 16) (h : Fin 12) (i : Fin 128), y26 (ix4 b r h i) = ((I.top b r h i : ℝ) : EReal))
    (b : Fin 2) (r : Fin 16) (h : Fin 12) (i j : Fin 128) :
    (Host.exp (subf y25 (broadcastInDim S2x16x12x128x128 ![0, 1, 2, 3, 4] bcast_S2x16x12x128x1_S2x16x12x128x128_0_1_2_3_4 (broadcastInDim S2x16x12x128x1 ![0, 1, 2, 3] bcast_S2x16x12x128_S2x16x12x128x1_0_1_2_3 y26))) : FVec Ideal S2x16x12x128x128 .f32) (ix5 b r h i j) = ((I.x b r h i j * I.eps b r h i : ℝ) : EReal) := by
  pointwise
  rw [h25, h26]
  unfold x eps
  by_cases hj : j ≤ i
  · rw [if_pos hj, if_pos hj, ← Real.exp_add, ← sub_eq_add_neg, ← EReal.coe_sub, Ideal.exp_coe]
  · rw [if_neg hj, if_neg hj, zero_mul, EReal.bot_sub, Ideal.exp_bot]
    rfl

theorem at31 (I : Cert.AttnMath.In)
    {y30 : FVec Ideal S2x16x12x128x128 .f32} (h30 : ∀ (b : Fin 2) (r : Fin 16) (h : Fin 12) (i j : Fin 128), y30 (ix5 b r h i j) = ((I.x b r h i j * I.eps b r h i : ℝ) : EReal))
    (b : Fin 2) (r : Fin 16) (h : Fin 12) (i : Fin 128) :
    (Host.reduceAdd y30 (((constant S_ .f32 0x00000000#32) : FVec Ideal S_ .f32)) reducesTo_S2x16x12x128x128_S2x16x12x128_d4 h_S_ : FVec Ideal S2x16x12x128 .f32) (ix4 b r h i) = ((I.den b r h i * I.eps b r h i : ℝ) : EReal) := by
  pointwise
  simp only [h30]
  rw [coe_sum, I.den_mul]

theorem at37 (I : Cert.AttnMath.In) {g2 : FVec Ideal S2x2048x12x64 .f32} (w2 : g2 = I.av)
    {y30 : FVec Ideal S2x16x12x128x128 .f32} (h30 : ∀ (b : Fin 2) (r : Fin 16) (h : Fin 12) (i j : Fin 128), y30 (ix5 b r h i j) = ((I.x b r h i j * I.eps b r h i : ℝ) : EReal))
    {y31 : FVec Ideal S2x16x12x128 .f32} (h31 : ∀ (b : Fin 2) (r : Fin 16) (h : Fin 12) (i : Fin 128), y31 (ix4 b r h i) = ((I.den b r h i * I.eps b r h i : ℝ) : EReal))
    (b : Fin 2) (r : Fin 16) (h : Fin 12) (i : Fin 128) (d : Fin 64) :
    (Host.divf (Host.dotGeneral dot_S2x16x12x128x128_S2x16x12x128x64_S2x16x12x128x64_4_3_3_4_012_012 none y30 (transpose S2x16x12x128x64 [0, 2, 3, 1, 4] (shapeCast S2x128x16x12x64 g2 shapeCasts_S2x2048x12x64_S2x128x16x12x64) transposes_S2x128x16x12x64_S2x16x12x128x64_0_2_3_1_4 : FVec Ideal S2x16x12x128x64 .f32)) (broadcastInDim S2x16x12x128x64 ![0, 1, 2, 3, 4] bcast_S2x16x12x128x1_S2x16x12x128x64_0_1_2_3_4 (broadcastInDim S2x16x12x128x1 ![0, 1, 2, 3] bcast_S2x16x12x128_S2x16x12x128x1_0_1_2_3 y31)) : FVec Ideal S2x16x12x128x64 .f32) (ix5 b r h i d) = ((I.p2 b r h i d : ℝ) : EReal) := by
  subst_vars
  pointwise
  simp only [rd4]
  rw [h31, dot_at (fun _ => h30 _ _ _ _ _) (fun _ => rfl)]
  exact div_coe_coe _ (I.den_eps_ne b r h i)

theorem at40 (I : Cert.AttnMath.In)
    {y26 : FVec Ideal S2x16x12x128 .f32} (h26 : ∀ (b : Fin 2) (r : Fin 16) (h : Fin 12) (i : Fin 128), y26 (ix4 b r h i) = ((I.top b r h i : ℝ) : EReal))
    {y31 : FVec Ideal S2x16x12x128 .f32} (h31 : ∀ (b : Fin 2) (r : Fin 16) (h : Fin 12) (i : Fin 128), y31 (ix4 b r h i) = ((I.den b r h i * I.eps b r h i : ℝ) : EReal))
    (b : Fin 2) (r : Fin 16) (h : Fin 12) (i : Fin 128) :
    (shapeCast S2x16x12x128 (addf (broadcastInDim S2x16x12x128x1 ![0, 1, 2, 3] bcast_S2x16x12x128_S2x16x12x128x1_0_1_2_3 y26) (Host.log (broadcastInDim S2x16x12x128x1 ![0, 1, 2, 3] bcast_S2x16x12x128_S2x16x12x128x1_0_1_2_3 y31))) shapeCasts_S2x16x12x128x1_S2x16x12x128 : FVec Ideal S2x16x12x128 .f32) (ix4 b r h i) = ((I.l2 b r h i : ℝ) : EReal) := by
  pointwise
  rw [h26, h31, log_coe_pos (I.den_eps_pos b r h i), ← EReal.coe_add]
  rfl

theorem at43 (I : Cert.AttnMath.In) {g5 : FVec Ideal S2x2048x12 .f32} (w5 : g5 = I.al0)
    (b : Fin 2) (r : Fin 16) (h : Fin 12) (i : Fin 128) :
    (transpose S2x16x12x128 [0, 1, 3, 2] (transpose S2x16x128x12 [0, 2, 1, 3] (shapeCast S2x128x16x12 g5 shapeCasts_S2x2048x12_S2x128x16x12) transposes_S2x128x16x12_S2x16x128x12_0_2_1_3) transposes_S2x16x128x12_S2x16x12x128_0_1_3_2 : FVec Ideal S2x16x12x128 .f32) (ix4 b r h i) = ((I.l0 b (tok i r) h : ℝ) : EReal) := by
  subst_vars
  pointwise
  exact rd3 _ _ _ _ _ _

theorem at46 (I : Cert.AttnMath.In) {g7 : FVec Ideal S2x2048x12 .f32} (w7 : g7 = I.al1)
    (b : Fin 2) (r : Fin 16) (h : Fin 12) (i : Fin 128) :
    (transpose S2x16x12x128 [0, 1, 3, 2] (transpose S2x16x128x12 [0, 2, 1, 3] (shapeCast S2x128x16x12 g7 shapeCasts_S2x2048x12_S2x128x16x12) transposes_S2x128x16x12_S2x16x128x12_0_2_1_3) transposes_S2x16x128x12_S2x16x12x128_0_1_3_2 : FVec Ideal S2x16x12x128 .f32) (ix4 b r h i) = ((I.l1 b (tok i r) h : ℝ) : EReal) := by
  subst_vars
  pointwise
  exact rd3 _ _ _ _ _ _

theorem at48 (I : Cert.AttnMath.In)
    {y40 : FVec Ideal S2x16x12x128 .f32} (h40 : ∀ (b : Fin 2) (r : Fin 16) (h : Fin 12) (i : Fin 128), y40 (ix4 b r h i) = ((I.l2 b r h i : ℝ) : EReal))
    {y43 : FVec Ideal S2x16x12x128 .f32} (h43 : ∀ (b : Fin 2) (r : Fin 16) (h : Fin 12) (i : Fin 128), y43 (ix4 b r h i) = ((I.l0 b (tok i r) h : ℝ) : EReal))
    {y46 : FVec Ideal S2x16x12x128 .f32} (h46 : ∀ (b : Fin 2) (r : Fin 16) (h : Fin 12) (i : Fin 128), y46 (ix4 b r h i) = ((I.l1 b (tok i r) h : ℝ) : EReal))
    (b : Fin 2) (r : Fin 16) (h : Fin 12) (i : Fin 128) :
    (maximumf (maximumf y43 y46) y40 : FVec Ideal S2x16x12x128 .f32) (ix4 b r h i) = ((I.mx b r h i : ℝ) : EReal) := by
  pointwise
  rw [h43, h46, h40]
  exact (max3 _ _ _).symm

theorem at58 (I : Cert.AttnMath.In)
    {y40 : FVec Ideal S2x16x12x128 .f32} (h40 : ∀ (b : Fin 2) (r : Fin 16) (h : Fin 12) (i : Fin 128), y40 (ix4 b r h i) = ((I.l2 b r h i : ℝ) : EReal))
    {y43 : FVec Ideal S2x16x12x128 .f32} (h43 : ∀ (b : Fin 2) (r : Fin 16) (h : Fin 12) (i : Fin 128), y43 (ix4 b r h i) = ((I.l0 b (tok i r) h : ℝ) : EReal))
    {y46 : FVec Ideal S2x16x12x128 .f32} (h46 : ∀ (b : Fin 2) (r : Fin 16) (h : Fin 12) (i : Fin 128), y46 (ix4 b r h i) = ((I.l1 b (tok i r) h : ℝ) : EReal))
    {y48 : FVec Ideal S2x16x12x128 .f32} (h48 : ∀ (b : Fin 2) (r : Fin 16) (h : Fin 12) (i : Fin 128), y48 (ix4 b r h i) = ((I.mx b r h i : ℝ) : EReal))
    (b : Fin 2) (r : Fin 16) (h : Fin 12) (i : Fin 128) :
    (addf y48 (Host.log (addf (addf (Host.exp (subf y43 y48)) (Host.exp (subf y46 y48))) (Host.exp (subf y40 y48)))) : FVec Ideal S2x16x12x128 .f32) (ix4 b r h i) = ((Real.log (I.tot b r h i) : ℝ) : EReal) := by
  pointwise
  rw [h43, h46, h40, h48, ← EReal.coe_sub, ← EReal.coe_sub, ← EReal.coe_sub, Ideal.exp_coe, Ideal.exp_coe, Ideal.exp_coe,
    ← EReal.coe_add, ← EReal.coe_add,
    log_coe_pos (add_pos (add_pos (Real.exp_pos _) (Real.exp_pos _)) (Real.exp_pos _)), ← EReal.coe_add, I.log_tot]

theorem at79 (I : Cert.AttnMath.In) {g4 : FVec Ideal S2x2048x12x64 .f32} (w4 : g4 = I.ao0) {g6 : FVec Ideal S2x2048x12x64 .f32} (w6 : g6 = I.ao1)
    {y37 : FVec Ideal S2x16x12x128x64 .f32} (h37 : ∀ (b : Fin 2) (r : Fin 16) (h : Fin 12) (i : Fin 128) (d : Fin 64), y37 (ix5 b r h i d) = ((I.p2 b r h i d : ℝ) : EReal))
    {y40 : FVec Ideal S2x16x12x128 .f32} (h40 : ∀ (b : Fin 2) (r : Fin 16) (h : Fin 12) (i : Fin 128), y40 (ix4 b r h i) = ((I.l2 b r h i : ℝ) : EReal))
    {y43 : FVec Ideal S2x16x12x128 .f32} (h43 : ∀ (b : Fin 2) (r : Fin 16) (h : Fin 12) (i : Fin 128), y43 (ix4 b r h i) = ((I.l0 b (tok i r) h : ℝ) : EReal))
    {y46 : FVec Ideal S2x16x12x128 .f32} (h46 : ∀ (b : Fin 2) (r : Fin 16) (h : Fin 12) (i : Fin 128), y46 (ix4 b r h i) = ((I.l1 b (tok i r) h : ℝ) : EReal))
    {y58 : FVec Ideal S2x16x12x128 .f32} (h58 : ∀ (b : Fin 2) (r : Fin 16) (h : Fin 12) (i : Fin 128), y58 (ix4 b r h i) = ((Real.log (I.tot b r h i) : ℝ) : EReal))
    (b : Fin 2) (r : Fin 16) (h : Fin 12) (i : Fin 128) (d : Fin 64) :
    (addf (addf (mulf (broadcastInDim S2x16x12x128x64 ![0, 1, 2, 3, 4] bcast_S2x16x12x128x1_S2x16x12x128x64_0_1_2_3_4 (broadcastInDim S2x16x12x128x1 ![0, 1, 2, 3] bcast_S2x16x12x128_S2x16x12x128x1_0_1_2_3 (Host.exp (subf y43 y58)))) (transpose S2x16x12x128x64 [0, 2, 3, 1, 4] (shapeCast S2x128x16x12x64 g4 shapeCasts_S2x2048x12x64_S2x128x16x12x64) transposes_S2x128x16x12x64_S2x16x12x128x64_0_2_3_1_4 : FVec Ideal S2x16x12x128x64 .f32)) (mulf (broadcastInDim S2x16x12x128x64 ![0, 1, 2, 3, 4] bcast_S2x16x12x128x1_S2x16x12x128x64_0_1_2_3_4 (broadcastInDim S2x16x12x128x1 ![0, 1, 2, 3] bcast_S2x16x12x128_S2x16x12x128x1_0_1_2_3 (Host.exp (subf y46 y58)))) (transpose S2x16x12x128x64 [0, 2, 3, 1, 4] (shapeCast S2x128x16x12x64 g6 shapeCasts_S2x2048x12x64_S2x128x16x12x64) transposes_S2x128x16x12x64_S2x16x12x128x64_0_2_3_1_4 : FVec Ideal S2x16x12x128x64 .f32))) (mulf (broadcastInDim S2x16x12x128x64 ![0, 1, 2, 3, 4] bcast_S2x16x12x128x1_S2x16x12x128x64_0_1_2_3_4 (broadcastInDim S2x16x12x128x1 ![0, 1, 2, 3] bcast_S2x16x12x128_S2x16x12x128x1_0_1_2_3 (Host.exp (subf y40 y58)))) y37) : FVec Ideal S2x16x12x128x64 .f32) (ix5 b r h i d) = ((I.mix b r h i d : ℝ) : EReal) := by
  subst_vars
  pointwise
  simp only [rd4]
  rw [h43, h46, h40, h58, h37, ← EReal.coe_sub, ← EReal.coe_sub, ← EReal.coe_sub, Ideal.exp_coe, Ideal.exp_coe,
    Ideal.exp_coe, I.exp_sub_tot, I.exp_sub_tot, I.exp_sub_tot, I.exp_l2, ← EReal.coe_mul, ← EReal.coe_mul,
    ← EReal.coe_mul, ← EReal.coe_add, ← EReal.coe_add]
  rfl

theorem at83 (I : Cert.AttnMath.In) {g8 : FVec Ideal S2x2048x12x64 .f32} (w8 : g8 = I.ac)
    {y79 : FVec Ideal S2x16x12x128x64 .f32} (h79 : ∀ (b : Fin 2) (r : Fin 16) (h : Fin 12) (i : Fin 128) (d : Fin 64), y79 (ix5 b r h i d) = ((I.mix b r h i d : ℝ) : EReal))
    (b : Fin 2) (r : Fin 16) (h : Fin 12) (i : Fin 128) :
    (Host.reduceAdd (mulf (transpose S2x16x12x128x64 [0, 2, 3, 1, 4] (shapeCast S2x128x16x12x64 g8 shapeCasts_S2x2048x12x64_S2x128x16x12x64) transposes_S2x128x16x12x64_S2x16x12x128x64_0_2_3_1_4 : FVec Ideal S2x16x12x128x64 .f32) y79) (((constant S_ .f32 0x00000000#32) : FVec Ideal S_ .f32)) reducesTo_S2x16x12x128x64_S2x16x12x128_d4 h_S_ : FVec Ideal S2x16x12x128 .f32) (ix4 b r h i) = ((I.ebar b r h i : ℝ) : EReal) := by
  subst_vars
  pointwise
  simp only [rd4]
  rw [dot_at (fun _ => rfl) (fun _ => h79 _ _ _ _ _)]
  exact congrArg _ (I.sum_mix b r h i)

/-- The head and the place within it of lane `l` of pair `p`. -/
def hd (p : Fin 6) (l : Fin 128) : Fin 12 := ⟨2 * p.val + l.val / 64, by omega⟩
def pl (l : Fin 128) : Fin 64 := ⟨l.val % 64, by omega⟩

theorem at14 (I : Cert.AttnMath.In) (h : Fin 12) (i j : Fin 128) {x : EReal} (hx : x = ((I.bias h i (hi j) : ℝ) : EReal)) :
    (Scalar.select (IntOp.andi
        (IntOp.cmpi CmpIPredicate.sge (IntOp.subi (IntOp.addi (BitVec.ofNat 32 i.val) 128#32) (BitVec.ofNat 32 (hi j).val)) 0#32)
        (IntOp.cmpi CmpIPredicate.sle (IntOp.subi (IntOp.addi (BitVec.ofNat 32 i.val) 128#32) (BitVec.ofNat 32 (hi j).val)) 128#32))
      x (Ideal.ofBits .f32 0xFF800000#32) : EReal) = if j ≤ i then ((I.bias h i (hi j) : ℝ) : EReal) else ⊥ := by
  have e : ∀ i j : Fin 128, IntOp.andi
        (IntOp.cmpi CmpIPredicate.sge (IntOp.subi (IntOp.addi (BitVec.ofNat 32 i.val) 128#32) (BitVec.ofNat 32 (hi j).val)) 0#32)
        (IntOp.cmpi CmpIPredicate.sle (IntOp.subi (IntOp.addi (BitVec.ofNat 32 i.val) 128#32) (BitVec.ofNat 32 (hi j).val)) 128#32)
      = BitVec.ofBool (decide (j ≤ i)) := by decide +kernel
  rw [e, hx]
  by_cases hj : j ≤ i
  · rw [if_pos hj, decide_eq_true hj]; rfl
  · rw [if_neg hj, decide_eq_false hj]; exact Cert.AttnRefIdeal.Stages.bot

theorem at99_e (I : Cert.AttnMath.In)
    {y58 : FVec Ideal S2x16x12x128 .f32} (h58 : ∀ (b : Fin 2) (r : Fin 16) (h : Fin 12) (i : Fin 128), y58 (ix4 b r h i) = ((Real.log (I.tot b r h i) : ℝ) : EReal))
    {y83 : FVec Ideal S2x16x12x128 .f32} (h83 : ∀ (b : Fin 2) (r : Fin 16) (h : Fin 12) (i : Fin 128), y83 (ix4 b r h i) = ((I.ebar b r h i : ℝ) : EReal))
    (b : Fin 2) (r : Fin 16) (L : Fin 128) (h : Fin 12) (i : Fin 128) (hL : L.val = h.val) :
    (transpose S2x16x128x128 [0, 1, 3, 2] (concatenate S2x16x128x128 2 [⟨S2x16x12x128, y83⟩, ⟨S2x16x4x128, broadcastInDim S2x16x4x128 ![] bcast_S_S2x16x4x128 (constant S_ .f32 0x00000000#32 : FVec Ideal S_ .f32)⟩,
      ⟨S2x16x12x128, y58⟩, ⟨S2x16x100x128, broadcastInDim S2x16x100x128 ![] bcast_S_S2x16x100x128 (constant S_ .f32 0x00000000#32 : FVec Ideal S_ .f32)⟩] concatenates_S2x16x12x128_S2x16x4x128_S2x16x12x128_S2x16x100x128_S2x16x128x128_d2) transposes_S2x16x128x128_S2x16x128x128_0_1_3_2 : FVec Ideal S2x16x128x128 .f32) (ix4 b r i L) = ((I.ebar b r h i : ℝ) : EReal) := by
  pointwise
  rw [dif_pos (by omega)]
  exact via (h83 b r h i) (ext4 rfl rfl hL rfl)

theorem at99_t (I : Cert.AttnMath.In)
    {y58 : FVec Ideal S2x16x12x128 .f32} (h58 : ∀ (b : Fin 2) (r : Fin 16) (h : Fin 12) (i : Fin 128), y58 (ix4 b r h i) = ((Real.log (I.tot b r h i) : ℝ) : EReal))
    {y83 : FVec Ideal S2x16x12x128 .f32} (h83 : ∀ (b : Fin 2) (r : Fin 16) (h : Fin 12) (i : Fin 128), y83 (ix4 b r h i) = ((I.ebar b r h i : ℝ) : EReal))
    (b : Fin 2) (r : Fin 16) (L : Fin 128) (h : Fin 12) (i : Fin 128) (hL : L.val = 16 + h.val) :
    (transpose S2x16x128x128 [0, 1, 3, 2] (concatenate S2x16x128x128 2 [⟨S2x16x12x128, y83⟩, ⟨S2x16x4x128, broadcastInDim S2x16x4x128 ![] bcast_S_S2x16x4x128 (constant S_ .f32 0x00000000#32 : FVec Ideal S_ .f32)⟩,
      ⟨S2x16x12x128, y58⟩, ⟨S2x16x100x128, broadcastInDim S2x16x100x128 ![] bcast_S_S2x16x100x128 (constant S_ .f32 0x00000000#32 : FVec Ideal S_ .f32)⟩] concatenates_S2x16x12x128_S2x16x4x128_S2x16x12x128_S2x16x100x128_S2x16x128x128_d2) transposes_S2x16x128x128_S2x16x128x128_0_1_3_2 : FVec Ideal S2x16x128x128 .f32) (ix4 b r i L) = ((Real.log (I.tot b r h i) : ℝ) : EReal) := by
  pointwise
  rw [dif_neg (by omega), dif_neg (by omega), dif_pos (by omega)]
  exact via (h58 b r h i) (ext4 rfl rfl (by show L.val - 12 - 4 = h.val; omega) rfl)

end Cert.AttnIdeal.HostVal
-- ==== Proof.Attn.BodyVal.lean ====
module

public import proofs.«01_k».proof.Proof.Attn.Body
public import proofs.«01_k».proof.Proof.Attn.HostVal

@[expose] public section

set_option maxRecDepth 16384

noncomputable section

/-! What one point of the attention's backward kernel stores, when its blocks hold real numbers. -/

namespace Cert.AttnIdeal.BodyVal

open Cert.AttnIdeal Cert.AttnIdeal.Gen Cert.AttnIdeal.Body Cert.AttnIdeal.HostVal Idealize.ShloMosaic Cert.AttnMath
  Cert.AttnRefIdeal.Stages Cert.AttnRow

/-- The blocks of one point hold one residue `r` of one sequence `b`: the lanes of query, key and value, the masked
    table, the lanes of the cotangent, and the two statistics of every head. -/
structure Blk (I : Cert.AttnMath.In) (b : Fin 2) (r : Fin 16) (x0 : Vec Ideal S1x1x128x2304 .bf16)
    (x1 : Vec Ideal S12x128x256 .f32) (x2 : Vec Ideal S1x1x128x768 .bf16) (x3 : Vec Ideal S1x1x128x128 .f32) : Prop where
  q : ∀ (i : Fin 128) (p : Fin 6) (l : Fin 128) (L : Fin 2304), L.val = p.val * 384 + 0 * 128 + l.val →
    x0 (ix4 0 0 i L) = ((I.q b (tok i r) (hd p l) (pl l) : ℝ) : EReal)
  k : ∀ (i : Fin 128) (p : Fin 6) (l : Fin 128) (L : Fin 2304), L.val = p.val * 384 + 1 * 128 + l.val →
    x0 (ix4 0 0 i L) = ((I.k b (tok i r) (hd p l) (pl l) : ℝ) : EReal)
  v : ∀ (i : Fin 128) (p : Fin 6) (l : Fin 128) (L : Fin 2304), L.val = p.val * 384 + 2 * 128 + l.val →
    x0 (ix4 0 0 i L) = ((I.v b (tok i r) (hd p l) (pl l) : ℝ) : EReal)
  bias : ∀ (h : Fin 12) (i j : Fin 128), x1 (ix3 h i (hi j)) = if j ≤ i then ((I.bias h i (hi j) : ℝ) : EReal) else ⊥
  ct : ∀ (i : Fin 128) (p : Fin 6) (l : Fin 128) (L : Fin 768), L.val = p.val * 128 + l.val →
    x2 (ix4 0 0 i L) = ((I.ct b (tok i r) (hd p l) (pl l) : ℝ) : EReal)
  ebar : ∀ (L : Fin 128) (h : Fin 12) (i : Fin 128), L.val = h.val → x3 (ix4 0 0 i L) = ((I.ebar b r h i : ℝ) : EReal)
  tot : ∀ (L : Fin 128) (h : Fin 12) (i : Fin 128), L.val = 16 + h.val →
    x3 (ix4 0 0 i L) = ((Real.log (I.tot b r h i) : ℝ) : EReal)

theorem own_eq : ∀ (e : Fin 2) (l : Fin 128), own e.val l = BitVec.ofBool (decide (l.val / 64 = e.val)) := by
  decide +kernel

theorem sel (e : Fin 2) (l : Fin 128) (x y : EReal) :
    Scalar.select (own e.val l) x y = if l.val / 64 = e.val then x else y := by
  rw [own_eq]
  by_cases h : l.val / 64 = e.val
  · rw [if_pos h, decide_eq_true h]; rfl
  · rw [if_neg h, decide_eq_false h]; rfl

/-- The lane of place `d` in half `e`. -/
def half (e : Fin 2) (d : Fin 64) : Fin 128 := ⟨64 * e.val + d.val, by omega⟩

theorem hd_half (p : Fin 6) (e : Fin 2) (d : Fin 64) : hd p (half e d) = ⟨2 * p.val + e.val, by omega⟩ :=
  Fin.ext (by show 2 * p.val + (64 * e.val + d.val) / 64 = 2 * p.val + e.val; omega)
theorem pl_half (e : Fin 2) (d : Fin 64) : pl (half e d) = d :=
  Fin.ext (by show (64 * e.val + d.val) % 64 = d.val; omega)

/-- A sum over the lanes of a pair that one half keeps. -/
theorem sum_half (e : Fin 2) (f : Fin 128 → EReal) :
    ∑ l : Fin 128, Scalar.select (own e.val l) (f l) 0 = ∑ d : Fin 64, f (half e d) := by
  simp only [sel]
  rw [← (finProdFinEquiv (m := 2) (n := 64)).sum_comp (fun l => if l.val / 64 = e.val then f l else 0),
    Fintype.sum_prod_type, Finset.sum_comm]
  refine Finset.sum_congr rfl fun d _ => ?_
  have hv : ∀ a : Fin 2, (finProdFinEquiv (a, d) : Fin 128).val = d.val + 64 * a.val := fun a => rfl
  rw [Finset.sum_eq_single e]
  · have h := hv e
    rw [if_pos (by omega)]
    exact congrArg f (Fin.ext (by show (finProdFinEquiv (e, d) : Fin 128).val = 64 * e.val + d.val; omega))
  · intro a _ ha
    have h := hv a
    have hne : a.val ≠ e.val := fun hh => ha (Fin.ext hh)
    exact if_neg (by omega)
  · intro hh; exact absurd (Finset.mem_univ e) hh

/-- The half that a lane is in chooses between the two heads of its pair. -/
theorem pick (l : Fin 128) (A : Fin 2 → EReal) : Scalar.select (own 0 l) (A 0) (A 1) = A ⟨l.val / 64, by omega⟩ := by
  rw [show own 0 l = own (0 : Fin 2).val l from rfl, sel]
  by_cases h : l.val / 64 = (0 : Fin 2).val
  · rw [if_pos h]; exact congrArg A (Fin.ext h.symm)
  · rw [if_neg h]
    have h' : l.val / 64 ≠ 0 := h
    exact congrArg A (Fin.ext (by show 1 = l.val / 64; omega))

theorem eighth16 : Ideal.ofBits .bf16 15872#16 = ((1 / 8 : ℝ) : EReal) := by
  simp [Ideal.ofBits, Ideal.ieee, -EReal.coe_mul]; norm_num

section
variable {I : Cert.AttnMath.In} {b : Fin 2} {r : Fin 16} {x0 : Vec Ideal S1x1x128x2304 .bf16}
  {x1 : Vec Ideal S12x128x256 .f32} {x2 : Vec Ideal S1x1x128x768 .bf16} {x3 : Vec Ideal S1x1x128x128 .f32}
  (H : Blk I b r x0 x1 x2 x3) (p : Fin 6) (e : Fin 2) (i j : Fin 128)
include H

theorem pB_eq : pB p.val e.val p.isLt e.isLt x0 x1 x3 i j = ((I.pr b r ⟨2 * p.val + e.val, by omega⟩ i j : ℝ) : EReal) := by
  unfold pB
  rw [sum_half e]
  have hs : ∑ d : Fin 64, ((x0 (ix4 0 0 i (lan p.val 0 p.isLt (by omega) (half e d))) : EReal) * Ideal.ofBits .bf16 15872#16
        * (x0 (ix4 0 0 j (lan p.val 1 p.isLt (by omega) (half e d))) : EReal))
      = (((∑ d, I.q b (tok i r) ⟨2 * p.val + e.val, by omega⟩ d * I.k b (tok j r) ⟨2 * p.val + e.val, by omega⟩ d) * (1 / 8) : ℝ) : EReal) := by
    rw [Finset.sum_mul, ← coe_sum]
    refine Finset.sum_congr rfl fun d _ => ?_
    rw [H.q i p (half e d) _ rfl, H.k j p (half e d) _ rfl, hd_half, pl_half, eighth16, ← EReal.coe_mul, ← EReal.coe_mul]
    congr 1
    ring
  refine (congrArg Ideal.exp (congrArg₂ (· - ·) (congrArg₂ (· + ·) hs (H.bias ⟨2 * p.val + e.val, by omega⟩ i j))
    (H.tot ⟨16 + (2 * p.val + e.val), by omega⟩ ⟨2 * p.val + e.val, by omega⟩ i rfl))).trans ?_
  show _ = ((I.x b r _ i j / I.tot b r _ i : ℝ) : EReal)
  unfold In.x
  by_cases hj : j ≤ i
  · rw [if_pos hj, if_pos hj]
    show Ideal.exp (_ + _ - _) = _
    rw [← EReal.coe_add, ← EReal.coe_sub, Ideal.exp_coe]
    exact congrArg _ (I.exp_sub_tot b r _ i _)
  · rw [if_neg hj, if_neg hj, zero_div]
    show Ideal.exp (_ + ⊥ - _) = _
    rw [EReal.add_bot, EReal.bot_sub, Ideal.exp_bot]
    rfl

theorem dsB_eq : dsB p.val e.val p.isLt e.isLt x0 x1 x2 x3 i j = ((I.ds b r ⟨2 * p.val + e.val, by omega⟩ i j : ℝ) : EReal) := by
  unfold dsB
  rw [sum_half e, pB_eq H p e i j]
  have hs : ∑ d : Fin 64, ((x2 (ix4 0 0 i ⟨p.val * 128 + (half e d).val, by omega⟩) : EReal)
        * (x0 (ix4 0 0 j (lan p.val 2 p.isLt (by omega) (half e d))) : EReal))
      = ((∑ d, I.ct b (tok i r) ⟨2 * p.val + e.val, by omega⟩ d * I.v b (tok j r) ⟨2 * p.val + e.val, by omega⟩ d : ℝ) : EReal) := by
    rw [← coe_sum]
    refine Finset.sum_congr rfl fun d _ => ?_
    rw [H.ct i p (half e d) _ rfl, H.v j p (half e d) _ rfl, hd_half, pl_half, ← EReal.coe_mul]
  refine (congrArg₂ (· * ·) rfl (congrArg₂ (· - ·) hs
    (H.ebar ⟨2 * p.val + e.val, by omega⟩ ⟨2 * p.val + e.val, by omega⟩ i rfl))).trans ?_
  show _ * (_ - _) = _
  rw [← EReal.coe_sub, ← EReal.coe_mul]
  rfl

theorem dqB_eq (l : Fin 128) : dqB p.val p.isLt x0 x1 x2 x3 i l = ((I.dq b r (hd p l) i (pl l) : ℝ) : EReal) := by
  unfold dqB
  refine (congrArg₂ (· * ·) ((pick l fun e => ∑ k : Fin 128, dsB p.val e.val p.isLt e.isLt x0 x1 x2 x3 i k * (x0 (ix4 0 0 k (lan p.val 1 p.isLt (by omega) l)) : EReal)).trans (dot_at (fun k => dsB_eq H p ⟨l.val / 64, by omega⟩ i k) fun k => H.k k p l _ rfl)) eighth).trans ?_
  show _ * _ = _
  rw [← EReal.coe_mul, Finset.sum_mul]
  refine congrArg _ (Finset.sum_congr rfl fun k _ => ?_)
  show I.ds b r (hd p l) i k * I.k b (tok k r) (hd p l) (pl l) * (1 / 8) = _
  ring

theorem dkB_eq (l : Fin 128) : dkB p.val p.isLt x0 x1 x2 x3 j l = ((I.dk b r (hd p l) j (pl l) : ℝ) : EReal) := by
  unfold dkB
  refine (pick l fun e => ∑ q : Fin 128, dsB p.val e.val p.isLt e.isLt x0 x1 x2 x3 q j * ((x0 (ix4 0 0 q (lan p.val 0 p.isLt (by omega) l)) : EReal) * Ideal.ofBits .bf16 15872#16)).trans ?_
  refine (dot_at (fun k => dsB_eq H p ⟨l.val / 64, by omega⟩ k j) fun k => (congrArg₂ (· * ·) (H.q k p l _ rfl) eighth16).trans (EReal.coe_mul _ _).symm).trans ?_
  refine congrArg _ (Finset.sum_congr rfl fun k _ => ?_)
  show I.ds b r (hd p l) k j * (I.q b (tok k r) (hd p l) (pl l) * (1 / 8)) = _
  ring

theorem dvB_eq (l : Fin 128) : dvB p.val p.isLt x0 x1 x2 x3 j l = ((I.dv b r (hd p l) j (pl l) : ℝ) : EReal) := by
  unfold dvB
  refine (pick l fun e => ∑ q : Fin 128, pB p.val e.val p.isLt e.isLt x0 x1 x3 q j * (x2 (ix4 0 0 q ⟨p.val * 128 + l.val, by omega⟩) : EReal)).trans ?_
  exact dot_at (fun k => pB_eq H p ⟨l.val / 64, by omega⟩ k j) fun k => H.ct k p l _ rfl

theorem gradB_eq (part : Fin 3) (l : Fin 128) :
    gradB p.val p.isLt part x0 x1 x2 x3 i l = ((I.dqkv b r (hd p l) i (pl l) part : ℝ) : EReal) := by
  fin_cases part
  · exact dqB_eq H p i l
  · exact dkB_eq H p i l
  · exact dvB_eq H p i l

/-- The same, as the array of gradients has it. -/
theorem grad_out (part : Fin 3) (l : Fin 128) (L : Fin 2304) (hL : L.val = p.val * 384 + part.val * 128 + l.val) :
    gradB p.val p.isLt part x0 x1 x2 x3 i l = outQKV I (ix4 b r i L) := by
  rw [gradB_eq H p i part l]
  show _ = ((I.dqkv b r ⟨2 * (L.val / 384) + L.val % 128 / 64, _⟩ i ⟨L.val % 64, _⟩ ⟨L.val / 128 % 3, _⟩ : ℝ) : EReal)
  have e1 : hd p l = ⟨2 * (L.val / 384) + L.val % 128 / 64, by omega⟩ :=
    Fin.ext (by show 2 * p.val + l.val / 64 = 2 * (L.val / 384) + L.val % 128 / 64; omega)
  have e2 : pl l = ⟨L.val % 64, by omega⟩ := Fin.ext (by show l.val % 64 = L.val % 64; omega)
  have e3 : part = ⟨L.val / 128 % 3, by omega⟩ := Fin.ext (by show part.val = L.val / 128 % 3; omega)
  rw [e1, e2, ← e3]

end

end Cert.AttnIdeal.BodyVal

end
-- ==== Proof.Attn.HostStep.lean ====
module

public import proofs.«01_k».proof.Proof.Attn.Body
public import Idealize.ShloMosaic.Lib.StableHlo.ReadAt

@[expose] public section

set_option maxRecDepth 16384

noncomputable section

/-! The host operations before the attention's backward kernel: the forward pass, one equation for each value that later ones share. -/

namespace Cert.AttnIdeal.Host

open Cert.AttnIdeal Cert.AttnIdeal.Gen Idealize.ShloMosaic Idealize.ShloMosaic.TcCoe Idealize.SL.Sem

variable (m : (ℓ : Loc nD τ sig) → Buf (Elt Ideal) ℓ)

/-- What the operations leave for the masked table. -/
abbrev x14 (c : Dev nD) : FVec Ideal S12x128x256 .f32 := V m c main_v14
/-- What the operations leave for the scores. -/
abbrev x25 (c : Dev nD) : FVec Ideal S2x16x12x128x128 .f32 := V m c main_v25
/-- What the operations leave for a row's largest score. -/
abbrev x26 (c : Dev nD) : FVec Ideal S2x16x12x128 .f32 := V m c main_v26
/-- What the operations leave for the exponentials. -/
abbrev x30 (c : Dev nD) : FVec Ideal S2x16x12x128x128 .f32 := V m c main_v30
/-- What the operations leave for a row's sum of exponentials. -/
abbrev x31 (c : Dev nD) : FVec Ideal S2x16x12x128 .f32 := V m c main_v31
/-- What the operations leave for the group's output. -/
abbrev x37 (c : Dev nD) : FVec Ideal S2x16x12x128x64 .f32 := V m c main_v37
/-- What the operations leave for its log-denominator. -/
abbrev x40 (c : Dev nD) : FVec Ideal S2x16x12x128 .f32 := V m c main_v40
/-- What the operations leave for the first group's log-denominator. -/
abbrev x43 (c : Dev nD) : FVec Ideal S2x16x12x128 .f32 := V m c main_v43
/-- What the operations leave for the second group's. -/
abbrev x46 (c : Dev nD) : FVec Ideal S2x16x12x128 .f32 := V m c main_v46
/-- What the operations leave for the largest of the three. -/
abbrev x48 (c : Dev nD) : FVec Ideal S2x16x12x128 .f32 := V m c main_v48
/-- What the operations leave for the log-denominator of all three. -/
abbrev x58 (c : Dev nD) : FVec Ideal S2x16x12x128 .f32 := V m c main_v58
/-- What the operations leave for the combined output. -/
abbrev x79 (c : Dev nD) : FVec Ideal S2x16x12x128x64 .f32 := V m c main_v79
/-- What the operations leave for its product with the cotangent. -/
abbrev x83 (c : Dev nD) : FVec Ideal S2x16x12x128 .f32 := V m c main_v83
/-- What the operations leave for the statistics. -/
abbrev x99 (c : Dev nD) : FVec Ideal S2x16x128x128 .f32 := V m c main_v99

theorem e25 (c : Dev nD) : x25 m c =
    addf (mulf (Host.dotGeneral dot_S2x16x12x128x64_S2x16x12x128x64_S2x16x12x128x128_4_4_3_3_012_012 none (transpose S2x16x12x128x64 [0, 2, 3, 1, 4] (shapeCast S2x128x16x12x64 (m ((c : Thread nD τ).loc main_arg0) : FVec Ideal S2x2048x12x64 .f32) shapeCasts_S2x2048x12x64_S2x128x16x12x64) transposes_S2x128x16x12x64_S2x16x12x128x64_0_2_3_1_4 : FVec Ideal S2x16x12x128x64 .f32) (transpose S2x16x12x128x64 [0, 2, 3, 1, 4] (shapeCast S2x128x16x12x64 (m ((c : Thread nD τ).loc main_arg1) : FVec Ideal S2x2048x12x64 .f32) shapeCasts_S2x2048x12x64_S2x128x16x12x64) transposes_S2x128x16x12x64_S2x16x12x128x64_0_2_3_1_4 : FVec Ideal S2x16x12x128x64 .f32)) (broadcastInDim S2x16x12x128x128 ![] bcast_S_S2x16x12x128x128 (((constant S_ .f32 0x3E000000#32) : FVec Ideal S_ .f32)))) (broadcastInDim S2x16x12x128x128 ![0, 1, 2, 3, 4] bcast_S1x1x12x128x128_S2x16x12x128x128_0_1_2_3_4 (broadcastInDim S1x1x12x128x128 ![2, 3, 4] bcast_S12x128x128_S1x1x12x128x128_2_3_4 (extractStridedSlice S12x128x128 ![0, 0, 128] (x14 m c) slices_S12x128x256_S12x128x128_0_0_128))) := by
  unfold x14 x25 V
  after_reads_simp <;> rfl

theorem e26 (c : Dev nD) : x26 m c =
    Host.reduce FloatOps.maximumf (x25 m c) (((constant S_ .f32 0xFF800000#32) : FVec Ideal S_ .f32)) reducesTo_S2x16x12x128x128_S2x16x12x128_d4 h_S_ := by
  unfold x25 x26 V
  after_reads_simp <;> rfl

theorem e30 (c : Dev nD) : x30 m c =
    Host.exp (subf (x25 m c) (broadcastInDim S2x16x12x128x128 ![0, 1, 2, 3, 4] bcast_S2x16x12x128x1_S2x16x12x128x128_0_1_2_3_4 (broadcastInDim S2x16x12x128x1 ![0, 1, 2, 3] bcast_S2x16x12x128_S2x16x12x128x1_0_1_2_3 (x26 m c)))) := by
  unfold x25 x26 x30 V
  after_reads_simp <;> rfl

theorem e31 (c : Dev nD) : x31 m c =
    Host.reduceAdd (x30 m c) (((constant S_ .f32 0x00000000#32) : FVec Ideal S_ .f32)) reducesTo_S2x16x12x128x128_S2x16x12x128_d4 h_S_ := by
  unfold x30 x31 V
  after_reads_simp <;> rfl

theorem e37 (c : Dev nD) : x37 m c =
    Host.divf (Host.dotGeneral dot_S2x16x12x128x128_S2x16x12x128x64_S2x16x12x128x64_4_3_3_4_012_012 none (x30 m c) (transpose S2x16x12x128x64 [0, 2, 3, 1, 4] (shapeCast S2x128x16x12x64 (m ((c : Thread nD τ).loc main_arg2) : FVec Ideal S2x2048x12x64 .f32) shapeCasts_S2x2048x12x64_S2x128x16x12x64) transposes_S2x128x16x12x64_S2x16x12x128x64_0_2_3_1_4 : FVec Ideal S2x16x12x128x64 .f32)) (broadcastInDim S2x16x12x128x64 ![0, 1, 2, 3, 4] bcast_S2x16x12x128x1_S2x16x12x128x64_0_1_2_3_4 (broadcastInDim S2x16x12x128x1 ![0, 1, 2, 3] bcast_S2x16x12x128_S2x16x12x128x1_0_1_2_3 (x31 m c))) := by
  unfold x30 x31 x37 V
  after_reads_simp <;> rfl

theorem e40 (c : Dev nD) : x40 m c =
    shapeCast S2x16x12x128 (addf (broadcastInDim S2x16x12x128x1 ![0, 1, 2, 3] bcast_S2x16x12x128_S2x16x12x128x1_0_1_2_3 (x26 m c)) (Host.log (broadcastInDim S2x16x12x128x1 ![0, 1, 2, 3] bcast_S2x16x12x128_S2x16x12x128x1_0_1_2_3 (x31 m c)))) shapeCasts_S2x16x12x128x1_S2x16x12x128 := by
  unfold x26 x31 x40 V
  after_reads_simp <;> rfl

theorem e43 (c : Dev nD) : x43 m c =
    transpose S2x16x12x128 [0, 1, 3, 2] (transpose S2x16x128x12 [0, 2, 1, 3] (shapeCast S2x128x16x12 (m ((c : Thread nD τ).loc main_arg5) : FVec Ideal S2x2048x12 .f32) shapeCasts_S2x2048x12_S2x128x16x12) transposes_S2x128x16x12_S2x16x128x12_0_2_1_3) transposes_S2x16x128x12_S2x16x12x128_0_1_3_2 := by
  unfold x43 V
  after_reads_simp <;> rfl

theorem e46 (c : Dev nD) : x46 m c =
    transpose S2x16x12x128 [0, 1, 3, 2] (transpose S2x16x128x12 [0, 2, 1, 3] (shapeCast S2x128x16x12 (m ((c : Thread nD τ).loc main_arg7) : FVec Ideal S2x2048x12 .f32) shapeCasts_S2x2048x12_S2x128x16x12) transposes_S2x128x16x12_S2x16x128x12_0_2_1_3) transposes_S2x16x128x12_S2x16x12x128_0_1_3_2 := by
  unfold x46 V
  after_reads_simp <;> rfl

theorem e48 (c : Dev nD) : x48 m c =
    maximumf (maximumf (x43 m c) (x46 m c)) (x40 m c) := by
  unfold x40 x43 x46 x48 V
  after_reads_simp <;> rfl

theorem e58 (c : Dev nD) : x58 m c =
    addf (x48 m c) (Host.log (addf (addf (Host.exp (subf (x43 m c) (x48 m c))) (Host.exp (subf (x46 m c) (x48 m c)))) (Host.exp (subf (x40 m c) (x48 m c))))) := by
  unfold x40 x43 x46 x48 x58 V
  after_reads_simp <;> rfl

theorem e79 (c : Dev nD) : x79 m c =
    addf (addf (mulf (broadcastInDim S2x16x12x128x64 ![0, 1, 2, 3, 4] bcast_S2x16x12x128x1_S2x16x12x128x64_0_1_2_3_4 (broadcastInDim S2x16x12x128x1 ![0, 1, 2, 3] bcast_S2x16x12x128_S2x16x12x128x1_0_1_2_3 (Host.exp (subf (x43 m c) (x58 m c))))) (transpose S2x16x12x128x64 [0, 2, 3, 1, 4] (shapeCast S2x128x16x12x64 (m ((c : Thread nD τ).loc main_arg4) : FVec Ideal S2x2048x12x64 .f32) shapeCasts_S2x2048x12x64_S2x128x16x12x64) transposes_S2x128x16x12x64_S2x16x12x128x64_0_2_3_1_4 : FVec Ideal S2x16x12x128x64 .f32)) (mulf (broadcastInDim S2x16x12x128x64 ![0, 1, 2, 3, 4] bcast_S2x16x12x128x1_S2x16x12x128x64_0_1_2_3_4 (broadcastInDim S2x16x12x128x1 ![0, 1, 2, 3] bcast_S2x16x12x128_S2x16x12x128x1_0_1_2_3 (Host.exp (subf (x46 m c) (x58 m c))))) (transpose S2x16x12x128x64 [0, 2, 3, 1, 4] (shapeCast S2x128x16x12x64 (m ((c : Thread nD τ).loc main_arg6) : FVec Ideal S2x2048x12x64 .f32) shapeCasts_S2x2048x12x64_S2x128x16x12x64) transposes_S2x128x16x12x64_S2x16x12x128x64_0_2_3_1_4 : FVec Ideal S2x16x12x128x64 .f32))) (mulf (broadcastInDim S2x16x12x128x64 ![0, 1, 2, 3, 4] bcast_S2x16x12x128x1_S2x16x12x128x64_0_1_2_3_4 (broadcastInDim S2x16x12x128x1 ![0, 1, 2, 3] bcast_S2x16x12x128_S2x16x12x128x1_0_1_2_3 (Host.exp (subf (x40 m c) (x58 m c))))) (x37 m c)) := by
  unfold x37 x40 x43 x46 x58 x79 V
  after_reads_simp <;> rfl

theorem e83 (c : Dev nD) : x83 m c =
    Host.reduceAdd (mulf (transpose S2x16x12x128x64 [0, 2, 3, 1, 4] (shapeCast S2x128x16x12x64 (m ((c : Thread nD τ).loc main_arg8) : FVec Ideal S2x2048x12x64 .f32) shapeCasts_S2x2048x12x64_S2x128x16x12x64) transposes_S2x128x16x12x64_S2x16x12x128x64_0_2_3_1_4 : FVec Ideal S2x16x12x128x64 .f32) (x79 m c)) (((constant S_ .f32 0x00000000#32) : FVec Ideal S_ .f32)) reducesTo_S2x16x12x128x64_S2x16x12x128_d4 h_S_ := by
  unfold x79 x83 V
  after_reads_simp <;> rfl

theorem u83 (c : Dev nD) : (StableHlo.upto [hostOps0, hostOps0_1, hostOps0_2].flatten (fun b => m (c, b)) 99 (Proc.tc.devRef main_v83) : FVec Ideal S2x16x12x128 .f32) =
    x83 m c := by
  unfold x83 V
  after_reads_simp <;> rfl

theorem u84 (c : Dev nD) : (StableHlo.upto [hostOps0, hostOps0_1, hostOps0_2].flatten (fun b => m (c, b)) 99 (Proc.tc.devRef main_v84) : FVec Ideal S2x16x4x128 .f32) =
    broadcastInDim S2x16x4x128 ![] bcast_S_S2x16x4x128 (constant S_ .f32 0x00000000#32 : FVec Ideal S_ .f32) := by
  after_reads_simp <;> rfl

theorem u58 (c : Dev nD) : (StableHlo.upto [hostOps0, hostOps0_1, hostOps0_2].flatten (fun b => m (c, b)) 99 (Proc.tc.devRef main_v58) : FVec Ideal S2x16x12x128 .f32) =
    x58 m c := by
  unfold x58 V
  after_reads_simp <;> rfl

theorem u85 (c : Dev nD) : (StableHlo.upto [hostOps0, hostOps0_1, hostOps0_2].flatten (fun b => m (c, b)) 99 (Proc.tc.devRef main_v85) : FVec Ideal S2x16x100x128 .f32) =
    broadcastInDim S2x16x100x128 ![] bcast_S_S2x16x100x128 (constant S_ .f32 0x00000000#32 : FVec Ideal S_ .f32) := by
  after_reads_simp <;> rfl

theorem e99 (c : Dev nD) : x99 m c =
    transpose S2x16x128x128 [0, 1, 3, 2] (concatenate S2x16x128x128 2 [⟨S2x16x12x128, x83 m c⟩, ⟨S2x16x4x128, broadcastInDim S2x16x4x128 ![] bcast_S_S2x16x4x128 (constant S_ .f32 0x00000000#32 : FVec Ideal S_ .f32)⟩,
      ⟨S2x16x12x128, x58 m c⟩, ⟨S2x16x100x128, broadcastInDim S2x16x100x128 ![] bcast_S_S2x16x100x128 (constant S_ .f32 0x00000000#32 : FVec Ideal S_ .f32)⟩] concatenates_S2x16x12x128_S2x16x4x128_S2x16x12x128_S2x16x100x128_S2x16x128x128_d2) transposes_S2x16x128x128_S2x16x128x128_0_1_3_2 := by
  have h : x99 m c = transpose S2x16x128x128 [0, 1, 3, 2] (concatenate S2x16x128x128 2 [⟨S2x16x12x128, StableHlo.upto [hostOps0, hostOps0_1, hostOps0_2].flatten (fun b => m (c, b)) 99 (Proc.tc.devRef main_v83)⟩, ⟨S2x16x4x128, StableHlo.upto [hostOps0, hostOps0_1, hostOps0_2].flatten (fun b => m (c, b)) 99 (Proc.tc.devRef main_v84)⟩,
      ⟨S2x16x12x128, StableHlo.upto [hostOps0, hostOps0_1, hostOps0_2].flatten (fun b => m (c, b)) 99 (Proc.tc.devRef main_v58)⟩, ⟨S2x16x100x128, StableHlo.upto [hostOps0, hostOps0_1, hostOps0_2].flatten (fun b => m (c, b)) 99 (Proc.tc.devRef main_v85)⟩] concatenates_S2x16x12x128_S2x16x4x128_S2x16x12x128_S2x16x100x128_S2x16x128x128_d2) transposes_S2x16x128x128_S2x16x128x128_0_1_3_2 := by
    unfold x99 V
    after_reads_simp
    rfl
  rw [h, u83, u84, u58, u85]

end Cert.AttnIdeal.Host
-- ==== Proof.Attn.HostLane.lean ====
module

public import proofs.«01_k».proof.Proof.Attn.Body
public import proofs.«01_k».proof.Proof.Attn.HostVal
public import Idealize.ShloMosaic.Lib.StableHlo.ReadAt

@[expose] public section

set_option maxRecDepth 16384

noncomputable section

/-! The host operations that lay the attention's arguments out in the kernel's lanes, and the masked table. -/

namespace Cert.AttnIdeal.Host

open Cert.AttnIdeal Cert.AttnIdeal.Gen Idealize.ShloMosaic Idealize.ShloMosaic.TcCoe Idealize.SL.Sem
  Cert.AttnMath Cert.AttnIdeal.HostVal Cert.AttnRefIdeal.Stages

variable (m : (ℓ : Loc nD τ sig) → Buf (Elt Ideal) ℓ)

/-- What the operations leave for the cotangent's lanes. -/
abbrev x98 (c : Dev nD) : FVec Ideal S2x16x128x768 .bf16 := V m c main_v98
/-- What the operations leave for the lanes of query, key and value. -/
abbrev x102 (c : Dev nD) : FVec Ideal S2x16x128x2304 .bf16 := V m c main_v102

theorem rdl (f : Fin 2 → Fin 2048 → Fin 12 → Fin 64 → ℝ) (b : Fin 2) (t : Fin 2048) (p : Fin 6) (l : Fin 128)
    (q : p.val * 2 + l.val / 64 < 12) : arr4 f (ix4 b t ⟨p.val * 2 + l.val / 64, q⟩ (pl l)) = ((f b t (hd p l) (pl l) : ℝ) : EReal) := by
  rw [show (⟨p.val * 2 + l.val / 64, q⟩ : Fin 12) = hd p l from
    Fin.ext (by show p.val * 2 + l.val / 64 = 2 * p.val + l.val / 64; omega)]
  rfl

theorem x98_at (c : Dev nD) {f : Fin 2 → Fin 2048 → Fin 12 → Fin 64 → ℝ} (w : (m ((c : Thread nD τ).loc main_arg8) : FVec Ideal S2x2048x12x64 .f32) = arr4 f)
    (b : Fin 2) (r : Fin 16) (i : Fin 128) (p : Fin 6) (l : Fin 128) (L : Fin 768) (hL : L.val = p.val * 128 + l.val) :
    x98 m c (ix4 b r i L) = ((f b (tok i r) (hd p l) (pl l) : ℝ) : EReal) := by
  have e : x98 m c (ix4 b r i L) =
      (m ((c : Thread nD τ).loc main_arg8) : FVec Ideal S2x2048x12x64 .f32) (ix4 b ⟨i.val * 16 + r.val, by omega⟩ ⟨L.val / 64, by omega⟩ ⟨L.val % 64, by omega⟩) := by
    unfold x98 V
    after_reads_at
  rw [e, w]
  refine via (y := ix4 b (tok i r) (hd p l) (pl l)) rfl (ext4 rfl ?_ ?_ ?_)
  · show i.val * 16 + r.val = 16 * i.val + r.val; omega
  · show L.val / 64 = 2 * p.val + l.val / 64; omega
  · show L.val % 64 = l.val % 64; omega

theorem u90 (c : Dev nD) {f : Fin 2 → Fin 2048 → Fin 12 → Fin 64 → ℝ} (w : (m ((c : Thread nD τ).loc main_arg0) : FVec Ideal S2x2048x12x64 .f32) = arr4 f)
    (b : Fin 2) (t : Fin 2048) (p : Fin 6) (z : Fin 1) (l : Fin 128) :
    (StableHlo.upto [hostOps0, hostOps0_1, hostOps0_2].flatten (fun b => m (c, b)) 106 (Proc.tc.devRef main_v90) : FVec Ideal S2x2048x6x1x128 .f32) (ix5 b t p z l) = ((f b t (hd p l) (pl l) : ℝ) : EReal) := by
  have e : (StableHlo.upto [hostOps0, hostOps0_1, hostOps0_2].flatten (fun b => m (c, b)) 106 (Proc.tc.devRef main_v90) : FVec Ideal S2x2048x6x1x128 .f32) (ix5 b t p z l) = (m ((c : Thread nD τ).loc main_arg0) : FVec Ideal S2x2048x12x64 .f32) (ix4 b t ⟨p.val * 2 + l.val / 64, by omega⟩ ⟨l.val % 64, by omega⟩) := by
    after_reads_at
  rw [e, w]
  exact rdl f b t p l _

theorem u91 (c : Dev nD) {f : Fin 2 → Fin 2048 → Fin 12 → Fin 64 → ℝ} (w : (m ((c : Thread nD τ).loc main_arg1) : FVec Ideal S2x2048x12x64 .f32) = arr4 f)
    (b : Fin 2) (t : Fin 2048) (p : Fin 6) (z : Fin 1) (l : Fin 128) :
    (StableHlo.upto [hostOps0, hostOps0_1, hostOps0_2].flatten (fun b => m (c, b)) 106 (Proc.tc.devRef main_v91) : FVec Ideal S2x2048x6x1x128 .f32) (ix5 b t p z l) = ((f b t (hd p l) (pl l) : ℝ) : EReal) := by
  have e : (StableHlo.upto [hostOps0, hostOps0_1, hostOps0_2].flatten (fun b => m (c, b)) 106 (Proc.tc.devRef main_v91) : FVec Ideal S2x2048x6x1x128 .f32) (ix5 b t p z l) = (m ((c : Thread nD τ).loc main_arg1) : FVec Ideal S2x2048x12x64 .f32) (ix4 b t ⟨p.val * 2 + l.val / 64, by omega⟩ ⟨l.val % 64, by omega⟩) := by
    after_reads_at
  rw [e, w]
  exact rdl f b t p l _

theorem u92 (c : Dev nD) {f : Fin 2 → Fin 2048 → Fin 12 → Fin 64 → ℝ} (w : (m ((c : Thread nD τ).loc main_arg2) : FVec Ideal S2x2048x12x64 .f32) = arr4 f)
    (b : Fin 2) (t : Fin 2048) (p : Fin 6) (z : Fin 1) (l : Fin 128) :
    (StableHlo.upto [hostOps0, hostOps0_1, hostOps0_2].flatten (fun b => m (c, b)) 106 (Proc.tc.devRef main_v92) : FVec Ideal S2x2048x6x1x128 .f32) (ix5 b t p z l) = ((f b t (hd p l) (pl l) : ℝ) : EReal) := by
  have e : (StableHlo.upto [hostOps0, hostOps0_1, hostOps0_2].flatten (fun b => m (c, b)) 106 (Proc.tc.devRef main_v92) : FVec Ideal S2x2048x6x1x128 .f32) (ix5 b t p z l) = (m ((c : Thread nD τ).loc main_arg2) : FVec Ideal S2x2048x12x64 .f32) (ix4 b t ⟨p.val * 2 + l.val / 64, by omega⟩ ⟨l.val % 64, by omega⟩) := by
    after_reads_at
  rw [e, w]
  exact rdl f b t p l _

theorem x102_q (c : Dev nD) {f : Fin 2 → Fin 2048 → Fin 12 → Fin 64 → ℝ} (w : (m ((c : Thread nD τ).loc main_arg0) : FVec Ideal S2x2048x12x64 .f32) = arr4 f)
    (b : Fin 2) (r : Fin 16) (i : Fin 128) (p : Fin 6) (l : Fin 128) (L : Fin 2304) (hL : L.val = p.val * 384 + 0 * 128 + l.val) :
    x102 m c (ix4 b r i L) = ((f b (tok i r) (hd p l) (pl l) : ℝ) : EReal) := by
  unfold x102 V
  after_reads_at
  rw [dif_pos (by omega)]
  refine via (u90 m c w b (tok i r) p 0 l) (ext5 rfl ?_ ?_ ?_ ?_)
  · show i.val * 16 + r.val = 16 * i.val + r.val; omega
  · show L.val / 384 = p.val; omega
  · show L.val / 128 % 3 = 0; omega
  · show L.val % 128 = l.val; omega

theorem x102_k (c : Dev nD) {f : Fin 2 → Fin 2048 → Fin 12 → Fin 64 → ℝ} (w : (m ((c : Thread nD τ).loc main_arg1) : FVec Ideal S2x2048x12x64 .f32) = arr4 f)
    (b : Fin 2) (r : Fin 16) (i : Fin 128) (p : Fin 6) (l : Fin 128) (L : Fin 2304) (hL : L.val = p.val * 384 + 1 * 128 + l.val) :
    x102 m c (ix4 b r i L) = ((f b (tok i r) (hd p l) (pl l) : ℝ) : EReal) := by
  unfold x102 V
  after_reads_at
  rw [dif_neg (by omega), dif_pos (by omega)]
  refine via (u91 m c w b (tok i r) p 0 l) (ext5 rfl ?_ ?_ ?_ ?_)
  · show i.val * 16 + r.val = 16 * i.val + r.val; omega
  · show L.val / 384 = p.val; omega
  · show L.val / 128 % 3 - 1 = 0; omega
  · show L.val % 128 = l.val; omega

theorem x102_v (c : Dev nD) {f : Fin 2 → Fin 2048 → Fin 12 → Fin 64 → ℝ} (w : (m ((c : Thread nD τ).loc main_arg2) : FVec Ideal S2x2048x12x64 .f32) = arr4 f)
    (b : Fin 2) (r : Fin 16) (i : Fin 128) (p : Fin 6) (l : Fin 128) (L : Fin 2304) (hL : L.val = p.val * 384 + 2 * 128 + l.val) :
    x102 m c (ix4 b r i L) = ((f b (tok i r) (hd p l) (pl l) : ℝ) : EReal) := by
  unfold x102 V
  after_reads_at
  rw [dif_neg (by omega), dif_neg (by omega)]
  refine via (u92 m c w b (tok i r) p 0 l) (ext5 rfl ?_ ?_ ?_ ?_)
  · show i.val * 16 + r.val = 16 * i.val + r.val; omega
  · show L.val / 384 = p.val; omega
  · show L.val / 128 % 3 - 1 - 1 = 0; omega
  · show L.val % 128 = l.val; omega

/-- The masked table at one place. -/
theorem e14 (c : Dev nD) (h : Fin 12) (q : Fin 128) (l : Fin 256) : (V m c main_v14 : FVec Ideal S12x128x256 .f32) (ix3 h q l) =
    Scalar.select (IntOp.andi
        (IntOp.cmpi CmpIPredicate.sge (IntOp.subi (IntOp.addi (BitVec.ofNat 32 q.val) 128#32) (BitVec.ofNat 32 l.val)) 0#32)
        (IntOp.cmpi CmpIPredicate.sle (IntOp.subi (IntOp.addi (BitVec.ofNat 32 q.val) 128#32) (BitVec.ofNat 32 l.val)) 128#32))
      ((m ((c : Thread nD τ).loc main_arg3) : FVec Ideal S12x128x256 .f32) (ix3 h q l)) (Ideal.ofBits .f32 0xFF800000#32) := by
  unfold V
  after_reads_at
  rfl

theorem x14_at (c : Dev nD) (I : Cert.AttnMath.In) (w : (m ((c : Thread nD τ).loc main_arg3) : FVec Ideal S12x128x256 .f32) = I.ab)
    (h : Fin 12) (i j : Fin 128) :
    (V m c main_v14 : FVec Ideal S12x128x256 .f32) (ix3 h i (hi j)) = if j ≤ i then ((I.bias h i (hi j) : ℝ) : EReal) else ⊥ :=
  (e14 m c h i (hi j)).trans (at14 I h i j (congrFun w _))

end Cert.AttnIdeal.Host
-- ==== Proof.Attn.Host.lean ====
module

public import proofs.«01_k».proof.Proof.Attn.HostStep
public import proofs.«01_k».proof.Proof.Attn.HostLane

@[expose] public section

set_option maxRecDepth 16384

noncomputable section

/-! What the attention's backward kernel is handed, on real arguments. -/

namespace Cert.AttnIdeal.Host

open Cert.AttnIdeal Cert.AttnIdeal.Gen Idealize.ShloMosaic Idealize.ShloMosaic.TcCoe Idealize.SL.Sem
  Cert.AttnMath Cert.AttnIdeal.HostVal

variable (m : (ℓ : Loc nD τ sig) → Buf (Elt Ideal) ℓ)

/-- The nine arguments are the real numbers of `I`. -/
structure Args (c : Dev nD) (I : Cert.AttnMath.In) : Prop where
  q : (m ((c : Thread nD τ).loc main_arg0) : FVec Ideal S2x2048x12x64 .f32) = I.aq
  k : (m ((c : Thread nD τ).loc main_arg1) : FVec Ideal S2x2048x12x64 .f32) = I.ak
  v : (m ((c : Thread nD τ).loc main_arg2) : FVec Ideal S2x2048x12x64 .f32) = I.av
  bias : (m ((c : Thread nD τ).loc main_arg3) : FVec Ideal S12x128x256 .f32) = I.ab
  o0 : (m ((c : Thread nD τ).loc main_arg4) : FVec Ideal S2x2048x12x64 .f32) = I.ao0
  l0 : (m ((c : Thread nD τ).loc main_arg5) : FVec Ideal S2x2048x12 .f32) = I.al0
  o1 : (m ((c : Thread nD τ).loc main_arg6) : FVec Ideal S2x2048x12x64 .f32) = I.ao1
  l1 : (m ((c : Thread nD τ).loc main_arg7) : FVec Ideal S2x2048x12 .f32) = I.al1
  ct : (m ((c : Thread nD τ).loc main_arg8) : FVec Ideal S2x2048x12x64 .f32) = I.ac

variable {m} {c : Dev nD} {I : Cert.AttnMath.In} (w : Args m c I)
include w

theorem x14_val (h : Fin 12) (i j : Fin 128) : x14 m c (ix3 h i (hi j)) = (if j ≤ i then ((I.bias h i (hi j) : ℝ) : EReal) else ⊥) := x14_at m c I w.bias h i j

theorem x25_val (b : Fin 2) (r : Fin 16) (h : Fin 12) (i j : Fin 128) : x25 m c (ix5 b r h i j) = (if j ≤ i then ((I.sc b r h i j : ℝ) : EReal) else ⊥) :=
  (congrFun (e25 m c) _).trans (at25 I w.q w.k (x14_val w) b r h i j)

theorem x26_val (b : Fin 2) (r : Fin 16) (h : Fin 12) (i : Fin 128) : x26 m c (ix4 b r h i) = ((I.top b r h i : ℝ) : EReal) :=
  (congrFun (e26 m c) _).trans (at26 I (x25_val w) b r h i)

theorem x30_val (b : Fin 2) (r : Fin 16) (h : Fin 12) (i j : Fin 128) : x30 m c (ix5 b r h i j) = ((I.x b r h i j * I.eps b r h i : ℝ) : EReal) :=
  (congrFun (e30 m c) _).trans (at30 I (x25_val w) (x26_val w) b r h i j)

theorem x31_val (b : Fin 2) (r : Fin 16) (h : Fin 12) (i : Fin 128) : x31 m c (ix4 b r h i) = ((I.den b r h i * I.eps b r h i : ℝ) : EReal) :=
  (congrFun (e31 m c) _).trans (at31 I (x30_val w) b r h i)

theorem x37_val (b : Fin 2) (r : Fin 16) (h : Fin 12) (i : Fin 128) (d : Fin 64) : x37 m c (ix5 b r h i d) = ((I.p2 b r h i d : ℝ) : EReal) :=
  (congrFun (e37 m c) _).trans (at37 I w.v (x30_val w) (x31_val w) b r h i d)

theorem x40_val (b : Fin 2) (r : Fin 16) (h : Fin 12) (i : Fin 128) : x40 m c (ix4 b r h i) = ((I.l2 b r h i : ℝ) : EReal) :=
  (congrFun (e40 m c) _).trans (at40 I (x26_val w) (x31_val w) b r h i)

theorem x43_val (b : Fin 2) (r : Fin 16) (h : Fin 12) (i : Fin 128) : x43 m c (ix4 b r h i) = ((I.l0 b (tok i r) h : ℝ) : EReal) :=
  (congrFun (e43 m c) _).trans (at43 I w.l0 b r h i)

theorem x46_val (b : Fin 2) (r : Fin 16) (h : Fin 12) (i : Fin 128) : x46 m c (ix4 b r h i) = ((I.l1 b (tok i r) h : ℝ) : EReal) :=
  (congrFun (e46 m c) _).trans (at46 I w.l1 b r h i)

theorem x48_val (b : Fin 2) (r : Fin 16) (h : Fin 12) (i : Fin 128) : x48 m c (ix4 b r h i) = ((I.mx b r h i : ℝ) : EReal) :=
  (congrFun (e48 m c) _).trans (at48 I (x40_val w) (x43_val w) (x46_val w) b r h i)

theorem x58_val (b : Fin 2) (r : Fin 16) (h : Fin 12) (i : Fin 128) : x58 m c (ix4 b r h i) = ((Real.log (I.tot b r h i) : ℝ) : EReal) :=
  (congrFun (e58 m c) _).trans (at58 I (x40_val w) (x43_val w) (x46_val w) (x48_val w) b r h i)

theorem x79_val (b : Fin 2) (r : Fin 16) (h : Fin 12) (i : Fin 128) (d : Fin 64) : x79 m c (ix5 b r h i d) = ((I.mix b r h i d : ℝ) : EReal) :=
  (congrFun (e79 m c) _).trans (at79 I w.o0 w.o1 (x37_val w) (x40_val w) (x43_val w) (x46_val w) (x58_val w) b r h i d)

theorem x83_val (b : Fin 2) (r : Fin 16) (h : Fin 12) (i : Fin 128) : x83 m c (ix4 b r h i) = ((I.ebar b r h i : ℝ) : EReal) :=
  (congrFun (e83 m c) _).trans (at83 I w.ct (x79_val w) b r h i)

theorem x99_e (b : Fin 2) (r : Fin 16) (L : Fin 128) (h : Fin 12) (i : Fin 128) (hL : L.val = h.val) : x99 m c (ix4 b r i L) = ((I.ebar b r h i : ℝ) : EReal) :=
  (congrFun (e99 m c) _).trans (at99_e I (x58_val w) (x83_val w) b r L h i hL)

theorem x99_t (b : Fin 2) (r : Fin 16) (L : Fin 128) (h : Fin 12) (i : Fin 128) (hL : L.val = 16 + h.val) : x99 m c (ix4 b r i L) = ((Real.log (I.tot b r h i) : ℝ) : EReal) :=
  (congrFun (e99 m c) _).trans (at99_t I (x58_val w) (x83_val w) b r L h i hL)

end Cert.AttnIdeal.Host
-- ==== Proof.Attn.Blocks.lean ====
module

public import proofs.«01_k».proof.Proof.Gen.AttnIdeal.Value
public import proofs.«01_k».proof.Proof.Attn.Body4A
public import proofs.«01_k».proof.Proof.Attn.Body4B
public import proofs.«01_k».proof.Proof.Attn.Body5A
public import proofs.«01_k».proof.Proof.Attn.Body5B
public import proofs.«01_k».proof.Proof.Attn.BodyVal
public import proofs.«01_k».proof.Proof.Attn.Host

@[expose] public section

set_option maxRecDepth 100000

noncomputable section

/-! The attention kernel's blocks as parts of what it is handed, and what each point leaves. -/

namespace Cert.AttnIdeal.Blocks

open Cert.AttnIdeal Cert.AttnIdeal.Gen Cert.AttnIdeal.Body Cert.AttnIdeal.BodyVal Cert.AttnIdeal.HostVal Idealize.ShloMosaic
  Idealize.ShloMosaic.TcCoe Idealize.SL.Sem Cert.AttnMath Cert.AttnIdeal.Host
open Idealize.ShloMosaic.Pipeline (Dat)

variable (m : (ℓ : Loc nD τ sig) → Buf (Elt Ideal) ℓ)

/-- The sequence and the residue of point `t`. -/
def seqOf (t : Fin cfg0.N) : Fin 2 := ⟨t.val / 16, by have := lt_of_lt_of_eq t.isLt (show cfg0.N = 32 from N_0); omega⟩
def resOf (t : Fin cfg0.N) : Fin 16 := ⟨t.val % 16, by omega⟩

theorem index_0_0 : ∀ t : Fin grid0.N, win0_0.index t 0 = t.val / 16 := by decide +kernel
theorem index_0_1 : ∀ t : Fin grid0.N, win0_0.index t 1 = t.val % 16 := by decide +kernel
theorem index_0_2 : ∀ t : Fin grid0.N, win0_0.index t 2 = 0 := by decide +kernel
theorem index_0_3 : ∀ t : Fin grid0.N, win0_0.index t 3 = 0 := by decide +kernel
theorem index_2_0 : ∀ t : Fin grid0.N, win0_2.index t 0 = t.val / 16 := by decide +kernel
theorem index_2_1 : ∀ t : Fin grid0.N, win0_2.index t 1 = t.val % 16 := by decide +kernel
theorem index_2_2 : ∀ t : Fin grid0.N, win0_2.index t 2 = 0 := by decide +kernel
theorem index_2_3 : ∀ t : Fin grid0.N, win0_2.index t 3 = 0 := by decide +kernel
theorem index_3_0 : ∀ t : Fin grid0.N, win0_3.index t 0 = t.val / 16 := by decide +kernel
theorem index_3_1 : ∀ t : Fin grid0.N, win0_3.index t 1 = t.val % 16 := by decide +kernel
theorem index_3_2 : ∀ t : Fin grid0.N, win0_3.index t 2 = 0 := by decide +kernel
theorem index_3_3 : ∀ t : Fin grid0.N, win0_3.index t 3 = 0 := by decide +kernel
theorem index_4_0 : ∀ t : Fin grid0.N, win0_4.index t 0 = t.val / 16 := by decide +kernel
theorem index_4_1 : ∀ t : Fin grid0.N, win0_4.index t 1 = t.val % 16 := by decide +kernel
theorem index_4_2 : ∀ t : Fin grid0.N, win0_4.index t 2 = 0 := by decide +kernel
theorem index_4_3 : ∀ t : Fin grid0.N, win0_4.index t 3 = 0 := by decide +kernel
theorem index_1_0 : ∀ t : Fin grid0.N, win0_1.index t 0 = 0 := by decide +kernel
theorem index_1_1 : ∀ t : Fin grid0.N, win0_1.index t 1 = 0 := by decide +kernel
theorem index_1_2 : ∀ t : Fin grid0.N, win0_1.index t 2 = 0 := by decide +kernel
theorem index_5_0 : ∀ t : Fin grid0.N, win0_5.index t 0 = 0 := by decide +kernel
theorem index_5_1 : ∀ t : Fin grid0.N, win0_5.index t 1 = 0 := by decide +kernel
theorem index_5_2 : ∀ t : Fin grid0.N, win0_5.index t 2 = 0 := by decide +kernel

theorem emb_0 (t : Fin cfg0.N) (i : Fin 128) (L : Fin 2304) : ((cfg0.win 0).blk t).view.emb (ix4 0 0 i L) = (ix4 (seqOf t) (resOf t) i L) := by
  refine funext fun a => Fin.ext ?_
  have h0 := index_0_0 t
  have h1 := index_0_1 t
  have h2 := index_0_2 t
  have h3 := index_0_3 t
  fin_cases a
  · show win0_0.index t 0 * 1 + 1 * 0 = t.val / 16
    omega
  · show win0_0.index t 1 * 1 + 1 * 0 = t.val % 16
    omega
  · show win0_0.index t 2 * 128 + 1 * i.val = i.val
    omega
  · show win0_0.index t 3 * 2304 + 1 * L.val = L.val
    omega

theorem read_0 (c : Dev nD) (t : Fin cfg0.N) (A : Buf (Elt Ideal) ((c : Thread nD τ).loc main_v102)) (i : Fin 128) (L : Fin 2304) :
    ((cfg0.win 0).blk t).view.read (Elt Ideal) A (ix4 0 0 i L) = A (ix4 (seqOf t) (resOf t) i L) := by
  exact congrArg A (emb_0 t i L)

theorem iblk_read_0 (c : Dev nD) (t : Fin cfg0.N) : iblk m c 0 t = ((cfg0.win 0).blk t).view.read (Elt Ideal) (V m c main_v102) := by
  unfold iblk
  rfl

theorem iblk_0 (c : Dev nD) (t : Fin cfg0.N) (i : Fin 128) (L : Fin 2304) : iblk m c 0 t (ix4 0 0 i L) = V m c main_v102 (ix4 (seqOf t) (resOf t) i L) :=
  (congrFun (iblk_read_0 m c t) _).trans (read_0 c t (V m c main_v102) i L)

theorem emb_1 (t : Fin cfg0.N) (h : Fin 12) (i : Fin 128) (j : Fin 256) : ((cfg0.win 1).blk t).view.emb (ix3 h i j) = (ix3 h i j) := by
  refine funext fun a => Fin.ext ?_
  have h0 := index_1_0 t
  have h1 := index_1_1 t
  have h2 := index_1_2 t
  fin_cases a
  · show win0_1.index t 0 * 12 + 1 * h.val = h.val
    omega
  · show win0_1.index t 1 * 128 + 1 * i.val = i.val
    omega
  · show win0_1.index t 2 * 256 + 1 * j.val = j.val
    omega

theorem read_1 (c : Dev nD) (t : Fin cfg0.N) (A : Buf (Elt Ideal) ((c : Thread nD τ).loc main_v14)) (h : Fin 12) (i : Fin 128) (j : Fin 256) :
    ((cfg0.win 1).blk t).view.read (Elt Ideal) A (ix3 h i j) = A (ix3 h i j) := by
  exact congrArg A (emb_1 t h i j)

theorem iblk_read_1 (c : Dev nD) (t : Fin cfg0.N) : iblk m c 1 t = ((cfg0.win 1).blk t).view.read (Elt Ideal) (V m c main_v14) := by
  unfold iblk
  rfl

theorem iblk_1 (c : Dev nD) (t : Fin cfg0.N) (h : Fin 12) (i : Fin 128) (j : Fin 256) : iblk m c 1 t (ix3 h i j) = V m c main_v14 (ix3 h i j) :=
  (congrFun (iblk_read_1 m c t) _).trans (read_1 c t (V m c main_v14) h i j)

theorem emb_2 (t : Fin cfg0.N) (i : Fin 128) (L : Fin 768) : ((cfg0.win 2).blk t).view.emb (ix4 0 0 i L) = (ix4 (seqOf t) (resOf t) i L) := by
  refine funext fun a => Fin.ext ?_
  have h0 := index_2_0 t
  have h1 := index_2_1 t
  have h2 := index_2_2 t
  have h3 := index_2_3 t
  fin_cases a
  · show win0_2.index t 0 * 1 + 1 * 0 = t.val / 16
    omega
  · show win0_2.index t 1 * 1 + 1 * 0 = t.val % 16
    omega
  · show win0_2.index t 2 * 128 + 1 * i.val = i.val
    omega
  · show win0_2.index t 3 * 768 + 1 * L.val = L.val
    omega

theorem read_2 (c : Dev nD) (t : Fin cfg0.N) (A : Buf (Elt Ideal) ((c : Thread nD τ).loc main_v98)) (i : Fin 128) (L : Fin 768) :
    ((cfg0.win 2).blk t).view.read (Elt Ideal) A (ix4 0 0 i L) = A (ix4 (seqOf t) (resOf t) i L) := by
  exact congrArg A (emb_2 t i L)

theorem iblk_read_2 (c : Dev nD) (t : Fin cfg0.N) : iblk m c 2 t = ((cfg0.win 2).blk t).view.read (Elt Ideal) (V m c main_v98) := by
  unfold iblk
  rfl

theorem iblk_2 (c : Dev nD) (t : Fin cfg0.N) (i : Fin 128) (L : Fin 768) : iblk m c 2 t (ix4 0 0 i L) = V m c main_v98 (ix4 (seqOf t) (resOf t) i L) :=
  (congrFun (iblk_read_2 m c t) _).trans (read_2 c t (V m c main_v98) i L)

theorem emb_3 (t : Fin cfg0.N) (i L : Fin 128) : ((cfg0.win 3).blk t).view.emb (ix4 0 0 i L) = (ix4 (seqOf t) (resOf t) i L) := by
  refine funext fun a => Fin.ext ?_
  have h0 := index_3_0 t
  have h1 := index_3_1 t
  have h2 := index_3_2 t
  have h3 := index_3_3 t
  fin_cases a
  · show win0_3.index t 0 * 1 + 1 * 0 = t.val / 16
    omega
  · show win0_3.index t 1 * 1 + 1 * 0 = t.val % 16
    omega
  · show win0_3.index t 2 * 128 + 1 * i.val = i.val
    omega
  · show win0_3.index t 3 * 128 + 1 * L.val = L.val
    omega

theorem read_3 (c : Dev nD) (t : Fin cfg0.N) (A : Buf (Elt Ideal) ((c : Thread nD τ).loc main_v99)) (i L : Fin 128) :
    ((cfg0.win 3).blk t).view.read (Elt Ideal) A (ix4 0 0 i L) = A (ix4 (seqOf t) (resOf t) i L) := by
  exact congrArg A (emb_3 t i L)

theorem iblk_read_3 (c : Dev nD) (t : Fin cfg0.N) : iblk m c 3 t = ((cfg0.win 3).blk t).view.read (Elt Ideal) (V m c main_v99) := by
  unfold iblk
  rfl

theorem iblk_3 (c : Dev nD) (t : Fin cfg0.N) (i L : Fin 128) : iblk m c 3 t (ix4 0 0 i L) = V m c main_v99 (ix4 (seqOf t) (resOf t) i L) :=
  (congrFun (iblk_read_3 m c t) _).trans (read_3 c t (V m c main_v99) i L)

variable {m} {c : Dev nD} {I : Cert.AttnMath.In} (w : Args m c I)
include w

/-- Point `t`'s blocks hold residue `resOf t` of sequence `seqOf t`. -/
theorem blk (t : Fin cfg0.N) :
    Blk I (seqOf t) (resOf t) (iblk m c 0 t) (iblk m c 1 t) (iblk m c 2 t) (iblk m c 3 t) where
  q i p l L hL := (iblk_0 m c t i L).trans (x102_q m c w.q (seqOf t) (resOf t) i p l L hL)
  k i p l L hL := (iblk_0 m c t i L).trans (x102_k m c w.k (seqOf t) (resOf t) i p l L hL)
  v i p l L hL := (iblk_0 m c t i L).trans (x102_v m c w.v (seqOf t) (resOf t) i p l L hL)
  bias h i j := (iblk_1 m c t h i (hi j)).trans (x14_val w h i j)
  ct i p l L hL := (iblk_2 m c t i L).trans (x98_at m c w.ct (seqOf t) (resOf t) i p l L hL)
  ebar L h i hL := (iblk_3 m c t i L).trans (x99_e w (seqOf t) (resOf t) L h i hL)
  tot L h i hL := (iblk_3 m c t i L).trans (x99_t w (seqOf t) (resOf t) L h i hL)

theorem outs_4 (t : Fin cfg0.N) (i : Fin 128) (L : Fin 2304) :
    (outsAt0 m c t.val t.isLt).1 (ix4 0 0 i L) = outQKV I (ix4 (seqOf t) (resOf t) i L) := by
  obtain ⟨p, part, l, rfl⟩ : ∃ (p : Fin 6) (part : Fin 3) (l : Fin 128), L = lan p.val part.val p.isLt part.isLt l :=
    ⟨⟨L.val / 384, by omega⟩, ⟨L.val / 128 % 3, by omega⟩, ⟨L.val % 128, by omega⟩,
      Fin.ext (by show L.val = L.val / 384 * 384 + L.val / 128 % 3 * 128 + L.val % 128; omega)⟩
  by_cases h : t.val % 32 = 0
  · rw [outsAt0_A m c t h]; dsimp only; rw [out_A_4]; exact grad_out (blk w t) p i part l _ rfl
  · rw [outsAt0_B m c t h]; dsimp only; rw [out_B_4]; exact grad_out (blk w t) p i part l _ rfl

/-- A head by its pair and its half. -/
theorem head_eq (h : Fin 12) : ∃ (p : Fin 6) (e : Fin 2), h = ⟨2 * p.val + e.val, by omega⟩ :=
  ⟨⟨h.val / 2, by omega⟩, ⟨h.val % 2, by omega⟩, Fin.ext (by show h.val = 2 * (h.val / 2) + h.val % 2; omega)⟩

/-- After point `n` the second half of the table's gradient holds what the points up to `n` add. -/
theorem outs_5 (h : Fin 12) (i j : Fin 128) : ∀ (n : ℕ) (hn : n < cfg0.N),
    (outsAt0 m c n hn).2 (ix3 h i (hi j)) = ∑ k : Fin (n + 1), ((I.ds (seqOf ⟨k.val, by omega⟩) (resOf ⟨k.val, by omega⟩) h i j : ℝ) : EReal)
  | 0, hn => by
    obtain ⟨p, e, rfl⟩ := head_eq w h
    rw [show outsAt0 m c 0 hn = _ from outsAt0_A m c ⟨0, hn⟩ rfl]; dsimp only
    rw [Fin.sum_univ_one]
    exact (out_A_5 _ _ _ _ _ _ _ _ _ _ _ _ _ _ _ _ _ _ _ p e i j).trans (dsB_eq (blk w ⟨0, hn⟩) p e i j)
  | n + 1, hn => by
    have hN : cfg0.N = 32 := N_0
    have ih := outs_5 h i j n (by omega)
    obtain ⟨p, e, rfl⟩ := head_eq w h
    rw [show outsAt0 m c (n + 1) hn = _ from outsAt0_B m c ⟨n + 1, hn⟩ (by dsimp only; omega)]; dsimp only
    rw [Fin.sum_univ_castSucc]
    refine (out_B_5 _ _ _ _ _ _ _ _ _ _ _ _ _ _ _ _ _ _ _ _ p e i j).trans ?_
    exact congrArg₂ (· + ·) ih (dsB_eq (blk w ⟨n + 1, hn⟩) p e i j)

/-- The first half stays zero. -/
theorem outs_5_first (h : Fin 12) (i : Fin 128) (k : Fin 128) : ∀ (n : ℕ) (hn : n < cfg0.N),
    (outsAt0 m c n hn).2 (ix3 h i ⟨k.val, by omega⟩) = (0 : EReal)
  | 0, hn => by
    rw [show outsAt0 m c 0 hn = _ from outsAt0_A m c ⟨0, hn⟩ rfl]; dsimp only
    rw [out_A_5_first]
  | n + 1, hn => by
    have hN : cfg0.N = 32 := N_0
    rw [show outsAt0 m c (n + 1) hn = _ from outsAt0_B m c ⟨n + 1, hn⟩ (by dsimp only; omega)]; dsimp only
    rw [out_B_5_first]
    exact outs_5_first h i k n (by omega)

end Cert.AttnIdeal.Blocks

end
-- ==== Proof.Attn.Arrays.lean ====
module

public import proofs.«01_k».proof.Proof.Attn.Blocks
public import Idealize.ShloMosaic.Lib.Pipeline.Value

@[expose] public section

set_option maxRecDepth 100000
set_option maxHeartbeats 1000000

noncomputable section

/-! The attention kernel's two result arrays. -/

namespace Cert.AttnIdeal.Arrays

open Cert.AttnIdeal Cert.AttnIdeal.Gen Cert.AttnIdeal.Blocks Cert.AttnIdeal.Host Cert.AttnIdeal.HostVal Idealize.ShloMosaic
  Idealize.ShloMosaic.TcCoe Idealize.SL.Sem Cert.AttnMath
open Idealize.ShloMosaic.Pipeline (Dat)

/-- The point whose block holds residue `r` of sequence `b`. -/
def pointOf (b : Fin 2) (r : Fin 16) : Fin cfg0.N := ⟨b.val * 16 + r.val, by rw [show cfg0.N = 32 from N_0]; omega⟩

/-- The sum over the points is the sum over the sequences and the residues. -/
theorem sum_points (f : Fin 2 → Fin 16 → ℝ) :
    ∑ k : Fin 32, ((f ⟨k.val / 16, by omega⟩ ⟨k.val % 16, by omega⟩ : ℝ) : EReal) = ((∑ b, ∑ r, f b r : ℝ) : EReal) := by
  rw [← Fintype.sum_prod_type' f, ← Cert.AttnRow.coe_sum]
  exact Fintype.sum_equiv (finProdFinEquiv (m := 2) (n := 16)).symm (fun k : Fin (2 * 16) => ((f ⟨k.val / 16, by omega⟩ ⟨k.val % 16, by omega⟩ : ℝ) : EReal)) (fun x : Fin 2 × Fin 16 => ((f x.1 x.2 : ℝ) : EReal)) fun k => rfl

variable {m : (ℓ : Loc nD τ sig) → Buf (Elt Ideal) ℓ} {c : Dev nD} {I : Cert.AttnMath.In} (w : Args m c I)
include w

theorem final_4 : (dats m 0 c).arrAt 4 cfg0.N = outQKV I := by
  refine (dats m 0 c).arrAt_eq_of_cover 4 (outQKV I) (fun t hf => ?_) (fun i => ?_)
  · have h0 := index_4_0 t
    have h1 := index_4_1 t
    have h2 := index_4_2 t
    have h3 := index_4_3 t
    rw [Value.flushed4]
    funext j
    change S1x1x128x2304.Idx at j
    obtain ⟨z, z', i, L, rfl⟩ : ∃ z z' i L, j = ix4 z z' i L := ⟨j 0, j 1, j 2, j 3, eq_ix4 j⟩
    obtain rfl : z = 0 := Subsingleton.elim _ _
    obtain rfl : z' = 0 := Subsingleton.elim _ _
    refine (outs_4 w t i L).trans (congrArg (outQKV I) (funext fun a => Fin.ext ?_))
    fin_cases a
    · show t.val / 16 = win0_4.index t 0 * 1 + 1 * 0
      omega
    · show t.val % 16 = win0_4.index t 1 * 1 + 1 * 0
      omega
    · show i.val = win0_4.index t 2 * 128 + 1 * i.val
      omega
    · show L.val = win0_4.index t 3 * 2304 + 1 * L.val
      omega
  · change S2x16x128x2304.Idx at i
    have i0 : (i 0).val < 2 := (i 0).isLt
    have i1 : (i 1).val < 16 := (i 1).isLt
    have i2 : (i 2).val < 128 := (i 2).isLt
    have i3 : (i 3).val < 2304 := (i 3).isLt
    have h0 := index_4_0 (pointOf (i 0) (i 1))
    have h1 := index_4_1 (pointOf (i 0) (i 1))
    have h2 := index_4_2 (pointOf (i 0) (i 1))
    have h3 := index_4_3 (pointOf (i 0) (i 1))
    have hp : (pointOf (i 0) (i 1)).val = (i 0).val * 16 + (i 1).val := rfl
    refine ⟨pointOf (i 0) (i 1), flush0_4 _, ?_⟩
    show i ∈ ((View.whole main_v103_0).slice (win0_4.rect (pointOf (i 0) (i 1)))).set
    rw [View.set_slice_whole, Rect.mem_set_unit]
    intro a
    fin_cases a
    · show win0_4.index (pointOf (i 0) (i 1)) 0 * 1 ≤ (i 0).val ∧ (i 0).val < win0_4.index (pointOf (i 0) (i 1)) 0 * 1 + 1
      omega
    · show win0_4.index (pointOf (i 0) (i 1)) 1 * 1 ≤ (i 1).val ∧ (i 1).val < win0_4.index (pointOf (i 0) (i 1)) 1 * 1 + 1
      omega
    · show win0_4.index (pointOf (i 0) (i 1)) 2 * 128 ≤ (i 2).val ∧ (i 2).val < win0_4.index (pointOf (i 0) (i 1)) 2 * 128 + 128
      omega
    · show win0_4.index (pointOf (i 0) (i 1)) 3 * 2304 ≤ (i 3).val ∧ (i 3).val < win0_4.index (pointOf (i 0) (i 1)) 3 * 2304 + 2304
      omega

/-- What the last point leaves of the table's gradient. -/
theorem last_5 (h : Fin 12) (i : Fin 128) (j : Fin 256) (hn : 31 < cfg0.N) :
    (outsAt0 m c 31 hn).2 (ix3 h i j) = outB I (ix3 h i j) := by
  by_cases hj : 128 ≤ j.val
  · obtain ⟨k, rfl⟩ : ∃ k : Fin 128, j = hi k := ⟨⟨j.val - 128, by omega⟩, Fin.ext (by show j.val = 128 + (j.val - 128); omega)⟩
    refine (outs_5 w h i k 31 hn).trans ((sum_points fun b r => I.ds b r h i k).trans ?_)
    show _ = if h' : 128 ≤ (hi k).val then ((I.db h i ⟨(hi k).val - 128, _⟩ : ℝ) : EReal) else 0
    rw [dif_pos hj]
    have e : (⟨(hi k).val - 128, by omega⟩ : Fin 128) = k := Fin.ext (by show 128 + k.val - 128 = k.val; omega)
    rw [e]
    rfl
  · obtain ⟨k, rfl⟩ : ∃ k : Fin 128, j = (⟨k.val, lt_trans k.isLt (by decide)⟩ : Fin 256) := ⟨⟨j.val, by omega⟩, rfl⟩
    refine (outs_5_first w h i k 31 hn).trans ?_
    show _ = if h' : 128 ≤ k.val then _ else (0 : EReal)
    rw [dif_neg hj]

theorem final_5 : (dats m 0 c).arrAt 5 cfg0.N = outB I := by
  have hN : cfg0.N = 32 := N_0
  refine (dats m 0 c).arrAt_eq_of_cover 5 (outB I) (fun t hf => ?_) (fun i => ?_)
  · have ht : t.val = 31 := by have := (flush0_5 t).mp hf; have := t.isLt; omega
    have h0 := index_5_0 t
    have h1 := index_5_1 t
    have h2 := index_5_2 t
    rw [Value.flushed5]
    obtain ⟨n, hn⟩ := t
    obtain rfl : n = 31 := ht
    funext j
    change S12x128x256.Idx at j
    obtain ⟨h, i, k, rfl⟩ : ∃ h i k, j = ix3 h i k := ⟨j 0, j 1, j 2, eq_ix3 j⟩
    refine (last_5 w h i k _).trans (congrArg (outB I) (funext fun a => Fin.ext ?_))
    fin_cases a
    · show h.val = win0_5.index _ 0 * 12 + 1 * h.val
      omega
    · show i.val = win0_5.index _ 1 * 128 + 1 * i.val
      omega
    · show k.val = win0_5.index _ 2 * 256 + 1 * k.val
      omega
  · change S12x128x256.Idx at i
    have i0 : (i 0).val < 12 := (i 0).isLt
    have i1 : (i 1).val < 128 := (i 1).isLt
    have i2 : (i 2).val < 256 := (i 2).isLt
    have h31 : 31 < cfg0.N := by omega
    have h0 := index_5_0 ⟨31, h31⟩
    have h1 := index_5_1 ⟨31, h31⟩
    have h2 := index_5_2 ⟨31, h31⟩
    refine ⟨⟨31, h31⟩, (flush0_5 _).mpr rfl, ?_⟩
    show i ∈ ((View.whole main_v103_1).slice (win0_5.rect ⟨31, h31⟩)).set
    rw [View.set_slice_whole, Rect.mem_set_unit]
    intro a
    fin_cases a
    · show win0_5.index ⟨31, h31⟩ 0 * 12 ≤ (i 0).val ∧ (i 0).val < win0_5.index ⟨31, h31⟩ 0 * 12 + 12
      omega
    · show win0_5.index ⟨31, h31⟩ 1 * 128 ≤ (i 1).val ∧ (i 1).val < win0_5.index ⟨31, h31⟩ 1 * 128 + 128
      omega
    · show win0_5.index ⟨31, h31⟩ 2 * 256 ≤ (i 2).val ∧ (i 2).val < win0_5.index ⟨31, h31⟩ 2 * 256 + 256
      omega

end Cert.AttnIdeal.Arrays

end
-- ==== Proof.Attn.RefRun.lean ====
module

public import proofs.«01_k».proof.Proof.Attn.Ref
public import proofs.«01_k».proof.Proof.Gen.AttnRefIdeal.Run

@[expose] public section

set_option maxRecDepth 16384
set_option maxHeartbeats 1000000

noncomputable section

/-! What the reference leaves of real arguments. -/

namespace Cert.AttnRefIdeal.Results

open Cert.AttnRefIdeal Cert.AttnRefIdeal.Gen Idealize.ShloMosaic Idealize.ShloMosaic.TcCoe Idealize.SL.Sem Cert.AttnMath Cert.AttnRefIdeal.Read
  Idealize.ShloMosaic.StableHlo

/-- The reference's program as stages over its arguments. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v177) = val_main_v177 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v158) = val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run (F := Ideal) m ρ)
  obtain ⟨h0, h1, h⟩ := h c
  exact ⟨h0.trans (val_main_v177_eq (F := Ideal) (launchContents m c)), h1.trans (val_main_v158_eq (F := Ideal) (launchContents m c)), h⟩

end Cert.AttnRefIdeal.Results

end
-- ==== Proof.Attn.Pre.lean ====
module

public import proofs.«01_k».proof.Defs
public import proofs.«01_k».proof.Proof.Attn.Host
public import Idealize.ShloMosaic.Lib.ReduceAll

@[expose] public section

noncomputable section

/-! Finite arguments: the precondition says that every argument is an array of real numbers. -/

namespace Cert.AttnPre

open Idealize.ShloMosaic Idealize.ShloMosaic.TcCoe Idealize.SL.Sem Cert.AttnMath

instance facts : Cert.Pre_attn_finite.Facts where
  bcast_S_S2x2048x12x64 := by decide
  reducesTo_S2x2048x12x64_S_d0_1_2_3 := by decide
  h_S_ := by decide
  bcast_S_S12x128x256 := by decide
  reducesTo_S12x128x256_S_d0_1_2 := by decide
  bcast_S_S2x2048x12 := by decide
  reducesTo_S2x2048x12_S_d0_1_2 := by decide

theorem inf : Ideal.ofBits .f32 0x7F800000#32 = ⊤ := by simp [Ideal.ofBits, Ideal.ieee]

/-- A number below the top in absolute value is real. -/
theorem real_of_abs_lt {x : EReal} (h : max x (-x) < ⊤) : ((x.toReal : ℝ) : EReal) = x := by
  refine EReal.coe_toReal (fun e => ?_) (fun e => ?_)
  · rw [e] at h; simp at h
  · rw [e] at h; simp at h

/-- An array that passes the test holds real numbers. -/
theorem real_of_all {s t u : Shape} {axes : List (Fin s.rank)} [Subsingleton t.Idx] (x : FVec Ideal s .f32) {d : Fin (0 : ℕ) → Fin s.rank}
    (hb : (⟨0, ![]⟩ : Shape).BroadcastsInDim s d) (v : u.Idx → BitVec 1) (hr : s.ReducesTo axes t) (hu : 0 < u.numel) (j : t.Idx)
    (e : Host.reduce IntOp.andi (cmpf .olt (Host.absf x) (broadcastInDim s d hb (constant (F := Ideal) ⟨0, ![]⟩ .f32 0x7F800000#32))) v hr hu j = 1#1)
    (i : s.Idx) : (((x i : EReal).toReal : ℝ) : EReal) = x i := by
  have h := Host.reduce_andi_all _ _ hr hu j e i
  refine real_of_abs_lt ?_
  have h' : Ideal.cmp .olt (max (x i : EReal) (-(x i : EReal))) (Ideal.ofBits .f32 0x7F800000#32) = 1 := h
  rw [inf] at h'
  exact (Ideal.cmp_olt_eq_one _ _).1 h'

abbrev V4 := FVec Ideal ⟨4, ![2, 2048, 12, 64]⟩ .f32
abbrev V3 := FVec Ideal ⟨3, ![2, 2048, 12]⟩ .f32
abbrev VB := FVec Ideal ⟨3, ![12, 128, 256]⟩ .f32

/-- The real numbers of the nine arguments. -/
def input (a0 a1 a2 : V4) (a3 : VB) (a4 : V4) (a5 : V3) (a6 : V4) (a7 : V3) (a8 : V4) : In where
  q b s h d := (a0 (ix4 b s h d) : EReal).toReal
  k b s h d := (a1 (ix4 b s h d) : EReal).toReal
  v b s h d := (a2 (ix4 b s h d) : EReal).toReal
  bias h i j := (a3 (ix3 h i j) : EReal).toReal
  o0 b s h d := (a4 (ix4 b s h d) : EReal).toReal
  l0 b s h := (a5 (ix3 b s h) : EReal).toReal
  o1 b s h d := (a6 (ix4 b s h d) : EReal).toReal
  l1 b s h := (a7 (ix3 b s h) : EReal).toReal
  ct b s h d := (a8 (ix4 b s h d) : EReal).toReal

theorem arr4_of (a : V4) (h : ∀ i, (((a i : EReal).toReal : ℝ) : EReal) = a i) : a = arr4 fun b s h d => (a (ix4 b s h d) : EReal).toReal := by
  funext i
  obtain ⟨b, s, g, d, rfl⟩ : ∃ b s g d, i = ix4 b s g d := ⟨i 0, i 1, i 2, i 3, eq_ix4 i⟩
  exact (h _).symm

theorem arr3_of (a : V3) (h : ∀ i, (((a i : EReal).toReal : ℝ) : EReal) = a i) : a = arr3 fun b s h => (a (ix3 b s h) : EReal).toReal := by
  funext i
  obtain ⟨b, s, g, rfl⟩ : ∃ b s g, i = ix3 b s g := ⟨i 0, i 1, i 2, eq_ix3 i⟩
  exact (h _).symm

theorem arrB_of (a : VB) (h : ∀ i, (((a i : EReal).toReal : ℝ) : EReal) = a i) : a = arrB fun b s h => (a (ix3 b s h) : EReal).toReal := by
  funext i
  obtain ⟨b, s, g, rfl⟩ : ∃ b s g, i = ix3 b s g := ⟨i 0, i 1, i 2, eq_ix3 i⟩
  exact (h _).symm

instance : Subsingleton Cert.Pre_attn_finite.S_.Idx := ⟨fun a b => funext fun x => x.elim0⟩

theorem and_at {s : Shape} {x y : IVec s 1} {i : s.Idx} (h : andi x y i = 1#1) : x i = 1#1 ∧ y i = 1#1 := IntOp.andi_eq_one.1 h

theorem args_real (a0 a1 a2 : V4) (a3 : VB) (a4 : V4) (a5 : V3) (a6 : V4) (a7 : V3) (a8 : V4)
    (h : Cert.Pre_attn_finite.fn (F := Ideal) a0 a1 a2 a3 a4 a5 a6 a7 a8 = fun _ => 1#1) :
    a0 = (input a0 a1 a2 a3 a4 a5 a6 a7 a8).aq ∧ a1 = (input a0 a1 a2 a3 a4 a5 a6 a7 a8).ak ∧ a2 = (input a0 a1 a2 a3 a4 a5 a6 a7 a8).av
      ∧ a3 = (input a0 a1 a2 a3 a4 a5 a6 a7 a8).ab ∧ a4 = (input a0 a1 a2 a3 a4 a5 a6 a7 a8).ao0 ∧ a5 = (input a0 a1 a2 a3 a4 a5 a6 a7 a8).al0
      ∧ a6 = (input a0 a1 a2 a3 a4 a5 a6 a7 a8).ao1 ∧ a7 = (input a0 a1 a2 a3 a4 a5 a6 a7 a8).al1 ∧ a8 = (input a0 a1 a2 a3 a4 a5 a6 a7 a8).ac := by
  have h := congrFun h ix0
  unfold Cert.Pre_attn_finite.fn Cert.Pre_attn_finite.fn_part1 Cert.Pre_attn_finite.fn_part2 at h
  obtain ⟨h, h8⟩ := and_at h
  obtain ⟨h, h7⟩ := and_at h
  obtain ⟨h, h6⟩ := and_at h
  obtain ⟨h, h5⟩ := and_at h
  obtain ⟨h, h4⟩ := and_at h
  obtain ⟨h, h3⟩ := and_at h
  obtain ⟨h, h2⟩ := and_at h
  obtain ⟨h0, h1⟩ := and_at h
  exact ⟨arr4_of a0 (real_of_all a0 _ _ _ _ _ h0), arr4_of a1 (real_of_all a1 _ _ _ _ _ h1), arr4_of a2 (real_of_all a2 _ _ _ _ _ h2),
    arrB_of a3 (real_of_all a3 _ _ _ _ _ h3), arr4_of a4 (real_of_all a4 _ _ _ _ _ h4), arr3_of a5 (real_of_all a5 _ _ _ _ _ h5),
    arr4_of a6 (real_of_all a6 _ _ _ _ _ h6), arr3_of a7 (real_of_all a7 _ _ _ _ _ h7), arr4_of a8 (real_of_all a8 _ _ _ _ _ h8)⟩

end Cert.AttnPre

end
-- ==== Proof.Attn.Claim.lean ====
module

public import proofs.«01_k».proof.Defs
public import proofs.«01_k».proof.Proof.Attn.Arrays
public import proofs.«01_k».proof.Proof.Attn.RefRun
public import proofs.«01_k».proof.Proof.Attn.Pre
public import Idealize.ShloMosaic.Lib.Quiescent

@[expose] public section

set_option maxRecDepth 16384

noncomputable section

/-! The attention gradient's claims. -/

namespace Cert.AttnClaim

open Idealize.ShloMosaic Idealize.ShloMosaic.TcCoe Idealize.SL.Sem Cert.AttnMath

theorem frame_ref : Cert.quiescent_AttnRefIdeal := fun m ρ _ =>
  (θ_run Cert.AttnRefIdeal.defs _ _).mono (fun r h => ⟨fun c => (h c).2.2, sem_eq_zero_of_no_sems (by decide) r.2⟩)
    (Cert.AttnRefIdeal.Results.results m ρ)

theorem frame_ref_pre : Cert.quiescent_AttnRefIdeal_pre_attn_finite := fun m ρ _ => frame_ref m ρ trivial

/-- The real arguments on device `c`. -/
def inp (m : (ℓ : Loc Cert.AttnIdeal.nD Cert.AttnIdeal.τ Cert.AttnIdeal.sig) → Buf (Elt Ideal) ℓ) (c : Dev Cert.AttnIdeal.nD) : In :=
  Cert.AttnPre.input (m ((c.tc : Thread Cert.AttnIdeal.nD Cert.AttnIdeal.τ).loc Cert.AttnIdeal.main_arg0)) (m ((c.tc : Thread Cert.AttnIdeal.nD Cert.AttnIdeal.τ).loc Cert.AttnIdeal.main_arg1))
    (m ((c.tc : Thread Cert.AttnIdeal.nD Cert.AttnIdeal.τ).loc Cert.AttnIdeal.main_arg2)) (m ((c.tc : Thread Cert.AttnIdeal.nD Cert.AttnIdeal.τ).loc Cert.AttnIdeal.main_arg3))
    (m ((c.tc : Thread Cert.AttnIdeal.nD Cert.AttnIdeal.τ).loc Cert.AttnIdeal.main_arg4)) (m ((c.tc : Thread Cert.AttnIdeal.nD Cert.AttnIdeal.τ).loc Cert.AttnIdeal.main_arg5))
    (m ((c.tc : Thread Cert.AttnIdeal.nD Cert.AttnIdeal.τ).loc Cert.AttnIdeal.main_arg6)) (m ((c.tc : Thread Cert.AttnIdeal.nD Cert.AttnIdeal.τ).loc Cert.AttnIdeal.main_arg7))
    (m ((c.tc : Thread Cert.AttnIdeal.nD Cert.AttnIdeal.τ).loc Cert.AttnIdeal.main_arg8))

theorem args_of (m : (ℓ : Loc Cert.AttnIdeal.nD Cert.AttnIdeal.τ Cert.AttnIdeal.sig) → Buf (Elt Ideal) ℓ) (h : Cert.Pre_AttnIdeal_attn_finite m)
    (c : Dev Cert.AttnIdeal.nD) : Cert.AttnIdeal.Host.Args m c (inp m c) := by
  obtain ⟨e0, e1, e2, e3, e4, e5, e6, e7, e8⟩ := Cert.AttnPre.args_real _ _ _ _ _ _ _ _ _ (h c)
  exact ⟨e0, e1, e2, e3, e4, e5, e6, e7, e8⟩

theorem algebraic : Cert.algebraic_AttnIdeal_AttnRefIdeal_pre_attn_finite := by
  intro m ρ m' ρ' hpre hargs
  refine ⟨fun c => outQKV (inp m c), fun c => outB (inp m c), ?_, ?_⟩
  · refine (θ_run _ _ _).mono (fun r h c => ?_) (Cert.AttnIdeal.Value.run_blocks m ρ)
    obtain ⟨h4, h5, h⟩ := h c
    exact ⟨h4.trans (Cert.AttnIdeal.Arrays.final_4 (args_of m hpre c)), h5.trans (Cert.AttnIdeal.Arrays.final_5 (args_of m hpre c)), h⟩
  · refine (θ_run _ _ _).mono (fun r h c => ?_) (Cert.AttnRefIdeal.Results.results m' ρ')
    obtain ⟨e0, e1, e2, e3, e4, e5, e6, e7, e8⟩ := hargs c
    have w := args_of m hpre c
    obtain ⟨h0, h1, h⟩ := h c
    refine ⟨h0.trans ?_, h1.trans ?_, h⟩
    · rw [e0.trans w.q, e1.trans w.k, e2.trans w.v, e3.trans w.bias, e4.trans w.o0, e5.trans w.l0, e6.trans w.o1, e7.trans w.l1, e8.trans w.ct]
      exact (inp m c).v177_eq
    · rw [e0.trans w.q, e1.trans w.k, e2.trans w.v, e3.trans w.bias, e4.trans w.o0, e5.trans w.l0, e6.trans w.o1, e7.trans w.l1, e8.trans w.ct]
      exact (inp m c).v158_eq

end Cert.AttnClaim

end
-- ==== Proof.Prod.Math.lean ====
module

public import Idealize.ShloMosaic.Lib.Pointwise
public import Idealize.ShloMosaic.Lib.ValueIdx
public import Idealize.ShloMosaic.Lib.TwoAxisContraction
public import Idealize.ShloMosaic.PureOps.Ideal.Laws

@[expose] public section

noncomputable section

/-! The step's matrix products as formulas over the extended reals, and how a sum over blocks of rows is one over
    sequences and positions. -/

namespace Cert.ProdMath

open Idealize.ShloMosaic

/-- Contents of a matrix. -/
abbrev M2 (a b : ℕ) := (⟨2, ![a, b]⟩ : Shape).Idx → EReal
/-- Contents of an array of rank three. -/
abbrev M3 (a b c : ℕ) := (⟨3, ![a, b, c]⟩ : Shape).Idx → EReal

/-- The product of two token arrays over sequences and positions: the gradient of a weight. -/
def outer {n k : ℕ} (l : M3 2 2048 n) (r : M3 2 2048 k) : M2 n k :=
  fun i => ∑ b : Fin 2, ∑ s : Fin 2048, l (ix3 b s (i 0)) * r (ix3 b s (i 1))

/-- The gradient's factors may be taken in either order. -/
theorem outer_swap {n k : ℕ} (l : M3 2 2048 n) (r : M3 2 2048 k) (i : Fin n) (j : Fin k) :
    outer l r (ix2 i j) = outer r l (ix2 j i) :=
  Finset.sum_congr rfl fun _ _ => Finset.sum_congr rfl fun _ _ => mul_comm _ _

/-- Two such products, the one of 768 rows above the one of 2048. -/
def stacked {k : ℕ} (l : M3 2 2048 768) (r : M3 2 2048 k) (l' : M3 2 2048 2048) (r' : M3 2 2048 k) : M2 2816 k :=
  fun i => if h : (i 0).val < 768 then outer l r (ix2 ⟨(i 0).val, h⟩ (i 1))
    else outer l' r' (ix2 ⟨(i 0).val - 768, by have h' : (i 0).val < 2816 := (i 0).isLt; omega⟩ (i 1))

/-- A token array times a weight. -/
def times {k n : ℕ} (x : M3 2 2048 k) (w : M2 k n) : M3 2 2048 n :=
  fun i => ∑ j : Fin k, x (ix3 (i 0) (i 1) j) * w (ix2 j (i 2))

/-- A token array times a transposed weight. -/
def timesT {k n : ℕ} (x : M3 2 2048 k) (w : M2 n k) : M3 2 2048 n :=
  fun i => ∑ j : Fin k, x (ix3 (i 0) (i 1) j) * w (ix2 (i 2) j)

/-- Eight blocks of 512 rows are the two sequences of 2048 positions. -/
theorem sum_blocks (f : Fin 2 → Fin 2048 → EReal) :
    ∑ t : Fin 8, ∑ r : Fin 512, f ⟨t.val / 4, by omega⟩ ⟨t.val % 4 * 512 + r.val, by omega⟩ = ∑ n : Fin 2, ∑ s : Fin 2048, f n s := by
  have e1 : ∀ n : Fin 2, ∑ s : Fin 2048, f n s = ∑ i : Fin 4, ∑ r : Fin 512, f n ⟨i.val * 512 + r.val, by omega⟩ := fun n => by
    rw [← (finProdFinEquiv (m := 4) (n := 512)).sum_comp (fun s => f n s), Fintype.sum_prod_type]
    refine Finset.sum_congr rfl fun i _ => Finset.sum_congr rfl fun r _ => congrArg (f n) (Fin.ext ?_)
    show r.val + 512 * i.val = i.val * 512 + r.val
    omega
  rw [← (finProdFinEquiv (m := 2) (n := 4)).sum_comp, Fintype.sum_prod_type]
  refine Finset.sum_congr rfl fun n _ => ?_
  rw [e1]
  refine Finset.sum_congr rfl fun i _ => Finset.sum_congr rfl fun r _ => ?_
  have h : (finProdFinEquiv (n, i)).val = i.val + 4 * n.val := rfl
  have hn : n.val < 2 := n.isLt
  have hi : i.val < 4 := i.isLt
  exact congr (congrArg f (Fin.ext (by show (finProdFinEquiv (n, i)).val / 4 = n.val; omega))) (Fin.ext (by show (finProdFinEquiv (n, i)).val % 4 * 512 + r.val = i.val * 512 + r.val; omega))

/-- What seven points have added, and what the eighth adds: the sum over the two sequences. -/
theorem run_sum {N : ℕ} (hN : N = 8) (f : Fin 2 → Fin 2048 → EReal) (g : Fin N → EReal) (s : EReal)
    (hg : ∀ t : Fin N, g t = ∑ r : Fin 512, f ⟨t.val / 4, by omega⟩ ⟨t.val % 4 * 512 + r.val, by omega⟩)
    (hs : s = ∑ k : Fin (6 + 1), g ⟨k.val, by omega⟩) (h : 7 < N) : s + g ⟨7, h⟩ = ∑ n : Fin 2, ∑ p : Fin 2048, f n p := by
  subst hN
  rw [← sum_blocks f, hs, ← Finset.sum_congr rfl fun t _ => hg t]
  exact (Fin.sum_univ_castSucc g).symm

end Cert.ProdMath

end
-- ==== Proof.Prod.DwQkv.lean ====
module

public import proofs.«01_k».proof.Defs
public import proofs.«01_k».proof.Proof.Gen.DwQkvIdeal.Value
public import proofs.«01_k».proof.Proof.Gen.DwQkvRefIdeal.Run
public import proofs.«01_k».proof.Proof.Prod.Math
public import Idealize.ShloMosaic.Lib.Pipeline.ValueKit.Acc
public import Idealize.ShloMosaic.Lib.StableHlo.ReadAt
public import Idealize.ShloMosaic.Lib.Quiescent

@[expose] public section

set_option maxRecDepth 16384

noncomputable section

namespace Cert.DwQkvIdeal.Prod

open Cert.DwQkvIdeal Cert.DwQkvIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 4, by have := lt_of_lt_of_eq t.isLt (show cfg0.N = 8 from N_0); omega⟩
/-- The position of row `r` of point `t`'s block. -/
def rowOf (t : Fin cfg0.N) (r : Fin 512) : Fin 2048 := ⟨t.val % 4 * 512 + r.val, by omega⟩

theorem index_0 : ∀ t : Fin grid0.N, win0_0.index t 0 = t.val / 4 ∧ win0_0.index t 1 = t.val % 4 ∧ win0_0.index t 2 = 0 := by decide +kernel
theorem index_1 : ∀ t : Fin grid0.N, win0_1.index t 0 = t.val / 4 ∧ win0_1.index t 1 = t.val % 4 ∧ win0_1.index t 2 = 0 := by decide +kernel

theorem V_0 (c : Dev nD) (i : S2x2048x1024.Idx) : V m c main_v0 i = m ((c : Thread nD τ).loc main_arg0) i := by
  unfold V
  after_reads_at

theorem V_1 (c : Dev nD) (i : S2x2048x2304.Idx) : V m c main_v1 i = m ((c : Thread nD τ).loc main_arg1) i := by
  unfold V
  after_reads_at

/-- The arguments, as the launch finds them. -/
abbrev a0 (c : Dev nD) : Cert.ProdMath.M3 2 2048 1024 := m ((c : Thread nD τ).loc main_arg0)
abbrev a1 (c : Dev nD) : Cert.ProdMath.M3 2 2048 2304 := m ((c : Thread nD τ).loc main_arg1)

theorem iblk_0 (c : Dev nD) (t : Fin cfg0.N) (r : Fin 512) (k : Fin 1024) :
    iblk m c 0 t (ix3 0 r k) = a0 m c (ix3 (seqOf t) (rowOf t r) k) := by
  refine Eq.trans ?_ (V_0 m c (ix3 (seqOf t) (rowOf t r) k))
  show V m c main_v0 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 4
    omega
  · show win0_0.index t 1 * 512 + 1 * r.val = t.val % 4 * 512 + r.val
    omega
  · show win0_0.index t 2 * 1024 + 1 * k.val = k.val
    omega

theorem iblk_1 (c : Dev nD) (t : Fin cfg0.N) (r : Fin 512) (k : Fin 2304) :
    iblk m c 1 t (ix3 0 r k) = a1 m c (ix3 (seqOf t) (rowOf t r) k) := by
  refine Eq.trans ?_ (V_1 m c (ix3 (seqOf t) (rowOf t r) k))
  show V m c main_v1 (((cfg0.win 1).blk t).view.emb (ix3 0 r k)) = _
  refine congrArg _ (funext fun a => Fin.ext ?_)
  obtain ⟨h0, h1, h2⟩ := index_1 t
  fin_cases a
  · show win0_1.index t 0 * 1 + 1 * 0 = t.val / 4
    omega
  · show win0_1.index t 1 * 512 + 1 * r.val = t.val % 4 * 512 + r.val
    omega
  · show win0_1.index t 2 * 2304 + 1 * k.val = k.val
    omega

theorem pay_zero (j : Fin 2304) (e : Fin 1024) : k0_pay1 (F := Ideal) (ix2 j e) = (0 : EReal) := by
  unfold k0_pay1
  pointwise

/-- One block's product. -/
def part (x1 : Vec Ideal S1x512x2304 .bf16) (x0 : Vec Ideal S1x512x1024 .bf16) (j : Fin 2304) (e : Fin 1024) : EReal :=
  ∑ r : Fin 512, (x1 (ix3 0 r j) : EReal) * (x0 (ix3 0 r e) : EReal)

theorem pay_add (x0 : Vec Ideal S1x512x1024 .bf16) (x1 : Vec Ideal S1x512x2304 .bf16) (xs : Vec Ideal S2304x1024 .f32) (j : Fin 2304) (e : Fin 1024) :
    k0_pay2 x0 x1 xs (ix2 j e) = (xs (ix2 j e) : EReal) + part x1 x0 j e := by
  unfold k0_pay2 part
  pointwise

/-- What point `t` adds. -/
def addAt (c : Dev nD) (j : Fin 2304) (e : Fin 1024) (t : Fin cfg0.N) : EReal :=
  ∑ r : Fin 512, a1 m c (ix3 (seqOf t) (rowOf t r) j) * a0 m c (ix3 (seqOf t) (rowOf t r) e)

theorem add_eq (c : Dev nD) (j : Fin 2304) (e : Fin 1024) (t : Fin cfg0.N) :
    part (iblk m c 1 t) (iblk m c 0 t) j e = addAt m c j e t :=
  Finset.sum_congr rfl fun r _ => by rw [iblk_0, iblk_1]

theorem step_A (c : Dev nD) (t : Fin cfg0.N) (h0 : t.val % 8 = 0) (h1 : ¬t.val % 8 = 7) (j : Fin 2304) (e : Fin 1024) :
    (outsAt0 m c t.val t.isLt).2 (ix2 j e) = addAt m c j e t := by
  rw [outsAt0_A m c t h0 h1]
  frame_out
  rw [pay_add, pay_zero, zero_add, add_eq]

theorem step_B (c : Dev nD) (t : Fin cfg0.N) (h0 : ¬t.val % 8 = 0) (h1 : ¬t.val % 8 = 7) (j : Fin 2304) (e : Fin 1024) :
    (outsAt0 m c t.val t.isLt).2 (ix2 j e)
      = ((outsAt0 m c (t.val - 1) (Nat.lt_of_le_of_lt (Nat.sub_le _ _) t.isLt)).2 (ix2 j e) : EReal) + addAt m c j e t := by
  rw [outsAt0_B m c t h0 h1]
  frame_out
  rw [pay_add, add_eq]
  exact congrArg (· + addAt m c j e t) (congrFun (Memref.IsWhole.read_unread (Memref.isWhole_whole cc0_scratch0) _) (ix2 j e))

theorem step_C (c : Dev nD) (t : Fin cfg0.N) (h0 : ¬t.val % 8 = 0) (h1 : t.val % 8 = 7) (j : Fin 2304) (e : Fin 1024) :
    (outsAt0 m c t.val t.isLt).1 (ix2 j e)
      = ((outsAt0 m c (t.val - 1) (Nat.lt_of_le_of_lt (Nat.sub_le _ _) t.isLt)).2 (ix2 j e) : EReal) + addAt m c j e t := by
  rw [outsAt0_C m c t h0 h1]
  frame_out
  unfold k0_pay3
  show k0_pay2 (F := Ideal) (iblk m c 0 t) (iblk m c 1 t) _ (ix2 j e) = _
  rw [pay_add, add_eq]
  exact congrArg (· + addAt m c j e t) (congrFun (Memref.IsWhole.read_unread (Memref.isWhole_whole cc0_scratch0) _) (ix2 j e))

/-- After point `n`, before the last, the accumulator holds what the points up to `n` add. -/
theorem acc (c : Dev nD) (j : Fin 2304) (e : Fin 1024) : ∀ (n : ℕ) (h : n < cfg0.N) (h7 : n < 7),
    (outsAt0 m c n h).2 (ix2 j e) = ∑ k : Fin (n + 1), addAt m c j e ⟨k.val, by omega⟩
  | 0, h, _ => by
    rw [show (outsAt0 m c 0 h).2 (ix2 j e) = _ from step_A m c ⟨0, h⟩ rfl (show ¬(0 % 8 = 7) by decide) j e, Fin.sum_univ_one]; rfl
  | n + 1, h, h7 => by
    rw [show (outsAt0 m c (n + 1) h).2 (ix2 j e) = _ from step_B m c ⟨n + 1, h⟩ (by dsimp only; omega) (by dsimp only; omega) j e, Fin.sum_univ_castSucc]
    exact congrArg (· + _) (acc c j e n _ (by omega))

set_option maxHeartbeats 1000000 in
theorem last (c : Dev nD) (j : Fin 2304) (e : Fin 1024) (h : 7 < cfg0.N) :
    (outsAt0 m c 7 h).1 (ix2 j e) = Cert.ProdMath.outer (a1 m c) (a0 m c) (ix2 j e) := by
  refine Eq.trans ?_ (Cert.ProdMath.sum_blocks fun n s => a1 m c (ix3 n s j) * a0 m c (ix3 n s e))
  refine (step_C m c ⟨7, h⟩ (show ¬(7 % 8 = 0) by decide) rfl j e).trans
    ((congrArg (· + addAt m c j e ⟨7, h⟩) (acc m c j e 6 (by omega) (by decide))).trans ?_)
  exact (Fin.sum_univ_castSucc (fun k : Fin 8 => addAt m c j e ⟨k.val, lt_of_lt_of_eq k.isLt N_0.symm⟩)).symm

theorem final (c : Dev nD) : (dats m 0 c).arrAt 2 cfg0.N = Cert.ProdMath.outer (a1 m c) (a0 m c) := by
  refine (Value.final2 m c).trans ((Value.G2_last m c).trans ((congrArg (fun p => p.1) (Value.outsAt0_sweep m c 7 (lt_of_lt_of_eq (by decide) N_0.symm)).symm).trans ?_))
  funext i
  change S2304x1024.Idx at i
  obtain ⟨j, e, rfl⟩ : ∃ j e, i = ix2 j e := ⟨i 0, i 1, eq_ix2 i⟩
  exact last m c j e _

end Cert.DwQkvIdeal.Prod

namespace Cert.DwQkvRefIdeal.Prod

open Cert.DwQkvRefIdeal Cert.DwQkvRefIdeal.Gen Idealize.ShloMosaic Idealize.ShloMosaic.TcCoe Idealize.SL.Sem

variable (m : (ℓ : Loc nD τ sig) → Buf (Elt Ideal) ℓ) (ρ : Dev nD → PrngReg)

abbrev a0 (c : Dev nD) : Cert.ProdMath.M3 2 2048 1024 := m ((c : Thread nD τ).loc main_arg0)
abbrev a1 (c : Dev nD) : Cert.ProdMath.M3 2 2048 2304 := m ((c : Thread nD τ).loc main_arg1)

theorem dot_0 (l : FVec Ideal S2x2048x2304 .f32) (r : FVec Ideal S2x2048x1024 .f32) :
    Host.dotGeneral dot_S2x2048x2304_S2x2048x1024_S2304x1024_01_01_2_2_n_n none l r = Cert.ProdMath.outer l r := by
  funext i
  change S2304x1024.Idx at i
  idx_vars i
  pointwise
  rfl

theorem results : θ_run defs (onTc (τ := τ) (main (F := Ideal))) ⟨m, fun _ => 0, ρ⟩ fun r => ∀ c : Dev nD,
      r.2.mem ((c.tc : Thread nD τ).loc main_v5) = Cert.ProdMath.outer (a1 m c) (a0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h0, h⟩ := h c
  refine ⟨h0.trans ?_, h⟩
  clear h0 h
  rw [dot_0]
  funext i
  change S2304x1024.Idx at i
  idx_vars i
  pointwise

end Cert.DwQkvRefIdeal.Prod

namespace Cert.DwQkvClaim

open Idealize.ShloMosaic Idealize.ShloMosaic.TcCoe Idealize.SL.Sem

theorem frame_ref : Cert.quiescent_DwQkvRefIdeal := fun m ρ _ =>
  (θ_run Cert.DwQkvRefIdeal.defs _ _).mono (fun r h => ⟨fun c => (h c).2, sem_eq_zero_of_no_sems (by decide) r.2⟩)
    (Cert.DwQkvRefIdeal.Prod.results m ρ)

theorem algebraic : Cert.algebraic_DwQkvIdeal_DwQkvRefIdeal := by
  intro m ρ m' ρ' _ hargs
  refine ⟨fun c => Cert.ProdMath.outer (Cert.DwQkvIdeal.Prod.a1 m c) (Cert.DwQkvIdeal.Prod.a0 m c), ?_, ?_⟩
  · refine (θ_run _ _ _).mono (fun r h c => ?_) (Cert.DwQkvIdeal.Value.run_blocks m ρ)
    obtain ⟨h0, h⟩ := h c
    exact ⟨h0.trans (Cert.DwQkvIdeal.Prod.final m c), h⟩
  · refine (θ_run _ _ _).mono (fun r h c => ?_) (Cert.DwQkvRefIdeal.Prod.results m' ρ')
    obtain ⟨e0, e1⟩ := hargs c
    obtain ⟨h0, h⟩ := h c
    refine ⟨h0.trans ?_, h⟩
    unfold Cert.DwQkvRefIdeal.Prod.a0 Cert.DwQkvRefIdeal.Prod.a1
    simp only [e0, e1]

end Cert.DwQkvClaim

end
-- ==== Proof.Prod.DwXbc.lean ====
module

public import proofs.«01_k».proof.Defs
public import proofs.«01_k».proof.Proof.Gen.DwXbcIdeal.Value
public import proofs.«01_k».proof.Proof.Gen.DwXbcRefIdeal.Run
public import proofs.«01_k».proof.Proof.Prod.Math
public import Idealize.ShloMosaic.Lib.Pipeline.ValueKit.Acc
public import Idealize.ShloMosaic.Lib.StableHlo.ReadAt
public import Idealize.ShloMosaic.Lib.Quiescent

@[expose] public section

set_option maxRecDepth 16384

noncomputable section

namespace Cert.DwXbcIdeal.Prod

open Cert.DwXbcIdeal Cert.DwXbcIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 4, by have := lt_of_lt_of_eq t.isLt (show cfg0.N = 8 from N_0); omega⟩
/-- The position of row `r` of point `t`'s block. -/
def rowOf (t : Fin cfg0.N) (r : Fin 512) : Fin 2048 := ⟨t.val % 4 * 512 + r.val, by omega⟩

theorem index_0 : ∀ t : Fin grid0.N, win0_0.index t 0 = t.val / 4 ∧ win0_0.index t 1 = t.val % 4 ∧ win0_0.index t 2 = 0 := by decide +kernel
theorem index_1 : ∀ t : Fin grid0.N, win0_1.index t 0 = t.val / 4 ∧ win0_1.index t 1 = t.val % 4 ∧ win0_1.index t 2 = 0 := by decide +kernel

theorem V_0 (c : Dev nD) (i : S2x2048x1024.Idx) : V m c main_v0 i = m ((c : Thread nD τ).loc main_arg0) i := by
  unfold V
  after_reads_at

theorem V_1 (c : Dev nD) (i : S2x2048x3072.Idx) : V m c main_v1 i = m ((c : Thread nD τ).loc main_arg1) i := by
  unfold V
  after_reads_at

/-- The arguments, as the launch finds them. -/
abbrev a0 (c : Dev nD) : Cert.ProdMath.M3 2 2048 1024 := m ((c : Thread nD τ).loc main_arg0)
abbrev a1 (c : Dev nD) : Cert.ProdMath.M3 2 2048 3072 := m ((c : Thread nD τ).loc main_arg1)

theorem iblk_0 (c : Dev nD) (t : Fin cfg0.N) (r : Fin 512) (k : Fin 1024) :
    iblk m c 0 t (ix3 0 r k) = a0 m c (ix3 (seqOf t) (rowOf t r) k) := by
  refine Eq.trans ?_ (V_0 m c (ix3 (seqOf t) (rowOf t r) k))
  show V m c main_v0 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 4
    omega
  · show win0_0.index t 1 * 512 + 1 * r.val = t.val % 4 * 512 + r.val
    omega
  · show win0_0.index t 2 * 1024 + 1 * k.val = k.val
    omega

theorem iblk_1 (c : Dev nD) (t : Fin cfg0.N) (r : Fin 512) (k : Fin 3072) :
    iblk m c 1 t (ix3 0 r k) = a1 m c (ix3 (seqOf t) (rowOf t r) k) := by
  refine Eq.trans ?_ (V_1 m c (ix3 (seqOf t) (rowOf t r) k))
  show V m c main_v1 (((cfg0.win 1).blk t).view.emb (ix3 0 r k)) = _
  refine congrArg _ (funext fun a => Fin.ext ?_)
  obtain ⟨h0, h1, h2⟩ := index_1 t
  fin_cases a
  · show win0_1.index t 0 * 1 + 1 * 0 = t.val / 4
    omega
  · show win0_1.index t 1 * 512 + 1 * r.val = t.val % 4 * 512 + r.val
    omega
  · show win0_1.index t 2 * 3072 + 1 * k.val = k.val
    omega

theorem pay_zero (j : Fin 3072) (e : Fin 1024) : k0_pay1 (F := Ideal) (ix2 j e) = (0 : EReal) := by
  unfold k0_pay1
  pointwise

/-- One block's product. -/
def part (x1 : Vec Ideal S1x512x3072 .bf16) (x0 : Vec Ideal S1x512x1024 .bf16) (j : Fin 3072) (e : Fin 1024) : EReal :=
  ∑ r : Fin 512, (x1 (ix3 0 r j) : EReal) * (x0 (ix3 0 r e) : EReal)

theorem pay_add (x0 : Vec Ideal S1x512x1024 .bf16) (x1 : Vec Ideal S1x512x3072 .bf16) (xs : Vec Ideal S3072x1024 .f32) (j : Fin 3072) (e : Fin 1024) :
    k0_pay2 x0 x1 xs (ix2 j e) = (xs (ix2 j e) : EReal) + part x1 x0 j e := by
  unfold k0_pay2 part
  pointwise

/-- What point `t` adds. -/
def addAt (c : Dev nD) (j : Fin 3072) (e : Fin 1024) (t : Fin cfg0.N) : EReal :=
  ∑ r : Fin 512, a1 m c (ix3 (seqOf t) (rowOf t r) j) * a0 m c (ix3 (seqOf t) (rowOf t r) e)

theorem add_eq (c : Dev nD) (j : Fin 3072) (e : Fin 1024) (t : Fin cfg0.N) :
    part (iblk m c 1 t) (iblk m c 0 t) j e = addAt m c j e t :=
  Finset.sum_congr rfl fun r _ => by rw [iblk_0, iblk_1]

theorem step_A (c : Dev nD) (t : Fin cfg0.N) (h0 : t.val % 8 = 0) (h1 : ¬t.val % 8 = 7) (j : Fin 3072) (e : Fin 1024) :
    (outsAt0 m c t.val t.isLt).2 (ix2 j e) = addAt m c j e t := by
  rw [outsAt0_A m c t h0 h1]
  frame_out
  rw [pay_add, pay_zero, zero_add, add_eq]

theorem step_B (c : Dev nD) (t : Fin cfg0.N) (h0 : ¬t.val % 8 = 0) (h1 : ¬t.val % 8 = 7) (j : Fin 3072) (e : Fin 1024) :
    (outsAt0 m c t.val t.isLt).2 (ix2 j e)
      = ((outsAt0 m c (t.val - 1) (Nat.lt_of_le_of_lt (Nat.sub_le _ _) t.isLt)).2 (ix2 j e) : EReal) + addAt m c j e t := by
  rw [outsAt0_B m c t h0 h1]
  frame_out
  rw [pay_add, add_eq]
  exact congrArg (· + addAt m c j e t) (congrFun (Memref.IsWhole.read_unread (Memref.isWhole_whole cc0_scratch0) _) (ix2 j e))

theorem step_C (c : Dev nD) (t : Fin cfg0.N) (h0 : ¬t.val % 8 = 0) (h1 : t.val % 8 = 7) (j : Fin 3072) (e : Fin 1024) :
    (outsAt0 m c t.val t.isLt).1 (ix2 j e)
      = ((outsAt0 m c (t.val - 1) (Nat.lt_of_le_of_lt (Nat.sub_le _ _) t.isLt)).2 (ix2 j e) : EReal) + addAt m c j e t := by
  rw [outsAt0_C m c t h0 h1]
  frame_out
  unfold k0_pay3
  show k0_pay2 (F := Ideal) (iblk m c 0 t) (iblk m c 1 t) _ (ix2 j e) = _
  rw [pay_add, add_eq]
  exact congrArg (· + addAt m c j e t) (congrFun (Memref.IsWhole.read_unread (Memref.isWhole_whole cc0_scratch0) _) (ix2 j e))

/-- After point `n`, before the last, the accumulator holds what the points up to `n` add. -/
theorem acc (c : Dev nD) (j : Fin 3072) (e : Fin 1024) : ∀ (n : ℕ) (h : n < cfg0.N) (h7 : n < 7),
    (outsAt0 m c n h).2 (ix2 j e) = ∑ k : Fin (n + 1), addAt m c j e ⟨k.val, by omega⟩
  | 0, h, _ => by
    rw [show (outsAt0 m c 0 h).2 (ix2 j e) = _ from step_A m c ⟨0, h⟩ rfl (show ¬(0 % 8 = 7) by decide) j e, Fin.sum_univ_one]; rfl
  | n + 1, h, h7 => by
    rw [show (outsAt0 m c (n + 1) h).2 (ix2 j e) = _ from step_B m c ⟨n + 1, h⟩ (by dsimp only; omega) (by dsimp only; omega) j e, Fin.sum_univ_castSucc]
    exact congrArg (· + _) (acc c j e n _ (by omega))

set_option maxHeartbeats 1000000 in
theorem last (c : Dev nD) (j : Fin 3072) (e : Fin 1024) (h : 7 < cfg0.N) :
    (outsAt0 m c 7 h).1 (ix2 j e) = Cert.ProdMath.outer (a1 m c) (a0 m c) (ix2 j e) := by
  refine Eq.trans ?_ (Cert.ProdMath.sum_blocks fun n s => a1 m c (ix3 n s j) * a0 m c (ix3 n s e))
  refine (step_C m c ⟨7, h⟩ (show ¬(7 % 8 = 0) by decide) rfl j e).trans
    ((congrArg (· + addAt m c j e ⟨7, h⟩) (acc m c j e 6 (by omega) (by decide))).trans ?_)
  exact (Fin.sum_univ_castSucc (fun k : Fin 8 => addAt m c j e ⟨k.val, lt_of_lt_of_eq k.isLt N_0.symm⟩)).symm

theorem final (c : Dev nD) : (dats m 0 c).arrAt 2 cfg0.N = Cert.ProdMath.outer (a1 m c) (a0 m c) := by
  refine (Value.final2 m c).trans ((Value.G2_last m c).trans ((congrArg (fun p => p.1) (Value.outsAt0_sweep m c 7 (lt_of_lt_of_eq (by decide) N_0.symm)).symm).trans ?_))
  funext i
  change S3072x1024.Idx at i
  obtain ⟨j, e, rfl⟩ : ∃ j e, i = ix2 j e := ⟨i 0, i 1, eq_ix2 i⟩
  exact last m c j e _

end Cert.DwXbcIdeal.Prod

namespace Cert.DwXbcRefIdeal.Prod

open Cert.DwXbcRefIdeal Cert.DwXbcRefIdeal.Gen Idealize.ShloMosaic Idealize.ShloMosaic.TcCoe Idealize.SL.Sem

variable (m : (ℓ : Loc nD τ sig) → Buf (Elt Ideal) ℓ) (ρ : Dev nD → PrngReg)

abbrev a0 (c : Dev nD) : Cert.ProdMath.M3 2 2048 1024 := m ((c : Thread nD τ).loc main_arg0)
abbrev a1 (c : Dev nD) : Cert.ProdMath.M3 2 2048 3072 := m ((c : Thread nD τ).loc main_arg1)

theorem dot_0 (l : FVec Ideal S2x2048x3072 .f32) (r : FVec Ideal S2x2048x1024 .f32) :
    Host.dotGeneral dot_S2x2048x3072_S2x2048x1024_S3072x1024_01_01_2_2_n_n none l r = Cert.ProdMath.outer l r := by
  funext i
  change S3072x1024.Idx at i
  idx_vars i
  pointwise
  rfl

theorem results : θ_run defs (onTc (τ := τ) (main (F := Ideal))) ⟨m, fun _ => 0, ρ⟩ fun r => ∀ c : Dev nD,
      r.2.mem ((c.tc : Thread nD τ).loc main_v5) = Cert.ProdMath.outer (a1 m c) (a0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h0, h⟩ := h c
  refine ⟨h0.trans ?_, h⟩
  clear h0 h
  rw [dot_0]
  funext i
  change S3072x1024.Idx at i
  idx_vars i
  pointwise

end Cert.DwXbcRefIdeal.Prod

namespace Cert.DwXbcClaim

open Idealize.ShloMosaic Idealize.ShloMosaic.TcCoe Idealize.SL.Sem

theorem frame_ref : Cert.quiescent_DwXbcRefIdeal := fun m ρ _ =>
  (θ_run Cert.DwXbcRefIdeal.defs _ _).mono (fun r h => ⟨fun c => (h c).2, sem_eq_zero_of_no_sems (by decide) r.2⟩)
    (Cert.DwXbcRefIdeal.Prod.results m ρ)

theorem algebraic : Cert.algebraic_DwXbcIdeal_DwXbcRefIdeal := by
  intro m ρ m' ρ' _ hargs
  refine ⟨fun c => Cert.ProdMath.outer (Cert.DwXbcIdeal.Prod.a1 m c) (Cert.DwXbcIdeal.Prod.a0 m c), ?_, ?_⟩
  · refine (θ_run _ _ _).mono (fun r h c => ?_) (Cert.DwXbcIdeal.Value.run_blocks m ρ)
    obtain ⟨h0, h⟩ := h c
    exact ⟨h0.trans (Cert.DwXbcIdeal.Prod.final m c), h⟩
  · refine (θ_run _ _ _).mono (fun r h c => ?_) (Cert.DwXbcRefIdeal.Prod.results m' ρ')
    obtain ⟨e0, e1⟩ := hargs c
    obtain ⟨h0, h⟩ := h c
    refine ⟨h0.trans ?_, h⟩
    unfold Cert.DwXbcRefIdeal.Prod.a0 Cert.DwXbcRefIdeal.Prod.a1
    simp only [e0, e1]

end Cert.DwXbcClaim

end
-- ==== Proof.Prod.DwGm.lean ====
module

public import proofs.«01_k».proof.Defs
public import proofs.«01_k».proof.Proof.Gen.DwGmIdeal.Value
public import proofs.«01_k».proof.Proof.Gen.DwGmRefIdeal.Run
public import proofs.«01_k».proof.Proof.Prod.Math
public import Idealize.ShloMosaic.Lib.Pipeline.ValueKit.Acc
public import Idealize.ShloMosaic.Lib.StableHlo.ReadAt
public import Idealize.ShloMosaic.Lib.Quiescent

@[expose] public section

set_option maxRecDepth 16384

noncomputable section

namespace Cert.DwGmIdeal.Prod

open Cert.DwGmIdeal Cert.DwGmIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 4, by have := lt_of_lt_of_eq t.isLt (show cfg0.N = 8 from N_0); omega⟩
/-- The position of row `r` of point `t`'s block. -/
def rowOf (t : Fin cfg0.N) (r : Fin 512) : Fin 2048 := ⟨t.val % 4 * 512 + r.val, by omega⟩

theorem index_0 : ∀ t : Fin grid0.N, win0_0.index t 0 = t.val / 4 ∧ win0_0.index t 1 = t.val % 4 ∧ win0_0.index t 2 = 0 := by decide +kernel
theorem index_1 : ∀ t : Fin grid0.N, win0_1.index t 0 = t.val / 4 ∧ win0_1.index t 1 = t.val % 4 ∧ win0_1.index t 2 = 0 := by decide +kernel

theorem V_0 (c : Dev nD) (i : S2x2048x1024.Idx) : V m c main_v0 i = m ((c : Thread nD τ).loc main_arg0) i := by
  unfold V
  after_reads_at

theorem V_1 (c : Dev nD) (i : S2x2048x2048.Idx) : V m c main_v1 i = m ((c : Thread nD τ).loc main_arg1) i := by
  unfold V
  after_reads_at

/-- The arguments, as the launch finds them. -/
abbrev a0 (c : Dev nD) : Cert.ProdMath.M3 2 2048 1024 := m ((c : Thread nD τ).loc main_arg0)
abbrev a1 (c : Dev nD) : Cert.ProdMath.M3 2 2048 2048 := m ((c : Thread nD τ).loc main_arg1)

theorem iblk_0 (c : Dev nD) (t : Fin cfg0.N) (r : Fin 512) (k : Fin 1024) :
    iblk m c 0 t (ix3 0 r k) = a0 m c (ix3 (seqOf t) (rowOf t r) k) := by
  refine Eq.trans ?_ (V_0 m c (ix3 (seqOf t) (rowOf t r) k))
  show V m c main_v0 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 4
    omega
  · show win0_0.index t 1 * 512 + 1 * r.val = t.val % 4 * 512 + r.val
    omega
  · show win0_0.index t 2 * 1024 + 1 * k.val = k.val
    omega

theorem iblk_1 (c : Dev nD) (t : Fin cfg0.N) (r : Fin 512) (k : Fin 2048) :
    iblk m c 1 t (ix3 0 r k) = a1 m c (ix3 (seqOf t) (rowOf t r) k) := by
  refine Eq.trans ?_ (V_1 m c (ix3 (seqOf t) (rowOf t r) k))
  show V m c main_v1 (((cfg0.win 1).blk t).view.emb (ix3 0 r k)) = _
  refine congrArg _ (funext fun a => Fin.ext ?_)
  obtain ⟨h0, h1, h2⟩ := index_1 t
  fin_cases a
  · show win0_1.index t 0 * 1 + 1 * 0 = t.val / 4
    omega
  · show win0_1.index t 1 * 512 + 1 * r.val = t.val % 4 * 512 + r.val
    omega
  · show win0_1.index t 2 * 2048 + 1 * k.val = k.val
    omega

theorem pay_zero (j : Fin 2048) (e : Fin 1024) : k0_pay1 (F := Ideal) (ix2 j e) = (0 : EReal) := by
  unfold k0_pay1
  pointwise

/-- One block's product. -/
def part (x1 : Vec Ideal S1x512x2048 .bf16) (x0 : Vec Ideal S1x512x1024 .bf16) (j : Fin 2048) (e : Fin 1024) : EReal :=
  ∑ r : Fin 512, (x1 (ix3 0 r j) : EReal) * (x0 (ix3 0 r e) : EReal)

theorem pay_add (x0 : Vec Ideal S1x512x1024 .bf16) (x1 : Vec Ideal S1x512x2048 .bf16) (xs : Vec Ideal S2048x1024 .f32) (j : Fin 2048) (e : Fin 1024) :
    k0_pay2 x0 x1 xs (ix2 j e) = (xs (ix2 j e) : EReal) + part x1 x0 j e := by
  unfold k0_pay2 part
  pointwise

/-- What point `t` adds. -/
def addAt (c : Dev nD) (j : Fin 2048) (e : Fin 1024) (t : Fin cfg0.N) : EReal :=
  ∑ r : Fin 512, a1 m c (ix3 (seqOf t) (rowOf t r) j) * a0 m c (ix3 (seqOf t) (rowOf t r) e)

theorem add_eq (c : Dev nD) (j : Fin 2048) (e : Fin 1024) (t : Fin cfg0.N) :
    part (iblk m c 1 t) (iblk m c 0 t) j e = addAt m c j e t :=
  Finset.sum_congr rfl fun r _ => by rw [iblk_0, iblk_1]

theorem step_A (c : Dev nD) (t : Fin cfg0.N) (h0 : t.val % 8 = 0) (h1 : ¬t.val % 8 = 7) (j : Fin 2048) (e : Fin 1024) :
    (outsAt0 m c t.val t.isLt).2 (ix2 j e) = addAt m c j e t := by
  rw [outsAt0_A m c t h0 h1]
  frame_out
  rw [pay_add, pay_zero, zero_add, add_eq]

theorem step_B (c : Dev nD) (t : Fin cfg0.N) (h0 : ¬t.val % 8 = 0) (h1 : ¬t.val % 8 = 7) (j : Fin 2048) (e : Fin 1024) :
    (outsAt0 m c t.val t.isLt).2 (ix2 j e)
      = ((outsAt0 m c (t.val - 1) (Nat.lt_of_le_of_lt (Nat.sub_le _ _) t.isLt)).2 (ix2 j e) : EReal) + addAt m c j e t := by
  rw [outsAt0_B m c t h0 h1]
  frame_out
  rw [pay_add, add_eq]
  exact congrArg (· + addAt m c j e t) (congrFun (Memref.IsWhole.read_unread (Memref.isWhole_whole cc0_scratch0) _) (ix2 j e))

theorem step_C (c : Dev nD) (t : Fin cfg0.N) (h0 : ¬t.val % 8 = 0) (h1 : t.val % 8 = 7) (j : Fin 2048) (e : Fin 1024) :
    (outsAt0 m c t.val t.isLt).1 (ix2 j e)
      = ((outsAt0 m c (t.val - 1) (Nat.lt_of_le_of_lt (Nat.sub_le _ _) t.isLt)).2 (ix2 j e) : EReal) + addAt m c j e t := by
  rw [outsAt0_C m c t h0 h1]
  frame_out
  unfold k0_pay3
  show k0_pay2 (F := Ideal) (iblk m c 0 t) (iblk m c 1 t) _ (ix2 j e) = _
  rw [pay_add, add_eq]
  exact congrArg (· + addAt m c j e t) (congrFun (Memref.IsWhole.read_unread (Memref.isWhole_whole cc0_scratch0) _) (ix2 j e))

/-- After point `n`, before the last, the accumulator holds what the points up to `n` add. -/
theorem acc (c : Dev nD) (j : Fin 2048) (e : Fin 1024) : ∀ (n : ℕ) (h : n < cfg0.N) (h7 : n < 7),
    (outsAt0 m c n h).2 (ix2 j e) = ∑ k : Fin (n + 1), addAt m c j e ⟨k.val, by omega⟩
  | 0, h, _ => by
    rw [show (outsAt0 m c 0 h).2 (ix2 j e) = _ from step_A m c ⟨0, h⟩ rfl (show ¬(0 % 8 = 7) by decide) j e, Fin.sum_univ_one]; rfl
  | n + 1, h, h7 => by
    rw [show (outsAt0 m c (n + 1) h).2 (ix2 j e) = _ from step_B m c ⟨n + 1, h⟩ (by dsimp only; omega) (by dsimp only; omega) j e, Fin.sum_univ_castSucc]
    exact congrArg (· + _) (acc c j e n _ (by omega))

set_option maxHeartbeats 1000000 in
theorem last (c : Dev nD) (j : Fin 2048) (e : Fin 1024) (h : 7 < cfg0.N) :
    (outsAt0 m c 7 h).1 (ix2 j e) = Cert.ProdMath.outer (a1 m c) (a0 m c) (ix2 j e) := by
  refine Eq.trans ?_ (Cert.ProdMath.sum_blocks fun n s => a1 m c (ix3 n s j) * a0 m c (ix3 n s e))
  refine (step_C m c ⟨7, h⟩ (show ¬(7 % 8 = 0) by decide) rfl j e).trans
    ((congrArg (· + addAt m c j e ⟨7, h⟩) (acc m c j e 6 (by omega) (by decide))).trans ?_)
  exact (Fin.sum_univ_castSucc (fun k : Fin 8 => addAt m c j e ⟨k.val, lt_of_lt_of_eq k.isLt N_0.symm⟩)).symm

theorem final (c : Dev nD) : (dats m 0 c).arrAt 2 cfg0.N = Cert.ProdMath.outer (a1 m c) (a0 m c) := by
  refine (Value.final2 m c).trans ((Value.G2_last m c).trans ((congrArg (fun p => p.1) (Value.outsAt0_sweep m c 7 (lt_of_lt_of_eq (by decide) N_0.symm)).symm).trans ?_))
  funext i
  change S2048x1024.Idx at i
  obtain ⟨j, e, rfl⟩ : ∃ j e, i = ix2 j e := ⟨i 0, i 1, eq_ix2 i⟩
  exact last m c j e _

end Cert.DwGmIdeal.Prod

namespace Cert.DwGmRefIdeal.Prod

open Cert.DwGmRefIdeal Cert.DwGmRefIdeal.Gen Idealize.ShloMosaic Idealize.ShloMosaic.TcCoe Idealize.SL.Sem

variable (m : (ℓ : Loc nD τ sig) → Buf (Elt Ideal) ℓ) (ρ : Dev nD → PrngReg)

abbrev a0 (c : Dev nD) : Cert.ProdMath.M3 2 2048 1024 := m ((c : Thread nD τ).loc main_arg0)
abbrev a1 (c : Dev nD) : Cert.ProdMath.M3 2 2048 2048 := m ((c : Thread nD τ).loc main_arg1)

theorem dot_0 (l : FVec Ideal S2x2048x2048 .f32) (r : FVec Ideal S2x2048x1024 .f32) :
    Host.dotGeneral dot_S2x2048x2048_S2x2048x1024_S2048x1024_01_01_2_2_n_n none l r = Cert.ProdMath.outer l r := by
  funext i
  change S2048x1024.Idx at i
  idx_vars i
  pointwise
  rfl

theorem results : θ_run defs (onTc (τ := τ) (main (F := Ideal))) ⟨m, fun _ => 0, ρ⟩ fun r => ∀ c : Dev nD,
      r.2.mem ((c.tc : Thread nD τ).loc main_v5) = Cert.ProdMath.outer (a1 m c) (a0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h0, h⟩ := h c
  refine ⟨h0.trans ?_, h⟩
  clear h0 h
  rw [dot_0]
  funext i
  change S2048x1024.Idx at i
  idx_vars i
  pointwise

end Cert.DwGmRefIdeal.Prod

namespace Cert.DwGmClaim

open Idealize.ShloMosaic Idealize.ShloMosaic.TcCoe Idealize.SL.Sem

theorem frame_ref : Cert.quiescent_DwGmRefIdeal := fun m ρ _ =>
  (θ_run Cert.DwGmRefIdeal.defs _ _).mono (fun r h => ⟨fun c => (h c).2, sem_eq_zero_of_no_sems (by decide) r.2⟩)
    (Cert.DwGmRefIdeal.Prod.results m ρ)

theorem algebraic : Cert.algebraic_DwGmIdeal_DwGmRefIdeal := by
  intro m ρ m' ρ' _ hargs
  refine ⟨fun c => Cert.ProdMath.outer (Cert.DwGmIdeal.Prod.a1 m c) (Cert.DwGmIdeal.Prod.a0 m c), ?_, ?_⟩
  · refine (θ_run _ _ _).mono (fun r h c => ?_) (Cert.DwGmIdeal.Value.run_blocks m ρ)
    obtain ⟨h0, h⟩ := h c
    exact ⟨h0.trans (Cert.DwGmIdeal.Prod.final m c), h⟩
  · refine (θ_run _ _ _).mono (fun r h c => ?_) (Cert.DwGmRefIdeal.Prod.results m' ρ')
    obtain ⟨e0, e1⟩ := hargs c
    obtain ⟨h0, h⟩ := h c
    refine ⟨h0.trans ?_, h⟩
    unfold Cert.DwGmRefIdeal.Prod.a0 Cert.DwGmRefIdeal.Prod.a1
    simp only [e0, e1]

end Cert.DwGmClaim

end
-- ==== Proof.Prod.DwNat.lean ====
module

public import proofs.«01_k».proof.Defs
public import proofs.«01_k».proof.Proof.Gen.DwNatIdeal.Value
public import proofs.«01_k».proof.Proof.Gen.DwNatRefIdeal.Run
public import proofs.«01_k».proof.Proof.Prod.Math
public import Idealize.ShloMosaic.Lib.Pipeline.ValueKit.Acc
public import Idealize.ShloMosaic.Lib.StableHlo.ReadAt
public import Idealize.ShloMosaic.Lib.Quiescent

@[expose] public section

set_option maxRecDepth 16384

noncomputable section

/-! The gradients of the four weights of the natural order: each the product of a cotangent and the tokens, summed over the tokens. -/

namespace Cert.DwNatIdeal.Prod

open Cert.DwNatIdeal Cert.DwNatIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 4, by have := lt_of_lt_of_eq t.isLt (show cfg0.N = 8 from N_0); omega⟩
/-- The position of row `r` of point `t`'s block. -/
def rowOf (t : Fin cfg0.N) (r : Fin 512) : Fin 2048 := ⟨t.val % 4 * 512 + r.val, by omega⟩

/-- The argument behind window 0, as the launch finds it. -/
abbrev w0 (c : Dev nD) : Cert.ProdMath.M3 2 2048 1024 := m ((c : Thread nD τ).loc main_arg0)

theorem index_0 : ∀ t : Fin grid0.N, win0_0.index t 0 = t.val / 4 ∧ win0_0.index t 1 = t.val % 4 ∧ win0_0.index t 2 = 0 := by decide +kernel

theorem V_0 (c : Dev nD) (i : S2x2048x1024.Idx) : V m c main_v0 i = m ((c : Thread nD τ).loc main_arg0) i := by
  unfold V
  after_reads_at

theorem iblk_0 (c : Dev nD) (t : Fin cfg0.N) (r : Fin 512) (k : Fin 1024) :
    iblk m c 0 t (ix3 0 r k) = w0 m c (ix3 (seqOf t) (rowOf t r) k) := by
  refine Eq.trans ?_ (V_0 m c (ix3 (seqOf t) (rowOf t r) k))
  show V m c main_v0 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 4
    omega
  · show win0_0.index t 1 * 512 + 1 * r.val = t.val % 4 * 512 + r.val
    omega
  · show win0_0.index t 2 * 1024 + 1 * k.val = k.val
    omega

/-- The argument behind window 1, as the launch finds it. -/
abbrev w1 (c : Dev nD) : Cert.ProdMath.M3 2 2048 768 := m ((c : Thread nD τ).loc main_arg1)

theorem index_1 : ∀ t : Fin grid0.N, win0_1.index t 0 = t.val / 4 ∧ win0_1.index t 1 = t.val % 4 ∧ win0_1.index t 2 = 0 := by decide +kernel

theorem V_1 (c : Dev nD) (i : S2x2048x768.Idx) : V m c main_v1 i = m ((c : Thread nD τ).loc main_arg1) i := by
  unfold V
  after_reads_at

theorem iblk_1 (c : Dev nD) (t : Fin cfg0.N) (r : Fin 512) (k : Fin 768) :
    iblk m c 1 t (ix3 0 r k) = w1 m c (ix3 (seqOf t) (rowOf t r) k) := by
  refine Eq.trans ?_ (V_1 m c (ix3 (seqOf t) (rowOf t r) k))
  show V m c main_v1 (((cfg0.win 1).blk t).view.emb (ix3 0 r k)) = _
  refine congrArg _ (funext fun a => Fin.ext ?_)
  obtain ⟨h0, h1, h2⟩ := index_1 t
  fin_cases a
  · show win0_1.index t 0 * 1 + 1 * 0 = t.val / 4
    omega
  · show win0_1.index t 1 * 512 + 1 * r.val = t.val % 4 * 512 + r.val
    omega
  · show win0_1.index t 2 * 768 + 1 * k.val = k.val
    omega

/-- The argument behind window 2, as the launch finds it. -/
abbrev w2 (c : Dev nD) : Cert.ProdMath.M3 2 2048 2048 := m ((c : Thread nD τ).loc main_arg2)

theorem index_2 : ∀ t : Fin grid0.N, win0_2.index t 0 = t.val / 4 ∧ win0_2.index t 1 = t.val % 4 ∧ win0_2.index t 2 = 0 := by decide +kernel

theorem V_2 (c : Dev nD) (i : S2x2048x2048.Idx) : V m c main_arg2 i = m ((c : Thread nD τ).loc main_arg2) i := by
  unfold V
  after_reads_at

theorem iblk_2 (c : Dev nD) (t : Fin cfg0.N) (r : Fin 512) (k : Fin 2048) :
    iblk m c 2 t (ix3 0 r k) = w2 m c (ix3 (seqOf t) (rowOf t r) k) := by
  refine Eq.trans ?_ (V_2 m c (ix3 (seqOf t) (rowOf t r) k))
  show V m c main_arg2 (((cfg0.win 2).blk t).view.emb (ix3 0 r k)) = _
  refine congrArg _ (funext fun a => Fin.ext ?_)
  obtain ⟨h0, h1, h2⟩ := index_2 t
  fin_cases a
  · show win0_2.index t 0 * 1 + 1 * 0 = t.val / 4
    omega
  · show win0_2.index t 1 * 512 + 1 * r.val = t.val % 4 * 512 + r.val
    omega
  · show win0_2.index t 2 * 2048 + 1 * k.val = k.val
    omega

/-- The argument behind window 3, as the launch finds it. -/
abbrev w3 (c : Dev nD) : Cert.ProdMath.M3 2 2048 128 := m ((c : Thread nD τ).loc main_arg3)

theorem index_3 : ∀ t : Fin grid0.N, win0_3.index t 0 = t.val / 4 ∧ win0_3.index t 1 = t.val % 4 ∧ win0_3.index t 2 = 0 := by decide +kernel

theorem V_3 (c : Dev nD) (i : S2x2048x128.Idx) : V m c main_arg3 i = m ((c : Thread nD τ).loc main_arg3) i := by
  unfold V
  after_reads_at

theorem iblk_3 (c : Dev nD) (t : Fin cfg0.N) (r : Fin 512) (k : Fin 128) :
    iblk m c 3 t (ix3 0 r k) = w3 m c (ix3 (seqOf t) (rowOf t r) k) := by
  refine Eq.trans ?_ (V_3 m c (ix3 (seqOf t) (rowOf t r) k))
  show V m c main_arg3 (((cfg0.win 3).blk t).view.emb (ix3 0 r k)) = _
  refine congrArg _ (funext fun a => Fin.ext ?_)
  obtain ⟨h0, h1, h2⟩ := index_3 t
  fin_cases a
  · show win0_3.index t 0 * 1 + 1 * 0 = t.val / 4
    omega
  · show win0_3.index t 1 * 512 + 1 * r.val = t.val % 4 * 512 + r.val
    omega
  · show win0_3.index t 2 * 128 + 1 * k.val = k.val
    omega

/-- The argument behind window 4, as the launch finds it. -/
abbrev w4 (c : Dev nD) : Cert.ProdMath.M3 2 2048 1024 := m ((c : Thread nD τ).loc main_arg4)

theorem index_4 : ∀ t : Fin grid0.N, win0_4.index t 0 = t.val / 4 ∧ win0_4.index t 1 = t.val % 4 ∧ win0_4.index t 2 = 0 := by decide +kernel

theorem V_4 (c : Dev nD) (i : S2x2048x1024.Idx) : V m c main_v2 i = m ((c : Thread nD τ).loc main_arg4) i := by
  unfold V
  after_reads_at

theorem iblk_4 (c : Dev nD) (t : Fin cfg0.N) (r : Fin 512) (k : Fin 1024) :
    iblk m c 4 t (ix3 0 r k) = w4 m c (ix3 (seqOf t) (rowOf t r) k) := by
  refine Eq.trans ?_ (V_4 m c (ix3 (seqOf t) (rowOf t r) k))
  show V m c main_v2 (((cfg0.win 4).blk t).view.emb (ix3 0 r k)) = _
  refine congrArg _ (funext fun a => Fin.ext ?_)
  obtain ⟨h0, h1, h2⟩ := index_4 t
  fin_cases a
  · show win0_4.index t 0 * 1 + 1 * 0 = t.val / 4
    omega
  · show win0_4.index t 1 * 512 + 1 * r.val = t.val % 4 * 512 + r.val
    omega
  · show win0_4.index t 2 * 1024 + 1 * k.val = k.val
    omega

/-- One block's product into accumulator 0. -/
def part0 (l : Vec Ideal S1x512x768 .bf16) (r : Vec Ideal S1x512x1024 .bf16) (j : Fin 768) (e : Fin 1024) : EReal :=
  ∑ s : Fin 512, (l (ix3 0 s j) : EReal) * (r (ix3 0 s e) : EReal)

theorem zero_0 (j : Fin 768) (e : Fin 1024) : k0_pay7 (F := Ideal) (ix2 j e) = (0 : EReal) := by
  unfold k0_pay7
  pointwise

theorem add_0 (l : Vec Ideal S1x512x768 .bf16) (r : Vec Ideal S1x512x1024 .bf16) (xs : Vec Ideal S768x1024 .f32) (j : Fin 768) (e : Fin 1024) :
    k0_pay12 (F := Ideal) r l xs (ix2 j e) = (xs (ix2 j e) : EReal) + part0 l r j e := by
  unfold k0_pay12 k0_pay11 part0
  pointwise

/-- What point `t` adds to accumulator 0. -/
def at0 (c : Dev nD) (j : Fin 768) (e : Fin 1024) (t : Fin cfg0.N) : EReal :=
  ∑ s : Fin 512, w1 m c (ix3 (seqOf t) (rowOf t s) j) * w0 m c (ix3 (seqOf t) (rowOf t s) e)

theorem part_at_0 (c : Dev nD) (j : Fin 768) (e : Fin 1024) (t : Fin cfg0.N) :
    part0 (iblk m c 1 t) (iblk m c 0 t) j e = at0 m c j e t :=
  Finset.sum_congr rfl fun r _ => by rw [iblk_1, iblk_0]

theorem stepA_0 (c : Dev nD) (t : Fin cfg0.N) (h0 : t.val % 8 = 0) (h1 : ¬t.val % 8 = 7) (j : Fin 768) (e : Fin 1024) :
    (outsAt0 m c t.val t.isLt).2.2.2.2.1 (ix2 j e) = at0 m c j e t := by
  rw [outsAt0_A m c t h0 h1]
  frame_out
  rw [add_0, zero_0, zero_add, part_at_0]

theorem stepB_0 (c : Dev nD) (t : Fin cfg0.N) (h0 : ¬t.val % 8 = 0) (h1 : ¬t.val % 8 = 7) (j : Fin 768) (e : Fin 1024) :
    (outsAt0 m c t.val t.isLt).2.2.2.2.1 (ix2 j e)
      = ((outsAt0 m c (t.val - 1) (Nat.lt_of_le_of_lt (Nat.sub_le _ _) t.isLt)).2.2.2.2.1 (ix2 j e) : EReal) + at0 m c j e t := by
  rw [outsAt0_B m c t h0 h1]
  frame_out
  rw [add_0, part_at_0]
  exact congrArg (· + at0 m c j e t) (congrFun (Memref.IsWhole.read_unread (Memref.isWhole_whole cc0_scratch0) _) (ix2 j e))

/-- After point `n`, before the last, accumulator 0 holds what the points up to `n` add. -/
theorem acc_0 (c : Dev nD) (j : Fin 768) (e : Fin 1024) : ∀ (n : ℕ) (h : n < cfg0.N) (h7 : n < 7),
    (outsAt0 m c n h).2.2.2.2.1 (ix2 j e) = ∑ k : Fin (n + 1), at0 m c j e ⟨k.val, by omega⟩
  | 0, h, _ => by
    rw [show (outsAt0 m c 0 h).2.2.2.2.1 (ix2 j e) = _ from stepA_0 m c ⟨0, h⟩ rfl (show ¬(0 % 8 = 7) by decide) j e, Fin.sum_univ_one]; rfl
  | n + 1, h, h7 => by
    rw [show (outsAt0 m c (n + 1) h).2.2.2.2.1 (ix2 j e) = _ from stepB_0 m c ⟨n + 1, h⟩ (by dsimp only; omega) (by dsimp only; omega) j e, Fin.sum_univ_castSucc]
    exact congrArg (· + _) (acc_0 c j e n _ (by omega))

/-- What the last point completes. -/
theorem all_0 (c : Dev nD) (j : Fin 768) (e : Fin 1024) (h : 7 < cfg0.N) :
    ((outsAt0 m c 6 (Nat.lt_of_succ_lt h)).2.2.2.2.1 (ix2 j e) : EReal) + at0 m c j e ⟨7, h⟩ = Cert.ProdMath.outer (w1 m c) (w0 m c) (ix2 j e) :=
  Cert.ProdMath.run_sum (show cfg0.N = 8 from N_0) (fun n s => w1 m c (ix3 n s j) * w0 m c (ix3 n s e)) (at0 m c j e) _ (fun t => rfl)
    (acc_0 m c j e 6 (Nat.lt_of_succ_lt h) (by decide)) h

theorem stepC_0 (c : Dev nD) (t : Fin cfg0.N) (h0 : ¬t.val % 8 = 0) (h1 : t.val % 8 = 7) (j : Fin 768) (e : Fin 1024) :
    (outsAt0 m c t.val t.isLt).1 (ix2 j e)
      = ((outsAt0 m c (t.val - 1) (Nat.lt_of_le_of_lt (Nat.sub_le _ _) t.isLt)).2.2.2.2.1 (ix2 j e) : EReal) + at0 m c j e t := by
  rw [outsAt0_C m c t h0 h1]
  frame_out
  unfold k0_pay3
  show k0_pay12 (F := Ideal) (iblk m c 0 t) (iblk m c 1 t) _ (ix2 j e) = _
  rw [add_0, part_at_0]
  exact congrArg (· + at0 m c j e t) (congrFun (Memref.IsWhole.read_unread (Memref.isWhole_whole cc0_scratch0) _) (ix2 j e))

/-- Output 5 after the run. -/
theorem final_5 (c : Dev nD) : (dats m 0 c).arrAt 5 cfg0.N = Cert.ProdMath.outer (w1 m c) (w0 m c) := by
  refine (Value.final5 m c).trans ((Value.G5_last m c).trans ((congrArg (fun p => p.1) (Value.outsAt0_sweep m c 7 (lt_of_lt_of_eq (by decide) N_0.symm)).symm).trans ?_))
  funext i
  change S768x1024.Idx at i
  obtain ⟨j, e, rfl⟩ : ∃ j e, i = ix2 j e := ⟨i 0, i 1, eq_ix2 i⟩
  exact (stepC_0 m c ⟨7, lt_of_lt_of_eq (by decide) N_0.symm⟩ (show ¬(7 % 8 = 0) by decide) rfl j e).trans (all_0 m c j e _)

/-- One block's product into accumulator 1. -/
def part1 (l : Vec Ideal S1x512x2048 .f32) (r : Vec Ideal S1x512x1024 .bf16) (j : Fin 2048) (e : Fin 1024) : EReal :=
  ∑ s : Fin 512, (l (ix3 0 s j) : EReal) * (r (ix3 0 s e) : EReal)

theorem zero_1 (j : Fin 2048) (e : Fin 1024) : k0_pay8 (F := Ideal) (ix2 j e) = (0 : EReal) := by
  unfold k0_pay8
  pointwise

theorem add_1 (l : Vec Ideal S1x512x2048 .f32) (r : Vec Ideal S1x512x1024 .bf16) (xs : Vec Ideal S2048x1024 .f32) (j : Fin 2048) (e : Fin 1024) :
    k0_pay13 (F := Ideal) r l xs (ix2 j e) = (xs (ix2 j e) : EReal) + part1 l r j e := by
  unfold k0_pay13 k0_pay11 part1
  pointwise

/-- What point `t` adds to accumulator 1. -/
def at1 (c : Dev nD) (j : Fin 2048) (e : Fin 1024) (t : Fin cfg0.N) : EReal :=
  ∑ s : Fin 512, w2 m c (ix3 (seqOf t) (rowOf t s) j) * w0 m c (ix3 (seqOf t) (rowOf t s) e)

theorem part_at_1 (c : Dev nD) (j : Fin 2048) (e : Fin 1024) (t : Fin cfg0.N) :
    part1 (iblk m c 2 t) (iblk m c 0 t) j e = at1 m c j e t :=
  Finset.sum_congr rfl fun r _ => by rw [iblk_2, iblk_0]

theorem stepA_1 (c : Dev nD) (t : Fin cfg0.N) (h0 : t.val % 8 = 0) (h1 : ¬t.val % 8 = 7) (j : Fin 2048) (e : Fin 1024) :
    (outsAt0 m c t.val t.isLt).2.2.2.2.2.1 (ix2 j e) = at1 m c j e t := by
  rw [outsAt0_A m c t h0 h1]
  frame_out
  rw [add_1, zero_1, zero_add, part_at_1]

theorem stepB_1 (c : Dev nD) (t : Fin cfg0.N) (h0 : ¬t.val % 8 = 0) (h1 : ¬t.val % 8 = 7) (j : Fin 2048) (e : Fin 1024) :
    (outsAt0 m c t.val t.isLt).2.2.2.2.2.1 (ix2 j e)
      = ((outsAt0 m c (t.val - 1) (Nat.lt_of_le_of_lt (Nat.sub_le _ _) t.isLt)).2.2.2.2.2.1 (ix2 j e) : EReal) + at1 m c j e t := by
  rw [outsAt0_B m c t h0 h1]
  frame_out
  rw [add_1, part_at_1]
  exact congrArg (· + at1 m c j e t) (congrFun (Memref.IsWhole.read_unread (Memref.isWhole_whole cc0_scratch1) _) (ix2 j e))

/-- After point `n`, before the last, accumulator 1 holds what the points up to `n` add. -/
theorem acc_1 (c : Dev nD) (j : Fin 2048) (e : Fin 1024) : ∀ (n : ℕ) (h : n < cfg0.N) (h7 : n < 7),
    (outsAt0 m c n h).2.2.2.2.2.1 (ix2 j e) = ∑ k : Fin (n + 1), at1 m c j e ⟨k.val, by omega⟩
  | 0, h, _ => by
    rw [show (outsAt0 m c 0 h).2.2.2.2.2.1 (ix2 j e) = _ from stepA_1 m c ⟨0, h⟩ rfl (show ¬(0 % 8 = 7) by decide) j e, Fin.sum_univ_one]; rfl
  | n + 1, h, h7 => by
    rw [show (outsAt0 m c (n + 1) h).2.2.2.2.2.1 (ix2 j e) = _ from stepB_1 m c ⟨n + 1, h⟩ (by dsimp only; omega) (by dsimp only; omega) j e, Fin.sum_univ_castSucc]
    exact congrArg (· + _) (acc_1 c j e n _ (by omega))

/-- What the last point completes. -/
theorem all_1 (c : Dev nD) (j : Fin 2048) (e : Fin 1024) (h : 7 < cfg0.N) :
    ((outsAt0 m c 6 (Nat.lt_of_succ_lt h)).2.2.2.2.2.1 (ix2 j e) : EReal) + at1 m c j e ⟨7, h⟩ = Cert.ProdMath.outer (w2 m c) (w0 m c) (ix2 j e) :=
  Cert.ProdMath.run_sum (show cfg0.N = 8 from N_0) (fun n s => w2 m c (ix3 n s j) * w0 m c (ix3 n s e)) (at1 m c j e) _ (fun t => rfl)
    (acc_1 m c j e 6 (Nat.lt_of_succ_lt h) (by decide)) h

theorem stepC_1 (c : Dev nD) (t : Fin cfg0.N) (h0 : ¬t.val % 8 = 0) (h1 : t.val % 8 = 7) (j : Fin 2048) (e : Fin 1024) :
    (outsAt0 m c t.val t.isLt).2.1 (ix2 j e)
      = ((outsAt0 m c (t.val - 1) (Nat.lt_of_le_of_lt (Nat.sub_le _ _) t.isLt)).2.2.2.2.2.1 (ix2 j e) : EReal) + at1 m c j e t := by
  rw [outsAt0_C m c t h0 h1]
  frame_out
  unfold k0_pay4
  show k0_pay13 (F := Ideal) (iblk m c 0 t) (iblk m c 2 t) _ (ix2 j e) = _
  rw [add_1, part_at_1]
  exact congrArg (· + at1 m c j e t) (congrFun (Memref.IsWhole.read_unread (Memref.isWhole_whole cc0_scratch1) _) (ix2 j e))

/-- Output 6 after the run. -/
theorem final_6 (c : Dev nD) : (dats m 0 c).arrAt 6 cfg0.N = Cert.ProdMath.outer (w2 m c) (w0 m c) := by
  refine (Value.final6 m c).trans ((Value.G6_last m c).trans ((congrArg (fun p => p.2.1) (Value.outsAt0_sweep m c 7 (lt_of_lt_of_eq (by decide) N_0.symm)).symm).trans ?_))
  funext i
  change S2048x1024.Idx at i
  obtain ⟨j, e, rfl⟩ : ∃ j e, i = ix2 j e := ⟨i 0, i 1, eq_ix2 i⟩
  exact (stepC_1 m c ⟨7, lt_of_lt_of_eq (by decide) N_0.symm⟩ (show ¬(7 % 8 = 0) by decide) rfl j e).trans (all_1 m c j e _)

/-- One block's product into accumulator 2. -/
def part2 (l : Vec Ideal S1x512x128 .f32) (r : Vec Ideal S1x512x1024 .bf16) (j : Fin 128) (e : Fin 1024) : EReal :=
  ∑ s : Fin 512, (l (ix3 0 s j) : EReal) * (r (ix3 0 s e) : EReal)

theorem zero_2 (j : Fin 128) (e : Fin 1024) : k0_pay9 (F := Ideal) (ix2 j e) = (0 : EReal) := by
  unfold k0_pay9
  pointwise

theorem add_2 (l : Vec Ideal S1x512x128 .f32) (r : Vec Ideal S1x512x1024 .bf16) (xs : Vec Ideal S128x1024 .f32) (j : Fin 128) (e : Fin 1024) :
    k0_pay1 (F := Ideal) (k0_pay11 r) (k0_pay14 l) xs (ix2 j e) = (xs (ix2 j e) : EReal) + part2 l r j e := by
  unfold k0_pay1 k0_pay11 k0_pay14 part2
  pointwise

/-- What point `t` adds to accumulator 2. -/
def at2 (c : Dev nD) (j : Fin 128) (e : Fin 1024) (t : Fin cfg0.N) : EReal :=
  ∑ s : Fin 512, w3 m c (ix3 (seqOf t) (rowOf t s) j) * w0 m c (ix3 (seqOf t) (rowOf t s) e)

theorem part_at_2 (c : Dev nD) (j : Fin 128) (e : Fin 1024) (t : Fin cfg0.N) :
    part2 (iblk m c 3 t) (iblk m c 0 t) j e = at2 m c j e t :=
  Finset.sum_congr rfl fun r _ => by rw [iblk_3, iblk_0]

theorem stepA_2 (c : Dev nD) (t : Fin cfg0.N) (h0 : t.val % 8 = 0) (h1 : ¬t.val % 8 = 7) (j : Fin 128) (e : Fin 1024) :
    (outsAt0 m c t.val t.isLt).2.2.2.2.2.2.1 (ix2 j e) = at2 m c j e t := by
  rw [outsAt0_A m c t h0 h1]
  frame_out
  rw [add_2, zero_2, zero_add, part_at_2]

theorem stepB_2 (c : Dev nD) (t : Fin cfg0.N) (h0 : ¬t.val % 8 = 0) (h1 : ¬t.val % 8 = 7) (j : Fin 128) (e : Fin 1024) :
    (outsAt0 m c t.val t.isLt).2.2.2.2.2.2.1 (ix2 j e)
      = ((outsAt0 m c (t.val - 1) (Nat.lt_of_le_of_lt (Nat.sub_le _ _) t.isLt)).2.2.2.2.2.2.1 (ix2 j e) : EReal) + at2 m c j e t := by
  rw [outsAt0_B m c t h0 h1]
  frame_out
  rw [add_2, part_at_2]
  exact congrArg (· + at2 m c j e t) (congrFun (Memref.IsWhole.read_unread (Memref.isWhole_whole cc0_scratch2) _) (ix2 j e))

/-- After point `n`, before the last, accumulator 2 holds what the points up to `n` add. -/
theorem acc_2 (c : Dev nD) (j : Fin 128) (e : Fin 1024) : ∀ (n : ℕ) (h : n < cfg0.N) (h7 : n < 7),
    (outsAt0 m c n h).2.2.2.2.2.2.1 (ix2 j e) = ∑ k : Fin (n + 1), at2 m c j e ⟨k.val, by omega⟩
  | 0, h, _ => by
    rw [show (outsAt0 m c 0 h).2.2.2.2.2.2.1 (ix2 j e) = _ from stepA_2 m c ⟨0, h⟩ rfl (show ¬(0 % 8 = 7) by decide) j e, Fin.sum_univ_one]; rfl
  | n + 1, h, h7 => by
    rw [show (outsAt0 m c (n + 1) h).2.2.2.2.2.2.1 (ix2 j e) = _ from stepB_2 m c ⟨n + 1, h⟩ (by dsimp only; omega) (by dsimp only; omega) j e, Fin.sum_univ_castSucc]
    exact congrArg (· + _) (acc_2 c j e n _ (by omega))

/-- What the last point completes. -/
theorem all_2 (c : Dev nD) (j : Fin 128) (e : Fin 1024) (h : 7 < cfg0.N) :
    ((outsAt0 m c 6 (Nat.lt_of_succ_lt h)).2.2.2.2.2.2.1 (ix2 j e) : EReal) + at2 m c j e ⟨7, h⟩ = Cert.ProdMath.outer (w3 m c) (w0 m c) (ix2 j e) :=
  Cert.ProdMath.run_sum (show cfg0.N = 8 from N_0) (fun n s => w3 m c (ix3 n s j) * w0 m c (ix3 n s e)) (at2 m c j e) _ (fun t => rfl)
    (acc_2 m c j e 6 (Nat.lt_of_succ_lt h) (by decide)) h

theorem stepC_2 (c : Dev nD) (t : Fin cfg0.N) (h0 : ¬t.val % 8 = 0) (h1 : t.val % 8 = 7) (j : Fin 128) (e : Fin 1024) :
    (outsAt0 m c t.val t.isLt).2.2.1 (ix2 j e)
      = ((outsAt0 m c (t.val - 1) (Nat.lt_of_le_of_lt (Nat.sub_le _ _) t.isLt)).2.2.2.2.2.2.1 (ix2 j e) : EReal) + at2 m c j e t := by
  rw [outsAt0_C m c t h0 h1]
  frame_out
  unfold k0_pay5
  show k0_pay1 (F := Ideal) (k0_pay11 (iblk m c 0 t)) (k0_pay14 (iblk m c 3 t)) _ (ix2 j e) = _
  rw [add_2, part_at_2]
  exact congrArg (· + at2 m c j e t) (congrFun (Memref.IsWhole.read_unread (Memref.isWhole_whole cc0_scratch2) _) (ix2 j e))

/-- Output 7 after the run. -/
theorem final_7 (c : Dev nD) : (dats m 0 c).arrAt 7 cfg0.N = Cert.ProdMath.outer (w3 m c) (w0 m c) := by
  refine (Value.final7 m c).trans ((Value.G7_last m c).trans ((congrArg (fun p => p.2.2.1) (Value.outsAt0_sweep m c 7 (lt_of_lt_of_eq (by decide) N_0.symm)).symm).trans ?_))
  funext i
  change S128x1024.Idx at i
  obtain ⟨j, e, rfl⟩ : ∃ j e, i = ix2 j e := ⟨i 0, i 1, eq_ix2 i⟩
  exact (stepC_2 m c ⟨7, lt_of_lt_of_eq (by decide) N_0.symm⟩ (show ¬(7 % 8 = 0) by decide) rfl j e).trans (all_2 m c j e _)

/-- One block's product into accumulator 3. -/
def part3 (l : Vec Ideal S1x512x1024 .bf16) (r : Vec Ideal S1x512x1024 .bf16) (j : Fin 1024) (e : Fin 1024) : EReal :=
  ∑ s : Fin 512, (l (ix3 0 s j) : EReal) * (r (ix3 0 s e) : EReal)

theorem zero_3 (j : Fin 1024) (e : Fin 1024) : k0_pay10 (F := Ideal) (ix2 j e) = (0 : EReal) := by
  unfold k0_pay10
  pointwise

theorem add_3 (l : Vec Ideal S1x512x1024 .bf16) (r : Vec Ideal S1x512x1024 .bf16) (xs : Vec Ideal S1024x1024 .f32) (j : Fin 1024) (e : Fin 1024) :
    k0_pay2 (F := Ideal) (k0_pay11 r) l xs (ix2 j e) = (xs (ix2 j e) : EReal) + part3 l r j e := by
  unfold k0_pay2 k0_pay11 part3
  pointwise

/-- What point `t` adds to accumulator 3. -/
def at3 (c : Dev nD) (j : Fin 1024) (e : Fin 1024) (t : Fin cfg0.N) : EReal :=
  ∑ s : Fin 512, w4 m c (ix3 (seqOf t) (rowOf t s) j) * w0 m c (ix3 (seqOf t) (rowOf t s) e)

theorem part_at_3 (c : Dev nD) (j : Fin 1024) (e : Fin 1024) (t : Fin cfg0.N) :
    part3 (iblk m c 4 t) (iblk m c 0 t) j e = at3 m c j e t :=
  Finset.sum_congr rfl fun r _ => by rw [iblk_4, iblk_0]

theorem stepA_3 (c : Dev nD) (t : Fin cfg0.N) (h0 : t.val % 8 = 0) (h1 : ¬t.val % 8 = 7) (j : Fin 1024) (e : Fin 1024) :
    (outsAt0 m c t.val t.isLt).2.2.2.2.2.2.2 (ix2 j e) = at3 m c j e t := by
  rw [outsAt0_A m c t h0 h1]
  frame_out
  rw [add_3, zero_3, zero_add, part_at_3]

theorem stepB_3 (c : Dev nD) (t : Fin cfg0.N) (h0 : ¬t.val % 8 = 0) (h1 : ¬t.val % 8 = 7) (j : Fin 1024) (e : Fin 1024) :
    (outsAt0 m c t.val t.isLt).2.2.2.2.2.2.2 (ix2 j e)
      = ((outsAt0 m c (t.val - 1) (Nat.lt_of_le_of_lt (Nat.sub_le _ _) t.isLt)).2.2.2.2.2.2.2 (ix2 j e) : EReal) + at3 m c j e t := by
  rw [outsAt0_B m c t h0 h1]
  frame_out
  rw [add_3, part_at_3]
  exact congrArg (· + at3 m c j e t) (congrFun (Memref.IsWhole.read_unread (Memref.isWhole_whole cc0_scratch3) _) (ix2 j e))

/-- After point `n`, before the last, accumulator 3 holds what the points up to `n` add. -/
theorem acc_3 (c : Dev nD) (j : Fin 1024) (e : Fin 1024) : ∀ (n : ℕ) (h : n < cfg0.N) (h7 : n < 7),
    (outsAt0 m c n h).2.2.2.2.2.2.2 (ix2 j e) = ∑ k : Fin (n + 1), at3 m c j e ⟨k.val, by omega⟩
  | 0, h, _ => by
    rw [show (outsAt0 m c 0 h).2.2.2.2.2.2.2 (ix2 j e) = _ from stepA_3 m c ⟨0, h⟩ rfl (show ¬(0 % 8 = 7) by decide) j e, Fin.sum_univ_one]; rfl
  | n + 1, h, h7 => by
    rw [show (outsAt0 m c (n + 1) h).2.2.2.2.2.2.2 (ix2 j e) = _ from stepB_3 m c ⟨n + 1, h⟩ (by dsimp only; omega) (by dsimp only; omega) j e, Fin.sum_univ_castSucc]
    exact congrArg (· + _) (acc_3 c j e n _ (by omega))

/-- What the last point completes. -/
theorem all_3 (c : Dev nD) (j : Fin 1024) (e : Fin 1024) (h : 7 < cfg0.N) :
    ((outsAt0 m c 6 (Nat.lt_of_succ_lt h)).2.2.2.2.2.2.2 (ix2 j e) : EReal) + at3 m c j e ⟨7, h⟩ = Cert.ProdMath.outer (w4 m c) (w0 m c) (ix2 j e) :=
  Cert.ProdMath.run_sum (show cfg0.N = 8 from N_0) (fun n s => w4 m c (ix3 n s j) * w0 m c (ix3 n s e)) (at3 m c j e) _ (fun t => rfl)
    (acc_3 m c j e 6 (Nat.lt_of_succ_lt h) (by decide)) h

theorem stepC_3 (c : Dev nD) (t : Fin cfg0.N) (h0 : ¬t.val % 8 = 0) (h1 : t.val % 8 = 7) (j : Fin 1024) (e : Fin 1024) :
    (outsAt0 m c t.val t.isLt).2.2.2.1 (ix2 j e)
      = ((outsAt0 m c (t.val - 1) (Nat.lt_of_le_of_lt (Nat.sub_le _ _) t.isLt)).2.2.2.2.2.2.2 (ix2 j e) : EReal) + at3 m c j e t := by
  rw [outsAt0_C m c t h0 h1]
  frame_out
  unfold k0_pay6
  show k0_pay2 (F := Ideal) (k0_pay11 (iblk m c 0 t)) (iblk m c 4 t) _ (ix2 j e) = _
  rw [add_3, part_at_3]
  exact congrArg (· + at3 m c j e t) (congrFun (Memref.IsWhole.read_unread (Memref.isWhole_whole cc0_scratch3) _) (ix2 j e))

/-- Output 8 after the run. -/
theorem final_8 (c : Dev nD) : (dats m 0 c).arrAt 8 cfg0.N = Cert.ProdMath.outer (w4 m c) (w0 m c) := by
  refine (Value.final8 m c).trans ((Value.G8_last m c).trans ((congrArg (fun p => p.2.2.2.1) (Value.outsAt0_sweep m c 7 (lt_of_lt_of_eq (by decide) N_0.symm)).symm).trans ?_))
  funext i
  change S1024x1024.Idx at i
  obtain ⟨j, e, rfl⟩ : ∃ j e, i = ix2 j e := ⟨i 0, i 1, eq_ix2 i⟩
  exact (stepC_3 m c ⟨7, lt_of_lt_of_eq (by decide) N_0.symm⟩ (show ¬(7 % 8 = 0) by decide) rfl j e).trans (all_3 m c j e _)

end Cert.DwNatIdeal.Prod

namespace Cert.DwNatRefIdeal.Prod

open Cert.DwNatRefIdeal Cert.DwNatRefIdeal.Gen Idealize.ShloMosaic Idealize.ShloMosaic.TcCoe Idealize.SL.Sem

variable (m : (ℓ : Loc nD τ sig) → Buf (Elt Ideal) ℓ) (ρ : Dev nD → PrngReg)

abbrev w0 (c : Dev nD) : Cert.ProdMath.M3 2 2048 1024 := m ((c : Thread nD τ).loc main_arg0)
abbrev w1 (c : Dev nD) : Cert.ProdMath.M3 2 2048 768 := m ((c : Thread nD τ).loc main_arg1)
abbrev w2 (c : Dev nD) : Cert.ProdMath.M3 2 2048 2048 := m ((c : Thread nD τ).loc main_arg2)
abbrev w3 (c : Dev nD) : Cert.ProdMath.M3 2 2048 128 := m ((c : Thread nD τ).loc main_arg3)
abbrev w4 (c : Dev nD) : Cert.ProdMath.M3 2 2048 1024 := m ((c : Thread nD τ).loc main_arg4)

theorem dot_0 (l : FVec Ideal S2x2048x768 .f32) (r : FVec Ideal S2x2048x1024 .f32) :
    Host.dotGeneral dot_S2x2048x768_S2x2048x1024_S768x1024_01_01_2_2_n_n none l r = Cert.ProdMath.outer l r := by
  funext i
  change S768x1024.Idx at i
  idx_vars i
  pointwise
  rfl

theorem dot_1 (l : FVec Ideal S2x2048x2048 .f32) (r : FVec Ideal S2x2048x1024 .f32) :
    Host.dotGeneral dot_S2x2048x2048_S2x2048x1024_S2048x1024_01_01_2_2_n_n none l r = Cert.ProdMath.outer l r := by
  funext i
  change S2048x1024.Idx at i
  idx_vars i
  pointwise
  rfl

theorem dot_2 (l : FVec Ideal S2x2048x128 .f32) (r : FVec Ideal S2x2048x1024 .f32) :
    Host.dotGeneral dot_S2x2048x128_S2x2048x1024_S128x1024_01_01_2_2_n_n none l r = Cert.ProdMath.outer l r := by
  funext i
  change S128x1024.Idx at i
  idx_vars i
  pointwise
  rfl

theorem dot_3 (l : FVec Ideal S2x2048x1024 .f32) (r : FVec Ideal S2x2048x1024 .f32) :
    Host.dotGeneral dot_S2x2048x1024_S2x2048x1024_S1024x1024_01_01_2_2_n_n none l r = Cert.ProdMath.outer l r := by
  funext i
  change S1024x1024.Idx at i
  idx_vars i
  pointwise
  rfl

theorem results : θ_run defs (onTc (τ := τ) (main (F := Ideal))) ⟨m, fun _ => 0, ρ⟩ fun r => ∀ c : Dev nD,
      r.2.mem ((c.tc : Thread nD τ).loc main_v17) = Cert.ProdMath.outer (w1 m c) (w0 m c)
      ∧ r.2.mem ((c.tc : Thread nD τ).loc main_v19) = Cert.ProdMath.outer (w2 m c) (w0 m c)
      ∧ r.2.mem ((c.tc : Thread nD τ).loc main_v21) = Cert.ProdMath.outer (w3 m c) (w0 m c)
      ∧ r.2.mem ((c.tc : Thread nD τ).loc main_v23) = Cert.ProdMath.outer (w4 m c) (w0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h0, h1, h2, h3, h⟩ := h c
  refine ⟨h0.trans ?_, h1.trans ?_, h2.trans ?_, h3.trans ?_, h⟩
  · rw [dot_0]
    funext i
    change S768x1024.Idx at i
    idx_vars i
    pointwise
  · rw [dot_1]
    funext i
    change S2048x1024.Idx at i
    idx_vars i
    pointwise
  · rw [dot_2]
    funext i
    change S128x1024.Idx at i
    idx_vars i
    pointwise
  · rw [dot_3]
    funext i
    change S1024x1024.Idx at i
    idx_vars i
    pointwise

end Cert.DwNatRefIdeal.Prod

namespace Cert.DwNatClaim

open Idealize.ShloMosaic Idealize.ShloMosaic.TcCoe Idealize.SL.Sem

theorem frame_ref : Cert.quiescent_DwNatRefIdeal := fun m ρ _ =>
  (θ_run Cert.DwNatRefIdeal.defs _ _).mono (fun r h => ⟨fun c => (h c).2.2.2.2, sem_eq_zero_of_no_sems (by decide) r.2⟩)
    (Cert.DwNatRefIdeal.Prod.results m ρ)

theorem algebraic : Cert.algebraic_DwNatIdeal_DwNatRefIdeal := by
  intro m ρ m' ρ' _ hargs
  refine ⟨fun c => Cert.ProdMath.outer (Cert.DwNatIdeal.Prod.w1 m c) (Cert.DwNatIdeal.Prod.w0 m c), fun c => Cert.ProdMath.outer (Cert.DwNatIdeal.Prod.w2 m c) (Cert.DwNatIdeal.Prod.w0 m c), fun c => Cert.ProdMath.outer (Cert.DwNatIdeal.Prod.w3 m c) (Cert.DwNatIdeal.Prod.w0 m c), fun c => Cert.ProdMath.outer (Cert.DwNatIdeal.Prod.w4 m c) (Cert.DwNatIdeal.Prod.w0 m c), ?_, ?_⟩
  · refine (θ_run _ _ _).mono (fun r h c => ?_) (Cert.DwNatIdeal.Value.run_blocks m ρ)
    obtain ⟨h0, h1, h2, h3, h⟩ := h c
    exact ⟨h0.trans (Cert.DwNatIdeal.Prod.final_5 m c), h1.trans (Cert.DwNatIdeal.Prod.final_6 m c), h2.trans (Cert.DwNatIdeal.Prod.final_7 m c), h3.trans (Cert.DwNatIdeal.Prod.final_8 m c), h⟩
  · refine (θ_run _ _ _).mono (fun r h c => ?_) (Cert.DwNatRefIdeal.Prod.results m' ρ')
    obtain ⟨e0, e1, e2, e3, e4⟩ := hargs c
    obtain ⟨h0, h1, h2, h3, h⟩ := h c
    refine ⟨h0.trans ?_, h1.trans ?_, h2.trans ?_, h3.trans ?_, h⟩
    all_goals simp only [Cert.DwNatRefIdeal.Prod.w0, Cert.DwNatRefIdeal.Prod.w1, Cert.DwNatRefIdeal.Prod.w2, Cert.DwNatRefIdeal.Prod.w3, Cert.DwNatRefIdeal.Prod.w4, e0, e1, e2, e3, e4]

end Cert.DwNatClaim

end
-- ==== Proof.Prod.DwOut.lean ====
module

public import proofs.«01_k».proof.Defs
public import proofs.«01_k».proof.Proof.Gen.DwOutIdeal.Value
public import proofs.«01_k».proof.Proof.Gen.DwOutRefIdeal.Run
public import proofs.«01_k».proof.Proof.Prod.Math
public import Idealize.ShloMosaic.Lib.Pipeline.ValueKit.Acc
public import Idealize.ShloMosaic.Lib.StableHlo.ReadAt
public import Idealize.ShloMosaic.Lib.Quiescent
public import Idealize.ShloMosaic.Lib.WritesUnit

@[expose] public section

set_option maxRecDepth 16384

noncomputable section

/-! The gradients of the branch weight, the output weight and the per-layer weight: each the product of an activation and a cotangent, summed over the tokens. -/

namespace Cert.DwOutIdeal.Prod

open Cert.DwOutIdeal Cert.DwOutIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 4, by have := lt_of_lt_of_eq t.isLt (show cfg0.N = 8 from N_0); omega⟩
/-- The position of row `r` of point `t`'s block. -/
def rowOf (t : Fin cfg0.N) (r : Fin 512) : Fin 2048 := ⟨t.val % 4 * 512 + r.val, by omega⟩

/-- The argument behind window 0, as the launch finds it. -/
abbrev w0 (c : Dev nD) : Cert.ProdMath.M3 2 2048 768 := m ((c : Thread nD τ).loc main_arg0)

theorem index_0 : ∀ t : Fin grid0.N, win0_0.index t 0 = t.val / 4 ∧ win0_0.index t 1 = t.val % 4 ∧ win0_0.index t 2 = 0 := by decide +kernel

theorem V_0 (c : Dev nD) (i : S2x2048x768.Idx) : V m c main_v0 i = m ((c : Thread nD τ).loc main_arg0) i := by
  unfold V
  after_reads_at

theorem iblk_0 (c : Dev nD) (t : Fin cfg0.N) (r : Fin 512) (k : Fin 768) :
    iblk m c 0 t (ix3 0 r k) = w0 m c (ix3 (seqOf t) (rowOf t r) k) := by
  refine Eq.trans ?_ (V_0 m c (ix3 (seqOf t) (rowOf t r) k))
  show V m c main_v0 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 4
    omega
  · show win0_0.index t 1 * 512 + 1 * r.val = t.val % 4 * 512 + r.val
    omega
  · show win0_0.index t 2 * 768 + 1 * k.val = k.val
    omega

/-- The argument behind window 1, as the launch finds it. -/
abbrev w1 (c : Dev nD) : Cert.ProdMath.M3 2 2048 1024 := m ((c : Thread nD τ).loc main_arg4)

theorem index_1 : ∀ t : Fin grid0.N, win0_1.index t 0 = t.val / 4 ∧ win0_1.index t 1 = t.val % 4 ∧ win0_1.index t 2 = 0 := by decide +kernel

theorem V_1 (c : Dev nD) (i : S2x2048x1024.Idx) : V m c main_v1 i = m ((c : Thread nD τ).loc main_arg4) i := by
  unfold V
  after_reads_at

theorem iblk_1 (c : Dev nD) (t : Fin cfg0.N) (r : Fin 512) (k : Fin 1024) :
    iblk m c 1 t (ix3 0 r k) = w1 m c (ix3 (seqOf t) (rowOf t r) k) := by
  refine Eq.trans ?_ (V_1 m c (ix3 (seqOf t) (rowOf t r) k))
  show V m c main_v1 (((cfg0.win 1).blk t).view.emb (ix3 0 r k)) = _
  refine congrArg _ (funext fun a => Fin.ext ?_)
  obtain ⟨h0, h1, h2⟩ := index_1 t
  fin_cases a
  · show win0_1.index t 0 * 1 + 1 * 0 = t.val / 4
    omega
  · show win0_1.index t 1 * 512 + 1 * r.val = t.val % 4 * 512 + r.val
    omega
  · show win0_1.index t 2 * 1024 + 1 * k.val = k.val
    omega

/-- The argument behind window 2, as the launch finds it. -/
abbrev w2 (c : Dev nD) : Cert.ProdMath.M3 2 2048 2048 := m ((c : Thread nD τ).loc main_arg1)

theorem index_2 : ∀ t : Fin grid0.N, win0_2.index t 0 = t.val / 4 ∧ win0_2.index t 1 = t.val % 4 ∧ win0_2.index t 2 = 0 := by decide +kernel

theorem V_2 (c : Dev nD) (i : S2x2048x2048.Idx) : V m c main_v2 i = m ((c : Thread nD τ).loc main_arg1) i := by
  unfold V
  after_reads_at

theorem iblk_2 (c : Dev nD) (t : Fin cfg0.N) (r : Fin 512) (k : Fin 2048) :
    iblk m c 2 t (ix3 0 r k) = w2 m c (ix3 (seqOf t) (rowOf t r) k) := by
  refine Eq.trans ?_ (V_2 m c (ix3 (seqOf t) (rowOf t r) k))
  show V m c main_v2 (((cfg0.win 2).blk t).view.emb (ix3 0 r k)) = _
  refine congrArg _ (funext fun a => Fin.ext ?_)
  obtain ⟨h0, h1, h2⟩ := index_2 t
  fin_cases a
  · show win0_2.index t 0 * 1 + 1 * 0 = t.val / 4
    omega
  · show win0_2.index t 1 * 512 + 1 * r.val = t.val % 4 * 512 + r.val
    omega
  · show win0_2.index t 2 * 2048 + 1 * k.val = k.val
    omega

/-- The argument behind window 3, as the launch finds it. -/
abbrev w3 (c : Dev nD) : Cert.ProdMath.M3 2 2048 1024 := m ((c : Thread nD τ).loc main_arg5)

theorem index_3 : ∀ t : Fin grid0.N, win0_3.index t 0 = t.val / 4 ∧ win0_3.index t 1 = t.val % 4 ∧ win0_3.index t 2 = 0 := by decide +kernel

theorem V_3 (c : Dev nD) (i : S2x2048x1024.Idx) : V m c main_v3 i = m ((c : Thread nD τ).loc main_arg5) i := by
  unfold V
  after_reads_at

theorem iblk_3 (c : Dev nD) (t : Fin cfg0.N) (r : Fin 512) (k : Fin 1024) :
    iblk m c 3 t (ix3 0 r k) = w3 m c (ix3 (seqOf t) (rowOf t r) k) := by
  refine Eq.trans ?_ (V_3 m c (ix3 (seqOf t) (rowOf t r) k))
  show V m c main_v3 (((cfg0.win 3).blk t).view.emb (ix3 0 r k)) = _
  refine congrArg _ (funext fun a => Fin.ext ?_)
  obtain ⟨h0, h1, h2⟩ := index_3 t
  fin_cases a
  · show win0_3.index t 0 * 1 + 1 * 0 = t.val / 4
    omega
  · show win0_3.index t 1 * 512 + 1 * r.val = t.val % 4 * 512 + r.val
    omega
  · show win0_3.index t 2 * 1024 + 1 * k.val = k.val
    omega

/-- The argument behind window 4, as the launch finds it. -/
abbrev w4 (c : Dev nD) : Cert.ProdMath.M3 2 2048 1024 := m ((c : Thread nD τ).loc main_arg2)

theorem index_4 : ∀ t : Fin grid0.N, win0_4.index t 0 = t.val / 4 ∧ win0_4.index t 1 = t.val % 4 ∧ win0_4.index t 2 = 0 := by decide +kernel

theorem V_4 (c : Dev nD) (i : S2x2048x1024.Idx) : V m c main_v4 i = m ((c : Thread nD τ).loc main_arg2) i := by
  unfold V
  after_reads_at

theorem iblk_4 (c : Dev nD) (t : Fin cfg0.N) (r : Fin 512) (k : Fin 1024) :
    iblk m c 4 t (ix3 0 r k) = w4 m c (ix3 (seqOf t) (rowOf t r) k) := by
  refine Eq.trans ?_ (V_4 m c (ix3 (seqOf t) (rowOf t r) k))
  show V m c main_v4 (((cfg0.win 4).blk t).view.emb (ix3 0 r k)) = _
  refine congrArg _ (funext fun a => Fin.ext ?_)
  obtain ⟨h0, h1, h2⟩ := index_4 t
  fin_cases a
  · show win0_4.index t 0 * 1 + 1 * 0 = t.val / 4
    omega
  · show win0_4.index t 1 * 512 + 1 * r.val = t.val % 4 * 512 + r.val
    omega
  · show win0_4.index t 2 * 1024 + 1 * k.val = k.val
    omega

/-- The argument behind window 5, as the launch finds it. -/
abbrev w5 (c : Dev nD) : Cert.ProdMath.M3 2 2048 1024 := m ((c : Thread nD τ).loc main_arg6)

theorem index_5 : ∀ t : Fin grid0.N, win0_5.index t 0 = t.val / 4 ∧ win0_5.index t 1 = t.val % 4 ∧ win0_5.index t 2 = 0 := by decide +kernel

theorem V_5 (c : Dev nD) (i : S2x2048x1024.Idx) : V m c main_v5 i = m ((c : Thread nD τ).loc main_arg6) i := by
  unfold V
  after_reads_at

theorem iblk_5 (c : Dev nD) (t : Fin cfg0.N) (r : Fin 512) (k : Fin 1024) :
    iblk m c 5 t (ix3 0 r k) = w5 m c (ix3 (seqOf t) (rowOf t r) k) := by
  refine Eq.trans ?_ (V_5 m c (ix3 (seqOf t) (rowOf t r) k))
  show V m c main_v5 (((cfg0.win 5).blk t).view.emb (ix3 0 r k)) = _
  refine congrArg _ (funext fun a => Fin.ext ?_)
  obtain ⟨h0, h1, h2⟩ := index_5 t
  fin_cases a
  · show win0_5.index t 0 * 1 + 1 * 0 = t.val / 4
    omega
  · show win0_5.index t 1 * 512 + 1 * r.val = t.val % 4 * 512 + r.val
    omega
  · show win0_5.index t 2 * 1024 + 1 * k.val = k.val
    omega

/-- The argument behind window 6, as the launch finds it. -/
abbrev w6 (c : Dev nD) : Cert.ProdMath.M3 2 2048 256 := m ((c : Thread nD τ).loc main_arg3)

theorem index_6 : ∀ t : Fin grid0.N, win0_6.index t 0 = t.val / 4 ∧ win0_6.index t 1 = t.val % 4 ∧ win0_6.index t 2 = 0 := by decide +kernel

theorem V_6 (c : Dev nD) (i : S2x2048x256.Idx) : V m c main_v6 i = m ((c : Thread nD τ).loc main_arg3) i := by
  unfold V
  after_reads_at

theorem iblk_6 (c : Dev nD) (t : Fin cfg0.N) (r : Fin 512) (k : Fin 256) :
    iblk m c 6 t (ix3 0 r k) = w6 m c (ix3 (seqOf t) (rowOf t r) k) := by
  refine Eq.trans ?_ (V_6 m c (ix3 (seqOf t) (rowOf t r) k))
  show V m c main_v6 (((cfg0.win 6).blk t).view.emb (ix3 0 r k)) = _
  refine congrArg _ (funext fun a => Fin.ext ?_)
  obtain ⟨h0, h1, h2⟩ := index_6 t
  fin_cases a
  · show win0_6.index t 0 * 1 + 1 * 0 = t.val / 4
    omega
  · show win0_6.index t 1 * 512 + 1 * r.val = t.val % 4 * 512 + r.val
    omega
  · show win0_6.index t 2 * 256 + 1 * k.val = k.val
    omega

/-- The argument behind window 7, as the launch finds it. -/
abbrev w7 (c : Dev nD) : Cert.ProdMath.M3 2 2048 1024 := m ((c : Thread nD τ).loc main_arg7)

theorem index_7 : ∀ t : Fin grid0.N, win0_7.index t 0 = t.val / 4 ∧ win0_7.index t 1 = t.val % 4 ∧ win0_7.index t 2 = 0 := by decide +kernel

theorem V_7 (c : Dev nD) (i : S2x2048x1024.Idx) : V m c main_v7 i = m ((c : Thread nD τ).loc main_arg7) i := by
  unfold V
  after_reads_at

theorem iblk_7 (c : Dev nD) (t : Fin cfg0.N) (r : Fin 512) (k : Fin 1024) :
    iblk m c 7 t (ix3 0 r k) = w7 m c (ix3 (seqOf t) (rowOf t r) k) := by
  refine Eq.trans ?_ (V_7 m c (ix3 (seqOf t) (rowOf t r) k))
  show V m c main_v7 (((cfg0.win 7).blk t).view.emb (ix3 0 r k)) = _
  refine congrArg _ (funext fun a => Fin.ext ?_)
  obtain ⟨h0, h1, h2⟩ := index_7 t
  fin_cases a
  · show win0_7.index t 0 * 1 + 1 * 0 = t.val / 4
    omega
  · show win0_7.index t 1 * 512 + 1 * r.val = t.val % 4 * 512 + r.val
    omega
  · show win0_7.index t 2 * 1024 + 1 * k.val = k.val
    omega

/-- One block's product into accumulator 0. -/
def part0 (l : Vec Ideal S1x512x768 .bf16) (r : Vec Ideal S1x512x1024 .bf16) (j : Fin 768) (e : Fin 1024) : EReal :=
  ∑ s : Fin 512, (l (ix3 0 s j) : EReal) * (r (ix3 0 s e) : EReal)

theorem zero_0 (j : Fin 768) (e : Fin 1024) : k0_pay7 (F := Ideal) (ix2 j e) = (0 : EReal) := by
  unfold k0_pay7
  pointwise

theorem add_0 (l : Vec Ideal S1x512x768 .bf16) (r : Vec Ideal S1x512x1024 .bf16) (xs : Vec Ideal S768x1024 .f32) (j : Fin 768) (e : Fin 1024) :
    k0_pay11 (F := Ideal) xs l r (ix2 j e) = (xs (ix2 j e) : EReal) + part0 l r j e := by
  unfold k0_pay11 part0
  pointwise

/-- What point `t` adds to accumulator 0. -/
def at0 (c : Dev nD) (j : Fin 768) (e : Fin 1024) (t : Fin cfg0.N) : EReal :=
  ∑ s : Fin 512, w0 m c (ix3 (seqOf t) (rowOf t s) j) * w1 m c (ix3 (seqOf t) (rowOf t s) e)

theorem part_at_0 (c : Dev nD) (j : Fin 768) (e : Fin 1024) (t : Fin cfg0.N) :
    part0 (iblk m c 0 t) (iblk m c 1 t) j e = at0 m c j e t :=
  Finset.sum_congr rfl fun r _ => by rw [iblk_0, iblk_1]

theorem stepA_0 (c : Dev nD) (t : Fin cfg0.N) (h0 : t.val % 8 = 0) (h1 : ¬t.val % 8 = 7) (j : Fin 768) (e : Fin 1024) :
    (outsAt0 m c t.val t.isLt).2.2.2.1 (ix2 j e) = at0 m c j e t := by
  rw [outsAt0_A m c t h0 h1]
  frame_out
  rw [add_0, zero_0, zero_add, part_at_0]

theorem stepB_0 (c : Dev nD) (t : Fin cfg0.N) (h0 : ¬t.val % 8 = 0) (h1 : ¬t.val % 8 = 7) (j : Fin 768) (e : Fin 1024) :
    (outsAt0 m c t.val t.isLt).2.2.2.1 (ix2 j e)
      = ((outsAt0 m c (t.val - 1) (Nat.lt_of_le_of_lt (Nat.sub_le _ _) t.isLt)).2.2.2.1 (ix2 j e) : EReal) + at0 m c j e t := by
  rw [outsAt0_B m c t h0 h1]
  frame_out
  rw [add_0, part_at_0]
  exact congrArg (· + at0 m c j e t) (congrFun (Memref.IsWhole.read_unread (Memref.isWhole_whole cc0_scratch0) _) (ix2 j e))

/-- After point `n`, before the last, accumulator 0 holds what the points up to `n` add. -/
theorem acc_0 (c : Dev nD) (j : Fin 768) (e : Fin 1024) : ∀ (n : ℕ) (h : n < cfg0.N) (h7 : n < 7),
    (outsAt0 m c n h).2.2.2.1 (ix2 j e) = ∑ k : Fin (n + 1), at0 m c j e ⟨k.val, by omega⟩
  | 0, h, _ => by
    rw [show (outsAt0 m c 0 h).2.2.2.1 (ix2 j e) = _ from stepA_0 m c ⟨0, h⟩ rfl (show ¬(0 % 8 = 7) by decide) j e, Fin.sum_univ_one]; rfl
  | n + 1, h, h7 => by
    rw [show (outsAt0 m c (n + 1) h).2.2.2.1 (ix2 j e) = _ from stepB_0 m c ⟨n + 1, h⟩ (by dsimp only; omega) (by dsimp only; omega) j e, Fin.sum_univ_castSucc]
    exact congrArg (· + _) (acc_0 c j e n _ (by omega))

/-- What the last point completes. -/
theorem all_0 (c : Dev nD) (j : Fin 768) (e : Fin 1024) (h : 7 < cfg0.N) :
    ((outsAt0 m c 6 (Nat.lt_of_succ_lt h)).2.2.2.1 (ix2 j e) : EReal) + at0 m c j e ⟨7, h⟩ = Cert.ProdMath.outer (w0 m c) (w1 m c) (ix2 j e) :=
  Cert.ProdMath.run_sum (show cfg0.N = 8 from N_0) (fun n s => w0 m c (ix3 n s j) * w1 m c (ix3 n s e)) (at0 m c j e) _ (fun t => rfl)
    (acc_0 m c j e 6 (Nat.lt_of_succ_lt h) (by decide)) h

/-- One block's product into accumulator 1. -/
def part1 (l : Vec Ideal S1x512x2048 .bf16) (r : Vec Ideal S1x512x1024 .bf16) (j : Fin 2048) (e : Fin 1024) : EReal :=
  ∑ s : Fin 512, (l (ix3 0 s j) : EReal) * (r (ix3 0 s e) : EReal)

theorem zero_1 (j : Fin 2048) (e : Fin 1024) : k0_pay8 (F := Ideal) (ix2 j e) = (0 : EReal) := by
  unfold k0_pay8
  pointwise

theorem add_1 (l : Vec Ideal S1x512x2048 .bf16) (r : Vec Ideal S1x512x1024 .bf16) (xs : Vec Ideal S2048x1024 .f32) (j : Fin 2048) (e : Fin 1024) :
    k0_pay12 (F := Ideal) xs l r (ix2 j e) = (xs (ix2 j e) : EReal) + part1 l r j e := by
  unfold k0_pay12 part1
  pointwise

/-- What point `t` adds to accumulator 1. -/
def at1 (c : Dev nD) (j : Fin 2048) (e : Fin 1024) (t : Fin cfg0.N) : EReal :=
  ∑ s : Fin 512, w2 m c (ix3 (seqOf t) (rowOf t s) j) * w3 m c (ix3 (seqOf t) (rowOf t s) e)

theorem part_at_1 (c : Dev nD) (j : Fin 2048) (e : Fin 1024) (t : Fin cfg0.N) :
    part1 (iblk m c 2 t) (iblk m c 3 t) j e = at1 m c j e t :=
  Finset.sum_congr rfl fun r _ => by rw [iblk_2, iblk_3]

theorem stepA_1 (c : Dev nD) (t : Fin cfg0.N) (h0 : t.val % 8 = 0) (h1 : ¬t.val % 8 = 7) (j : Fin 2048) (e : Fin 1024) :
    (outsAt0 m c t.val t.isLt).2.2.2.2.1 (ix2 j e) = at1 m c j e t := by
  rw [outsAt0_A m c t h0 h1]
  frame_out
  rw [add_1, zero_1, zero_add, part_at_1]

theorem stepB_1 (c : Dev nD) (t : Fin cfg0.N) (h0 : ¬t.val % 8 = 0) (h1 : ¬t.val % 8 = 7) (j : Fin 2048) (e : Fin 1024) :
    (outsAt0 m c t.val t.isLt).2.2.2.2.1 (ix2 j e)
      = ((outsAt0 m c (t.val - 1) (Nat.lt_of_le_of_lt (Nat.sub_le _ _) t.isLt)).2.2.2.2.1 (ix2 j e) : EReal) + at1 m c j e t := by
  rw [outsAt0_B m c t h0 h1]
  frame_out
  rw [add_1, part_at_1]
  exact congrArg (· + at1 m c j e t) (congrFun (Memref.IsWhole.read_unread (Memref.isWhole_whole cc0_scratch1) _) (ix2 j e))

/-- After point `n`, before the last, accumulator 1 holds what the points up to `n` add. -/
theorem acc_1 (c : Dev nD) (j : Fin 2048) (e : Fin 1024) : ∀ (n : ℕ) (h : n < cfg0.N) (h7 : n < 7),
    (outsAt0 m c n h).2.2.2.2.1 (ix2 j e) = ∑ k : Fin (n + 1), at1 m c j e ⟨k.val, by omega⟩
  | 0, h, _ => by
    rw [show (outsAt0 m c 0 h).2.2.2.2.1 (ix2 j e) = _ from stepA_1 m c ⟨0, h⟩ rfl (show ¬(0 % 8 = 7) by decide) j e, Fin.sum_univ_one]; rfl
  | n + 1, h, h7 => by
    rw [show (outsAt0 m c (n + 1) h).2.2.2.2.1 (ix2 j e) = _ from stepB_1 m c ⟨n + 1, h⟩ (by dsimp only; omega) (by dsimp only; omega) j e, Fin.sum_univ_castSucc]
    exact congrArg (· + _) (acc_1 c j e n _ (by omega))

/-- What the last point completes. -/
theorem all_1 (c : Dev nD) (j : Fin 2048) (e : Fin 1024) (h : 7 < cfg0.N) :
    ((outsAt0 m c 6 (Nat.lt_of_succ_lt h)).2.2.2.2.1 (ix2 j e) : EReal) + at1 m c j e ⟨7, h⟩ = Cert.ProdMath.outer (w2 m c) (w3 m c) (ix2 j e) :=
  Cert.ProdMath.run_sum (show cfg0.N = 8 from N_0) (fun n s => w2 m c (ix3 n s j) * w3 m c (ix3 n s e)) (at1 m c j e) _ (fun t => rfl)
    (acc_1 m c j e 6 (Nat.lt_of_succ_lt h) (by decide)) h

/-- One block's product into accumulator 2. -/
def part2 (l : Vec Ideal S1x512x1024 .bf16) (r : Vec Ideal S1x512x1024 .bf16) (j : Fin 1024) (e : Fin 1024) : EReal :=
  ∑ s : Fin 512, (l (ix3 0 s j) : EReal) * (r (ix3 0 s e) : EReal)

theorem zero_2 (j : Fin 1024) (e : Fin 1024) : k0_pay9 (F := Ideal) (ix2 j e) = (0 : EReal) := by
  unfold k0_pay9
  pointwise

theorem add_2 (l : Vec Ideal S1x512x1024 .bf16) (r : Vec Ideal S1x512x1024 .bf16) (xs : Vec Ideal S1024x1024 .f32) (j : Fin 1024) (e : Fin 1024) :
    k0_pay1 (F := Ideal) xs l r (ix2 j e) = (xs (ix2 j e) : EReal) + part2 l r j e := by
  unfold k0_pay1 part2
  pointwise

/-- What point `t` adds to accumulator 2. -/
def at2 (c : Dev nD) (j : Fin 1024) (e : Fin 1024) (t : Fin cfg0.N) : EReal :=
  ∑ s : Fin 512, w4 m c (ix3 (seqOf t) (rowOf t s) j) * w5 m c (ix3 (seqOf t) (rowOf t s) e)

theorem part_at_2 (c : Dev nD) (j : Fin 1024) (e : Fin 1024) (t : Fin cfg0.N) :
    part2 (iblk m c 4 t) (iblk m c 5 t) j e = at2 m c j e t :=
  Finset.sum_congr rfl fun r _ => by rw [iblk_4, iblk_5]

theorem stepA_2 (c : Dev nD) (t : Fin cfg0.N) (h0 : t.val % 8 = 0) (h1 : ¬t.val % 8 = 7) (j : Fin 1024) (e : Fin 1024) :
    (outsAt0 m c t.val t.isLt).2.2.2.2.2.1 (ix2 j e) = at2 m c j e t := by
  rw [outsAt0_A m c t h0 h1]
  frame_out
  rw [add_2, zero_2, zero_add, part_at_2]

theorem stepB_2 (c : Dev nD) (t : Fin cfg0.N) (h0 : ¬t.val % 8 = 0) (h1 : ¬t.val % 8 = 7) (j : Fin 1024) (e : Fin 1024) :
    (outsAt0 m c t.val t.isLt).2.2.2.2.2.1 (ix2 j e)
      = ((outsAt0 m c (t.val - 1) (Nat.lt_of_le_of_lt (Nat.sub_le _ _) t.isLt)).2.2.2.2.2.1 (ix2 j e) : EReal) + at2 m c j e t := by
  rw [outsAt0_B m c t h0 h1]
  frame_out
  rw [add_2, part_at_2]
  exact congrArg (· + at2 m c j e t) (congrFun (Memref.IsWhole.read_unread (Memref.isWhole_whole cc0_scratch2) _) (ix2 j e))

/-- After point `n`, before the last, accumulator 2 holds what the points up to `n` add. -/
theorem acc_2 (c : Dev nD) (j : Fin 1024) (e : Fin 1024) : ∀ (n : ℕ) (h : n < cfg0.N) (h7 : n < 7),
    (outsAt0 m c n h).2.2.2.2.2.1 (ix2 j e) = ∑ k : Fin (n + 1), at2 m c j e ⟨k.val, by omega⟩
  | 0, h, _ => by
    rw [show (outsAt0 m c 0 h).2.2.2.2.2.1 (ix2 j e) = _ from stepA_2 m c ⟨0, h⟩ rfl (show ¬(0 % 8 = 7) by decide) j e, Fin.sum_univ_one]; rfl
  | n + 1, h, h7 => by
    rw [show (outsAt0 m c (n + 1) h).2.2.2.2.2.1 (ix2 j e) = _ from stepB_2 m c ⟨n + 1, h⟩ (by dsimp only; omega) (by dsimp only; omega) j e, Fin.sum_univ_castSucc]
    exact congrArg (· + _) (acc_2 c j e n _ (by omega))

/-- What the last point completes. -/
theorem all_2 (c : Dev nD) (j : Fin 1024) (e : Fin 1024) (h : 7 < cfg0.N) :
    ((outsAt0 m c 6 (Nat.lt_of_succ_lt h)).2.2.2.2.2.1 (ix2 j e) : EReal) + at2 m c j e ⟨7, h⟩ = Cert.ProdMath.outer (w4 m c) (w5 m c) (ix2 j e) :=
  Cert.ProdMath.run_sum (show cfg0.N = 8 from N_0) (fun n s => w4 m c (ix3 n s j) * w5 m c (ix3 n s e)) (at2 m c j e) _ (fun t => rfl)
    (acc_2 m c j e 6 (Nat.lt_of_succ_lt h) (by decide)) h

theorem stepC_2 (c : Dev nD) (t : Fin cfg0.N) (h0 : ¬t.val % 8 = 0) (h1 : t.val % 8 = 7) (j : Fin 1024) (e : Fin 1024) :
    (outsAt0 m c t.val t.isLt).2.1 (ix2 j e)
      = ((outsAt0 m c (t.val - 1) (Nat.lt_of_le_of_lt (Nat.sub_le _ _) t.isLt)).2.2.2.2.2.1 (ix2 j e) : EReal) + at2 m c j e t := by
  rw [outsAt0_C m c t h0 h1]
  frame_out
  unfold k0_pay5
  show k0_pay1 (F := Ideal) _ (iblk m c 4 t) (iblk m c 5 t) (ix2 j e) = _
  rw [add_2, part_at_2]
  exact congrArg (· + at2 m c j e t) (congrFun (Memref.IsWhole.read_unread (Memref.isWhole_whole cc0_scratch2) _) (ix2 j e))

/-- Output 9 after the run. -/
theorem final_9 (c : Dev nD) : (dats m 0 c).arrAt 9 cfg0.N = Cert.ProdMath.outer (w4 m c) (w5 m c) := by
  refine (Value.final9 m c).trans ((Value.G9_last m c).trans ((congrArg (fun p => p.2.1) (Value.outsAt0_sweep m c 7 (lt_of_lt_of_eq (by decide) N_0.symm)).symm).trans ?_))
  funext i
  change S1024x1024.Idx at i
  obtain ⟨j, e, rfl⟩ : ∃ j e, i = ix2 j e := ⟨i 0, i 1, eq_ix2 i⟩
  exact (stepC_2 m c ⟨7, lt_of_lt_of_eq (by decide) N_0.symm⟩ (show ¬(7 % 8 = 0) by decide) rfl j e).trans (all_2 m c j e _)

/-- One block's product into accumulator 3. -/
def part3 (l : Vec Ideal S1x512x256 .bf16) (r : Vec Ideal S1x512x1024 .bf16) (j : Fin 256) (e : Fin 1024) : EReal :=
  ∑ s : Fin 512, (l (ix3 0 s j) : EReal) * (r (ix3 0 s e) : EReal)

theorem zero_3 (j : Fin 256) (e : Fin 1024) : k0_pay10 (F := Ideal) (ix2 j e) = (0 : EReal) := by
  unfold k0_pay10
  pointwise

theorem add_3 (l : Vec Ideal S1x512x256 .bf16) (r : Vec Ideal S1x512x1024 .bf16) (xs : Vec Ideal S256x1024 .f32) (j : Fin 256) (e : Fin 1024) :
    k0_pay2 (F := Ideal) xs l r (ix2 j e) = (xs (ix2 j e) : EReal) + part3 l r j e := by
  unfold k0_pay2 part3
  pointwise

/-- What point `t` adds to accumulator 3. -/
def at3 (c : Dev nD) (j : Fin 256) (e : Fin 1024) (t : Fin cfg0.N) : EReal :=
  ∑ s : Fin 512, w6 m c (ix3 (seqOf t) (rowOf t s) j) * w7 m c (ix3 (seqOf t) (rowOf t s) e)

theorem part_at_3 (c : Dev nD) (j : Fin 256) (e : Fin 1024) (t : Fin cfg0.N) :
    part3 (iblk m c 6 t) (iblk m c 7 t) j e = at3 m c j e t :=
  Finset.sum_congr rfl fun r _ => by rw [iblk_6, iblk_7]

theorem stepA_3 (c : Dev nD) (t : Fin cfg0.N) (h0 : t.val % 8 = 0) (h1 : ¬t.val % 8 = 7) (j : Fin 256) (e : Fin 1024) :
    (outsAt0 m c t.val t.isLt).2.2.2.2.2.2 (ix2 j e) = at3 m c j e t := by
  rw [outsAt0_A m c t h0 h1]
  frame_out
  rw [add_3, zero_3, zero_add, part_at_3]

theorem stepB_3 (c : Dev nD) (t : Fin cfg0.N) (h0 : ¬t.val % 8 = 0) (h1 : ¬t.val % 8 = 7) (j : Fin 256) (e : Fin 1024) :
    (outsAt0 m c t.val t.isLt).2.2.2.2.2.2 (ix2 j e)
      = ((outsAt0 m c (t.val - 1) (Nat.lt_of_le_of_lt (Nat.sub_le _ _) t.isLt)).2.2.2.2.2.2 (ix2 j e) : EReal) + at3 m c j e t := by
  rw [outsAt0_B m c t h0 h1]
  frame_out
  rw [add_3, part_at_3]
  exact congrArg (· + at3 m c j e t) (congrFun (Memref.IsWhole.read_unread (Memref.isWhole_whole cc0_scratch3) _) (ix2 j e))

/-- After point `n`, before the last, accumulator 3 holds what the points up to `n` add. -/
theorem acc_3 (c : Dev nD) (j : Fin 256) (e : Fin 1024) : ∀ (n : ℕ) (h : n < cfg0.N) (h7 : n < 7),
    (outsAt0 m c n h).2.2.2.2.2.2 (ix2 j e) = ∑ k : Fin (n + 1), at3 m c j e ⟨k.val, by omega⟩
  | 0, h, _ => by
    rw [show (outsAt0 m c 0 h).2.2.2.2.2.2 (ix2 j e) = _ from stepA_3 m c ⟨0, h⟩ rfl (show ¬(0 % 8 = 7) by decide) j e, Fin.sum_univ_one]; rfl
  | n + 1, h, h7 => by
    rw [show (outsAt0 m c (n + 1) h).2.2.2.2.2.2 (ix2 j e) = _ from stepB_3 m c ⟨n + 1, h⟩ (by dsimp only; omega) (by dsimp only; omega) j e, Fin.sum_univ_castSucc]
    exact congrArg (· + _) (acc_3 c j e n _ (by omega))

/-- What the last point completes. -/
theorem all_3 (c : Dev nD) (j : Fin 256) (e : Fin 1024) (h : 7 < cfg0.N) :
    ((outsAt0 m c 6 (Nat.lt_of_succ_lt h)).2.2.2.2.2.2 (ix2 j e) : EReal) + at3 m c j e ⟨7, h⟩ = Cert.ProdMath.outer (w6 m c) (w7 m c) (ix2 j e) :=
  Cert.ProdMath.run_sum (show cfg0.N = 8 from N_0) (fun n s => w6 m c (ix3 n s j) * w7 m c (ix3 n s e)) (at3 m c j e) _ (fun t => rfl)
    (acc_3 m c j e 6 (Nat.lt_of_succ_lt h) (by decide)) h

theorem stepC_3 (c : Dev nD) (t : Fin cfg0.N) (h0 : ¬t.val % 8 = 0) (h1 : t.val % 8 = 7) (j : Fin 256) (e : Fin 1024) :
    (outsAt0 m c t.val t.isLt).2.2.1 (ix2 j e)
      = ((outsAt0 m c (t.val - 1) (Nat.lt_of_le_of_lt (Nat.sub_le _ _) t.isLt)).2.2.2.2.2.2 (ix2 j e) : EReal) + at3 m c j e t := by
  rw [outsAt0_C m c t h0 h1]
  frame_out
  unfold k0_pay6
  show k0_pay2 (F := Ideal) _ (iblk m c 6 t) (iblk m c 7 t) (ix2 j e) = _
  rw [add_3, part_at_3]
  exact congrArg (· + at3 m c j e t) (congrFun (Memref.IsWhole.read_unread (Memref.isWhole_whole cc0_scratch3) _) (ix2 j e))

/-- Output 10 after the run. -/
theorem final_10 (c : Dev nD) : (dats m 0 c).arrAt 10 cfg0.N = Cert.ProdMath.outer (w6 m c) (w7 m c) := by
  refine (Value.final10 m c).trans ((Value.G10_last m c).trans ((congrArg (fun p => p.2.2.1) (Value.outsAt0_sweep m c 7 (lt_of_lt_of_eq (by decide) N_0.symm)).symm).trans ?_))
  funext i
  change S256x1024.Idx at i
  obtain ⟨j, e, rfl⟩ : ∃ j e, i = ix2 j e := ⟨i 0, i 1, eq_ix2 i⟩
  exact (stepC_3 m c ⟨7, lt_of_lt_of_eq (by decide) N_0.symm⟩ (show ¬(7 % 8 = 0) by decide) rfl j e).trans (all_3 m c j e _)

theorem stepC_lo (c : Dev nD) (t : Fin cfg0.N) (h0 : ¬t.val % 8 = 0) (h1 : t.val % 8 = 7) (j : Fin 768) (e : Fin 1024) :
    (outsAt0 m c t.val t.isLt).1 (ix2 ⟨j.val, by omega⟩ e)
      = ((outsAt0 m c (t.val - 1) (Nat.lt_of_le_of_lt (Nat.sub_le _ _) t.isLt)).2.2.2.1 (ix2 j e) : EReal) + at0 m c j e t := by
  rw [outsAt0_C m c t h0 h1]
  frame_out
  have hn : (ix2 ⟨j.val, by omega⟩ e : S2816x1024.Idx) ∉ (Rect.unit (s := S2816x1024) ![768, 0] ![2048, 1024] inb_S2816x1024_S2048x1024_768_0).set := by
    rw [Rect.mem_set_unit]
    intro hm
    have h2 : 768 ≤ j.val := (hm 0).1
    omega
  refine (View.canon_cons_of_not_mem ⟨_, _⟩ _ hn).trans ?_
  have hi : (ix2 ⟨j.val, by omega⟩ e : S2816x1024.Idx) = (Rect.unit (s := S2816x1024) ![0, 0] ![768, 1024] inb_S2816x1024_S768x1024_0_0).emb (ix2 j e) := by
    funext a
    refine Fin.ext ?_
    fin_cases a
    · show j.val = 0 + 1 * j.val
      omega
    · show e.val = 0 + 1 * e.val
      omega
  refine (congrArg _ hi).trans ((View.canon_cons_emb _ _ _ _).trans ?_)
  unfold k0_pay3
  show k0_pay11 (F := Ideal) _ (iblk m c 0 t) (iblk m c 1 t) (ix2 j e) = _
  rw [add_0, part_at_0]
  exact congrArg (· + at0 m c j e t) (congrFun (Memref.IsWhole.read_unread (Memref.isWhole_whole cc0_scratch0) _) (ix2 j e))

theorem stepC_hi (c : Dev nD) (t : Fin cfg0.N) (h0 : ¬t.val % 8 = 0) (h1 : t.val % 8 = 7) (j : Fin 2048) (e : Fin 1024) :
    (outsAt0 m c t.val t.isLt).1 (ix2 ⟨768 + j.val, by omega⟩ e)
      = ((outsAt0 m c (t.val - 1) (Nat.lt_of_le_of_lt (Nat.sub_le _ _) t.isLt)).2.2.2.2.1 (ix2 j e) : EReal) + at1 m c j e t := by
  rw [outsAt0_C m c t h0 h1]
  frame_out
  have hi : (ix2 ⟨768 + j.val, by omega⟩ e : S2816x1024.Idx) = (Rect.unit (s := S2816x1024) ![768, 0] ![2048, 1024] inb_S2816x1024_S2048x1024_768_0).emb (ix2 j e) := by
    funext a
    refine Fin.ext ?_
    fin_cases a
    · show 768 + j.val = 768 + 1 * j.val
      omega
    · show e.val = 0 + 1 * e.val
      omega
  refine (congrArg _ hi).trans ((View.canon_cons_emb _ _ _ _).trans ?_)
  unfold k0_pay4
  show k0_pay12 (F := Ideal) _ (iblk m c 2 t) (iblk m c 3 t) (ix2 j e) = _
  rw [add_1, part_at_1]
  exact congrArg (· + at1 m c j e t) (congrFun (Memref.IsWhole.read_unread (Memref.isWhole_whole cc0_scratch1) _) (ix2 j e))

/-- Output 8 after the run: the attention's rows, then the state space's. -/
theorem final_8 (c : Dev nD) : (dats m 0 c).arrAt 8 cfg0.N = Cert.ProdMath.stacked (w0 m c) (w1 m c) (w2 m c) (w3 m c) := by
  refine (Value.final8 m c).trans ((Value.G8_last m c).trans ((congrArg (fun p => p.1) (Value.outsAt0_sweep m c 7 (lt_of_lt_of_eq (by decide) N_0.symm)).symm).trans ?_))
  funext i
  change S2816x1024.Idx at i
  obtain ⟨j, e, rfl⟩ : ∃ j e, i = ix2 j e := ⟨i 0, i 1, eq_ix2 i⟩
  unfold Cert.ProdMath.stacked
  by_cases h : j.val < 768
  · refine Eq.trans ?_ (dif_pos h).symm
    exact (stepC_lo m c ⟨7, lt_of_lt_of_eq (by decide) N_0.symm⟩ (show ¬(7 % 8 = 0) by decide) rfl ⟨j.val, h⟩ e).trans (all_0 m c ⟨j.val, h⟩ e _)
  · refine Eq.trans ?_ (dif_neg h).symm
    have hj : j.val < 2816 := j.isLt
    have e0 : j = (⟨768 + (j.val - 768), by omega⟩ : Fin 2816) := Fin.ext (by show j.val = 768 + (j.val - 768); omega)
    refine (congrArg (fun z => (outsAt0 m c 7 (lt_of_lt_of_eq (by decide) N_0.symm)).1 (ix2 z e)) e0).trans ?_
    exact (stepC_hi m c ⟨7, lt_of_lt_of_eq (by decide) N_0.symm⟩ (show ¬(7 % 8 = 0) by decide) rfl ⟨j.val - 768, by omega⟩ e).trans (all_1 m c ⟨j.val - 768, by omega⟩ e _)

end Cert.DwOutIdeal.Prod

namespace Cert.DwOutRefIdeal.Prod

open Cert.DwOutRefIdeal Cert.DwOutRefIdeal.Gen Idealize.ShloMosaic Idealize.ShloMosaic.TcCoe Idealize.SL.Sem

variable (m : (ℓ : Loc nD τ sig) → Buf (Elt Ideal) ℓ) (ρ : Dev nD → PrngReg)

abbrev w0 (c : Dev nD) : Cert.ProdMath.M3 2 2048 768 := m ((c : Thread nD τ).loc main_arg0)
abbrev w1 (c : Dev nD) : Cert.ProdMath.M3 2 2048 1024 := m ((c : Thread nD τ).loc main_arg4)
abbrev w2 (c : Dev nD) : Cert.ProdMath.M3 2 2048 2048 := m ((c : Thread nD τ).loc main_arg1)
abbrev w3 (c : Dev nD) : Cert.ProdMath.M3 2 2048 1024 := m ((c : Thread nD τ).loc main_arg5)
abbrev w4 (c : Dev nD) : Cert.ProdMath.M3 2 2048 1024 := m ((c : Thread nD τ).loc main_arg2)
abbrev w5 (c : Dev nD) : Cert.ProdMath.M3 2 2048 1024 := m ((c : Thread nD τ).loc main_arg6)
abbrev w6 (c : Dev nD) : Cert.ProdMath.M3 2 2048 256 := m ((c : Thread nD τ).loc main_arg3)
abbrev w7 (c : Dev nD) : Cert.ProdMath.M3 2 2048 1024 := m ((c : Thread nD τ).loc main_arg7)

theorem dot_0 (l : FVec Ideal S2x2048x1024 .f32) (r : FVec Ideal S2x2048x768 .f32) :
    Host.dotGeneral dot_S2x2048x1024_S2x2048x768_S1024x768_01_01_2_2_n_n none l r = Cert.ProdMath.outer l r := by
  funext i
  change S1024x768.Idx at i
  idx_vars i
  pointwise
  rfl

theorem dot_1 (l : FVec Ideal S2x2048x1024 .f32) (r : FVec Ideal S2x2048x2048 .f32) :
    Host.dotGeneral dot_S2x2048x1024_S2x2048x2048_S1024x2048_01_01_2_2_n_n none l r = Cert.ProdMath.outer l r := by
  funext i
  change S1024x2048.Idx at i
  idx_vars i
  pointwise
  rfl

theorem dot_2 (l r : FVec Ideal S2x2048x1024 .f32) :
    Host.dotGeneral dot_S2x2048x1024_S2x2048x1024_S1024x1024_01_01_2_2_n_n none l r = Cert.ProdMath.outer l r := by
  funext i
  change S1024x1024.Idx at i
  idx_vars i
  pointwise
  rfl

theorem dot_3 (l : FVec Ideal S2x2048x1024 .f32) (r : FVec Ideal S2x2048x256 .f32) :
    Host.dotGeneral dot_S2x2048x1024_S2x2048x256_S1024x256_01_01_2_2_n_n none l r = Cert.ProdMath.outer l r := by
  funext i
  change S1024x256.Idx at i
  idx_vars i
  pointwise
  rfl

/-- The reference's two zero-padded halves add up to the one above the other. -/
theorem both (y : FVec Ideal S1024x2048 .f32) (a : FVec Ideal S1024x768 .f32) (j : Fin 2816) (e : Fin 1024) :
    (truncf .bf16 (addf (pad S2816x1024 ![768, 0] ![0, 0] ![0, 0] (transpose S2048x1024 [1, 0] y transposes_S1024x2048_S2048x1024_1_0) (constant S_ .f32 0x00000000#32) pads_S2048x1024_S2816x1024_76800_000 h_S_)
      (pad S2816x1024 ![0, 0] ![2048, 0] ![0, 0] (transpose S768x1024 [1, 0] a transposes_S1024x768_S768x1024_1_0) (constant S_ .f32 0x00000000#32) pads_S768x1024_S2816x1024_020480_000 h_S_)) bitsLt_bf16_f32 : FVec Ideal S2816x1024 .bf16) (ix2 j e)
      = if h : j.val < 768 then (a (ix2 e ⟨j.val, h⟩) : EReal) else (y (ix2 e ⟨j.val - 768, by omega⟩) : EReal) := by
  by_cases h : j.val < 768
  · rw [dif_pos h]
    pointwise
    rw [dif_neg (by omega), dif_pos h, zero_add]
  · rw [dif_neg h]
    pointwise
    rw [dif_pos (by omega), dif_neg h, add_zero]

theorem results : θ_run defs (onTc (τ := τ) (main (F := Ideal))) ⟨m, fun _ => 0, ρ⟩ fun r => ∀ c : Dev nD,
      r.2.mem ((c.tc : Thread nD τ).loc main_v20) = Cert.ProdMath.stacked (w0 m c) (w1 m c) (w2 m c) (w3 m c)
      ∧ r.2.mem ((c.tc : Thread nD τ).loc main_v21) = Cert.ProdMath.outer (w4 m c) (w5 m c)
      ∧ r.2.mem ((c.tc : Thread nD τ).loc main_v22) = Cert.ProdMath.outer (w6 m c) (w7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run (F := Ideal) m ρ)
  obtain ⟨h0, h1, h2, h⟩ := h c
  refine ⟨h0.trans ?_, h1.trans ?_, h2.trans ?_, h⟩
  · rw [dot_0, dot_1]
    funext i
    change S2816x1024.Idx at i
    obtain ⟨j, e, rfl⟩ : ∃ j e, i = ix2 j e := ⟨i 0, i 1, eq_ix2 i⟩
    rw [both]
    unfold Cert.ProdMath.stacked
    by_cases h : j.val < 768
    · refine (dif_pos h).trans (Eq.trans ?_ (dif_pos h).symm)
      exact Cert.ProdMath.outer_swap _ _ e _
    · refine (dif_neg h).trans (Eq.trans ?_ (dif_neg h).symm)
      exact Cert.ProdMath.outer_swap _ _ e _
  · rw [dot_2]
    funext i
    change S1024x1024.Idx at i
    obtain ⟨j, e, rfl⟩ : ∃ j e, i = ix2 j e := ⟨i 0, i 1, eq_ix2 i⟩
    pointwise
    exact Cert.ProdMath.outer_swap _ _ e j
  · rw [dot_3]
    funext i
    change S256x1024.Idx at i
    obtain ⟨j, e, rfl⟩ : ∃ j e, i = ix2 j e := ⟨i 0, i 1, eq_ix2 i⟩
    pointwise
    exact Cert.ProdMath.outer_swap _ _ e j

end Cert.DwOutRefIdeal.Prod

namespace Cert.DwOutClaim

open Idealize.ShloMosaic Idealize.ShloMosaic.TcCoe Idealize.SL.Sem

theorem frame_ref : Cert.quiescent_DwOutRefIdeal := fun m ρ _ =>
  (θ_run Cert.DwOutRefIdeal.defs _ _).mono (fun r h => ⟨fun c => (h c).2.2.2, sem_eq_zero_of_no_sems (by decide) r.2⟩)
    (Cert.DwOutRefIdeal.Prod.results m ρ)

theorem algebraic : Cert.algebraic_DwOutIdeal_DwOutRefIdeal := by
  intro m ρ m' ρ' _ hargs
  refine ⟨fun c => Cert.ProdMath.stacked (Cert.DwOutIdeal.Prod.w0 m c) (Cert.DwOutIdeal.Prod.w1 m c) (Cert.DwOutIdeal.Prod.w2 m c) (Cert.DwOutIdeal.Prod.w3 m c), fun c => Cert.ProdMath.outer (Cert.DwOutIdeal.Prod.w4 m c) (Cert.DwOutIdeal.Prod.w5 m c), fun c => Cert.ProdMath.outer (Cert.DwOutIdeal.Prod.w6 m c) (Cert.DwOutIdeal.Prod.w7 m c), ?_, ?_⟩
  · refine (θ_run _ _ _).mono (fun r h c => ?_) (Cert.DwOutIdeal.Value.run_blocks m ρ)
    obtain ⟨h0, h1, h2, h⟩ := h c
    exact ⟨h0.trans (Cert.DwOutIdeal.Prod.final_8 m c), h1.trans (Cert.DwOutIdeal.Prod.final_9 m c), h2.trans (Cert.DwOutIdeal.Prod.final_10 m c), h⟩
  · refine (θ_run _ _ _).mono (fun r h c => ?_) (Cert.DwOutRefIdeal.Prod.results m' ρ')
    obtain ⟨e0, e1, e2, e3, e4, e5, e6, e7⟩ := hargs c
    obtain ⟨h0, h1, h2, h⟩ := h c
    refine ⟨h0.trans ?_, h1.trans ?_, h2.trans ?_, h⟩
    all_goals simp only [Cert.DwOutRefIdeal.Prod.w0, Cert.DwOutRefIdeal.Prod.w1, Cert.DwOutRefIdeal.Prod.w2, Cert.DwOutRefIdeal.Prod.w3, Cert.DwOutRefIdeal.Prod.w4, Cert.DwOutRefIdeal.Prod.w5, Cert.DwOutRefIdeal.Prod.w6, Cert.DwOutRefIdeal.Prod.w7, e0, e1, e2, e3, e4, e5, e6, e7]

end Cert.DwOutClaim

end
-- ==== Proof.Prod.DxY.lean ====
module

public import proofs.«01_k».proof.Defs
public import proofs.«01_k».proof.Proof.Gen.DxYIdeal.Value
public import proofs.«01_k».proof.Proof.Gen.DxYRefIdeal.Run
public import proofs.«01_k».proof.Proof.Prod.Math
public import Idealize.ShloMosaic.Lib.StableHlo.ReadAt
public import Idealize.ShloMosaic.Lib.Quiescent

@[expose] public section

set_option maxRecDepth 16384

noncomputable section

/-! The gradient of the wide branch with respect to its input: the cotangent times the transposed weight. -/

namespace Cert.DxYIdeal.Prod

open Cert.DxYIdeal Cert.DxYIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 4, by have := lt_of_lt_of_eq t.isLt (show cfg0.N = 8 from N_0); omega⟩
/-- The position of row `r` of point `t`'s block. -/
def rowOf (t : Fin cfg0.N) (r : Fin 512) : Fin 2048 := ⟨t.val % 4 * 512 + r.val, by omega⟩
/-- The point whose block holds position `s` of sequence `n`. -/
def pointOf (n : Fin 2) (s : Fin 2048) : Fin cfg0.N := ⟨n.val * 4 + s.val / 512, by rw [show cfg0.N = 8 from N_0]; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The token array, as the launch finds it. -/
abbrev aX (c : Dev nD) : Cert.ProdMath.M3 2 2048 1024 := m ((c : Thread nD τ).loc main_arg1)

theorem index_0 : ∀ t : Fin grid0.N, win0_0.index t 0 = t.val / 4 ∧ win0_0.index t 1 = t.val % 4 ∧ win0_0.index t 2 = 0 := by decide +kernel

theorem V_0 (c : Dev nD) (i : S2x2048x1024.Idx) : V m c main_v0 i = m ((c : Thread nD τ).loc main_arg1) i := by
  unfold V
  after_reads_at

theorem iblk_0 (c : Dev nD) (t : Fin cfg0.N) (r : Fin 512) (k : Fin 1024) :
    iblk m c 0 t (ix3 0 r k) = aX m c (ix3 (seqOf t) (rowOf t r) k) := by
  refine Eq.trans ?_ (V_0 m c (ix3 (seqOf t) (rowOf t r) k))
  show V m c main_v0 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 4
    omega
  · show win0_0.index t 1 * 512 + 1 * r.val = t.val % 4 * 512 + r.val
    omega
  · show win0_0.index t 2 * 1024 + 1 * k.val = k.val
    omega

/-- Weight 1, as the launch finds it. -/
abbrev a1 (c : Dev nD) : Cert.ProdMath.M2 2048 1024 := m ((c : Thread nD τ).loc main_arg0)

theorem index_1 : ∀ t : Fin grid0.N, win0_1.index t 0 = 0 ∧ win0_1.index t 1 = 0 := by decide +kernel
theorem index_2 : ∀ t : Fin grid0.N, win0_2.index t 0 = t.val / 4 ∧ win0_2.index t 1 = t.val % 4 ∧ win0_2.index t 2 = 0 := by decide +kernel

theorem V_1 (c : Dev nD) (j : Fin 2048) (k : Fin 1024) : V m c main_v1 (ix2 j k) = m ((c : Thread nD τ).loc main_arg0) (ix2 j k) := by
  unfold V
  after_reads_at

theorem iblk_1 (c : Dev nD) (t : Fin cfg0.N) (j : Fin 2048) (k : Fin 1024) : iblk m c 1 t (ix2 j k) = a1 m c (ix2 j k) := by
  refine Eq.trans ?_ (V_1 m c j k)
  show V m c main_v1 (((cfg0.win 1).blk t).view.emb (ix2 j k)) = _
  refine congrArg _ (funext fun a => Fin.ext ?_)
  obtain ⟨h0, h1⟩ := index_1 t
  fin_cases a
  · show win0_1.index t 0 * 2048 + 1 * j.val = j.val
    omega
  · show win0_1.index t 1 * 1024 + 1 * k.val = k.val
    omega

theorem pay_1 (x0 : Vec Ideal S1x512x1024 .bf16) (w : Vec Ideal S2048x1024 .bf16) (r : Fin 512) (j : Fin 2048) :
    k0_pay1 (F := Ideal) x0 w (ix3 0 r j) = ∑ k : Fin 1024, (x0 (ix3 0 r k) : EReal) * (w (ix2 j k) : EReal) := by
  unfold k0_pay1
  pointwise

theorem out_1 (x0 : Vec Ideal S1x512x1024 .bf16) (x1 : Vec Ideal S2048x1024 .bf16) (r : Fin 512) (j : Fin 2048) :
    out0_2 x0 x1 (ix3 0 r j) = ∑ k : Fin 1024, (x0 (ix3 0 r k) : EReal) * (x1 (ix2 j k) : EReal) := by
  unfold out0_2
  rw [View.canon_unit_zero hz3]
  simp only [View.ld_unit_zero (S := S1x512x1024) hz3, View.ld_unit_zero (S := S2048x1024) hz2]
  exact pay_1 _ _ r j

/-- Output 2 after the run. -/
theorem final_2 (c : Dev nD) : (dats m 0 c).arrAt 2 cfg0.N = Cert.ProdMath.timesT (aX m c) (a1 m c) := by
  refine (dats m 0 c).arrAt_eq_of_cover 2 (Cert.ProdMath.timesT (aX m c) (a1 m c)) (fun t hf => ?_) (fun i => ?_)
  · obtain ⟨h0, h1, h2⟩ := index_2 t
    rw [Value.flushed2]
    funext j
    change S1x512x2048.Idx at j
    obtain ⟨z, r, e, rfl⟩ : ∃ z r e, j = ix3 z r e := ⟨j 0, j 1, j 2, eq_ix3 j⟩
    obtain rfl : z = 0 := Subsingleton.elim _ _
    refine (out_1 (iblk m c 0 t) (iblk m c 1 t) r e).trans (Eq.trans (b := Cert.ProdMath.timesT (aX m c) (a1 m c) (ix3 (seqOf t) (rowOf t r) e))
      (Finset.sum_congr rfl fun k _ => by rw [iblk_0, iblk_1]; rfl) (congrArg (Cert.ProdMath.timesT (aX m c) (a1 m c)) (funext fun a => Fin.ext ?_)))
    fin_cases a
    · show t.val / 4 = win0_2.index t 0 * 1 + 1 * 0
      omega
    · show t.val % 4 * 512 + r.val = win0_2.index t 1 * 512 + 1 * r.val
      omega
    · show e.val = win0_2.index t 2 * 2048 + 1 * e.val
      omega
  · have i0 : (i 0).val < 2 := (i 0).isLt
    have i1 : (i 1).val < 2048 := (i 1).isLt
    have i2 : (i 2).val < 2048 := (i 2).isLt
    obtain ⟨h0, h1, h2⟩ := index_2 (pointOf (i 0) (i 1))
    have hp : (pointOf (i 0) (i 1)).val = (i 0).val * 4 + (i 1).val / 512 := rfl
    refine ⟨pointOf (i 0) (i 1), flush0_2 _, ?_⟩
    show i ∈ ((View.whole main_v2).slice (win0_2.rect (pointOf (i 0) (i 1)))).set
    rw [View.set_slice_whole, Rect.mem_set_unit]
    intro a
    fin_cases a
    · show win0_2.index (pointOf (i 0) (i 1)) 0 * 1 ≤ (i 0).val ∧ (i 0).val < win0_2.index (pointOf (i 0) (i 1)) 0 * 1 + 1
      omega
    · show win0_2.index (pointOf (i 0) (i 1)) 1 * 512 ≤ (i 1).val ∧ (i 1).val < win0_2.index (pointOf (i 0) (i 1)) 1 * 512 + 512
      omega
    · show win0_2.index (pointOf (i 0) (i 1)) 2 * 2048 ≤ (i 2).val ∧ (i 2).val < win0_2.index (pointOf (i 0) (i 1)) 2 * 2048 + 2048
      omega

end Cert.DxYIdeal.Prod

namespace Cert.DxYRefIdeal.Prod

open Cert.DxYRefIdeal Cert.DxYRefIdeal.Gen Idealize.ShloMosaic Idealize.ShloMosaic.TcCoe Idealize.SL.Sem

variable (m : (ℓ : Loc nD τ sig) → Buf (Elt Ideal) ℓ) (ρ : Dev nD → PrngReg)

abbrev aX (c : Dev nD) : Cert.ProdMath.M3 2 2048 1024 := m ((c : Thread nD τ).loc main_arg1)
abbrev a1 (c : Dev nD) : Cert.ProdMath.M2 2048 1024 := m ((c : Thread nD τ).loc main_arg0)

theorem dot_1 (l : FVec Ideal S2x2048x1024 .f32) (r : FVec Ideal S2048x1024 .f32) :
    Host.dotGeneral dot_S2x2048x1024_S2048x1024_S2x2048x2048_2_1_01_0_n_n none l r = Cert.ProdMath.timesT l r := by
  funext i
  change S2x2048x2048.Idx at i
  idx_vars i
  pointwise
  rfl

theorem results : θ_run defs (onTc (τ := τ) (main (F := Ideal))) ⟨m, fun _ => 0, ρ⟩ fun r => ∀ c : Dev nD,
      r.2.mem ((c.tc : Thread nD τ).loc main_v2) = Cert.ProdMath.timesT (aX m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h1, h⟩ := h c
  exact ⟨h1.trans (dot_1 _ _), h⟩

end Cert.DxYRefIdeal.Prod

namespace Cert.DxYClaim

open Idealize.ShloMosaic Idealize.ShloMosaic.TcCoe Idealize.SL.Sem

theorem frame_ref : Cert.quiescent_DxYRefIdeal := fun m ρ _ =>
  (θ_run Cert.DxYRefIdeal.defs _ _).mono (fun r h => ⟨fun c => (h c).2, sem_eq_zero_of_no_sems (by decide) r.2⟩)
    (Cert.DxYRefIdeal.Prod.results m ρ)

theorem algebraic : Cert.algebraic_DxYIdeal_DxYRefIdeal := by
  intro m ρ m' ρ' _ hargs
  refine ⟨fun c => Cert.ProdMath.timesT (Cert.DxYIdeal.Prod.aX m c) (Cert.DxYIdeal.Prod.a1 m c), ?_, ?_⟩
  · refine (θ_run _ _ _).mono (fun r h c => ?_) (Cert.DxYIdeal.Value.run_blocks m ρ)
    obtain ⟨h1, h⟩ := h c
    exact ⟨h1.trans (Cert.DxYIdeal.Prod.final_2 m c), h⟩
  · refine (θ_run _ _ _).mono (fun r h c => ?_) (Cert.DxYRefIdeal.Prod.results m' ρ')
    obtain ⟨e0, e1⟩ := hargs c
    obtain ⟨h1, h⟩ := h c
    refine ⟨h1.trans ?_, h⟩
    all_goals
      unfold Cert.DxYRefIdeal.Prod.aX
      simp only [e0, e1]

end Cert.DxYClaim

end
-- ==== Proof.Prod.ProjQkv.lean ====
module

public import proofs.«01_k».proof.Defs
public import proofs.«01_k».proof.Proof.Gen.ProjQkvIdeal.Value
public import proofs.«01_k».proof.Proof.Gen.ProjQkvRefIdeal.Run
public import proofs.«01_k».proof.Proof.Prod.Math
public import Idealize.ShloMosaic.Lib.StableHlo.ReadAt
public import Idealize.ShloMosaic.Lib.Quiescent

@[expose] public section

set_option maxRecDepth 16384

noncomputable section

/-! The projection to queries, keys and values: the tokens times the weight. -/

namespace Cert.ProjQkvIdeal.Prod

open Cert.ProjQkvIdeal Cert.ProjQkvIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 2, by have := lt_of_lt_of_eq t.isLt (show cfg0.N = 4 from N_0); omega⟩
/-- The position of row `r` of point `t`'s block. -/
def rowOf (t : Fin cfg0.N) (r : Fin 1024) : Fin 2048 := ⟨t.val % 2 * 1024 + r.val, by omega⟩
/-- The point whose block holds position `s` of sequence `n`. -/
def pointOf (n : Fin 2) (s : Fin 2048) : Fin cfg0.N := ⟨n.val * 2 + s.val / 1024, by rw [show cfg0.N = 4 from N_0]; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The token array, as the launch finds it. -/
abbrev aX (c : Dev nD) : Cert.ProdMath.M3 2 2048 1024 := m ((c : Thread nD τ).loc main_arg0)

theorem index_0 : ∀ t : Fin grid0.N, win0_0.index t 0 = t.val / 2 ∧ win0_0.index t 1 = t.val % 2 ∧ win0_0.index t 2 = 0 := by decide +kernel

theorem V_0 (c : Dev nD) (i : S2x2048x1024.Idx) : V m c main_v0 i = m ((c : Thread nD τ).loc main_arg0) i := by
  unfold V
  after_reads_at

theorem iblk_0 (c : Dev nD) (t : Fin cfg0.N) (r : Fin 1024) (k : Fin 1024) :
    iblk m c 0 t (ix3 0 r k) = aX m c (ix3 (seqOf t) (rowOf t r) k) := by
  refine Eq.trans ?_ (V_0 m c (ix3 (seqOf t) (rowOf t r) k))
  show V m c main_v0 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 2
    omega
  · show win0_0.index t 1 * 1024 + 1 * r.val = t.val % 2 * 1024 + r.val
    omega
  · show win0_0.index t 2 * 1024 + 1 * k.val = k.val
    omega

/-- Weight 1, as the launch finds it. -/
abbrev a1 (c : Dev nD) : Cert.ProdMath.M2 1024 2304 := m ((c : Thread nD τ).loc main_arg1)

theorem index_1 : ∀ t : Fin grid0.N, win0_1.index t 0 = 0 ∧ win0_1.index t 1 = 0 := by decide +kernel
theorem index_2 : ∀ t : Fin grid0.N, win0_2.index t 0 = t.val / 2 ∧ win0_2.index t 1 = t.val % 2 ∧ win0_2.index t 2 = 0 := by decide +kernel

theorem V_1 (c : Dev nD) (j : Fin 2304) (k : Fin 1024) : V m c main_v2 (ix2 j k) = m ((c : Thread nD τ).loc main_arg1) (ix2 k j) := by
  unfold V
  after_reads_at

theorem iblk_1 (c : Dev nD) (t : Fin cfg0.N) (j : Fin 2304) (k : Fin 1024) : iblk m c 1 t (ix2 j k) = a1 m c (ix2 k j) := by
  refine Eq.trans ?_ (V_1 m c j k)
  show V m c main_v2 (((cfg0.win 1).blk t).view.emb (ix2 j k)) = _
  refine congrArg _ (funext fun a => Fin.ext ?_)
  obtain ⟨h0, h1⟩ := index_1 t
  fin_cases a
  · show win0_1.index t 0 * 2304 + 1 * j.val = j.val
    omega
  · show win0_1.index t 1 * 1024 + 1 * k.val = k.val
    omega

theorem pay_1 (x0 : Vec Ideal S1x1024x1024 .bf16) (w : Vec Ideal S2304x1024 .bf16) (r : Fin 1024) (j : Fin 2304) :
    k0_pay1 (F := Ideal) x0 w (ix3 0 r j) = ∑ k : Fin 1024, (x0 (ix3 0 r k) : EReal) * (w (ix2 j k) : EReal) := by
  unfold k0_pay1
  pointwise

theorem out_1 (x0 : Vec Ideal S1x1024x1024 .bf16) (x1 : Vec Ideal S2304x1024 .bf16) (r : Fin 1024) (j : Fin 2304) :
    out0_2 x0 x1 (ix3 0 r j) = ∑ k : Fin 1024, (x0 (ix3 0 r k) : EReal) * (x1 (ix2 j k) : EReal) := by
  unfold out0_2
  rw [View.canon_unit_zero hz3]
  simp only [View.ld_unit_zero (S := S1x1024x1024) hz3, View.ld_unit_zero (S := S2304x1024) hz2]
  exact pay_1 _ _ r j

/-- Output 2 after the run. -/
theorem final_2 (c : Dev nD) : (dats m 0 c).arrAt 2 cfg0.N = Cert.ProdMath.times (aX m c) (a1 m c) := by
  refine (dats m 0 c).arrAt_eq_of_cover 2 (Cert.ProdMath.times (aX m c) (a1 m c)) (fun t hf => ?_) (fun i => ?_)
  · obtain ⟨h0, h1, h2⟩ := index_2 t
    rw [Value.flushed2]
    funext j
    change S1x1024x2304.Idx at j
    obtain ⟨z, r, e, rfl⟩ : ∃ z r e, j = ix3 z r e := ⟨j 0, j 1, j 2, eq_ix3 j⟩
    obtain rfl : z = 0 := Subsingleton.elim _ _
    refine (out_1 (iblk m c 0 t) (iblk m c 1 t) r e).trans (Eq.trans (b := Cert.ProdMath.times (aX m c) (a1 m c) (ix3 (seqOf t) (rowOf t r) e))
      (Finset.sum_congr rfl fun k _ => by rw [iblk_0, iblk_1]; rfl) (congrArg (Cert.ProdMath.times (aX m c) (a1 m c)) (funext fun a => Fin.ext ?_)))
    fin_cases a
    · show t.val / 2 = win0_2.index t 0 * 1 + 1 * 0
      omega
    · show t.val % 2 * 1024 + r.val = win0_2.index t 1 * 1024 + 1 * r.val
      omega
    · show e.val = win0_2.index t 2 * 2304 + 1 * e.val
      omega
  · have i0 : (i 0).val < 2 := (i 0).isLt
    have i1 : (i 1).val < 2048 := (i 1).isLt
    have i2 : (i 2).val < 2304 := (i 2).isLt
    obtain ⟨h0, h1, h2⟩ := index_2 (pointOf (i 0) (i 1))
    have hp : (pointOf (i 0) (i 1)).val = (i 0).val * 2 + (i 1).val / 1024 := rfl
    refine ⟨pointOf (i 0) (i 1), flush0_2 _, ?_⟩
    show i ∈ ((View.whole main_v3).slice (win0_2.rect (pointOf (i 0) (i 1)))).set
    rw [View.set_slice_whole, Rect.mem_set_unit]
    intro a
    fin_cases a
    · show win0_2.index (pointOf (i 0) (i 1)) 0 * 1 ≤ (i 0).val ∧ (i 0).val < win0_2.index (pointOf (i 0) (i 1)) 0 * 1 + 1
      omega
    · show win0_2.index (pointOf (i 0) (i 1)) 1 * 1024 ≤ (i 1).val ∧ (i 1).val < win0_2.index (pointOf (i 0) (i 1)) 1 * 1024 + 1024
      omega
    · show win0_2.index (pointOf (i 0) (i 1)) 2 * 2304 ≤ (i 2).val ∧ (i 2).val < win0_2.index (pointOf (i 0) (i 1)) 2 * 2304 + 2304
      omega

end Cert.ProjQkvIdeal.Prod

namespace Cert.ProjQkvRefIdeal.Prod

open Cert.ProjQkvRefIdeal Cert.ProjQkvRefIdeal.Gen Idealize.ShloMosaic Idealize.ShloMosaic.TcCoe Idealize.SL.Sem

variable (m : (ℓ : Loc nD τ sig) → Buf (Elt Ideal) ℓ) (ρ : Dev nD → PrngReg)

abbrev aX (c : Dev nD) : Cert.ProdMath.M3 2 2048 1024 := m ((c : Thread nD τ).loc main_arg0)
abbrev a1 (c : Dev nD) : Cert.ProdMath.M2 1024 2304 := m ((c : Thread nD τ).loc main_arg1)

theorem dot_1 (l : FVec Ideal S2x2048x1024 .f32) (r : FVec Ideal S1024x2304 .f32) :
    Host.dotGeneral dot_S2x2048x1024_S1024x2304_S2x2048x2304_2_0_01_1_n_n none l r = Cert.ProdMath.times l r := by
  funext i
  change S2x2048x2304.Idx at i
  idx_vars i
  pointwise
  rfl

theorem results : θ_run defs (onTc (τ := τ) (main (F := Ideal))) ⟨m, fun _ => 0, ρ⟩ fun r => ∀ c : Dev nD,
      r.2.mem ((c.tc : Thread nD τ).loc main_v1) = Cert.ProdMath.times (aX m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h1, h⟩ := h c
  exact ⟨h1.trans (dot_1 _ _), h⟩

end Cert.ProjQkvRefIdeal.Prod

namespace Cert.ProjQkvClaim

open Idealize.ShloMosaic Idealize.ShloMosaic.TcCoe Idealize.SL.Sem

theorem frame_ref : Cert.quiescent_ProjQkvRefIdeal := fun m ρ _ =>
  (θ_run Cert.ProjQkvRefIdeal.defs _ _).mono (fun r h => ⟨fun c => (h c).2, sem_eq_zero_of_no_sems (by decide) r.2⟩)
    (Cert.ProjQkvRefIdeal.Prod.results m ρ)

theorem algebraic : Cert.algebraic_ProjQkvIdeal_ProjQkvRefIdeal := by
  intro m ρ m' ρ' _ hargs
  refine ⟨fun c => Cert.ProdMath.times (Cert.ProjQkvIdeal.Prod.aX m c) (Cert.ProjQkvIdeal.Prod.a1 m c), ?_, ?_⟩
  · refine (θ_run _ _ _).mono (fun r h c => ?_) (Cert.ProjQkvIdeal.Value.run_blocks m ρ)
    obtain ⟨h1, h⟩ := h c
    exact ⟨h1.trans (Cert.ProjQkvIdeal.Prod.final_2 m c), h⟩
  · refine (θ_run _ _ _).mono (fun r h c => ?_) (Cert.ProjQkvRefIdeal.Prod.results m' ρ')
    obtain ⟨e0, e1⟩ := hargs c
    obtain ⟨h1, h⟩ := h c
    refine ⟨h1.trans ?_, h⟩
    all_goals
      unfold Cert.ProjQkvRefIdeal.Prod.aX
      simp only [e0, e1]

end Cert.ProjQkvClaim

end
-- ==== Proof.Prod.ProjNat.lean ====
module

public import proofs.«01_k».proof.Defs
public import proofs.«01_k».proof.Proof.Gen.ProjNatIdeal.Value
public import proofs.«01_k».proof.Proof.Gen.ProjNatRefIdeal.Run
public import proofs.«01_k».proof.Proof.Prod.Math
public import Idealize.ShloMosaic.Lib.StableHlo.ReadAt
public import Idealize.ShloMosaic.Lib.Quiescent

@[expose] public section

set_option maxRecDepth 16384

noncomputable section

/-! The four projections that keep the natural order of the tokens: the tokens times four weights. -/

namespace Cert.ProjNatIdeal.Prod

open Cert.ProjNatIdeal Cert.ProjNatIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 4, by have := lt_of_lt_of_eq t.isLt (show cfg0.N = 8 from N_0); omega⟩
/-- The position of row `r` of point `t`'s block. -/
def rowOf (t : Fin cfg0.N) (r : Fin 512) : Fin 2048 := ⟨t.val % 4 * 512 + r.val, by omega⟩
/-- The point whose block holds position `s` of sequence `n`. -/
def pointOf (n : Fin 2) (s : Fin 2048) : Fin cfg0.N := ⟨n.val * 4 + s.val / 512, by rw [show cfg0.N = 8 from N_0]; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The token array, as the launch finds it. -/
abbrev aX (c : Dev nD) : Cert.ProdMath.M3 2 2048 1024 := m ((c : Thread nD τ).loc main_arg0)

theorem index_0 : ∀ t : Fin grid0.N, win0_0.index t 0 = t.val / 4 ∧ win0_0.index t 1 = t.val % 4 ∧ win0_0.index t 2 = 0 := by decide +kernel

theorem V_0 (c : Dev nD) (i : S2x2048x1024.Idx) : V m c main_v0 i = m ((c : Thread nD τ).loc main_arg0) i := by
  unfold V
  after_reads_at

theorem iblk_0 (c : Dev nD) (t : Fin cfg0.N) (r : Fin 512) (k : Fin 1024) :
    iblk m c 0 t (ix3 0 r k) = aX m c (ix3 (seqOf t) (rowOf t r) k) := by
  refine Eq.trans ?_ (V_0 m c (ix3 (seqOf t) (rowOf t r) k))
  show V m c main_v0 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 4
    omega
  · show win0_0.index t 1 * 512 + 1 * r.val = t.val % 4 * 512 + r.val
    omega
  · show win0_0.index t 2 * 1024 + 1 * k.val = k.val
    omega

/-- Weight 1, as the launch finds it. -/
abbrev a1 (c : Dev nD) : Cert.ProdMath.M2 1024 768 := m ((c : Thread nD τ).loc main_arg1)

theorem index_1 : ∀ t : Fin grid0.N, win0_1.index t 0 = 0 ∧ win0_1.index t 1 = 0 := by decide +kernel
theorem index_5 : ∀ t : Fin grid0.N, win0_5.index t 0 = t.val / 4 ∧ win0_5.index t 1 = t.val % 4 ∧ win0_5.index t 2 = 0 := by decide +kernel

theorem V_1 (c : Dev nD) (j : Fin 768) (k : Fin 1024) : V m c main_v2 (ix2 j k) = m ((c : Thread nD τ).loc main_arg1) (ix2 k j) := by
  unfold V
  after_reads_at

theorem iblk_1 (c : Dev nD) (t : Fin cfg0.N) (j : Fin 768) (k : Fin 1024) : iblk m c 1 t (ix2 j k) = a1 m c (ix2 k j) := by
  refine Eq.trans ?_ (V_1 m c j k)
  show V m c main_v2 (((cfg0.win 1).blk t).view.emb (ix2 j k)) = _
  refine congrArg _ (funext fun a => Fin.ext ?_)
  obtain ⟨h0, h1⟩ := index_1 t
  fin_cases a
  · show win0_1.index t 0 * 768 + 1 * j.val = j.val
    omega
  · show win0_1.index t 1 * 1024 + 1 * k.val = k.val
    omega

theorem pay_1 (x0 : Vec Ideal S1x512x1024 .bf16) (w : Vec Ideal S768x1024 .bf16) (r : Fin 512) (j : Fin 768) :
    k0_pay2 (F := Ideal) x0 w (ix3 0 r j) = ∑ k : Fin 1024, (x0 (ix3 0 r k) : EReal) * (w (ix2 j k) : EReal) := by
  unfold k0_pay2 k0_pay1
  pointwise

theorem out_1 (x0 : Vec Ideal S1x512x1024 .bf16) (x1 : Vec Ideal S768x1024 .bf16) (x2 : Vec Ideal S2048x1024 .bf16) (x3 : Vec Ideal S128x1024 .bf16) (x4 : Vec Ideal S1024x1024 .bf16) (r : Fin 512) (j : Fin 768) :
    out0_5 x0 x1 x2 x3 x4 (ix3 0 r j) = ∑ k : Fin 1024, (x0 (ix3 0 r k) : EReal) * (x1 (ix2 j k) : EReal) := by
  unfold out0_5
  rw [View.canon_unit_zero hz3]
  simp only [View.ld_unit_zero (S := S1x512x1024) hz3, View.ld_unit_zero (S := S768x1024) hz2]
  exact pay_1 _ _ r j

/-- Output 5 after the run. -/
theorem final_5 (c : Dev nD) : (dats m 0 c).arrAt 5 cfg0.N = Cert.ProdMath.times (aX m c) (a1 m c) := by
  refine (dats m 0 c).arrAt_eq_of_cover 5 (Cert.ProdMath.times (aX m c) (a1 m c)) (fun t hf => ?_) (fun i => ?_)
  · obtain ⟨h0, h1, h2⟩ := index_5 t
    rw [Value.flushed5]
    funext j
    change S1x512x768.Idx at j
    obtain ⟨z, r, e, rfl⟩ : ∃ z r e, j = ix3 z r e := ⟨j 0, j 1, j 2, eq_ix3 j⟩
    obtain rfl : z = 0 := Subsingleton.elim _ _
    refine (out_1 (iblk m c 0 t) (iblk m c 1 t) (iblk m c 2 t) (iblk m c 3 t) (iblk m c 4 t) r e).trans (Eq.trans (b := Cert.ProdMath.times (aX m c) (a1 m c) (ix3 (seqOf t) (rowOf t r) e))
      (Finset.sum_congr rfl fun k _ => by rw [iblk_0, iblk_1]; rfl) (congrArg (Cert.ProdMath.times (aX m c) (a1 m c)) (funext fun a => Fin.ext ?_)))
    fin_cases a
    · show t.val / 4 = win0_5.index t 0 * 1 + 1 * 0
      omega
    · show t.val % 4 * 512 + r.val = win0_5.index t 1 * 512 + 1 * r.val
      omega
    · show e.val = win0_5.index t 2 * 768 + 1 * e.val
      omega
  · have i0 : (i 0).val < 2 := (i 0).isLt
    have i1 : (i 1).val < 2048 := (i 1).isLt
    have i2 : (i 2).val < 768 := (i 2).isLt
    obtain ⟨h0, h1, h2⟩ := index_5 (pointOf (i 0) (i 1))
    have hp : (pointOf (i 0) (i 1)).val = (i 0).val * 4 + (i 1).val / 512 := rfl
    refine ⟨pointOf (i 0) (i 1), flush0_5 _, ?_⟩
    show i ∈ ((View.whole main_v9_0).slice (win0_5.rect (pointOf (i 0) (i 1)))).set
    rw [View.set_slice_whole, Rect.mem_set_unit]
    intro a
    fin_cases a
    · show win0_5.index (pointOf (i 0) (i 1)) 0 * 1 ≤ (i 0).val ∧ (i 0).val < win0_5.index (pointOf (i 0) (i 1)) 0 * 1 + 1
      omega
    · show win0_5.index (pointOf (i 0) (i 1)) 1 * 512 ≤ (i 1).val ∧ (i 1).val < win0_5.index (pointOf (i 0) (i 1)) 1 * 512 + 512
      omega
    · show win0_5.index (pointOf (i 0) (i 1)) 2 * 768 ≤ (i 2).val ∧ (i 2).val < win0_5.index (pointOf (i 0) (i 1)) 2 * 768 + 768
      omega

/-- Weight 2, as the launch finds it. -/
abbrev a2 (c : Dev nD) : Cert.ProdMath.M2 1024 2048 := m ((c : Thread nD τ).loc main_arg2)

theorem index_2 : ∀ t : Fin grid0.N, win0_2.index t 0 = 0 ∧ win0_2.index t 1 = 0 := by decide +kernel
theorem index_6 : ∀ t : Fin grid0.N, win0_6.index t 0 = t.val / 4 ∧ win0_6.index t 1 = t.val % 4 ∧ win0_6.index t 2 = 0 := by decide +kernel

theorem V_2 (c : Dev nD) (j : Fin 2048) (k : Fin 1024) : V m c main_v4 (ix2 j k) = m ((c : Thread nD τ).loc main_arg2) (ix2 k j) := by
  unfold V
  after_reads_at

theorem iblk_2 (c : Dev nD) (t : Fin cfg0.N) (j : Fin 2048) (k : Fin 1024) : iblk m c 2 t (ix2 j k) = a2 m c (ix2 k j) := by
  refine Eq.trans ?_ (V_2 m c j k)
  show V m c main_v4 (((cfg0.win 2).blk t).view.emb (ix2 j k)) = _
  refine congrArg _ (funext fun a => Fin.ext ?_)
  obtain ⟨h0, h1⟩ := index_2 t
  fin_cases a
  · show win0_2.index t 0 * 2048 + 1 * j.val = j.val
    omega
  · show win0_2.index t 1 * 1024 + 1 * k.val = k.val
    omega

theorem pay_2 (x0 : Vec Ideal S1x512x1024 .bf16) (w : Vec Ideal S2048x1024 .bf16) (r : Fin 512) (j : Fin 2048) :
    k0_pay3 (F := Ideal) x0 w (ix3 0 r j) = ∑ k : Fin 1024, (x0 (ix3 0 r k) : EReal) * (w (ix2 j k) : EReal) := by
  unfold k0_pay3 k0_pay1
  pointwise

theorem out_2 (x0 : Vec Ideal S1x512x1024 .bf16) (x1 : Vec Ideal S768x1024 .bf16) (x2 : Vec Ideal S2048x1024 .bf16) (x3 : Vec Ideal S128x1024 .bf16) (x4 : Vec Ideal S1024x1024 .bf16) (r : Fin 512) (j : Fin 2048) :
    out0_6 x0 x1 x2 x3 x4 (ix3 0 r j) = ∑ k : Fin 1024, (x0 (ix3 0 r k) : EReal) * (x2 (ix2 j k) : EReal) := by
  unfold out0_6
  rw [View.canon_unit_zero hz3]
  simp only [View.ld_unit_zero (S := S1x512x1024) hz3, View.ld_unit_zero (S := S2048x1024) hz2]
  exact pay_2 _ _ r j

/-- Output 6 after the run. -/
theorem final_6 (c : Dev nD) : (dats m 0 c).arrAt 6 cfg0.N = Cert.ProdMath.times (aX m c) (a2 m c) := by
  refine (dats m 0 c).arrAt_eq_of_cover 6 (Cert.ProdMath.times (aX m c) (a2 m c)) (fun t hf => ?_) (fun i => ?_)
  · obtain ⟨h0, h1, h2⟩ := index_6 t
    rw [Value.flushed6]
    funext j
    change S1x512x2048.Idx at j
    obtain ⟨z, r, e, rfl⟩ : ∃ z r e, j = ix3 z r e := ⟨j 0, j 1, j 2, eq_ix3 j⟩
    obtain rfl : z = 0 := Subsingleton.elim _ _
    refine (out_2 (iblk m c 0 t) (iblk m c 1 t) (iblk m c 2 t) (iblk m c 3 t) (iblk m c 4 t) r e).trans (Eq.trans (b := Cert.ProdMath.times (aX m c) (a2 m c) (ix3 (seqOf t) (rowOf t r) e))
      (Finset.sum_congr rfl fun k _ => by rw [iblk_0, iblk_2]; rfl) (congrArg (Cert.ProdMath.times (aX m c) (a2 m c)) (funext fun a => Fin.ext ?_)))
    fin_cases a
    · show t.val / 4 = win0_6.index t 0 * 1 + 1 * 0
      omega
    · show t.val % 4 * 512 + r.val = win0_6.index t 1 * 512 + 1 * r.val
      omega
    · show e.val = win0_6.index t 2 * 2048 + 1 * e.val
      omega
  · have i0 : (i 0).val < 2 := (i 0).isLt
    have i1 : (i 1).val < 2048 := (i 1).isLt
    have i2 : (i 2).val < 2048 := (i 2).isLt
    obtain ⟨h0, h1, h2⟩ := index_6 (pointOf (i 0) (i 1))
    have hp : (pointOf (i 0) (i 1)).val = (i 0).val * 4 + (i 1).val / 512 := rfl
    refine ⟨pointOf (i 0) (i 1), flush0_6 _, ?_⟩
    show i ∈ ((View.whole main_v9_1).slice (win0_6.rect (pointOf (i 0) (i 1)))).set
    rw [View.set_slice_whole, Rect.mem_set_unit]
    intro a
    fin_cases a
    · show win0_6.index (pointOf (i 0) (i 1)) 0 * 1 ≤ (i 0).val ∧ (i 0).val < win0_6.index (pointOf (i 0) (i 1)) 0 * 1 + 1
      omega
    · show win0_6.index (pointOf (i 0) (i 1)) 1 * 512 ≤ (i 1).val ∧ (i 1).val < win0_6.index (pointOf (i 0) (i 1)) 1 * 512 + 512
      omega
    · show win0_6.index (pointOf (i 0) (i 1)) 2 * 2048 ≤ (i 2).val ∧ (i 2).val < win0_6.index (pointOf (i 0) (i 1)) 2 * 2048 + 2048
      omega

/-- Weight 3, as the launch finds it. -/
abbrev a3 (c : Dev nD) : Cert.ProdMath.M2 1024 128 := m ((c : Thread nD τ).loc main_arg3)

theorem index_3 : ∀ t : Fin grid0.N, win0_3.index t 0 = 0 ∧ win0_3.index t 1 = 0 := by decide +kernel
theorem index_7 : ∀ t : Fin grid0.N, win0_7.index t 0 = t.val / 4 ∧ win0_7.index t 1 = t.val % 4 ∧ win0_7.index t 2 = 0 := by decide +kernel

theorem V_3 (c : Dev nD) (j : Fin 128) (k : Fin 1024) : V m c main_v6 (ix2 j k) = m ((c : Thread nD τ).loc main_arg3) (ix2 k j) := by
  unfold V
  after_reads_at

theorem iblk_3 (c : Dev nD) (t : Fin cfg0.N) (j : Fin 128) (k : Fin 1024) : iblk m c 3 t (ix2 j k) = a3 m c (ix2 k j) := by
  refine Eq.trans ?_ (V_3 m c j k)
  show V m c main_v6 (((cfg0.win 3).blk t).view.emb (ix2 j k)) = _
  refine congrArg _ (funext fun a => Fin.ext ?_)
  obtain ⟨h0, h1⟩ := index_3 t
  fin_cases a
  · show win0_3.index t 0 * 128 + 1 * j.val = j.val
    omega
  · show win0_3.index t 1 * 1024 + 1 * k.val = k.val
    omega

theorem pay_3 (x0 : Vec Ideal S1x512x1024 .bf16) (w : Vec Ideal S128x1024 .bf16) (r : Fin 512) (j : Fin 128) :
    k0_pay4 (F := Ideal) x0 w (ix3 0 r j) = ∑ k : Fin 1024, (x0 (ix3 0 r k) : EReal) * (w (ix2 j k) : EReal) := by
  unfold k0_pay4 k0_pay1
  pointwise

theorem out_3 (x0 : Vec Ideal S1x512x1024 .bf16) (x1 : Vec Ideal S768x1024 .bf16) (x2 : Vec Ideal S2048x1024 .bf16) (x3 : Vec Ideal S128x1024 .bf16) (x4 : Vec Ideal S1024x1024 .bf16) (r : Fin 512) (j : Fin 128) :
    out0_7 x0 x1 x2 x3 x4 (ix3 0 r j) = ∑ k : Fin 1024, (x0 (ix3 0 r k) : EReal) * (x3 (ix2 j k) : EReal) := by
  unfold out0_7
  rw [View.canon_unit_zero hz3]
  simp only [View.ld_unit_zero (S := S1x512x1024) hz3, View.ld_unit_zero (S := S128x1024) hz2]
  exact pay_3 _ _ r j

/-- Output 7 after the run. -/
theorem final_7 (c : Dev nD) : (dats m 0 c).arrAt 7 cfg0.N = Cert.ProdMath.times (aX m c) (a3 m c) := by
  refine (dats m 0 c).arrAt_eq_of_cover 7 (Cert.ProdMath.times (aX m c) (a3 m c)) (fun t hf => ?_) (fun i => ?_)
  · obtain ⟨h0, h1, h2⟩ := index_7 t
    rw [Value.flushed7]
    funext j
    change S1x512x128.Idx at j
    obtain ⟨z, r, e, rfl⟩ : ∃ z r e, j = ix3 z r e := ⟨j 0, j 1, j 2, eq_ix3 j⟩
    obtain rfl : z = 0 := Subsingleton.elim _ _
    refine (out_3 (iblk m c 0 t) (iblk m c 1 t) (iblk m c 2 t) (iblk m c 3 t) (iblk m c 4 t) r e).trans (Eq.trans (b := Cert.ProdMath.times (aX m c) (a3 m c) (ix3 (seqOf t) (rowOf t r) e))
      (Finset.sum_congr rfl fun k _ => by rw [iblk_0, iblk_3]; rfl) (congrArg (Cert.ProdMath.times (aX m c) (a3 m c)) (funext fun a => Fin.ext ?_)))
    fin_cases a
    · show t.val / 4 = win0_7.index t 0 * 1 + 1 * 0
      omega
    · show t.val % 4 * 512 + r.val = win0_7.index t 1 * 512 + 1 * r.val
      omega
    · show e.val = win0_7.index t 2 * 128 + 1 * e.val
      omega
  · have i0 : (i 0).val < 2 := (i 0).isLt
    have i1 : (i 1).val < 2048 := (i 1).isLt
    have i2 : (i 2).val < 128 := (i 2).isLt
    obtain ⟨h0, h1, h2⟩ := index_7 (pointOf (i 0) (i 1))
    have hp : (pointOf (i 0) (i 1)).val = (i 0).val * 4 + (i 1).val / 512 := rfl
    refine ⟨pointOf (i 0) (i 1), flush0_7 _, ?_⟩
    show i ∈ ((View.whole main_v9_2).slice (win0_7.rect (pointOf (i 0) (i 1)))).set
    rw [View.set_slice_whole, Rect.mem_set_unit]
    intro a
    fin_cases a
    · show win0_7.index (pointOf (i 0) (i 1)) 0 * 1 ≤ (i 0).val ∧ (i 0).val < win0_7.index (pointOf (i 0) (i 1)) 0 * 1 + 1
      omega
    · show win0_7.index (pointOf (i 0) (i 1)) 1 * 512 ≤ (i 1).val ∧ (i 1).val < win0_7.index (pointOf (i 0) (i 1)) 1 * 512 + 512
      omega
    · show win0_7.index (pointOf (i 0) (i 1)) 2 * 128 ≤ (i 2).val ∧ (i 2).val < win0_7.index (pointOf (i 0) (i 1)) 2 * 128 + 128
      omega

/-- Weight 4, as the launch finds it. -/
abbrev a4 (c : Dev nD) : Cert.ProdMath.M2 1024 1024 := m ((c : Thread nD τ).loc main_arg4)

theorem index_4 : ∀ t : Fin grid0.N, win0_4.index t 0 = 0 ∧ win0_4.index t 1 = 0 := by decide +kernel
theorem index_8 : ∀ t : Fin grid0.N, win0_8.index t 0 = t.val / 4 ∧ win0_8.index t 1 = t.val % 4 ∧ win0_8.index t 2 = 0 := by decide +kernel

theorem V_4 (c : Dev nD) (j : Fin 1024) (k : Fin 1024) : V m c main_v8 (ix2 j k) = m ((c : Thread nD τ).loc main_arg4) (ix2 k j) := by
  unfold V
  after_reads_at

theorem iblk_4 (c : Dev nD) (t : Fin cfg0.N) (j : Fin 1024) (k : Fin 1024) : iblk m c 4 t (ix2 j k) = a4 m c (ix2 k j) := by
  refine Eq.trans ?_ (V_4 m c j k)
  show V m c main_v8 (((cfg0.win 4).blk t).view.emb (ix2 j k)) = _
  refine congrArg _ (funext fun a => Fin.ext ?_)
  obtain ⟨h0, h1⟩ := index_4 t
  fin_cases a
  · show win0_4.index t 0 * 1024 + 1 * j.val = j.val
    omega
  · show win0_4.index t 1 * 1024 + 1 * k.val = k.val
    omega

theorem pay_4 (x0 : Vec Ideal S1x512x1024 .bf16) (w : Vec Ideal S1024x1024 .bf16) (r : Fin 512) (j : Fin 1024) :
    k0_pay5 (F := Ideal) x0 w (ix3 0 r j) = ∑ k : Fin 1024, (x0 (ix3 0 r k) : EReal) * (w (ix2 j k) : EReal) := by
  unfold k0_pay5 k0_pay1
  pointwise

theorem out_4 (x0 : Vec Ideal S1x512x1024 .bf16) (x1 : Vec Ideal S768x1024 .bf16) (x2 : Vec Ideal S2048x1024 .bf16) (x3 : Vec Ideal S128x1024 .bf16) (x4 : Vec Ideal S1024x1024 .bf16) (r : Fin 512) (j : Fin 1024) :
    out0_8 x0 x1 x2 x3 x4 (ix3 0 r j) = ∑ k : Fin 1024, (x0 (ix3 0 r k) : EReal) * (x4 (ix2 j k) : EReal) := by
  unfold out0_8
  rw [View.canon_unit_zero hz3]
  simp only [View.ld_unit_zero (S := S1x512x1024) hz3, View.ld_unit_zero (S := S1024x1024) hz2]
  exact pay_4 _ _ r j

/-- Output 8 after the run. -/
theorem final_8 (c : Dev nD) : (dats m 0 c).arrAt 8 cfg0.N = Cert.ProdMath.times (aX m c) (a4 m c) := by
  refine (dats m 0 c).arrAt_eq_of_cover 8 (Cert.ProdMath.times (aX m c) (a4 m c)) (fun t hf => ?_) (fun i => ?_)
  · obtain ⟨h0, h1, h2⟩ := index_8 t
    rw [Value.flushed8]
    funext j
    change S1x512x1024.Idx at j
    obtain ⟨z, r, e, rfl⟩ : ∃ z r e, j = ix3 z r e := ⟨j 0, j 1, j 2, eq_ix3 j⟩
    obtain rfl : z = 0 := Subsingleton.elim _ _
    refine (out_4 (iblk m c 0 t) (iblk m c 1 t) (iblk m c 2 t) (iblk m c 3 t) (iblk m c 4 t) r e).trans (Eq.trans (b := Cert.ProdMath.times (aX m c) (a4 m c) (ix3 (seqOf t) (rowOf t r) e))
      (Finset.sum_congr rfl fun k _ => by rw [iblk_0, iblk_4]; rfl) (congrArg (Cert.ProdMath.times (aX m c) (a4 m c)) (funext fun a => Fin.ext ?_)))
    fin_cases a
    · show t.val / 4 = win0_8.index t 0 * 1 + 1 * 0
      omega
    · show t.val % 4 * 512 + r.val = win0_8.index t 1 * 512 + 1 * r.val
      omega
    · show e.val = win0_8.index t 2 * 1024 + 1 * e.val
      omega
  · have i0 : (i 0).val < 2 := (i 0).isLt
    have i1 : (i 1).val < 2048 := (i 1).isLt
    have i2 : (i 2).val < 1024 := (i 2).isLt
    obtain ⟨h0, h1, h2⟩ := index_8 (pointOf (i 0) (i 1))
    have hp : (pointOf (i 0) (i 1)).val = (i 0).val * 4 + (i 1).val / 512 := rfl
    refine ⟨pointOf (i 0) (i 1), flush0_8 _, ?_⟩
    show i ∈ ((View.whole main_v9_3).slice (win0_8.rect (pointOf (i 0) (i 1)))).set
    rw [View.set_slice_whole, Rect.mem_set_unit]
    intro a
    fin_cases a
    · show win0_8.index (pointOf (i 0) (i 1)) 0 * 1 ≤ (i 0).val ∧ (i 0).val < win0_8.index (pointOf (i 0) (i 1)) 0 * 1 + 1
      omega
    · show win0_8.index (pointOf (i 0) (i 1)) 1 * 512 ≤ (i 1).val ∧ (i 1).val < win0_8.index (pointOf (i 0) (i 1)) 1 * 512 + 512
      omega
    · show win0_8.index (pointOf (i 0) (i 1)) 2 * 1024 ≤ (i 2).val ∧ (i 2).val < win0_8.index (pointOf (i 0) (i 1)) 2 * 1024 + 1024
      omega

end Cert.ProjNatIdeal.Prod

namespace Cert.ProjNatRefIdeal.Prod

open Cert.ProjNatRefIdeal Cert.ProjNatRefIdeal.Gen Idealize.ShloMosaic Idealize.ShloMosaic.TcCoe Idealize.SL.Sem

variable (m : (ℓ : Loc nD τ sig) → Buf (Elt Ideal) ℓ) (ρ : Dev nD → PrngReg)

abbrev aX (c : Dev nD) : Cert.ProdMath.M3 2 2048 1024 := m ((c : Thread nD τ).loc main_arg0)
abbrev a1 (c : Dev nD) : Cert.ProdMath.M2 1024 768 := m ((c : Thread nD τ).loc main_arg1)
abbrev a2 (c : Dev nD) : Cert.ProdMath.M2 1024 2048 := m ((c : Thread nD τ).loc main_arg2)
abbrev a3 (c : Dev nD) : Cert.ProdMath.M2 1024 128 := m ((c : Thread nD τ).loc main_arg3)
abbrev a4 (c : Dev nD) : Cert.ProdMath.M2 1024 1024 := m ((c : Thread nD τ).loc main_arg4)

theorem dot_1 (l : FVec Ideal S2x2048x1024 .f32) (r : FVec Ideal S1024x768 .f32) :
    Host.dotGeneral dot_S2x2048x1024_S1024x768_S2x2048x768_2_0_01_1_n_n none l r = Cert.ProdMath.times l r := by
  funext i
  change S2x2048x768.Idx at i
  idx_vars i
  pointwise
  rfl

theorem dot_2 (l : FVec Ideal S2x2048x1024 .f32) (r : FVec Ideal S1024x2048 .f32) :
    Host.dotGeneral dot_S2x2048x1024_S1024x2048_S2x2048x2048_2_0_01_1_n_n none l r = Cert.ProdMath.times l r := by
  funext i
  change S2x2048x2048.Idx at i
  idx_vars i
  pointwise
  rfl

theorem dot_3 (l : FVec Ideal S2x2048x1024 .f32) (r : FVec Ideal S1024x128 .f32) :
    Host.dotGeneral dot_S2x2048x1024_S1024x128_S2x2048x128_2_0_01_1_n_n none l r = Cert.ProdMath.times l r := by
  funext i
  change S2x2048x128.Idx at i
  idx_vars i
  pointwise
  rfl

theorem dot_4 (l : FVec Ideal S2x2048x1024 .f32) (r : FVec Ideal S1024x1024 .f32) :
    Host.dotGeneral dot_S2x2048x1024_S1024x1024_S2x2048x1024_2_0_01_1_n_n none l r = Cert.ProdMath.times l r := by
  funext i
  change S2x2048x1024.Idx at i
  idx_vars i
  pointwise
  rfl

theorem results : θ_run defs (onTc (τ := τ) (main (F := Ideal))) ⟨m, fun _ => 0, ρ⟩ fun r => ∀ c : Dev nD,
      r.2.mem ((c.tc : Thread nD τ).loc main_v0) = Cert.ProdMath.times (aX m c) (a1 m c)
      ∧ r.2.mem ((c.tc : Thread nD τ).loc main_v1) = Cert.ProdMath.times (aX m c) (a2 m c)
      ∧ r.2.mem ((c.tc : Thread nD τ).loc main_v2) = Cert.ProdMath.times (aX m c) (a3 m c)
      ∧ r.2.mem ((c.tc : Thread nD τ).loc main_v3) = Cert.ProdMath.times (aX m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h1, h2, h3, h4, h⟩ := h c
  exact ⟨h1.trans (dot_1 _ _), h2.trans (dot_2 _ _), h3.trans (dot_3 _ _), h4.trans (dot_4 _ _), h⟩

end Cert.ProjNatRefIdeal.Prod

namespace Cert.ProjNatClaim

open Idealize.ShloMosaic Idealize.ShloMosaic.TcCoe Idealize.SL.Sem

theorem frame_ref : Cert.quiescent_ProjNatRefIdeal := fun m ρ _ =>
  (θ_run Cert.ProjNatRefIdeal.defs _ _).mono (fun r h => ⟨fun c => (h c).2.2.2.2, sem_eq_zero_of_no_sems (by decide) r.2⟩)
    (Cert.ProjNatRefIdeal.Prod.results m ρ)

theorem algebraic : Cert.algebraic_ProjNatIdeal_ProjNatRefIdeal := by
  intro m ρ m' ρ' _ hargs
  refine ⟨fun c => Cert.ProdMath.times (Cert.ProjNatIdeal.Prod.aX m c) (Cert.ProjNatIdeal.Prod.a1 m c), fun c => Cert.ProdMath.times (Cert.ProjNatIdeal.Prod.aX m c) (Cert.ProjNatIdeal.Prod.a2 m c), fun c => Cert.ProdMath.times (Cert.ProjNatIdeal.Prod.aX m c) (Cert.ProjNatIdeal.Prod.a3 m c), fun c => Cert.ProdMath.times (Cert.ProjNatIdeal.Prod.aX m c) (Cert.ProjNatIdeal.Prod.a4 m c), ?_, ?_⟩
  · refine (θ_run _ _ _).mono (fun r h c => ?_) (Cert.ProjNatIdeal.Value.run_blocks m ρ)
    obtain ⟨h1, h2, h3, h4, h⟩ := h c
    exact ⟨h1.trans (Cert.ProjNatIdeal.Prod.final_5 m c), h2.trans (Cert.ProjNatIdeal.Prod.final_6 m c), h3.trans (Cert.ProjNatIdeal.Prod.final_7 m c), h4.trans (Cert.ProjNatIdeal.Prod.final_8 m c), h⟩
  · refine (θ_run _ _ _).mono (fun r h c => ?_) (Cert.ProjNatRefIdeal.Prod.results m' ρ')
    obtain ⟨e0, e1, e2, e3, e4⟩ := hargs c
    obtain ⟨h1, h2, h3, h4, h⟩ := h c
    refine ⟨h1.trans ?_, h2.trans ?_, h3.trans ?_, h4.trans ?_, h⟩
    all_goals
      unfold Cert.ProjNatRefIdeal.Prod.aX
      simp only [e0, e1, e2, e3, e4]

end Cert.ProjNatClaim

end
-- ==== Proof.Prod.ProjXg.lean ====
module

public import proofs.«01_k».proof.Defs
public import proofs.«01_k».proof.Proof.Gen.ProjXgIdeal.Value
public import proofs.«01_k».proof.Proof.Gen.ProjXgRefIdeal.Run
public import proofs.«01_k».proof.Proof.Prod.Math
public import Idealize.ShloMosaic.Lib.StableHlo.ReadAt
public import Idealize.ShloMosaic.Lib.Quiescent

@[expose] public section

set_option maxRecDepth 16384

noncomputable section

/-! The projections to the state-space inputs and to the merge gate: the tokens times two weights. -/

namespace Cert.ProjXgIdeal.Prod

open Cert.ProjXgIdeal Cert.ProjXgIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 4, by have := lt_of_lt_of_eq t.isLt (show cfg0.N = 8 from N_0); omega⟩
/-- The position of row `r` of point `t`'s block. -/
def rowOf (t : Fin cfg0.N) (r : Fin 512) : Fin 2048 := ⟨t.val % 4 * 512 + r.val, by omega⟩
/-- The point whose block holds position `s` of sequence `n`. -/
def pointOf (n : Fin 2) (s : Fin 2048) : Fin cfg0.N := ⟨n.val * 4 + s.val / 512, by rw [show cfg0.N = 8 from N_0]; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The token array, as the launch finds it. -/
abbrev aX (c : Dev nD) : Cert.ProdMath.M3 2 2048 1024 := m ((c : Thread nD τ).loc main_arg0)

theorem index_0 : ∀ t : Fin grid0.N, win0_0.index t 0 = t.val / 4 ∧ win0_0.index t 1 = t.val % 4 ∧ win0_0.index t 2 = 0 := by decide +kernel

theorem V_0 (c : Dev nD) (i : S2x2048x1024.Idx) : V m c main_v0 i = m ((c : Thread nD τ).loc main_arg0) i := by
  unfold V
  after_reads_at

theorem iblk_0 (c : Dev nD) (t : Fin cfg0.N) (r : Fin 512) (k : Fin 1024) :
    iblk m c 0 t (ix3 0 r k) = aX m c (ix3 (seqOf t) (rowOf t r) k) := by
  refine Eq.trans ?_ (V_0 m c (ix3 (seqOf t) (rowOf t r) k))
  show V m c main_v0 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 4
    omega
  · show win0_0.index t 1 * 512 + 1 * r.val = t.val % 4 * 512 + r.val
    omega
  · show win0_0.index t 2 * 1024 + 1 * k.val = k.val
    omega

/-- Weight 1, as the launch finds it. -/
abbrev a1 (c : Dev nD) : Cert.ProdMath.M2 1024 3072 := m ((c : Thread nD τ).loc main_arg1)

theorem index_1 : ∀ t : Fin grid0.N, win0_1.index t 0 = 0 ∧ win0_1.index t 1 = 0 := by decide +kernel
theorem index_3 : ∀ t : Fin grid0.N, win0_3.index t 0 = t.val / 4 ∧ win0_3.index t 1 = t.val % 4 ∧ win0_3.index t 2 = 0 := by decide +kernel

theorem V_1 (c : Dev nD) (j : Fin 3072) (k : Fin 1024) : V m c main_v2 (ix2 j k) = m ((c : Thread nD τ).loc main_arg1) (ix2 k j) := by
  unfold V
  after_reads_at

theorem iblk_1 (c : Dev nD) (t : Fin cfg0.N) (j : Fin 3072) (k : Fin 1024) : iblk m c 1 t (ix2 j k) = a1 m c (ix2 k j) := by
  refine Eq.trans ?_ (V_1 m c j k)
  show V m c main_v2 (((cfg0.win 1).blk t).view.emb (ix2 j k)) = _
  refine congrArg _ (funext fun a => Fin.ext ?_)
  obtain ⟨h0, h1⟩ := index_1 t
  fin_cases a
  · show win0_1.index t 0 * 3072 + 1 * j.val = j.val
    omega
  · show win0_1.index t 1 * 1024 + 1 * k.val = k.val
    omega

theorem pay_1 (x0 : Vec Ideal S1x512x1024 .bf16) (w : Vec Ideal S3072x1024 .bf16) (r : Fin 512) (j : Fin 3072) :
    k0_pay2 (F := Ideal) x0 w (ix3 0 r j) = ∑ k : Fin 1024, (x0 (ix3 0 r k) : EReal) * (w (ix2 j k) : EReal) := by
  unfold k0_pay2 k0_pay1
  pointwise

theorem out_1 (x0 : Vec Ideal S1x512x1024 .bf16) (x1 : Vec Ideal S3072x1024 .bf16) (x2 : Vec Ideal S2048x1024 .bf16) (r : Fin 512) (j : Fin 3072) :
    out0_3 x0 x1 x2 (ix3 0 r j) = ∑ k : Fin 1024, (x0 (ix3 0 r k) : EReal) * (x1 (ix2 j k) : EReal) := by
  unfold out0_3
  rw [View.canon_unit_zero hz3]
  simp only [View.ld_unit_zero (S := S1x512x1024) hz3, View.ld_unit_zero (S := S3072x1024) hz2]
  exact pay_1 _ _ r j

/-- Output 3 after the run. -/
theorem final_3 (c : Dev nD) : (dats m 0 c).arrAt 3 cfg0.N = Cert.ProdMath.times (aX m c) (a1 m c) := by
  refine (dats m 0 c).arrAt_eq_of_cover 3 (Cert.ProdMath.times (aX m c) (a1 m c)) (fun t hf => ?_) (fun i => ?_)
  · obtain ⟨h0, h1, h2⟩ := index_3 t
    rw [Value.flushed3]
    funext j
    change S1x512x3072.Idx at j
    obtain ⟨z, r, e, rfl⟩ : ∃ z r e, j = ix3 z r e := ⟨j 0, j 1, j 2, eq_ix3 j⟩
    obtain rfl : z = 0 := Subsingleton.elim _ _
    refine (out_1 (iblk m c 0 t) (iblk m c 1 t) (iblk m c 2 t) r e).trans (Eq.trans (b := Cert.ProdMath.times (aX m c) (a1 m c) (ix3 (seqOf t) (rowOf t r) e))
      (Finset.sum_congr rfl fun k _ => by rw [iblk_0, iblk_1]; rfl) (congrArg (Cert.ProdMath.times (aX m c) (a1 m c)) (funext fun a => Fin.ext ?_)))
    fin_cases a
    · show t.val / 4 = win0_3.index t 0 * 1 + 1 * 0
      omega
    · show t.val % 4 * 512 + r.val = win0_3.index t 1 * 512 + 1 * r.val
      omega
    · show e.val = win0_3.index t 2 * 3072 + 1 * e.val
      omega
  · have i0 : (i 0).val < 2 := (i 0).isLt
    have i1 : (i 1).val < 2048 := (i 1).isLt
    have i2 : (i 2).val < 3072 := (i 2).isLt
    obtain ⟨h0, h1, h2⟩ := index_3 (pointOf (i 0) (i 1))
    have hp : (pointOf (i 0) (i 1)).val = (i 0).val * 4 + (i 1).val / 512 := rfl
    refine ⟨pointOf (i 0) (i 1), flush0_3 _, ?_⟩
    show i ∈ ((View.whole main_v5_0).slice (win0_3.rect (pointOf (i 0) (i 1)))).set
    rw [View.set_slice_whole, Rect.mem_set_unit]
    intro a
    fin_cases a
    · show win0_3.index (pointOf (i 0) (i 1)) 0 * 1 ≤ (i 0).val ∧ (i 0).val < win0_3.index (pointOf (i 0) (i 1)) 0 * 1 + 1
      omega
    · show win0_3.index (pointOf (i 0) (i 1)) 1 * 512 ≤ (i 1).val ∧ (i 1).val < win0_3.index (pointOf (i 0) (i 1)) 1 * 512 + 512
      omega
    · show win0_3.index (pointOf (i 0) (i 1)) 2 * 3072 ≤ (i 2).val ∧ (i 2).val < win0_3.index (pointOf (i 0) (i 1)) 2 * 3072 + 3072
      omega

/-- Weight 2, as the launch finds it. -/
abbrev a2 (c : Dev nD) : Cert.ProdMath.M2 1024 2048 := m ((c : Thread nD τ).loc main_arg2)

theorem index_2 : ∀ t : Fin grid0.N, win0_2.index t 0 = 0 ∧ win0_2.index t 1 = 0 := by decide +kernel
theorem index_4 : ∀ t : Fin grid0.N, win0_4.index t 0 = t.val / 4 ∧ win0_4.index t 1 = t.val % 4 ∧ win0_4.index t 2 = 0 := by decide +kernel

theorem V_2 (c : Dev nD) (j : Fin 2048) (k : Fin 1024) : V m c main_v4 (ix2 j k) = m ((c : Thread nD τ).loc main_arg2) (ix2 k j) := by
  unfold V
  after_reads_at

theorem iblk_2 (c : Dev nD) (t : Fin cfg0.N) (j : Fin 2048) (k : Fin 1024) : iblk m c 2 t (ix2 j k) = a2 m c (ix2 k j) := by
  refine Eq.trans ?_ (V_2 m c j k)
  show V m c main_v4 (((cfg0.win 2).blk t).view.emb (ix2 j k)) = _
  refine congrArg _ (funext fun a => Fin.ext ?_)
  obtain ⟨h0, h1⟩ := index_2 t
  fin_cases a
  · show win0_2.index t 0 * 2048 + 1 * j.val = j.val
    omega
  · show win0_2.index t 1 * 1024 + 1 * k.val = k.val
    omega

theorem pay_2 (x0 : Vec Ideal S1x512x1024 .bf16) (w : Vec Ideal S2048x1024 .bf16) (r : Fin 512) (j : Fin 2048) :
    k0_pay3 (F := Ideal) x0 w (ix3 0 r j) = ∑ k : Fin 1024, (x0 (ix3 0 r k) : EReal) * (w (ix2 j k) : EReal) := by
  unfold k0_pay3 k0_pay1
  pointwise

theorem out_2 (x0 : Vec Ideal S1x512x1024 .bf16) (x1 : Vec Ideal S3072x1024 .bf16) (x2 : Vec Ideal S2048x1024 .bf16) (r : Fin 512) (j : Fin 2048) :
    out0_4 x0 x1 x2 (ix3 0 r j) = ∑ k : Fin 1024, (x0 (ix3 0 r k) : EReal) * (x2 (ix2 j k) : EReal) := by
  unfold out0_4
  rw [View.canon_unit_zero hz3]
  simp only [View.ld_unit_zero (S := S1x512x1024) hz3, View.ld_unit_zero (S := S2048x1024) hz2]
  exact pay_2 _ _ r j

/-- Output 4 after the run. -/
theorem final_4 (c : Dev nD) : (dats m 0 c).arrAt 4 cfg0.N = Cert.ProdMath.times (aX m c) (a2 m c) := by
  refine (dats m 0 c).arrAt_eq_of_cover 4 (Cert.ProdMath.times (aX m c) (a2 m c)) (fun t hf => ?_) (fun i => ?_)
  · obtain ⟨h0, h1, h2⟩ := index_4 t
    rw [Value.flushed4]
    funext j
    change S1x512x2048.Idx at j
    obtain ⟨z, r, e, rfl⟩ : ∃ z r e, j = ix3 z r e := ⟨j 0, j 1, j 2, eq_ix3 j⟩
    obtain rfl : z = 0 := Subsingleton.elim _ _
    refine (out_2 (iblk m c 0 t) (iblk m c 1 t) (iblk m c 2 t) r e).trans (Eq.trans (b := Cert.ProdMath.times (aX m c) (a2 m c) (ix3 (seqOf t) (rowOf t r) e))
      (Finset.sum_congr rfl fun k _ => by rw [iblk_0, iblk_2]; rfl) (congrArg (Cert.ProdMath.times (aX m c) (a2 m c)) (funext fun a => Fin.ext ?_)))
    fin_cases a
    · show t.val / 4 = win0_4.index t 0 * 1 + 1 * 0
      omega
    · show t.val % 4 * 512 + r.val = win0_4.index t 1 * 512 + 1 * r.val
      omega
    · show e.val = win0_4.index t 2 * 2048 + 1 * e.val
      omega
  · have i0 : (i 0).val < 2 := (i 0).isLt
    have i1 : (i 1).val < 2048 := (i 1).isLt
    have i2 : (i 2).val < 2048 := (i 2).isLt
    obtain ⟨h0, h1, h2⟩ := index_4 (pointOf (i 0) (i 1))
    have hp : (pointOf (i 0) (i 1)).val = (i 0).val * 4 + (i 1).val / 512 := rfl
    refine ⟨pointOf (i 0) (i 1), flush0_4 _, ?_⟩
    show i ∈ ((View.whole main_v5_1).slice (win0_4.rect (pointOf (i 0) (i 1)))).set
    rw [View.set_slice_whole, Rect.mem_set_unit]
    intro a
    fin_cases a
    · show win0_4.index (pointOf (i 0) (i 1)) 0 * 1 ≤ (i 0).val ∧ (i 0).val < win0_4.index (pointOf (i 0) (i 1)) 0 * 1 + 1
      omega
    · show win0_4.index (pointOf (i 0) (i 1)) 1 * 512 ≤ (i 1).val ∧ (i 1).val < win0_4.index (pointOf (i 0) (i 1)) 1 * 512 + 512
      omega
    · show win0_4.index (pointOf (i 0) (i 1)) 2 * 2048 ≤ (i 2).val ∧ (i 2).val < win0_4.index (pointOf (i 0) (i 1)) 2 * 2048 + 2048
      omega

end Cert.ProjXgIdeal.Prod

namespace Cert.ProjXgRefIdeal.Prod

open Cert.ProjXgRefIdeal Cert.ProjXgRefIdeal.Gen Idealize.ShloMosaic Idealize.ShloMosaic.TcCoe Idealize.SL.Sem

variable (m : (ℓ : Loc nD τ sig) → Buf (Elt Ideal) ℓ) (ρ : Dev nD → PrngReg)

abbrev aX (c : Dev nD) : Cert.ProdMath.M3 2 2048 1024 := m ((c : Thread nD τ).loc main_arg0)
abbrev a1 (c : Dev nD) : Cert.ProdMath.M2 1024 3072 := m ((c : Thread nD τ).loc main_arg1)
abbrev a2 (c : Dev nD) : Cert.ProdMath.M2 1024 2048 := m ((c : Thread nD τ).loc main_arg2)

theorem dot_1 (l : FVec Ideal S2x2048x1024 .f32) (r : FVec Ideal S1024x3072 .f32) :
    Host.dotGeneral dot_S2x2048x1024_S1024x3072_S2x2048x3072_2_0_01_1_n_n none l r = Cert.ProdMath.times l r := by
  funext i
  change S2x2048x3072.Idx at i
  idx_vars i
  pointwise
  rfl

theorem dot_2 (l : FVec Ideal S2x2048x1024 .f32) (r : FVec Ideal S1024x2048 .f32) :
    Host.dotGeneral dot_S2x2048x1024_S1024x2048_S2x2048x2048_2_0_01_1_n_n none l r = Cert.ProdMath.times l r := by
  funext i
  change S2x2048x2048.Idx at i
  idx_vars i
  pointwise
  rfl

theorem results : θ_run defs (onTc (τ := τ) (main (F := Ideal))) ⟨m, fun _ => 0, ρ⟩ fun r => ∀ c : Dev nD,
      r.2.mem ((c.tc : Thread nD τ).loc main_v0) = Cert.ProdMath.times (aX m c) (a1 m c)
      ∧ r.2.mem ((c.tc : Thread nD τ).loc main_v1) = Cert.ProdMath.times (aX m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run (F := Ideal) m ρ)
  obtain ⟨h1, h2, h⟩ := h c
  exact ⟨h1.trans (dot_1 _ _), h2.trans (dot_2 _ _), h⟩

end Cert.ProjXgRefIdeal.Prod

namespace Cert.ProjXgClaim

open Idealize.ShloMosaic Idealize.ShloMosaic.TcCoe Idealize.SL.Sem

theorem frame_ref : Cert.quiescent_ProjXgRefIdeal := fun m ρ _ =>
  (θ_run Cert.ProjXgRefIdeal.defs _ _).mono (fun r h => ⟨fun c => (h c).2.2, sem_eq_zero_of_no_sems (by decide) r.2⟩)
    (Cert.ProjXgRefIdeal.Prod.results m ρ)

theorem algebraic : Cert.algebraic_ProjXgIdeal_ProjXgRefIdeal := by
  intro m ρ m' ρ' _ hargs
  refine ⟨fun c => Cert.ProdMath.times (Cert.ProjXgIdeal.Prod.aX m c) (Cert.ProjXgIdeal.Prod.a1 m c), fun c => Cert.ProdMath.times (Cert.ProjXgIdeal.Prod.aX m c) (Cert.ProjXgIdeal.Prod.a2 m c), ?_, ?_⟩
  · refine (θ_run _ _ _).mono (fun r h c => ?_) (Cert.ProjXgIdeal.Value.run_blocks m ρ)
    obtain ⟨h1, h2, h⟩ := h c
    exact ⟨h1.trans (Cert.ProjXgIdeal.Prod.final_3 m c), h2.trans (Cert.ProjXgIdeal.Prod.final_4 m c), h⟩
  · refine (θ_run _ _ _).mono (fun r h c => ?_) (Cert.ProjXgRefIdeal.Prod.results m' ρ')
    obtain ⟨e0, e1, e2⟩ := hargs c
    obtain ⟨h1, h2, h⟩ := h c
    refine ⟨h1.trans ?_, h2.trans ?_, h⟩
    all_goals
      unfold Cert.ProjXgRefIdeal.Prod.aX
      simp only [e0, e1, e2]

end Cert.ProjXgClaim

end
-- ==== Proof.Prod.Order.lean ====
module

public import proofs.«01_k».proof.Proof.Prod.Math

@[expose] public section

noncomputable section

/-! The strided orders of the tokens: the residues of a dilation one after the other. -/

namespace Cert.ProdMath

open Idealize.ShloMosaic

/-- The position that stands at place `s` when the four residues modulo 4 follow one another. -/
def own4 (s : Fin 2048) : Fin 2048 := ⟨s.val % 512 * 4 + s.val / 512, by omega⟩
/-- The position that stands at place `s` when the sixteen residues modulo 16 follow one another. -/
def own16 (s : Fin 2048) : Fin 2048 := ⟨s.val % 128 * 16 + s.val / 128, by omega⟩

theorem own4_bij : Function.Bijective own4 :=
  Finite.injective_iff_bijective.mp fun a b h => Fin.ext (by
    have h' : a.val % 512 * 4 + a.val / 512 = b.val % 512 * 4 + b.val / 512 := congrArg Fin.val h
    omega)

theorem own16_bij : Function.Bijective own16 :=
  Finite.injective_iff_bijective.mp fun a b h => Fin.ext (by
    have h' : a.val % 128 * 16 + a.val / 128 = b.val % 128 * 16 + b.val / 128 := congrArg Fin.val h
    omega)

/-- A token array in another order of the positions. -/
def reorder {n : ℕ} (o : Fin 2048 → Fin 2048) (x : M3 2 2048 n) : M3 2 2048 n := fun i => x (ix3 (i 0) (o (i 1)) (i 2))

/-- A weight's gradient does not depend on the order of the positions. -/
theorem outer_reorder {n k : ℕ} (o : Fin 2048 → Fin 2048) (ho : Function.Bijective o) (l : M3 2 2048 n) (r : M3 2 2048 k) :
    outer (reorder o l) (reorder o r) = outer l r :=
  funext fun i => Finset.sum_congr rfl fun b _ =>
    Fintype.sum_bijective o ho _ (fun s => l (ix3 b s (i 0)) * r (ix3 b s (i 1))) fun _ => rfl

end Cert.ProdMath

end
-- ==== Proof.Prod.DwQkvB.lean ====
module

public import proofs.«01_k».proof.Defs
public import proofs.«01_k».proof.Proof.Gen.DwQkvBIdeal.Value
public import proofs.«01_k».proof.Proof.Gen.DwQkvBRefIdeal.Run
public import proofs.«01_k».proof.Proof.Prod.Order
public import Idealize.ShloMosaic.Lib.Pipeline.ValueKit.Acc
public import Idealize.ShloMosaic.Lib.StableHlo.ReadAt
public import Idealize.ShloMosaic.Lib.Quiescent

@[expose] public section

set_option maxRecDepth 16384

noncomputable section

/-! The gradient of the weight of a dilated group's queries, keys and values, from tokens in the group's own order. -/

namespace Cert.DwQkvBIdeal.Prod

open Cert.DwQkvBIdeal Cert.DwQkvBIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 4, by have := lt_of_lt_of_eq t.isLt (show cfg0.N = 8 from N_0); omega⟩
/-- The position of row `r` of point `t`'s block. -/
def rowOf (t : Fin cfg0.N) (r : Fin 512) : Fin 2048 := ⟨t.val % 4 * 512 + r.val, by omega⟩

theorem index_0 : ∀ t : Fin grid0.N, win0_0.index t 0 = t.val / 4 ∧ win0_0.index t 1 = t.val % 4 ∧ win0_0.index t 2 = 0 := by decide +kernel
theorem index_1 : ∀ t : Fin grid0.N, win0_1.index t 0 = t.val / 4 ∧ win0_1.index t 1 = t.val % 4 ∧ win0_1.index t 2 = 0 := by decide +kernel

/-- The arguments in the group's own order, as the launch finds them. -/
abbrev a0 (c : Dev nD) : Cert.ProdMath.M3 2 2048 1024 := Cert.ProdMath.reorder Cert.ProdMath.own4 (m ((c : Thread nD τ).loc main_arg0))
abbrev a1 (c : Dev nD) : Cert.ProdMath.M3 2 2048 2304 := Cert.ProdMath.reorder Cert.ProdMath.own4 (m ((c : Thread nD τ).loc main_arg1))

theorem V_0 (c : Dev nD) (n : Fin 2) (s : Fin 2048) (k : Fin 1024) : V m c main_v3 (ix3 n s k) = a0 m c (ix3 n s k) := by
  unfold V
  after_reads_at
  rfl

theorem V_1 (c : Dev nD) (n : Fin 2) (s : Fin 2048) (k : Fin 2304) : V m c main_v7 (ix3 n s k) = a1 m c (ix3 n s k) := by
  unfold V
  after_reads_at
  rfl

theorem iblk_0 (c : Dev nD) (t : Fin cfg0.N) (r : Fin 512) (k : Fin 1024) :
    iblk m c 0 t (ix3 0 r k) = a0 m c (ix3 (seqOf t) (rowOf t r) k) := by
  refine Eq.trans ?_ (V_0 m c (seqOf t) (rowOf t r) k)
  show V m c main_v3 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 4
    omega
  · show win0_0.index t 1 * 512 + 1 * r.val = t.val % 4 * 512 + r.val
    omega
  · show win0_0.index t 2 * 1024 + 1 * k.val = k.val
    omega

theorem iblk_1 (c : Dev nD) (t : Fin cfg0.N) (r : Fin 512) (k : Fin 2304) :
    iblk m c 1 t (ix3 0 r k) = a1 m c (ix3 (seqOf t) (rowOf t r) k) := by
  refine Eq.trans ?_ (V_1 m c (seqOf t) (rowOf t r) k)
  show V m c main_v7 (((cfg0.win 1).blk t).view.emb (ix3 0 r k)) = _
  refine congrArg _ (funext fun a => Fin.ext ?_)
  obtain ⟨h0, h1, h2⟩ := index_1 t
  fin_cases a
  · show win0_1.index t 0 * 1 + 1 * 0 = t.val / 4
    omega
  · show win0_1.index t 1 * 512 + 1 * r.val = t.val % 4 * 512 + r.val
    omega
  · show win0_1.index t 2 * 2304 + 1 * k.val = k.val
    omega

theorem pay_zero (j : Fin 2304) (e : Fin 1024) : k0_pay1 (F := Ideal) (ix2 j e) = (0 : EReal) := by
  unfold k0_pay1
  pointwise

/-- One block's product. -/
def part (x1 : Vec Ideal S1x512x2304 .bf16) (x0 : Vec Ideal S1x512x1024 .bf16) (j : Fin 2304) (e : Fin 1024) : EReal :=
  ∑ r : Fin 512, (x1 (ix3 0 r j) : EReal) * (x0 (ix3 0 r e) : EReal)

theorem pay_add (x0 : Vec Ideal S1x512x1024 .bf16) (x1 : Vec Ideal S1x512x2304 .bf16) (xs : Vec Ideal S2304x1024 .f32) (j : Fin 2304) (e : Fin 1024) :
    k0_pay2 x0 x1 xs (ix2 j e) = (xs (ix2 j e) : EReal) + part x1 x0 j e := by
  unfold k0_pay2 part
  pointwise

/-- What point `t` adds. -/
def addAt (c : Dev nD) (j : Fin 2304) (e : Fin 1024) (t : Fin cfg0.N) : EReal :=
  ∑ r : Fin 512, a1 m c (ix3 (seqOf t) (rowOf t r) j) * a0 m c (ix3 (seqOf t) (rowOf t r) e)

theorem add_eq (c : Dev nD) (j : Fin 2304) (e : Fin 1024) (t : Fin cfg0.N) :
    part (iblk m c 1 t) (iblk m c 0 t) j e = addAt m c j e t :=
  Finset.sum_congr rfl fun r _ => by rw [iblk_0, iblk_1]

theorem step_A (c : Dev nD) (t : Fin cfg0.N) (h0 : t.val % 8 = 0) (h1 : ¬t.val % 8 = 7) (j : Fin 2304) (e : Fin 1024) :
    (outsAt0 m c t.val t.isLt).2 (ix2 j e) = addAt m c j e t := by
  rw [outsAt0_A m c t h0 h1]
  frame_out
  rw [pay_add, pay_zero, zero_add, add_eq]

theorem step_B (c : Dev nD) (t : Fin cfg0.N) (h0 : ¬t.val % 8 = 0) (h1 : ¬t.val % 8 = 7) (j : Fin 2304) (e : Fin 1024) :
    (outsAt0 m c t.val t.isLt).2 (ix2 j e)
      = ((outsAt0 m c (t.val - 1) (Nat.lt_of_le_of_lt (Nat.sub_le _ _) t.isLt)).2 (ix2 j e) : EReal) + addAt m c j e t := by
  rw [outsAt0_B m c t h0 h1]
  frame_out
  rw [pay_add, add_eq]
  exact congrArg (· + addAt m c j e t) (congrFun (Memref.IsWhole.read_unread (Memref.isWhole_whole cc0_scratch0) _) (ix2 j e))

theorem step_C (c : Dev nD) (t : Fin cfg0.N) (h0 : ¬t.val % 8 = 0) (h1 : t.val % 8 = 7) (j : Fin 2304) (e : Fin 1024) :
    (outsAt0 m c t.val t.isLt).1 (ix2 j e)
      = ((outsAt0 m c (t.val - 1) (Nat.lt_of_le_of_lt (Nat.sub_le _ _) t.isLt)).2 (ix2 j e) : EReal) + addAt m c j e t := by
  rw [outsAt0_C m c t h0 h1]
  frame_out
  unfold k0_pay3
  show k0_pay2 (F := Ideal) (iblk m c 0 t) (iblk m c 1 t) _ (ix2 j e) = _
  rw [pay_add, add_eq]
  exact congrArg (· + addAt m c j e t) (congrFun (Memref.IsWhole.read_unread (Memref.isWhole_whole cc0_scratch0) _) (ix2 j e))

/-- After point `n`, before the last, the accumulator holds what the points up to `n` add. -/
theorem acc (c : Dev nD) (j : Fin 2304) (e : Fin 1024) : ∀ (n : ℕ) (h : n < cfg0.N) (h7 : n < 7),
    (outsAt0 m c n h).2 (ix2 j e) = ∑ k : Fin (n + 1), addAt m c j e ⟨k.val, by omega⟩
  | 0, h, _ => by
    rw [show (outsAt0 m c 0 h).2 (ix2 j e) = _ from step_A m c ⟨0, h⟩ rfl (show ¬(0 % 8 = 7) by decide) j e, Fin.sum_univ_one]; rfl
  | n + 1, h, h7 => by
    rw [show (outsAt0 m c (n + 1) h).2 (ix2 j e) = _ from step_B m c ⟨n + 1, h⟩ (by dsimp only; omega) (by dsimp only; omega) j e, Fin.sum_univ_castSucc]
    exact congrArg (· + _) (acc c j e n _ (by omega))

set_option maxHeartbeats 1000000 in
theorem last (c : Dev nD) (j : Fin 2304) (e : Fin 1024) (h : 7 < cfg0.N) :
    (outsAt0 m c 7 h).1 (ix2 j e) = Cert.ProdMath.outer (a1 m c) (a0 m c) (ix2 j e) := by
  refine Eq.trans ?_ (Cert.ProdMath.sum_blocks fun n s => a1 m c (ix3 n s j) * a0 m c (ix3 n s e))
  refine (step_C m c ⟨7, h⟩ (show ¬(7 % 8 = 0) by decide) rfl j e).trans
    ((congrArg (· + addAt m c j e ⟨7, h⟩) (acc m c j e 6 (by omega) (by decide))).trans ?_)
  exact (Fin.sum_univ_castSucc (fun k : Fin 8 => addAt m c j e ⟨k.val, lt_of_lt_of_eq k.isLt N_0.symm⟩)).symm

theorem final (c : Dev nD) : (dats m 0 c).arrAt 2 cfg0.N = Cert.ProdMath.outer (a1 m c) (a0 m c) := by
  refine (Value.final2 m c).trans ((Value.G2_last m c).trans ((congrArg (fun p => p.1) (Value.outsAt0_sweep m c 7 (lt_of_lt_of_eq (by decide) N_0.symm)).symm).trans ?_))
  funext i
  change S2304x1024.Idx at i
  obtain ⟨j, e, rfl⟩ : ∃ j e, i = ix2 j e := ⟨i 0, i 1, eq_ix2 i⟩
  exact last m c j e _

end Cert.DwQkvBIdeal.Prod

namespace Cert.DwQkvBRefIdeal.Prod

open Cert.DwQkvBRefIdeal Cert.DwQkvBRefIdeal.Gen Idealize.ShloMosaic Idealize.ShloMosaic.TcCoe Idealize.SL.Sem

variable (m : (ℓ : Loc nD τ sig) → Buf (Elt Ideal) ℓ) (ρ : Dev nD → PrngReg)

abbrev a0 (c : Dev nD) : Cert.ProdMath.M3 2 2048 1024 := m ((c : Thread nD τ).loc main_arg0)
abbrev a1 (c : Dev nD) : Cert.ProdMath.M3 2 2048 2304 := m ((c : Thread nD τ).loc main_arg1)

theorem dot_0 (l : FVec Ideal S2x2048x2304 .f32) (r : FVec Ideal S2x2048x1024 .f32) :
    Host.dotGeneral dot_S2x2048x2304_S2x2048x1024_S2304x1024_01_01_2_2_n_n none l r = Cert.ProdMath.outer l r := by
  funext i
  change S2304x1024.Idx at i
  idx_vars i
  pointwise
  rfl

theorem results : θ_run defs (onTc (τ := τ) (main (F := Ideal))) ⟨m, fun _ => 0, ρ⟩ fun r => ∀ c : Dev nD,
      r.2.mem ((c.tc : Thread nD τ).loc main_v5) = Cert.ProdMath.outer (a1 m c) (a0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h0, h⟩ := h c
  refine ⟨h0.trans ?_, h⟩
  clear h0 h
  rw [dot_0]
  funext i
  change S2304x1024.Idx at i
  idx_vars i
  pointwise

end Cert.DwQkvBRefIdeal.Prod

namespace Cert.DwQkvBClaim

open Idealize.ShloMosaic Idealize.ShloMosaic.TcCoe Idealize.SL.Sem

theorem frame_ref : Cert.quiescent_DwQkvBRefIdeal := fun m ρ _ =>
  (θ_run Cert.DwQkvBRefIdeal.defs _ _).mono (fun r h => ⟨fun c => (h c).2, sem_eq_zero_of_no_sems (by decide) r.2⟩)
    (Cert.DwQkvBRefIdeal.Prod.results m ρ)

theorem algebraic : Cert.algebraic_DwQkvBIdeal_DwQkvBRefIdeal := by
  intro m ρ m' ρ' _ hargs
  refine ⟨fun c => Cert.ProdMath.outer (n := 2304) (k := 1024) (m ((c : Thread Cert.DwQkvBIdeal.nD Cert.DwQkvBIdeal.τ).loc Cert.DwQkvBIdeal.main_arg1)) (m ((c : Thread Cert.DwQkvBIdeal.nD Cert.DwQkvBIdeal.τ).loc Cert.DwQkvBIdeal.main_arg0)), ?_, ?_⟩
  · refine (θ_run _ _ _).mono (fun r h c => ?_) (Cert.DwQkvBIdeal.Value.run_blocks m ρ)
    obtain ⟨h0, h⟩ := h c
    exact ⟨h0.trans ((Cert.DwQkvBIdeal.Prod.final m c).trans (Cert.ProdMath.outer_reorder _ Cert.ProdMath.own4_bij _ _)), h⟩
  · refine (θ_run _ _ _).mono (fun r h c => ?_) (Cert.DwQkvBRefIdeal.Prod.results m' ρ')
    obtain ⟨e0, e1⟩ := hargs c
    obtain ⟨h0, h⟩ := h c
    refine ⟨h0.trans ?_, h⟩
    unfold Cert.DwQkvBRefIdeal.Prod.a0 Cert.DwQkvBRefIdeal.Prod.a1
    simp only [e0, e1]

end Cert.DwQkvBClaim

end
-- ==== Proof.Prod.DwQkvC.lean ====
module

public import proofs.«01_k».proof.Defs
public import proofs.«01_k».proof.Proof.Gen.DwQkvCIdeal.Value
public import proofs.«01_k».proof.Proof.Gen.DwQkvCRefIdeal.Run
public import proofs.«01_k».proof.Proof.Prod.Order
public import Idealize.ShloMosaic.Lib.Pipeline.ValueKit.Acc
public import Idealize.ShloMosaic.Lib.StableHlo.ReadAt
public import Idealize.ShloMosaic.Lib.Quiescent

@[expose] public section

set_option maxRecDepth 16384

noncomputable section

/-! The gradient of the weight of a dilated group's queries, keys and values, from tokens in the group's own order. -/

namespace Cert.DwQkvCIdeal.Prod

open Cert.DwQkvCIdeal Cert.DwQkvCIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 4, by have := lt_of_lt_of_eq t.isLt (show cfg0.N = 8 from N_0); omega⟩
/-- The position of row `r` of point `t`'s block. -/
def rowOf (t : Fin cfg0.N) (r : Fin 512) : Fin 2048 := ⟨t.val % 4 * 512 + r.val, by omega⟩

theorem index_0 : ∀ t : Fin grid0.N, win0_0.index t 0 = t.val / 4 ∧ win0_0.index t 1 = t.val % 4 ∧ win0_0.index t 2 = 0 := by decide +kernel
theorem index_1 : ∀ t : Fin grid0.N, win0_1.index t 0 = t.val / 4 ∧ win0_1.index t 1 = t.val % 4 ∧ win0_1.index t 2 = 0 := by decide +kernel

/-- The arguments in the group's own order, as the launch finds them. -/
abbrev a0 (c : Dev nD) : Cert.ProdMath.M3 2 2048 1024 := Cert.ProdMath.reorder Cert.ProdMath.own16 (m ((c : Thread nD τ).loc main_arg0))
abbrev a1 (c : Dev nD) : Cert.ProdMath.M3 2 2048 2304 := Cert.ProdMath.reorder Cert.ProdMath.own16 (m ((c : Thread nD τ).loc main_arg1))

theorem V_0 (c : Dev nD) (n : Fin 2) (s : Fin 2048) (k : Fin 1024) : V m c main_v3 (ix3 n s k) = a0 m c (ix3 n s k) := by
  unfold V
  after_reads_at
  rfl

theorem V_1 (c : Dev nD) (n : Fin 2) (s : Fin 2048) (k : Fin 2304) : V m c main_v7 (ix3 n s k) = a1 m c (ix3 n s k) := by
  unfold V
  after_reads_at
  rfl

theorem iblk_0 (c : Dev nD) (t : Fin cfg0.N) (r : Fin 512) (k : Fin 1024) :
    iblk m c 0 t (ix3 0 r k) = a0 m c (ix3 (seqOf t) (rowOf t r) k) := by
  refine Eq.trans ?_ (V_0 m c (seqOf t) (rowOf t r) k)
  show V m c main_v3 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 4
    omega
  · show win0_0.index t 1 * 512 + 1 * r.val = t.val % 4 * 512 + r.val
    omega
  · show win0_0.index t 2 * 1024 + 1 * k.val = k.val
    omega

theorem iblk_1 (c : Dev nD) (t : Fin cfg0.N) (r : Fin 512) (k : Fin 2304) :
    iblk m c 1 t (ix3 0 r k) = a1 m c (ix3 (seqOf t) (rowOf t r) k) := by
  refine Eq.trans ?_ (V_1 m c (seqOf t) (rowOf t r) k)
  show V m c main_v7 (((cfg0.win 1).blk t).view.emb (ix3 0 r k)) = _
  refine congrArg _ (funext fun a => Fin.ext ?_)
  obtain ⟨h0, h1, h2⟩ := index_1 t
  fin_cases a
  · show win0_1.index t 0 * 1 + 1 * 0 = t.val / 4
    omega
  · show win0_1.index t 1 * 512 + 1 * r.val = t.val % 4 * 512 + r.val
    omega
  · show win0_1.index t 2 * 2304 + 1 * k.val = k.val
    omega

theorem pay_zero (j : Fin 2304) (e : Fin 1024) : k0_pay1 (F := Ideal) (ix2 j e) = (0 : EReal) := by
  unfold k0_pay1
  pointwise

/-- One block's product. -/
def part (x1 : Vec Ideal S1x512x2304 .bf16) (x0 : Vec Ideal S1x512x1024 .bf16) (j : Fin 2304) (e : Fin 1024) : EReal :=
  ∑ r : Fin 512, (x1 (ix3 0 r j) : EReal) * (x0 (ix3 0 r e) : EReal)

theorem pay_add (x0 : Vec Ideal S1x512x1024 .bf16) (x1 : Vec Ideal S1x512x2304 .bf16) (xs : Vec Ideal S2304x1024 .f32) (j : Fin 2304) (e : Fin 1024) :
    k0_pay2 x0 x1 xs (ix2 j e) = (xs (ix2 j e) : EReal) + part x1 x0 j e := by
  unfold k0_pay2 part
  pointwise

/-- What point `t` adds. -/
def addAt (c : Dev nD) (j : Fin 2304) (e : Fin 1024) (t : Fin cfg0.N) : EReal :=
  ∑ r : Fin 512, a1 m c (ix3 (seqOf t) (rowOf t r) j) * a0 m c (ix3 (seqOf t) (rowOf t r) e)

theorem add_eq (c : Dev nD) (j : Fin 2304) (e : Fin 1024) (t : Fin cfg0.N) :
    part (iblk m c 1 t) (iblk m c 0 t) j e = addAt m c j e t :=
  Finset.sum_congr rfl fun r _ => by rw [iblk_0, iblk_1]

theorem step_A (c : Dev nD) (t : Fin cfg0.N) (h0 : t.val % 8 = 0) (h1 : ¬t.val % 8 = 7) (j : Fin 2304) (e : Fin 1024) :
    (outsAt0 m c t.val t.isLt).2 (ix2 j e) = addAt m c j e t := by
  rw [outsAt0_A m c t h0 h1]
  frame_out
  rw [pay_add, pay_zero, zero_add, add_eq]

theorem step_B (c : Dev nD) (t : Fin cfg0.N) (h0 : ¬t.val % 8 = 0) (h1 : ¬t.val % 8 = 7) (j : Fin 2304) (e : Fin 1024) :
    (outsAt0 m c t.val t.isLt).2 (ix2 j e)
      = ((outsAt0 m c (t.val - 1) (Nat.lt_of_le_of_lt (Nat.sub_le _ _) t.isLt)).2 (ix2 j e) : EReal) + addAt m c j e t := by
  rw [outsAt0_B m c t h0 h1]
  frame_out
  rw [pay_add, add_eq]
  exact congrArg (· + addAt m c j e t) (congrFun (Memref.IsWhole.read_unread (Memref.isWhole_whole cc0_scratch0) _) (ix2 j e))

theorem step_C (c : Dev nD) (t : Fin cfg0.N) (h0 : ¬t.val % 8 = 0) (h1 : t.val % 8 = 7) (j : Fin 2304) (e : Fin 1024) :
    (outsAt0 m c t.val t.isLt).1 (ix2 j e)
      = ((outsAt0 m c (t.val - 1) (Nat.lt_of_le_of_lt (Nat.sub_le _ _) t.isLt)).2 (ix2 j e) : EReal) + addAt m c j e t := by
  rw [outsAt0_C m c t h0 h1]
  frame_out
  unfold k0_pay3
  show k0_pay2 (F := Ideal) (iblk m c 0 t) (iblk m c 1 t) _ (ix2 j e) = _
  rw [pay_add, add_eq]
  exact congrArg (· + addAt m c j e t) (congrFun (Memref.IsWhole.read_unread (Memref.isWhole_whole cc0_scratch0) _) (ix2 j e))

/-- After point `n`, before the last, the accumulator holds what the points up to `n` add. -/
theorem acc (c : Dev nD) (j : Fin 2304) (e : Fin 1024) : ∀ (n : ℕ) (h : n < cfg0.N) (h7 : n < 7),
    (outsAt0 m c n h).2 (ix2 j e) = ∑ k : Fin (n + 1), addAt m c j e ⟨k.val, by omega⟩
  | 0, h, _ => by
    rw [show (outsAt0 m c 0 h).2 (ix2 j e) = _ from step_A m c ⟨0, h⟩ rfl (show ¬(0 % 8 = 7) by decide) j e, Fin.sum_univ_one]; rfl
  | n + 1, h, h7 => by
    rw [show (outsAt0 m c (n + 1) h).2 (ix2 j e) = _ from step_B m c ⟨n + 1, h⟩ (by dsimp only; omega) (by dsimp only; omega) j e, Fin.sum_univ_castSucc]
    exact congrArg (· + _) (acc c j e n _ (by omega))

set_option maxHeartbeats 1000000 in
theorem last (c : Dev nD) (j : Fin 2304) (e : Fin 1024) (h : 7 < cfg0.N) :
    (outsAt0 m c 7 h).1 (ix2 j e) = Cert.ProdMath.outer (a1 m c) (a0 m c) (ix2 j e) := by
  refine Eq.trans ?_ (Cert.ProdMath.sum_blocks fun n s => a1 m c (ix3 n s j) * a0 m c (ix3 n s e))
  refine (step_C m c ⟨7, h⟩ (show ¬(7 % 8 = 0) by decide) rfl j e).trans
    ((congrArg (· + addAt m c j e ⟨7, h⟩) (acc m c j e 6 (by omega) (by decide))).trans ?_)
  exact (Fin.sum_univ_castSucc (fun k : Fin 8 => addAt m c j e ⟨k.val, lt_of_lt_of_eq k.isLt N_0.symm⟩)).symm

theorem final (c : Dev nD) : (dats m 0 c).arrAt 2 cfg0.N = Cert.ProdMath.outer (a1 m c) (a0 m c) := by
  refine (Value.final2 m c).trans ((Value.G2_last m c).trans ((congrArg (fun p => p.1) (Value.outsAt0_sweep m c 7 (lt_of_lt_of_eq (by decide) N_0.symm)).symm).trans ?_))
  funext i
  change S2304x1024.Idx at i
  obtain ⟨j, e, rfl⟩ : ∃ j e, i = ix2 j e := ⟨i 0, i 1, eq_ix2 i⟩
  exact last m c j e _

end Cert.DwQkvCIdeal.Prod

namespace Cert.DwQkvCRefIdeal.Prod

open Cert.DwQkvCRefIdeal Cert.DwQkvCRefIdeal.Gen Idealize.ShloMosaic Idealize.ShloMosaic.TcCoe Idealize.SL.Sem

variable (m : (ℓ : Loc nD τ sig) → Buf (Elt Ideal) ℓ) (ρ : Dev nD → PrngReg)

abbrev a0 (c : Dev nD) : Cert.ProdMath.M3 2 2048 1024 := m ((c : Thread nD τ).loc main_arg0)
abbrev a1 (c : Dev nD) : Cert.ProdMath.M3 2 2048 2304 := m ((c : Thread nD τ).loc main_arg1)

theorem dot_0 (l : FVec Ideal S2x2048x2304 .f32) (r : FVec Ideal S2x2048x1024 .f32) :
    Host.dotGeneral dot_S2x2048x2304_S2x2048x1024_S2304x1024_01_01_2_2_n_n none l r = Cert.ProdMath.outer l r := by
  funext i
  change S2304x1024.Idx at i
  idx_vars i
  pointwise
  rfl

theorem results : θ_run defs (onTc (τ := τ) (main (F := Ideal))) ⟨m, fun _ => 0, ρ⟩ fun r => ∀ c : Dev nD,
      r.2.mem ((c.tc : Thread nD τ).loc main_v5) = Cert.ProdMath.outer (a1 m c) (a0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h0, h⟩ := h c
  refine ⟨h0.trans ?_, h⟩
  clear h0 h
  rw [dot_0]
  funext i
  change S2304x1024.Idx at i
  idx_vars i
  pointwise

end Cert.DwQkvCRefIdeal.Prod

namespace Cert.DwQkvCClaim

open Idealize.ShloMosaic Idealize.ShloMosaic.TcCoe Idealize.SL.Sem

theorem frame_ref : Cert.quiescent_DwQkvCRefIdeal := fun m ρ _ =>
  (θ_run Cert.DwQkvCRefIdeal.defs _ _).mono (fun r h => ⟨fun c => (h c).2, sem_eq_zero_of_no_sems (by decide) r.2⟩)
    (Cert.DwQkvCRefIdeal.Prod.results m ρ)

theorem algebraic : Cert.algebraic_DwQkvCIdeal_DwQkvCRefIdeal := by
  intro m ρ m' ρ' _ hargs
  refine ⟨fun c => Cert.ProdMath.outer (n := 2304) (k := 1024) (m ((c : Thread Cert.DwQkvCIdeal.nD Cert.DwQkvCIdeal.τ).loc Cert.DwQkvCIdeal.main_arg1)) (m ((c : Thread Cert.DwQkvCIdeal.nD Cert.DwQkvCIdeal.τ).loc Cert.DwQkvCIdeal.main_arg0)), ?_, ?_⟩
  · refine (θ_run _ _ _).mono (fun r h c => ?_) (Cert.DwQkvCIdeal.Value.run_blocks m ρ)
    obtain ⟨h0, h⟩ := h c
    exact ⟨h0.trans ((Cert.DwQkvCIdeal.Prod.final m c).trans (Cert.ProdMath.outer_reorder _ Cert.ProdMath.own16_bij _ _)), h⟩
  · refine (θ_run _ _ _).mono (fun r h c => ?_) (Cert.DwQkvCRefIdeal.Prod.results m' ρ')
    obtain ⟨e0, e1⟩ := hargs c
    obtain ⟨h0, h⟩ := h c
    refine ⟨h0.trans ?_, h⟩
    unfold Cert.DwQkvCRefIdeal.Prod.a0 Cert.DwQkvCRefIdeal.Prod.a1
    simp only [e0, e1]

end Cert.DwQkvCClaim

end
-- ==== Proof.Prod.ProjQkvB.lean ====
module

public import proofs.«01_k».proof.Defs
public import proofs.«01_k».proof.Proof.Gen.ProjQkvBIdeal.Value
public import proofs.«01_k».proof.Proof.Gen.ProjQkvBRefIdeal.Run
public import proofs.«01_k».proof.Proof.Prod.Order
public import Idealize.ShloMosaic.Lib.StableHlo.ReadAt
public import Idealize.ShloMosaic.Lib.Quiescent

@[expose] public section

set_option maxRecDepth 16384

noncomputable section

/-! The projection to a dilated group's queries, keys and values, with tokens in the group's own order. -/

namespace Cert.ProjQkvBIdeal.Prod

open Cert.ProjQkvBIdeal Cert.ProjQkvBIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 2, by have := lt_of_lt_of_eq t.isLt (show cfg0.N = 4 from N_0); omega⟩
/-- The position of row `r` of point `t`'s block. -/
def rowOf (t : Fin cfg0.N) (r : Fin 1024) : Fin 2048 := ⟨t.val % 2 * 1024 + r.val, by omega⟩
/-- The point whose block holds position `s` of sequence `n`. -/
def pointOf (n : Fin 2) (s : Fin 2048) : Fin cfg0.N := ⟨n.val * 2 + s.val / 1024, by rw [show cfg0.N = 4 from N_0]; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The token array in the group's own order, as the launch finds it. -/
abbrev aX (c : Dev nD) : Cert.ProdMath.M3 2 2048 1024 := Cert.ProdMath.reorder Cert.ProdMath.own4 (m ((c : Thread nD τ).loc main_arg0))

theorem index_0 : ∀ t : Fin grid0.N, win0_0.index t 0 = t.val / 2 ∧ win0_0.index t 1 = t.val % 2 ∧ win0_0.index t 2 = 0 := by decide +kernel

theorem V_0 (c : Dev nD) (n : Fin 2) (s : Fin 2048) (k : Fin 1024) : V m c main_v3 (ix3 n s k) = aX m c (ix3 n s k) := by
  unfold V
  after_reads_at
  rfl

theorem iblk_0 (c : Dev nD) (t : Fin cfg0.N) (r : Fin 1024) (k : Fin 1024) :
    iblk m c 0 t (ix3 0 r k) = aX m c (ix3 (seqOf t) (rowOf t r) k) := by
  refine Eq.trans ?_ (V_0 m c (seqOf t) (rowOf t r) k)
  show V m c main_v3 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 2
    omega
  · show win0_0.index t 1 * 1024 + 1 * r.val = t.val % 2 * 1024 + r.val
    omega
  · show win0_0.index t 2 * 1024 + 1 * k.val = k.val
    omega

/-- Weight 1, as the launch finds it. -/
abbrev a1 (c : Dev nD) : Cert.ProdMath.M2 1024 2304 := m ((c : Thread nD τ).loc main_arg1)

theorem index_1 : ∀ t : Fin grid0.N, win0_1.index t 0 = 0 ∧ win0_1.index t 1 = 0 := by decide +kernel
theorem index_2 : ∀ t : Fin grid0.N, win0_2.index t 0 = t.val / 2 ∧ win0_2.index t 1 = t.val % 2 ∧ win0_2.index t 2 = 0 := by decide +kernel

theorem V_1 (c : Dev nD) (j : Fin 2304) (k : Fin 1024) : V m c main_v5 (ix2 j k) = m ((c : Thread nD τ).loc main_arg1) (ix2 k j) := by
  unfold V
  after_reads_at

theorem iblk_1 (c : Dev nD) (t : Fin cfg0.N) (j : Fin 2304) (k : Fin 1024) : iblk m c 1 t (ix2 j k) = a1 m c (ix2 k j) := by
  refine Eq.trans ?_ (V_1 m c j k)
  show V m c main_v5 (((cfg0.win 1).blk t).view.emb (ix2 j k)) = _
  refine congrArg _ (funext fun a => Fin.ext ?_)
  obtain ⟨h0, h1⟩ := index_1 t
  fin_cases a
  · show win0_1.index t 0 * 2304 + 1 * j.val = j.val
    omega
  · show win0_1.index t 1 * 1024 + 1 * k.val = k.val
    omega

theorem pay_1 (x0 : Vec Ideal S1x1024x1024 .bf16) (w : Vec Ideal S2304x1024 .bf16) (r : Fin 1024) (j : Fin 2304) :
    k0_pay1 (F := Ideal) x0 w (ix3 0 r j) = ∑ k : Fin 1024, (x0 (ix3 0 r k) : EReal) * (w (ix2 j k) : EReal) := by
  unfold k0_pay1
  pointwise

theorem out_1 (x0 : Vec Ideal S1x1024x1024 .bf16) (x1 : Vec Ideal S2304x1024 .bf16) (r : Fin 1024) (j : Fin 2304) :
    out0_2 x0 x1 (ix3 0 r j) = ∑ k : Fin 1024, (x0 (ix3 0 r k) : EReal) * (x1 (ix2 j k) : EReal) := by
  unfold out0_2
  rw [View.canon_unit_zero hz3]
  simp only [View.ld_unit_zero (S := S1x1024x1024) hz3, View.ld_unit_zero (S := S2304x1024) hz2]
  exact pay_1 _ _ r j

/-- Output 2 after the run. -/
theorem final_2 (c : Dev nD) : (dats m 0 c).arrAt 2 cfg0.N = Cert.ProdMath.times (aX m c) (a1 m c) := by
  refine (dats m 0 c).arrAt_eq_of_cover 2 (Cert.ProdMath.times (aX m c) (a1 m c)) (fun t hf => ?_) (fun i => ?_)
  · obtain ⟨h0, h1, h2⟩ := index_2 t
    rw [Value.flushed2]
    funext j
    change S1x1024x2304.Idx at j
    obtain ⟨z, r, e, rfl⟩ : ∃ z r e, j = ix3 z r e := ⟨j 0, j 1, j 2, eq_ix3 j⟩
    obtain rfl : z = 0 := Subsingleton.elim _ _
    refine (out_1 (iblk m c 0 t) (iblk m c 1 t) r e).trans (Eq.trans (b := Cert.ProdMath.times (aX m c) (a1 m c) (ix3 (seqOf t) (rowOf t r) e))
      (Finset.sum_congr rfl fun k _ => by rw [iblk_0, iblk_1]; rfl) (congrArg (Cert.ProdMath.times (aX m c) (a1 m c)) (funext fun a => Fin.ext ?_)))
    fin_cases a
    · show t.val / 2 = win0_2.index t 0 * 1 + 1 * 0
      omega
    · show t.val % 2 * 1024 + r.val = win0_2.index t 1 * 1024 + 1 * r.val
      omega
    · show e.val = win0_2.index t 2 * 2304 + 1 * e.val
      omega
  · have i0 : (i 0).val < 2 := (i 0).isLt
    have i1 : (i 1).val < 2048 := (i 1).isLt
    have i2 : (i 2).val < 2304 := (i 2).isLt
    obtain ⟨h0, h1, h2⟩ := index_2 (pointOf (i 0) (i 1))
    have hp : (pointOf (i 0) (i 1)).val = (i 0).val * 2 + (i 1).val / 1024 := rfl
    refine ⟨pointOf (i 0) (i 1), flush0_2 _, ?_⟩
    show i ∈ ((View.whole main_v6).slice (win0_2.rect (pointOf (i 0) (i 1)))).set
    rw [View.set_slice_whole, Rect.mem_set_unit]
    intro a
    fin_cases a
    · show win0_2.index (pointOf (i 0) (i 1)) 0 * 1 ≤ (i 0).val ∧ (i 0).val < win0_2.index (pointOf (i 0) (i 1)) 0 * 1 + 1
      omega
    · show win0_2.index (pointOf (i 0) (i 1)) 1 * 1024 ≤ (i 1).val ∧ (i 1).val < win0_2.index (pointOf (i 0) (i 1)) 1 * 1024 + 1024
      omega
    · show win0_2.index (pointOf (i 0) (i 1)) 2 * 2304 ≤ (i 2).val ∧ (i 2).val < win0_2.index (pointOf (i 0) (i 1)) 2 * 2304 + 2304
      omega

end Cert.ProjQkvBIdeal.Prod

namespace Cert.ProjQkvBRefIdeal.Prod

open Cert.ProjQkvBRefIdeal Cert.ProjQkvBRefIdeal.Gen Idealize.ShloMosaic Idealize.ShloMosaic.TcCoe Idealize.SL.Sem

variable (m : (ℓ : Loc nD τ sig) → Buf (Elt Ideal) ℓ) (ρ : Dev nD → PrngReg)

abbrev aX (c : Dev nD) : Cert.ProdMath.M3 2 2048 1024 := Cert.ProdMath.reorder Cert.ProdMath.own4 (m ((c : Thread nD τ).loc main_arg0))
abbrev a1 (c : Dev nD) : Cert.ProdMath.M2 1024 2304 := m ((c : Thread nD τ).loc main_arg1)

theorem dot_1 (l : FVec Ideal S2x2048x1024 .f32) (r : FVec Ideal S1024x2304 .f32) :
    Host.dotGeneral dot_S2x2048x1024_S1024x2304_S2x2048x2304_2_0_01_1_n_n none l r = Cert.ProdMath.times l r := by
  funext i
  change S2x2048x2304.Idx at i
  idx_vars i
  pointwise
  rfl

theorem results : θ_run defs (onTc (τ := τ) (main (F := Ideal))) ⟨m, fun _ => 0, ρ⟩ fun r => ∀ c : Dev nD,
      r.2.mem ((c.tc : Thread nD τ).loc main_v4) = Cert.ProdMath.times (aX m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h1, h⟩ := h c
  refine ⟨h1.trans ?_, h⟩
  clear h1 h
  rw [dot_1]
  funext i
  change S2x2048x2304.Idx at i
  idx_vars i
  pointwise
  rfl

end Cert.ProjQkvBRefIdeal.Prod

namespace Cert.ProjQkvBClaim

open Idealize.ShloMosaic Idealize.ShloMosaic.TcCoe Idealize.SL.Sem

theorem frame_ref : Cert.quiescent_ProjQkvBRefIdeal := fun m ρ _ =>
  (θ_run Cert.ProjQkvBRefIdeal.defs _ _).mono (fun r h => ⟨fun c => (h c).2, sem_eq_zero_of_no_sems (by decide) r.2⟩)
    (Cert.ProjQkvBRefIdeal.Prod.results m ρ)

theorem algebraic : Cert.algebraic_ProjQkvBIdeal_ProjQkvBRefIdeal := by
  intro m ρ m' ρ' _ hargs
  refine ⟨fun c => Cert.ProdMath.times (Cert.ProjQkvBIdeal.Prod.aX m c) (Cert.ProjQkvBIdeal.Prod.a1 m c), ?_, ?_⟩
  · refine (θ_run _ _ _).mono (fun r h c => ?_) (Cert.ProjQkvBIdeal.Value.run_blocks m ρ)
    obtain ⟨h1, h⟩ := h c
    exact ⟨h1.trans (Cert.ProjQkvBIdeal.Prod.final_2 m c), h⟩
  · refine (θ_run _ _ _).mono (fun r h c => ?_) (Cert.ProjQkvBRefIdeal.Prod.results m' ρ')
    obtain ⟨e0, e1⟩ := hargs c
    obtain ⟨h1, h⟩ := h c
    refine ⟨h1.trans ?_, h⟩
    all_goals
      unfold Cert.ProjQkvBRefIdeal.Prod.aX
      simp only [e0, e1]

end Cert.ProjQkvBClaim

end
-- ==== Proof.Prod.ProjQkvC.lean ====
module

public import proofs.«01_k».proof.Defs
public import proofs.«01_k».proof.Proof.Gen.ProjQkvCIdeal.Value
public import proofs.«01_k».proof.Proof.Gen.ProjQkvCRefIdeal.Run
public import proofs.«01_k».proof.Proof.Prod.Order
public import Idealize.ShloMosaic.Lib.StableHlo.ReadAt
public import Idealize.ShloMosaic.Lib.Quiescent

@[expose] public section

set_option maxRecDepth 16384

noncomputable section

/-! The projection to a dilated group's queries, keys and values, with tokens in the group's own order. -/

namespace Cert.ProjQkvCIdeal.Prod

open Cert.ProjQkvCIdeal Cert.ProjQkvCIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 2, by have := lt_of_lt_of_eq t.isLt (show cfg0.N = 4 from N_0); omega⟩
/-- The position of row `r` of point `t`'s block. -/
def rowOf (t : Fin cfg0.N) (r : Fin 1024) : Fin 2048 := ⟨t.val % 2 * 1024 + r.val, by omega⟩
/-- The point whose block holds position `s` of sequence `n`. -/
def pointOf (n : Fin 2) (s : Fin 2048) : Fin cfg0.N := ⟨n.val * 2 + s.val / 1024, by rw [show cfg0.N = 4 from N_0]; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The token array in the group's own order, as the launch finds it. -/
abbrev aX (c : Dev nD) : Cert.ProdMath.M3 2 2048 1024 := Cert.ProdMath.reorder Cert.ProdMath.own16 (m ((c : Thread nD τ).loc main_arg0))

theorem index_0 : ∀ t : Fin grid0.N, win0_0.index t 0 = t.val / 2 ∧ win0_0.index t 1 = t.val % 2 ∧ win0_0.index t 2 = 0 := by decide +kernel

theorem V_0 (c : Dev nD) (n : Fin 2) (s : Fin 2048) (k : Fin 1024) : V m c main_v3 (ix3 n s k) = aX m c (ix3 n s k) := by
  unfold V
  after_reads_at
  rfl

theorem iblk_0 (c : Dev nD) (t : Fin cfg0.N) (r : Fin 1024) (k : Fin 1024) :
    iblk m c 0 t (ix3 0 r k) = aX m c (ix3 (seqOf t) (rowOf t r) k) := by
  refine Eq.trans ?_ (V_0 m c (seqOf t) (rowOf t r) k)
  show V m c main_v3 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 2
    omega
  · show win0_0.index t 1 * 1024 + 1 * r.val = t.val % 2 * 1024 + r.val
    omega
  · show win0_0.index t 2 * 1024 + 1 * k.val = k.val
    omega

/-- Weight 1, as the launch finds it. -/
abbrev a1 (c : Dev nD) : Cert.ProdMath.M2 1024 2304 := m ((c : Thread nD τ).loc main_arg1)

theorem index_1 : ∀ t : Fin grid0.N, win0_1.index t 0 = 0 ∧ win0_1.index t 1 = 0 := by decide +kernel
theorem index_2 : ∀ t : Fin grid0.N, win0_2.index t 0 = t.val / 2 ∧ win0_2.index t 1 = t.val % 2 ∧ win0_2.index t 2 = 0 := by decide +kernel

theorem V_1 (c : Dev nD) (j : Fin 2304) (k : Fin 1024) : V m c main_v5 (ix2 j k) = m ((c : Thread nD τ).loc main_arg1) (ix2 k j) := by
  unfold V
  after_reads_at

theorem iblk_1 (c : Dev nD) (t : Fin cfg0.N) (j : Fin 2304) (k : Fin 1024) : iblk m c 1 t (ix2 j k) = a1 m c (ix2 k j) := by
  refine Eq.trans ?_ (V_1 m c j k)
  show V m c main_v5 (((cfg0.win 1).blk t).view.emb (ix2 j k)) = _
  refine congrArg _ (funext fun a => Fin.ext ?_)
  obtain ⟨h0, h1⟩ := index_1 t
  fin_cases a
  · show win0_1.index t 0 * 2304 + 1 * j.val = j.val
    omega
  · show win0_1.index t 1 * 1024 + 1 * k.val = k.val
    omega

theorem pay_1 (x0 : Vec Ideal S1x1024x1024 .bf16) (w : Vec Ideal S2304x1024 .bf16) (r : Fin 1024) (j : Fin 2304) :
    k0_pay1 (F := Ideal) x0 w (ix3 0 r j) = ∑ k : Fin 1024, (x0 (ix3 0 r k) : EReal) * (w (ix2 j k) : EReal) := by
  unfold k0_pay1
  pointwise

theorem out_1 (x0 : Vec Ideal S1x1024x1024 .bf16) (x1 : Vec Ideal S2304x1024 .bf16) (r : Fin 1024) (j : Fin 2304) :
    out0_2 x0 x1 (ix3 0 r j) = ∑ k : Fin 1024, (x0 (ix3 0 r k) : EReal) * (x1 (ix2 j k) : EReal) := by
  unfold out0_2
  rw [View.canon_unit_zero hz3]
  simp only [View.ld_unit_zero (S := S1x1024x1024) hz3, View.ld_unit_zero (S := S2304x1024) hz2]
  exact pay_1 _ _ r j

/-- Output 2 after the run. -/
theorem final_2 (c : Dev nD) : (dats m 0 c).arrAt 2 cfg0.N = Cert.ProdMath.times (aX m c) (a1 m c) := by
  refine (dats m 0 c).arrAt_eq_of_cover 2 (Cert.ProdMath.times (aX m c) (a1 m c)) (fun t hf => ?_) (fun i => ?_)
  · obtain ⟨h0, h1, h2⟩ := index_2 t
    rw [Value.flushed2]
    funext j
    change S1x1024x2304.Idx at j
    obtain ⟨z, r, e, rfl⟩ : ∃ z r e, j = ix3 z r e := ⟨j 0, j 1, j 2, eq_ix3 j⟩
    obtain rfl : z = 0 := Subsingleton.elim _ _
    refine (out_1 (iblk m c 0 t) (iblk m c 1 t) r e).trans (Eq.trans (b := Cert.ProdMath.times (aX m c) (a1 m c) (ix3 (seqOf t) (rowOf t r) e))
      (Finset.sum_congr rfl fun k _ => by rw [iblk_0, iblk_1]; rfl) (congrArg (Cert.ProdMath.times (aX m c) (a1 m c)) (funext fun a => Fin.ext ?_)))
    fin_cases a
    · show t.val / 2 = win0_2.index t 0 * 1 + 1 * 0
      omega
    · show t.val % 2 * 1024 + r.val = win0_2.index t 1 * 1024 + 1 * r.val
      omega
    · show e.val = win0_2.index t 2 * 2304 + 1 * e.val
      omega
  · have i0 : (i 0).val < 2 := (i 0).isLt
    have i1 : (i 1).val < 2048 := (i 1).isLt
    have i2 : (i 2).val < 2304 := (i 2).isLt
    obtain ⟨h0, h1, h2⟩ := index_2 (pointOf (i 0) (i 1))
    have hp : (pointOf (i 0) (i 1)).val = (i 0).val * 2 + (i 1).val / 1024 := rfl
    refine ⟨pointOf (i 0) (i 1), flush0_2 _, ?_⟩
    show i ∈ ((View.whole main_v6).slice (win0_2.rect (pointOf (i 0) (i 1)))).set
    rw [View.set_slice_whole, Rect.mem_set_unit]
    intro a
    fin_cases a
    · show win0_2.index (pointOf (i 0) (i 1)) 0 * 1 ≤ (i 0).val ∧ (i 0).val < win0_2.index (pointOf (i 0) (i 1)) 0 * 1 + 1
      omega
    · show win0_2.index (pointOf (i 0) (i 1)) 1 * 1024 ≤ (i 1).val ∧ (i 1).val < win0_2.index (pointOf (i 0) (i 1)) 1 * 1024 + 1024
      omega
    · show win0_2.index (pointOf (i 0) (i 1)) 2 * 2304 ≤ (i 2).val ∧ (i 2).val < win0_2.index (pointOf (i 0) (i 1)) 2 * 2304 + 2304
      omega

end Cert.ProjQkvCIdeal.Prod

namespace Cert.ProjQkvCRefIdeal.Prod

open Cert.ProjQkvCRefIdeal Cert.ProjQkvCRefIdeal.Gen Idealize.ShloMosaic Idealize.ShloMosaic.TcCoe Idealize.SL.Sem

variable (m : (ℓ : Loc nD τ sig) → Buf (Elt Ideal) ℓ) (ρ : Dev nD → PrngReg)

abbrev aX (c : Dev nD) : Cert.ProdMath.M3 2 2048 1024 := Cert.ProdMath.reorder Cert.ProdMath.own16 (m ((c : Thread nD τ).loc main_arg0))
abbrev a1 (c : Dev nD) : Cert.ProdMath.M2 1024 2304 := m ((c : Thread nD τ).loc main_arg1)

theorem dot_1 (l : FVec Ideal S2x2048x1024 .f32) (r : FVec Ideal S1024x2304 .f32) :
    Host.dotGeneral dot_S2x2048x1024_S1024x2304_S2x2048x2304_2_0_01_1_n_n none l r = Cert.ProdMath.times l r := by
  funext i
  change S2x2048x2304.Idx at i
  idx_vars i
  pointwise
  rfl

theorem results : θ_run defs (onTc (τ := τ) (main (F := Ideal))) ⟨m, fun _ => 0, ρ⟩ fun r => ∀ c : Dev nD,
      r.2.mem ((c.tc : Thread nD τ).loc main_v4) = Cert.ProdMath.times (aX m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h1, h⟩ := h c
  refine ⟨h1.trans ?_, h⟩
  clear h1 h
  rw [dot_1]
  funext i
  change S2x2048x2304.Idx at i
  idx_vars i
  pointwise
  rfl

end Cert.ProjQkvCRefIdeal.Prod

namespace Cert.ProjQkvCClaim

open Idealize.ShloMosaic Idealize.ShloMosaic.TcCoe Idealize.SL.Sem

theorem frame_ref : Cert.quiescent_ProjQkvCRefIdeal := fun m ρ _ =>
  (θ_run Cert.ProjQkvCRefIdeal.defs _ _).mono (fun r h => ⟨fun c => (h c).2, sem_eq_zero_of_no_sems (by decide) r.2⟩)
    (Cert.ProjQkvCRefIdeal.Prod.results m ρ)

theorem algebraic : Cert.algebraic_ProjQkvCIdeal_ProjQkvCRefIdeal := by
  intro m ρ m' ρ' _ hargs
  refine ⟨fun c => Cert.ProdMath.times (Cert.ProjQkvCIdeal.Prod.aX m c) (Cert.ProjQkvCIdeal.Prod.a1 m c), ?_, ?_⟩
  · refine (θ_run _ _ _).mono (fun r h c => ?_) (Cert.ProjQkvCIdeal.Value.run_blocks m ρ)
    obtain ⟨h1, h⟩ := h c
    exact ⟨h1.trans (Cert.ProjQkvCIdeal.Prod.final_2 m c), h⟩
  · refine (θ_run _ _ _).mono (fun r h c => ?_) (Cert.ProjQkvCRefIdeal.Prod.results m' ρ')
    obtain ⟨e0, e1⟩ := hargs c
    obtain ⟨h1, h⟩ := h c
    refine ⟨h1.trans ?_, h⟩
    all_goals
      unfold Cert.ProjQkvCRefIdeal.Prod.aX
      simp only [e0, e1]

end Cert.ProjQkvCClaim

end
-- ==== Proof.Prod.Merge.lean ====
module

public import proofs.«01_k».proof.Defs
public import proofs.«01_k».proof.Proof.Gen.MergeIdeal.Value
public import proofs.«01_k».proof.Proof.Gen.MergeRefIdeal.Run
public import proofs.«01_k».proof.Proof.Prod.Math
public import proofs.«01_k».proof.Proof.Gate.Math
public import Idealize.ShloMosaic.Lib.StableHlo.ReadAt
public import Idealize.ShloMosaic.Lib.Quiescent

@[expose] public section

set_option maxRecDepth 16384

noncomputable section

/-! The forward merge: the two branches' products and their gated sum. -/

namespace Cert.ProdMath

open Idealize.ShloMosaic

/-- The rows of the branches' weight that the attention branch takes. -/
def rowsA {n : ℕ} (w : M2 2816 n) : M2 768 n := fun i => w (ix2 ⟨(i 0).val, by have h : (i 0).val < 768 := (i 0).isLt; omega⟩ (i 1))
/-- The rows that the scan branch takes. -/
def rowsB {n : ℕ} (w : M2 2816 n) : M2 2048 n := fun i => w (ix2 ⟨768 + (i 0).val, by have h : (i 0).val < 2048 := (i 0).isLt; omega⟩ (i 1))

/-- The gated sum of the two branches. -/
def merged (oa : M3 2 2048 768) (ys : M3 2 2048 2048) (w : M2 2816 1024) (g : M3 2 2048 2048) (b : M2 3 1024) : M3 2 2048 1024 :=
  fun i => Cert.GateMath.gateA g b (i 0) (i 1) (i 2) * times oa (rowsA w) i + Cert.GateMath.gateB g b (i 0) (i 1) (i 2) * times ys (rowsB w) i

end Cert.ProdMath

namespace Cert.MergeIdeal.Prod

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The sequence of point `t`. -/
def seqOf (t : Fin cfg0.N) : Fin 2 := ⟨t.val / 8, by have := lt_of_lt_of_eq t.isLt (show cfg0.N = 16 from N_0); omega⟩
/-- The position of row `r` of point `t`'s block. -/
def rowOf (t : Fin cfg0.N) (r : Fin 256) : Fin 2048 := ⟨t.val % 8 * 256 + r.val, by omega⟩
/-- The point whose block holds position `s` of sequence `n`. -/
def pointOf (n : Fin 2) (s : Fin 2048) : Fin cfg0.N := ⟨n.val * 8 + s.val / 256, by rw [show cfg0.N = 16 from N_0]; omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The branches' inputs, their weight, the gates' pre-activations and the bias, as the launch finds them. -/
abbrev aO (c : Dev nD) : Cert.ProdMath.M3 2 2048 768 := m ((c : Thread nD τ).loc main_arg0)
abbrev aS (c : Dev nD) : Cert.ProdMath.M3 2 2048 2048 := m ((c : Thread nD τ).loc main_arg1)
abbrev aW (c : Dev nD) : Cert.ProdMath.M2 2816 1024 := m ((c : Thread nD τ).loc main_arg2)
abbrev aG (c : Dev nD) : Cert.ProdMath.M3 2 2048 2048 := m ((c : Thread nD τ).loc main_arg3)
abbrev aB (c : Dev nD) : Cert.ProdMath.M2 3 1024 := m ((c : Thread nD τ).loc main_arg4)

theorem index_0 : ∀ t : Fin grid0.N, win0_0.index t 0 = t.val / 8 ∧ win0_0.index t 1 = t.val % 8 ∧ win0_0.index t 2 = 0 := by decide +kernel
theorem index_1 : ∀ t : Fin grid0.N, win0_1.index t 0 = t.val / 8 ∧ win0_1.index t 1 = t.val % 8 ∧ win0_1.index t 2 = 0 := by decide +kernel
theorem index_4 : ∀ t : Fin grid0.N, win0_4.index t 0 = t.val / 8 ∧ win0_4.index t 1 = t.val % 8 ∧ win0_4.index t 2 = 0 := by decide +kernel
theorem index_5 : ∀ t : Fin grid0.N, win0_5.index t 0 = t.val / 8 ∧ win0_5.index t 1 = t.val % 8 ∧ win0_5.index t 2 = 1 := by decide +kernel
theorem index_7 : ∀ t : Fin grid0.N, win0_7.index t 0 = t.val / 8 ∧ win0_7.index t 1 = t.val % 8 ∧ win0_7.index t 2 = 0 := by decide +kernel
theorem index_8 : ∀ t : Fin grid0.N, win0_8.index t 0 = t.val / 8 ∧ win0_8.index t 1 = t.val % 8 ∧ win0_8.index t 2 = 0 := by decide +kernel
theorem index_9 : ∀ t : Fin grid0.N, win0_9.index t 0 = t.val / 8 ∧ win0_9.index t 1 = t.val % 8 ∧ win0_9.index t 2 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_6 : ∀ t : Fin grid0.N, win0_6.index t 0 = 0 ∧ win0_6.index t 1 = 0 := by decide +kernel

theorem V_v2 (c : Dev nD) (i : S2x2048x768.Idx) : V m c main_v2 i = aO m c i := by
  unfold V
  after_reads_at

theorem V_v3 (c : Dev nD) (i : S2x2048x2048.Idx) : V m c main_v3 i = aS m c i := by
  unfold V
  after_reads_at

theorem V_v4 (c : Dev nD) (j : Fin 768) (k : Fin 1024) : V m c main_v4 (ix2 j k) = Cert.ProdMath.rowsA (aW m c) (ix2 j k) := by
  unfold V
  after_reads_at
  rfl

theorem V_v5 (c : Dev nD) (j : Fin 2048) (k : Fin 1024) : V m c main_v5 (ix2 j k) = Cert.ProdMath.rowsB (aW m c) (ix2 j k) := by
  unfold V
  after_reads_at
  rfl

theorem V_v1 (c : Dev nD) (j : Fin 3) (e : Fin 1024) : V m c main_v1 (ix2 ⟨j.val, by omega⟩ e) = aB m c (ix2 j e) := by
  unfold V
  after_reads_at

theorem iblk_0 (c : Dev nD) (t : Fin cfg0.N) (r : Fin 256) (k : Fin 768) :
    iblk m c 0 t (ix3 0 r k) = aO m c (ix3 (seqOf t) (rowOf t r) k) := by
  refine Eq.trans ?_ (V_v2 m c (ix3 (seqOf t) (rowOf t r) k))
  show V m c main_v2 (((cfg0.win 0).blk t).view.emb (ix3 0 r k)) = _
  refine congrArg _ (funext fun a => Fin.ext ?_)
  obtain ⟨h0, h1, h2⟩ := index_0 t
  fin_cases a
  · show win0_0.index t 0 * 1 + 1 * 0 = t.val / 8
    omega
  · show win0_0.index t 1 * 256 + 1 * r.val = t.val % 8 * 256 + r.val
    omega
  · show win0_0.index t 2 * 768 + 1 * k.val = k.val
    omega

theorem iblk_1 (c : Dev nD) (t : Fin cfg0.N) (r : Fin 256) (k : Fin 2048) :
    iblk m c 1 t (ix3 0 r k) = aS m c (ix3 (seqOf t) (rowOf t r) k) := by
  refine Eq.trans ?_ (V_v3 m c (ix3 (seqOf t) (rowOf t r) k))
  show V m c main_v3 (((cfg0.win 1).blk t).view.emb (ix3 0 r k)) = _
  refine congrArg _ (funext fun a => Fin.ext ?_)
  obtain ⟨h0, h1, h2⟩ := index_1 t
  fin_cases a
  · show win0_1.index t 0 * 1 + 1 * 0 = t.val / 8
    omega
  · show win0_1.index t 1 * 256 + 1 * r.val = t.val % 8 * 256 + r.val
    omega
  · show win0_1.index t 2 * 2048 + 1 * k.val = k.val
    omega

theorem iblk_4 (c : Dev nD) (t : Fin cfg0.N) (r : Fin 256) (k : Fin 1024) :
    iblk m c 4 t (ix3 0 r k) = aG m c (ix3 (seqOf t) (rowOf t r) (Cert.GateMath.laneA k)) := by
  refine Eq.trans ?_ (congrFun (V_main_arg3 m c) (ix3 (seqOf t) (rowOf t r) (Cert.GateMath.laneA k)))
  show V m c main_arg3 (((cfg0.win 4).blk t).view.emb (ix3 0 r k)) = _
  refine congrArg _ (funext fun a => Fin.ext ?_)
  obtain ⟨h0, h1, h2⟩ := index_4 t
  fin_cases a
  · show win0_4.index t 0 * 1 + 1 * 0 = t.val / 8
    omega
  · show win0_4.index t 1 * 256 + 1 * r.val = t.val % 8 * 256 + r.val
    omega
  · show win0_4.index t 2 * 1024 + 1 * k.val = k.val
    omega

theorem iblk_5 (c : Dev nD) (t : Fin cfg0.N) (r : Fin 256) (k : Fin 1024) :
    iblk m c 5 t (ix3 0 r k) = aG m c (ix3 (seqOf t) (rowOf t r) (Cert.GateMath.laneB k)) := by
  refine Eq.trans ?_ (congrFun (V_main_arg3 m c) (ix3 (seqOf t) (rowOf t r) (Cert.GateMath.laneB k)))
  show V m c main_arg3 (((cfg0.win 5).blk t).view.emb (ix3 0 r k)) = _
  refine congrArg _ (funext fun a => Fin.ext ?_)
  obtain ⟨h0, h1, h2⟩ := index_5 t
  fin_cases a
  · show win0_5.index t 0 * 1 + 1 * 0 = t.val / 8
    omega
  · show win0_5.index t 1 * 256 + 1 * r.val = t.val % 8 * 256 + r.val
    omega
  · show win0_5.index t 2 * 1024 + 1 * k.val = 1024 + k.val
    omega

theorem iblk_2 (c : Dev nD) (t : Fin cfg0.N) (j : Fin 768) (k : Fin 1024) :
    iblk m c 2 t (ix2 j k) = Cert.ProdMath.rowsA (aW m c) (ix2 j k) := by
  refine Eq.trans ?_ (V_v4 m c j k)
  show V m c main_v4 (((cfg0.win 2).blk t).view.emb (ix2 j k)) = _
  refine congrArg _ (funext fun a => Fin.ext ?_)
  obtain ⟨h0, h1⟩ := index_2 t
  fin_cases a
  · show win0_2.index t 0 * 768 + 1 * j.val = j.val
    omega
  · show win0_2.index t 1 * 1024 + 1 * k.val = k.val
    omega

theorem iblk_3 (c : Dev nD) (t : Fin cfg0.N) (j : Fin 2048) (k : Fin 1024) :
    iblk m c 3 t (ix2 j k) = Cert.ProdMath.rowsB (aW m c) (ix2 j k) := by
  refine Eq.trans ?_ (V_v5 m c j k)
  show V m c main_v5 (((cfg0.win 3).blk t).view.emb (ix2 j k)) = _
  refine congrArg _ (funext fun a => Fin.ext ?_)
  obtain ⟨h0, h1⟩ := index_3 t
  fin_cases a
  · show win0_3.index t 0 * 2048 + 1 * j.val = j.val
    omega
  · show win0_3.index t 1 * 1024 + 1 * k.val = k.val
    omega

theorem iblk_6 (c : Dev nD) (t : Fin cfg0.N) (j : Fin 3) (k : Fin 1024) :
    iblk m c 6 t (ix2 (⟨j.val, by omega⟩ : Fin 8) k) = aB m c (ix2 j k) := by
  refine Eq.trans ?_ (V_v1 m c j k)
  show V m c main_v1 (((cfg0.win 6).blk t).view.emb (ix2 (⟨j.val, by omega⟩ : Fin 8) k)) = _
  refine congrArg _ (funext fun a => Fin.ext ?_)
  obtain ⟨h0, h1⟩ := index_6 t
  fin_cases a
  · show win0_6.index t 0 * 8 + 1 * j.val = j.val
    omega
  · show win0_6.index t 1 * 1024 + 1 * k.val = k.val
    omega

/-- One block's product of the attention branch. -/
def pa (x0 : Vec Ideal S1x256x768 .bf16) (x2 : Vec Ideal S768x1024 .bf16) (r : Fin 256) (e : Fin 1024) : EReal :=
  ∑ k : Fin 768, (x0 (ix3 0 r k) : EReal) * (x2 (ix2 k e) : EReal)
/-- One block's product of the scan branch. -/
def pb (x1 : Vec Ideal S1x256x2048 .bf16) (x3 : Vec Ideal S2048x1024 .bf16) (r : Fin 256) (e : Fin 1024) : EReal :=
  ∑ k : Fin 2048, (x1 (ix3 0 r k) : EReal) * (x3 (ix2 k e) : EReal)
/-- A gate of the block. -/
def sg (j : Fin 8) (xg : Vec Ideal S1x256x1024 .f32) (x6 : Vec Ideal S8x1024 .f32) (r : Fin 256) (e : Fin 1024) : EReal :=
  Ideal.logistic ((xg (ix3 0 r e) : EReal) + (x6 (ix2 j e) : EReal))

theorem pay_2 (x0 : Vec Ideal S1x256x768 .bf16) (x2 : Vec Ideal S768x1024 .bf16) (r : Fin 256) (e : Fin 1024) :
    k0_pay2 (F := Ideal) x0 x2 (ix2 r e) = pa x0 x2 r e := by
  unfold k0_pay2 pa
  pointwise

theorem pay_3 (x1 : Vec Ideal S1x256x2048 .bf16) (x3 : Vec Ideal S2048x1024 .bf16) (r : Fin 256) (e : Fin 1024) :
    k0_pay3 (F := Ideal) x1 x3 (ix2 r e) = pb x1 x3 r e := by
  unfold k0_pay3 pb
  pointwise

theorem out_7 (x0 : Vec Ideal S1x256x768 .bf16) (x1 : Vec Ideal S1x256x2048 .bf16) (x2 : Vec Ideal S768x1024 .bf16) (x3 : Vec Ideal S2048x1024 .bf16)
    (x4 x5 : Vec Ideal S1x256x1024 .f32) (x6 : Vec Ideal S8x1024 .f32) (r : Fin 256) (e : Fin 1024) :
    out0_7 x0 x1 x2 x3 x4 x5 x6 (ix3 0 r e) = pa x0 x2 r e := by
  unfold out0_7
  rw [View.canon_unit_zero hz3]
  simp only [View.ld_unit_zero (S := S1x256x768) hz3, View.ld_unit_zero (S := S768x1024) hz2]
  unfold k0_pay4
  pointwise
  exact pay_2 x0 x2 r e

theorem out_8 (x0 : Vec Ideal S1x256x768 .bf16) (x1 : Vec Ideal S1x256x2048 .bf16) (x2 : Vec Ideal S768x1024 .bf16) (x3 : Vec Ideal S2048x1024 .bf16)
    (x4 x5 : Vec Ideal S1x256x1024 .f32) (x6 : Vec Ideal S8x1024 .f32) (r : Fin 256) (e : Fin 1024) :
    out0_8 x0 x1 x2 x3 x4 x5 x6 (ix3 0 r e) = pb x1 x3 r e := by
  unfold out0_8
  rw [View.canon_unit_zero hz3]
  simp only [View.ld_unit_zero (S := S1x256x2048) hz3, View.ld_unit_zero (S := S2048x1024) hz2]
  unfold k0_pay5
  pointwise
  exact pay_3 x1 x3 r e

theorem out_9 (x0 : Vec Ideal S1x256x768 .bf16) (x1 : Vec Ideal S1x256x2048 .bf16) (x2 : Vec Ideal S768x1024 .bf16) (x3 : Vec Ideal S2048x1024 .bf16)
    (x4 x5 : Vec Ideal S1x256x1024 .f32) (x6 : Vec Ideal S8x1024 .f32) (r : Fin 256) (e : Fin 1024) :
    out0_9 x0 x1 x2 x3 x4 x5 x6 (ix3 0 r e) = sg 0 x4 x6 r e * pa x0 x2 r e + sg 1 x5 x6 r e * pb x1 x3 r e := by
  rw [← pay_2, ← pay_3]
  unfold out0_9
  rw [View.canon_unit_zero hz3]
  simp only [View.ld_unit_zero (S := S1x256x768) hz3, View.ld_unit_zero (S := S768x1024) hz2,
    View.ld_unit_zero (S := S1x256x2048) hz3, View.ld_unit_zero (S := S2048x1024) hz2, View.ld_unit_zero (S := S1x256x1024) hz3]
  generalize k0_pay2 (F := Ideal) x0 x2 = p
  generalize k0_pay3 (F := Ideal) x1 x3 = q
  unfold k0_pay1 k0_pay6 k0_pay7 k0_pay8
  pointwise
  rfl

theorem pa_eq (c : Dev nD) (t : Fin cfg0.N) (r : Fin 256) (e : Fin 1024) :
    pa (iblk m c 0 t) (iblk m c 2 t) r e = Cert.ProdMath.times (aO m c) (Cert.ProdMath.rowsA (aW m c)) (ix3 (seqOf t) (rowOf t r) e) :=
  Finset.sum_congr rfl fun k _ => by rw [iblk_0, iblk_2]; rfl

theorem pb_eq (c : Dev nD) (t : Fin cfg0.N) (r : Fin 256) (e : Fin 1024) :
    pb (iblk m c 1 t) (iblk m c 3 t) r e = Cert.ProdMath.times (aS m c) (Cert.ProdMath.rowsB (aW m c)) (ix3 (seqOf t) (rowOf t r) e) :=
  Finset.sum_congr rfl fun k _ => by rw [iblk_1, iblk_3]; rfl

theorem sgA_eq (c : Dev nD) (t : Fin cfg0.N) (r : Fin 256) (e : Fin 1024) :
    sg 0 (iblk m c 4 t) (iblk m c 6 t) r e = Cert.GateMath.gateA (aG m c) (aB m c) (seqOf t) (rowOf t r) e := by
  unfold sg Cert.GateMath.gateA
  rw [iblk_4, show (0 : Fin 8) = ⟨(0 : Fin 3).val, by omega⟩ from rfl, iblk_6]

theorem sgB_eq (c : Dev nD) (t : Fin cfg0.N) (r : Fin 256) (e : Fin 1024) :
    sg 1 (iblk m c 5 t) (iblk m c 6 t) r e = Cert.GateMath.gateB (aG m c) (aB m c) (seqOf t) (rowOf t r) e := by
  unfold sg Cert.GateMath.gateB
  rw [iblk_5, show (1 : Fin 8) = ⟨(1 : Fin 3).val, by omega⟩ from rfl, iblk_6]

/-- Output 7 after the run. -/
theorem final_7 (c : Dev nD) : (dats m 0 c).arrAt 7 cfg0.N = Cert.ProdMath.times (aO m c) (Cert.ProdMath.rowsA (aW m c)) := by
  refine (dats m 0 c).arrAt_eq_of_cover 7 (Cert.ProdMath.times (aO m c) (Cert.ProdMath.rowsA (aW m c))) (fun t hf => ?_) (fun i => ?_)
  · obtain ⟨h0, h1, h2⟩ := index_7 t
    rw [Value.flushed7]
    funext j
    change S1x256x1024.Idx at j
    obtain ⟨z, r, e, rfl⟩ : ∃ z r e, j = ix3 z r e := ⟨j 0, j 1, j 2, eq_ix3 j⟩
    obtain rfl : z = 0 := Subsingleton.elim _ _
    refine (out_7 (iblk m c 0 t) (iblk m c 1 t) (iblk m c 2 t) (iblk m c 3 t) (iblk m c 4 t) (iblk m c 5 t) (iblk m c 6 t) r e).trans (Eq.trans (b := (Cert.ProdMath.times (aO m c) (Cert.ProdMath.rowsA (aW m c))) (ix3 (seqOf t) (rowOf t r) e))
      (pa_eq m c t r e) (congrArg (Cert.ProdMath.times (aO m c) (Cert.ProdMath.rowsA (aW m c))) (funext fun a => Fin.ext ?_)))
    fin_cases a
    · show t.val / 8 = win0_7.index t 0 * 1 + 1 * 0
      omega
    · show t.val % 8 * 256 + r.val = win0_7.index t 1 * 256 + 1 * r.val
      omega
    · show e.val = win0_7.index t 2 * 1024 + 1 * e.val
      omega
  · have i0 : (i 0).val < 2 := (i 0).isLt
    have i1 : (i 1).val < 2048 := (i 1).isLt
    have i2 : (i 2).val < 1024 := (i 2).isLt
    obtain ⟨h0, h1, h2⟩ := index_7 (pointOf (i 0) (i 1))
    have hp : (pointOf (i 0) (i 1)).val = (i 0).val * 8 + (i 1).val / 256 := rfl
    refine ⟨pointOf (i 0) (i 1), flush0_7 _, ?_⟩
    show i ∈ ((View.whole main_v6_0).slice (win0_7.rect (pointOf (i 0) (i 1)))).set
    rw [View.set_slice_whole, Rect.mem_set_unit]
    intro a
    fin_cases a
    · show win0_7.index (pointOf (i 0) (i 1)) 0 * 1 ≤ (i 0).val ∧ (i 0).val < win0_7.index (pointOf (i 0) (i 1)) 0 * 1 + 1
      omega
    · show win0_7.index (pointOf (i 0) (i 1)) 1 * 256 ≤ (i 1).val ∧ (i 1).val < win0_7.index (pointOf (i 0) (i 1)) 1 * 256 + 256
      omega
    · show win0_7.index (pointOf (i 0) (i 1)) 2 * 1024 ≤ (i 2).val ∧ (i 2).val < win0_7.index (pointOf (i 0) (i 1)) 2 * 1024 + 1024
      omega

/-- Output 8 after the run. -/
theorem final_8 (c : Dev nD) : (dats m 0 c).arrAt 8 cfg0.N = Cert.ProdMath.times (aS m c) (Cert.ProdMath.rowsB (aW m c)) := by
  refine (dats m 0 c).arrAt_eq_of_cover 8 (Cert.ProdMath.times (aS m c) (Cert.ProdMath.rowsB (aW m c))) (fun t hf => ?_) (fun i => ?_)
  · obtain ⟨h0, h1, h2⟩ := index_8 t
    rw [Value.flushed8]
    funext j
    change S1x256x1024.Idx at j
    obtain ⟨z, r, e, rfl⟩ : ∃ z r e, j = ix3 z r e := ⟨j 0, j 1, j 2, eq_ix3 j⟩
    obtain rfl : z = 0 := Subsingleton.elim _ _
    refine (out_8 (iblk m c 0 t) (iblk m c 1 t) (iblk m c 2 t) (iblk m c 3 t) (iblk m c 4 t) (iblk m c 5 t) (iblk m c 6 t) r e).trans (Eq.trans (b := (Cert.ProdMath.times (aS m c) (Cert.ProdMath.rowsB (aW m c))) (ix3 (seqOf t) (rowOf t r) e))
      (pb_eq m c t r e) (congrArg (Cert.ProdMath.times (aS m c) (Cert.ProdMath.rowsB (aW m c))) (funext fun a => Fin.ext ?_)))
    fin_cases a
    · show t.val / 8 = win0_8.index t 0 * 1 + 1 * 0
      omega
    · show t.val % 8 * 256 + r.val = win0_8.index t 1 * 256 + 1 * r.val
      omega
    · show e.val = win0_8.index t 2 * 1024 + 1 * e.val
      omega
  · have i0 : (i 0).val < 2 := (i 0).isLt
    have i1 : (i 1).val < 2048 := (i 1).isLt
    have i2 : (i 2).val < 1024 := (i 2).isLt
    obtain ⟨h0, h1, h2⟩ := index_8 (pointOf (i 0) (i 1))
    have hp : (pointOf (i 0) (i 1)).val = (i 0).val * 8 + (i 1).val / 256 := rfl
    refine ⟨pointOf (i 0) (i 1), flush0_8 _, ?_⟩
    show i ∈ ((View.whole main_v6_1).slice (win0_8.rect (pointOf (i 0) (i 1)))).set
    rw [View.set_slice_whole, Rect.mem_set_unit]
    intro a
    fin_cases a
    · show win0_8.index (pointOf (i 0) (i 1)) 0 * 1 ≤ (i 0).val ∧ (i 0).val < win0_8.index (pointOf (i 0) (i 1)) 0 * 1 + 1
      omega
    · show win0_8.index (pointOf (i 0) (i 1)) 1 * 256 ≤ (i 1).val ∧ (i 1).val < win0_8.index (pointOf (i 0) (i 1)) 1 * 256 + 256
      omega
    · show win0_8.index (pointOf (i 0) (i 1)) 2 * 1024 ≤ (i 2).val ∧ (i 2).val < win0_8.index (pointOf (i 0) (i 1)) 2 * 1024 + 1024
      omega

/-- Output 9 after the run. -/
theorem final_9 (c : Dev nD) : (dats m 0 c).arrAt 9 cfg0.N = Cert.ProdMath.merged (aO m c) (aS m c) (aW m c) (aG m c) (aB m c) := by
  refine (dats m 0 c).arrAt_eq_of_cover 9 (Cert.ProdMath.merged (aO m c) (aS m c) (aW m c) (aG m c) (aB m c)) (fun t hf => ?_) (fun i => ?_)
  · obtain ⟨h0, h1, h2⟩ := index_9 t
    rw [Value.flushed9]
    funext j
    change S1x256x1024.Idx at j
    obtain ⟨z, r, e, rfl⟩ : ∃ z r e, j = ix3 z r e := ⟨j 0, j 1, j 2, eq_ix3 j⟩
    obtain rfl : z = 0 := Subsingleton.elim _ _
    refine (out_9 (iblk m c 0 t) (iblk m c 1 t) (iblk m c 2 t) (iblk m c 3 t) (iblk m c 4 t) (iblk m c 5 t) (iblk m c 6 t) r e).trans (Eq.trans (b := (Cert.ProdMath.merged (aO m c) (aS m c) (aW m c) (aG m c) (aB m c)) (ix3 (seqOf t) (rowOf t r) e))
      ((by rw [pa_eq, pb_eq, sgA_eq, sgB_eq]; rfl)) (congrArg (Cert.ProdMath.merged (aO m c) (aS m c) (aW m c) (aG m c) (aB m c)) (funext fun a => Fin.ext ?_)))
    fin_cases a
    · show t.val / 8 = win0_9.index t 0 * 1 + 1 * 0
      omega
    · show t.val % 8 * 256 + r.val = win0_9.index t 1 * 256 + 1 * r.val
      omega
    · show e.val = win0_9.index t 2 * 1024 + 1 * e.val
      omega
  · have i0 : (i 0).val < 2 := (i 0).isLt
    have i1 : (i 1).val < 2048 := (i 1).isLt
    have i2 : (i 2).val < 1024 := (i 2).isLt
    obtain ⟨h0, h1, h2⟩ := index_9 (pointOf (i 0) (i 1))
    have hp : (pointOf (i 0) (i 1)).val = (i 0).val * 8 + (i 1).val / 256 := rfl
    refine ⟨pointOf (i 0) (i 1), flush0_9 _, ?_⟩
    show i ∈ ((View.whole main_v6_2).slice (win0_9.rect (pointOf (i 0) (i 1)))).set
    rw [View.set_slice_whole, Rect.mem_set_unit]
    intro a
    fin_cases a
    · show win0_9.index (pointOf (i 0) (i 1)) 0 * 1 ≤ (i 0).val ∧ (i 0).val < win0_9.index (pointOf (i 0) (i 1)) 0 * 1 + 1
      omega
    · show win0_9.index (pointOf (i 0) (i 1)) 1 * 256 ≤ (i 1).val ∧ (i 1).val < win0_9.index (pointOf (i 0) (i 1)) 1 * 256 + 256
      omega
    · show win0_9.index (pointOf (i 0) (i 1)) 2 * 1024 ≤ (i 2).val ∧ (i 2).val < win0_9.index (pointOf (i 0) (i 1)) 2 * 1024 + 1024
      omega

end Cert.MergeIdeal.Prod

namespace Cert.MergeRefIdeal.Prod

open Cert.MergeRefIdeal Cert.MergeRefIdeal.Gen Idealize.ShloMosaic Idealize.ShloMosaic.TcCoe Idealize.SL.Sem

variable (m : (ℓ : Loc nD τ sig) → Buf (Elt Ideal) ℓ) (ρ : Dev nD → PrngReg)

abbrev aO (c : Dev nD) : Cert.ProdMath.M3 2 2048 768 := m ((c : Thread nD τ).loc main_arg0)
abbrev aS (c : Dev nD) : Cert.ProdMath.M3 2 2048 2048 := m ((c : Thread nD τ).loc main_arg1)
abbrev aW (c : Dev nD) : Cert.ProdMath.M2 2816 1024 := m ((c : Thread nD τ).loc main_arg2)
abbrev aG (c : Dev nD) : Cert.ProdMath.M3 2 2048 2048 := m ((c : Thread nD τ).loc main_arg3)
abbrev aB (c : Dev nD) : Cert.ProdMath.M2 3 1024 := m ((c : Thread nD τ).loc main_arg4)

theorem results : θ_run defs (onTc (τ := τ) (main (F := Ideal))) ⟨m, fun _ => 0, ρ⟩ fun r => ∀ c : Dev nD,
      r.2.mem ((c.tc : Thread nD τ).loc main_v1) = Cert.ProdMath.times (aO m c) (Cert.ProdMath.rowsA (aW m c))
      ∧ r.2.mem ((c.tc : Thread nD τ).loc main_v3) = Cert.ProdMath.times (aS m c) (Cert.ProdMath.rowsB (aW m c))
      ∧ r.2.mem ((c.tc : Thread nD τ).loc main_v31) = Cert.ProdMath.merged (aO m c) (aS m c) (aW m c) (aG m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h0, h1, h2, h⟩ := h c
  refine ⟨h0.trans ?_, h1.trans ?_, h2.trans ?_, h⟩
  all_goals
    clear h0 h1 h2 h
    funext i
    change S2x2048x1024.Idx at i
    idx_vars i
    pointwise
    rfl

end Cert.MergeRefIdeal.Prod

namespace Cert.MergeClaim

open Idealize.ShloMosaic Idealize.ShloMosaic.TcCoe Idealize.SL.Sem

theorem frame_ref : Cert.quiescent_MergeRefIdeal := fun m ρ _ =>
  (θ_run Cert.MergeRefIdeal.defs _ _).mono (fun r h => ⟨fun c => (h c).2.2.2, sem_eq_zero_of_no_sems (by decide) r.2⟩)
    (Cert.MergeRefIdeal.Prod.results m ρ)

theorem algebraic : Cert.algebraic_MergeIdeal_MergeRefIdeal := by
  intro m ρ m' ρ' _ hargs
  refine ⟨fun c => Cert.ProdMath.times (Cert.MergeIdeal.Prod.aO m c) (Cert.ProdMath.rowsA (Cert.MergeIdeal.Prod.aW m c)),
    fun c => Cert.ProdMath.times (Cert.MergeIdeal.Prod.aS m c) (Cert.ProdMath.rowsB (Cert.MergeIdeal.Prod.aW m c)),
    fun c => Cert.ProdMath.merged (Cert.MergeIdeal.Prod.aO m c) (Cert.MergeIdeal.Prod.aS m c) (Cert.MergeIdeal.Prod.aW m c) (Cert.MergeIdeal.Prod.aG m c) (Cert.MergeIdeal.Prod.aB m c), ?_, ?_⟩
  · refine (θ_run _ _ _).mono (fun r h c => ?_) (Cert.MergeIdeal.Value.run_blocks m ρ)
    obtain ⟨h0, h1, h2, h⟩ := h c
    exact ⟨h0.trans (Cert.MergeIdeal.Prod.final_7 m c), h1.trans (Cert.MergeIdeal.Prod.final_8 m c), h2.trans (Cert.MergeIdeal.Prod.final_9 m c), h⟩
  · refine (θ_run _ _ _).mono (fun r h c => ?_) (Cert.MergeRefIdeal.Prod.results m' ρ')
    obtain ⟨e0, e1, e2, e3, e4⟩ := hargs c
    obtain ⟨h0, h1, h2, h⟩ := h c
    refine ⟨h0.trans ?_, h1.trans ?_, h2.trans ?_, h⟩
    all_goals
      try unfold Cert.MergeRefIdeal.Prod.aO
      try unfold Cert.MergeRefIdeal.Prod.aS
      try unfold Cert.MergeRefIdeal.Prod.aG
      try unfold Cert.MergeRefIdeal.Prod.aB
      unfold Cert.MergeRefIdeal.Prod.aW
      simp only [e0, e1, e2, e3, e4]

end Cert.MergeClaim

end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.DwQkvIdeal.Value
public import proofs.«01_k».proof.Proof.Gen.DwQkvRefIdeal
public import proofs.«01_k».proof.Proof.Gen.DwQkvRefIdeal.Run
public import proofs.«01_k».proof.Proof.Gen.DwQkvRefIdeal.Read
public import proofs.«01_k».proof.Proof.Gen.DwXbc
public import proofs.«01_k».proof.Proof.Gen.DwXbc.Skeleton
public import proofs.«01_k».proof.Proof.Gen.DwXbc.Launch
public import proofs.«01_k».proof.Proof.Gen.DwXbc.Points
public import proofs.«01_k».proof.Proof.Gen.DwXbc.Frame
public import proofs.«01_k».proof.Proof.Gen.DwXbcIdeal
public import proofs.«01_k».proof.Proof.Gen.DwXbcIdeal.Skeleton
public import proofs.«01_k».proof.Proof.Gen.DwXbcIdeal.Launch
public import proofs.«01_k».proof.Proof.Gen.DwXbcIdeal.Points
public import proofs.«01_k».proof.Proof.Gen.DwXbcIdeal.Frame
public import proofs.«01_k».proof.Proof.Gen.DwXbcIdeal.Value
public import proofs.«01_k».proof.Proof.Gen.DwXbcRefIdeal
public import proofs.«01_k».proof.Proof.Gen.DwXbcRefIdeal.Run
public import proofs.«01_k».proof.Proof.Gen.DwXbcRefIdeal.Read
public import proofs.«01_k».proof.Proof.Gen.DwGm
public import proofs.«01_k».proof.Proof.Gen.DwGm.Skeleton
public import proofs.«01_k».proof.Proof.Gen.DwGm.Launch
public import proofs.«01_k».proof.Proof.Gen.DwGm.Points
public import proofs.«01_k».proof.Proof.Gen.DwGm.Frame
public import proofs.«01_k».proof.Proof.Gen.DwGmIdeal
public import proofs.«01_k».proof.Proof.Gen.DwGmIdeal.Skeleton
public import proofs.«01_k».proof.Proof.Gen.DwGmIdeal.Launch
public import proofs.«01_k».proof.Proof.Gen.DwGmIdeal.Points
public import proofs.«01_k».proof.Proof.Gen.DwGmIdeal.Frame
public import proofs.«01_k».proof.Proof.Gen.DwGmIdeal.Value
public import proofs.«01_k».proof.Proof.Gen.DwGmRefIdeal
public import proofs.«01_k».proof.Proof.Gen.DwGmRefIdeal.Run
public import proofs.«01_k».proof.Proof.Gen.DwGmRefIdeal.Read
public import proofs.«01_k».proof.Proof.Gen.DwNat
public import proofs.«01_k».proof.Proof.Gen.DwNat.Skeleton
public import proofs.«01_k».proof.Proof.Gen.DwNat.Launch
public import proofs.«01_k».proof.Proof.Gen.DwNat.Points
public import proofs.«01_k».proof.Proof.Gen.DwNat.Frame
public import proofs.«01_k».proof.Proof.Gen.DwNatIdeal
public import proofs.«01_k».proof.Proof.Gen.DwNatIdeal.Skeleton
public import proofs.«01_k».proof.Proof.Gen.DwNatIdeal.Launch
public import proofs.«01_k».proof.Proof.Gen.DwNatIdeal.Points
public import proofs.«01_k».proof.Proof.Gen.DwNatIdeal.Frame
public import proofs.«01_k».proof.Proof.Gen.DwNatIdeal.Value
public import proofs.«01_k».proof.Proof.Gen.DwNatRefIdeal
public import proofs.«01_k».proof.Proof.Gen.DwNatRefIdeal.Run
public import proofs.«01_k».proof.Proof.Gen.DwNatRefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DxY
public import proofs.«01_k».proof.Proof.Gen.DxY.Skeleton
public import proofs.«01_k».proof.Proof.Gen.DxY.Launch
public import proofs.«01_k».proof.Proof.Gen.DxY.Points
public import proofs.«01_k».proof.Proof.Gen.DxY.Frame
public import proofs.«01_k».proof.Proof.Gen.DxYIdeal
public import proofs.«01_k».proof.Proof.Gen.DxYIdeal.Skeleton
public import proofs.«01_k».proof.Proof.Gen.DxYIdeal.Launch
public import proofs.«01_k».proof.Proof.Gen.DxYIdeal.Points
public import proofs.«01_k».proof.Proof.Gen.DxYIdeal.Frame
public import proofs.«01_k».proof.Proof.Gen.DxYIdeal.Value
public import proofs.«01_k».proof.Proof.Gen.DxYRefIdeal
public import proofs.«01_k».proof.Proof.Gen.DxYRefIdeal.Run
public import proofs.«01_k».proof.Proof.Gen.DxYRefIdeal.Read
public import proofs.«01_k».proof.Proof.Gen.ProjQkv
public import proofs.«01_k».proof.Proof.Gen.ProjQkv.Skeleton
public import proofs.«01_k».proof.Proof.Gen.ProjQkv.Launch
public import proofs.«01_k».proof.Proof.Gen.ProjQkv.Points
public import proofs.«01_k».proof.Proof.Gen.ProjQkv.Frame
public import proofs.«01_k».proof.Proof.Gen.ProjQkvIdeal
public import proofs.«01_k».proof.Proof.Gen.ProjQkvIdeal.Skeleton
public import proofs.«01_k».proof.Proof.Gen.ProjQkvIdeal.Launch
public import proofs.«01_k».proof.Proof.Gen.ProjQkvIdeal.Points
public import proofs.«01_k».proof.Proof.Gen.ProjQkvIdeal.Frame
public import proofs.«01_k».proof.Proof.Gen.ProjQkvIdeal.Value
public import proofs.«01_k».proof.Proof.Gen.ProjQkvRefIdeal
public import proofs.«01_k».proof.Proof.Gen.ProjQkvRefIdeal.Run
public import proofs.«01_k».proof.Proof.Gen.ProjQkvRefIdeal.Read
public import proofs.«01_k».proof.Proof.Gen.ProjNat
public import proofs.«01_k».proof.Proof.Gen.ProjNat.Skeleton
public import proofs.«01_k».proof.Proof.Gen.ProjNat.Launch
public import proofs.«01_k».proof.Proof.Gen.ProjNat.Points
public import proofs.«01_k».proof.Proof.Gen.ProjNat.Frame
public import proofs.«01_k».proof.Proof.Gen.ProjNatIdeal
public import proofs.«01_k».proof.Proof.Gen.ProjNatIdeal.Skeleton
public import proofs.«01_k».proof.Proof.Gen.ProjNatIdeal.Launch
public import proofs.«01_k».proof.Proof.Gen.ProjNatIdeal.Points
public import proofs.«01_k».proof.Proof.Gen.ProjNatIdeal.Frame
public import proofs.«01_k».proof.Proof.Gen.ProjNatIdeal.Value
public import proofs.«01_k».proof.Proof.Gen.ProjNatRefIdeal
public import proofs.«01_k».proof.Proof.Gen.ProjNatRefIdeal.Run
public import proofs.«01_k».proof.Proof.Gen.ProjNatRefIdeal.Read
public import proofs.«01_k».proof.Proof.Gen.ProjXg
public import proofs.«01_k».proof.Proof.Gen.ProjXg.Skeleton
public import proofs.«01_k».proof.Proof.Gen.ProjXg.Launch
public import proofs.«01_k».proof.Proof.Gen.ProjXg.Points
public import proofs.«01_k».proof.Proof.Gen.ProjXg.Frame
public import proofs.«01_k».proof.Proof.Gen.ProjXgIdeal
public import proofs.«01_k».proof.Proof.Gen.ProjXgIdeal.Skeleton
public import proofs.«01_k».proof.Proof.Gen.ProjXgIdeal.Launch
public import proofs.«01_k».proof.Proof.Gen.ProjXgIdeal.Points
public import proofs.«01_k».proof.Proof.Gen.ProjXgIdeal.Frame
public import proofs.«01_k».proof.Proof.Gen.ProjXgIdeal.Value
public import proofs.«01_k».proof.Proof.Gen.ProjXgRefIdeal
public import proofs.«01_k».proof.Proof.Gen.ProjXgRefIdeal.Run
public import proofs.«01_k».proof.Proof.Gen.ProjXgRefIdeal.Read
public import proofs.«01_k».proof.Proof.Gen.DwQkvB
public import proofs.«01_k».proof.Proof.Gen.DwQkvB.Skeleton
public import proofs.«01_k».proof.Proof.Gen.DwQkvB.Launch
public import proofs.«01_k».proof.Proof.Gen.DwQkvB.Points
public import proofs.«01_k».proof.Proof.Gen.DwQkvB.Frame
public import proofs.«01_k».proof.Proof.Gen.DwQkvBIdeal
public import proofs.«01_k».proof.Proof.Gen.DwQkvBIdeal.Skeleton
public import proofs.«01_k».proof.Proof.Gen.DwQkvBIdeal.Launch
public import proofs.«01_k».proof.Proof.Gen.DwQkvBIdeal.Points
public import proofs.«01_k».proof.Proof.Gen.DwQkvBIdeal.Frame
public import proofs.«01_k».proof.Proof.Gen.DwQkvBIdeal.Value
public import proofs.«01_k».proof.Proof.Gen.DwQkvBRefIdeal
public import proofs.«01_k».proof.Proof.Gen.DwQkvBRefIdeal.Run
public import proofs.«01_k».proof.Proof.Gen.DwQkvBRefIdeal.Read
public import proofs.«01_k».proof.Proof.Gen.DwQkvC
public import proofs.«01_k».proof.Proof.Gen.DwQkvC.Skeleton
public import proofs.«01_k».proof.Proof.Gen.DwQkvC.Launch
public import proofs.«01_k».proof.Proof.Gen.DwQkvC.Points
public import proofs.«01_k».proof.Proof.Gen.DwQkvC.Frame
public import proofs.«01_k».proof.Proof.Gen.DwQkvCIdeal
public import proofs.«01_k».proof.Proof.Gen.DwQkvCIdeal.Skeleton
public import proofs.«01_k».proof.Proof.Gen.DwQkvCIdeal.Launch
public import proofs.«01_k».proof.Proof.Gen.DwQkvCIdeal.Points
public import proofs.«01_k».proof.Proof.Gen.DwQkvCIdeal.Frame
public import proofs.«01_k».proof.Proof.Gen.DwQkvCIdeal.Value
public import proofs.«01_k».proof.Proof.Gen.DwQkvCRefIdeal
public import proofs.«01_k».proof.Proof.Gen.DwQkvCRefIdeal.Run
public import proofs.«01_k».proof.Proof.Gen.DwQkvCRefIdeal.Read
public import proofs.«01_k».proof.Proof.Gen.ProjQkvB
public import proofs.«01_k».proof.Proof.Gen.ProjQkvB.Skeleton
public import proofs.«01_k».proof.Proof.Gen.ProjQkvB.Launch
public import proofs.«01_k».proof.Proof.Gen.ProjQkvB.Points
public import proofs.«01_k».proof.Proof.Gen.ProjQkvB.Frame
public import proofs.«01_k».proof.Proof.Gen.ProjQkvBIdeal
public import proofs.«01_k».proof.Proof.Gen.ProjQkvBIdeal.Skeleton
public import proofs.«01_k».proof.Proof.Gen.ProjQkvBIdeal.Launch
public import proofs.«01_k».proof.Proof.Gen.ProjQkvBIdeal.Points
public import proofs.«01_k».proof.Proof.Gen.ProjQkvBIdeal.Frame
public import proofs.«01_k».proof.Proof.Gen.ProjQkvBIdeal.Value
public import proofs.«01_k».proof.Proof.Gen.ProjQkvBRefIdeal
public import proofs.«01_k».proof.Proof.Gen.ProjQkvBRefIdeal.Run
public import proofs.«01_k».proof.Proof.Gen.ProjQkvBRefIdeal.Read
public import proofs.«01_k».proof.Proof.Gen.ProjQkvC
public import proofs.«01_k».proof.Proof.Gen.ProjQkvC.Skeleton
public import proofs.«01_k».proof.Proof.Gen.ProjQkvC.Launch
public import proofs.«01_k».proof.Proof.Gen.ProjQkvC.Points
public import proofs.«01_k».proof.Proof.Gen.ProjQkvC.Frame
public import proofs.«01_k».proof.Proof.Gen.ProjQkvCIdeal
public import proofs.«01_k».proof.Proof.Gen.ProjQkvCIdeal.Skeleton
public import proofs.«01_k».proof.Proof.Gen.ProjQkvCIdeal.Launch
public import proofs.«01_k».proof.Proof.Gen.ProjQkvCIdeal.Points
public import proofs.«01_k».proof.Proof.Gen.ProjQkvCIdeal.Frame
public import proofs.«01_k».proof.Proof.Gen.ProjQkvCIdeal.Value
public import proofs.«01_k».proof.Proof.Gen.ProjQkvCRefIdeal
public import proofs.«01_k».proof.Proof.Gen.ProjQkvCRefIdeal.Run
public import proofs.«01_k».proof.Proof.Gen.ProjQkvCRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gate.Claim
public import proofs.«01_k».proof.Proof.Attn.Claim
public import proofs.«01_k».proof.Proof.Prod.DwQkv
public import proofs.«01_k».proof.Proof.Prod.DwXbc
public import proofs.«01_k».proof.Proof.Prod.DwGm
public import proofs.«01_k».proof.Proof.Prod.DwNat
public import proofs.«01_k».proof.Proof.Prod.DwOut
public import proofs.«01_k».proof.Proof.Prod.DxY
public import proofs.«01_k».proof.Proof.Prod.ProjQkv
public import proofs.«01_k».proof.Proof.Prod.ProjNat
public import proofs.«01_k».proof.Proof.Prod.ProjXg
public import proofs.«01_k».proof.Proof.Prod.DwQkvB
public import proofs.«01_k».proof.Proof.Prod.DwQkvC
public import proofs.«01_k».proof.Proof.Prod.ProjQkvB
public import proofs.«01_k».proof.Proof.Prod.ProjQkvC
public import proofs.«01_k».proof.Proof.Prod.Merge
public import Idealize.ShloMosaic.Adequacy
public import Idealize.ShloMosaic.Init

@[expose] public section

noncomputable section

/-! The claims of the certificate, each proved in its own module. -/

namespace Cert.Proof

open Idealize.ShloMosaic Idealize.SL.Sem Cert.Gate

theorem claim : Cert.Claim := ⟨
  Cert.Attn.Gen.facts, Cert.AttnIdeal.Gen.facts, Cert.AttnRefIdeal.Gen.facts,
  Cert.Gate.Gen.facts, Cert.GateIdeal.Gen.facts, Cert.GateRefIdeal.Gen.facts,
  Cert.DwQkv.Gen.facts, Cert.DwQkvIdeal.Gen.facts, Cert.DwQkvRefIdeal.Gen.facts,
  Cert.DwXbc.Gen.facts, Cert.DwXbcIdeal.Gen.facts, Cert.DwXbcRefIdeal.Gen.facts,
  Cert.DwGm.Gen.facts, Cert.DwGmIdeal.Gen.facts, Cert.DwGmRefIdeal.Gen.facts,
  Cert.DwNat.Gen.facts, Cert.DwNatIdeal.Gen.facts, Cert.DwNatRefIdeal.Gen.facts,
  Cert.DwOut.Gen.facts, Cert.DwOutIdeal.Gen.facts, Cert.DwOutRefIdeal.Gen.facts,
  Cert.DxY.Gen.facts, Cert.DxYIdeal.Gen.facts, Cert.DxYRefIdeal.Gen.facts,
  Cert.ProjQkv.Gen.facts, Cert.ProjQkvIdeal.Gen.facts, Cert.ProjQkvRefIdeal.Gen.facts,
  Cert.ProjNat.Gen.facts, Cert.ProjNatIdeal.Gen.facts, Cert.ProjNatRefIdeal.Gen.facts,
  Cert.ProjXg.Gen.facts, Cert.ProjXgIdeal.Gen.facts, Cert.ProjXgRefIdeal.Gen.facts,
  Cert.DwQkvB.Gen.facts, Cert.DwQkvBIdeal.Gen.facts, Cert.DwQkvBRefIdeal.Gen.facts,
  Cert.DwQkvC.Gen.facts, Cert.DwQkvCIdeal.Gen.facts, Cert.DwQkvCRefIdeal.Gen.facts,
  Cert.ProjQkvB.Gen.facts, Cert.ProjQkvBIdeal.Gen.facts, Cert.ProjQkvBRefIdeal.Gen.facts,
  Cert.ProjQkvC.Gen.facts, Cert.ProjQkvCIdeal.Gen.facts, Cert.ProjQkvCRefIdeal.Gen.facts,
  Cert.Merge.Gen.facts, Cert.MergeIdeal.Gen.facts, Cert.MergeRefIdeal.Gen.facts,
  Cert.AttnPre.facts,
  fun m ρ _ => Cert.Attn.Gen.frame m ρ, fun m ρ _ => Cert.AttnIdeal.Gen.frame m ρ, fun m ρ _ => Cert.AttnIdeal.Gen.frame m ρ,
  Cert.AttnClaim.frame_ref, Cert.AttnClaim.frame_ref_pre,
  fun m ρ _ => Cert.Gate.Gen.frame m ρ, fun m ρ _ => Cert.GateIdeal.Gen.frame m ρ, Cert.GateClaim.frame_ref,
  fun m ρ _ => Cert.DwQkv.Gen.frame m ρ, fun m ρ _ => Cert.DwQkvIdeal.Gen.frame m ρ, Cert.DwQkvClaim.frame_ref,
  fun m ρ _ => Cert.DwXbc.Gen.frame m ρ, fun m ρ _ => Cert.DwXbcIdeal.Gen.frame m ρ, Cert.DwXbcClaim.frame_ref,
  fun m ρ _ => Cert.DwGm.Gen.frame m ρ, fun m ρ _ => Cert.DwGmIdeal.Gen.frame m ρ, Cert.DwGmClaim.frame_ref,
  fun m ρ _ => Cert.DwNat.Gen.frame m ρ, fun m ρ _ => Cert.DwNatIdeal.Gen.frame m ρ, Cert.DwNatClaim.frame_ref,
  fun m ρ _ => Cert.DwOut.Gen.frame m ρ, fun m ρ _ => Cert.DwOutIdeal.Gen.frame m ρ, Cert.DwOutClaim.frame_ref,
  fun m ρ _ => Cert.DxY.Gen.frame m ρ, fun m ρ _ => Cert.DxYIdeal.Gen.frame m ρ, Cert.DxYClaim.frame_ref,
  fun m ρ _ => Cert.ProjQkv.Gen.frame m ρ, fun m ρ _ => Cert.ProjQkvIdeal.Gen.frame m ρ, Cert.ProjQkvClaim.frame_ref,
  fun m ρ _ => Cert.ProjNat.Gen.frame m ρ, fun m ρ _ => Cert.ProjNatIdeal.Gen.frame m ρ, Cert.ProjNatClaim.frame_ref,
  fun m ρ _ => Cert.ProjXg.Gen.frame m ρ, fun m ρ _ => Cert.ProjXgIdeal.Gen.frame m ρ, Cert.ProjXgClaim.frame_ref,
  fun m ρ _ => Cert.DwQkvB.Gen.frame m ρ, fun m ρ _ => Cert.DwQkvBIdeal.Gen.frame m ρ, Cert.DwQkvBClaim.frame_ref,
  fun m ρ _ => Cert.DwQkvC.Gen.frame m ρ, fun m ρ _ => Cert.DwQkvCIdeal.Gen.frame m ρ, Cert.DwQkvCClaim.frame_ref,
  fun m ρ _ => Cert.ProjQkvB.Gen.frame m ρ, fun m ρ _ => Cert.ProjQkvBIdeal.Gen.frame m ρ, Cert.ProjQkvBClaim.frame_ref,
  fun m ρ _ => Cert.ProjQkvC.Gen.frame m ρ, fun m ρ _ => Cert.ProjQkvCIdeal.Gen.frame m ρ, Cert.ProjQkvCClaim.frame_ref,
  fun m ρ _ => Cert.Merge.Gen.frame m ρ, fun m ρ _ => Cert.MergeIdeal.Gen.frame m ρ, Cert.MergeClaim.frame_ref,
  trivial, Cert.AttnClaim.algebraic,
  trivial, Cert.GateClaim.algebraic,
  trivial, Cert.DwQkvClaim.algebraic,
  trivial, Cert.DwXbcClaim.algebraic,
  trivial, Cert.DwGmClaim.algebraic,
  trivial, Cert.DwNatClaim.algebraic,
  trivial, Cert.DwOutClaim.algebraic,
  trivial, Cert.DxYClaim.algebraic,
  trivial, Cert.ProjQkvClaim.algebraic,
  trivial, Cert.ProjNatClaim.algebraic,
  trivial, Cert.ProjXgClaim.algebraic,
  trivial, Cert.DwQkvBClaim.algebraic,
  trivial, Cert.DwQkvCClaim.algebraic,
  trivial, Cert.ProjQkvBClaim.algebraic,
  trivial, Cert.ProjQkvCClaim.algebraic,
  trivial, Cert.MergeClaim.algebraic⟩

end Cert.Proof

end
